-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2Ideal_norm2_finite [hPre_norm2_finite : Cert.Pre_norm2_finite.Facts] (m : (ℓ : Loc Cert.Norm2Ideal.nD Cert.Norm2Ideal.τ Cert.Norm2Ideal.sig) → Buf (Elt Ideal) ℓ) : Prop :=
  ∀ c : Dev Cert.Norm2Ideal.nD,
    (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.2.2 = (fun _ => 1#1)

def Pre_Norm2RefIdeal (m : (ℓ : Loc Cert.Norm2RefIdeal.nD Cert.Norm2RefIdeal.τ Cert.Norm2RefIdeal.sig) → Buf (Elt Ideal) ℓ) : Prop :=
  True

def Pre_Norm2RefIdeal_norm2_finite [hPre_norm2_finite : Cert.Pre_norm2_finite.Facts] (m : (ℓ : Loc Cert.Norm2RefIdeal.nD Cert.Norm2RefIdeal.τ Cert.Norm2RefIdeal.sig) → Buf (Elt Ideal) ℓ) : Prop :=
  ∀ c : Dev Cert.Norm2RefIdeal.nD,
    (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.2.2 = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_norm1_finite [hPre_norm1_finite : Cert.Pre_norm1_finite.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).2.2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).2.2.2 = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_norm1_finite [hPre_norm1_finite : Cert.Pre_norm1_finite.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).2.2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2Ideal_pre_norm2_finite [hNorm2Ideal : Cert.Norm2Ideal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal_norm2_finite m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Norm2RefIdeal_pre_norm2_finite [hNorm2RefIdeal : Cert.Norm2RefIdeal.Facts] [hPre_norm2_finite : Cert.Pre_norm2_finite.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal_norm2_finite m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1Ideal_pre_norm1_finite [hNorm1Ideal : Cert.Norm1Ideal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_norm1_finite m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_Norm1RefIdeal_pre_norm1_finite [hNorm1RefIdeal : Cert.Norm1RefIdeal.Facts] [hPre_norm1_finite : Cert.Pre_norm1_finite.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_norm1_finite m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v78) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Norm2_Norm2Ideal : Prop :=
  True

def algebraic_Norm2Ideal_Norm2RefIdeal_pre_norm2_finite [hNorm2Ideal : Cert.Norm2Ideal.Facts] [hNorm2RefIdeal : Cert.Norm2RefIdeal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal_norm2_finite m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v3_0)) (v1 : (c : Dev Cert.Norm2Ideal.nD) → Buf (Elt Ideal) ((c.tc : Thread Cert.Norm2Ideal.nD Cert.Norm2Ideal.τ).loc Cert.Norm2Ideal.main_v3_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v3_0) = v0 c
          ∧ r.2.mem ((c.tc : Thread Cert.Norm2Ideal.nD Cert.Norm2Ideal.τ).loc Cert.Norm2Ideal.main_v3_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v41) = v0 c
          ∧ r.2.mem ((c.tc : Thread Cert.Norm2RefIdeal.nD Cert.Norm2RefIdeal.τ).loc Cert.Norm2RefIdeal.main_v42) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def preserves_Norm1_Norm1Ideal : Prop :=
  True

def algebraic_Norm1Ideal_Norm1RefIdeal_pre_norm1_finite [hNorm1Ideal : Cert.Norm1Ideal.Facts] [hNorm1RefIdeal : Cert.Norm1RefIdeal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_norm1_finite m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)) →
    ∃ (v0 : (c : Dev Cert.Norm1Ideal.nD) → Buf (Elt Ideal) ((c.tc : Thread Cert.Norm1Ideal.nD Cert.Norm1Ideal.τ).loc Cert.Norm1Ideal.main_v13_0)) (v1 : (c : Dev Cert.Norm1Ideal.nD) → Buf (Elt Ideal) ((c.tc : Thread Cert.Norm1Ideal.nD Cert.Norm1Ideal.τ).loc Cert.Norm1Ideal.main_v13_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v13_0) = v0 c
          ∧ r.2.mem ((c.tc : Thread Cert.Norm1Ideal.nD Cert.Norm1Ideal.τ).loc Cert.Norm1Ideal.main_v13_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v39) = v0 c
          ∧ r.2.mem ((c.tc : Thread Cert.Norm1RefIdeal.nD Cert.Norm1RefIdeal.τ).loc Cert.Norm1RefIdeal.main_v40) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)) (v3 : (c : Dev Cert.ActIdeal.nD) → Buf (Elt Ideal) ((c.tc : Thread Cert.ActIdeal.nD Cert.ActIdeal.τ).loc Cert.ActIdeal.main_v0_3)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_v0_3) = v3 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v71) = v0 c
          ∧ r.2.mem ((c.tc : Thread Cert.ActRefIdeal.nD Cert.ActRefIdeal.τ).loc Cert.ActRefIdeal.main_v72) = v1 c
          ∧ r.2.mem ((c.tc : Thread Cert.ActRefIdeal.nD Cert.ActRefIdeal.τ).loc Cert.ActRefIdeal.main_v73) = v2 c
          ∧ r.2.mem ((c.tc : Thread Cert.ActRefIdeal.nD Cert.ActRefIdeal.τ).loc Cert.ActRefIdeal.main_v74) = v3 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v116_0)) (v1 : (c : Dev Cert.AttnIdeal.nD) → Buf (Elt Ideal) ((c.tc : Thread Cert.AttnIdeal.nD Cert.AttnIdeal.τ).loc Cert.AttnIdeal.main_v116_1)) (v2 : (c : Dev Cert.AttnIdeal.nD) → Buf (Elt Ideal) ((c.tc : Thread Cert.AttnIdeal.nD Cert.AttnIdeal.τ).loc Cert.AttnIdeal.main_v116_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v116_0) = v0 c
          ∧ r.2.mem ((c.tc : Thread Cert.AttnIdeal.nD Cert.AttnIdeal.τ).loc Cert.AttnIdeal.main_v116_1) = v1 c
          ∧ r.2.mem ((c.tc : Thread Cert.AttnIdeal.nD Cert.AttnIdeal.τ).loc Cert.AttnIdeal.main_v116_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v503) = v0 c
          ∧ r.2.mem ((c.tc : Thread Cert.AttnRefIdeal.nD Cert.AttnRefIdeal.τ).loc Cert.AttnRefIdeal.main_v504) = v1 c
          ∧ r.2.mem ((c.tc : Thread Cert.AttnRefIdeal.nD Cert.AttnRefIdeal.τ).loc Cert.AttnRefIdeal.main_v505) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v14) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v29) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v1)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v1) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v1) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v3) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v1)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v1) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v0) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v1) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v0)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v0) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v3) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def Claim : Prop :=
  ∃ (hConv : Cert.Conv.Facts) (hConvIdeal : Cert.ConvIdeal.Facts) (hConvRefIdeal : Cert.ConvRefIdeal.Facts) (hNorm2 : Cert.Norm2.Facts) (hNorm2Ideal : Cert.Norm2Ideal.Facts) (hNorm2RefIdeal : Cert.Norm2RefIdeal.Facts) (hNorm1 : Cert.Norm1.Facts) (hNorm1Ideal : Cert.Norm1Ideal.Facts) (hNorm1RefIdeal : Cert.Norm1RefIdeal.Facts) (hLoss : Cert.Loss.Facts) (hLossIdeal : Cert.LossIdeal.Facts) (hLossRefIdeal : Cert.LossRefIdeal.Facts) (hAct : Cert.Act.Facts) (hActIdeal : Cert.ActIdeal.Facts) (hActRefIdeal : Cert.ActRefIdeal.Facts) (hAttn : Cert.Attn.Facts) (hAttnIdeal : Cert.AttnIdeal.Facts) (hAttnRefIdeal : Cert.AttnRefIdeal.Facts) (hFirst : Cert.First.Facts) (hFirstIdeal : Cert.FirstIdeal.Facts) (hFirstRefIdeal : Cert.FirstRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hProj : Cert.Proj.Facts) (hProjIdeal : Cert.ProjIdeal.Facts) (hProjRefIdeal : Cert.ProjRefIdeal.Facts) (hProjW : Cert.ProjW.Facts) (hProjWIdeal : Cert.ProjWIdeal.Facts) (hProjWRefIdeal : Cert.ProjWRefIdeal.Facts) (hUp : Cert.Up.Facts) (hUpIdeal : Cert.UpIdeal.Facts) (hUpRefIdeal : Cert.UpRefIdeal.Facts) (hPre_norm2_finite : Cert.Pre_norm2_finite.Facts) (hPre_norm1_finite : Cert.Pre_norm1_finite.Facts) (hPre_loss_finite : Cert.Pre_loss_finite.Facts) (hPre_act_finite : Cert.Pre_act_finite.Facts) (hPre_attn_finite : Cert.Pre_attn_finite.Facts),
    quiescent_Conv (hConv := hConv)
    ∧ quiescent_ConvIdeal (hConvIdeal := hConvIdeal)
    ∧ quiescent_ConvRefIdeal (hConvRefIdeal := hConvRefIdeal)
    ∧ quiescent_Norm2 (hNorm2 := hNorm2)
    ∧ quiescent_Norm2Ideal (hNorm2Ideal := hNorm2Ideal)
    ∧ quiescent_Norm2Ideal_pre_norm2_finite (hNorm2Ideal := hNorm2Ideal) (hPre_norm2_finite := hPre_norm2_finite)
    ∧ quiescent_Norm2RefIdeal (hNorm2RefIdeal := hNorm2RefIdeal)
    ∧ quiescent_Norm2RefIdeal_pre_norm2_finite (hNorm2RefIdeal := hNorm2RefIdeal) (hPre_norm2_finite := hPre_norm2_finite)
    ∧ quiescent_Norm1 (hNorm1 := hNorm1)
    ∧ quiescent_Norm1Ideal (hNorm1Ideal := hNorm1Ideal)
    ∧ quiescent_Norm1Ideal_pre_norm1_finite (hNorm1Ideal := hNorm1Ideal) (hPre_norm1_finite := hPre_norm1_finite)
    ∧ quiescent_Norm1RefIdeal (hNorm1RefIdeal := hNorm1RefIdeal)
    ∧ quiescent_Norm1RefIdeal_pre_norm1_finite (hNorm1RefIdeal := hNorm1RefIdeal) (hPre_norm1_finite := hPre_norm1_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_First (hFirst := hFirst)
    ∧ quiescent_FirstIdeal (hFirstIdeal := hFirstIdeal)
    ∧ quiescent_FirstRefIdeal (hFirstRefIdeal := hFirstRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_Proj (hProj := hProj)
    ∧ quiescent_ProjIdeal (hProjIdeal := hProjIdeal)
    ∧ quiescent_ProjRefIdeal (hProjRefIdeal := hProjRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_Up (hUp := hUp)
    ∧ quiescent_UpIdeal (hUpIdeal := hUpIdeal)
    ∧ quiescent_UpRefIdeal (hUpRefIdeal := hUpRefIdeal)
    ∧ preserves_Conv_ConvIdeal
    ∧ algebraic_ConvIdeal_ConvRefIdeal (hConvIdeal := hConvIdeal) (hConvRefIdeal := hConvRefIdeal)
    ∧ preserves_Norm2_Norm2Ideal
    ∧ algebraic_Norm2Ideal_Norm2RefIdeal_pre_norm2_finite (hNorm2Ideal := hNorm2Ideal) (hNorm2RefIdeal := hNorm2RefIdeal) (hPre_norm2_finite := hPre_norm2_finite)
    ∧ preserves_Norm1_Norm1Ideal
    ∧ algebraic_Norm1Ideal_Norm1RefIdeal_pre_norm1_finite (hNorm1Ideal := hNorm1Ideal) (hNorm1RefIdeal := hNorm1RefIdeal) (hPre_norm1_finite := hPre_norm1_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Act_ActIdeal
    ∧ algebraic_ActIdeal_ActRefIdeal_pre_act_finite (hActIdeal := hActIdeal) (hActRefIdeal := hActRefIdeal) (hPre_act_finite := hPre_act_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_First_FirstIdeal
    ∧ algebraic_FirstIdeal_FirstRefIdeal (hFirstIdeal := hFirstIdeal) (hFirstRefIdeal := hFirstRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_Proj_ProjIdeal
    ∧ algebraic_ProjIdeal_ProjRefIdeal (hProjIdeal := hProjIdeal) (hProjRefIdeal := hProjRefIdeal)
    ∧ preserves_ProjW_ProjWIdeal
    ∧ algebraic_ProjWIdeal_ProjWRefIdeal (hProjWIdeal := hProjWIdeal) (hProjWRefIdeal := hProjWRefIdeal)
    ∧ preserves_Up_UpIdeal
    ∧ algebraic_UpIdeal_UpRefIdeal (hUpIdeal := hUpIdeal) (hUpRefIdeal := hUpRefIdeal)
-- ==== Pre_act_finite.lean ====
abbrev S2048x2816 : Shape := ⟨2, ![2048, 2816]⟩
abbrev S2048x5632 : Shape := ⟨2, ![2048, 5632]⟩
abbrev S3x5632 : Shape := ⟨2, ![3, 5632]⟩
abbrev S_ : Shape := ⟨0, ![]⟩

class Facts : Prop where
  bcast_S_S2048x2816 : S_.BroadcastsInDim S2048x2816 (![] : Fin 0 → Fin S2048x2816.rank)
  bitsLt_bf16_f32 : FTy.bits .bf16 < FTy.bits .f32
  bcast_S_S2048x5632 : S_.BroadcastsInDim S2048x5632 (![] : Fin 0 → Fin S2048x5632.rank)
  bcast_S_S3x5632 : S_.BroadcastsInDim S3x5632 (![] : Fin 0 → Fin S3x5632.rank)

variable [Facts]

def fn {F : FTy → Type} [FloatOps F] (main_arg0 : FVec F S2048x2816 .f32) (main_arg1 : FVec F S2048x5632 .bf16) (main_arg2 : FVec F S3x5632 .f32) : IVec S2048x2816 1 × IVec S2048x5632 1 × IVec S3x5632 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_v3 : FVec F S2048x5632 .f32 := (extf .f32 · bitsLt_bf16_f32) main_arg1
  let main_v4 : FVec F S2048x5632 .f32 := Host.absf main_v3
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_v7 : FVec F S3x5632 .f32 := Host.absf main_arg2
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  (main_v2, main_v6, main_v9)
-- ==== Pre_attn_finite.lean ====
abbrev S2048x3592 : Shape := ⟨2, ![2048, 3592]⟩
abbrev S2048x1024 : Shape := ⟨2, ![2048, 1024]⟩
abbrev S_ : Shape := ⟨0, ![]⟩

class Facts : Prop where
  bcast_S_S2048x3592 : S_.BroadcastsInDim S2048x3592 (![] : Fin 0 → Fin S2048x3592.rank)
  bcast_S_S2048x1024 : S_.BroadcastsInDim S2048x1024 (![] : Fin 0 → Fin S2048x1024.rank)

variable [Facts]

def fn {F : FTy → Type} [FloatOps F] (main_arg0 : FVec F S2048x3592 .f32) (main_arg1 : FVec F S2048x1024 .f32) : IVec S2048x3592 1 × IVec S2048x1024 1 :=
  let main_v0 : FVec F S2048x3592 .f32 := Host.absf main_arg0
  let main_cst : FVec F S_ .f32 := constant S_ .f32 0x7F800000#32
  let main_v1 : FVec F S2048x3592 .f32 := broadcastInDim S2048x3592 ![] bcast_S_S2048x3592 main_cst
  let main_v2 : IVec S2048x3592 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  (main_v2, main_v5)
-- ==== Pre_loss_finite.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  bcast_S_S2816x1024 : S_.BroadcastsInDim S2816x1024 (![] : Fin 0 → Fin S2816x1024.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x2816 .bf16) (main_arg1 : FVec F S2816x1024 .f32) (main_arg2 : FVec F S2048x1024 .f32) (main_arg3 : FVec F S1024 .f32) (main_arg4 : FVec F S2048x1024 .f32) : IVec S2048x2816 1 × IVec S2816x1024 1 × IVec S2048x1024 1 × IVec S1024 1 × IVec S2048x1024 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S2048x1024 .f32 := Host.absf main_arg4
  let main_cst_3 : FVec F S_ .f32 := constant S_ .f32 0x7F800000#32
  let main_v14 : FVec F S2048x1024 .f32 := broadcastInDim S2048x1024 ![] bcast_S_S2048x1024 main_cst_3
  let main_v15 : IVec S2048x1024 1 := cmpf .olt main_v13 main_v14
  (main_v3, main_v6, main_v9, main_v12, main_v15)
-- ==== Pre_norm1_finite.lean ====
abbrev S2048x3592 : Shape := ⟨2, ![2048, 3592]⟩
abbrev S1024x3592 : Shape := ⟨2, ![1024, 3592]⟩
abbrev S2048x1024 : Shape := ⟨2, ![2048, 1024]⟩
abbrev S1x1024 : Shape := ⟨2, ![1, 1024]⟩
abbrev S_ : Shape := ⟨0, ![]⟩

class Facts : Prop where
  bcast_S_S2048x3592 : S_.BroadcastsInDim S2048x3592 (![] : Fin 0 → Fin S2048x3592.rank)
  bcast_S_S1024x3592 : S_.BroadcastsInDim S1024x3592 (![] : Fin 0 → Fin S1024x3592.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x3592 .f32) (main_arg1 : FVec F S1024x3592 .f32) (main_arg2 : FVec F S2048x1024 .f32) (main_arg3 : FVec F S1x1024 .f32) (main_arg4 : FVec F S2048x1024 .f32) : IVec S2048x3592 1 × IVec S1024x3592 1 × IVec S2048x1024 1 × IVec S1x1024 1 :=
  let main_v0 : FVec F S2048x3592 .f32 := Host.absf main_arg0
  let main_cst : FVec F S_ .f32 := constant S_ .f32 0x7F800000#32
  let main_v1 : FVec F S2048x3592 .f32 := broadcastInDim S2048x3592 ![] bcast_S_S2048x3592 main_cst
  let main_v2 : IVec S2048x3592 1 := cmpf .olt main_v0 main_v1
  let main_v3 : FVec F S1024x3592 .f32 := Host.absf main_arg1
  let main_cst_0 : FVec F S_ .f32 := constant S_ .f32 0x7F800000#32
  let main_v4 : FVec F S1024x3592 .f32 := broadcastInDim S1024x3592 ![] bcast_S_S1024x3592 main_cst_0
  let main_v5 : IVec S1024x3592 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_norm2_finite.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x2816 .bf16) (main_arg1 : FVec F S2048x2816 .bf16) (main_arg2 : FVec F S1024x5632 .f32) (main_arg3 : FVec F S2048x1024 .f32) (main_arg4 : FVec F S1x1024 .f32) (main_arg5 : FVec F S2048x1024 .f32) : IVec S2048x2816 1 × IVec S2048x2816 1 × IVec S1024x5632 1 × IVec S2048x1024 1 × IVec S1x1024 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2048x2816 .f32 := (extf .f32 · bitsLt_bf16_f32) main_arg1
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  let main_v8 : FVec F S1024x5632 .f32 := Host.absf main_arg2
  let main_cst_1 : FVec F S_ .f32 := constant S_ .f32 0x7F800000#32
  let main_v9 : FVec F S1024x5632 .f32 := broadcastInDim S1024x5632 ![] bcast_S_S1024x5632 main_cst_1
  let main_v10 : IVec S1024x5632 1 := cmpf .olt main_v8 main_v9
  let main_v11 : FVec F S2048x1024 .f32 := Host.absf main_arg3
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Conv.lean ====
abbrev S2048x1536 : Shape := ⟨2, ![2048, 1536]⟩
abbrev S2048x3592 : Shape := ⟨2, ![2048, 3592]⟩
abbrev S4x1536 : Shape := ⟨2, ![4, 1536]⟩
abbrev S2048x2048 : Shape := ⟨2, ![2048, 2048]⟩
abbrev S2048x8 : Shape := ⟨2, ![2048, 8]⟩
abbrev S_ : Shape := ⟨0, ![]⟩
abbrev S2048x248 : Shape := ⟨2, ![2048, 248]⟩
abbrev S2048x3840 : Shape := ⟨2, ![2048, 3840]⟩
abbrev S256x512 : Shape := ⟨2, ![256, 512]⟩
abbrev S8x512 : Shape := ⟨2, ![8, 512]⟩
abbrev S4x512 : Shape := ⟨2, ![4, 512]⟩
abbrev S264x512 : Shape := ⟨2, ![264, 512]⟩
abbrev S1x512 : Shape := ⟨2, ![1, 512]⟩
abbrev S512 : Shape := ⟨1, ![512]⟩

abbrev nBuf : Space → Nat
  | .hbm => 11
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x3592, .f32⟩
  | .hbm, ⟨2, _⟩ => ⟨S4x1536, .f32⟩
  | .hbm, ⟨3, _⟩ => ⟨S2048x2048, .f32⟩
  | .hbm, ⟨4, _⟩ => ⟨S2048x1536, .f32⟩
  | .hbm, ⟨5, _⟩ => ⟨S2048x8, .f32⟩
  | .hbm, ⟨6, _⟩ => ⟨S_, .f32⟩
  | .hbm, ⟨7, _⟩ => ⟨S2048x248, .f32⟩
  | .hbm, ⟨8, _⟩ => ⟨S2048x3840, .f32⟩
  | .hbm, ⟨9, _⟩ => ⟨S2048x1536, .bf16⟩
  | .hbm, ⟨10, _⟩ => ⟨S4x1536, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S256x512, .bf16⟩
  | .local _ .vmem, ⟨11, _⟩ => ⟨S256x512, .bf16⟩
  | .local _ .vmem, ⟨12, _⟩ => ⟨S4x512, .f32⟩
  | .local _ .vmem, ⟨13, _⟩ => ⟨S4x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S2048x1536 : Shape := ⟨2, ![2048, 1536]⟩
abbrev S2048x3592 : Shape := ⟨2, ![2048, 3592]⟩
abbrev S4x1536 : Shape := ⟨2, ![4, 1536]⟩
abbrev S1x2048x1536 : Shape := ⟨3, ![1, 2048, 1536]⟩
abbrev S_ : Shape := ⟨0, ![]⟩
abbrev S1x3x1536 : Shape := ⟨3, ![1, 3, 1536]⟩
abbrev S1x2051x1536 : Shape := ⟨3, ![1, 2051, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 100
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x3592, .f32⟩
  | .hbm, ⟨2, _⟩ => ⟨S4x1536, .f32⟩
  | .hbm, ⟨3, _⟩ => ⟨S2048x1536, .f32⟩
  | .hbm, ⟨4, _⟩ => ⟨S1x2048x1536, .f32⟩
  | .hbm, ⟨5, _⟩ => ⟨S_, .f32⟩
  | .hbm, ⟨6, _⟩ => ⟨S1x3x1536, .f32⟩
  | .hbm, ⟨7, _⟩ => ⟨S1x2051x1536, .f32⟩
  | .hbm, ⟨8, _⟩ => ⟨S_, .f32⟩
  | .hbm, ⟨9, _⟩ => ⟨S1x3x1536, .f32⟩
  | .hbm, ⟨10, _⟩ => ⟨S1x2048x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S1x2048x1536, .f32⟩
  | .hbm, ⟨15, _⟩ => ⟨S1x2048x1536, .f32⟩
  | .hbm, ⟨16, _⟩ => ⟨S1x2048x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S1x2048x1536, .f32⟩
  | .hbm, ⟨21, _⟩ => ⟨S1x2048x1536, .f32⟩
  | .hbm, ⟨22, _⟩ => ⟨S1x2048x1536, .f32⟩
  | .hbm, ⟨23, _⟩ => ⟨S1x2048x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S1x2048x1536, .f32⟩
  | .hbm, ⟨28, _⟩ => ⟨S1x2048x1536, .f32⟩
  | .hbm, ⟨29, _⟩ => ⟨S1x2048x1536, .f32⟩
  | .hbm, ⟨30, _⟩ => ⟨S1x2048x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S1x2048x1536, .f32⟩
  | .hbm, ⟨35, _⟩ => ⟨S1x2048x1536, .f32⟩
  | .hbm, ⟨36, _⟩ => ⟨S1x2048x1536, .f32⟩
  | .hbm, ⟨37, _⟩ => ⟨S1x2048x1536, .f32⟩
  | .hbm, ⟨38, _⟩ => ⟨S1x2048x1536, .f32⟩
  | .hbm, ⟨39, _⟩ => ⟨S_, .f32⟩
  | .hbm, ⟨40, _⟩ => ⟨S1x1536, .f32⟩
  | .hbm, ⟨41, _⟩ => ⟨S1x1x1536, .f32⟩
  | .hbm, ⟨42, _⟩ => ⟨S1x2048x1536, .f32⟩
  | .hbm, ⟨43, _⟩ => ⟨S1x2048x1536, .f32⟩
  | .hbm, ⟨44, _⟩ => ⟨S_, .f32⟩
  | .hbm, ⟨45, _⟩ => ⟨S1536, .f32⟩
  | .hbm, ⟨46, _⟩ => ⟨S1x1536, .f32⟩
  | .hbm, ⟨47, _⟩ => ⟨S_, .f32⟩
  | .hbm, ⟨48, _⟩ => ⟨S4x1536, .f32⟩
  | .hbm, ⟨49, _⟩ => ⟨S_, .f32⟩
  | .hbm, ⟨50, _⟩ => ⟨S1x2051x1536, .f32⟩
  | .hbm, ⟨51, _⟩ => ⟨S1x2048x1536, .f32⟩
  | .hbm, ⟨52, _⟩ => ⟨S_, .f32⟩
  | .hbm, ⟨53, _⟩ => ⟨S1x1536, .f32⟩
  | .hbm, ⟨54, _⟩ => ⟨S1x1x1536, .f32⟩
  | .hbm, ⟨55, _⟩ => ⟨S1x2048x1536, .f32⟩
  | .hbm, ⟨56, _⟩ => ⟨S1x2048x1536, .f32⟩
  | .hbm, ⟨57, _⟩ => ⟨S_, .f32⟩
  | .hbm, ⟨58, _⟩ => ⟨S1536, .f32⟩
  | .hbm, ⟨59, _⟩ => ⟨S1x1536, .f32⟩
  | .hbm, ⟨60, _⟩ => ⟨S_, .f32⟩
  | .hbm, ⟨61, _⟩ => ⟨S4x1536, .f32⟩
  | .hbm, ⟨62, _⟩ => ⟨S4x1536, .f32⟩
  | .hbm, ⟨63, _⟩ => ⟨S_, .f32⟩
  | .hbm, ⟨64, _⟩ => ⟨S1x2051x1536, .f32⟩
  | .hbm, ⟨65, _⟩ => ⟨S1x2051x1536, .f32⟩
  | .hbm, ⟨66, _⟩ => ⟨S1x2048x1536, .f32⟩
  | .hbm, ⟨67, _⟩ => ⟨S_, .f32⟩
  | .hbm, ⟨68, _⟩ => ⟨S1x1536, .f32⟩
  | .hbm, ⟨69, _⟩ => ⟨S1x1x1536, .f32⟩
  | .hbm, ⟨70, _⟩ => ⟨S1x2048x1536, .f32⟩
  | .hbm, ⟨71, _⟩ => ⟨S1x2048x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S_, .f32⟩
  | .hbm, ⟨76, _⟩ => ⟨S4x1536, .f32⟩
  | .hbm, ⟨77, _⟩ => ⟨S4x1536, .f32⟩
  | .hbm, ⟨78, _⟩ => ⟨S_, .f32⟩
  | .hbm, ⟨79, _⟩ => ⟨S1x2051x1536, .f32⟩
  | .hbm, ⟨80, _⟩ => ⟨S1x2051x1536, .f32⟩
  | .hbm, ⟨81, _⟩ => ⟨S1x2048x1536, .f32⟩
  | .hbm, ⟨82, _⟩ => ⟨S_, .f32⟩
  | .hbm, ⟨83, _⟩ => ⟨S1x1536, .f32⟩
  | .hbm, ⟨84, _⟩ => ⟨S1x1x1536, .f32⟩
  | .hbm, ⟨85, _⟩ => ⟨S1x2048x1536, .f32⟩
  | .hbm, ⟨86, _⟩ => ⟨S1x2048x1536, .f32⟩
  | .hbm, ⟨87, _⟩ => ⟨S_, .f32⟩
  | .hbm, ⟨88, _⟩ => ⟨S1536, .f32⟩
  | .hbm, ⟨89, _⟩ => ⟨S1x1536, .f32⟩
  | .hbm, ⟨90, _⟩ => ⟨S_, .f32⟩
  | .hbm, ⟨91, _⟩ => ⟨S4x1536, .f32⟩
  | .hbm, ⟨92, _⟩ => ⟨S4x1536, .f32⟩
  | .hbm, ⟨93, _⟩ => ⟨S_, .f32⟩
  | .hbm, ⟨94, _⟩ => ⟨S1x2051x1536, .f32⟩
  | .hbm, ⟨95, _⟩ => ⟨S1x2051x1536, .f32⟩
  | .hbm, ⟨96, _⟩ => ⟨S1x3x1536, .f32⟩
  | .hbm, ⟨97, _⟩ => ⟨S1x2048x1536, .f32⟩
  | .hbm, ⟨98, _⟩ => ⟨S2048x1536, .f32⟩
  | .hbm, ⟨99, _⟩ => ⟨S2048x1536, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Norm2.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S256x1408 : Shape := ⟨2, ![256, 1408]⟩
abbrev S1x1024x1408 : Shape := ⟨3, ![1, 1024, 1408]⟩
abbrev S1024x1408 : Shape := ⟨2, ![1024, 1408]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S2048x1024, .f32⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S4x1024x1408, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Norm2RefIdeal.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S2048x5632 : Shape := ⟨2, ![2048, 5632]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x5632, .bf16⟩
  | .hbm, ⟨7, _⟩ => ⟨S2048x5632, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x5632, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Norm1.lean ====
abbrev S2048x3592 : Shape := ⟨2, ![2048, 3592]⟩
abbrev S1024x3592 : Shape := ⟨2, ![1024, 3592]⟩
abbrev S2048x1024 : Shape := ⟨2, ![2048, 1024]⟩
abbrev S1x1024 : Shape := ⟨2, ![1, 1024]⟩
abbrev S2048x2048 : Shape := ⟨2, ![2048, 2048]⟩
abbrev S2048x1536 : Shape := ⟨2, ![2048, 1536]⟩
abbrev S2048x8 : Shape := ⟨2, ![2048, 8]⟩
abbrev S_ : Shape := ⟨0, ![]⟩
abbrev S2048x248 : Shape := ⟨2, ![2048, 248]⟩
abbrev S2048x3840 : Shape := ⟨2, ![2048, 3840]⟩
abbrev S1024x2048 : Shape := ⟨2, ![1024, 2048]⟩
abbrev S1024x1536 : Shape := ⟨2, ![1024, 1536]⟩
abbrev S1024x8 : Shape := ⟨2, ![1024, 8]⟩
abbrev S1024x248 : Shape := ⟨2, ![1024, 248]⟩
abbrev S1024x3840 : Shape := ⟨2, ![1024, 3840]⟩
abbrev S1x1024x3840 : Shape := ⟨3, ![1, 1024, 3840]⟩
abbrev S256x3840 : Shape := ⟨2, ![256, 3840]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 22
  | .vmem => 11
  | .smem => 0
  | _ => 0

abbrev bufTy : (tb : Table) → Fin (tcTables nBuf tb) → BufTy
  | .hbm, ⟨0, _⟩ => ⟨S2048x3592, .f32⟩
  | .hbm, ⟨1, _⟩ => ⟨S1024x3592, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x2048, .f32⟩
  | .hbm, ⟨6, _⟩ => ⟨S2048x1536, .f32⟩
  | .hbm, ⟨7, _⟩ => ⟨S2048x8, .f32⟩
  | .hbm, ⟨8, _⟩ => ⟨S_, .f32⟩
  | .hbm, ⟨9, _⟩ => ⟨S2048x248, .f32⟩
  | .hbm, ⟨10, _⟩ => ⟨S2048x3840, .f32⟩
  | .hbm, ⟨11, _⟩ => ⟨S2048x3840, .bf16⟩
  | .hbm, ⟨12, _⟩ => ⟨S1024x2048, .f32⟩
  | .hbm, ⟨13, _⟩ => ⟨S1024x1536, .f32⟩
  | .hbm, ⟨14, _⟩ => ⟨S1024x8, .f32⟩
  | .hbm, ⟨15, _⟩ => ⟨S_, .f32⟩
  | .hbm, ⟨16, _⟩ => ⟨S1024x248, .f32⟩
  | .hbm, ⟨17, _⟩ => ⟨S1024x3840, .f32⟩
  | .hbm, ⟨18, _⟩ => ⟨S1024x3840, .bf16⟩
  | .hbm, ⟨19, _⟩ => ⟨S1x1024x3840, .bf16⟩
  | .hbm, ⟨20, _⟩ => ⟨S2048x1024, .f32⟩
  | .hbm, ⟨21, _⟩ => ⟨S1x1024, .f32⟩
  | .local _ .vmem, ⟨0, _⟩ => ⟨S256x3840, .bf16⟩
  | .local _ .vmem, ⟨1, _⟩ => ⟨S256x3840, .bf16⟩
  | .local _ .vmem, ⟨2, _⟩ => ⟨S1x1024x3840, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm1RefIdeal.lean ====
abbrev S2048x3592 : Shape := ⟨2, ![2048, 3592]⟩
abbrev S1024x3592 : Shape := ⟨2, ![1024, 3592]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x3592, .f32⟩
  | .hbm, ⟨1, _⟩ => ⟨S1024x3592, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x3592, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Loss.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2816x1024, .bf16⟩
  | .hbm, ⟨6, _⟩ => ⟨S1x1024, .f32⟩
  | .hbm, ⟨7, _⟩ => ⟨S8x128, .f32⟩
  | .hbm, ⟨8, _⟩ => ⟨S2048x1024, .f32⟩
  | .hbm, ⟨9, _⟩ => ⟨S2048x1024, .bf16⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2816, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S8x128, .f32⟩
  | .hbm, ⟨77, _⟩ => ⟨S2048x1024, .bf16⟩
  | .hbm, ⟨78, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Act.lean ====
abbrev S2048x2816 : Shape := ⟨2, ![2048, 2816]⟩
abbrev S2048x5632 : Shape := ⟨2, ![2048, 5632]⟩
abbrev S3x5632 : Shape := ⟨2, ![3, 5632]⟩
abbrev S3x2816 : Shape := ⟨2, ![3, 2816]⟩
abbrev S256x1408 : Shape := ⟨2, ![256, 1408]⟩
abbrev S8x1408 : Shape := ⟨2, ![8, 1408]⟩
abbrev S16x1408 : Shape := ⟨2, ![16, 1408]⟩
abbrev S3x1408 : Shape := ⟨2, ![3, 1408]⟩
abbrev S3x128 : Shape := ⟨2, ![3, 128]⟩
abbrev S8x128 : Shape := ⟨2, ![8, 128]⟩
abbrev S256x128 : Shape := ⟨2, ![256, 128]⟩
abbrev S272x128 : Shape := ⟨2, ![272, 128]⟩
abbrev S264x128 : Shape := ⟨2, ![264, 128]⟩
abbrev S1x128 : Shape := ⟨2, ![1, 128]⟩
abbrev S128 : Shape := ⟨1, ![128]⟩

abbrev nBuf : Space → Nat
  | .hbm => 7
  | .vmem => 28
  | .smem => 0
  | _ => 0

abbrev bufTy : (tb : Table) → Fin (tcTables nBuf tb) → BufTy
  | .hbm, ⟨0, _⟩ => ⟨S2048x2816, .f32⟩
  | .hbm, ⟨1, _⟩ => ⟨S2048x5632, .bf16⟩
  | .hbm, ⟨2, _⟩ => ⟨S3x5632, .f32⟩
  | .hbm, ⟨3, _⟩ => ⟨S2048x2816, .bf16⟩
  | .hbm, ⟨4, _⟩ => ⟨S2048x2816, .bf16⟩
  | .hbm, ⟨5, _⟩ => ⟨S3x2816, .f32⟩
  | .hbm, ⟨6, _⟩ => ⟨S3x2816, .f32⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S256x1408, .bf16⟩
  | .local _ .vmem, ⟨5, _⟩ => ⟨S256x1408, .bf16⟩
  | .local _ .vmem, ⟨6, _⟩ => ⟨S16x1408, .bf16⟩
  | .local _ .vmem, ⟨7, _⟩ => ⟨S16x1408, .bf16⟩
  | .local _ .vmem, ⟨8, _⟩ => ⟨S16x1408, .bf16⟩
  | .local _ .vmem, ⟨9, _⟩ => ⟨S16x1408, .bf16⟩
  | .local _ .vmem, ⟨10, _⟩ => ⟨S256x1408, .bf16⟩
  | .local _ .vmem, ⟨11, _⟩ => ⟨S256x1408, .bf16⟩
  | .local _ .vmem, ⟨12, _⟩ => ⟨S16x1408, .bf16⟩
  | .local _ .vmem, ⟨13, _⟩ => ⟨S16x1408, .bf16⟩
  | .local _ .vmem, ⟨14, _⟩ => ⟨S16x1408, .bf16⟩
  | .local _ .vmem, ⟨15, _⟩ => ⟨S16x1408, .bf16⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S3x1408, .f32⟩
  | .local _ .vmem, ⟨20, _⟩ => ⟨S256x1408, .bf16⟩
  | .local _ .vmem, ⟨21, _⟩ => ⟨S256x1408, .bf16⟩
  | .local _ .vmem, ⟨22, _⟩ => ⟨S256x1408, .bf16⟩
  | .local _ .vmem, ⟨23, _⟩ => ⟨S256x1408, .bf16⟩
  | .local _ .vmem, ⟨24, _⟩ => ⟨S3x1408, .f32⟩
  | .local _ .vmem, ⟨25, _⟩ => ⟨S3x1408, .f32⟩
  | .local _ .vmem, ⟨26, _⟩ => ⟨S3x1408, .f32⟩
  | .local _ .vmem, ⟨27, _⟩ => ⟨S3x1408, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_5 : BitVec 32 := 0#32
  let c11_i32 : BitVec 32 := 11#32
  let v7 : BitVec 32 := Scalar.addi c0_i32_5 c11_i32
  let c1_i32 : BitVec 32 := 1#32
  ⟨c0_i32_5, v7, c1_i32⟩
def k0_mult1 (k0_t1 : Fin k0_t1_loop.trips) : BitVec 32 :=
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  v8
def k0_off1 (k0_t1 : Fin k0_t1_loop.trips) : Fin 2 → Nat :=
  let c0 : Index := 0#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v10 : Index := Scalar.indexCast v9
  ![0, v10.toNat]
def k0_off2 (k0_t1 : Fin k0_t1_loop.trips) : Fin 2 → Nat :=
  let c8 : Index := 8#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v14 : Index := Scalar.indexCast v9
  ![8, v14.toNat]
def k0_off3 (k0_t1 : Fin k0_t1_loop.trips) : Fin 2 → Nat :=
  let c0_8 : Index := 0#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v19 : Index := Scalar.indexCast v9
  ![0, v19.toNat]
def k0_off4 (k0_t1 : Fin k0_t1_loop.trips) : Fin 2 → Nat :=
  let c0_9 : Index := 0#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v22 : Index := Scalar.indexCast v9
  ![0, v22.toNat]
def k0_off5 (k0_t1 : Fin k0_t1_loop.trips) : Fin 2 → Nat :=
  let c0_17 : Index := 0#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v76 : Index := Scalar.indexCast v9
  ![0, v76.toNat]
def k0_off6 (k0_t1 : Fin k0_t1_loop.trips) : Fin 2 → Nat :=
  let c0_24 : Index := 0#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v130 : Index := Scalar.indexCast v9
  ![0, v130.toNat]
def k0_off7 (k0_t1 : Fin k0_t1_loop.trips) : Fin 2 → Nat :=
  let c1 : Index := 1#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v154 : Index := Scalar.indexCast v9
  ![1, v154.toNat]
def k0_off8 (k0_t1 : Fin k0_t1_loop.trips) : Fin 2 → Nat :=
  let c2 : Index := 2#32
  let c0_i32_5 : BitVec 32 := 0#32
  let c1_i32 : BitVec 32 := 1#32
  let arg16 : BitVec 32 := Scf.iv c0_i32_5 c1_i32 k0_t1
  let c128_i32 : BitVec 32 := 128#32
  let v8 : BitVec 32 := Scalar.muli arg16 c128_i32
  let v9 : BitVec 32 := v8
  let v178 : Index := Scalar.indexCast v9
  ![2, v178.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let v3 : BitVec 32 := Scalar.addi arg0 c0_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c2_i32 : BitVec 32 := 2#32
  let v3 : BitVec 32 := Scalar.addi arg0 c2_i32
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ActRefIdeal.lean ====
abbrev S2048x2816 : Shape := ⟨2, ![2048, 2816]⟩
abbrev S2048x5632 : Shape := ⟨2, ![2048, 5632]⟩
abbrev S3x5632 : Shape := ⟨2, ![3, 5632]⟩
abbrev S1x2048x5632 : Shape := ⟨3, ![1, 2048, 5632]⟩
abbrev S_ : Shape := ⟨0, ![]⟩
abbrev S1x2x5632 : Shape := ⟨3, ![1, 2, 5632]⟩
abbrev S1x2050x5632 : Shape := ⟨3, ![1, 2050, 5632]⟩
abbrev S1x5632 : Shape := ⟨2, ![1, 5632]⟩
abbrev S5632 : Shape := ⟨1, ![5632]⟩
abbrev S1x1x5632 : Shape := ⟨3, ![1, 1, 5632]⟩
abbrev S1x2048x2816 : Shape := ⟨3, ![1, 2048, 2816]⟩
abbrev S3x2816 : Shape := ⟨2, ![3, 2816]⟩

abbrev nBuf : Space → Nat
  | .hbm => 109
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x5632, .bf16⟩
  | .hbm, ⟨2, _⟩ => ⟨S3x5632, .f32⟩
  | .hbm, ⟨3, _⟩ => ⟨S2048x5632, .f32⟩
  | .hbm, ⟨4, _⟩ => ⟨S1x2048x5632, .f32⟩
  | .hbm, ⟨5, _⟩ => ⟨S_, .f32⟩
  | .hbm, ⟨6, _⟩ => ⟨S1x2x5632, .f32⟩
  | .hbm, ⟨7, _⟩ => ⟨S1x2050x5632, .f32⟩
  | .hbm, ⟨8, _⟩ => ⟨S_, .f32⟩
  | .hbm, ⟨9, _⟩ => ⟨S1x2x5632, .f32⟩
  | .hbm, ⟨10, _⟩ => ⟨S1x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x2048x5632, .f32⟩
  | .hbm, ⟨15, _⟩ => ⟨S1x2048x5632, .f32⟩
  | .hbm, ⟨16, _⟩ => ⟨S1x2048x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x2048x5632, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S_, .f32⟩
  | .hbm, ⟨35, _⟩ => ⟨S1x2048x2816, .f32⟩
  | .hbm, ⟨36, _⟩ => ⟨S1x2048x2816, .f32⟩
  | .hbm, ⟨37, _⟩ => ⟨S_, .f32⟩
  | .hbm, ⟨38, _⟩ => ⟨S1x2048x2816, .f32⟩
  | .hbm, ⟨39, _⟩ => ⟨S1x2048x2816, .f32⟩
  | .hbm, ⟨40, _⟩ => ⟨S_, .f32⟩
  | .hbm, ⟨41, _⟩ => ⟨S1x2048x2816, .f32⟩
  | .hbm, ⟨42, _⟩ => ⟨S1x2048x2816, .f32⟩
  | .hbm, ⟨43, _⟩ => ⟨S1x2048x2816, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S1x2048x2816, .f32⟩
  | .hbm, ⟨49, _⟩ => ⟨S1x2048x2816, .f32⟩
  | .hbm, ⟨50, _⟩ => ⟨S1x2048x2816, .f32⟩
  | .hbm, ⟨51, _⟩ => ⟨S1x2048x2816, .f32⟩
  | .hbm, ⟨52, _⟩ => ⟨S1x2048x2816, .f32⟩
  | .hbm, ⟨53, _⟩ => ⟨S_, .f32⟩
  | .hbm, ⟨54, _⟩ => ⟨S1x2048x5632, .f32⟩
  | .hbm, ⟨55, _⟩ => ⟨S_, .f32⟩
  | .hbm, ⟨56, _⟩ => ⟨S1x2048x5632, .f32⟩
  | .hbm, ⟨57, _⟩ => ⟨S1x2048x5632, .f32⟩
  | .hbm, ⟨58, _⟩ => ⟨S1x2048x5632, .f32⟩
  | .hbm, ⟨59, _⟩ => ⟨S_, .f32⟩
  | .hbm, ⟨60, _⟩ => ⟨S1x5632, .f32⟩
  | .hbm, ⟨61, _⟩ => ⟨S1x1x5632, .f32⟩
  | .hbm, ⟨62, _⟩ => ⟨S1x2048x5632, .f32⟩
  | .hbm, ⟨63, _⟩ => ⟨S1x2048x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S_, .f32⟩
  | .hbm, ⟨70, _⟩ => ⟨S1x2050x5632, .f32⟩
  | .hbm, ⟨71, _⟩ => ⟨S1x2048x5632, .f32⟩
  | .hbm, ⟨72, _⟩ => ⟨S_, .f32⟩
  | .hbm, ⟨73, _⟩ => ⟨S1x5632, .f32⟩
  | .hbm, ⟨74, _⟩ => ⟨S1x1x5632, .f32⟩
  | .hbm, ⟨75, _⟩ => ⟨S1x2048x5632, .f32⟩
  | .hbm, ⟨76, _⟩ => ⟨S1x2048x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S3x5632, .f32⟩
  | .hbm, ⟨82, _⟩ => ⟨S3x5632, .f32⟩
  | .hbm, ⟨83, _⟩ => ⟨S_, .f32⟩
  | .hbm, ⟨84, _⟩ => ⟨S1x2050x5632, .f32⟩
  | .hbm, ⟨85, _⟩ => ⟨S1x2050x5632, .f32⟩
  | .hbm, ⟨86, _⟩ => ⟨S1x2048x5632, .f32⟩
  | .hbm, ⟨87, _⟩ => ⟨S_, .f32⟩
  | .hbm, ⟨88, _⟩ => ⟨S1x5632, .f32⟩
  | .hbm, ⟨89, _⟩ => ⟨S1x1x5632, .f32⟩
  | .hbm, ⟨90, _⟩ => ⟨S1x2048x5632, .f32⟩
  | .hbm, ⟨91, _⟩ => ⟨S1x2048x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S3x5632, .f32⟩
  | .hbm, ⟨97, _⟩ => ⟨S3x5632, .f32⟩
  | .hbm, ⟨98, _⟩ => ⟨S_, .f32⟩
  | .hbm, ⟨99, _⟩ => ⟨S1x2050x5632, .f32⟩
  | .hbm, ⟨100, _⟩ => ⟨S1x2050x5632, .f32⟩
  | .hbm, ⟨101, _⟩ => ⟨S1x2x5632, .f32⟩
  | .hbm, ⟨102, _⟩ => ⟨S1x2048x5632, .f32⟩
  | .hbm, ⟨103, _⟩ => ⟨S2048x5632, .f32⟩
  | .hbm, ⟨104, _⟩ => ⟨S2048x5632, .bf16⟩
  | .hbm, ⟨105, _⟩ => ⟨S2048x2816, .bf16⟩
  | .hbm, ⟨106, _⟩ => ⟨S2048x2816, .bf16⟩
  | .hbm, ⟨107, _⟩ => ⟨S3x2816, .f32⟩
  | .hbm, ⟨108, _⟩ => ⟨S3x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v27_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v27_1 : Ref sig .tc := ⟨.hbm, 43, rfl⟩
abbrev main_v27_0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Attn.lean ====
abbrev S2048x3592 : Shape := ⟨2, ![2048, 3592]⟩
abbrev S2048x1024 : Shape := ⟨2, ![2048, 1024]⟩
abbrev S2048x2048 : Shape := ⟨2, ![2048, 2048]⟩
abbrev S2048x1536 : Shape := ⟨2, ![2048, 1536]⟩
abbrev S2048x8 : Shape := ⟨2, ![2048, 8]⟩
abbrev S_ : Shape := ⟨0, ![]⟩
abbrev S2048x248 : Shape := ⟨2, ![2048, 248]⟩
abbrev S2048x3840 : Shape := ⟨2, ![2048, 3840]⟩
abbrev S2048x512 : Shape := ⟨2, ![2048, 512]⟩
abbrev S2048x8x64 : Shape := ⟨3, ![2048, 8, 64]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x1x2048 : Shape := ⟨3, ![8, 1, 2048]⟩
abbrev S8x64x2048 : Shape := ⟨3, ![8, 64, 2048]⟩
abbrev S4x2x2x1024 : Shape := ⟨4, ![4, 2, 2, 1024]⟩
abbrev S4x2x6x1024 : Shape := ⟨4, ![4, 2, 6, 1024]⟩
abbrev S4x2x8x1024 : Shape := ⟨4, ![4, 2, 8, 1024]⟩
abbrev S2x1024x1024 : Shape := ⟨3, ![2, 1024, 1024]⟩
abbrev S2048x128 : Shape := ⟨2, ![2048, 128]⟩
abbrev S1024x128 : Shape := ⟨2, ![1024, 128]⟩
abbrev S1x2x8x1024 : Shape := ⟨4, ![1, 2, 8, 1024]⟩
abbrev S8x64 : Shape := ⟨2, ![8, 64]⟩
abbrev S512x64 : Shape := ⟨2, ![512, 64]⟩
abbrev S1x1x8x1024 : Shape := ⟨4, ![1, 1, 8, 1024]⟩
abbrev S8x1024 : Shape := ⟨2, ![8, 1024]⟩
abbrev S512x128 : Shape := ⟨2, ![512, 128]⟩
abbrev S1x512x1024 : Shape := ⟨3, ![1, 512, 1024]⟩
abbrev S512x1024 : Shape := ⟨2, ![512, 1024]⟩
abbrev S1024x64 : Shape := ⟨2, ![1024, 64]⟩
abbrev S1x1024 : Shape := ⟨2, ![1, 1024]⟩
abbrev S8x512 : Shape := ⟨2, ![8, 512]⟩
abbrev S1x512x512 : Shape := ⟨3, ![1, 512, 512]⟩
abbrev S512x512 : Shape := ⟨2, ![512, 512]⟩
abbrev S1x512 : Shape := ⟨2, ![1, 512]⟩
abbrev S1x1024x1024 : Shape := ⟨3, ![1, 1024, 1024]⟩
abbrev S1024x1024 : Shape := ⟨2, ![1024, 1024]⟩

abbrev nBuf : Space → Nat
  | .hbm => 237
  | .vmem => 20
  | .smem => 0
  | _ => 0

abbrev hbmTy0_0 (i : Nat) : BufTy := match i % 128 with
  | 0 => ⟨S2048x3592, .f32⟩
  | 1 => ⟨S2048x1024, .f32⟩
  | 2 => ⟨S2048x2048, .f32⟩
  | 3 => ⟨S2048x1536, .f32⟩
  | 4 => ⟨S2048x8, .f32⟩
  | 5 => ⟨S_, .f32⟩
  | 6 => ⟨S2048x248, .f32⟩
  | 7 => ⟨S2048x3840, .f32⟩
  | 8 => ⟨S2048x512, .f32⟩
  | 9 => ⟨S2048x8x64, .f32⟩
  | 10 => ⟨S2048x512, .f32⟩
  | 11 => ⟨S2048x8x64, .f32⟩
  | 12 => ⟨S2048x512, .f32⟩
  | 13 => ⟨S2048x8x64, .f32⟩
  | 14 => ⟨S_, .f32⟩
  | 15 => ⟨S2048x8x64, .f32⟩
  | 16 => ⟨S2048x8x64, .f32⟩
  | 17 => ⟨S2048x8x64, .bf16⟩
  | 18 => ⟨S2048x8x64, .bf16⟩
  | 19 => ⟨S2048x8x64, .bf16⟩
  | 20 => ⟨S8x2048x2048, .f32⟩
  | 21 => ⟨S1x2048x2048, .i32⟩
  | 22 => ⟨S_, .i32⟩
  | 23 => ⟨S1x2048x2048, .i32⟩
  | 24 => ⟨S1x2048x2048, .i32⟩
  | 25 => ⟨S1x2048x2048, .i32⟩
  | 26 => ⟨S1x2048x2048, .i32⟩
  | 27 => ⟨S1x2048x2048, .i32⟩
  | 28 => ⟨S1x2048x2048, .i32⟩
  | 29 => ⟨S_, .i32⟩
  | 30 => ⟨S1x2048x2048, .i32⟩
  | 31 => ⟨S1x2048x2048, .i1⟩
  | 32 => ⟨S_, .i32⟩
  | 33 => ⟨S1x2048x2048, .i32⟩
  | 34 => ⟨S1x2048x2048, .i1⟩
  | 35 => ⟨S1x2048x2048, .i1⟩
  | 36 => ⟨S1x2048x2048, .f32⟩
  | 37 => ⟨S_, .i32⟩
  | 38 => ⟨S1x2048x2048, .i32⟩
  | 39 => ⟨S1x2048x2048, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S1x2048x2048, .i32⟩
  | 47 => ⟨S1x2048x2048, .i32⟩
  | 48 => ⟨S_, .i32⟩
  | 49 => ⟨S1x2048x2048, .i32⟩
  | 50 => ⟨S1x2048x2048, .i1⟩
  | 51 => ⟨S_, .i32⟩
  | 52 => ⟨S1x2048x2048, .i32⟩
  | 53 => ⟨S1x2048x2048, .i1⟩
  | 54 => ⟨S_, .i32⟩
  | 55 => ⟨S_, .i1⟩
  | 56 => ⟨S1x2048x2048, .i1⟩
  | 57 => ⟨S1x2048x2048, .i1⟩
  | 58 => ⟨S1x2048x2048, .i1⟩
  | 59 => ⟨S1x2048x2048, .i32⟩
  | 60 => ⟨S1x2048x2048, .i32⟩
  | 61 => ⟨S1x2048x2048, .i32⟩
  | 62 => ⟨S_, .i32⟩
  | 63 => ⟨S1x2048x2048, .i32⟩
  | 64 => ⟨S1x2048x2048, .i1⟩
  | 65 => ⟨S1x2048x2048, .i1⟩
  | 66 => ⟨S_, .i32⟩
  | 67 => ⟨S1x2048x2048, .i32⟩
  | 68 => ⟨S1x2048x2048, .i1⟩
  | 69 => ⟨S1x2048x2048, .i1⟩
  | 70 => ⟨S1x2048x2048, .f32⟩
  | 71 => ⟨S1x2048x2048, .f32⟩
  | 72 => ⟨S_, .i32⟩
  | 73 => ⟨S1x2048x2048, .i32⟩
  | 74 => ⟨S1x2048x2048, .i1⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S1x2048x2048, .i32⟩
  | 82 => ⟨S1x2048x2048, .i32⟩
  | 83 => ⟨S_, .i32⟩
  | 84 => ⟨S1x2048x2048, .i32⟩
  | 85 => ⟨S1x2048x2048, .i1⟩
  | 86 => ⟨S_, .i32⟩
  | 87 => ⟨S1x2048x2048, .i32⟩
  | 88 => ⟨S1x2048x2048, .i1⟩
  | 89 => ⟨S_, .i32⟩
  | 90 => ⟨S_, .i1⟩
  | 91 => ⟨S1x2048x2048, .i1⟩
  | 92 => ⟨S1x2048x2048, .i1⟩
  | 93 => ⟨S1x2048x2048, .i1⟩
  | 94 => ⟨S1x2048x2048, .i32⟩
  | 95 => ⟨S1x2048x2048, .i32⟩
  | 96 => ⟨S1x2048x2048, .i32⟩
  | 97 => ⟨S_, .i32⟩
  | 98 => ⟨S1x2048x2048, .i32⟩
  | 99 => ⟨S1x2048x2048, .i1⟩
  | 100 => ⟨S1x2048x2048, .i1⟩
  | 101 => ⟨S1x2048x2048, .f32⟩
  | 102 => ⟨S1x2048x2048, .f32⟩
  | 103 => ⟨S_, .f32⟩
  | 104 => ⟨S1x2048x2048, .f32⟩
  | 105 => ⟨S1x2048x2048, .i1⟩
  | 106 => ⟨S_, .f32⟩
  | 107 => ⟨S1x2048x2048, .f32⟩
  | 108 => ⟨S1x2048x2048, .f32⟩
  | 109 => ⟨S1x2048x2048, .f32⟩
  | 110 => ⟨S_, .f32⟩
  | 111 => ⟨S_, .f32⟩
  | 112 => ⟨S1x2048x2048, .f32⟩
  | 113 => ⟨S1x2048x2048, .f32⟩
  | 114 => ⟨S8x2048x2048, .f32⟩
  | 115 => ⟨S8x2048x2048, .f32⟩
  | 116 => ⟨S_, .f32⟩
  | 117 => ⟨S8x2048, .f32⟩
  | 118 => ⟨S8x1x2048, .f32⟩
  | 119 => ⟨S8x2048x2048, .f32⟩
  | 120 => ⟨S8x2048x2048, .f32⟩
  | 121 => ⟨S8x2048x2048, .f32⟩
  | 122 => ⟨S_, .f32⟩
  | 123 => ⟨S8x2048, .f32⟩
  | 124 => ⟨S8x2048x2048, .bf16⟩
  | 125 => ⟨S8x64x2048, .f32⟩
  | 126 => ⟨S8x1x2048, .f32⟩
  | 127 => ⟨S8x64x2048, .f32⟩
  | _ => ⟨S2048x3592, .f32⟩

abbrev hbmTy0_1 (i : Nat) : BufTy := match i % 128 with
  | 0 => ⟨S8x64x2048, .f32⟩
  | 1 => ⟨S2048x8x64, .f32⟩
  | 2 => ⟨S2048x512, .f32⟩
  | 3 => ⟨S8x2048, .f32⟩
  | 4 => ⟨S8x2048, .f32⟩
  | 5 => ⟨S4x2x2x1024, .f32⟩
  | 6 => ⟨S4x2x2x1024, .f32⟩
  | 7 => ⟨S_, .f32⟩
  | 8 => ⟨S2048x512, .f32⟩
  | 9 => ⟨S2048x1024, .f32⟩
  | 10 => ⟨S_, .f32⟩
  | 11 => ⟨S4x2x6x1024, .f32⟩
  | 12 => ⟨S4x2x8x1024, .f32⟩
  | 13 => ⟨S2x1024x1024, .i32⟩
  | 14 => ⟨S_, .i32⟩
  | 15 => ⟨S2x1024x1024, .i32⟩
  | 16 => ⟨S2x1024x1024, .i32⟩
  | 17 => ⟨S2x1024x1024, .i32⟩
  | 18 => ⟨S2x1024x1024, .i32⟩
  | 19 => ⟨S2x1024x1024, .i32⟩
  | 20 => ⟨S2x1024x1024, .i32⟩
  | 21 => ⟨S_, .i32⟩
  | 22 => ⟨S2x1024x1024, .i32⟩
  | 23 => ⟨S2x1024x1024, .i1⟩
  | 24 => ⟨S_, .i32⟩
  | 25 => ⟨S2x1024x1024, .i32⟩
  | 26 => ⟨S2x1024x1024, .i1⟩
  | 27 => ⟨S2x1024x1024, .i1⟩
  | 28 => ⟨S2x1024x1024, .f32⟩
  | 29 => ⟨S_, .i32⟩
  | 30 => ⟨S2x1024x1024, .i32⟩
  | 31 => ⟨S2x1024x1024, .i1⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2x1024x1024, .i32⟩
  | 39 => ⟨S2x1024x1024, .i32⟩
  | 40 => ⟨S_, .i32⟩
  | 41 => ⟨S2x1024x1024, .i32⟩
  | 42 => ⟨S2x1024x1024, .i1⟩
  | 43 => ⟨S_, .i32⟩
  | 44 => ⟨S2x1024x1024, .i32⟩
  | 45 => ⟨S2x1024x1024, .i1⟩
  | 46 => ⟨S_, .i32⟩
  | 47 => ⟨S_, .i1⟩
  | 48 => ⟨S2x1024x1024, .i1⟩
  | 49 => ⟨S2x1024x1024, .i1⟩
  | 50 => ⟨S2x1024x1024, .i1⟩
  | 51 => ⟨S2x1024x1024, .i32⟩
  | 52 => ⟨S2x1024x1024, .i32⟩
  | 53 => ⟨S2x1024x1024, .i32⟩
  | 54 => ⟨S_, .i32⟩
  | 55 => ⟨S2x1024x1024, .i32⟩
  | 56 => ⟨S2x1024x1024, .i1⟩
  | 57 => ⟨S2x1024x1024, .i1⟩
  | 58 => ⟨S_, .i32⟩
  | 59 => ⟨S2x1024x1024, .i32⟩
  | 60 => ⟨S2x1024x1024, .i1⟩
  | 61 => ⟨S2x1024x1024, .i1⟩
  | 62 => ⟨S2x1024x1024, .f32⟩
  | 63 => ⟨S2x1024x1024, .f32⟩
  | 64 => ⟨S_, .i32⟩
  | 65 => ⟨S2x1024x1024, .i32⟩
  | 66 => ⟨S2x1024x1024, .i1⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S2x1024x1024, .i32⟩
  | 74 => ⟨S2x1024x1024, .i32⟩
  | 75 => ⟨S_, .i32⟩
  | 76 => ⟨S2x1024x1024, .i32⟩
  | 77 => ⟨S2x1024x1024, .i1⟩
  | 78 => ⟨S_, .i32⟩
  | 79 => ⟨S2x1024x1024, .i32⟩
  | 80 => ⟨S2x1024x1024, .i1⟩
  | 81 => ⟨S_, .i32⟩
  | 82 => ⟨S_, .i1⟩
  | 83 => ⟨S2x1024x1024, .i1⟩
  | 84 => ⟨S2x1024x1024, .i1⟩
  | 85 => ⟨S2x1024x1024, .i1⟩
  | 86 => ⟨S2x1024x1024, .i32⟩
  | 87 => ⟨S2x1024x1024, .i32⟩
  | 88 => ⟨S2x1024x1024, .i32⟩
  | 89 => ⟨S_, .i32⟩
  | 90 => ⟨S2x1024x1024, .i32⟩
  | 91 => ⟨S2x1024x1024, .i1⟩
  | 92 => ⟨S2x1024x1024, .i1⟩
  | 93 => ⟨S2x1024x1024, .f32⟩
  | 94 => ⟨S2x1024x1024, .f32⟩
  | 95 => ⟨S_, .f32⟩
  | 96 => ⟨S2x1024x1024, .f32⟩
  | 97 => ⟨S2x1024x1024, .i1⟩
  | 98 => ⟨S_, .f32⟩
  | 99 => ⟨S2x1024x1024, .f32⟩
  | 100 => ⟨S2x1024x1024, .f32⟩
  | 101 => ⟨S2x1024x1024, .f32⟩
  | 102 => ⟨S_, .f32⟩
  | 103 => ⟨S_, .f32⟩
  | 104 => ⟨S2x1024x1024, .f32⟩
  | 105 => ⟨S2x1024x1024, .f32⟩
  | 106 => ⟨S2048x512, .bf16⟩
  | 107 => ⟨S2048x512, .bf16⟩
  | 108 => ⟨S2048x512, .bf16⟩
  | _ => ⟨S2048x3592, .f32⟩

abbrev hbmTy (i : Nat) : BufTy := match i / 128 with
  | 0 => hbmTy0_0 i
  | 1 => hbmTy0_1 i
  | _ => ⟨S2048x3592, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S2048x128, .f32⟩
  | .local _ .vmem, ⟨7, _⟩ => ⟨S2048x128, .f32⟩
  | .local _ .vmem, ⟨8, _⟩ => ⟨S1x2x8x1024, .f32⟩
  | .local _ .vmem, ⟨9, _⟩ => ⟨S1x2x8x1024, .f32⟩
  | .local _ .vmem, ⟨10, _⟩ => ⟨S2048x128, .f32⟩
  | .local _ .vmem, ⟨11, _⟩ => ⟨S2048x128, .f32⟩
  | .local _ .vmem, ⟨12, _⟩ => ⟨S2x1024x1024, .f32⟩
  | .local _ .vmem, ⟨13, _⟩ => ⟨S2048x128, .bf16⟩
  | .local _ .vmem, ⟨14, _⟩ => ⟨S2048x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S2048x128, .f32⟩
  | _, _ => ⟨S2048x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_v5 : Ref sig .tc := ⟨.hbm, 49, rfl⟩
abbrev main_call0_v6 : Ref sig .tc := ⟨.hbm, 50, rfl⟩
abbrev main_call0_c_2 : Ref sig .tc := ⟨.hbm, 51, rfl⟩
abbrev main_call0_v7 : Ref sig .tc := ⟨.hbm, 52, rfl⟩
abbrev main_call0_v8 : Ref sig .tc := ⟨.hbm, 53, rfl⟩
abbrev main_call0_c_3 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_v41 : Ref sig .tc := ⟨.hbm, 73, rfl⟩
abbrev main_v42 : Ref sig .tc := ⟨.hbm, 74, rfl⟩
abbrev main_c_8 : Ref sig .tc := ⟨.hbm, 75, rfl⟩
abbrev main_call1_v0 : Ref sig .tc := ⟨.hbm, 76, rfl⟩
abbrev main_call1_c : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_1 : Ref sig .tc := ⟨.hbm, 83, rfl⟩
abbrev main_call1_v5 : Ref sig .tc := ⟨.hbm, 84, rfl⟩
abbrev main_call1_v6 : Ref sig .tc := ⟨.hbm, 85, rfl⟩
abbrev main_call1_c_2 : Ref sig .tc := ⟨.hbm, 86, rfl⟩
abbrev main_call1_v7 : Ref sig .tc := ⟨.hbm, 87, rfl⟩
abbrev main_call1_v8 : Ref sig .tc := ⟨.hbm, 88, rfl⟩
abbrev main_call1_c_3 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_v43 : Ref sig .tc := ⟨.hbm, 96, rfl⟩
abbrev main_c_9 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_10 : Ref sig .tc := ⟨.hbm, 103, rfl⟩
abbrev main_v49 : Ref sig .tc := ⟨.hbm, 104, rfl⟩
abbrev main_v50 : Ref sig .tc := ⟨.hbm, 105, rfl⟩
abbrev main_cst_11 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_12 : Ref sig .tc := ⟨.hbm, 110, rfl⟩
abbrev main_call2_v0 : Ref sig .tc := ⟨.hbm, 111, rfl⟩
abbrev main_call2_v1 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_cst_13 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_14 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_15 : Ref sig .tc := ⟨.hbm, 135, rfl⟩
abbrev main_v74 : Ref sig .tc := ⟨.hbm, 136, rfl⟩
abbrev main_v75 : Ref sig .tc := ⟨.hbm, 137, rfl⟩
abbrev main_cst_16 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_c_17 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_c_18 : Ref sig .tc := ⟨.hbm, 149, rfl⟩
abbrev main_v85 : Ref sig .tc := ⟨.hbm, 150, rfl⟩
abbrev main_v86 : Ref sig .tc := ⟨.hbm, 151, rfl⟩
abbrev main_c_19 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_c_20 : Ref sig .tc := ⟨.hbm, 157, rfl⟩
abbrev main_v91 : Ref sig .tc := ⟨.hbm, 158, rfl⟩
abbrev main_v92 : Ref sig .tc := ⟨.hbm, 159, rfl⟩
abbrev main_c_21 : Ref sig .tc := ⟨.hbm, 160, rfl⟩
abbrev main_call3_v0 : Ref sig .tc := ⟨.hbm, 161, rfl⟩
abbrev main_call3_c : Ref sig .tc := ⟨.hbm, 162, rfl⟩
abbrev main_call3_v1 : Ref sig .tc := ⟨.hbm, 163, rfl⟩
abbrev main_call3_c_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_c_1 : Ref sig .tc := ⟨.hbm, 168, rfl⟩
abbrev main_call3_v5 : Ref sig .tc := ⟨.hbm, 169, rfl⟩
abbrev main_call3_v6 : Ref sig .tc := ⟨.hbm, 170, rfl⟩
abbrev main_call3_c_2 : Ref sig .tc := ⟨.hbm, 171, rfl⟩
abbrev main_call3_v7 : Ref sig .tc := ⟨.hbm, 172, rfl⟩
abbrev main_call3_v8 : Ref sig .tc := ⟨.hbm, 173, rfl⟩
abbrev main_call3_c_3 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_v12 : Ref sig .tc := ⟨.hbm, 178, rfl⟩
abbrev main_call3_v13 : Ref sig .tc := ⟨.hbm, 179, rfl⟩
abbrev main_call3_v14 : Ref sig .tc := ⟨.hbm, 180, rfl⟩
abbrev main_v93 : Ref sig .tc := ⟨.hbm, 181, rfl⟩
abbrev main_c_22 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_c_23 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_c_24 : Ref sig .tc := ⟨.hbm, 192, rfl⟩
abbrev main_v102 : Ref sig .tc := ⟨.hbm, 193, rfl⟩
abbrev main_v103 : Ref sig .tc := ⟨.hbm, 194, rfl⟩
abbrev main_c_25 : Ref sig .tc := ⟨.hbm, 195, rfl⟩
abbrev main_call4_v0 : Ref sig .tc := ⟨.hbm, 196, rfl⟩
abbrev main_call4_c : Ref sig .tc := ⟨.hbm, 197, rfl⟩
abbrev main_call4_v1 : Ref sig .tc := ⟨.hbm, 198, rfl⟩
abbrev main_call4_c_0 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_c_1 : Ref sig .tc := ⟨.hbm, 203, rfl⟩
abbrev main_call4_v5 : Ref sig .tc := ⟨.hbm, 204, rfl⟩
abbrev main_call4_v6 : Ref sig .tc := ⟨.hbm, 205, rfl⟩
abbrev main_call4_c_2 : Ref sig .tc := ⟨.hbm, 206, rfl⟩
abbrev main_call4_v7 : Ref sig .tc := ⟨.hbm, 207, rfl⟩
abbrev main_call4_v8 : Ref sig .tc := ⟨.hbm, 208, rfl⟩
abbrev main_call4_c_3 : Ref sig .tc := ⟨.hbm, 209, rfl⟩
abbrev main_call4_v9 : Ref sig .tc := ⟨.hbm, 210, rfl⟩
abbrev main_call4_v10 : Ref sig .tc := ⟨.hbm, 211, rfl⟩
abbrev main_call4_v11 : Ref sig .tc := ⟨.hbm, 212, rfl⟩
abbrev main_call4_v12 : Ref sig .tc := ⟨.hbm, 213, rfl⟩
abbrev main_call4_v13 : Ref sig .tc := ⟨.hbm, 214, rfl⟩
abbrev main_call4_v14 : Ref sig .tc := ⟨.hbm, 215, rfl⟩
abbrev main_v104 : Ref sig .tc := ⟨.hbm, 216, rfl⟩
abbrev main_c_26 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_cst_27 : Ref sig .tc := ⟨.hbm, 223, rfl⟩
abbrev main_v110 : Ref sig .tc := ⟨.hbm, 224, rfl⟩
abbrev main_v111 : Ref sig .tc := ⟨.hbm, 225, rfl⟩
abbrev main_cst_28 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_29 : Ref sig .tc := ⟨.hbm, 230, rfl⟩
abbrev main_call5_v0 : Ref sig .tc := ⟨.hbm, 231, rfl⟩
abbrev main_call5_v1 : Ref sig .tc := ⟨.hbm, 232, rfl⟩
abbrev main_v115 : Ref sig .tc := ⟨.hbm, 233, rfl⟩
abbrev main_v116_0 : Ref sig .tc := ⟨.hbm, 234, rfl⟩
abbrev main_v116_1 : Ref sig .tc := ⟨.hbm, 235, rfl⟩
abbrev main_v116_2 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 2], ![false, false]⟩

def k0_off1 (i : grid0.Coords) : Fin 4 → Nat :=
  let c0_8 : Index := 0#32
  let arg1 : BitVec 32 := BitVec.ofNat 32 (i 1).val
  let v14 : Index := Scalar.indexCast arg1
  let c0_9 : Index := 0#32
  let c0_10 : Index := 0#32
  ![0, v14.toNat, 0, 0]
def k0_mult1 (i : grid0.Coords) : BitVec 32 :=
  let arg1 : BitVec 32 := BitVec.ofNat 32 (i 1).val
  let c1024_i32 : BitVec 32 := 1024#32
  let v19 : BitVec 32 := Scalar.muli arg1 c1024_i32
  v19
def k0_off2 (i : grid0.Coords) : Fin 2 → Nat :=
  let arg1 : BitVec 32 := BitVec.ofNat 32 (i 1).val
  let c1024_i32 : BitVec 32 := 1024#32
  let v19 : BitVec 32 := Scalar.muli arg1 c1024_i32
  let v20 : BitVec 32 := v19
  let v23 : Index := Scalar.indexCast v20
  let c0_14 : Index := 0#32
  ![v23.toNat, 0]
def k0_mult2 (i : grid0.Coords) : BitVec 32 :=
  let arg1 : BitVec 32 := BitVec.ofNat 32 (i 1).val
  let c1024_i32_34 : BitVec 32 := 1024#32
  let v104 : BitVec 32 := Scalar.muli arg1 c1024_i32_34
  let c512_i32 : BitVec 32 := 512#32
  let v105 : BitVec 32 := Scalar.addi v104 c512_i32
  v105
def k0_off3 (i : grid0.Coords) : Fin 2 → Nat :=
  let arg1 : BitVec 32 := BitVec.ofNat 32 (i 1).val
  let c1024_i32_34 : BitVec 32 := 1024#32
  let v104 : BitVec 32 := Scalar.muli arg1 c1024_i32_34
  let c512_i32 : BitVec 32 := 512#32
  let v105 : BitVec 32 := Scalar.addi v104 c512_i32
  let v106 : BitVec 32 := v105
  let v110 : Index := Scalar.indexCast v106
  let c0_37 : Index := 0#32
  ![v110.toNat, 0]
@[reducible] def k0_t1_loop (i : grid0.Coords) : Scf.Loop 32 :=
  let arg1 : BitVec 32 := BitVec.ofNat 32 (i 1).val
  let c1_i32 : BitVec 32 := 1#32
  let v193 : BitVec 32 := Scalar.addi arg1 c1_i32
  let c2_i32 : BitVec 32 := 2#32
  let v194 : BitVec 32 := Scalar.subi c2_i32 v193
  let c1_i32_57 : BitVec 32 := 1#32
  let v196 : BitVec 32 := Scalar.divsi v194 c1_i32_57
  let v197 : BitVec 32 := Scalar.muli v196 c1_i32_57
  let v198 : BitVec 32 := Scalar.addi v193 v197
  let c1_i32_58 : BitVec 32 := 1#32
  ⟨v193, v198, c1_i32_58⟩
def k0_mult3 (i : grid0.Coords) (k0_t1 : Fin (k0_t1_loop i).trips) : BitVec 32 :=
  let arg1 : BitVec 32 := BitVec.ofNat 32 (i 1).val
  let c1_i32 : BitVec 32 := 1#32
  let v193 : BitVec 32 := Scalar.addi arg1 c1_i32
  let c1_i32_58 : BitVec 32 := 1#32
  let arg13 : BitVec 32 := Scf.iv v193 c1_i32_58 k0_t1
  let c1024_i32_66 : BitVec 32 := 1024#32
  let v210 : BitVec 32 := Scalar.muli arg13 c1024_i32_66
  v210
def k0_off4 (i : grid0.Coords) (k0_t1 : Fin (k0_t1_loop i).trips) : Fin 4 → Nat :=
  let c0_67 : Index := 0#32
  let arg1 : BitVec 32 := BitVec.ofNat 32 (i 1).val
  let c1_i32 : BitVec 32 := 1#32
  let v193 : BitVec 32 := Scalar.addi arg1 c1_i32
  let c1_i32_58 : BitVec 32 := 1#32
  let arg13 : BitVec 32 := Scf.iv v193 c1_i32_58 k0_t1
  let v212 : Index := Scalar.indexCast arg13
  let c0_68 : Index := 0#32
  let c0_69 : Index := 0#32
  ![0, v212.toNat, 0, 0]
def k0_off5 (i : grid0.Coords) (k0_t1 : Fin (k0_t1_loop i).trips) : Fin 3 → Nat :=
  let arg1 : BitVec 32 := BitVec.ofNat 32 (i 1).val
  let c1_i32 : BitVec 32 := 1#32
  let v193 : BitVec 32 := Scalar.addi arg1 c1_i32
  let c1_i32_58 : BitVec 32 := 1#32
  let arg13 : BitVec 32 := Scf.iv v193 c1_i32_58 k0_t1
  let v215 : BitVec 32 := Scalar.subi arg13 arg1
  let v216 : Index := Scalar.indexCast v215
  let c0_70 : Index := 0#32
  let c0_71 : Index := 0#32
  ![v216.toNat, 0, 0]
def k0_off6 (i : grid0.Coords) (k0_t1 : Fin (k0_t1_loop i).trips) : Fin 2 → Nat :=
  let arg1 : BitVec 32 := BitVec.ofNat 32 (i 1).val
  let c1_i32 : BitVec 32 := 1#32
  let v193 : BitVec 32 := Scalar.addi arg1 c1_i32
  let c1_i32_58 : BitVec 32 := 1#32
  let arg13 : BitVec 32 := Scf.iv v193 c1_i32_58 k0_t1
  let c1024_i32_66 : BitVec 32 := 1024#32
  let v210 : BitVec 32 := Scalar.muli arg13 c1024_i32_66
  let v211 : BitVec 32 := v210
  let v219 : Index := Scalar.indexCast v211
  let c0_72 : Index := 0#32
  ![v219.toNat, 0]
@[reducible] def k0_t2_loop (i : grid0.Coords) : Scf.Loop 32 :=
  let arg1 : BitVec 32 := BitVec.ofNat 32 (i 1).val
  let c1_i32 : BitVec 32 := 1#32
  let v193 : BitVec 32 := Scalar.addi arg1 c1_i32
  let c2_i32 : BitVec 32 := 2#32
  let v194 : BitVec 32 := Scalar.subi c2_i32 v193
  let c1_i32_57 : BitVec 32 := 1#32
  let v196 : BitVec 32 := Scalar.divsi v194 c1_i32_57
  let v197 : BitVec 32 := Scalar.muli v196 c1_i32_57
  let v198 : BitVec 32 := Scalar.addi v193 v197
  let v195 : BitVec 32 := Scalar.addi v193 v194
  let c1_i32_59 : BitVec 32 := 1#32
  ⟨v198, v195, c1_i32_59⟩
def k0_mult4 (i : grid0.Coords) (k0_t2 : Fin (k0_t2_loop i).trips) : BitVec 32 :=
  let arg1 : BitVec 32 := BitVec.ofNat 32 (i 1).val
  let c1_i32 : BitVec 32 := 1#32
  let v193 : BitVec 32 := Scalar.addi arg1 c1_i32
  let c2_i32 : BitVec 32 := 2#32
  let v194 : BitVec 32 := Scalar.subi c2_i32 v193
  let c1_i32_57 : BitVec 32 := 1#32
  let v196 : BitVec 32 := Scalar.divsi v194 c1_i32_57
  let v197 : BitVec 32 := Scalar.muli v196 c1_i32_57
  let v198 : BitVec 32 := Scalar.addi v193 v197
  let c1_i32_59 : BitVec 32 := 1#32
  let arg13 : BitVec 32 := Scf.iv v198 c1_i32_59 k0_t2
  let c1024_i32_66 : BitVec 32 := 1024#32
  let v210 : BitVec 32 := Scalar.muli arg13 c1024_i32_66
  v210
def k0_off7 (i : grid0.Coords) (k0_t2 : Fin (k0_t2_loop i).trips) : Fin 4 → Nat :=
  let c0_67 : Index := 0#32
  let arg1 : BitVec 32 := BitVec.ofNat 32 (i 1).val
  let c1_i32 : BitVec 32 := 1#32
  let v193 : BitVec 32 := Scalar.addi arg1 c1_i32
  let c2_i32 : BitVec 32 := 2#32
  let v194 : BitVec 32 := Scalar.subi c2_i32 v193
  let c1_i32_57 : BitVec 32 := 1#32
  let v196 : BitVec 32 := Scalar.divsi v194 c1_i32_57
  let v197 : BitVec 32 := Scalar.muli v196 c1_i32_57
  let v198 : BitVec 32 := Scalar.addi v193 v197
  let c1_i32_59 : BitVec 32 := 1#32
  let arg13 : BitVec 32 := Scf.iv v198 c1_i32_59 k0_t2
  let v212 : Index := Scalar.indexCast arg13
  let c0_68 : Index := 0#32
  let c0_69 : Index := 0#32
  ![0, v212.toNat, 0, 0]
def k0_off8 (i : grid0.Coords) (k0_t2 : Fin (k0_t2_loop i).trips) : Fin 3 → Nat :=
  let arg1 : BitVec 32 := BitVec.ofNat 32 (i 1).val
  let c1_i32 : BitVec 32 := 1#32
  let v193 : BitVec 32 := Scalar.addi arg1 c1_i32
  let c2_i32 : BitVec 32 := 2#32
  let v194 : BitVec 32 := Scalar.subi c2_i32 v193
  let c1_i32_57 : BitVec 32 := 1#32
  let v196 : BitVec 32 := Scalar.divsi v194 c1_i32_57
  let v197 : BitVec 32 := Scalar.muli v196 c1_i32_57
  let v198 : BitVec 32 := Scalar.addi v193 v197
  let c1_i32_59 : BitVec 32 := 1#32
  let arg13 : BitVec 32 := Scf.iv v198 c1_i32_59 k0_t2
  let v215 : BitVec 32 := Scalar.subi arg13 arg1
  let v216 : Index := Scalar.indexCast v215
  let c0_70 : Index := 0#32
  let c0_71 : Index := 0#32
  ![v216.toNat, 0, 0]
def k0_off9 (i : grid0.Coords) (k0_t2 : Fin (k0_t2_loop i).trips) : Fin 2 → Nat :=
  let arg1 : BitVec 32 := BitVec.ofNat 32 (i 1).val
  let c1_i32 : BitVec 32 := 1#32
  let v193 : BitVec 32 := Scalar.addi arg1 c1_i32
  let c2_i32 : BitVec 32 := 2#32
  let v194 : BitVec 32 := Scalar.subi c2_i32 v193
  let c1_i32_57 : BitVec 32 := 1#32
  let v196 : BitVec 32 := Scalar.divsi v194 c1_i32_57
  let v197 : BitVec 32 := Scalar.muli v196 c1_i32_57
  let v198 : BitVec 32 := Scalar.addi v193 v197
  let c1_i32_59 : BitVec 32 := 1#32
  let arg13 : BitVec 32 := Scf.iv v198 c1_i32_59 k0_t2
  let c1024_i32_66 : BitVec 32 := 1024#32
  let v210 : BitVec 32 := Scalar.muli arg13 c1024_i32_66
  let v211 : BitVec 32 := v210
  let v219 : Index := Scalar.indexCast v211
  let c0_72 : Index := 0#32
  ![v219.toNat, 0]
def k0_cond2 (i : grid0.Coords) : BitVec 1 :=
  let arg1 : BitVec 32 := BitVec.ofNat 32 (i 1).val
  let c1_i32_64 : BitVec 32 := 1#32
  let v207 : BitVec 1 := Scalar.cmpi .eq arg1 c1_i32_64
  let v208 : BitVec 32 := Scalar.extui v207
  let c0_i32_65 : BitVec 32 := 0#32
  let v209 : BitVec 1 := Scalar.cmpi .ne v208 c0_i32_65
  v209

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnRefIdeal.lean ====
abbrev S2048x3592 : Shape := ⟨2, ![2048, 3592]⟩
abbrev S2048x1024 : Shape := ⟨2, ![2048, 1024]⟩
abbrev S2048x512 : Shape := ⟨2, ![2048, 512]⟩
abbrev S1x2048x8x64 : Shape := ⟨4, ![1, 2048, 8, 64]⟩
abbrev S1x8x2048x64 : Shape := ⟨4, ![1, 8, 2048, 64]⟩
abbrev S_ : Shape := ⟨0, ![]⟩
abbrev S1x8x2048x1x64 : Shape := ⟨5, ![1, 8, 2048, 1, 64]⟩
abbrev S1x8x1x2048x64 : Shape := ⟨5, ![1, 8, 1, 2048, 64]⟩
abbrev S1x8x1x16x128x64 : Shape := ⟨6, ![1, 8, 1, 16, 128, 64]⟩
abbrev S1x8x1x1x128x64 : Shape := ⟨6, ![1, 8, 1, 1, 128, 64]⟩
abbrev S1x8x1x15x128x64 : Shape := ⟨6, ![1, 8, 1, 15, 128, 64]⟩
abbrev S1x8x1x16x256x64 : Shape := ⟨6, ![1, 8, 1, 16, 256, 64]⟩
abbrev S1x8x1x16x128x256 : Shape := ⟨6, ![1, 8, 1, 16, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x8x1x16x128 : Shape := ⟨5, ![1, 8, 1, 16, 128]⟩
abbrev S1x8x1x16x128x1 : Shape := ⟨6, ![1, 8, 1, 16, 128, 1]⟩
abbrev S1x8x1x2048 : Shape := ⟨4, ![1, 8, 1, 2048]⟩
abbrev S1x8x2048x1 : Shape := ⟨4, ![1, 8, 2048, 1]⟩
abbrev S1x8x2048 : Shape := ⟨3, ![1, 8, 2048]⟩
abbrev S1x8x512x4x64 : Shape := ⟨5, ![1, 8, 512, 4, 64]⟩
abbrev S1x8x4x512x64 : Shape := ⟨5, ![1, 8, 4, 512, 64]⟩
abbrev S1x8x4x4x128x64 : Shape := ⟨6, ![1, 8, 4, 4, 128, 64]⟩
abbrev S1x8x4x1x128x64 : Shape := ⟨6, ![1, 8, 4, 1, 128, 64]⟩
abbrev S1x8x4x3x128x64 : Shape := ⟨6, ![1, 8, 4, 3, 128, 64]⟩
abbrev S1x8x4x4x256x64 : Shape := ⟨6, ![1, 8, 4, 4, 256, 64]⟩
abbrev S1x8x4x4x128x256 : Shape := ⟨6, ![1, 8, 4, 4, 128, 256]⟩
abbrev S4 : Shape := ⟨1, ![4]⟩
abbrev S4x1x1 : Shape := ⟨3, ![4, 1, 1]⟩
abbrev S4x128x1 : Shape := ⟨3, ![4, 128, 1]⟩
abbrev S4x1x256 : Shape := ⟨3, ![4, 1, 256]⟩
abbrev S4x128x256 : Shape := ⟨3, ![4, 128, 256]⟩
abbrev S1x8x4x4x128 : Shape := ⟨5, ![1, 8, 4, 4, 128]⟩
abbrev S1x8x4x4x128x1 : Shape := ⟨6, ![1, 8, 4, 4, 128, 1]⟩
abbrev S1x8x4x512 : Shape := ⟨4, ![1, 8, 4, 512]⟩
abbrev S1x8x512x4 : Shape := ⟨4, ![1, 8, 512, 4]⟩
abbrev S1x8x128x16x64 : Shape := ⟨5, ![1, 8, 128, 16, 64]⟩
abbrev S1x8x16x128x64 : Shape := ⟨5, ![1, 8, 16, 128, 64]⟩
abbrev S1x8x16x1x128x64 : Shape := ⟨6, ![1, 8, 16, 1, 128, 64]⟩
abbrev S1x8x16x0x128x64 : Shape := ⟨6, ![1, 8, 16, 0, 128, 64]⟩
abbrev S1x8x16x1x256x64 : Shape := ⟨6, ![1, 8, 16, 1, 256, 64]⟩
abbrev S1x8x16x1x128x256 : Shape := ⟨6, ![1, 8, 16, 1, 128, 256]⟩
abbrev S1 : Shape := ⟨1, ![1]⟩
abbrev S1x1x1 : Shape := ⟨3, ![1, 1, 1]⟩
abbrev S1x128x256 : Shape := ⟨3, ![1, 128, 256]⟩
abbrev S1x8x16x1x128 : Shape := ⟨5, ![1, 8, 16, 1, 128]⟩
abbrev S1x8x16x1x128x1 : Shape := ⟨6, ![1, 8, 16, 1, 128, 1]⟩
abbrev S1x8x16x128 : Shape := ⟨4, ![1, 8, 16, 128]⟩
abbrev S1x8x128x16 : Shape := ⟨4, ![1, 8, 128, 16]⟩
abbrev S1x2048x512 : Shape := ⟨3, ![1, 2048, 512]⟩
abbrev S8x2048 : Shape := ⟨2, ![8, 2048]⟩
abbrev S1x8x16x1x64x256 : Shape := ⟨6, ![1, 8, 16, 1, 64, 256]⟩
abbrev S8x16x128 : Shape := ⟨3, ![8, 16, 128]⟩
abbrev S1x8x4x4x64x256 : Shape := ⟨6, ![1, 8, 4, 4, 64, 256]⟩
abbrev S8x4x4x128 : Shape := ⟨4, ![8, 4, 4, 128]⟩
abbrev S1x8x1x16x64x256 : Shape := ⟨6, ![1, 8, 1, 16, 64, 256]⟩

abbrev nBuf : Space → Nat
  | .hbm => 603
  | .vmem => 0
  | .smem => 0
  | _ => 0

abbrev hbmTy0_0 (i : Nat) : BufTy := match i % 128 with
  | 0 => ⟨S2048x3592, .f32⟩
  | 1 => ⟨S2048x1024, .f32⟩
  | 2 => ⟨S2048x512, .f32⟩
  | 3 => ⟨S2048x512, .f32⟩
  | 4 => ⟨S2048x512, .f32⟩
  | 5 => ⟨S1x2048x8x64, .f32⟩
  | 6 => ⟨S1x2048x8x64, .f32⟩
  | 7 => ⟨S1x2048x8x64, .f32⟩
  | 8 => ⟨S1x8x2048x64, .f32⟩
  | 9 => ⟨S_, .f32⟩
  | 10 => ⟨S1x8x2048x64, .f32⟩
  | 11 => ⟨S1x8x2048x64, .f32⟩
  | 12 => ⟨S1x8x2048x64, .f32⟩
  | 13 => ⟨S1x8x2048x64, .f32⟩
  | 14 => ⟨S1x8x2048x1x64, .f32⟩
  | 15 => ⟨S1x8x1x2048x64, .f32⟩
  | 16 => ⟨S1x8x2048x1x64, .f32⟩
  | 17 => ⟨S1x8x1x2048x64, .f32⟩
  | 18 => ⟨S1x8x2048x1x64, .f32⟩
  | 19 => ⟨S1x8x1x2048x64, .f32⟩
  | 20 => ⟨S1x8x1x16x128x64, .f32⟩
  | 21 => ⟨S1x8x1x16x128x64, .f32⟩
  | 22 => ⟨S1x8x1x16x128x64, .f32⟩
  | 23 => ⟨S1x8x1x1x128x64, .f32⟩
  | 24 => ⟨S_, .f32⟩
  | 25 => ⟨S1x8x1x1x128x64, .f32⟩
  | 26 => ⟨S1x8x1x15x128x64, .f32⟩
  | 27 => ⟨S1x8x1x16x128x64, .f32⟩
  | 28 => ⟨S_, .f32⟩
  | 29 => ⟨S1x8x1x1x128x64, .f32⟩
  | 30 => ⟨S1x8x1x16x256x64, .f32⟩
  | 31 => ⟨S1x8x1x1x128x64, .f32⟩
  | 32 => ⟨S_, .f32⟩
  | 33 => ⟨S1x8x1x1x128x64, .f32⟩
  | 34 => ⟨S1x8x1x15x128x64, .f32⟩
  | 35 => ⟨S1x8x1x16x128x64, .f32⟩
  | 36 => ⟨S_, .f32⟩
  | 37 => ⟨S1x8x1x1x128x64, .f32⟩
  | 38 => ⟨S1x8x1x16x256x64, .f32⟩
  | 39 => ⟨S1x8x1x16x128x256, .f32⟩
  | 40 => ⟨S16, .i32⟩
  | 41 => ⟨S16x1x1, .i32⟩
  | 42 => ⟨S_, .i32⟩
  | 43 => ⟨S16x1x1, .i32⟩
  | 44 => ⟨S16x1x1, .i32⟩
  | 45 => ⟨S128, .i32⟩
  | 46 => ⟨S1x128x1, .i32⟩
  | 47 => ⟨S16x128x1, .i32⟩
  | 48 => ⟨S16x128x1, .i32⟩
  | 49 => ⟨S16x128x1, .i32⟩
  | 50 => ⟨S_, .i32⟩
  | 51 => ⟨S16x1x1, .i32⟩
  | 52 => ⟨S16x1x1, .i32⟩
  | 53 => ⟨S256, .i32⟩
  | 54 => ⟨S1x1x256, .i32⟩
  | 55 => ⟨S16x1x256, .i32⟩
  | 56 => ⟨S16x1x256, .i32⟩
  | 57 => ⟨S16x1x256, .i32⟩
  | 58 => ⟨S16x128x256, .i32⟩
  | 59 => ⟨S16x128x256, .i32⟩
  | 60 => ⟨S16x128x256, .i32⟩
  | 61 => ⟨S_, .i32⟩
  | 62 => ⟨S16x128x256, .i32⟩
  | 63 => ⟨S16x128x256, .i1⟩
  | 64 => ⟨S_, .i32⟩
  | 65 => ⟨S16x128x256, .i32⟩
  | 66 => ⟨S16x128x256, .i1⟩
  | 67 => ⟨S16x128x256, .i1⟩
  | 68 => ⟨S_, .i32⟩
  | 69 => ⟨S16x1x256, .i32⟩
  | 70 => ⟨S16x1x256, .i1⟩
  | 71 => ⟨S16x128x256, .i1⟩
  | 72 => ⟨S16x128x256, .i1⟩
  | 73 => ⟨S_, .f32⟩
  | 74 => ⟨S_, .f32⟩
  | 75 => ⟨S1x8x1x16x128x256, .i1⟩
  | 76 => ⟨S1x8x1x16x128x256, .f32⟩
  | 77 => ⟨S1x8x1x16x128x256, .f32⟩
  | 78 => ⟨S_, .f32⟩
  | 79 => ⟨S1x8x1x16x128x256, .f32⟩
  | 80 => ⟨S_, .f32⟩
  | 81 => ⟨S1x8x1x16x128, .f32⟩
  | 82 => ⟨S1x8x1x16x128x1, .f32⟩
  | 83 => ⟨S1x8x1x16x128x256, .f32⟩
  | 84 => ⟨S1x8x1x16x128x256, .i1⟩
  | 85 => ⟨S1x8x1x16x128x256, .f32⟩
  | 86 => ⟨S_, .f32⟩
  | 87 => ⟨S1x8x1x16x128, .f32⟩
  | 88 => ⟨S1x8x1x16x128x1, .f32⟩
  | 89 => ⟨S1x8x1x16x128x256, .f32⟩
  | 90 => ⟨S1x8x1x16x128x256, .f32⟩
  | 91 => ⟨S1x8x1x16x128x256, .f32⟩
  | 92 => ⟨S_, .f32⟩
  | 93 => ⟨S1x8x1x16x128, .f32⟩
  | 94 => ⟨S1x8x1x16x128x64, .f32⟩
  | 95 => ⟨S1x8x1x2048x64, .f32⟩
  | 96 => ⟨S1x8x1x2048, .f32⟩
  | 97 => ⟨S1x8x1x2048, .f32⟩
  | 98 => ⟨S1x8x2048x1x64, .f32⟩
  | 99 => ⟨S1x8x2048x64, .f32⟩
  | 100 => ⟨S1x8x2048x1, .f32⟩
  | 101 => ⟨S1x8x2048, .f32⟩
  | 102 => ⟨S1x8x2048x1, .f32⟩
  | 103 => ⟨S1x8x2048, .f32⟩
  | 104 => ⟨S1x8x512x4x64, .f32⟩
  | 105 => ⟨S1x8x4x512x64, .f32⟩
  | 106 => ⟨S1x8x512x4x64, .f32⟩
  | 107 => ⟨S1x8x4x512x64, .f32⟩
  | 108 => ⟨S1x8x512x4x64, .f32⟩
  | 109 => ⟨S1x8x4x512x64, .f32⟩
  | 110 => ⟨S1x8x4x4x128x64, .f32⟩
  | 111 => ⟨S1x8x4x4x128x64, .f32⟩
  | 112 => ⟨S1x8x4x4x128x64, .f32⟩
  | 113 => ⟨S1x8x4x1x128x64, .f32⟩
  | 114 => ⟨S_, .f32⟩
  | 115 => ⟨S1x8x4x1x128x64, .f32⟩
  | 116 => ⟨S1x8x4x3x128x64, .f32⟩
  | 117 => ⟨S1x8x4x4x128x64, .f32⟩
  | 118 => ⟨S_, .f32⟩
  | 119 => ⟨S1x8x4x1x128x64, .f32⟩
  | 120 => ⟨S1x8x4x4x256x64, .f32⟩
  | 121 => ⟨S1x8x4x1x128x64, .f32⟩
  | 122 => ⟨S_, .f32⟩
  | 123 => ⟨S1x8x4x1x128x64, .f32⟩
  | 124 => ⟨S1x8x4x3x128x64, .f32⟩
  | 125 => ⟨S1x8x4x4x128x64, .f32⟩
  | 126 => ⟨S_, .f32⟩
  | 127 => ⟨S1x8x4x1x128x64, .f32⟩
  | _ => ⟨S2048x3592, .f32⟩

abbrev hbmTy0_1 (i : Nat) : BufTy := match i % 128 with
  | 0 => ⟨S1x8x4x4x256x64, .f32⟩
  | 1 => ⟨S1x8x4x4x128x256, .f32⟩
  | 2 => ⟨S4, .i32⟩
  | 3 => ⟨S4x1x1, .i32⟩
  | 4 => ⟨S_, .i32⟩
  | 5 => ⟨S4x1x1, .i32⟩
  | 6 => ⟨S4x1x1, .i32⟩
  | 7 => ⟨S128, .i32⟩
  | 8 => ⟨S1x128x1, .i32⟩
  | 9 => ⟨S4x128x1, .i32⟩
  | 10 => ⟨S4x128x1, .i32⟩
  | 11 => ⟨S4x128x1, .i32⟩
  | 12 => ⟨S_, .i32⟩
  | 13 => ⟨S4x1x1, .i32⟩
  | 14 => ⟨S4x1x1, .i32⟩
  | 15 => ⟨S256, .i32⟩
  | 16 => ⟨S1x1x256, .i32⟩
  | 17 => ⟨S4x1x256, .i32⟩
  | 18 => ⟨S4x1x256, .i32⟩
  | 19 => ⟨S4x1x256, .i32⟩
  | 20 => ⟨S4x128x256, .i32⟩
  | 21 => ⟨S4x128x256, .i32⟩
  | 22 => ⟨S4x128x256, .i32⟩
  | 23 => ⟨S_, .i32⟩
  | 24 => ⟨S4x128x256, .i32⟩
  | 25 => ⟨S4x128x256, .i1⟩
  | 26 => ⟨S_, .i32⟩
  | 27 => ⟨S4x128x256, .i32⟩
  | 28 => ⟨S4x128x256, .i1⟩
  | 29 => ⟨S4x128x256, .i1⟩
  | 30 => ⟨S_, .i32⟩
  | 31 => ⟨S4x1x256, .i32⟩
  | 32 => ⟨S4x1x256, .i1⟩
  | 33 => ⟨S4x128x256, .i1⟩
  | 34 => ⟨S4x128x256, .i1⟩
  | 35 => ⟨S_, .f32⟩
  | 36 => ⟨S_, .f32⟩
  | 37 => ⟨S1x8x4x4x128x256, .i1⟩
  | 38 => ⟨S1x8x4x4x128x256, .f32⟩
  | 39 => ⟨S1x8x4x4x128x256, .f32⟩
  | 40 => ⟨S_, .f32⟩
  | 41 => ⟨S1x8x4x4x128x256, .f32⟩
  | 42 => ⟨S_, .f32⟩
  | 43 => ⟨S1x8x4x4x128, .f32⟩
  | 44 => ⟨S1x8x4x4x128x1, .f32⟩
  | 45 => ⟨S1x8x4x4x128x256, .f32⟩
  | 46 => ⟨S1x8x4x4x128x256, .i1⟩
  | 47 => ⟨S1x8x4x4x128x256, .f32⟩
  | 48 => ⟨S_, .f32⟩
  | 49 => ⟨S1x8x4x4x128, .f32⟩
  | 50 => ⟨S1x8x4x4x128x1, .f32⟩
  | 51 => ⟨S1x8x4x4x128x256, .f32⟩
  | 52 => ⟨S1x8x4x4x128x256, .f32⟩
  | 53 => ⟨S1x8x4x4x128x256, .f32⟩
  | 54 => ⟨S_, .f32⟩
  | 55 => ⟨S1x8x4x4x128, .f32⟩
  | 56 => ⟨S1x8x4x4x128x64, .f32⟩
  | 57 => ⟨S1x8x4x512x64, .f32⟩
  | 58 => ⟨S1x8x4x512, .f32⟩
  | 59 => ⟨S1x8x4x512, .f32⟩
  | 60 => ⟨S1x8x512x4x64, .f32⟩
  | 61 => ⟨S1x8x2048x64, .f32⟩
  | 62 => ⟨S1x8x512x4, .f32⟩
  | 63 => ⟨S1x8x2048, .f32⟩
  | 64 => ⟨S1x8x512x4, .f32⟩
  | 65 => ⟨S1x8x2048, .f32⟩
  | 66 => ⟨S1x8x128x16x64, .f32⟩
  | 67 => ⟨S1x8x16x128x64, .f32⟩
  | 68 => ⟨S1x8x128x16x64, .f32⟩
  | 69 => ⟨S1x8x16x128x64, .f32⟩
  | 70 => ⟨S1x8x128x16x64, .f32⟩
  | 71 => ⟨S1x8x16x128x64, .f32⟩
  | 72 => ⟨S1x8x16x1x128x64, .f32⟩
  | 73 => ⟨S1x8x16x1x128x64, .f32⟩
  | 74 => ⟨S1x8x16x1x128x64, .f32⟩
  | 75 => ⟨S_, .f32⟩
  | 76 => ⟨S1x8x16x1x128x64, .f32⟩
  | 77 => ⟨S1x8x16x0x128x64, .f32⟩
  | 78 => ⟨S1x8x16x1x128x64, .f32⟩
  | 79 => ⟨S_, .f32⟩
  | 80 => ⟨S1x8x16x1x128x64, .f32⟩
  | 81 => ⟨S1x8x16x1x256x64, .f32⟩
  | 82 => ⟨S_, .f32⟩
  | 83 => ⟨S1x8x16x1x128x64, .f32⟩
  | 84 => ⟨S1x8x16x0x128x64, .f32⟩
  | 85 => ⟨S1x8x16x1x128x64, .f32⟩
  | 86 => ⟨S_, .f32⟩
  | 87 => ⟨S1x8x16x1x128x64, .f32⟩
  | 88 => ⟨S1x8x16x1x256x64, .f32⟩
  | 89 => ⟨S1x8x16x1x128x256, .f32⟩
  | 90 => ⟨S1, .i32⟩
  | 91 => ⟨S1x1x1, .i32⟩
  | 92 => ⟨S_, .i32⟩
  | 93 => ⟨S1x1x1, .i32⟩
  | 94 => ⟨S1x1x1, .i32⟩
  | 95 => ⟨S128, .i32⟩
  | 96 => ⟨S1x128x1, .i32⟩
  | 97 => ⟨S1x128x1, .i32⟩
  | 98 => ⟨S1x128x1, .i32⟩
  | 99 => ⟨S_, .i32⟩
  | 100 => ⟨S1x1x1, .i32⟩
  | 101 => ⟨S1x1x1, .i32⟩
  | 102 => ⟨S256, .i32⟩
  | 103 => ⟨S1x1x256, .i32⟩
  | 104 => ⟨S1x1x256, .i32⟩
  | 105 => ⟨S1x1x256, .i32⟩
  | 106 => ⟨S1x128x256, .i32⟩
  | 107 => ⟨S1x128x256, .i32⟩
  | 108 => ⟨S1x128x256, .i32⟩
  | 109 => ⟨S_, .i32⟩
  | 110 => ⟨S1x128x256, .i32⟩
  | 111 => ⟨S1x128x256, .i1⟩
  | 112 => ⟨S_, .i32⟩
  | 113 => ⟨S1x128x256, .i32⟩
  | 114 => ⟨S1x128x256, .i1⟩
  | 115 => ⟨S1x128x256, .i1⟩
  | 116 => ⟨S_, .i32⟩
  | 117 => ⟨S1x1x256, .i32⟩
  | 118 => ⟨S1x1x256, .i1⟩
  | 119 => ⟨S1x128x256, .i1⟩
  | 120 => ⟨S1x128x256, .i1⟩
  | 121 => ⟨S_, .f32⟩
  | 122 => ⟨S_, .f32⟩
  | 123 => ⟨S1x8x16x1x128x256, .i1⟩
  | 124 => ⟨S1x8x16x1x128x256, .f32⟩
  | 125 => ⟨S1x8x16x1x128x256, .f32⟩
  | 126 => ⟨S_, .f32⟩
  | 127 => ⟨S1x8x16x1x128x256, .f32⟩
  | _ => ⟨S2048x3592, .f32⟩

abbrev hbmTy0_2 (i : Nat) : BufTy := match i % 128 with
  | 0 => ⟨S_, .f32⟩
  | 1 => ⟨S1x8x16x1x128, .f32⟩
  | 2 => ⟨S1x8x16x1x128x1, .f32⟩
  | 3 => ⟨S1x8x16x1x128x256, .f32⟩
  | 4 => ⟨S1x8x16x1x128x256, .i1⟩
  | 5 => ⟨S1x8x16x1x128x256, .f32⟩
  | 6 => ⟨S_, .f32⟩
  | 7 => ⟨S1x8x16x1x128, .f32⟩
  | 8 => ⟨S1x8x16x1x128x1, .f32⟩
  | 9 => ⟨S1x8x16x1x128x256, .f32⟩
  | 10 => ⟨S1x8x16x1x128x256, .f32⟩
  | 11 => ⟨S1x8x16x1x128x256, .f32⟩
  | 12 => ⟨S_, .f32⟩
  | 13 => ⟨S1x8x16x1x128, .f32⟩
  | 14 => ⟨S1x8x16x1x128x64, .f32⟩
  | 15 => ⟨S1x8x16x128x64, .f32⟩
  | 16 => ⟨S1x8x16x128, .f32⟩
  | 17 => ⟨S1x8x16x128, .f32⟩
  | 18 => ⟨S1x8x128x16x64, .f32⟩
  | 19 => ⟨S1x8x2048x64, .f32⟩
  | 20 => ⟨S1x8x128x16, .f32⟩
  | 21 => ⟨S1x8x2048, .f32⟩
  | 22 => ⟨S1x8x128x16, .f32⟩
  | 23 => ⟨S1x8x2048, .f32⟩
  | 24 => ⟨S1x8x2048, .f32⟩
  | 25 => ⟨S1x8x2048, .i1⟩
  | 26 => ⟨S1x8x2048, .i1⟩
  | 27 => ⟨S_, .f32⟩
  | 28 => ⟨S1x8x2048, .f32⟩
  | 29 => ⟨S_, .f32⟩
  | 30 => ⟨S1x8x2048, .f32⟩
  | 31 => ⟨S_, .f32⟩
  | 32 => ⟨S1x8x2048, .f32⟩
  | 33 => ⟨S1x8x2048, .f32⟩
  | 34 => ⟨S1x8x2048, .f32⟩
  | 35 => ⟨S1x8x2048, .i1⟩
  | 36 => ⟨S1x8x2048, .i1⟩
  | 37 => ⟨S_, .f32⟩
  | 38 => ⟨S1x8x2048, .f32⟩
  | 39 => ⟨S_, .f32⟩
  | 40 => ⟨S1x8x2048, .f32⟩
  | 41 => ⟨S_, .f32⟩
  | 42 => ⟨S1x8x2048, .f32⟩
  | 43 => ⟨S1x8x2048, .f32⟩
  | 44 => ⟨S1x8x2048, .f32⟩
  | 45 => ⟨S1x8x2048, .f32⟩
  | 46 => ⟨S1x8x2048, .i1⟩
  | 47 => ⟨S1x8x2048, .i1⟩
  | 48 => ⟨S_, .f32⟩
  | 49 => ⟨S1x8x2048, .f32⟩
  | 50 => ⟨S_, .f32⟩
  | 51 => ⟨S1x8x2048, .f32⟩
  | 52 => ⟨S_, .f32⟩
  | 53 => ⟨S1x8x2048, .f32⟩
  | 54 => ⟨S1x8x2048, .f32⟩
  | 55 => ⟨S1x8x2048, .f32⟩
  | 56 => ⟨S1x8x2048, .i1⟩
  | 57 => ⟨S1x8x2048, .i1⟩
  | 58 => ⟨S_, .f32⟩
  | 59 => ⟨S1x8x2048, .f32⟩
  | 60 => ⟨S_, .f32⟩
  | 61 => ⟨S1x8x2048, .f32⟩
  | 62 => ⟨S_, .f32⟩
  | 63 => ⟨S1x8x2048, .f32⟩
  | 64 => ⟨S1x8x2048, .f32⟩
  | 65 => ⟨S1x8x2048, .f32⟩
  | 66 => ⟨S1x8x2048, .f32⟩
  | 67 => ⟨S1x8x2048, .f32⟩
  | 68 => ⟨S1x8x2048, .f32⟩
  | 69 => ⟨S1x8x2048, .f32⟩
  | 70 => ⟨S1x8x2048, .f32⟩
  | 71 => ⟨S1x8x2048, .f32⟩
  | 72 => ⟨S1x8x2048x1, .f32⟩
  | 73 => ⟨S1x8x2048x64, .f32⟩
  | 74 => ⟨S1x8x2048x64, .f32⟩
  | 75 => ⟨S1x8x2048x1, .f32⟩
  | 76 => ⟨S1x8x2048x64, .f32⟩
  | 77 => ⟨S1x8x2048x64, .f32⟩
  | 78 => ⟨S1x8x2048x64, .f32⟩
  | 79 => ⟨S1x8x2048x1, .f32⟩
  | 80 => ⟨S1x8x2048x64, .f32⟩
  | 81 => ⟨S1x8x2048x64, .f32⟩
  | 82 => ⟨S1x8x2048x64, .f32⟩
  | 83 => ⟨S1x8x2048, .f32⟩
  | 84 => ⟨S1x8x2048, .f32⟩
  | 85 => ⟨S1x8x2048, .f32⟩
  | 86 => ⟨S1x8x2048, .f32⟩
  | 87 => ⟨S1x8x2048, .f32⟩
  | 88 => ⟨S1x8x2048x1, .f32⟩
  | 89 => ⟨S1x8x2048x64, .f32⟩
  | 90 => ⟨S1x8x2048x64, .f32⟩
  | 91 => ⟨S1x8x2048x1, .f32⟩
  | 92 => ⟨S_, .f32⟩
  | 93 => ⟨S1x8x2048x1, .f32⟩
  | 94 => ⟨S1x8x2048x1, .f32⟩
  | 95 => ⟨S1x2048x8x64, .f32⟩
  | 96 => ⟨S1x2048x512, .f32⟩
  | 97 => ⟨S2048x512, .f32⟩
  | 98 => ⟨S1x2048x512, .f32⟩
  | 99 => ⟨S1x2048x8x64, .f32⟩
  | 100 => ⟨S1x8x2048x64, .f32⟩
  | 101 => ⟨S1x8x2048x64, .f32⟩
  | 102 => ⟨S1x8x2048x64, .f32⟩
  | 103 => ⟨S1x8x2048x64, .f32⟩
  | 104 => ⟨S_, .f32⟩
  | 105 => ⟨S1x8x2048, .f32⟩
  | 106 => ⟨S1x8x2048x1, .f32⟩
  | 107 => ⟨S1x8x2048x1, .f32⟩
  | 108 => ⟨S1x8x2048x64, .f32⟩
  | 109 => ⟨S1x8x2048x64, .f32⟩
  | 110 => ⟨S_, .f32⟩
  | 111 => ⟨S8x2048, .f32⟩
  | 112 => ⟨S1x8x2048, .f32⟩
  | 113 => ⟨S1x8x2048, .f32⟩
  | 114 => ⟨S1x8x2048, .f32⟩
  | 115 => ⟨S1x8x2048, .f32⟩
  | 116 => ⟨S1x8x2048, .f32⟩
  | 117 => ⟨S1x8x2048, .f32⟩
  | 118 => ⟨S1x8x2048, .f32⟩
  | 119 => ⟨S1x8x2048x64, .f32⟩
  | 120 => ⟨S1x8x2048x64, .f32⟩
  | 121 => ⟨S1x8x2048x64, .f32⟩
  | 122 => ⟨S_, .f32⟩
  | 123 => ⟨S1x8x2048, .f32⟩
  | 124 => ⟨S1x8x2048x1, .f32⟩
  | 125 => ⟨S_, .f32⟩
  | 126 => ⟨S8x2048, .f32⟩
  | 127 => ⟨S1x8x2048, .f32⟩
  | _ => ⟨S2048x3592, .f32⟩

abbrev hbmTy0_3 (i : Nat) : BufTy := match i % 128 with
  | 0 => ⟨S1x8x2048, .f32⟩
  | 1 => ⟨S1x8x2048x64, .f32⟩
  | 2 => ⟨S1x8x2048x64, .f32⟩
  | 3 => ⟨S1x8x2048x64, .f32⟩
  | 4 => ⟨S_, .f32⟩
  | 5 => ⟨S1x8x2048, .f32⟩
  | 6 => ⟨S1x8x2048x1, .f32⟩
  | 7 => ⟨S_, .f32⟩
  | 8 => ⟨S8x2048, .f32⟩
  | 9 => ⟨S1x8x2048, .f32⟩
  | 10 => ⟨S1x8x2048, .f32⟩
  | 11 => ⟨S1x8x2048x64, .f32⟩
  | 12 => ⟨S1x8x2048x64, .f32⟩
  | 13 => ⟨S1x8x2048x64, .f32⟩
  | 14 => ⟨S_, .f32⟩
  | 15 => ⟨S1x8x2048, .f32⟩
  | 16 => ⟨S1x8x2048x1, .f32⟩
  | 17 => ⟨S_, .f32⟩
  | 18 => ⟨S8x2048, .f32⟩
  | 19 => ⟨S1x8x2048, .f32⟩
  | 20 => ⟨S1x8x2048, .f32⟩
  | 21 => ⟨S1x8x2048, .f32⟩
  | 22 => ⟨S1x8x2048, .f32⟩
  | 23 => ⟨S1x8x2048, .f32⟩
  | 24 => ⟨S1x8x2048, .f32⟩
  | 25 => ⟨S1x8x2048, .f32⟩
  | 26 => ⟨S1x8x2048, .f32⟩
  | 27 => ⟨S1x8x2048, .f32⟩
  | 28 => ⟨S1x8x2048, .f32⟩
  | 29 => ⟨S1x8x2048, .f32⟩
  | 30 => ⟨S1x8x2048, .f32⟩
  | 31 => ⟨S1x8x2048, .f32⟩
  | 32 => ⟨S1x8x2048, .f32⟩
  | 33 => ⟨S1x8x2048, .f32⟩
  | 34 => ⟨S1x8x2048, .f32⟩
  | 35 => ⟨S1x8x2048, .f32⟩
  | 36 => ⟨S1x8x128x16, .f32⟩
  | 37 => ⟨S1x8x16x128, .f32⟩
  | 38 => ⟨S1x8x128x16, .f32⟩
  | 39 => ⟨S1x8x16x128, .f32⟩
  | 40 => ⟨S1x8x128x16x64, .f32⟩
  | 41 => ⟨S1x8x16x128x64, .f32⟩
  | 42 => ⟨S1x8x16x1x128, .f32⟩
  | 43 => ⟨S1x8x16x1x128, .f32⟩
  | 44 => ⟨S1x8x16x1x128x64, .f32⟩
  | 45 => ⟨S1x8x16x1x64x256, .f32⟩
  | 46 => ⟨S1x8x16x1x256x64, .f32⟩
  | 47 => ⟨S1x8x16x1x128x256, .f32⟩
  | 48 => ⟨S1x8x16x1x128x256, .f32⟩
  | 49 => ⟨S1x8x16x1x128x256, .f32⟩
  | 50 => ⟨S1x8x16x1x128x256, .f32⟩
  | 51 => ⟨S1x8x16x1x128x256, .f32⟩
  | 52 => ⟨S_, .f32⟩
  | 53 => ⟨S1x8x16x1x128, .f32⟩
  | 54 => ⟨S1x8x16x1x128x1, .f32⟩
  | 55 => ⟨S_, .f32⟩
  | 56 => ⟨S8x16x128, .f32⟩
  | 57 => ⟨S1x8x16x1x128, .f32⟩
  | 58 => ⟨S1x8x16x1x128, .f32⟩
  | 59 => ⟨S1x8x16x1x128, .f32⟩
  | 60 => ⟨S1x8x16x1x128x256, .f32⟩
  | 61 => ⟨S1x8x16x1x128x256, .f32⟩
  | 62 => ⟨S1x8x16x1x128x256, .f32⟩
  | 63 => ⟨S_, .f32⟩
  | 64 => ⟨S1x8x16x1x128x256, .f32⟩
  | 65 => ⟨S1x8x16x1x128x256, .f32⟩
  | 66 => ⟨S1x8x16x1x256x64, .f32⟩
  | 67 => ⟨S1x8x16x1x128x64, .f32⟩
  | 68 => ⟨S1x8x16x1x128x64, .f32⟩
  | 69 => ⟨S1x8x16x1x128x64, .f32⟩
  | 70 => ⟨S1x8x16x1x128x64, .f32⟩
  | 71 => ⟨S1x8x16x0x128x64, .f32⟩
  | 72 => ⟨S_, .f32⟩
  | 73 => ⟨S1x8x16x1x128x64, .f32⟩
  | 74 => ⟨S1x8x16x1x128x64, .f32⟩
  | 75 => ⟨S1x8x16x1x128x64, .f32⟩
  | 76 => ⟨S1x8x16x1x128x64, .f32⟩
  | 77 => ⟨S1x8x16x1x128x64, .f32⟩
  | 78 => ⟨S1x8x16x0x128x64, .f32⟩
  | 79 => ⟨S_, .f32⟩
  | 80 => ⟨S1x8x16x1x128x64, .f32⟩
  | 81 => ⟨S1x8x16x1x128x64, .f32⟩
  | 82 => ⟨S1x8x16x128x64, .f32⟩
  | 83 => ⟨S1x8x16x128x64, .f32⟩
  | 84 => ⟨S1x8x16x128x64, .f32⟩
  | 85 => ⟨S1x8x128x16x64, .f32⟩
  | 86 => ⟨S1x8x2048x64, .f32⟩
  | 87 => ⟨S1x8x128x16x64, .f32⟩
  | 88 => ⟨S1x8x2048x64, .f32⟩
  | 89 => ⟨S1x8x128x16x64, .f32⟩
  | 90 => ⟨S1x8x2048x64, .f32⟩
  | 91 => ⟨S1x8x512x4, .f32⟩
  | 92 => ⟨S1x8x4x512, .f32⟩
  | 93 => ⟨S1x8x512x4, .f32⟩
  | 94 => ⟨S1x8x4x512, .f32⟩
  | 95 => ⟨S1x8x512x4x64, .f32⟩
  | 96 => ⟨S1x8x4x512x64, .f32⟩
  | 97 => ⟨S1x8x4x4x128, .f32⟩
  | 98 => ⟨S1x8x4x4x128, .f32⟩
  | 99 => ⟨S1x8x4x4x128x64, .f32⟩
  | 100 => ⟨S1x8x4x4x64x256, .f32⟩
  | 101 => ⟨S1x8x4x4x256x64, .f32⟩
  | 102 => ⟨S1x8x4x4x128x256, .f32⟩
  | 103 => ⟨S1x8x4x4x128x256, .f32⟩
  | 104 => ⟨S1x8x4x4x128x256, .f32⟩
  | 105 => ⟨S1x8x4x4x128x256, .f32⟩
  | 106 => ⟨S1x8x4x4x128x256, .f32⟩
  | 107 => ⟨S_, .f32⟩
  | 108 => ⟨S1x8x4x4x128, .f32⟩
  | 109 => ⟨S1x8x4x4x128x1, .f32⟩
  | 110 => ⟨S_, .f32⟩
  | 111 => ⟨S8x4x4x128, .f32⟩
  | 112 => ⟨S1x8x4x4x128, .f32⟩
  | 113 => ⟨S1x8x4x4x128, .f32⟩
  | 114 => ⟨S1x8x4x4x128, .f32⟩
  | 115 => ⟨S1x8x4x4x128x256, .f32⟩
  | 116 => ⟨S1x8x4x4x128x256, .f32⟩
  | 117 => ⟨S1x8x4x4x128x256, .f32⟩
  | 118 => ⟨S_, .f32⟩
  | 119 => ⟨S1x8x4x4x128x256, .f32⟩
  | 120 => ⟨S1x8x4x4x128x256, .f32⟩
  | 121 => ⟨S1x8x4x4x256x64, .f32⟩
  | 122 => ⟨S1x8x4x4x128x64, .f32⟩
  | 123 => ⟨S1x8x4x4x128x64, .f32⟩
  | 124 => ⟨S1x8x4x4x128x64, .f32⟩
  | 125 => ⟨S1x8x4x1x128x64, .f32⟩
  | 126 => ⟨S1x8x4x3x128x64, .f32⟩
  | 127 => ⟨S_, .f32⟩
  | _ => ⟨S2048x3592, .f32⟩

abbrev hbmTy0_4 (i : Nat) : BufTy := match i % 128 with
  | 0 => ⟨S1x8x4x4x128x64, .f32⟩
  | 1 => ⟨S1x8x4x4x128x64, .f32⟩
  | 2 => ⟨S1x8x4x4x128x64, .f32⟩
  | 3 => ⟨S1x8x4x4x128x64, .f32⟩
  | 4 => ⟨S1x8x4x1x128x64, .f32⟩
  | 5 => ⟨S1x8x4x3x128x64, .f32⟩
  | 6 => ⟨S_, .f32⟩
  | 7 => ⟨S1x8x4x4x128x64, .f32⟩
  | 8 => ⟨S1x8x4x4x128x64, .f32⟩
  | 9 => ⟨S1x8x4x512x64, .f32⟩
  | 10 => ⟨S1x8x4x512x64, .f32⟩
  | 11 => ⟨S1x8x4x512x64, .f32⟩
  | 12 => ⟨S1x8x512x4x64, .f32⟩
  | 13 => ⟨S1x8x2048x64, .f32⟩
  | 14 => ⟨S1x8x2048x64, .f32⟩
  | 15 => ⟨S1x8x512x4x64, .f32⟩
  | 16 => ⟨S1x8x2048x64, .f32⟩
  | 17 => ⟨S1x8x2048x64, .f32⟩
  | 18 => ⟨S1x8x512x4x64, .f32⟩
  | 19 => ⟨S1x8x2048x64, .f32⟩
  | 20 => ⟨S1x8x2048x64, .f32⟩
  | 21 => ⟨S1x8x2048x1, .f32⟩
  | 22 => ⟨S1x8x1x2048, .f32⟩
  | 23 => ⟨S1x8x2048x1, .f32⟩
  | 24 => ⟨S1x8x1x2048, .f32⟩
  | 25 => ⟨S1x8x2048x1x64, .f32⟩
  | 26 => ⟨S1x8x1x2048x64, .f32⟩
  | 27 => ⟨S1x8x1x16x128, .f32⟩
  | 28 => ⟨S1x8x1x16x128, .f32⟩
  | 29 => ⟨S1x8x1x16x128x64, .f32⟩
  | 30 => ⟨S1x8x1x16x64x256, .f32⟩
  | 31 => ⟨S1x8x1x16x256x64, .f32⟩
  | 32 => ⟨S1x8x1x16x128x256, .f32⟩
  | 33 => ⟨S1x8x1x16x128x256, .f32⟩
  | 34 => ⟨S1x8x1x16x128x256, .f32⟩
  | 35 => ⟨S1x8x1x16x128x256, .f32⟩
  | 36 => ⟨S1x8x1x16x128x256, .f32⟩
  | 37 => ⟨S_, .f32⟩
  | 38 => ⟨S1x8x1x16x128, .f32⟩
  | 39 => ⟨S1x8x1x16x128x1, .f32⟩
  | 40 => ⟨S_, .f32⟩
  | 41 => ⟨S8x16x128, .f32⟩
  | 42 => ⟨S1x8x1x16x128, .f32⟩
  | 43 => ⟨S1x8x1x16x128, .f32⟩
  | 44 => ⟨S1x8x1x16x128, .f32⟩
  | 45 => ⟨S1x8x1x16x128x256, .f32⟩
  | 46 => ⟨S1x8x1x16x128x256, .f32⟩
  | 47 => ⟨S1x8x1x16x128x256, .f32⟩
  | 48 => ⟨S_, .f32⟩
  | 49 => ⟨S1x8x1x16x128x256, .f32⟩
  | 50 => ⟨S1x8x1x16x128x256, .f32⟩
  | 51 => ⟨S1x8x1x16x256x64, .f32⟩
  | 52 => ⟨S1x8x1x16x128x64, .f32⟩
  | 53 => ⟨S1x8x1x16x128x64, .f32⟩
  | 54 => ⟨S1x8x1x16x128x64, .f32⟩
  | 55 => ⟨S1x8x1x1x128x64, .f32⟩
  | 56 => ⟨S1x8x1x15x128x64, .f32⟩
  | 57 => ⟨S_, .f32⟩
  | 58 => ⟨S1x8x1x16x128x64, .f32⟩
  | 59 => ⟨S1x8x1x16x128x64, .f32⟩
  | 60 => ⟨S1x8x1x16x128x64, .f32⟩
  | 61 => ⟨S1x8x1x16x128x64, .f32⟩
  | 62 => ⟨S1x8x1x1x128x64, .f32⟩
  | 63 => ⟨S1x8x1x15x128x64, .f32⟩
  | 64 => ⟨S_, .f32⟩
  | 65 => ⟨S1x8x1x16x128x64, .f32⟩
  | 66 => ⟨S1x8x1x16x128x64, .f32⟩
  | 67 => ⟨S1x8x1x2048x64, .f32⟩
  | 68 => ⟨S1x8x1x2048x64, .f32⟩
  | 69 => ⟨S1x8x1x2048x64, .f32⟩
  | 70 => ⟨S1x8x2048x1x64, .f32⟩
  | 71 => ⟨S1x8x2048x64, .f32⟩
  | 72 => ⟨S1x8x2048x64, .f32⟩
  | 73 => ⟨S1x8x2048x1x64, .f32⟩
  | 74 => ⟨S1x8x2048x64, .f32⟩
  | 75 => ⟨S1x8x2048x64, .f32⟩
  | 76 => ⟨S1x8x2048x1x64, .f32⟩
  | 77 => ⟨S1x8x2048x64, .f32⟩
  | 78 => ⟨S1x8x2048x64, .f32⟩
  | 79 => ⟨S1x2048x8x64, .f32⟩
  | 80 => ⟨S1x2048x8x64, .f32⟩
  | 81 => ⟨S_, .f32⟩
  | 82 => ⟨S1x8x2048x64, .f32⟩
  | 83 => ⟨S1x8x2048x64, .f32⟩
  | 84 => ⟨S1x2048x8x64, .f32⟩
  | 85 => ⟨S2048x512, .f32⟩
  | 86 => ⟨S2048x512, .f32⟩
  | 87 => ⟨S2048x512, .f32⟩
  | 88 => ⟨S2048x512, .bf16⟩
  | 89 => ⟨S2048x512, .bf16⟩
  | 90 => ⟨S2048x512, .bf16⟩
  | _ => ⟨S2048x3592, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x3592, .f32⟩

abbrev bufTy : (tb : Table) → Fin (tcTables nBuf tb) → BufTy
  | .hbm, ⟨i, _⟩ => hbmTy i
  | _, _ => ⟨S2048x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_5 : Ref sig .tc := ⟨.hbm, 61, rfl⟩
abbrev main_v52 : Ref sig .tc := ⟨.hbm, 62, rfl⟩
abbrev main_v53 : Ref sig .tc := ⟨.hbm, 63, rfl⟩
abbrev main_c_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_c_7 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_call0_v0 : Ref sig .tc := ⟨.hbm, 74, rfl⟩
abbrev main_v61_1 : Ref sig .tc := ⟨.hbm, 75, rfl⟩
abbrev main_call0_v2 : Ref sig .tc := ⟨.hbm, 76, rfl⟩
abbrev main_v61_0 : Ref sig .tc := ⟨.hbm, 77, rfl⟩
abbrev main_call0_cst : Ref sig .tc := ⟨.hbm, 78, rfl⟩
abbrev main_v61_2 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_13 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_14 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_16 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_c_17 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_18 : Ref sig .tc := ⟨.hbm, 151, rfl⟩
abbrev main_v124 : Ref sig .tc := ⟨.hbm, 152, rfl⟩
abbrev main_v125 : Ref sig .tc := ⟨.hbm, 153, rfl⟩
abbrev main_c_19 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_c_20 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_21 : Ref sig .tc := ⟨.hbm, 163, rfl⟩
abbrev main_call1_v0 : Ref sig .tc := ⟨.hbm, 164, rfl⟩
abbrev main_v133_1 : Ref sig .tc := ⟨.hbm, 165, rfl⟩
abbrev main_call1_v2 : Ref sig .tc := ⟨.hbm, 166, rfl⟩
abbrev main_v133_0 : Ref sig .tc := ⟨.hbm, 167, rfl⟩
abbrev main_call1_cst : Ref sig .tc := ⟨.hbm, 168, rfl⟩
abbrev main_v133_2 : Ref sig .tc := ⟨.hbm, 169, rfl⟩
abbrev main_cst_22 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_23 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_24 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_cst_25 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_26 : Ref sig .tc := ⟨.hbm, 207, rfl⟩
abbrev main_v167 : Ref sig .tc := ⟨.hbm, 208, rfl⟩
abbrev main_v168 : Ref sig .tc := ⟨.hbm, 209, rfl⟩
abbrev main_cst_27 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_28 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_c_29 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_c_30 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_c_31 : Ref sig .tc := ⟨.hbm, 237, rfl⟩
abbrev main_v192 : Ref sig .tc := ⟨.hbm, 238, rfl⟩
abbrev main_v193 : Ref sig .tc := ⟨.hbm, 239, rfl⟩
abbrev main_c_32 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_c_33 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_34 : Ref sig .tc := ⟨.hbm, 249, rfl⟩
abbrev main_call2_v0 : Ref sig .tc := ⟨.hbm, 250, rfl⟩
abbrev main_v201_1 : Ref sig .tc := ⟨.hbm, 251, rfl⟩
abbrev main_call2_v2 : Ref sig .tc := ⟨.hbm, 252, rfl⟩
abbrev main_v201_0 : Ref sig .tc := ⟨.hbm, 253, rfl⟩
abbrev main_call2_cst : Ref sig .tc := ⟨.hbm, 254, rfl⟩
abbrev main_v201_2 : Ref sig .tc := ⟨.hbm, 255, rfl⟩
abbrev main_cst_35 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_36 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_cst_37 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_cst_38 : Ref sig .tc := ⟨.hbm, 283, rfl⟩
abbrev main_v226 : Ref sig .tc := ⟨.hbm, 284, rfl⟩
abbrev main_cst_39 : Ref sig .tc := ⟨.hbm, 285, rfl⟩
abbrev main_v227 : Ref sig .tc := ⟨.hbm, 286, rfl⟩
abbrev main_cst_40 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_cst_41 : Ref sig .tc := ⟨.hbm, 293, rfl⟩
abbrev main_v233 : Ref sig .tc := ⟨.hbm, 294, rfl⟩
abbrev main_cst_42 : Ref sig .tc := ⟨.hbm, 295, rfl⟩
abbrev main_v234 : Ref sig .tc := ⟨.hbm, 296, rfl⟩
abbrev main_cst_43 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_cst_44 : Ref sig .tc := ⟨.hbm, 304, rfl⟩
abbrev main_v241 : Ref sig .tc := ⟨.hbm, 305, rfl⟩
abbrev main_cst_45 : Ref sig .tc := ⟨.hbm, 306, rfl⟩
abbrev main_v242 : Ref sig .tc := ⟨.hbm, 307, rfl⟩
abbrev main_cst_46 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_cst_47 : Ref sig .tc := ⟨.hbm, 314, rfl⟩
abbrev main_v248 : Ref sig .tc := ⟨.hbm, 315, rfl⟩
abbrev main_cst_48 : Ref sig .tc := ⟨.hbm, 316, rfl⟩
abbrev main_v249 : Ref sig .tc := ⟨.hbm, 317, rfl⟩
abbrev main_cst_49 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_cst_50 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_cst_51 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_cst_52 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_cst_53 : Ref sig .tc := ⟨.hbm, 378, rfl⟩
abbrev main_v306 : Ref sig .tc := ⟨.hbm, 379, rfl⟩
abbrev main_v307 : Ref sig .tc := ⟨.hbm, 380, rfl⟩
abbrev main_cst_54 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_cst_55 : Ref sig .tc := ⟨.hbm, 388, rfl⟩
abbrev main_v314 : Ref sig .tc := ⟨.hbm, 389, rfl⟩
abbrev main_v315 : Ref sig .tc := ⟨.hbm, 390, rfl⟩
abbrev main_cst_56 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_cst_57 : Ref sig .tc := ⟨.hbm, 398, rfl⟩
abbrev main_v322 : Ref sig .tc := ⟨.hbm, 399, rfl⟩
abbrev main_v323 : Ref sig .tc := ⟨.hbm, 400, rfl⟩
abbrev main_cst_58 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_cst_59 : Ref sig .tc := ⟨.hbm, 436, rfl⟩
abbrev main_v358 : Ref sig .tc := ⟨.hbm, 437, rfl⟩
abbrev main_v359 : Ref sig .tc := ⟨.hbm, 438, rfl⟩
abbrev main_cst_60 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_call3_cst : Ref sig .tc := ⟨.hbm, 447, rfl⟩
abbrev main_call3_v0 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_cst_61 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_cst_62 : Ref sig .tc := ⟨.hbm, 463, rfl⟩
abbrev main_v380 : Ref sig .tc := ⟨.hbm, 464, rfl⟩
abbrev main_v381 : Ref sig .tc := ⟨.hbm, 465, rfl⟩
abbrev main_v382 : Ref sig .tc := ⟨.hbm, 466, rfl⟩
abbrev main_v383 : Ref sig .tc := ⟨.hbm, 467, rfl⟩
abbrev main_v384 : Ref sig .tc := ⟨.hbm, 468, rfl⟩
abbrev main_v385 : Ref sig .tc := ⟨.hbm, 469, rfl⟩
abbrev main_v386 : Ref sig .tc := ⟨.hbm, 470, rfl⟩
abbrev main_v387 : Ref sig .tc := ⟨.hbm, 471, rfl⟩
abbrev main_v388 : Ref sig .tc := ⟨.hbm, 472, rfl⟩
abbrev main_v389 : Ref sig .tc := ⟨.hbm, 473, rfl⟩
abbrev main_v390 : Ref sig .tc := ⟨.hbm, 474, rfl⟩
abbrev main_v391 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_v399 : Ref sig .tc := ⟨.hbm, 483, rfl⟩
abbrev main_v400 : Ref sig .tc := ⟨.hbm, 484, rfl⟩
abbrev main_v401 : Ref sig .tc := ⟨.hbm, 485, rfl⟩
abbrev main_v402 : Ref sig .tc := ⟨.hbm, 486, rfl⟩
abbrev main_v403 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_cst_63 : Ref sig .tc := ⟨.hbm, 491, rfl⟩
abbrev main_v407 : Ref sig .tc := ⟨.hbm, 492, rfl⟩
abbrev main_v408 : Ref sig .tc := ⟨.hbm, 493, rfl⟩
abbrev main_cst_64 : Ref sig .tc := ⟨.hbm, 494, rfl⟩
abbrev main_v409 : Ref sig .tc := ⟨.hbm, 495, rfl⟩
abbrev main_v410 : Ref sig .tc := ⟨.hbm, 496, rfl⟩
abbrev main_v411 : Ref sig .tc := ⟨.hbm, 497, rfl⟩
abbrev main_v412 : Ref sig .tc := ⟨.hbm, 498, rfl⟩
abbrev main_v413 : Ref sig .tc := ⟨.hbm, 499, rfl⟩
abbrev main_v414 : Ref sig .tc := ⟨.hbm, 500, rfl⟩
abbrev main_v415 : Ref sig .tc := ⟨.hbm, 501, rfl⟩
abbrev main_call4_cst : Ref sig .tc := ⟨.hbm, 502, rfl⟩
abbrev main_call4_v0 : Ref sig .tc := ⟨.hbm, 503, rfl⟩
abbrev main_v416 : Ref sig .tc := ⟨.hbm, 504, rfl⟩
abbrev main_v417 : Ref sig .tc := ⟨.hbm, 505, rfl⟩
abbrev main_v418 : Ref sig .tc := ⟨.hbm, 506, rfl⟩
abbrev main_v419 : Ref sig .tc := ⟨.hbm, 507, rfl⟩
abbrev main_v420 : Ref sig .tc := ⟨.hbm, 508, rfl⟩
abbrev main_v421 : Ref sig .tc := ⟨.hbm, 509, rfl⟩
abbrev main_v422 : Ref sig .tc := ⟨.hbm, 510, rfl⟩
abbrev main_cst_65 : Ref sig .tc := ⟨.hbm, 511, rfl⟩
abbrev main_v423 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_v427 : Ref sig .tc := ⟨.hbm, 516, rfl⟩
abbrev main_v428 : Ref sig .tc := ⟨.hbm, 517, rfl⟩
abbrev main_cst_66 : Ref sig .tc := ⟨.hbm, 518, rfl⟩
abbrev main_v429 : Ref sig .tc := ⟨.hbm, 519, rfl⟩
abbrev main_v430 : Ref sig .tc := ⟨.hbm, 520, rfl⟩
abbrev main_v431 : Ref sig .tc := ⟨.hbm, 521, rfl⟩
abbrev main_v432 : Ref sig .tc := ⟨.hbm, 522, rfl⟩
abbrev main_v433 : Ref sig .tc := ⟨.hbm, 523, rfl⟩
abbrev main_v434 : Ref sig .tc := ⟨.hbm, 524, rfl⟩
abbrev main_v435 : Ref sig .tc := ⟨.hbm, 525, rfl⟩
abbrev main_v436 : Ref sig .tc := ⟨.hbm, 526, rfl⟩
abbrev main_v437 : Ref sig .tc := ⟨.hbm, 527, rfl⟩
abbrev main_v438 : Ref sig .tc := ⟨.hbm, 528, rfl⟩
abbrev main_v439 : Ref sig .tc := ⟨.hbm, 529, rfl⟩
abbrev main_v440 : Ref sig .tc := ⟨.hbm, 530, rfl⟩
abbrev main_v441 : Ref sig .tc := ⟨.hbm, 531, rfl⟩
abbrev main_v442 : Ref sig .tc := ⟨.hbm, 532, rfl⟩
abbrev main_v443 : Ref sig .tc := ⟨.hbm, 533, rfl⟩
abbrev main_v444 : Ref sig .tc := ⟨.hbm, 534, rfl⟩
abbrev main_v445 : Ref sig .tc := ⟨.hbm, 535, rfl⟩
abbrev main_v446 : Ref sig .tc := ⟨.hbm, 536, rfl⟩
abbrev main_v447 : Ref sig .tc := ⟨.hbm, 537, rfl⟩
abbrev main_v448 : Ref sig .tc := ⟨.hbm, 538, rfl⟩
abbrev main_v449 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_cst_67 : Ref sig .tc := ⟨.hbm, 549, rfl⟩
abbrev main_v459 : Ref sig .tc := ⟨.hbm, 550, rfl⟩
abbrev main_v460 : Ref sig .tc := ⟨.hbm, 551, rfl⟩
abbrev main_cst_68 : Ref sig .tc := ⟨.hbm, 552, rfl⟩
abbrev main_v461 : Ref sig .tc := ⟨.hbm, 553, rfl⟩
abbrev main_v462 : Ref sig .tc := ⟨.hbm, 554, rfl⟩
abbrev main_v463 : Ref sig .tc := ⟨.hbm, 555, rfl⟩
abbrev main_v464 : Ref sig .tc := ⟨.hbm, 556, rfl⟩
abbrev main_v465 : Ref sig .tc := ⟨.hbm, 557, rfl⟩
abbrev main_v466 : Ref sig .tc := ⟨.hbm, 558, rfl⟩
abbrev main_v467 : Ref sig .tc := ⟨.hbm, 559, rfl⟩
abbrev main_call5_cst : Ref sig .tc := ⟨.hbm, 560, rfl⟩
abbrev main_call5_v0 : Ref sig .tc := ⟨.hbm, 561, rfl⟩
abbrev main_v468 : Ref sig .tc := ⟨.hbm, 562, rfl⟩
abbrev main_v469 : Ref sig .tc := ⟨.hbm, 563, rfl⟩
abbrev main_v470 : Ref sig .tc := ⟨.hbm, 564, rfl⟩
abbrev main_v471 : Ref sig .tc := ⟨.hbm, 565, rfl⟩
abbrev main_v472 : Ref sig .tc := ⟨.hbm, 566, rfl⟩
abbrev main_v473 : Ref sig .tc := ⟨.hbm, 567, rfl⟩
abbrev main_v474 : Ref sig .tc := ⟨.hbm, 568, rfl⟩
abbrev main_cst_69 : Ref sig .tc := ⟨.hbm, 569, rfl⟩
abbrev main_v475 : Ref sig .tc := ⟨.hbm, 570, rfl⟩
abbrev main_v476 : Ref sig .tc := ⟨.hbm, 571, rfl⟩
abbrev main_v477 : Ref sig .tc := ⟨.hbm, 572, rfl⟩
abbrev main_v478 : Ref sig .tc := ⟨.hbm, 573, rfl⟩
abbrev main_v479 : Ref sig .tc := ⟨.hbm, 574, rfl⟩
abbrev main_v480 : Ref sig .tc := ⟨.hbm, 575, rfl⟩
abbrev main_cst_70 : Ref sig .tc := ⟨.hbm, 576, rfl⟩
abbrev main_v481 : Ref sig .tc := ⟨.hbm, 577, rfl⟩
abbrev main_v482 : Ref sig .tc := ⟨.hbm, 578, rfl⟩
abbrev main_v483 : Ref sig .tc := ⟨.hbm, 579, rfl⟩
abbrev main_v484 : Ref sig .tc := ⟨.hbm, 580, rfl⟩
abbrev main_v485 : Ref sig .tc := ⟨.hbm, 581, rfl⟩
abbrev main_v486 : Ref sig .tc := ⟨.hbm, 582, rfl⟩
abbrev main_v487 : Ref sig .tc := ⟨.hbm, 583, rfl⟩
abbrev main_v488 : Ref sig .tc := ⟨.hbm, 584, rfl⟩
abbrev main_v489 : Ref sig .tc := ⟨.hbm, 585, rfl⟩
abbrev main_v490 : Ref sig .tc := ⟨.hbm, 586, rfl⟩
abbrev main_v491 : Ref sig .tc := ⟨.hbm, 587, rfl⟩
abbrev main_v492 : Ref sig .tc := ⟨.hbm, 588, rfl⟩
abbrev main_v493 : Ref sig .tc := ⟨.hbm, 589, rfl⟩
abbrev main_v494 : Ref sig .tc := ⟨.hbm, 590, rfl⟩
abbrev main_v495 : Ref sig .tc := ⟨.hbm, 591, rfl⟩
abbrev main_v496 : Ref sig .tc := ⟨.hbm, 592, rfl⟩
abbrev main_cst_71 : Ref sig .tc := ⟨.hbm, 593, rfl⟩
abbrev main_v497 : Ref sig .tc := ⟨.hbm, 594, rfl⟩
abbrev main_v498 : Ref sig .tc := ⟨.hbm, 595, rfl⟩
abbrev main_v499 : Ref sig .tc := ⟨.hbm, 596, rfl⟩
abbrev main_v500 : Ref sig .tc := ⟨.hbm, 597, rfl⟩
abbrev main_v501 : Ref sig .tc := ⟨.hbm, 598, rfl⟩
abbrev main_v502 : Ref sig .tc := ⟨.hbm, 599, rfl⟩
abbrev main_v503 : Ref sig .tc := ⟨.hbm, 600, rfl⟩
abbrev main_v504 : Ref sig .tc := ⟨.hbm, 601, rfl⟩
abbrev main_v505 : Ref sig .tc := ⟨.hbm, 602, rfl⟩

abbrev nD : Nat := 1
abbrev τ : Topo := Topo.v7x

variable {F : FTy → Type} [FloatOps F]
-- ==== First.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1024x1024, .bf16⟩
  | .hbm, ⟨5, _⟩ => ⟨S2048x1024, .f32⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Gate.lean ====
abbrev S2048x5632 : Shape := ⟨2, ![2048, 5632]⟩
abbrev S3x5632 : Shape := ⟨2, ![3, 5632]⟩
abbrev S2048x2816 : Shape := ⟨2, ![2048, 2816]⟩
abbrev S256x1408 : Shape := ⟨2, ![256, 1408]⟩
abbrev S16x1408 : Shape := ⟨2, ![16, 1408]⟩
abbrev S3x1408 : Shape := ⟨2, ![3, 1408]⟩
abbrev S8x128 : Shape := ⟨2, ![8, 128]⟩
abbrev S256x128 : Shape := ⟨2, ![256, 128]⟩
abbrev S264x128 : Shape := ⟨2, ![264, 128]⟩
abbrev S3x128 : Shape := ⟨2, ![3, 128]⟩
abbrev S1x128 : Shape := ⟨2, ![1, 128]⟩

abbrev nBuf : Space → Nat
  | .hbm => 3
  | .vmem => 14
  | .smem => 0
  | _ => 0

abbrev bufTy : (tb : Table) → Fin (tcTables nBuf tb) → BufTy
  | .hbm, ⟨0, _⟩ => ⟨S2048x5632, .bf16⟩
  | .hbm, ⟨1, _⟩ => ⟨S3x5632, .f32⟩
  | .hbm, ⟨2, _⟩ => ⟨S2048x2816, .bf16⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S256x1408, .bf16⟩
  | .local _ .vmem, ⟨5, _⟩ => ⟨S256x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S256x1408, .bf16⟩
  | .local _ .vmem, ⟨13, _⟩ => ⟨S256x1408, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c11_i32 : BitVec 32 := 11#32
  let v2 : BitVec 32 := Scalar.addi c0_i32_1 c11_i32
  let c1_i32 : BitVec 32 := 1#32
  ⟨c0_i32_1, v2, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  v3
def k0_off1 (k0_t1 : Fin k0_t1_loop.trips) : Fin 2 → Nat :=
  let c8 : Index := 8#32
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  let v4 : BitVec 32 := v3
  let v5 : Index := Scalar.indexCast v4
  ![8, v5.toNat]
def k0_off2 (k0_t1 : Fin k0_t1_loop.trips) : Fin 2 → Nat :=
  let c0 : Index := 0#32
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  let v4 : BitVec 32 := v3
  let v10 : Index := Scalar.indexCast v4
  ![0, v10.toNat]
def k0_off3 (k0_t1 : Fin k0_t1_loop.trips) : Fin 2 → Nat :=
  let c0_3 : Index := 0#32
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  let v4 : BitVec 32 := v3
  let v14 : Index := Scalar.indexCast v4
  ![0, v14.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateRefIdeal.lean ====
abbrev S2048x5632 : Shape := ⟨2, ![2048, 5632]⟩
abbrev S3x5632 : Shape := ⟨2, ![3, 5632]⟩
abbrev S1x2048x5632 : Shape := ⟨3, ![1, 2048, 5632]⟩
abbrev S_ : Shape := ⟨0, ![]⟩
abbrev S1x2x5632 : Shape := ⟨3, ![1, 2, 5632]⟩
abbrev S1x2050x5632 : Shape := ⟨3, ![1, 2050, 5632]⟩
abbrev S1x5632 : Shape := ⟨2, ![1, 5632]⟩
abbrev S5632 : Shape := ⟨1, ![5632]⟩
abbrev S1x1x5632 : Shape := ⟨3, ![1, 1, 5632]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x5632, .f32⟩
  | .hbm, ⟨2, _⟩ => ⟨S2048x5632, .f32⟩
  | .hbm, ⟨3, _⟩ => ⟨S1x2048x5632, .f32⟩
  | .hbm, ⟨4, _⟩ => ⟨S_, .f32⟩
  | .hbm, ⟨5, _⟩ => ⟨S1x2x5632, .f32⟩
  | .hbm, ⟨6, _⟩ => ⟨S1x2050x5632, .f32⟩
  | .hbm, ⟨7, _⟩ => ⟨S1x2048x5632, .f32⟩
  | .hbm, ⟨8, _⟩ => ⟨S1x5632, .f32⟩
  | .hbm, ⟨9, _⟩ => ⟨S5632, .f32⟩
  | .hbm, ⟨10, _⟩ => ⟨S1x1x5632, .f32⟩
  | .hbm, ⟨11, _⟩ => ⟨S1x2048x5632, .f32⟩
  | .hbm, ⟨12, _⟩ => ⟨S1x2048x5632, .f32⟩
  | .hbm, ⟨13, _⟩ => ⟨S1x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S1x2048x5632, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S2048x5632, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== DownX.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .f32⟩
  | .hbm, ⟨2, _⟩ => ⟨S2816x1024, .bf16⟩
  | .hbm, ⟨3, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownXRefIdeal.lean ====
abbrev S2048x1024 : Shape := ⟨2, ![2048, 1024]⟩
abbrev S2816x1024 : Shape := ⟨2, ![2816, 1024]⟩
abbrev S2048x2816 : Shape := ⟨2, ![2048, 2816]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .f32⟩
  | .hbm, ⟨2, _⟩ => ⟨S2048x1024, .f32⟩
  | .hbm, ⟨3, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownW.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWRefIdeal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S1024x2816, .f32⟩
  | .hbm, ⟨5, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutX.lean ====
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutXRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutW.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWRefIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proj.lean ====
abbrev S2048x1024 : Shape := ⟨2, ![2048, 1024]⟩
abbrev S1024x3840 : Shape := ⟨2, ![1024, 3840]⟩
abbrev S2048x3840 : Shape := ⟨2, ![2048, 3840]⟩
abbrev S1024x1024 : Shape := ⟨2, ![1024, 1024]⟩
abbrev S1024x1280 : Shape := ⟨2, ![1024, 1280]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .f32⟩
  | .hbm, ⟨2, _⟩ => ⟨S1024x3840, .bf16⟩
  | .hbm, ⟨3, _⟩ => ⟨S2048x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x1024 : Shape := ⟨2, ![2048, 1024]⟩
abbrev S1024x3840 : Shape := ⟨2, ![1024, 3840]⟩
abbrev S2048x3840 : Shape := ⟨2, ![2048, 3840]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .f32⟩
  | .hbm, ⟨2, _⟩ => ⟨S2048x1024, .f32⟩
  | .hbm, ⟨3, _⟩ => ⟨S2048x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjW.lean ====
abbrev S2048x1024 : Shape := ⟨2, ![2048, 1024]⟩
abbrev S2048x3840 : Shape := ⟨2, ![2048, 3840]⟩
abbrev S1024x3840 : Shape := ⟨2, ![1024, 3840]⟩
abbrev S2048x640 : Shape := ⟨2, ![2048, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3840, .bf16⟩
  | .hbm, ⟨2, _⟩ => ⟨S1024x3840, .f32⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .f32⟩
  | .local _ .vmem, ⟨4, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjWRefIdeal.lean ====
abbrev S2048x1024 : Shape := ⟨2, ![2048, 1024]⟩
abbrev S2048x3840 : Shape := ⟨2, ![2048, 3840]⟩
abbrev S3840x1024 : Shape := ⟨2, ![3840, 1024]⟩
abbrev S1024x3840 : Shape := ⟨2, ![1024, 3840]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3840, .bf16⟩
  | .hbm, ⟨2, _⟩ => ⟨S2048x1024, .f32⟩
  | .hbm, ⟨3, _⟩ => ⟨S2048x3840, .f32⟩
  | .hbm, ⟨4, _⟩ => ⟨S3840x1024, .f32⟩
  | .hbm, ⟨5, _⟩ => ⟨S1024x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2048x1024, .f32⟩
  | .hbm, ⟨3, _⟩ => ⟨S2048x5632, .f32⟩
  | .hbm, ⟨4, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Rows.lean ====
/- Rows of a matrix read past an end: zero there. Shared by the convolution gradients. -/
module

public import Idealize.ShloMosaic.Lib.Pipeline.ValueKit
public import Idealize.ShloMosaic.Lib.Pointwise
public import Idealize.ShloMosaic.PureOps.Ideal

@[expose] public section

set_option maxRecDepth 16384

noncomputable section

namespace Cert.Rows

open Idealize.ShloMosaic

variable {R C : ℕ}

/-- Row `n` of `D` at column `c`; zero from row `R` on. -/
def row (D : (⟨2, ![R, C]⟩ : Shape).Idx → EReal) (n : ℕ) (c : Fin C) : EReal :=
  if h : n < R then D (ix2 ⟨n, h⟩ c) else 0

/-- The row `b` above row `n`; zero where there is none. -/
def back (D : (⟨2, ![R, C]⟩ : Shape).Idx → EReal) (n b : ℕ) (c : Fin C) : EReal :=
  if b ≤ n then row D (n - b) c else 0

theorem row_of_lt (D : (⟨2, ![R, C]⟩ : Shape).Idx → EReal) {n : ℕ} (c : Fin C) (h : n < R) :
    row D n c = D (ix2 ⟨n, h⟩ c) := dif_pos h

theorem row_of_le (D : (⟨2, ![R, C]⟩ : Shape).Idx → EReal) {n : ℕ} (c : Fin C) (h : R ≤ n) :
    row D n c = 0 := dif_neg (by omega)

end Cert.Rows

end
-- ==== Proof.ConvKernel.lean ====
/- The kernel of the convolution gradient: what its two results are. -/
module

public import proofs.«01_k».proof.Proof.Gen.ConvIdeal.Value
public import proofs.«01_k».proof.Proof.Rows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvKernel

open Cert.ConvIdeal Cert.ConvIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- The block each window holds at a grid point. -/
theorem idx : ∀ t : Fin cfg0.N, win0_0.index t = ![t.val % 8, t.val / 8]
    ∧ win0_1.index t = ![min ((t.val % 8 + 1) * 32) 255, t.val / 8]
    ∧ win0_2.index t = ![t.val % 8, t.val / 8]
    ∧ win0_3.index t = ![(t.val % 8) * 32 - 1, t.val / 8]
    ∧ win0_4.index t = ![0, t.val / 8]
    ∧ win0_5.index t = ![t.val % 8, t.val / 8]
    ∧ win0_6.index t = ![0, t.val / 8] :=
  (by decide +kernel : ∀ t : Fin grid0.N, _)

/-- The grid's second coordinate. -/
theorem coord : ∀ t : Fin cfg0.N, (grid0.coords t 1).val = t.val % 8 :=
  (by decide +kernel : ∀ t : Fin grid0.N, _)

/-- The gradient of the input that a grid point computes from its block, the rows below it, and the taps. -/
theorem pay_dx (i : grid0.Coords) (d : Vec Ideal S256x512 .f32) (dn : Vec Ideal S8x512 .f32) (w : Vec Ideal S4x512 .f32)
    (D : FVec Ideal S2048x1536 .f32) (p : ℕ) (hp : p < 8) (hi : (i 1).val = p) (e : Fin 512 → Fin 1536)
    (hd : ∀ r c, d (ix2 r c) = D (ix2 ⟨256 * p + r.val, by omega⟩ (e c)))
    (hn : ∀ h : p < 7, ∀ r c, dn (ix2 r c) = D (ix2 ⟨256 * p + 256 + r.val, by omega⟩ (e c))) (r : Fin 256) (c : Fin 512) :
    k0_pay2 (F := Ideal) i dn d w (ix2 r c)
      = row D (256 * p + r.val + 3) (e c) * w (ix2 0 c) + row D (256 * p + r.val + 2) (e c) * w (ix2 1 c)
        + row D (256 * p + r.val + 1) (e c) * w (ix2 2 c) + row D (256 * p + r.val) (e c) * w (ix2 3 c) := by
  have g : ∀ (s n : ℕ), s < 8 → n = r.val + s → ∀ h' : n < 264,
      (if h : n < 256 then d (ix2 ⟨n, h⟩ c) else
        Scalar.select (Scalar.cmpi CmpIPredicate.eq (BitVec.ofNat 32 (i 1).val) 7#32) 0 (dn (ix2 ⟨n - 256, by omega⟩ c)))
        = row D (256 * p + r.val + s) (e c) := by
    intro s n hs hn' h'
    subst hn'
    split
    · rw [hd, row_of_lt (h := show 256 * p + r.val + s < 2048 by omega)]
      congr 2
      exact Fin.ext (by show 256 * p + (r.val + s) = 256 * p + r.val + s; omega)
    · rw [hi]
      by_cases q : p < 7
      · rw [hn q, row_of_lt (h := show 256 * p + r.val + s < 2048 by omega)]
        have : Scalar.cmpi CmpIPredicate.eq (BitVec.ofNat 32 p) 7#32 = 0#1 := by
          interval_cases p <;> rfl
        rw [this]
        show D _ = _
        congr 2
        exact Fin.ext (by show 256 * p + 256 + (r.val + s - 256) = 256 * p + r.val + s; omega)
      · obtain rfl : p = 7 := by omega
        rw [row_of_le (h := show 2048 ≤ 256 * 7 + r.val + s by omega)]
        rfl
  pointwise [k0_pay2]
  rw [g 3 _ (by omega) (by omega) (by omega), g 2 _ (by omega) (by omega) (by omega), g 1 _ (by omega) (by omega) (by omega),
    hd, row_of_lt (n := 256 * p + r.val) (h := by omega)]

/-- The share of tile `p` in the gradient of tap `k`. -/
def part (D : FVec Ideal S2048x1536 .f32) (X : FVec Ideal S2048x3592 .f32) (p : ℕ) (k : ℕ) (c : Fin 1536) : EReal :=
  ∑ r : Fin 256, row D (256 * p + r.val) c * back X (256 * p + r.val) (3 - k) ⟨c.val, by omega⟩

section Taps

variable (i : grid0.Coords) (d x : Vec Ideal S256x512 .f32) (xp : Vec Ideal S8x512 .f32) (a : Vec Ideal S1x512 .f32)
  (D : FVec Ideal S2048x1536 .f32) (X : FVec Ideal S2048x3592 .f32) (p : ℕ) (hp : p < 8) (hi : (i 1).val = p) (e : Fin 512 → Fin 1536)
  (hd : ∀ r c, d (ix2 r c) = D (ix2 ⟨256 * p + r.val, by omega⟩ (e c)))
  (hx : ∀ r c, x (ix2 r c) = X (ix2 ⟨256 * p + r.val, by omega⟩ ⟨(e c).val, by omega⟩))
  (hxp : ∀ _ : 0 < p, ∀ r c, xp (ix2 r c) = X (ix2 ⟨256 * p - 8 + r.val, by omega⟩ ⟨(e c).val, by omega⟩))

include hp hi hd hx hxp

/-- A row of the block and of the eight rows before it, `b` rows up. -/
theorem ext_at (b : ℕ) (hb : b ≤ 3) (r : Fin 256) (c : Fin 512) (n : ℕ) (hn : n = 8 + r.val - b) (h' : n < 264) :
    (if h : n < 8 then Scalar.select (Scalar.cmpi CmpIPredicate.eq (BitVec.ofNat 32 (i 1).val) 0#32) 0 (xp (ix2 ⟨n, h⟩ c))
      else x (ix2 ⟨n - 8, by omega⟩ c)) = back X (256 * p + r.val) b ⟨(e c).val, by omega⟩ := by
  subst hn
  rw [hi]
  unfold back
  split
  · by_cases q : 0 < p
    · have : Scalar.cmpi CmpIPredicate.eq (BitVec.ofNat 32 p) 0#32 = 0#1 := by
        interval_cases p <;> rfl
      rw [this, hxp q, if_pos (by omega), row_of_lt (h := show 256 * p + r.val - b < 2048 by omega)]
      show X _ = _
      congr 2
      exact Fin.ext (by show 256 * p - 8 + (8 + r.val - b) = 256 * p + r.val - b; omega)
    · obtain rfl : p = 0 := by omega
      rw [if_neg (by omega)]
      rfl
  · rw [hx, if_pos (by omega), row_of_lt (h := show 256 * p + r.val - b < 2048 by omega)]
    congr 2
    exact Fin.ext (by show 256 * p + (8 + r.val - b - 8) = 256 * p + r.val - b; omega)

theorem pay6_at (c : Fin 512) : k0_pay6 (F := Ideal) d (k0_pay3 i xp) x a (ix2 0 c) = a (ix2 0 c) + part D X p 0 (e c) := by
  pointwise [k0_pay6, k0_pay4, k0_pay3]
  refine congrArg (a (ix2 0 c) + ·) (Finset.sum_congr rfl fun r _ => ?_)
  rw [hd, row_of_lt (h := show 256 * p + r.val < 2048 by omega)]
  exact congrArg (_ * ·) (ext_at i d x xp D X p hp hi e hd hx hxp 3 (by omega) r c _ (by omega) (by omega))

theorem pay7_at (c : Fin 512) : k0_pay7 (F := Ideal) d (k0_pay3 i xp) x a (ix2 0 c) = a (ix2 0 c) + part D X p 1 (e c) := by
  pointwise [k0_pay7, k0_pay4, k0_pay3]
  refine congrArg (a (ix2 0 c) + ·) (Finset.sum_congr rfl fun r _ => ?_)
  rw [hd, row_of_lt (h := show 256 * p + r.val < 2048 by omega)]
  exact congrArg (_ * ·) (ext_at i d x xp D X p hp hi e hd hx hxp 2 (by omega) r c _ (by omega) (by omega))

theorem pay8_at (c : Fin 512) : k0_pay8 (F := Ideal) d (k0_pay3 i xp) x a (ix2 0 c) = a (ix2 0 c) + part D X p 2 (e c) := by
  pointwise [k0_pay8, k0_pay4, k0_pay3]
  refine congrArg (a (ix2 0 c) + ·) (Finset.sum_congr rfl fun r _ => ?_)
  rw [hd, row_of_lt (h := show 256 * p + r.val < 2048 by omega)]
  exact congrArg (_ * ·) (ext_at i d x xp D X p hp hi e hd hx hxp 1 (by omega) r c _ (by omega) (by omega))

theorem pay1_at (c : Fin 512) : k0_pay1 (F := Ideal) d (k0_pay4 (k0_pay3 i xp) x) a (ix2 0 c) = a (ix2 0 c) + part D X p 3 (e c) := by
  pointwise [k0_pay1, k0_pay4, k0_pay3]
  refine congrArg (a (ix2 0 c) + ·) (Finset.sum_congr rfl fun r _ => ?_)
  rw [hd, row_of_lt (h := show 256 * p + r.val < 2048 by omega), hx]
  unfold back
  rw [if_pos (by omega), row_of_lt (h := show 256 * p + r.val - (3 - 3) < 2048 by omega)]
  rfl

end Taps

/-- The columns of a grid point's block. -/
def col (t : Fin cfg0.N) (k : Fin 512) : Fin 1536 := ⟨512 * (t.val / 8) + k.val, by have : t.val < 24 := t.isLt; omega⟩

theorem blk0 (c : Dev nD) (t : Fin cfg0.N) (r : Fin 256) (k : Fin 512) :
    iblk m c 0 t (ix2 r k) = m ((c : Thread nD τ).loc main_arg0) (ix2 ⟨256 * (t.val % 8) + r.val, by omega⟩ (col t k)) := by
  blk_point [iblk, V, idx t]
  all_goals exact (show _ = 512 * (t.val / 8) + k.val by omega)

theorem blk1 (c : Dev nD) (t : Fin cfg0.N) (h : t.val % 8 < 7) (r : Fin 8) (k : Fin 512) :
    iblk m c 1 t (ix2 r k) = m ((c : Thread nD τ).loc main_arg0) (ix2 ⟨256 * (t.val % 8) + 256 + r.val, by omega⟩ (col t k)) := by
  blk_point [iblk, V, idx t]
  all_goals exact (show _ = 512 * (t.val / 8) + k.val by omega)

/-- The packed columns, as the operations before the call leave them. -/
theorem V_packed (c : Dev nD) :
    V m c main_v4 = concatenate S2048x3840 1
      [⟨S2048x2048, extractStridedSlice S2048x2048 ![0, 0] (m ((c : Thread nD τ).loc main_arg1)) slices_S2048x3592_S2048x2048_0_0⟩,
       ⟨S2048x1536, extractStridedSlice S2048x1536 ![0, 2056] (m ((c : Thread nD τ).loc main_arg1)) slices_S2048x3592_S2048x1536_0_2056⟩,
       ⟨S2048x8, extractStridedSlice S2048x8 ![0, 2048] (m ((c : Thread nD τ).loc main_arg1)) slices_S2048x3592_S2048x8_0_2048⟩,
       ⟨S2048x248, broadcastInDim S2048x248 ![] bcast_S_S2048x248 (constant (F := Ideal) S_ .f32 0x00000000#32)⟩]
      concatenates_S2048x2048_S2048x1536_S2048x8_S2048x248_S2048x3840_d1 := by
  rfl

/-- The columns of the convolution are the first of the packed ones. -/
theorem packed_at (c : Dev nD) (r : Fin 2048) (k : Fin 3840) (h : k.val < 1536) :
    V m c main_v4 (ix2 r k) = m ((c : Thread nD τ).loc main_arg1) (ix2 r ⟨k.val, by omega⟩) := by
  rw [V_packed]
  pointwise
  rw [dif_pos (by omega)]

theorem blk2 (c : Dev nD) (t : Fin cfg0.N) (r : Fin 256) (k : Fin 512) :
    X0_2 m c t (ix2 r k) = m ((c : Thread nD τ).loc main_arg1) (ix2 ⟨256 * (t.val % 8) + r.val, by omega⟩ ⟨(col t k).val, by omega⟩) := by
  unfold X0_2 Pipeline.Window.fill
  rw [dif_pos (moved0_2 t _)]
  refine Eq.trans ?_ (packed_at m c ⟨256 * (t.val % 8) + r.val, by omega⟩ ⟨(col t k).val, by omega⟩ (col t k).isLt)
  blk_point [iblk, idx t]
  all_goals exact (show _ = 512 * (t.val / 8) + k.val by omega)

theorem blk3 (c : Dev nD) (t : Fin cfg0.N) (h : 0 < t.val % 8) (r : Fin 8) (k : Fin 512) :
    X0_3 m c t (ix2 r k) = m ((c : Thread nD τ).loc main_arg1) (ix2 ⟨256 * (t.val % 8) - 8 + r.val, by omega⟩ ⟨(col t k).val, by omega⟩) := by
  unfold X0_3 Pipeline.Window.fill
  rw [dif_pos (moved0_3 t _)]
  refine Eq.trans ?_ (packed_at m c ⟨256 * (t.val % 8) - 8 + r.val, by omega⟩ ⟨(col t k).val, by omega⟩ (col t k).isLt)
  blk_point [iblk, idx t]
  all_goals first | exact (show _ = 512 * (t.val / 8) + k.val by omega) | skip

theorem blk4 (c : Dev nD) (t : Fin cfg0.N) (r : Fin 4) (k : Fin 512) :
    iblk m c 4 t (ix2 r k) = m ((c : Thread nD τ).loc main_arg2) (ix2 r (col t k)) := by
  blk_point [iblk, V, idx t]
  all_goals exact (show _ = 512 * (t.val / 8) + k.val by omega)

/-- The cotangent, the packed input and the taps of a device. -/
abbrev D0 (c : Dev nD) : FVec Ideal S2048x1536 .f32 := m ((c : Thread nD τ).loc main_arg0)
abbrev X0 (c : Dev nD) : FVec Ideal S2048x3592 .f32 := m ((c : Thread nD τ).loc main_arg1)
abbrev W0 (c : Dev nD) : FVec Ideal S4x1536 .f32 := m ((c : Thread nD τ).loc main_arg2)

/-- The input's gradient. -/
def DX (D : FVec Ideal S2048x1536 .f32) (W : FVec Ideal S4x1536 .f32) : FVec Ideal S2048x1536 .bf16 := fun i =>
  row D ((i 0).val + 3) (i 1) * W (ix2 0 (i 1)) + row D ((i 0).val + 2) (i 1) * W (ix2 1 (i 1)) + row D ((i 0).val + 1) (i 1) * W (ix2 2 (i 1))
    + row D (i 0).val (i 1) * W (ix2 3 (i 1))

/-- The taps' gradient. -/
def DW (D : FVec Ideal S2048x1536 .f32) (X : FVec Ideal S2048x3592 .f32) : FVec Ideal S4x1536 .f32 := fun i =>
  ∑ r : Fin 2048, D (ix2 r (i 1)) * back X r (3 - (i 0).val) ⟨(i 1).val, by have := ValueIdx.idx2_lt1 i; omega⟩

theorem dx_point (c : Dev nD) (t : Fin cfg0.N) (r : Fin 256) (k : Fin 512) :
    k0_pay2 (F := Ideal) (grid0.coords t) (iblk m c 1 t) (iblk m c 0 t) (iblk m c 4 t) (ix2 r k)
      = DX (D0 m c) (W0 m c) (ix2 ⟨256 * (t.val % 8) + r.val, by omega⟩ (col t k)) := by
  rw [pay_dx (grid0.coords t) _ _ _ (D0 m c) (t.val % 8) (by omega) (coord t) (col t) (blk0 m c t) (blk1 m c t), blk4, blk4, blk4, blk4]
  rfl

/-- The first result. -/
theorem final_dx (c : Dev nD) : (dats m 0 c).arrAt 5 cfg0.N = DX (D0 m c) (W0 m c) := by
  refine (dats m 0 c).arrAt_eq_of_covers 5 _ (by decide +kernel) fun t hf y => ?_
  blk_simp
  rw [after0_5]
  have key : (outsAt0 m c t.val t.isLt).1 y = DX (D0 m c) (W0 m c) (((cfg0.win 5).blk t).view.emb y) := by
    idx_vars y
    refine Eq.trans ?_ ((dx_point m c t y0 y1).trans ?_)
    · by_cases h : t.val % 8 = 0
      · rw [outsAt0_A m c t h]
        frame_out
      · rw [outsAt0_B m c t h]
        frame_out
    · congr 1
      blk_ext [idx t]
      all_goals exact (show 512 * (t.val / 8) + y1.val = _ by omega)
  exact key

/-- One row stored over earlier stores: at that row its values, at the others what was there. -/
theorem canon_row {R C : ℕ} (o : ℕ) (inb : ∀ a, (![o, 0] : Fin 2 → ℕ) a + (![1, C] : Fin 2 → ℕ) a ≤ (⟨2, ![R, C]⟩ : Shape).size a)
    (w : (⟨2, ![1, C]⟩ : Shape).Idx → EReal) (L : List (View.Piece (Elt Ideal) (⟨2, ![R, C]⟩ : Shape) .f32)) (a : Fin R) (c : Fin C) :
    View.canon ((⟨Rect.unit (s := (⟨2, ![R, C]⟩ : Shape)) ![o, 0] ![1, C] inb, w⟩ : View.Piece (Elt Ideal) (⟨2, ![R, C]⟩ : Shape) .f32) :: L) (ix2 a c)
      = if a.val = o then w (ix2 0 c) else View.canon L (ix2 a c) := by
  split
  · rename_i h
    subst h
    have he : (Rect.unit (s := (⟨2, ![R, C]⟩ : Shape)) ![a.val, 0] ![1, C] inb).emb (ix2 (0 : Fin 1) c) = ix2 a c := by
      funext x
      apply Fin.ext
      fin_cases x
      · show a.val + 1 * 0 = a.val; omega
      · show 0 + 1 * c.val = c.val; omega
    rw [← he]
    exact View.canon_cons_emb (Rect.unit (s := (⟨2, ![R, C]⟩ : Shape)) ![a.val, 0] ![1, C] inb) w L (ix2 (0 : Fin 1) c)
  · rename_i h
    refine View.canon_cons_of_not_mem _ L ?_
    intro hm
    obtain ⟨i, hi, he⟩ := (LoadRect.mem_set _).mp hm (0 : Fin 2)
    have hi1 : i < 1 := hi
    have he' : a.val = o + 1 * i := he
    omega

theorem dwA (c : Dev nD) (t : Fin cfg0.N) (h0 : t.val % 8 = 0) (j : S4x512.Idx) :
    (outsAt0 m c t.val t.isLt).2 j = 0 + part (D0 m c) (X0 m c) (t.val % 8) (j 0).val (col t (j 1)) := by
  rw [outsAt0_A m c t h0]
  frame_out
  idx_vars j
  rw [canon_row, canon_row, canon_row, canon_row]
  split_ifs
  · obtain rfl : j0 = 3 := Fin.ext (by assumption)
    refine (pay1_at (grid0.coords t) (iblk m c 0 t) (X0_2 m c t) (X0_3 m c t) _ (D0 m c) (X0 m c) (t.val % 8) (by omega) (coord t) (col t) (blk0 m c t) (blk2 m c t) (blk3 m c t) j1).trans (congrArg (· + _) ?_)
    rw [View.readCov_skip _ _ _ _ _ rfl, View.readCov_skip _ _ _ _ _ rfl, View.readCov_skip _ _ _ _ _ rfl, View.readCov_fill (h := by decide)]
    pointwise [k0_pay5]
  · obtain rfl : j0 = 2 := Fin.ext (by assumption)
    refine (pay8_at (grid0.coords t) (iblk m c 0 t) (X0_2 m c t) (X0_3 m c t) _ (D0 m c) (X0 m c) (t.val % 8) (by omega) (coord t) (col t) (blk0 m c t) (blk2 m c t) (blk3 m c t) j1).trans (congrArg (· + _) ?_)
    rw [View.readCov_skip _ _ _ _ _ rfl, View.readCov_skip _ _ _ _ _ rfl, View.readCov_fill (h := by decide)]
    pointwise [k0_pay5]
  · obtain rfl : j0 = 1 := Fin.ext (by assumption)
    refine (pay7_at (grid0.coords t) (iblk m c 0 t) (X0_2 m c t) (X0_3 m c t) _ (D0 m c) (X0 m c) (t.val % 8) (by omega) (coord t) (col t) (blk0 m c t) (blk2 m c t) (blk3 m c t) j1).trans (congrArg (· + _) ?_)
    rw [View.readCov_skip _ _ _ _ _ rfl, View.readCov_fill (h := by decide)]
    pointwise [k0_pay5]
  · obtain rfl : j0 = 0 := Fin.ext (by assumption)
    refine (pay6_at (grid0.coords t) (iblk m c 0 t) (X0_2 m c t) (X0_3 m c t) _ (D0 m c) (X0 m c) (t.val % 8) (by omega) (coord t) (col t) (blk0 m c t) (blk2 m c t) (blk3 m c t) j1).trans (congrArg (· + _) ?_)
    rw [View.readCov_fill (h := by decide)]
    pointwise [k0_pay5]
  · omega

theorem dwB (c : Dev nD) (t : Fin cfg0.N) (h0 : ¬ t.val % 8 = 0) (j : S4x512.Idx) :
    (outsAt0 m c t.val t.isLt).2 j = (outsAt0 m c (t.val - 1) (Nat.lt_of_le_of_lt (Nat.sub_le _ _) t.isLt)).2 j
      + part (D0 m c) (X0 m c) (t.val % 8) (j 0).val (col t (j 1)) := by
  rw [outsAt0_B m c t h0]
  frame_out
  canon_tiles x h
  all_goals idx_vars x
  case piece0 =>
    obtain rfl : x0 = 0 := Subsingleton.elim _ _
    obtain ⟨e0, e1⟩ : (j 0).val = 3 ∧ j 1 = x1 := ⟨by omega, Fin.ext h1⟩
    rw [e0, e1]
    refine (pay1_at (grid0.coords t) (iblk m c 0 t) (X0_2 m c t) (X0_3 m c t) _ (D0 m c) (X0 m c) (t.val % 8) (by omega) (coord t) (col t) (blk0 m c t) (blk2 m c t) (blk3 m c t) x1).trans (congrArg (· + _) ?_)
    idx_vars j
    pointwise
    obtain rfl : j0 = 3 := Fin.ext e0
    rw [e1]
  case piece1 =>
    obtain rfl : x0 = 0 := Subsingleton.elim _ _
    obtain ⟨e0, e1⟩ : (j 0).val = 2 ∧ j 1 = x1 := ⟨by omega, Fin.ext h1⟩
    rw [e0, e1]
    refine (pay8_at (grid0.coords t) (iblk m c 0 t) (X0_2 m c t) (X0_3 m c t) _ (D0 m c) (X0 m c) (t.val % 8) (by omega) (coord t) (col t) (blk0 m c t) (blk2 m c t) (blk3 m c t) x1).trans (congrArg (· + _) ?_)
    idx_vars j
    pointwise
    obtain rfl : j0 = 2 := Fin.ext e0
    rw [e1]
  case piece2 =>
    obtain rfl : x0 = 0 := Subsingleton.elim _ _
    obtain ⟨e0, e1⟩ : (j 0).val = 1 ∧ j 1 = x1 := ⟨by omega, Fin.ext h1⟩
    rw [e0, e1]
    refine (pay7_at (grid0.coords t) (iblk m c 0 t) (X0_2 m c t) (X0_3 m c t) _ (D0 m c) (X0 m c) (t.val % 8) (by omega) (coord t) (col t) (blk0 m c t) (blk2 m c t) (blk3 m c t) x1).trans (congrArg (· + _) ?_)
    idx_vars j
    pointwise
    obtain rfl : j0 = 1 := Fin.ext e0
    rw [e1]
  case piece3 =>
    obtain rfl : x0 = 0 := Subsingleton.elim _ _
    obtain ⟨e0, e1⟩ : (j 0).val = 0 ∧ j 1 = x1 := ⟨by omega, Fin.ext h1⟩
    rw [e0, e1]
    refine (pay6_at (grid0.coords t) (iblk m c 0 t) (X0_2 m c t) (X0_3 m c t) _ (D0 m c) (X0 m c) (t.val % 8) (by omega) (coord t) (col t) (blk0 m c t) (blk2 m c t) (blk3 m c t) x1).trans (congrArg (· + _) ?_)
    idx_vars j
    pointwise
    obtain rfl : j0 = 0 := Fin.ext e0
    rw [e1]

/-- The tiles' shares add up to the sum over all rows. -/
theorem sum_part (D : FVec Ideal S2048x1536 .f32) (X : FVec Ideal S2048x3592 .f32) (k : Fin 4) (c : Fin 1536) :
    ∑ s : Fin 8, part D X s.val k.val c = DW D X (ix2 k c) := by
  unfold DW part
  rw [Fin.sum_univ_tiles 8 256 rfl]
  refine Finset.sum_congr rfl fun s _ => Finset.sum_congr rfl fun r _ => ?_
  rw [row_of_lt (h := show 256 * s.val + r.val < 2048 by omega)]
  have e : s.val * 256 + r.val = 256 * s.val + r.val := by omega
  simp only [e]
  rfl

/-- The second result. -/
theorem final_dw (c : Dev nD) : (dats m 0 c).arrAt 6 cfg0.N = DW (D0 m c) (X0 m c) := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0)
    (fun t j => part (D0 m c) (X0 m c) (t.val % 8) (j 0).val (col t (j 1)))
    (fun t h j => dwA m c t h j) (fun t h j => dwB m c t h j) t ((flush0_6 t).mp hf) _, zero_add]
  idx_vars y
  have e : (win0_6.blk t).view.emb (ix2 y0 y1) = ix2 y0 (col t y1) := by
    blk_ext [idx t]
    all_goals exact (show _ = 512 * (t.val / 8) + y1.val by omega)
  rw [e]
  have key : ∑ s : Fin 8, part (D0 m c) (X0 m c) ((8 * (t.val / 8) + s.val) % 8) y0.val
      (col ⟨8 * (t.val / 8) + s.val, by have : t.val < 24 := t.isLt; show _ < 24; omega⟩ y1) = DW (D0 m c) (X0 m c) (ix2 y0 (col t y1)) := by
    rw [← sum_part]
    refine Finset.sum_congr rfl fun s _ => ?_
    have e1 : (8 * (t.val / 8) + s.val) % 8 = s.val := by omega
    have e2 : (8 * (t.val / 8) + s.val) / 8 = t.val / 8 := by omega
    unfold col
    simp only [e1, e2]
  exact key

end Cert.ConvKernel

end
-- ==== Proof.ConvRef.lean ====
/- The reference of the convolution gradient, read at an index. -/
module

public import proofs.«01_k».proof.Proof.Gen.ConvRefIdeal.Read
public import proofs.«01_k».proof.Proof.Rows

@[expose] public section

set_option maxRecDepth 16384

noncomputable section

namespace Cert.ConvRef

open Cert.ConvRefIdeal Cert.ConvRefIdeal.Gen Cert.ConvRefIdeal.Read Idealize.ShloMosaic Cert.Rows

/-- The input's gradient: each row of the cotangent comes back through the four taps. -/
theorem dx_at (D : FVec Ideal S2048x1536 .f32) (W : FVec Ideal S4x1536 .f32) (r : Fin 2048) (c : Fin 1536) :
    val_main_v78 (F := Ideal) D W (ix2 r c)
      = row D (r + 3) c * W (ix2 0 c) + row D (r + 2) c * W (ix2 1 c) + row D (r + 1) c * W (ix2 2 c)
        + row D r c * W (ix2 3 c) := by
  pointwise [val_main_v78, val_main_v77, val_main_v76, val_main_v74, val_main_v73, val_main_v63, val_main_v62, val_main_v52, val_main_v51,
    val_main_v41, val_main_v37, val_main_v46, val_main_v57, val_main_v68, val_main_v32, val_main_v36, val_main_v45, val_main_v56, val_main_v67,
    val_main_v28, val_main_v27, val_main_v26, val_main_v21, val_main_v20, val_main_v19, val_main_v14, val_main_v13, val_main_v12,
    val_main_v8, val_main_v7, val_main_v6, val_main_cst_4, val_main_cst_8, val_main_cst_12, val_main_cst_16]
  have g : ∀ (k n : ℕ) (h : n = r.val + k), ∀ w : EReal,
      (if h : n < 2048 then D (ix2 ⟨n, h⟩ c) * w else 0) = row D (r.val + k) c * w := by
    intro k n h w
    subst h
    unfold row
    split <;> simp_all
  have g' : ∀ (k n j : ℕ) (h : n - j = r.val + k) (hj : j ≤ n), ∀ w : EReal,
      (if h : j ≤ n ∧ n - j < 2048 then D (ix2 ⟨n - j, h.2⟩ c) * w else 0) = row D (r.val + k) c * w := by
    intro k n j h hj w
    rw [← g k (n - j) h w]
    by_cases q : n - j < 2048
    · rw [dif_pos ⟨hj, q⟩, dif_pos q]
    · rw [dif_neg (fun q' => q q'.2), dif_neg q]
  have h0 : row D r.val c = D (ix2 r c) := row_of_lt (D := D) (c := c) r.isLt
  rw [h0]
  refine (congrArg₂ (· + ·) (congrArg₂ (· + ·) (congrArg (D (ix2 r c) * W (ix2 3 c) + ·) (g' 1 (3 + r.val) 2 (by omega) (by omega) _))
    (g' 2 (3 + r.val) 1 (by omega) (by omega) _)) (g 3 (3 + r.val) (by omega) _)).trans ?_
  have ac : ∀ a b c d : EReal, d + c + b + a = a + b + c + d := fun a b c d => by ac_rfl
  exact ac _ _ _ _

/-- The sum over the first two axes, of one row each, is that row. -/
theorem sum_unit2 {C : ℕ} (h : (⟨3, ![1, 1, C]⟩ : Shape).ReducesTo [0, 1] ⟨1, ![C]⟩) (v : (⟨3, ![1, 1, C]⟩ : Shape).Idx → EReal) (z : EReal)
    (c : Fin C) : Ideal.hostReduceAdd h v z (ix1 c) = z + v (ix3 0 0 c) := by
  have hv : ∀ i, (h.drop i 0 : Nat) = i 2 := fun i => Shape.ReducesTo.drop_apply_val h i 0
  show z + ∑ i ∈ Finset.univ.filter (fun i => h.drop i = ix1 c), v i = _
  congr 1
  refine Finset.sum_eq_single (ix3 0 0 c) (fun i hi hne => ?_) (fun hn => ?_)
  · exfalso
    apply hne
    have e := hv i
    rw [congrFun (Finset.mem_filter.mp hi).2 0] at e
    have e' : c.val = (i 2).val := e
    have h0 : (i 0).val < 1 := (i 0).isLt
    have h1 : (i 1).val < 1 := (i 1).isLt
    funext a
    fin_cases a
    · exact Fin.ext (show (i 0).val = 0 by omega)
    · exact Fin.ext (show (i 1).val = 0 by omega)
    · exact Fin.ext e'.symm
  · exfalso
    apply hn
    refine Finset.mem_filter.mpr ⟨Finset.mem_univ _, ?_⟩
    funext a
    fin_cases a
    exact Fin.ext (hv _)

/-- The taps' gradient: the cotangent against the input's rows above. -/
theorem dw_at (D : FVec Ideal S2048x1536 .f32) (X : FVec Ideal S2048x3592 .f32) (k : Fin 4) (c : Fin 1536) :
    val_main_v72 (F := Ideal) D X (ix2 k c)
      = ∑ r : Fin 2048, D (ix2 r c) * back X r (3 - k) ⟨c, by omega⟩ := by
  pointwise [val_main_v72, val_main_v71, val_main_v70, val_main_v69, val_main_v61, val_main_v60, val_main_v59, val_main_v58, val_main_v50, val_main_v49, val_main_v48, val_main_v47,
    val_main_v40, val_main_v39, val_main_v38, val_main_v66, val_main_v65, val_main_v64, val_main_v55, val_main_v54, val_main_v53, val_main_v44, val_main_v43, val_main_v42,
    val_main_v35, val_main_v34, val_main_v33, val_main_v32, val_main_v25, val_main_v18, val_main_v11, val_main_v5, val_main_v3, Cert.ConvRefIdeal.Value.fn_main_v3, val_main_v2, val_main_v1, val_main_v0, val_main_cst, val_main_cst_1, val_main_cst_2, val_main_cst_3, val_main_cst_5, val_main_cst_6, val_main_cst_7,
    val_main_cst_9, val_main_cst_10, val_main_cst_11, val_main_cst_13, val_main_cst_14, val_main_cst_15, sum_unit2]
  have sh : ∀ (b : ℕ) (hb : b ≤ 3),
      (∑ x : Fin 2048, if h : b + x.val < 3 then 0 else X (ix2 ⟨b + x.val - 3, by omega⟩ ⟨c.val, by omega⟩) * D (ix2 x c))
        = ∑ r : Fin 2048, D (ix2 r c) * back X r (3 - b) ⟨c.val, by omega⟩ := by
    intro b hb
    refine Finset.sum_congr rfl fun x _ => ?_
    unfold back
    by_cases q : b + x.val < 3
    · rw [dif_pos q, if_neg (by omega), mul_zero]
    · rw [dif_neg q, if_pos (by omega), row_of_lt (h := by omega), mul_comm]
      congr 4
      omega
  have hk : k = 0 ∨ k = 1 ∨ k = 2 ∨ k = 3 := by omega
  rcases hk with rfl | rfl | rfl | rfl
  · simp
    refine Eq.trans ?_ (sh 0 (by omega))
    refine Eq.trans ?_ (Fin.sum_univ_add (a := 3) (b := 2045) _).symm
    rw [Finset.sum_eq_zero (s := (Finset.univ : Finset (Fin 3))) (fun x _ => dif_pos (by rw [Fin.val_castAdd]; omega))]
    refine Eq.trans (Finset.sum_congr rfl fun x _ => ?_) (zero_add _).symm
    rw [dif_neg (by rw [Fin.val_natAdd]; omega)]
    congr 4
    rw [Fin.val_natAdd]
    omega
  · simp
    exact sh 1 (by omega)
  · simp
    exact sh 2 (by omega)
  · simp
    refine Eq.trans ?_ (sh 3 (by omega))
    refine Finset.sum_congr rfl fun x _ => ?_
    rw [dif_neg (by omega)]
    congr 4
    exact Fin.ext (by show x.val = 3 + x.val - 3; omega)

end Cert.ConvRef

end
-- ==== Proof.Finite.lean ====
/- Finite values: what a bound on the absolute value says, sums of finite values, and the constants as real numbers. -/
module

public import Idealize.ShloMosaic.Lib.Pointwise
public import Idealize.ShloMosaic.Lib.IdealHost

@[expose] public section

noncomputable section

namespace Cert.Finite

open Idealize.ShloMosaic

/-- A value whose absolute value is below infinity is a real number. -/
theorem real_of {s : Shape} {φ : FTy} (x c : FVec Ideal s φ) (hc : ∀ i, c i = (⊤ : EReal))
    (h : cmpf .olt (Host.absf x) c = fun _ => 1#1) : ∃ f : s.Idx → ℝ, x = fun i => ((f i : ℝ) : EReal) := by
  have key : ∀ i, ∃ a : ℝ, (x i : EReal) = (a : EReal) := by
    intro i
    have h1 := congrFun h i
    pointwise [] at h1
    have h2 : FloatOps.absf (x i) < c i := by
      by_contra q
      rw [decide_eq_false q] at h1
      exact absurd h1 (by decide)
    rw [hc] at h2
    induction hx : (x i : EReal) using EReal.rec with
    | bot => exact absurd h2 (by rw [show FloatOps.absf (x i) = (⊤ : EReal) from by rw [show x i = (⊥ : EReal) from hx]; rfl]; exact lt_irrefl _)
    | coe a => exact ⟨a, rfl⟩
    | top => exact absurd h2 (by rw [show FloatOps.absf (x i) = (⊤ : EReal) from by rw [show x i = (⊤ : EReal) from hx]; rfl]; exact lt_irrefl _)
  choose f hf using key
  exact ⟨f, funext hf⟩

/-- A sum of real numbers, taken among the extended ones. -/
theorem coe_sum {ι : Type} (s : Finset ι) (f : ι → ℝ) : ((∑ i ∈ s, f i : ℝ) : EReal) = ∑ i ∈ s, ((f i : ℝ) : EReal) :=
  map_sum (⟨⟨fun r : ℝ => (r : EReal), EReal.coe_zero⟩, EReal.coe_add⟩ : ℝ →+ EReal) f s

theorem inf_f32 : Ideal.ofBits .f32 0x7F800000#32 = ⊤ := by
  simp [Ideal.ofBits, Ideal.ieee]

theorem c1024 : Ideal.ofBits .f32 1149239296#32 = ((1024 : ℝ) : EReal) := by
  simp [Ideal.ofBits, Ideal.ieee, -EReal.coe_mul, -EReal.coe_neg]
  norm_num

theorem minus_half : Ideal.ofBits .f32 3204448256#32 = ((-(1 / 2) : ℝ) : EReal) := by
  simp [Ideal.ofBits, Ideal.ieee, -EReal.coe_mul, -EReal.coe_neg]
  norm_num

/-- The small number added under the root is positive. -/
theorem eps_pos : ∃ e : ℝ, 0 < e ∧ Ideal.ofBits .f32 897988541#32 = (e : EReal) := by
  refine ⟨8796093 / 8796093022208, by norm_num, ?_⟩
  simp [Ideal.ofBits, Ideal.ieee, -EReal.coe_mul, -EReal.coe_neg]
  norm_num

end Cert.Finite

end
-- ==== Proof.NormGrad.lean ====
/- The gradient of a normalised row: the closed form and the derivative's two-term form agree on finite rows. -/
module

public import proofs.«01_k».proof.Proof.Finite

@[expose] public section

noncomputable section

namespace Cert.NormGrad

open Idealize.ShloMosaic Cert.Finite

variable {n : ℕ}

/-- The mean square of a row, with the small number added. -/
def msq (K E : EReal) (x : Fin n → EReal) : EReal := Ideal.div (∑ c, x c * x c) K + E

/-- The inverse root of the mean square. -/
def inv (K E : EReal) (x : Fin n → EReal) : EReal := Ideal.rsqrt (msq K E x)

/-- The row's gradient in closed form: `g` is the gradient at the normalised row. -/
def closed (K E : EReal) (x g : Fin n → EReal) (c : Fin n) : EReal :=
  inv K E x * (g c - x c * inv K E x * Ideal.div (∑ j, g j * (x j * inv K E x)) K)

/-- What comes back to each entry through the mean square. -/
def through (K E H : EReal) (x g : Fin n → EReal) : EReal :=
  Ideal.div ((∑ j, x j * g j) * (H * Ideal.div (inv K E x) (msq K E x))) K

theorem msq_coe {k e : ℝ} (hk : 0 < k) (x : Fin n → ℝ) :
    msq (k : EReal) e (fun j => ((x j : ℝ) : EReal)) = (((∑ c, x c * x c) * (1 / k) + e : ℝ) : EReal) := by
  unfold msq
  rw [Ideal.div_coe hk.ne']
  simp only [← EReal.coe_mul, ← coe_sum, ← EReal.coe_add]

theorem msq_pos {k e : ℝ} (hk : 0 < k) (he : 0 < e) (x : Fin n → ℝ) : 0 < (∑ c, x c * x c) * (1 / k) + e :=
  add_pos_of_nonneg_of_pos (mul_nonneg (Finset.sum_nonneg fun c _ => mul_self_nonneg (x c)) (by positivity)) he

theorem inv_coe {k e : ℝ} (hk : 0 < k) (he : 0 < e) (x : Fin n → ℝ) :
    inv (k : EReal) e (fun j => ((x j : ℝ) : EReal)) = (((Real.sqrt ((∑ c, x c * x c) * (1 / k) + e))⁻¹ : ℝ) : EReal) := by
  unfold inv
  rw [msq_coe hk, Ideal.rsqrt_coe, if_neg (msq_pos hk he x).le.not_gt, if_neg (msq_pos hk he x).ne']

/-- The inverse root of a finite row is finite. -/
theorem inv_real {k e : ℝ} (hk : 0 < k) (he : 0 < e) (x : Fin n → ℝ) :
    ∃ ρ : ℝ, inv (k : EReal) e (fun j => ((x j : ℝ) : EReal)) = (ρ : EReal) := ⟨_, inv_coe hk he x⟩

theorem closed_coe {k e : ℝ} (hk : 0 < k) (he : 0 < e) (x g : Fin n → ℝ) (c : Fin n) (ρ : ℝ)
    (hρ : inv (k : EReal) e (fun j => ((x j : ℝ) : EReal)) = (ρ : EReal)) :
    closed (k : EReal) e (fun j => ((x j : ℝ) : EReal)) (fun j => ((g j : ℝ) : EReal)) c
      = ((ρ * (g c - x c * ρ * ((∑ j, g j * (x j * ρ)) * (1 / k))) : ℝ) : EReal) := by
  unfold closed
  rw [Ideal.div_coe hk.ne', hρ]
  simp only [← EReal.coe_mul, ← coe_sum, ← EReal.coe_sub]

/-- The two forms agree. -/
theorem same {k e : ℝ} (hk : 0 < k) (he : 0 < e) (x g : Fin n → ℝ) (c : Fin n) :
    closed (k : EReal) e (fun j => ((x j : ℝ) : EReal)) (fun j => ((g j : ℝ) : EReal)) c
      = (g c : EReal) * inv (k : EReal) e (fun j => ((x j : ℝ) : EReal))
        + (x c : EReal) * through (k : EReal) e ((-(1 / 2) : ℝ) : EReal) (fun j => ((x j : ℝ) : EReal)) (fun j => ((g j : ℝ) : EReal))
        + through (k : EReal) e ((-(1 / 2) : ℝ) : EReal) (fun j => ((x j : ℝ) : EReal)) (fun j => ((g j : ℝ) : EReal)) * (x c : EReal) := by
  rw [closed_coe hk he x g c _ (inv_coe hk he x)]
  unfold through
  rw [inv_coe hk he, msq_coe hk, Ideal.div_coe hk.ne', Ideal.div_coe (msq_pos hk he x).ne']
  simp only [← EReal.coe_mul, ← coe_sum, ← EReal.coe_add]
  congr 1
  have hv := msq_pos hk he x
  generalize (∑ c, x c * x c) * (1 / k) + e = v at hv ⊢
  have hs : Real.sqrt v * Real.sqrt v = v := Real.mul_self_sqrt hv.le
  have hs0 : Real.sqrt v ≠ 0 := (Real.sqrt_pos.mpr hv).ne'
  have hsum : ∑ j, g j * (x j * (Real.sqrt v)⁻¹) = (∑ j, x j * g j) * (Real.sqrt v)⁻¹ := by
    rw [Finset.sum_mul]
    exact Finset.sum_congr rfl fun j _ => by ring
  rw [hsum]
  generalize ∑ j, x j * g j = S
  rw [show 1 / v = (Real.sqrt v)⁻¹ * (Real.sqrt v)⁻¹ by rw [← mul_inv, hs, one_div]]
  ring

end Cert.NormGrad

end
-- ==== Proof.Norm2Ref.lean ====
/- The reference of the second norm's gradient, read at an index. -/
module

public import proofs.«01_k».proof.Proof.Gen.Norm2RefIdeal.Read
public import proofs.«01_k».proof.Proof.NormGrad

@[expose] public section

set_option maxRecDepth 16384

noncomputable section

namespace Cert.Norm2Ref

open Cert.Norm2RefIdeal Cert.Norm2RefIdeal.Gen Cert.Norm2RefIdeal.Read Idealize.ShloMosaic Cert.NormGrad

/-- The divisor, the number added under the root, and the root's factor, as the programs write them. -/
abbrev cN : EReal := Ideal.ofBits .f32 1149239296#32
abbrev cE : EReal := Ideal.ofBits .f32 897988541#32
abbrev cH : EReal := Ideal.ofBits .f32 3204448256#32

variable (D E : FVec Ideal S2048x2816 .bf16) (W : FVec Ideal S1024x5632 .f32) (X : FVec Ideal S2048x1024 .f32) (w : FVec Ideal S1x1024 .f32)
  (R : FVec Ideal S2048x1024 .f32)

/-- The gradient that comes back through the product, at the norm's result. -/
def DH (r : Fin 2048) (c : Fin 1024) : EReal :=
  ∑ x : Fin 2816, D (ix2 r x) * W (ix2 c ⟨x.val, by omega⟩) + ∑ x : Fin 2816, E (ix2 r x) * W (ix2 c ⟨2816 + x.val, by omega⟩)

/-- The same with the norm's weight. -/
def G (r : Fin 2048) (c : Fin 1024) : EReal := DH D E W r c * w (ix2 0 c)

/-- A row of the input. -/
abbrev xr (r : Fin 2048) (c : Fin 1024) : EReal := X (ix2 r c)

theorem dx_at (r : Fin 2048) (c : Fin 1024) :
    val_main_v41 (F := Ideal) D E W X w R (ix2 r c)
      = R (ix2 r c) + G D E W w r c * inv cN cE (xr X r) + X (ix2 r c) * through cN cE cH (xr X r) (G D E W w r)
        + through cN cE cH (xr X r) (G D E W w r) * X (ix2 r c) := by
  pointwise [val_main_v41, val_main_v40, val_main_v39, val_main_v38, val_main_v37, val_main_v36, val_main_v35, val_main_v34, val_main_v33,
    val_main_v32, val_main_v31, val_main_v30, val_main_v29, val_main_v28, val_main_v27, val_main_v25, val_main_v24, val_main_v20, val_main_v16,
    val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_5,
    val_main_cst_6, val_main_cst_7]
  simp only [Fin.sum_univ_one]
  rfl

theorem dw_at (c : Fin 1024) :
    val_main_v42 (F := Ideal) D E W X (ix2 0 c) = ∑ r : Fin 2048, DH D E W r c * (X (ix2 r c) * inv cN cE (xr X r)) := by
  pointwise [val_main_v42, val_main_v26, val_main_v23, val_main_v22, val_main_v21, val_main_v20, val_main_v15, val_main_v14, val_main_v10,
    val_main_v9, val_main_v8, val_main_v7, val_main_v6, val_main_v5, val_main_v4, val_main_v3, val_main_v1, val_main_v0, val_main_cst,
    val_main_cst_0, val_main_cst_1, val_main_cst_3, val_main_cst_4]
  simp only [Fin.sum_univ_one]
  exact Finset.sum_congr rfl fun r _ => mul_comm _ _

/-- The finite rows' gradient in closed form. -/
theorem dx_closed (hD : ∃ f : S2048x2816.Idx → ℝ, D = fun i => ((f i : ℝ) : EReal)) (hE : ∃ f : S2048x2816.Idx → ℝ, E = fun i => ((f i : ℝ) : EReal))
    (hW : ∃ f : S1024x5632.Idx → ℝ, W = fun i => ((f i : ℝ) : EReal)) (hX : ∃ f : S2048x1024.Idx → ℝ, X = fun i => ((f i : ℝ) : EReal))
    (hw : ∃ f : S1x1024.Idx → ℝ, w = fun i => ((f i : ℝ) : EReal)) (r : Fin 2048) (c : Fin 1024) :
    val_main_v41 (F := Ideal) D E W X w R (ix2 r c) = R (ix2 r c) + closed cN cE (xr X r) (G D E W w r) c := by
  rw [dx_at]
  obtain ⟨D, rfl⟩ := hD
  obtain ⟨E, rfl⟩ := hE
  obtain ⟨W, rfl⟩ := hW
  obtain ⟨X, rfl⟩ := hX
  obtain ⟨w, rfl⟩ := hw
  obtain ⟨e, he, hE⟩ := Cert.Finite.eps_pos
  have hG : ∃ g : Fin 1024 → ℝ, G (fun i => ((D i : ℝ) : EReal)) (fun i => ((E i : ℝ) : EReal)) (fun i => ((W i : ℝ) : EReal))
      (fun i => ((w i : ℝ) : EReal)) r = fun c => ((g c : ℝ) : EReal) :=
    ⟨fun c => (∑ x : Fin 2816, D (ix2 r x) * W (ix2 c ⟨x.val, by omega⟩) + ∑ x : Fin 2816, E (ix2 r x) * W (ix2 c ⟨2816 + x.val, by omega⟩))
      * w (ix2 0 c), funext fun c => by
        unfold G DH
        simp only [← EReal.coe_mul, ← Cert.Finite.coe_sum, ← EReal.coe_add]⟩
  obtain ⟨g, hg⟩ := hG
  have := same (k := 1024) (by norm_num) he (fun j => X (ix2 r j)) g c
  rw [hg, show cN = ((1024 : ℝ) : EReal) from Cert.Finite.c1024, show cE = (e : EReal) from hE,
    show cH = ((-(1 / 2) : ℝ) : EReal) from Cert.Finite.minus_half]
  refine Eq.trans ?_ (congrArg (R (ix2 r c) + ·) this.symm)
  have ac : ∀ a b c d : EReal, a + b + c + d = a + (b + c + d) := fun a b c d => by ac_rfl
  exact ac _ _ _ _

end Cert.Norm2Ref

end
-- ==== Proof.Norm2Kernel.lean ====
/- The kernel of the second norm's gradient: what its two results are. -/
module

public import proofs.«01_k».proof.Proof.Gen.Norm2Ideal.Value
public import proofs.«01_k».proof.Proof.Norm2Ref
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Norm2Kernel

open Cert.Norm2Ideal Cert.Norm2Ideal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Dm (c : Dev nD) : FVec Ideal S2048x2816 .bf16 := m ((c : Thread nD τ).loc main_arg0)
abbrev Em (c : Dev nD) : FVec Ideal S2048x2816 .bf16 := m ((c : Thread nD τ).loc main_arg1)
abbrev Wm (c : Dev nD) : FVec Ideal S1024x5632 .f32 := m ((c : Thread nD τ).loc main_arg2)
abbrev Xm (c : Dev nD) : FVec Ideal S2048x1024 .f32 := m ((c : Thread nD τ).loc main_arg3)
abbrev wm (c : Dev nD) : FVec Ideal S1x1024 .f32 := m ((c : Thread nD τ).loc main_arg4)
abbrev Rm (c : Dev nD) : FVec Ideal S2048x1024 .f32 := m ((c : Thread nD τ).loc main_arg5)

/-- The block each window holds at a grid point. -/
theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- The weight in four blocks of columns, as the operations before the call leave it. -/
theorem weight_at (c : Dev nD) (b : Fin 4) (n : Fin 1024) (k : Fin 1408) :
    V m c main_v2 (ix3 b n k) = Wm m c (ix2 n ⟨1408 * b.val + k.val, by omega⟩) := by
  have e : V m c main_v2 = transpose S4x1024x1408 [1, 0, 2] (shapeCast S1024x4x1408 (truncf (F := Ideal) .bf16 (Wm m c) bitsLt_bf16_f32)
      shapeCasts_S1024x5632_S1024x4x1408) transposes_S1024x4x1408_S4x1024x1408_1_0_2 := by rfl
  rw [e]
  pointwise
  blk_ext [e]
  all_goals exact (show b.val * 1408 + k.val = _ by omega)

theorem point_lt (t : Fin cfg0.N) : t.val < 8 := t.isLt

/-- The row of the whole array that a row of a grid point's block is. -/
abbrev row (t : Fin cfg0.N) (r : Fin 256) : Fin 2048 := ⟨256 * t.val + r.val, by have := point_lt t; omega⟩

theorem blk0 (c : Dev nD) (t : Fin cfg0.N) (r : Fin 256) (k : Fin 2816) :
    iblk m c 0 t (ix2 r k) = Dm m c (ix2 (row t r) k) := by
  blk_point [iblk, V, idx t]
  all_goals exact (show _ = _ by omega)

theorem blk1 (c : Dev nD) (t : Fin cfg0.N) (r : Fin 256) (k : Fin 2816) :
    iblk m c 1 t (ix2 r k) = Em m c (ix2 (row t r) k) := by
  blk_point [iblk, V, idx t]
  all_goals exact (show _ = _ by omega)

theorem blk2 (c : Dev nD) (t : Fin cfg0.N) (b : Fin 4) (n : Fin 1024) (k : Fin 1408) :
    iblk m c 2 t (ix3 b n k) = Wm m c (ix2 n ⟨1408 * b.val + k.val, by omega⟩) := by
  refine Eq.trans ?_ (weight_at m c b n k)
  blk_point [iblk, idx t]

theorem blk3 (c : Dev nD) (t : Fin cfg0.N) (r : Fin 256) (k : Fin 1024) :
    iblk m c 3 t (ix2 r k) = Xm m c (ix2 (row t r) k) := by
  blk_point [iblk, V, idx t]
  all_goals exact (show _ = _ by omega)

theorem blk4 (c : Dev nD) (t : Fin cfg0.N) (k : Fin 1024) :
    iblk m c 4 t (ix2 0 k) = wm m c (ix2 0 k) := by
  blk_point [iblk, V, idx t]

theorem blk5 (c : Dev nD) (t : Fin cfg0.N) (r : Fin 256) (k : Fin 1024) :
    iblk m c 5 t (ix2 r k) = Rm m c (ix2 (row t r) k) := by
  blk_point [iblk, V, idx t]
  all_goals exact (show _ = _ by omega)

/-- The gradient at the norm's result that one grid point computes, from four products. -/
abbrev dhb (c : Dev nD) (t : Fin cfg0.N) : FVec Ideal S256x1024 .f32 :=
  k0_pay6 (View.ld (iblk m c 0 t) (Rect.unit ![0, 0] ![256, 1408] inb_S256x2816_S256x1408_0_0))
    (View.ld (iblk m c 2 t) (Rect.unit ![0, 0, 0] ![1, 1024, 1408] inb_S4x1024x1408_S1x1024x1408_0_0_0))
    (View.ld (iblk m c 0 t) (Rect.unit ![0, 1408] ![256, 1408] inb_S256x2816_S256x1408_0_1408))
    (View.ld (iblk m c 2 t) (Rect.unit ![1, 0, 0] ![1, 1024, 1408] inb_S4x1024x1408_S1x1024x1408_1_0_0))
    (View.ld (iblk m c 1 t) (Rect.unit ![0, 0] ![256, 1408] inb_S256x2816_S256x1408_0_0))
    (View.ld (iblk m c 2 t) (Rect.unit ![2, 0, 0] ![1, 1024, 1408] inb_S4x1024x1408_S1x1024x1408_2_0_0))
    (View.ld (iblk m c 1 t) (Rect.unit ![0, 1408] ![256, 1408] inb_S256x2816_S256x1408_0_1408))
    (View.ld (iblk m c 2 t) (Rect.unit ![3, 0, 0] ![1, 1024, 1408] inb_S4x1024x1408_S1x1024x1408_3_0_0))

/-- The arguments' gradient at the norm's result, as the reference has it. -/
abbrev DHm (c : Dev nD) (r : Fin 2048) (n : Fin 1024) : EReal :=
  Cert.Norm2Ref.DH (Dm m c) (Em m c) (Wm m c) r n

/-- A product over all columns is the sum of the products over their two halves. -/
theorem split (f g : Fin 2816 → EReal) : ∑ x, f x + ∑ x, g x
    = ∑ x : Fin 1408, f ⟨x.val, by omega⟩ + ∑ x : Fin 1408, f ⟨1408 + x.val, by omega⟩ + ∑ x : Fin 1408, g ⟨x.val, by omega⟩
      + ∑ x : Fin 1408, g ⟨1408 + x.val, by omega⟩ := by
  rw [add_assoc (∑ x : Fin 1408, f ⟨x.val, by omega⟩ + _)]
  exact congrArg₂ (· + ·) (Fin.sum_univ_add (a := 1408) (b := 1408) f) (Fin.sum_univ_add (a := 1408) (b := 1408) g)

/-- One term of such a product. -/
theorem prod0 (c : Dev nD) (t : Fin cfg0.N) (r : Fin 256) (n : Fin 1024) (b : Fin 4) (x : Fin 1408) (i : Fin 2816) (j : Fin 5632)
    (h : j.val = 1408 * b.val + x.val) :
    (show EReal from iblk m c 0 t (ix2 r i)) * (show EReal from iblk m c 2 t (ix3 b n x)) = Dm m c (ix2 (row t r) i) * Wm m c (ix2 n j) := by
  rw [show j = ⟨1408 * b.val + x.val, by omega⟩ from Fin.ext h]
  exact congrArg₂ (fun a b : EReal => a * b) (blk0 m c t r i) (blk2 m c t b n x)

theorem prod1 (c : Dev nD) (t : Fin cfg0.N) (r : Fin 256) (n : Fin 1024) (b : Fin 4) (x : Fin 1408) (i : Fin 2816) (j : Fin 5632)
    (h : j.val = 1408 * b.val + x.val) :
    (show EReal from iblk m c 1 t (ix2 r i)) * (show EReal from iblk m c 2 t (ix3 b n x)) = Em m c (ix2 (row t r) i) * Wm m c (ix2 n j) := by
  rw [show j = ⟨1408 * b.val + x.val, by omega⟩ from Fin.ext h]
  exact congrArg₂ (fun a b : EReal => a * b) (blk1 m c t r i) (blk2 m c t b n x)

theorem dhb_at (c : Dev nD) (t : Fin cfg0.N) (r : Fin 256) (n : Fin 1024) :
    dhb m c t (ix2 r n) = DHm m c (row t r) n := by
  unfold dhb k0_pay6
  pointwise
  refine (congrArg₂ (· + ·) (congrArg₂ (· + ·) (congrArg₂ (· + ·) (Finset.sum_congr rfl fun x _ => ?_) (Finset.sum_congr rfl fun x _ => ?_))
    (Finset.sum_congr rfl fun x _ => ?_)) (Finset.sum_congr rfl fun x _ => ?_)).trans (split _ _).symm
  · exact prod0 m c t r n 0 x _ _ (by show x.val = 1408 * 0 + x.val; omega)
  · exact prod0 m c t r n 1 x _ _ (by show 1408 + x.val = 1408 * 1 + x.val; omega)
  · exact prod1 m c t r n 2 x _ _ (by show 2816 + x.val = 1408 * 2 + x.val; omega)
  · exact prod1 m c t r n 3 x _ _ (by show 2816 + (1408 + x.val) = 1408 * 3 + x.val; omega)

open Cert.Norm2Ref Cert.NormGrad

/-- A row of the input, and of the gradient at the norm's result times the norm's weight. -/
abbrev xm (c : Dev nD) (r : Fin 2048) : Fin 1024 → EReal := xr (Xm m c) r
abbrev gm (c : Dev nD) (r : Fin 2048) : Fin 1024 → EReal :=
  G (Dm m c) (Em m c) (Wm m c)
    (wm m c) r

theorem inv_at (c : Dev nD) (t : Fin cfg0.N) (r : Fin 256) :
    k0_pay4 (iblk m c 3 t) (ix2 r 0) = inv cN cE (xm m c (row t r)) := by
  unfold k0_pay4
  pointwise
  simp only [blk3]
  rfl

theorem pay1_at (x d : FVec Ideal S256x1024 .f32) (w : FVec Ideal S1x1024 .f32) (R : FVec Ideal S256x1024 .f32) (r : Fin 256) (k : Fin 1024) :
    k0_pay1 (k0_pay4 x) (k0_pay5 x) d w R (ix2 r k)
      = R (ix2 r k) + k0_pay4 (F := Ideal) x (ix2 r 0) * (d (ix2 r k) * w (ix2 0 k) - x (ix2 r k) * k0_pay4 (F := Ideal) x (ix2 r 0)
          * Ideal.div (∑ j, d (ix2 r j) * w (ix2 0 j) * (x (ix2 r j) * k0_pay4 (F := Ideal) x (ix2 r 0))) cN) := by
  unfold k0_pay1 k0_pay5
  pointwise

theorem pay3_at (x d : FVec Ideal S256x1024 .f32) (a : FVec Ideal S1x1024 .f32) (k : Fin 1024) :
    k0_pay3 (k0_pay5 x) d a (ix2 0 k) = a (ix2 0 k) + ∑ j, d (ix2 j k) * (x (ix2 j k) * k0_pay4 x (ix2 j 0)) := by
  unfold k0_pay3 k0_pay5
  pointwise

theorem dx_point (c : Dev nD) (t : Fin cfg0.N) (r : Fin 256) (k : Fin 1024) :
    k0_pay1 (k0_pay4 (iblk m c 3 t)) (k0_pay5 (iblk m c 3 t)) (dhb m c t) (iblk m c 4 t) (iblk m c 5 t) (ix2 r k)
      = Rm m c (ix2 (row t r) k) + closed cN cE (xm m c (row t r)) (gm m c (row t r)) k := by
  refine (pay1_at _ _ _ _ r k).trans ?_
  simp only [dhb_at, blk3, blk4, blk5, inv_at]
  rfl

/-- One grid point's part of the weight's gradient. -/
def part (c : Dev nD) (t : Fin cfg0.N) (k : Fin 1024) : EReal :=
  ∑ r : Fin 256, DHm m c (row t r) k * (Xm m c (ix2 (row t r) k) * inv cN cE (xm m c (row t r)))

theorem dw_point (c : Dev nD) (t : Fin cfg0.N) (a : FVec Ideal S1x1024 .f32) (k : Fin 1024) :
    k0_pay3 (k0_pay5 (iblk m c 3 t)) (dhb m c t) a (ix2 0 k) = a (ix2 0 k) + part m c t k := by
  refine (pay3_at _ _ _ k).trans ?_
  simp only [dhb_at, blk3, inv_at]
  rfl

/-- The first result: the gradient at the norm's input. -/
def DX (c : Dev nD) : FVec Ideal S2048x1024 .f32 := fun i =>
  Rm m c i + closed cN cE (xm m c (i 0)) (gm m c (i 0)) (i 1)

/-- The second result: the gradient of the norm's weight. -/
def DW (c : Dev nD) : FVec Ideal S1x1024 .f32 := fun i =>
  ∑ r : Fin 2048, DHm m c r (i 1) * (Xm m c (ix2 r (i 1)) * inv cN cE (xm m c r))

theorem final_dx (c : Dev nD) : (dats m 0 c).arrAt 6 cfg0.N = DX m c := by
  refine (dats m 0 c).arrAt_eq_of_covers 6 _ (by decide +kernel) fun t hf y => ?_
  blk_simp
  rw [after0_6]
  have key : (outsAt0 m c t.val t.isLt).1 y = DX m c (((cfg0.win 6).blk t).view.emb y) := by
    idx_vars y
    refine Eq.trans ?_ ((dx_point m c t y0 y1).trans ?_)
    · by_cases h : t.val % 8 = 0
      · rw [outsAt0_A m c t h]
        frame_out
        rfl
      · rw [outsAt0_B m c t h]
        frame_out
        rfl
    · show DX m c (ix2 (row t y0) y1) = _
      congr 1
      blk_ext [idx t]
      all_goals exact (show _ = _ by omega)
  exact key

theorem dwA (c : Dev nD) (t : Fin cfg0.N) (h : t.val % 8 = 0) (k : Fin 1024) :
    (outsAt0 m c t.val t.isLt).2 (ix2 0 k) = 0 + part m c t k := by
  rw [outsAt0_A m c t h]
  frame_out
  refine (dw_point m c t _ k).trans ?_
  congr 1
  unfold k0_pay2
  pointwise

theorem dwB (c : Dev nD) (t : Fin cfg0.N) (h : ¬ t.val % 8 = 0) (k : Fin 1024) :
    (outsAt0 m c t.val t.isLt).2 (ix2 0 k)
      = (show EReal from (outsAt0 m c (t.val - 1) (Nat.lt_of_le_of_lt (Nat.sub_le _ _) t.isLt)).2 (ix2 0 k)) + part m c t k := by
  rw [outsAt0_B m c t h]
  frame_out
  exact dw_point m c t _ k

/-- An index of a single row. -/
theorem row_idx (j : S1x1024.Idx) : j = ix2 0 (j 1) := by
  funext a
  fin_cases a
  · exact Subsingleton.elim (α := Fin 1) _ _
  · rfl

theorem final_dw (c : Dev nD) : (dats m 0 c).arrAt 7 cfg0.N = DW m c := by
  refine (dats m 0 c).arrAt_eq_of_covers 7 _ (by decide +kernel) fun t hf y => ?_
  blk_simp
  rw [after0_7, Pipeline.eq_sum_fin_of_reset_step_apply_of_flush (fun n h => (outsAt0 m c n h).2) 8 (fun _ => 0)
    (fun t j => part m c t (j 1)) (fun t h j => by rw [row_idx j]; exact dwA m c t h (j 1)) (fun t h j => by rw [row_idx j]; exact dwB m c t h (j 1)) t ((flush0_7 t).mp hf) _, zero_add]
  idx_vars y
  have e : (win0_7.blk t).view.emb (ix2 y0 y1) = ix2 0 y1 := by
    blk_ext [idx t]
    all_goals omega
  rw [e]
  have ht := point_lt t
  have key : ∑ s : Fin 8, part m c ⟨8 * (t.val / 8) + s.val, by show _ < 8; omega⟩ y1 = DW m c (ix2 0 y1) := by
    refine Eq.trans ?_ (Fin.sum_univ_tiles 8 256 rfl _).symm
    refine Finset.sum_congr rfl fun s _ => Finset.sum_congr rfl fun r _ => ?_
    have e : row ⟨8 * (t.val / 8) + s.val, by show _ < 8; omega⟩ r = ⟨s.val * 256 + r.val, by omega⟩ :=
      Fin.ext (by show 256 * (8 * (t.val / 8) + s.val) + r.val = s.val * 256 + r.val; omega)
    rw [e]
    rfl
  exact key

end Cert.Norm2Kernel

end
-- ==== Proof.Norm2.lean ====
/- The second norm's gradient: the kernel and the derivative of the forward lines give the same two results. -/
module

public import proofs.«01_k».proof.Defs
public import proofs.«01_k».proof.Proof.Norm2Kernel
public import Idealize.ShloMosaic.Adequacy
public import Idealize.ShloMosaic.Init

@[expose] public section

set_option maxRecDepth 16384

noncomputable section

namespace Cert.Norm2Proof

open Idealize.ShloMosaic Idealize.SL.Sem

/-- The side conditions of the precondition's own operations. -/
instance pre_facts : Pre_norm2_finite.Facts := by constructor <;> decide

theorem value : algebraic_Norm2Ideal_Norm2RefIdeal_pre_norm2_finite := by
  intro m g m' g' hp hm
  refine ⟨fun c => Norm2Kernel.DX m c, fun c => Norm2Kernel.DW m c,
    (θ_run Norm2Ideal.defs _ _).mono (fun r h c => ⟨(h c).1.trans (Norm2Kernel.final_dx m c),
      (h c).2.1.trans (Norm2Kernel.final_dw m c), (h c).2.2⟩) (Norm2Ideal.Value.run_blocks m g),
    (θ_run Norm2RefIdeal.defs _ _).mono (fun r h c => ⟨(h c).1.trans ?_, (h c).2.1.trans ?_, (h c).2.2⟩) (Norm2RefIdeal.Value.run m' g')⟩
  · obtain ⟨h0, h1, h2, h3, h4⟩ := hp c
    refine (Norm2RefIdeal.Read.val_main_v41_eq (F := Ideal) _ _).trans ?_
    rw [(hm c).1, (hm c).2.1, (hm c).2.2.1, (hm c).2.2.2.1, (hm c).2.2.2.2.1, (hm c).2.2.2.2.2]
    funext i
    obtain ⟨r, k, rfl⟩ : ∃ (r : Fin 2048) (k : Fin 1024), i = ix2 r k := ⟨i 0, i 1, by funext a; fin_cases a <;> rfl⟩
    exact Norm2Ref.dx_closed _ _ _ _ _ _ (Finite.real_of (φ := .f32) (Norm2Kernel.Dm m c) _ (fun _ => Finite.inf_f32) h0)
      (Finite.real_of (φ := .f32) (Norm2Kernel.Em m c) _ (fun _ => Finite.inf_f32) h1)
      (Finite.real_of _ _ (fun _ => Finite.inf_f32) h2)
      (Finite.real_of _ _ (fun _ => Finite.inf_f32) h3)
      (Finite.real_of _ _ (fun _ => Finite.inf_f32) h4) r k
  · rw [(hm c).1, (hm c).2.1, (hm c).2.2.1, (hm c).2.2.2.1]
    refine (Norm2RefIdeal.Read.val_main_v42_eq (F := Ideal) _ _ _ _).trans ?_
    funext i
    rw [Norm2Kernel.row_idx i]
    exact Norm2Ref.dw_at _ _ _ _ (i 1)

/-- The reference ends with its arguments unchanged; it has no semaphore. -/
theorem ref_frame : quiescent_Norm2RefIdeal := fun m ρ _ =>
  (θ_run Norm2RefIdeal.defs _ _).mono (fun r h => ⟨fun c => (h c).2.2, Idealize.ShloMosaic.sem_eq_zero_of_no_sems (by decide) r.2⟩)
    (Norm2RefIdeal.Value.run m ρ)

end Cert.Norm2Proof

end
-- ==== Proof.Norm1Ref.lean ====
/- The reference of the first norm's gradient, read at an index. -/
module

public import proofs.«01_k».proof.Proof.Gen.Norm1RefIdeal.Read
public import proofs.«01_k».proof.Proof.NormGrad

@[expose] public section

set_option maxRecDepth 16384

noncomputable section

namespace Cert.Norm1Ref

open Cert.Norm1RefIdeal Cert.Norm1RefIdeal.Gen Cert.Norm1RefIdeal.Read Idealize.ShloMosaic Cert.NormGrad

/-- The divisor, the number added under the root, and the root's factor, as the programs write them. -/
abbrev cN : EReal := Ideal.ofBits .f32 1149239296#32
abbrev cE : EReal := Ideal.ofBits .f32 897988541#32
abbrev cH : EReal := Ideal.ofBits .f32 3204448256#32

variable (D : FVec Ideal S2048x3592 .f32) (W : FVec Ideal S1024x3592 .f32) (X : FVec Ideal S2048x1024 .f32) (w : FVec Ideal S1x1024 .f32)
  (R : FVec Ideal S2048x1024 .f32)

/-- The gradient that comes back through the product, at the norm's result. -/
def DH (r : Fin 2048) (c : Fin 1024) : EReal :=
  ∑ x : Fin 3592, D (ix2 r x) * W (ix2 c x)

/-- The same with the norm's weight. -/
def G (r : Fin 2048) (c : Fin 1024) : EReal := DH D W r c * w (ix2 0 c)

/-- A row of the input. -/
abbrev xr (r : Fin 2048) (c : Fin 1024) : EReal := X (ix2 r c)

theorem dx_at (r : Fin 2048) (c : Fin 1024) :
    val_main_v39 (F := Ideal) D W X w R (ix2 r c)
      = R (ix2 r c) + G D W w r c * inv cN cE (xr X r) + X (ix2 r c) * through cN cE cH (xr X r) (G D W w r)
        + through cN cE cH (xr X r) (G D W w r) * X (ix2 r c) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Fin.sum_univ_one]
  rfl

theorem dw_at (c : Fin 1024) :
    val_main_v40 (F := Ideal) D W X (ix2 0 c) = ∑ r : Fin 2048, DH D W r c * (X (ix2 r c) * inv cN cE (xr X r)) := by
  pointwise [val_main_v40, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Fin.sum_univ_one]
  exact Finset.sum_congr rfl fun r _ => mul_comm _ _

/-- The finite rows' gradient in closed form. -/
theorem dx_closed (hD : ∃ f : S2048x3592.Idx → ℝ, D = fun i => ((f i : ℝ) : EReal))
    (hW : ∃ f : S1024x3592.Idx → ℝ, W = fun i => ((f i : ℝ) : EReal)) (hX : ∃ f : S2048x1024.Idx → ℝ, X = fun i => ((f i : ℝ) : EReal))
    (hw : ∃ f : S1x1024.Idx → ℝ, w = fun i => ((f i : ℝ) : EReal)) (r : Fin 2048) (c : Fin 1024) :
    val_main_v39 (F := Ideal) D W X w R (ix2 r c) = R (ix2 r c) + closed cN cE (xr X r) (G D W w r) c := by
  rw [dx_at]
  obtain ⟨D, rfl⟩ := hD
  obtain ⟨W, rfl⟩ := hW
  obtain ⟨X, rfl⟩ := hX
  obtain ⟨w, rfl⟩ := hw
  obtain ⟨e, he, hE⟩ := Cert.Finite.eps_pos
  have hG : ∃ g : Fin 1024 → ℝ, G (fun i => ((D i : ℝ) : EReal)) (fun i => ((W i : ℝ) : EReal))
      (fun i => ((w i : ℝ) : EReal)) r = fun c => ((g c : ℝ) : EReal) :=
    ⟨fun c => (∑ x : Fin 3592, D (ix2 r x) * W (ix2 c x))
      * w (ix2 0 c), funext fun c => by
        unfold G DH
        simp only [← EReal.coe_mul, ← Cert.Finite.coe_sum, ← EReal.coe_add]⟩
  obtain ⟨g, hg⟩ := hG
  have := same (k := 1024) (by norm_num) he (fun j => X (ix2 r j)) g c
  rw [hg, show cN = ((1024 : ℝ) : EReal) from Cert.Finite.c1024, show cE = (e : EReal) from hE,
    show cH = ((-(1 / 2) : ℝ) : EReal) from Cert.Finite.minus_half]
  refine Eq.trans ?_ (congrArg (R (ix2 r c) + ·) this.symm)
  have ac : ∀ a b c d : EReal, a + b + c + d = a + (b + c + d) := fun a b c d => by ac_rfl
  exact ac _ _ _ _

end Cert.Norm1Ref

end
-- ==== Proof.Norm1Kernel.lean ====
/- The kernel of the first norm's gradient: what its two results are. -/
module

public import proofs.«01_k».proof.Proof.Gen.Norm1Ideal.Value
public import proofs.«01_k».proof.Proof.Norm1Ref
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Norm1Kernel

open Cert.Norm1Ideal Cert.Norm1Ideal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Dm (c : Dev nD) : FVec Ideal S2048x3592 .f32 := m ((c : Thread nD τ).loc main_arg0)
abbrev Wm (c : Dev nD) : FVec Ideal S1024x3592 .f32 := m ((c : Thread nD τ).loc main_arg1)
abbrev Xm (c : Dev nD) : FVec Ideal S2048x1024 .f32 := m ((c : Thread nD τ).loc main_arg2)
abbrev wm (c : Dev nD) : FVec Ideal S1x1024 .f32 := m ((c : Thread nD τ).loc main_arg3)
abbrev Rm (c : Dev nD) : FVec Ideal S2048x1024 .f32 := m ((c : Thread nD τ).loc main_arg4)

/-- The block each window holds at a grid point. -/
theorem idx : ∀ t : Fin cfg0.N, win0_0.index t = ![t.val, 0] ∧ win0_1.index t = ![0, 0, 0]
    ∧ win0_2.index t = ![t.val, 0] ∧ win0_3.index t = ![0, 0] ∧ win0_4.index t = ![t.val, 0] ∧ win0_5.index t = ![t.val, 0]
    ∧ win0_6.index t = ![0, 0] :=
  (by decide +kernel : ∀ t : Fin grid0.N, _)

/-- The columns of `Dm` in the packed order: the first 2048 as they stand, the last 1536, the eight between them, zeros. -/
def PD (c : Dev nD) : FVec Ideal S2048x3840 .f32 := concatenate S2048x3840 1
  [⟨S2048x2048, extractStridedSlice S2048x2048 ![0, 0] (Dm m c) slices_S2048x3592_S2048x2048_0_0⟩,
    ⟨S2048x1536, extractStridedSlice S2048x1536 ![0, 2056] (Dm m c) slices_S2048x3592_S2048x1536_0_2056⟩,
    ⟨S2048x8, extractStridedSlice S2048x8 ![0, 2048] (Dm m c) slices_S2048x3592_S2048x8_0_2048⟩,
    ⟨S2048x248, broadcastInDim S2048x248 ![] bcast_S_S2048x248 (constant S_ .f32 0x00000000#32)⟩]
  concatenates_S2048x2048_S2048x1536_S2048x8_S2048x248_S2048x3840_d1

theorem PD_0 (c : Dev nD) (r : Fin 2048) (k : Fin 2048) : PD m c (ix2 r ⟨k.val, by omega⟩) = Dm m c (ix2 r ⟨k.val, by omega⟩) := by
  unfold PD
  pointwise

theorem PD_1 (c : Dev nD) (r : Fin 2048) (k : Fin 1536) :
    PD m c (ix2 r ⟨2048 + k.val, by omega⟩) = Dm m c (ix2 r ⟨2056 + k.val, by omega⟩) := by
  unfold PD
  pointwise

theorem PD_2 (c : Dev nD) (r : Fin 2048) (k : Fin 8) :
    PD m c (ix2 r ⟨3584 + k.val, by omega⟩) = Dm m c (ix2 r ⟨2048 + k.val, by omega⟩) := by
  unfold PD
  pointwise
  rw [dif_neg (by omega), dif_neg (by omega), dif_pos (by omega)]
  exact congrArg (fun j => Dm m c (ix2 r j)) (Fin.ext (by show 2048 + (3584 + k.val - 3584) = 2048 + k.val; omega))

theorem PD_3 (c : Dev nD) (r : Fin 2048) (k : Fin 248) : PD m c (ix2 r ⟨3592 + k.val, by omega⟩) = 0 := by
  unfold PD
  pointwise
  rw [dif_neg (by omega), dif_neg (by omega), dif_neg (by omega)]

/-- The columns of `Wm` in the packed order: the first 2048 as they stand, the last 1536, the eight between them, zeros. -/
def PW (c : Dev nD) : FVec Ideal S1024x3840 .f32 := concatenate S1024x3840 1
  [⟨S1024x2048, extractStridedSlice S1024x2048 ![0, 0] (Wm m c) slices_S1024x3592_S1024x2048_0_0⟩,
    ⟨S1024x1536, extractStridedSlice S1024x1536 ![0, 2056] (Wm m c) slices_S1024x3592_S1024x1536_0_2056⟩,
    ⟨S1024x8, extractStridedSlice S1024x8 ![0, 2048] (Wm m c) slices_S1024x3592_S1024x8_0_2048⟩,
    ⟨S1024x248, broadcastInDim S1024x248 ![] bcast_S_S1024x248 (constant S_ .f32 0x00000000#32)⟩]
  concatenates_S1024x2048_S1024x1536_S1024x8_S1024x248_S1024x3840_d1

theorem PW_0 (c : Dev nD) (r : Fin 1024) (k : Fin 2048) : PW m c (ix2 r ⟨k.val, by omega⟩) = Wm m c (ix2 r ⟨k.val, by omega⟩) := by
  unfold PW
  pointwise

theorem PW_1 (c : Dev nD) (r : Fin 1024) (k : Fin 1536) :
    PW m c (ix2 r ⟨2048 + k.val, by omega⟩) = Wm m c (ix2 r ⟨2056 + k.val, by omega⟩) := by
  unfold PW
  pointwise

theorem PW_2 (c : Dev nD) (r : Fin 1024) (k : Fin 8) :
    PW m c (ix2 r ⟨3584 + k.val, by omega⟩) = Wm m c (ix2 r ⟨2048 + k.val, by omega⟩) := by
  unfold PW
  pointwise
  rw [dif_neg (by omega), dif_neg (by omega), dif_pos (by omega)]
  exact congrArg (fun j => Wm m c (ix2 r j)) (Fin.ext (by show 2048 + (3584 + k.val - 3584) = 2048 + k.val; omega))

theorem PW_3 (c : Dev nD) (r : Fin 1024) (k : Fin 248) : PW m c (ix2 r ⟨3592 + k.val, by omega⟩) = 0 := by
  unfold PW
  pointwise
  rw [dif_neg (by omega), dif_neg (by omega), dif_neg (by omega)]

theorem point_lt (t : Fin cfg0.N) : t.val < 8 := t.isLt

/-- The row of the whole array that a row of a grid point's block is. -/
abbrev row (t : Fin cfg0.N) (r : Fin 256) : Fin 2048 := ⟨256 * t.val + r.val, by have := point_lt t; omega⟩

theorem blk0 (c : Dev nD) (t : Fin cfg0.N) (r : Fin 256) (k : Fin 3840) : iblk m c 0 t (ix2 r k) = PD m c (ix2 (row t r) k) := by
  have e : V m c main_v5 = truncf (F := Ideal) .bf16 (PD m c) bitsLt_bf16_f32 := by rfl
  refine Eq.trans ?_ (show V m c main_v5 (ix2 (row t r) k) = PD m c (ix2 (row t r) k) by rw [e]; rfl)
  blk_point [iblk, idx t]
  all_goals exact (show _ = _ by omega)

theorem blk1 (c : Dev nD) (t : Fin cfg0.N) (n : Fin 1024) (k : Fin 3840) : iblk m c 1 t (ix3 0 n k) = PW m c (ix2 n k) := by
  have e : V m c main_v12 = broadcastInDim S1x1024x3840 ![1, 2] bcast_S1024x3840_S1x1024x3840_1_2 (truncf (F := Ideal) .bf16 (PW m c) bitsLt_bf16_f32) := by rfl
  refine Eq.trans ?_ (show V m c main_v12 (ix3 0 n k) = PW m c (ix2 n k) by rw [e]; pointwise)
  blk_point [iblk, idx t]

theorem blk2 (c : Dev nD) (t : Fin cfg0.N) (r : Fin 256) (k : Fin 1024) :
    iblk m c 2 t (ix2 r k) = Xm m c (ix2 (row t r) k) := by
  blk_point [iblk, V, idx t]
  all_goals exact (show _ = _ by omega)

theorem blk3 (c : Dev nD) (t : Fin cfg0.N) (k : Fin 1024) :
    iblk m c 3 t (ix2 0 k) = wm m c (ix2 0 k) := by
  blk_point [iblk, V, idx t]

theorem blk4 (c : Dev nD) (t : Fin cfg0.N) (r : Fin 256) (k : Fin 1024) :
    iblk m c 4 t (ix2 r k) = Rm m c (ix2 (row t r) k) := by
  blk_point [iblk, V, idx t]
  all_goals exact (show _ = _ by omega)

/-- The gradient at the norm's result that one grid point computes. -/
abbrev dhb (c : Dev nD) (t : Fin cfg0.N) : FVec Ideal S256x1024 .f32 := k0_pay4 (iblk m c 0 t) (iblk m c 1 t)

/-- The arguments' gradient at the norm's result, as the reference has it. -/
abbrev DHm (c : Dev nD) (r : Fin 2048) (n : Fin 1024) : EReal := Cert.Norm1Ref.DH (Dm m c) (Wm m c) r n

/-- A sum over the packed columns is the sum over the columns, where the packed padding adds nothing. -/
theorem split (f : Fin 3840 → EReal) (g : Fin 3592 → EReal) (h0 : ∀ k : Fin 2048, f ⟨k.val, by omega⟩ = g ⟨k.val, by omega⟩)
    (h1 : ∀ k : Fin 1536, f ⟨2048 + k.val, by omega⟩ = g ⟨2056 + k.val, by omega⟩) (h2 : ∀ k : Fin 8, f ⟨3584 + k.val, by omega⟩ = g ⟨2048 + k.val, by omega⟩)
    (h3 : ∀ k : Fin 248, f ⟨3592 + k.val, by omega⟩ = 0) : ∑ x, f x = ∑ x, g x := by
  have ef := Fin.sum_univ_add (a := 3592) (b := 248) f
  have ef1 := Fin.sum_univ_add (a := 3584) (b := 8) (fun i => f (Fin.castAdd 248 i))
  have ef2 := Fin.sum_univ_add (a := 2048) (b := 1536) (fun i => f (Fin.castAdd 248 (Fin.castAdd 8 i)))
  have eg := Fin.sum_univ_add (a := 2056) (b := 1536) g
  have eg1 := Fin.sum_univ_add (a := 2048) (b := 8) (fun i => g (Fin.castAdd 1536 i))
  rw [ef, ef1, ef2, eg, eg1, show ∑ i : Fin 248, f (Fin.natAdd 3592 i) = 0 from Finset.sum_eq_zero fun k _ => h3 k, add_zero, add_right_comm]
  exact congrArg₂ (· + ·) (congrArg₂ (· + ·) (Finset.sum_congr rfl fun k _ => h0 k) (Finset.sum_congr rfl fun k _ => h2 k))
    (Finset.sum_congr rfl fun k _ => h1 k)

theorem dhb_at (c : Dev nD) (t : Fin cfg0.N) (r : Fin 256) (n : Fin 1024) :
    dhb m c t (ix2 r n) = DHm m c (row t r) n := by
  have h : ∀ (a : FVec Ideal S256x3840 .bf16) (b : FVec Ideal S1x1024x3840 .bf16), k0_pay4 (F := Ideal) a b (ix2 r n) = ∑ x, a (ix2 r x) * b (ix3 0 n x) := by
    intro a b
    unfold k0_pay4
    pointwise
  refine (h _ _).trans ?_
  simp only [blk0, blk1]
  refine split _ _ (fun k => ?_) (fun k => ?_) (fun k => ?_) (fun k => ?_)
  · exact congrArg₂ (fun a b : EReal => a * b) (PD_0 m c (row t r) k) (PW_0 m c n k)
  · exact congrArg₂ (fun a b : EReal => a * b) (PD_1 m c (row t r) k) (PW_1 m c n k)
  · exact congrArg₂ (fun a b : EReal => a * b) (PD_2 m c (row t r) k) (PW_2 m c n k)
  · exact (congrArg₂ (fun a b : EReal => a * b) (PD_3 m c (row t r) k) (PW_3 m c n k)).trans (mul_zero _)

open Cert.Norm1Ref Cert.NormGrad

/-- A row of the input, and of the gradient at the norm's result times the norm's weight. -/
abbrev xm (c : Dev nD) (r : Fin 2048) : Fin 1024 → EReal := xr (Xm m c) r
abbrev gm (c : Dev nD) (r : Fin 2048) : Fin 1024 → EReal :=
  G (Dm m c) (Wm m c)
    (wm m c) r

theorem inv_at (c : Dev nD) (t : Fin cfg0.N) (r : Fin 256) :
    k0_pay2 (iblk m c 2 t) (ix2 r 0) = inv cN cE (xm m c (row t r)) := by
  unfold k0_pay2
  pointwise
  simp only [blk2]
  rfl

theorem pay1_at (x : FVec Ideal S256x1024 .f32) (a : FVec Ideal S256x3840 .bf16) (b : FVec Ideal S1x1024x3840 .bf16) (w : FVec Ideal S1x1024 .f32) (R : FVec Ideal S256x1024 .f32) (r : Fin 256) (k : Fin 1024) :
    k0_pay5 x a b w R (ix2 r k)
      = R (ix2 r k) + k0_pay2 (F := Ideal) x (ix2 r 0) * (k0_pay4 (F := Ideal) a b (ix2 r k) * w (ix2 0 k) - x (ix2 r k) * k0_pay2 (F := Ideal) x (ix2 r 0)
          * Ideal.div (∑ j, k0_pay4 (F := Ideal) a b (ix2 r j) * w (ix2 0 j) * (x (ix2 r j) * k0_pay2 (F := Ideal) x (ix2 r 0))) cN) := by
  unfold k0_pay5 k0_pay3
  pointwise

theorem pay3_at (x d : FVec Ideal S256x1024 .f32) (a : FVec Ideal S1x1024 .f32) (k : Fin 1024) :
    k0_pay1 (k0_pay3 x) d a (ix2 0 k) = a (ix2 0 k) + ∑ j, d (ix2 j k) * (x (ix2 j k) * k0_pay2 x (ix2 j 0)) := by
  unfold k0_pay1 k0_pay3
  pointwise

theorem dx_point (c : Dev nD) (t : Fin cfg0.N) (r : Fin 256) (k : Fin 1024) :
    k0_pay5 (iblk m c 2 t) (iblk m c 0 t) (iblk m c 1 t) (iblk m c 3 t) (iblk m c 4 t) (ix2 r k)
      = Rm m c (ix2 (row t r) k) + closed cN cE (xm m c (row t r)) (gm m c (row t r)) k := by
  refine (pay1_at _ _ _ _ _ r k).trans ?_
  simp only [dhb_at, blk2, blk3, blk4, inv_at]
  rfl

/-- One grid point's part of the weight's gradient. -/
def part (c : Dev nD) (t : Fin cfg0.N) (k : Fin 1024) : EReal :=
  ∑ r : Fin 256, DHm m c (row t r) k * (Xm m c (ix2 (row t r) k) * inv cN cE (xm m c (row t r)))

theorem dw_point (c : Dev nD) (t : Fin cfg0.N) (a : FVec Ideal S1x1024 .f32) (k : Fin 1024) :
    k0_pay1 (k0_pay3 (iblk m c 2 t)) (dhb m c t) a (ix2 0 k) = a (ix2 0 k) + part m c t k := by
  refine (pay3_at _ _ _ k).trans ?_
  simp only [dhb_at, blk2, inv_at]
  rfl

/-- The first result: the gradient at the norm's input. -/
def DX (c : Dev nD) : FVec Ideal S2048x1024 .f32 := fun i =>
  Rm m c i + closed cN cE (xm m c (i 0)) (gm m c (i 0)) (i 1)

/-- The second result: the gradient of the norm's weight. -/
def DW (c : Dev nD) : FVec Ideal S1x1024 .f32 := fun i =>
  ∑ r : Fin 2048, DHm m c r (i 1) * (Xm m c (ix2 r (i 1)) * inv cN cE (xm m c r))

theorem final_dx (c : Dev nD) : (dats m 0 c).arrAt 5 cfg0.N = DX m c := by
  refine (dats m 0 c).arrAt_eq_of_covers 5 _ (by decide +kernel) fun t hf y => ?_
  blk_simp
  rw [after0_5]
  have key : (outsAt0 m c t.val t.isLt).1 y = DX m c (((cfg0.win 5).blk t).view.emb y) := by
    idx_vars y
    refine Eq.trans ?_ ((dx_point m c t y0 y1).trans ?_)
    · by_cases h : t.val % 8 = 0
      · rw [outsAt0_A m c t h]
        frame_out
      · rw [outsAt0_B m c t h]
        frame_out
    · show DX m c (ix2 (row t y0) y1) = _
      congr 1
      blk_ext [idx t]
      all_goals exact (show _ = _ by omega)
  exact key

theorem dwA (c : Dev nD) (t : Fin cfg0.N) (h : t.val % 8 = 0) (k : Fin 1024) :
    (outsAt0 m c t.val t.isLt).2 (ix2 0 k) = 0 + part m c t k := by
  rw [outsAt0_A m c t h]
  frame_out
  refine (dw_point m c t _ k).trans ?_
  congr 1
  unfold k0_pay6
  pointwise

theorem dwB (c : Dev nD) (t : Fin cfg0.N) (h : ¬ t.val % 8 = 0) (k : Fin 1024) :
    (outsAt0 m c t.val t.isLt).2 (ix2 0 k)
      = (show EReal from (outsAt0 m c (t.val - 1) (Nat.lt_of_le_of_lt (Nat.sub_le _ _) t.isLt)).2 (ix2 0 k)) + part m c t k := by
  rw [outsAt0_B m c t h]
  frame_out
  exact dw_point m c t _ k

/-- An index of a single row. -/
theorem row_idx (j : S1x1024.Idx) : j = ix2 0 (j 1) := by
  funext a
  fin_cases a
  · exact Subsingleton.elim (α := Fin 1) _ _
  · rfl

theorem final_dw (c : Dev nD) : (dats m 0 c).arrAt 6 cfg0.N = DW m c := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0)
    (fun t j => part m c t (j 1)) (fun t h j => by rw [row_idx j]; exact dwA m c t h (j 1)) (fun t h j => by rw [row_idx j]; exact dwB m c t h (j 1)) t ((flush0_6 t).mp hf) _, zero_add]
  idx_vars y
  have e : (win0_6.blk t).view.emb (ix2 y0 y1) = ix2 0 y1 := by
    blk_ext [idx t]
    all_goals omega
  rw [e]
  have ht := point_lt t
  have key : ∑ s : Fin 8, part m c ⟨8 * (t.val / 8) + s.val, by show _ < 8; omega⟩ y1 = DW m c (ix2 0 y1) := by
    refine Eq.trans ?_ (Fin.sum_univ_tiles 8 256 rfl _).symm
    refine Finset.sum_congr rfl fun s _ => Finset.sum_congr rfl fun r _ => ?_
    have e : row ⟨8 * (t.val / 8) + s.val, by show _ < 8; omega⟩ r = ⟨s.val * 256 + r.val, by omega⟩ :=
      Fin.ext (by show 256 * (8 * (t.val / 8) + s.val) + r.val = s.val * 256 + r.val; omega)
    rw [e]
    rfl
  exact key

end Cert.Norm1Kernel

end
-- ==== Proof.Norm1.lean ====
/- The first norm's gradient: the kernel and the derivative of the forward lines give the same two results. -/
module

public import proofs.«01_k».proof.Defs
public import proofs.«01_k».proof.Proof.Norm1Kernel
public import Idealize.ShloMosaic.Adequacy
public import Idealize.ShloMosaic.Init

@[expose] public section

set_option maxRecDepth 16384

noncomputable section

namespace Cert.Norm1Proof

open Idealize.ShloMosaic Idealize.SL.Sem

/-- The side conditions of the precondition's own operations. -/
instance pre_facts : Pre_norm1_finite.Facts := by constructor <;> decide

theorem value : algebraic_Norm1Ideal_Norm1RefIdeal_pre_norm1_finite := by
  intro m g m' g' hp hm
  refine ⟨fun c => Norm1Kernel.DX m c, fun c => Norm1Kernel.DW m c,
    (θ_run Norm1Ideal.defs _ _).mono (fun r h c => ⟨(h c).1.trans (Norm1Kernel.final_dx m c),
      (h c).2.1.trans (Norm1Kernel.final_dw m c), (h c).2.2⟩) (Norm1Ideal.Value.run_blocks m g),
    (θ_run Norm1RefIdeal.defs _ _).mono (fun r h c => ⟨(h c).1.trans ?_, (h c).2.1.trans ?_, (h c).2.2⟩) (Norm1RefIdeal.Value.run m' g')⟩
  · obtain ⟨h0, h1, h2, h3⟩ := hp c
    refine (Norm1RefIdeal.Read.val_main_v39_eq (F := Ideal) _ _).trans ?_
    rw [(hm c).1, (hm c).2.1, (hm c).2.2.1, (hm c).2.2.2.1, (hm c).2.2.2.2]
    funext i
    obtain ⟨r, k, rfl⟩ : ∃ (r : Fin 2048) (k : Fin 1024), i = ix2 r k := ⟨i 0, i 1, by funext a; fin_cases a <;> rfl⟩
    exact Norm1Ref.dx_closed _ _ _ _ _ (Finite.real_of _ _ (fun _ => Finite.inf_f32) h0)
      (Finite.real_of _ _ (fun _ => Finite.inf_f32) h1)
      (Finite.real_of _ _ (fun _ => Finite.inf_f32) h2)
      (Finite.real_of _ _ (fun _ => Finite.inf_f32) h3) r k
  · rw [(hm c).1, (hm c).2.1, (hm c).2.2.1]
    refine (Norm1RefIdeal.Read.val_main_v40_eq (F := Ideal) _ _ _).trans ?_
    funext i
    rw [Norm1Kernel.row_idx i]
    exact Norm1Ref.dw_at _ _ _ (i 1)

/-- The reference ends with its arguments unchanged; it has no semaphore. -/
theorem ref_frame : quiescent_Norm1RefIdeal := fun m ρ _ =>
  (θ_run Norm1RefIdeal.defs _ _).mono (fun r h => ⟨fun c => (h c).2.2, Idealize.ShloMosaic.sem_eq_zero_of_no_sems (by decide) r.2⟩)
    (Norm1RefIdeal.Value.run m ρ)

end Cert.Norm1Proof

end
-- ==== Proof.LossRef.lean ====
/- The reference of the loss and its gradient, read at an index. -/
module

public import proofs.«01_k».proof.Proof.Gen.LossRefIdeal.Read
public import proofs.«01_k».proof.Proof.NormGrad
public import Idealize.ShloMosaic.Lib.Pipeline.ValueKit

@[expose] public section

set_option maxRecDepth 16384

noncomputable section

namespace Cert.LossRef

open Cert.LossRefIdeal Cert.LossRefIdeal.Gen Cert.LossRefIdeal.Read Idealize.ShloMosaic Cert.NormGrad

/-- The divisor, the number added under the root, and the root's factor, as the programs write them. -/
abbrev cN : EReal := Ideal.ofBits .f32 1149239296#32
abbrev cE : EReal := Ideal.ofBits .f32 897988541#32
abbrev cH : EReal := Ideal.ofBits .f32 3204448256#32

variable (A : FVec Ideal S2048x2816 .bf16) (W : FVec Ideal S2816x1024 .f32) (X : FVec Ideal S2048x1024 .f32) (w : FVec Ideal S1024 .f32)
  (T : FVec Ideal S2048x1024 .f32)

/-- A row of the last layer's output. -/
def xr (r : Fin 2048) (c : Fin 1024) : EReal := X (ix2 r c) + ∑ j : Fin 2816, A (ix2 r j) * W (ix2 j c)

/-- The difference of the normed row and the target. -/
def err (r : Fin 2048) (c : Fin 1024) : EReal := xr A W X r c * inv cN cE (xr A W X r) * w (ix1 c) - T (ix2 r c)

/-- The constants a half, two, a thousandth and half of that. -/
theorem half : Ideal.ofBits .f32 1056964608#32 = ((1 / 2 : ℝ) : EReal) := by
  simp [Ideal.ofBits, Ideal.ieee, -EReal.coe_mul, -EReal.coe_neg]
  norm_num

theorem two : Ideal.ofBits .f32 1073741824#32 = ((2 : ℝ) : EReal) := by
  simp [Ideal.ofBits, Ideal.ieee, -EReal.coe_mul, -EReal.coe_neg]
  norm_num

theorem one_1024 : Ideal.ofBits .f32 0x3A800000#32 = ((1 / 1024 : ℝ) : EReal) := by
  simp [Ideal.ofBits, Ideal.ieee, -EReal.coe_mul, -EReal.coe_neg]
  norm_num

theorem one_2048 : Ideal.ofBits .f32 0x3A000000#32 = ((1 / 2048 : ℝ) : EReal) := by
  simp [Ideal.ofBits, Ideal.ieee, -EReal.coe_mul, -EReal.coe_neg]
  norm_num

/-- The gradient at the normed row, and the same with the norm's weight. -/
def dy (r : Fin 2048) (c : Fin 1024) : EReal := err A W X w T r c * Ideal.ofBits .f32 0x3A800000#32
def G (r : Fin 2048) (c : Fin 1024) : EReal := dy A W X w T r c * w (ix1 c)

/-- The gradient at the normed row as the derivative of the square and the mean writes it. -/
theorem dy_eq (e : EReal) : Ideal.div (Ideal.ofBits .f32 1056964608#32) cN * (Ideal.ofBits .f32 1073741824#32 * e) = e * Ideal.ofBits .f32 0x3A800000#32 := by
  rw [half, two, one_1024, show cN = ((1024 : ℝ) : EReal) from Cert.Finite.c1024, Ideal.div_coe (by norm_num), ← EReal.coe_mul, ← mul_assoc,
    ← EReal.coe_mul, mul_comm]
  norm_num

theorem loss_at (a : Fin 8) (b : Fin 128) : val_main_v54 (F := Ideal) A W X w T (ix2 a b)
    = Ideal.ofBits .f32 1056964608#32 * ∑ r : Fin 2048, Ideal.div (∑ c : Fin 1024, err A W X w T r c * err A W X w T r c) cN := by
  pointwise [val_main_v54, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

theorem dx_at (r : Fin 2048) (c : Fin 1024) : val_main_v53 (F := Ideal) A W X w T (ix2 r c)
    = G A W X w T r c * inv cN cE (xr A W X r) + xr A W X r c * through cN cE cH (xr A W X r) (G A W X w T r)
        + through cN cE cH (xr A W X r) (G A W X w T r) * xr A W X r c := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Fin.sum_univ_one, dy_eq]
  rfl

theorem dw_at (c : Fin 1024) : val_main_v56 (F := Ideal) A W X w T (ix2 0 c)
    = ∑ r : Fin 2048, dy A W X w T r c * (xr A W X r c * inv cN cE (xr A W X r)) := by
  pointwise [val_main_v56, val_main_v39, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Fin.sum_univ_one, dy_eq]
  exact Finset.sum_congr rfl fun r _ => mul_comm _ _

/-- Where the arguments are finite, so are the output's row and the difference. -/
theorem xr_real (hA : ∃ f : S2048x2816.Idx → ℝ, A = fun i => ((f i : ℝ) : EReal)) (hW : ∃ f : S2816x1024.Idx → ℝ, W = fun i => ((f i : ℝ) : EReal))
    (hX : ∃ f : S2048x1024.Idx → ℝ, X = fun i => ((f i : ℝ) : EReal)) (r : Fin 2048) :
    ∃ f : Fin 1024 → ℝ, xr A W X r = fun c => ((f c : ℝ) : EReal) := by
  obtain ⟨A, rfl⟩ := hA
  obtain ⟨W, rfl⟩ := hW
  obtain ⟨X, rfl⟩ := hX
  refine ⟨fun c => X (ix2 r c) + ∑ j : Fin 2816, A (ix2 r j) * W (ix2 j c), funext fun c => ?_⟩
  unfold xr
  simp only [← EReal.coe_mul, ← Cert.Finite.coe_sum, ← EReal.coe_add]

theorem err_real (hA : ∃ f : S2048x2816.Idx → ℝ, A = fun i => ((f i : ℝ) : EReal)) (hW : ∃ f : S2816x1024.Idx → ℝ, W = fun i => ((f i : ℝ) : EReal))
    (hX : ∃ f : S2048x1024.Idx → ℝ, X = fun i => ((f i : ℝ) : EReal)) (hw : ∃ f : S1024.Idx → ℝ, w = fun i => ((f i : ℝ) : EReal))
    (hT : ∃ f : S2048x1024.Idx → ℝ, T = fun i => ((f i : ℝ) : EReal)) (r : Fin 2048) :
    ∃ f : Fin 1024 → ℝ, err A W X w T r = fun c => ((f c : ℝ) : EReal) := by
  obtain ⟨x, hx⟩ := xr_real A W X hA hW hX r
  obtain ⟨w, rfl⟩ := hw
  obtain ⟨T, rfl⟩ := hT
  obtain ⟨e, he, hE⟩ := Cert.Finite.eps_pos
  obtain ⟨v, hv⟩ := inv_real (k := 1024) (by norm_num) he x
  refine ⟨fun c => x c * v * w (ix1 c) - T (ix2 r c), funext fun c => ?_⟩
  unfold err
  rw [hx, show cN = ((1024 : ℝ) : EReal) from Cert.Finite.c1024, show cE = (e : EReal) from hE, hv, ← EReal.coe_mul, ← EReal.coe_mul,
    ← EReal.coe_sub]

/-- The finite rows' gradient in closed form. -/
theorem dx_closed (hA : ∃ f : S2048x2816.Idx → ℝ, A = fun i => ((f i : ℝ) : EReal)) (hW : ∃ f : S2816x1024.Idx → ℝ, W = fun i => ((f i : ℝ) : EReal))
    (hX : ∃ f : S2048x1024.Idx → ℝ, X = fun i => ((f i : ℝ) : EReal)) (hw : ∃ f : S1024.Idx → ℝ, w = fun i => ((f i : ℝ) : EReal))
    (hT : ∃ f : S2048x1024.Idx → ℝ, T = fun i => ((f i : ℝ) : EReal)) (r : Fin 2048) (c : Fin 1024) :
    val_main_v53 (F := Ideal) A W X w T (ix2 r c) = closed cN cE (xr A W X r) (G A W X w T r) c := by
  rw [dx_at]
  obtain ⟨x, hx⟩ := xr_real A W X hA hW hX r
  obtain ⟨d, hd⟩ := err_real A W X w T hA hW hX hw hT r
  obtain ⟨e, he, hE⟩ := Cert.Finite.eps_pos
  obtain ⟨v, hw⟩ := hw
  have hg : G A W X w T r = fun c => ((d c * (1 / 1024) * v (ix1 c) : ℝ) : EReal) := funext fun c => by
    unfold G dy
    rw [hd, one_1024, ← EReal.coe_mul, hw, ← EReal.coe_mul]
  have := same (k := 1024) (by norm_num) he x (fun c => d c * (1 / 1024) * v (ix1 c)) c
  rw [hg, hx, show cN = ((1024 : ℝ) : EReal) from Cert.Finite.c1024, show cE = (e : EReal) from hE,
    show cH = ((-(1 / 2) : ℝ) : EReal) from Cert.Finite.minus_half]
  exact this.symm

/-- The loss as a sum of the parts of eight blocks of rows. -/
theorem loss_parts (hA : ∃ f : S2048x2816.Idx → ℝ, A = fun i => ((f i : ℝ) : EReal)) (hW : ∃ f : S2816x1024.Idx → ℝ, W = fun i => ((f i : ℝ) : EReal))
    (hX : ∃ f : S2048x1024.Idx → ℝ, X = fun i => ((f i : ℝ) : EReal)) (hw : ∃ f : S1024.Idx → ℝ, w = fun i => ((f i : ℝ) : EReal))
    (hT : ∃ f : S2048x1024.Idx → ℝ, T = fun i => ((f i : ℝ) : EReal)) (a : Fin 8) (b : Fin 128) :
    val_main_v54 (F := Ideal) A W X w T (ix2 a b) = ∑ s : Fin 8, (∑ r : Fin 256, ∑ c : Fin 1024,
      err A W X w T ⟨s.val * 256 + r.val, by omega⟩ c * err A W X w T ⟨s.val * 256 + r.val, by omega⟩ c) * Ideal.ofBits .f32 0x3A000000#32 := by
  rw [loss_at]
  choose d hd using fun r => err_real A W X w T hA hW hX hw hT r
  simp only [hd, one_2048, half, show cN = ((1024 : ℝ) : EReal) from Cert.Finite.c1024, Ideal.div_coe (show (1024 : ℝ) ≠ 0 by norm_num),
    ← EReal.coe_mul, ← Cert.Finite.coe_sum]
  congr 1
  rw [← Finset.sum_mul, ← Finset.sum_mul, Fin.sum_univ_tiles 8 256 rfl]
  ring

end Cert.LossRef

end
-- ==== Proof.LossKernel.lean ====
/- The kernel of the loss and its gradient: what its four results are. -/
module

public import proofs.«01_k».proof.Proof.Gen.LossIdeal.Value
public import proofs.«01_k».proof.Proof.LossRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossKernel

open Cert.LossIdeal Cert.LossIdeal.Gen Idealize.ShloMosaic Idealize.ShloMosaic.TcCoe Idealize.SL.Sem
open Idealize.ShloMosaic.Pipeline (Dat)
open Cert.LossRef Cert.NormGrad

variable (m : (ℓ : Loc nD τ sig) → Buf (Elt Ideal) ℓ)

/-- The arguments. -/
abbrev Am (c : Dev nD) : FVec Ideal S2048x2816 .bf16 := m ((c : Thread nD τ).loc main_arg0)
abbrev Wm (c : Dev nD) : FVec Ideal S2816x1024 .f32 := m ((c : Thread nD τ).loc main_arg1)
abbrev Xm (c : Dev nD) : FVec Ideal S2048x1024 .f32 := m ((c : Thread nD τ).loc main_arg2)
abbrev wm (c : Dev nD) : FVec Ideal S1024 .f32 := m ((c : Thread nD τ).loc main_arg3)
abbrev Tm (c : Dev nD) : FVec Ideal S2048x1024 .f32 := m ((c : Thread nD τ).loc main_arg4)

/-- The block each window holds at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

theorem point_lt (t : Fin cfg0.N) : t.val < 8 := t.isLt

/-- The row of the whole array that a row of a grid point's block is. -/
abbrev row (t : Fin cfg0.N) (r : Fin 256) : Fin 2048 := ⟨256 * t.val + r.val, by have := point_lt t; omega⟩

theorem blk0 (c : Dev nD) (t : Fin cfg0.N) (r : Fin 256) (k : Fin 2816) : iblk m c 0 t (ix2 r k) = Am m c (ix2 (row t r) k) := by
  blk_point [iblk, V, idx t]
  all_goals exact (show _ = _ by omega)

theorem blk1 (c : Dev nD) (t : Fin cfg0.N) (n : Fin 2816) (k : Fin 1024) : iblk m c 1 t (ix2 n k) = Wm m c (ix2 n k) := by
  have e : V m c main_v0 = truncf (F := Ideal) .bf16 (Wm m c) bitsLt_bf16_f32 := by rfl
  refine Eq.trans ?_ (show V m c main_v0 (ix2 n k) = Wm m c (ix2 n k) by rw [e]; rfl)
  blk_point [iblk, idx t]

theorem blk2 (c : Dev nD) (t : Fin cfg0.N) (r : Fin 256) (k : Fin 1024) : iblk m c 2 t (ix2 r k) = Xm m c (ix2 (row t r) k) := by
  blk_point [iblk, V, idx t]
  all_goals exact (show _ = _ by omega)

theorem blk3 (c : Dev nD) (t : Fin cfg0.N) (k : Fin 1024) : iblk m c 3 t (ix2 0 k) = wm m c (ix1 k) := by
  have e : V m c main_v1 = broadcastInDim S1x1024 ![1] bcast_S1024_S1x1024_1 (wm m c) := by rfl
  refine Eq.trans ?_ (show V m c main_v1 (ix2 0 k) = wm m c (ix1 k) by rw [e]; pointwise)
  blk_point [iblk, idx t]

theorem blk4 (c : Dev nD) (t : Fin cfg0.N) (r : Fin 256) (k : Fin 1024) : iblk m c 4 t (ix2 r k) = Tm m c (ix2 (row t r) k) := by
  blk_point [iblk, V, idx t]
  all_goals exact (show _ = _ by omega)

/-- A row of the last layer's output, of the difference, and of their gradients. -/
abbrev xm (c : Dev nD) (r : Fin 2048) : Fin 1024 → EReal := xr (Am m c) (Wm m c) (Xm m c) r
abbrev em (c : Dev nD) (r : Fin 2048) : Fin 1024 → EReal := err (Am m c) (Wm m c) (Xm m c) (wm m c) (Tm m c) r
abbrev dm (c : Dev nD) (r : Fin 2048) : Fin 1024 → EReal := dy (Am m c) (Wm m c) (Xm m c) (wm m c) (Tm m c) r
abbrev gm (c : Dev nD) (r : Fin 2048) : Fin 1024 → EReal := G (Am m c) (Wm m c) (Xm m c) (wm m c) (Tm m c) r

section Payloads

variable (a : FVec Ideal S256x2816 .bf16) (b : FVec Ideal S2816x1024 .bf16) (x : FVec Ideal S256x1024 .f32) (w : FVec Ideal S1x1024 .f32)
  (y : FVec Ideal S256x1024 .f32)

theorem pay6_at (r : Fin 256) (k : Fin 1024) : k0_pay6 (F := Ideal) a b x (ix2 r k) = ∑ j, a (ix2 r j) * b (ix2 j k) + x (ix2 r k) := by
  unfold k0_pay6
  pointwise

theorem pay7_at (r : Fin 256) : k0_pay7 (F := Ideal) a b x (ix2 r 0) = inv cN cE (fun k => k0_pay6 (F := Ideal) a b x (ix2 r k)) := by
  unfold k0_pay7
  pointwise
  rfl

theorem pay8_at (r : Fin 256) (k : Fin 1024) :
    k0_pay8 (F := Ideal) a b x (ix2 r k) = k0_pay6 (F := Ideal) a b x (ix2 r k) * k0_pay7 (F := Ideal) a b x (ix2 r 0) := by
  unfold k0_pay8
  pointwise

theorem pay9_at (r : Fin 256) (k : Fin 1024) :
    k0_pay9 (F := Ideal) a b x w y (ix2 r k) = k0_pay8 (F := Ideal) a b x (ix2 r k) * w (ix2 0 k) - y (ix2 r k) := by
  unfold k0_pay9
  pointwise

theorem pay10_at (r : Fin 256) (k : Fin 1024) :
    k0_pay10 (F := Ideal) a b x w y (ix2 r k) = k0_pay9 (F := Ideal) a b x w y (ix2 r k) * Ideal.ofBits .f32 0x3A800000#32 := by
  unfold k0_pay10
  pointwise

theorem pay11_at (w' : FVec Ideal S1x1024 .f32) (r : Fin 256) (k : Fin 1024) :
    k0_pay11 (F := Ideal) a b x w y w' (ix2 r k) = k0_pay7 (F := Ideal) a b x (ix2 r 0) * (k0_pay10 (F := Ideal) a b x w y (ix2 r k) * w' (ix2 0 k)
      - k0_pay8 (F := Ideal) a b x (ix2 r k)
        * Ideal.div (∑ j, k0_pay10 (F := Ideal) a b x w y (ix2 r j) * w' (ix2 0 j) * k0_pay8 (F := Ideal) a b x (ix2 r j)) cN) := by
  unfold k0_pay11
  pointwise

theorem pay4_at (u v : FVec Ideal S256x1024 .f32) (q : FVec Ideal S1x1024 .f32) (k : Fin 1024) :
    k0_pay4 (F := Ideal) u v q (ix2 0 k) = q (ix2 0 k) + ∑ r, v (ix2 r k) * u (ix2 r k) := by
  unfold k0_pay4
  pointwise

theorem pay5_at (u : FVec Ideal S256x1024 .f32) (q : FVec Ideal S8x128 .f32) (i : Fin 8) (k : Fin 128) :
    k0_pay5 (F := Ideal) u q (ix2 i k) = q (ix2 i k) + (∑ r, ∑ j, u (ix2 r j) * u (ix2 r j)) * Ideal.ofBits .f32 0x3A000000#32 := by
  unfold k0_pay5
  pointwise

end Payloads

theorem x_at (c : Dev nD) (t : Fin cfg0.N) (r : Fin 256) (k : Fin 1024) :
    k0_pay6 (F := Ideal) (iblk m c 0 t) (iblk m c 1 t) (iblk m c 2 t) (ix2 r k) = xm m c (row t r) k := by
  refine (pay6_at _ _ _ r k).trans ?_
  simp only [blk0, blk1, blk2]
  exact add_comm _ _

theorem inv_at (c : Dev nD) (t : Fin cfg0.N) (r : Fin 256) :
    k0_pay7 (F := Ideal) (iblk m c 0 t) (iblk m c 1 t) (iblk m c 2 t) (ix2 r 0) = inv cN cE (xm m c (row t r)) := by
  refine (pay7_at _ _ _ r).trans ?_
  simp only [x_at]

theorem xn_at (c : Dev nD) (t : Fin cfg0.N) (r : Fin 256) (k : Fin 1024) :
    k0_pay8 (F := Ideal) (iblk m c 0 t) (iblk m c 1 t) (iblk m c 2 t) (ix2 r k) = xm m c (row t r) k * inv cN cE (xm m c (row t r)) := by
  refine (pay8_at _ _ _ r k).trans ?_
  rw [x_at, inv_at]

theorem err_at (c : Dev nD) (t : Fin cfg0.N) (r : Fin 256) (k : Fin 1024) :
    k0_pay9 (F := Ideal) (iblk m c 0 t) (iblk m c 1 t) (iblk m c 2 t) (iblk m c 3 t) (iblk m c 4 t) (ix2 r k) = em m c (row t r) k := by
  refine (pay9_at _ _ _ _ _ r k).trans ?_
  rw [xn_at, blk3, blk4]
  rfl

theorem dy_at (c : Dev nD) (t : Fin cfg0.N) (r : Fin 256) (k : Fin 1024) :
    k0_pay10 (F := Ideal) (iblk m c 0 t) (iblk m c 1 t) (iblk m c 2 t) (iblk m c 3 t) (iblk m c 4 t) (ix2 r k) = dm m c (row t r) k := by
  refine (pay10_at _ _ _ _ _ r k).trans ?_
  rw [err_at]
  rfl

theorem dx_point (c : Dev nD) (t : Fin cfg0.N) (r : Fin 256) (k : Fin 1024) :
    k0_pay11 (F := Ideal) (iblk m c 0 t) (iblk m c 1 t) (iblk m c 2 t) (iblk m c 3 t) (iblk m c 4 t) (iblk m c 3 t) (ix2 r k)
      = closed cN cE (xm m c (row t r)) (gm m c (row t r)) k := by
  refine (pay11_at _ _ _ _ _ _ r k).trans ?_
  simp only [dy_at, xn_at, inv_at, blk3]
  rfl

/-- One grid point's part of the weight's gradient, and of the loss. -/
def part (c : Dev nD) (t : Fin cfg0.N) (k : Fin 1024) : EReal :=
  ∑ r : Fin 256, dm m c (row t r) k * (xm m c (row t r) k * inv cN cE (xm m c (row t r)))

def lpart (c : Dev nD) (t : Fin cfg0.N) : EReal :=
  (∑ r : Fin 256, ∑ k : Fin 1024, em m c (row t r) k * em m c (row t r) k) * Ideal.ofBits .f32 0x3A000000#32

theorem dw_point (c : Dev nD) (t : Fin cfg0.N) (q : FVec Ideal S1x1024 .f32) (k : Fin 1024) :
    k0_pay4 (F := Ideal) (k0_pay8 (iblk m c 0 t) (iblk m c 1 t) (iblk m c 2 t))
      (k0_pay10 (iblk m c 0 t) (iblk m c 1 t) (iblk m c 2 t) (iblk m c 3 t) (iblk m c 4 t)) q (ix2 0 k) = q (ix2 0 k) + part m c t k := by
  refine (pay4_at _ _ _ k).trans ?_
  simp only [dy_at, xn_at]
  rfl

theorem loss_point (c : Dev nD) (t : Fin cfg0.N) (q : FVec Ideal S8x128 .f32) (i : Fin 8) (k : Fin 128) :
    k0_pay5 (F := Ideal) (k0_pay9 (iblk m c 0 t) (iblk m c 1 t) (iblk m c 2 t) (iblk m c 3 t) (iblk m c 4 t)) q (ix2 i k)
      = q (ix2 i k) + lpart m c t := by
  refine (pay5_at _ _ i k).trans ?_
  simp only [err_at]
  rfl

/-- The four results. -/
def LOSS (c : Dev nD) : FVec Ideal S8x128 .f32 := fun _ => ∑ s : Fin 8, lpart m c ⟨s.val, s.isLt⟩
def DX (c : Dev nD) : FVec Ideal S2048x1024 .f32 := fun i => closed cN cE (xm m c (i 0)) (gm m c (i 0)) (i 1)
def DXB (c : Dev nD) : FVec Ideal S2048x1024 .bf16 := fun i => closed cN cE (xm m c (i 0)) (gm m c (i 0)) (i 1)
def DW (c : Dev nD) : FVec Ideal S1x1024 .f32 := fun i =>
  ∑ r : Fin 2048, dm m c r (i 1) * (xm m c r (i 1) * inv cN cE (xm m c r))

theorem final_dx (c : Dev nD) : (dats m 0 c).arrAt 6 cfg0.N = DX m c := by
  refine (dats m 0 c).arrAt_eq_of_covers 6 _ (by decide +kernel) fun t hf y => ?_
  blk_simp
  rw [after0_6]
  have key : (outsAt0 m c t.val t.isLt).2.1 y = DX m c (((cfg0.win 6).blk t).view.emb y) := by
    idx_vars y
    refine Eq.trans ?_ ((dx_point m c t y0 y1).trans ?_)
    · by_cases h : t.val % 8 = 0
      · rw [outsAt0_A m c t h]
        frame_out
      · rw [outsAt0_B m c t h]
        frame_out
    · show DX m c (ix2 (row t y0) y1) = _
      congr 1
      blk_ext [idx t]
      all_goals exact (show _ = _ by omega)
  exact key

theorem final_dxb (c : Dev nD) : (dats m 0 c).arrAt 7 cfg0.N = DXB m c := by
  refine (dats m 0 c).arrAt_eq_of_covers 7 _ (by decide +kernel) fun t hf y => ?_
  blk_simp
  rw [after0_7]
  have key : (outsAt0 m c t.val t.isLt).2.2.1 y = DXB m c (((cfg0.win 7).blk t).view.emb y) := by
    idx_vars y
    refine Eq.trans ?_ ((dx_point m c t y0 y1).trans ?_)
    · by_cases h : t.val % 8 = 0
      · rw [outsAt0_A m c t h]
        frame_out
        rfl
      · rw [outsAt0_B m c t h]
        frame_out
        rfl
    · show DXB m c (ix2 (row t y0) y1) = _
      congr 1
      blk_ext [idx t]
      all_goals exact (show _ = _ by omega)
  exact key

theorem dwA (c : Dev nD) (t : Fin cfg0.N) (h : t.val % 8 = 0) (k : Fin 1024) :
    (outsAt0 m c t.val t.isLt).2.2.2 (ix2 0 k) = 0 + part m c t k := by
  rw [outsAt0_A m c t h]
  frame_out
  refine (dw_point m c t _ k).trans ?_
  congr 1
  unfold k0_pay2
  pointwise

theorem dwB (c : Dev nD) (t : Fin cfg0.N) (h : ¬ t.val % 8 = 0) (k : Fin 1024) :
    (outsAt0 m c t.val t.isLt).2.2.2 (ix2 0 k)
      = (show EReal from (outsAt0 m c (t.val - 1) (Nat.lt_of_le_of_lt (Nat.sub_le _ _) t.isLt)).2.2.2 (ix2 0 k)) + part m c t k := by
  rw [outsAt0_B m c t h]
  frame_out
  exact dw_point m c t _ k

theorem lossA (c : Dev nD) (t : Fin cfg0.N) (h : t.val % 8 = 0) (i : Fin 8) (k : Fin 128) :
    (outsAt0 m c t.val t.isLt).1 (ix2 i k) = 0 + lpart m c t := by
  rw [outsAt0_A m c t h]
  frame_out
  refine (loss_point m c t _ i k).trans ?_
  congr 1
  unfold k0_pay3
  pointwise

theorem lossB (c : Dev nD) (t : Fin cfg0.N) (h : ¬ t.val % 8 = 0) (i : Fin 8) (k : Fin 128) :
    (outsAt0 m c t.val t.isLt).1 (ix2 i k)
      = (show EReal from (outsAt0 m c (t.val - 1) (Nat.lt_of_le_of_lt (Nat.sub_le _ _) t.isLt)).1 (ix2 i k)) + lpart m c t := by
  rw [outsAt0_B m c t h]
  frame_out
  exact loss_point m c t _ i k

/-- An index of a single row. -/
theorem row_idx (j : S1x1024.Idx) : j = ix2 0 (j 1) := by
  funext a
  fin_cases a
  · exact Subsingleton.elim (α := Fin 1) _ _
  · rfl

theorem tile_idx (j : S8x128.Idx) : j = ix2 (j 0) (j 1) := by
  funext a
  fin_cases a <;> rfl

theorem final_dw (c : Dev nD) : (dats m 0 c).arrAt 8 cfg0.N = DW m c := by
  refine (dats m 0 c).arrAt_eq_of_covers 8 _ (by decide +kernel) fun t hf y => ?_
  blk_simp
  rw [after0_8, Pipeline.eq_sum_fin_of_reset_step_apply_of_flush (fun n h => (outsAt0 m c n h).2.2.2) 8 (fun _ => 0)
    (fun t j => part m c t (j 1)) (fun t h j => by rw [row_idx j]; exact dwA m c t h (j 1)) (fun t h j => by rw [row_idx j]; exact dwB m c t h (j 1)) t ((flush0_8 t).mp hf) _, zero_add]
  idx_vars y
  have e : (win0_8.blk t).view.emb (ix2 y0 y1) = ix2 0 y1 := by
    blk_ext [idx t]
    all_goals omega
  rw [e]
  have ht := point_lt t
  have key : ∑ s : Fin 8, part m c ⟨8 * (t.val / 8) + s.val, by show _ < 8; omega⟩ y1 = DW m c (ix2 0 y1) := by
    refine Eq.trans ?_ (Fin.sum_univ_tiles 8 256 rfl _).symm
    refine Finset.sum_congr rfl fun s _ => Finset.sum_congr rfl fun r _ => ?_
    have e : row ⟨8 * (t.val / 8) + s.val, by show _ < 8; omega⟩ r = ⟨s.val * 256 + r.val, by omega⟩ :=
      Fin.ext (by show 256 * (8 * (t.val / 8) + s.val) + r.val = s.val * 256 + r.val; omega)
    rw [e]
    rfl
  exact key

theorem final_loss (c : Dev nD) : (dats m 0 c).arrAt 5 cfg0.N = LOSS m c := by
  refine (dats m 0 c).arrAt_eq_of_covers 5 _ (by decide +kernel) fun t hf y => ?_
  blk_simp
  rw [after0_5, Pipeline.eq_sum_fin_of_reset_step_apply_of_flush (fun n h => (outsAt0 m c n h).1) 8 (fun _ => 0)
    (fun t _ => lpart m c t) (fun t h j => by rw [tile_idx j]; exact lossA m c t h (j 0) (j 1))
    (fun t h j => by rw [tile_idx j]; exact lossB m c t h (j 0) (j 1)) t ((flush0_5 t).mp hf) _, zero_add]
  have ht := point_lt t
  have key : ∑ s : Fin 8, lpart m c ⟨8 * (t.val / 8) + s.val, by show _ < 8; omega⟩ = ∑ s : Fin 8, lpart m c ⟨s.val, s.isLt⟩ :=
    Finset.sum_congr rfl fun s _ => congrArg (lpart m c) (Fin.ext (by show 8 * (t.val / 8) + s.val = s.val; omega))
  exact key

/-- The loss, over rows numbered from block and place. -/
theorem loss_eq (c : Dev nD) (i : S8x128.Idx) : LOSS m c i = ∑ s : Fin 8, (∑ r : Fin 256, ∑ k : Fin 1024,
    em m c ⟨s.val * 256 + r.val, by omega⟩ k * em m c ⟨s.val * 256 + r.val, by omega⟩ k) * Ideal.ofBits .f32 0x3A000000#32 := by
  refine Finset.sum_congr rfl fun s _ => ?_
  unfold lpart
  refine congrArg (fun v : EReal => v * Ideal.ofBits .f32 0x3A000000#32) (Finset.sum_congr rfl fun r _ => ?_)
  rw [show row ⟨s.val, s.isLt⟩ r = ⟨s.val * 256 + r.val, by omega⟩ from Fin.ext (by show 256 * s.val + r.val = s.val * 256 + r.val; omega)]

end Cert.LossKernel

end
-- ==== Proof.Loss.lean ====
/- The loss and its gradient: the kernel and the forward lines with their derivative give the same four results. -/
module

public import proofs.«01_k».proof.Defs
public import proofs.«01_k».proof.Proof.LossKernel
public import Idealize.ShloMosaic.Adequacy
public import Idealize.ShloMosaic.Init

@[expose] public section

set_option maxRecDepth 16384

noncomputable section

namespace Cert.LossProof

open Idealize.ShloMosaic Idealize.SL.Sem

/-- The side conditions of the precondition's own operations. -/
instance pre_facts : Pre_loss_finite.Facts := by constructor <;> decide

theorem value : algebraic_LossIdeal_LossRefIdeal_pre_loss_finite := by
  intro m g m' g' hp hm
  refine ⟨fun c => LossKernel.LOSS m c, fun c => LossKernel.DX m c, fun c => LossKernel.DXB m c, fun c => LossKernel.DW m c,
    (θ_run LossIdeal.defs _ _).mono (fun r h c => ⟨(h c).1.trans (LossKernel.final_loss m c),
      (h c).2.1.trans (LossKernel.final_dx m c), (h c).2.2.1.trans (LossKernel.final_dxb m c),
      (h c).2.2.2.1.trans (LossKernel.final_dw m c), (h c).2.2.2.2⟩) (LossIdeal.Value.run_blocks m g),
    (θ_run LossRefIdeal.defs _ _).mono (fun r h c => ⟨(h c).1.trans ?_, (h c).2.1.trans ?_, (h c).2.2.1.trans ?_, (h c).2.2.2.1.trans ?_,
      (h c).2.2.2.2⟩) (LossRefIdeal.Value.run m' g')⟩
  · obtain ⟨h0, h1, h2, h3, h4⟩ := hp c
    refine (LossRefIdeal.Read.val_main_v54_eq (F := Ideal) _ _ _ _ _).trans ?_
    rw [(hm c).1, (hm c).2.1, (hm c).2.2.1, (hm c).2.2.2.1, (hm c).2.2.2.2]
    funext i
    obtain ⟨r, k, rfl⟩ : ∃ (r : Fin 8) (k : Fin 128), i = ix2 r k := ⟨i 0, i 1, by funext a; fin_cases a <;> rfl⟩
    exact (LossRef.loss_parts _ _ _ _ _ (Finite.real_of (φ := .f32) (LossKernel.Am m c) _ (fun _ => Finite.inf_f32) h0)
      (Finite.real_of _ _ (fun _ => Finite.inf_f32) h1)
      (Finite.real_of _ _ (fun _ => Finite.inf_f32) h2)
      (Finite.real_of _ _ (fun _ => Finite.inf_f32) h3)
      (Finite.real_of _ _ (fun _ => Finite.inf_f32) h4) r k).trans (LossKernel.loss_eq m c _).symm
  · obtain ⟨h0, h1, h2, h3, h4⟩ := hp c
    refine (LossRefIdeal.Read.val_main_v53_eq (F := Ideal) _ _).trans ?_
    rw [(hm c).1, (hm c).2.1, (hm c).2.2.1, (hm c).2.2.2.1, (hm c).2.2.2.2]
    funext i
    obtain ⟨r, k, rfl⟩ : ∃ (r : Fin 2048) (k : Fin 1024), i = ix2 r k := ⟨i 0, i 1, by funext a; fin_cases a <;> rfl⟩
    exact LossRef.dx_closed _ _ _ _ _ (Finite.real_of (φ := .f32) (LossKernel.Am m c) _ (fun _ => Finite.inf_f32) h0)
      (Finite.real_of _ _ (fun _ => Finite.inf_f32) h1)
      (Finite.real_of _ _ (fun _ => Finite.inf_f32) h2)
      (Finite.real_of _ _ (fun _ => Finite.inf_f32) h3)
      (Finite.real_of _ _ (fun _ => Finite.inf_f32) h4) r k
  · obtain ⟨h0, h1, h2, h3, h4⟩ := hp c
    refine (LossRefIdeal.Read.val_main_v55_eq (F := Ideal) _ _).trans ?_
    rw [(hm c).1, (hm c).2.1, (hm c).2.2.1, (hm c).2.2.2.1, (hm c).2.2.2.2]
    funext i
    obtain ⟨r, k, rfl⟩ : ∃ (r : Fin 2048) (k : Fin 1024), i = ix2 r k := ⟨i 0, i 1, by funext a; fin_cases a <;> rfl⟩
    exact LossRef.dx_closed _ _ _ _ _ (Finite.real_of (φ := .f32) (LossKernel.Am m c) _ (fun _ => Finite.inf_f32) h0)
      (Finite.real_of _ _ (fun _ => Finite.inf_f32) h1)
      (Finite.real_of _ _ (fun _ => Finite.inf_f32) h2)
      (Finite.real_of _ _ (fun _ => Finite.inf_f32) h3)
      (Finite.real_of _ _ (fun _ => Finite.inf_f32) h4) r k
  · refine (LossRefIdeal.Read.val_main_v56_eq (F := Ideal) _ _ _ _ _).trans ?_
    rw [(hm c).1, (hm c).2.1, (hm c).2.2.1, (hm c).2.2.2.1, (hm c).2.2.2.2]
    funext i
    rw [LossKernel.row_idx i]
    exact LossRef.dw_at _ _ _ _ _ (i 1)

/-- The reference ends with its arguments unchanged; it has no semaphore. -/
theorem ref_frame : quiescent_LossRefIdeal := fun m ρ _ =>
  (θ_run LossRefIdeal.defs _ _).mono (fun r h => ⟨fun c => (h c).2.2.2.2, Idealize.ShloMosaic.sem_eq_zero_of_no_sems (by decide) r.2⟩)
    (LossRefIdeal.Value.run m ρ)

end Cert.LossProof

end
-- ==== Proof.ActStrip.lean ====
/- The gated convolution's gradient, strip by strip: what a strip of 128 columns reads, what it leaves, and how the strips fill a block. -/
module

public import proofs.«01_k».proof.Proof.Gen.ActIdeal.Frame.Runs
public import Idealize.ShloMosaic.Lib.Pipeline.ValueKit
public import Idealize.ShloMosaic.Lib.WritesUnit

@[expose] public section

set_option maxRecDepth 16384

noncomputable section

namespace Cert.ActRun

open Cert.ActIdeal Cert.ActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The ten blocks one grid point reads: the gradient's block and its next eight rows; the gate's block, its previous and
its next sixteen rows; the same three of the other half; and the two halves' weights. -/
structure Blocks (F : FTy → Type) where
  x0 : Vec F S256x1408 .f32
  x1 : Vec F S8x1408 .f32
  x2 : Vec F S256x1408 .bf16
  x3 : Vec F S16x1408 .bf16
  x4 : Vec F S16x1408 .bf16
  x5 : Vec F S256x1408 .bf16
  x6 : Vec F S16x1408 .bf16
  x7 : Vec F S16x1408 .bf16
  x8 : Vec F S3x1408 .f32
  x9 : Vec F S3x1408 .f32

/-- What one strip of 128 columns reads of the ten blocks. -/
structure Strips (F : FTy → Type) where
  d : FVec F S256x128 .f32
  dn : FVec F S8x128 .f32
  g : FVec F S256x128 .bf16
  gp : FVec F S8x128 .bf16
  gn : FVec F S8x128 .bf16
  u : FVec F S256x128 .bf16
  up : FVec F S8x128 .bf16
  un : FVec F S8x128 .bf16
  wg : FVec F S3x128 .f32
  wu : FVec F S3x128 .f32

/-- Strip `k` of the blocks. -/
def Blocks.cut (b : Blocks F) (k : Fin k0_t1_loop.trips) : Strips F where
  d y := b.x0 ((Rect.unit (s := S256x1408) (k0_off3 k) S256x128.size (k0_off3_inb k)).emb y)
  dn y := b.x1 ((Rect.unit (s := S8x1408) (k0_off5 k) S8x128.size (k0_off5_inb k)).emb y)
  g y := b.x2 ((Rect.unit (s := S256x1408) (k0_off3 k) S256x128.size (k0_off3_inb k)).emb y)
  gp y := b.x3 ((Rect.unit (s := S16x1408) (k0_off2 k) S8x128.size (k0_off2_inb k)).emb y)
  gn y := b.x4 ((Rect.unit (s := S16x1408) (k0_off4 k) S8x128.size (k0_off4_inb k)).emb y)
  u y := b.x5 ((Rect.unit (s := S256x1408) (k0_off3 k) S256x128.size (k0_off3_inb k)).emb y)
  up y := b.x6 ((Rect.unit (s := S16x1408) (k0_off2 k) S8x128.size (k0_off2_inb k)).emb y)
  un y := b.x7 ((Rect.unit (s := S16x1408) (k0_off4 k) S8x128.size (k0_off4_inb k)).emb y)
  wg y := b.x8 ((Rect.unit (s := S3x1408) (k0_off1 k) S3x128.size (k0_off1_inb k)).emb y)
  wu y := b.x9 ((Rect.unit (s := S3x1408) (k0_off1 k) S3x128.size (k0_off1_inb k)).emb y)

section strip
variable (i : grid0.Coords) (s : Strips F)

/-- The gate strip with its halo rows. -/
def Strips.tg : FVec F S272x128 .f32 := k0_pay6 (k0_pay1 i) (k0_pay2 i) s.gp s.g s.gn
/-- The other half's strip with its halo rows. -/
def Strips.tu : FVec F S272x128 .f32 := k0_pay7 (k0_pay1 i) (k0_pay2 i) s.up s.u s.un
/-- The gradient of the gate's convolution output. -/
def Strips.dcg : FVec F S264x128 .f32 :=
  k0_pay14 (k0_pay2 i) s.wu (s.tu i) (k0_pay8 (k0_pay1 i) (k0_pay2 i) s.gp s.g s.gn)
    (k0_pay9 (k0_pay1 i) (k0_pay2 i) s.wg s.gp s.g s.gn) (k0_pay10 s.wg) s.d s.dn
/-- The gradient of the other half's convolution output. -/
def Strips.dcu : FVec F S264x128 .f32 :=
  k0_pay15 (k0_pay2 i) (k0_pay8 (k0_pay1 i) (k0_pay2 i) s.gp s.g s.gn)
    (k0_pay9 (k0_pay1 i) (k0_pay2 i) s.wg s.gp s.g s.gn) (k0_pay10 s.wg) s.d s.dn
/-- The gate's input gradient. -/
def Strips.dg : FVec F S256x128 .bf16 :=
  k0_pay17 (k0_pay16 (k0_pay2 i) s.wg s.wu (s.tu i) (k0_pay8 (k0_pay1 i) (k0_pay2 i) s.gp s.g s.gn)
    (k0_pay9 (k0_pay1 i) (k0_pay2 i) s.wg s.gp s.g s.gn) (k0_pay10 s.wg) s.d s.dn)
/-- The other half's input gradient. -/
def Strips.du : FVec F S256x128 .bf16 := k0_pay18 s.wu (s.dcu i)
/-- A row of the gate's weight gradient with this strip added. -/
def Strips.wrowG (old : Fin 3 → FVec F S1x128 .f32) : Fin 3 → FVec F S1x128 .f32 :=
  ![k0_pay19 (s.tg i) (s.dcg i) (old 0), k0_pay21 (s.tg i) (s.dcg i) (old 1), k0_pay23 (s.tg i) (s.dcg i) (old 2)]
/-- A row of the other half's weight gradient with this strip added. -/
def Strips.wrowU (old : Fin 3 → FVec F S1x128 .f32) : Fin 3 → FVec F S1x128 .f32 :=
  ![k0_pay20 (s.tu i) (s.dcu i) (old 0), k0_pay22 (s.tu i) (s.dcu i) (old 1),
    k0_pay5 (k0_pay24 (old 2)) (k0_pay25 (s.tu i) (s.dcu i))]
end strip

theorem trips_eq : k0_t1_loop.trips = 11 := by decide

/-- The strip a column lies in. -/
def stripOf (q : Fin 1408) : Fin k0_t1_loop.trips := ⟨q.val / 128, by rw [trips_eq]; omega⟩

/-- Row `j` of strip `k` of a weight gradient. -/
def rowOf (e : FVec F S3x1408 .f32) (k : Fin k0_t1_loop.trips) (j : Fin 3) : FVec F S1x128 .f32 := fun z =>
  e (ix2 j ⟨128 * k.val + (z 1).val, by have h := k.isLt; have h2 : k.val < 11 := by rw [← trips_eq]; exact h
                                        have h3 : (z 1).val < 128 := (z 1).isLt; omega⟩)

section outs
variable (i : grid0.Coords) (b : Blocks F)
/-- The gate's gradient block. -/
def outG : FVec F S256x1408 .bf16 := fun y => (b.cut (stripOf (y 1))).dg i (ix2 (y 0) ⟨(y 1).val % 128, Nat.mod_lt _ (by decide)⟩)
/-- The other half's gradient block. -/
def outU : FVec F S256x1408 .bf16 := fun y => (b.cut (stripOf (y 1))).du i (ix2 (y 0) ⟨(y 1).val % 128, Nat.mod_lt _ (by decide)⟩)
/-- The gate's weight gradient with this point added to `e`. -/
def outWG (e : FVec F S3x1408 .f32) : FVec F S3x1408 .f32 := fun y =>
  (b.cut (stripOf (y 1))).wrowG i (rowOf e (stripOf (y 1))) (y 0) (ix2 0 ⟨(y 1).val % 128, Nat.mod_lt _ (by decide)⟩)
/-- The other half's weight gradient with this point added to `e`. -/
def outWU (e : FVec F S3x1408 .f32) : FVec F S3x1408 .f32 := fun y =>
  (b.cut (stripOf (y 1))).wrowU i (rowOf e (stripOf (y 1))) (y 0) (ix2 0 ⟨(y 1).val % 128, Nat.mod_lt _ (by decide)⟩)
end outs

/-- The first `k` strips of a block are done: there it is `w`. -/
def Done {R : ℕ} {e : EltTy} (w : (⟨2, ![R, 1408]⟩ : Shape).Idx → Elt F e) (k : ℕ) (f : (⟨2, ![R, 1408]⟩ : Shape).Idx → Elt F e) : Prop :=
  ∀ y : (⟨2, ![R, 1408]⟩ : Shape).Idx, (y 1).val < 128 * k → f y = w y

/-- The first `k` strips of an accumulated block are done, the others are as before. -/
def Added {R : ℕ} {e : EltTy} (w o : (⟨2, ![R, 1408]⟩ : Shape).Idx → Elt F e) (k : ℕ) (f : (⟨2, ![R, 1408]⟩ : Shape).Idx → Elt F e) : Prop :=
  ∀ y : (⟨2, ![R, 1408]⟩ : Shape).Idx, f y = if (y 1).val < 128 * k then w y else o y

/-- One strip more of a block that is written once. -/
theorem done_step (v : View sig .tc .vmem S256x1408 .bf16) (f : v.ty.Contents (Elt F)) (k : Fin k0_t1_loop.trips)
    (w : FVec F S256x128 .bf16) (W : FVec F S256x1408 .bf16)
    (hw : ∀ y : S256x1408.Idx, stripOf (y 1) = k → W y = w (ix2 (y 0) ⟨(y 1).val % 128, Nat.mod_lt _ (by decide)⟩))
    (h : Done (F := F) (e := .bf16) W k.val (v.read (Elt F) f)) :
    Done (F := F) (e := .bf16) W (k.val + 1) (v.read (Elt F) (v.writes (Elt F) f [⟨Rect.unit (k0_off3 k) S256x128.size (k0_off3_inb k), w⟩])) := by
  intro y hy
  by_cases hk : (y 1).val < 128 * k.val
  · exact (View.read_writes_cons_unit_of_not_mem v f (k0_off3_inb k) w [] y (k0_off3_eq k) 1 (Or.inl hk)).trans (h y hk)
  · have hs : stripOf (y 1) = k := Fin.ext (by show (y 1).val / 128 = k.val; omega)
    exact (View.read_writes_cons_unit_of_mem v f (k0_off3_inb k) w [] y (ix2 (y 0) ⟨(y 1).val % 128, Nat.mod_lt _ (by decide)⟩) (k0_off3_eq k)
      (Fin.forall_fin_two.mpr ⟨by show (y 0).val = 0 + (y 0).val; omega,
        by show (y 1).val = 128 * k.val + (y 1).val % 128; omega⟩)).trans (hw y hs).symm

/-- One strip more of a weight gradient, its three rows written one after the other. -/
theorem added_step (v : View sig .tc .vmem S3x1408 .f32) (f : v.ty.Contents (Elt F)) (k : Fin k0_t1_loop.trips)
    (w : Fin 3 → FVec F S1x128 .f32) (W O : FVec F S3x1408 .f32)
    (hw : ∀ y : S3x1408.Idx, stripOf (y 1) = k → W y = w (y 0) (ix2 0 ⟨(y 1).val % 128, Nat.mod_lt _ (by decide)⟩))
    (h : Added (F := F) (e := .f32) W O k.val (v.read (Elt F) f)) :
    Added (F := F) (e := .f32) W O (k.val + 1) (v.read (Elt F) (v.writes (Elt F) f
      [⟨Rect.unit (k0_off8 k) S1x128.size (k0_off8_inb k), w 2⟩, ⟨Rect.unit (k0_off7 k) S1x128.size (k0_off7_inb k), w 1⟩,
       ⟨Rect.unit (k0_off6 k) S1x128.size (k0_off6_inb k), w 0⟩])) := by
  intro y
  have h0 : (y 0).val < 3 := (y 0).isLt
  by_cases hs : stripOf (y 1) = k
  · have hv : (y 1).val / 128 = k.val := congrArg Fin.val hs
    rw [if_pos (by omega), hw y hs]
    have hm : ∀ j : ℕ, (y 0).val = j → ∀ a : Fin 2, (y a).val = (![j, 128 * k.val] : Fin 2 → ℕ) a
        + ((ix2 (n0 := 1) (n1 := 128) 0 ⟨(y 1).val % 128, Nat.mod_lt _ (by decide)⟩) a).val := fun j hj => Fin.forall_fin_two.mpr
      ⟨by show (y 0).val = j + 0; omega, by show (y 1).val = 128 * k.val + (y 1).val % 128; omega⟩
    rcases (by omega : (y 0).val = 0 ∨ (y 0).val = 1 ∨ (y 0).val = 2) with hj | hj | hj
    · rw [show y 0 = (0 : Fin 3) from Fin.ext hj]
      refine (View.read_writes_cons_unit_of_not_mem v f (k0_off8_inb k) _ _ y (k0_off8_eq k) 0 (Or.inl (by show (y 0).val < 2; omega))).trans ?_
      refine (View.read_writes_cons_unit_of_not_mem v f (k0_off7_inb k) _ _ y (k0_off7_eq k) 0 (Or.inl (by show (y 0).val < 1; omega))).trans ?_
      exact View.read_writes_cons_unit_of_mem v f (k0_off6_inb k) _ _ y _ (k0_off6_eq k) (hm 0 hj)
    · rw [show y 0 = (1 : Fin 3) from Fin.ext hj]
      refine (View.read_writes_cons_unit_of_not_mem v f (k0_off8_inb k) _ _ y (k0_off8_eq k) 0 (Or.inl (by show (y 0).val < 2; omega))).trans ?_
      exact View.read_writes_cons_unit_of_mem v f (k0_off7_inb k) _ _ y _ (k0_off7_eq k) (hm 1 hj)
    · rw [show y 0 = (2 : Fin 3) from Fin.ext hj]
      exact View.read_writes_cons_unit_of_mem v f (k0_off8_inb k) _ _ y _ (k0_off8_eq k) (hm 2 hj)
  · have hv : ¬ (y 1).val / 128 = k.val := fun e => hs (Fin.ext e)
    have hno : (y 1).val < 128 * k.val ∨ 128 * k.val + 128 ≤ (y 1).val := by omega
    refine (View.read_writes_cons_unit_of_not_mem v f (k0_off8_inb k) _ _ y (k0_off8_eq k) 1 hno).trans ?_
    refine (View.read_writes_cons_unit_of_not_mem v f (k0_off7_inb k) _ _ y (k0_off7_eq k) 1 hno).trans ?_
    refine (View.read_writes_cons_unit_of_not_mem v f (k0_off6_inb k) _ _ y (k0_off6_eq k) 1 hno).trans ?_
    exact (h y).trans (if_congr (by omega) rfl rfl)

/-- A row read back from an accumulated block whose strip is not done yet. -/
theorem row_read (v : View sig .tc .vmem S3x1408 .f32) (f : v.ty.Contents (Elt F)) (k : Fin k0_t1_loop.trips)
    (W O : FVec F S3x1408 .f32) (h : Added (F := F) (e := .f32) W O k.val (v.read (Elt F) f)) (j : Fin 3)
    (off : Fin 2 → ℕ) (hoff : off = ![j.val, 128 * k.val]) (inb : ∀ a, off a + S1x128.size a ≤ S3x1408.size a) :
    v.readAt (Elt F) (Rect.unit (s := S3x1408) off S1x128.size inb).toLoadRect f = rowOf (F := F) O k j := by
  subst hoff
  funext z
  have hz0 : (z 0).val < 1 := (z 0).isLt
  have hz1 : (z 1).val < 128 := (z 1).isLt
  have hk : k.val < 11 := lt_of_lt_of_eq k.isLt trips_eq
  have he : (Rect.unit (s := S3x1408) ![j.val, 128 * k.val] S1x128.size inb).emb z
      = ix2 j ⟨128 * k.val + (z 1).val, by omega⟩ := by
    funext a; refine Fin.ext ?_; revert a
    exact Fin.forall_fin_two.mpr ⟨by show j.val + 1 * (z 0).val = j.val; omega, by show 128 * k.val + 1 * (z 1).val = 128 * k.val + (z 1).val; omega⟩
  refine (h ((Rect.unit (s := S3x1408) ![j.val, 128 * k.val] S1x128.size inb).emb z)).trans ?_
  rw [he]
  exact if_neg (by show ¬ (128 * k.val + (z 1).val < 128 * k.val); omega)

/-- A strip loaded from a block held at its contents. -/
theorem load_unread {R n : ℕ} {e : EltTy} (a : Memref sig .tc .vmem ⟨2, ![R, n]⟩ e) (h : a.IsWhole)
    (x : (⟨2, ![R, n]⟩ : Shape).Idx → Elt F e) (r : Rect ⟨2, ![R, n]⟩) :
    a.view.readAt (Elt F) r.toLoadRect (h.unread x) = fun y => x (r.emb y) :=
  funext fun y => congrFun (h.read_unread x) (r.emb y)

end Cert.ActRun

end
-- ==== Proof.ActRun.lean ====
/- The gated convolution's gradient: the run of its loop, of one grid point, and of the whole call. -/
module

public import proofs.«01_k».proof.Proof.Gen.ActIdeal.Frame.Runs
public import proofs.«01_k».proof.Proof.ActStrip
public import Idealize.ShloMosaic.Lib.Claim
public import Idealize.ShloMosaic.Lib.Pipeline.ValueKit
public import Idealize.ShloMosaic.Lib.WritesUnit

@[expose] public section

set_option maxRecDepth 16384

noncomputable section

namespace Cert.ActRun

open Cert.ActIdeal Cert.ActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section run
variable (c : Dev nD) (b : Blocks F) (arg2 : Memref sig .tc .vmem S256x1408 .f32) (harg2 : arg2.IsWhole) (arg3 : Memref sig .tc .vmem S8x1408 .f32) (harg3 : arg3.IsWhole) (arg4 : Memref sig .tc .vmem S256x1408 .bf16) (harg4 : arg4.IsWhole) (arg5 : Memref sig .tc .vmem S16x1408 .bf16) (harg5 : arg5.IsWhole) (arg6 : Memref sig .tc .vmem S16x1408 .bf16) (harg6 : arg6.IsWhole) (arg7 : Memref sig .tc .vmem S256x1408 .bf16) (harg7 : arg7.IsWhole) (arg8 : Memref sig .tc .vmem S16x1408 .bf16) (harg8 : arg8.IsWhole) (arg9 : Memref sig .tc .vmem S16x1408 .bf16) (harg9 : arg9.IsWhole) (arg10 : Memref sig .tc .vmem S3x1408 .f32) (harg10 : arg10.IsWhole) (arg11 : Memref sig .tc .vmem S3x1408 .f32) (harg11 : arg11.IsWhole)

/-- The ten blocks a point reads, held at their contents. -/
abbrev inputs : sProp 𝕄 := iprop((arg2.view.loc (c : Thread nD τ) ↦[arg2.view.set]{fullShare} (harg2.unread b.x0)) ∗ (arg3.view.loc (c : Thread nD τ) ↦[arg3.view.set]{fullShare} (harg3.unread b.x1)) ∗ (arg4.view.loc (c : Thread nD τ) ↦[arg4.view.set]{fullShare} (harg4.unread b.x2)) ∗ (arg5.view.loc (c : Thread nD τ) ↦[arg5.view.set]{fullShare} (harg5.unread b.x3)) ∗ (arg6.view.loc (c : Thread nD τ) ↦[arg6.view.set]{fullShare} (harg6.unread b.x4)) ∗ (arg7.view.loc (c : Thread nD τ) ↦[arg7.view.set]{fullShare} (harg7.unread b.x5)) ∗ (arg8.view.loc (c : Thread nD τ) ↦[arg8.view.set]{fullShare} (harg8.unread b.x6)) ∗ (arg9.view.loc (c : Thread nD τ) ↦[arg9.view.set]{fullShare} (harg9.unread b.x7)) ∗ (arg10.view.loc (c : Thread nD τ) ↦[arg10.view.set]{fullShare} (harg10.unread b.x8)) ∗ (arg11.view.loc (c : Thread nD τ) ↦[arg11.view.set]{fullShare} (harg11.unread b.x9)))

variable (i : grid0.Coords) (arg12 : Memref sig .tc .vmem S256x1408 .bf16) (harg12 : arg12.IsWhole) (arg13 : Memref sig .tc .vmem S256x1408 .bf16) (harg13 : arg13.IsWhole) (arg14 : Memref sig .tc .vmem S3x1408 .f32) (harg14 : arg14.IsWhole) (arg15 : Memref sig .tc .vmem S3x1408 .f32) (harg15 : arg15.IsWhole) (e14 e15 : FVec F S3x1408 .f32)

/-- Before strip `k`: the inputs held, the two gradients' strips before `k` written, the two weight gradients' strips
before `k` added to what they held when the point began. -/
abbrev inv (k : ℕ) : sProp 𝕄 :=
  iprop(inputs c b arg2 harg2 arg3 harg3 arg4 harg4 arg5 harg5 arg6 harg6 arg7 harg7 arg8 harg8 arg9 harg9 arg10 harg10 arg11 harg11
    ∗ (∃ f, (arg12.view.loc (c : Thread nD τ) ↦[arg12.view.set]{fullShare} f) ∗ ⌜Done (F := F) (e := .bf16) (outG i b) k (arg12.view.read (Elt F) f)⌝)
    ∗ (∃ f, (arg13.view.loc (c : Thread nD τ) ↦[arg13.view.set]{fullShare} f) ∗ ⌜Done (F := F) (e := .bf16) (outU i b) k (arg13.view.read (Elt F) f)⌝)
    ∗ (∃ f, (arg14.view.loc (c : Thread nD τ) ↦[arg14.view.set]{fullShare} f) ∗ ⌜Added (F := F) (e := .f32) (outWG i b e14) e14 k (arg14.view.read (Elt F) f)⌝)
    ∗ (∃ f, (arg15.view.loc (c : Thread nD τ) ↦[arg15.view.set]{fullShare} f) ∗ ⌜Added (F := F) (e := .f32) (outWU i b e15) e15 k (arg15.view.read (Elt F) f)⌝))

set_option maxHeartbeats 4000000 in
/-- One strip. -/
theorem strip_run (k : Fin k0_t1_loop.trips) (E : Set ℕ) :
    inv c b arg2 harg2 arg3 harg3 arg4 harg4 arg5 harg5 arg6 harg6 arg7 harg7 arg8 harg8 arg9 harg9 arg10 harg10 arg11 harg11 i arg12 arg13 arg14 arg15 e14 e15 k.val
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => inv c b arg2 harg2 arg3 harg3 arg4 harg4 arg5 harg5 arg6 harg6 arg7 harg7 arg8 harg8 arg9 harg9 arg10 harg10 arg11 harg11 i arg12 arg13 arg14 arg15 e14 e15 (k.val + 1)) := by
  have hk : k.val < 11 := Nat.lt_of_lt_of_le k.isLt k0_t1_abs.2.1
  unfold k0_t1_body
  iintro ⟨⟨HR2, HR3, HR4, HR5, HR6, HR7, HR8, HR9, HR10, HR11⟩, ⟨%f12, HW12, %h12⟩, ⟨%f13, HW13, %h13⟩, ⟨%f14, HW14, %h14⟩, ⟨%f15, HW15, %h15⟩⟩
  have hcut : b.cut k = ⟨arg2.view.readAt (Elt F) (Rect.unit (s := S256x1408) (k0_off3 k) S256x128.size (k0_off3_inb k)).toLoadRect (harg2.unread b.x0),
      arg3.view.readAt (Elt F) (Rect.unit (s := S8x1408) (k0_off5 k) S8x128.size (k0_off5_inb k)).toLoadRect (harg3.unread b.x1),
      arg4.view.readAt (Elt F) (Rect.unit (s := S256x1408) (k0_off3 k) S256x128.size (k0_off3_inb k)).toLoadRect (harg4.unread b.x2),
      arg5.view.readAt (Elt F) (Rect.unit (s := S16x1408) (k0_off2 k) S8x128.size (k0_off2_inb k)).toLoadRect (harg5.unread b.x3),
      arg6.view.readAt (Elt F) (Rect.unit (s := S16x1408) (k0_off4 k) S8x128.size (k0_off4_inb k)).toLoadRect (harg6.unread b.x4),
      arg7.view.readAt (Elt F) (Rect.unit (s := S256x1408) (k0_off3 k) S256x128.size (k0_off3_inb k)).toLoadRect (harg7.unread b.x5),
      arg8.view.readAt (Elt F) (Rect.unit (s := S16x1408) (k0_off2 k) S8x128.size (k0_off2_inb k)).toLoadRect (harg8.unread b.x6),
      arg9.view.readAt (Elt F) (Rect.unit (s := S16x1408) (k0_off4 k) S8x128.size (k0_off4_inb k)).toLoadRect (harg9.unread b.x7),
      arg10.view.readAt (Elt F) (Rect.unit (s := S3x1408) (k0_off1 k) S3x128.size (k0_off1_inb k)).toLoadRect (harg10.unread b.x8),
      arg11.view.readAt (Elt F) (Rect.unit (s := S3x1408) (k0_off1 k) S3x128.size (k0_off1_inb k)).toLoadRect (harg11.unread b.x9)⟩ := by
    simp only [load_unread]; rfl
  have hr14 : rowOf e14 k = ![arg14.view.readAt (Elt F) (Rect.unit (s := S3x1408) (k0_off6 k) S1x128.size (k0_off6_inb k)).toLoadRect f14, arg14.view.readAt (Elt F) (Rect.unit (s := S3x1408) (k0_off7 k) S1x128.size (k0_off7_inb k)).toLoadRect f14, arg14.view.readAt (Elt F) (Rect.unit (s := S3x1408) (k0_off8 k) S1x128.size (k0_off8_inb k)).toLoadRect f14] := by
    funext j
    rcases (by omega : j.val = 0 ∨ j.val = 1 ∨ j.val = 2) with hj | hj | hj
    · rw [show j = 0 from Fin.ext hj]; exact (row_read arg14.view f14 k _ _ h14 0 _ (k0_off6_eq k) _).symm
    · rw [show j = 1 from Fin.ext hj]; exact (row_read arg14.view f14 k _ _ h14 1 _ (k0_off7_eq k) _).symm
    · rw [show j = 2 from Fin.ext hj]; exact (row_read arg14.view f14 k _ _ h14 2 _ (k0_off8_eq k) _).symm
  have hr15 : rowOf e15 k = ![arg15.view.readAt (Elt F) (Rect.unit (s := S3x1408) (k0_off6 k) S1x128.size (k0_off6_inb k)).toLoadRect f15, arg15.view.readAt (Elt F) (Rect.unit (s := S3x1408) (k0_off7 k) S1x128.size (k0_off7_inb k)).toLoadRect f15, arg15.view.readAt (Elt F) (Rect.unit (s := S3x1408) (k0_off8 k) S1x128.size (k0_off8_inb k)).toLoadRect f15] := by
    funext j
    rcases (by omega : j.val = 0 ∨ j.val = 1 ∨ j.val = 2) with hj | hj | hj
    · rw [show j = 0 from Fin.ext hj]; exact (row_read arg15.view f15 k _ _ h15 0 _ (k0_off6_eq k) _).symm
    · rw [show j = 1 from Fin.ext hj]; exact (row_read arg15.view f15 k _ _ h15 1 _ (k0_off7_eq k) _).symm
    · rw [show j = 2 from Fin.ext hj]; exact (row_read arg15.view f15 k _ _ h15 2 _ (k0_off8_eq k) _).symm
  sl_exec
  sl_step
  isplitl [HR2 HR3 HR4 HR5 HR6 HR7 HR8 HR9 HR10 HR11]
  · sl_close
  isplitl [HW12]
  · iexists _; isplitl [HW12]; · iexact HW12
    ipureintro
    refine done_step arg12.view f12 k _ _ (fun y hy => ?_) h12
    unfold outG
    rw [hy, hcut]
    rfl
  isplitl [HW13]
  · iexists _; isplitl [HW13]; · iexact HW13
    ipureintro
    refine done_step arg13.view f13 k _ _ (fun y hy => ?_) h13
    unfold outU
    rw [hy, hcut]
    rfl
  isplitl [HW14]
  · iexists _; isplitl [HW14]; · iexact HW14
    ipureintro
    have h := added_step arg14.view f14 k ((b.cut k).wrowG i (rowOf e14 k)) _ _
      (fun y hy => by unfold outWG; rw [hy]) h14
    rw [hcut, hr14] at h
    exact h
  · iexists _; isplitl [HW15]; · iexact HW15
    ipureintro
    have h := added_step arg15.view f15 k ((b.cut k).wrowU i (rowOf e15 k)) _ _
      (fun y hy => by unfold outWU; rw [hy]) h15
    rw [hcut, hr15] at h
    exact h

set_option maxHeartbeats 4000000 in
/-- The strips of a point, one after the other. -/
theorem loop_run (E : Set ℕ) (K : PUnit → sProp 𝕄) :
    iprop(inv c b arg2 harg2 arg3 harg3 arg4 harg4 arg5 harg5 arg6 harg6 arg7 harg7 arg8 harg8 arg9 harg9 arg10 harg10 arg11 harg11 i arg12 arg13 arg14 arg15 e14 e15 0
        ∗ (inv c b arg2 harg2 arg3 harg3 arg4 harg4 arg5 harg5 arg6 harg6 arg7 harg7 arg8 harg8 arg9 harg9 arg10 harg10 arg11 harg11 i arg12 arg13 arg14 arg15 e14 e15 11 -∗ K ⟨⟩))
      ⊢ wp frame (wpE (defs₀ (F := F)) Variants.none (c : Thread nD τ) none) E
          (do let _ ← Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15)
              pure ⟨⟩) K := by
  iintro ⟨HI, Hk⟩
  sl_for (fun (k : ℕ) (_ : PUnit) => inv c b arg2 harg2 arg3 harg3 arg4 harg4 arg5 harg5 arg6 harg6 arg7 harg7 arg8 harg8 arg9 harg9 arg10 harg10 arg11 harg11 i arg12 arg13 arg14 arg15 e14 e15 k) $$ [HI]
  · intro k acc; exact strip_run c b arg2 harg2 arg3 harg3 arg4 harg4 arg5 harg5 arg6 harg6 arg7 harg7 arg8 harg8 arg9 harg9 arg10 harg10 arg11 harg11 i arg12 harg12 arg13 harg13 arg14 harg14 arg15 harg15 e14 e15 k E
  · iexact HI
  iintro %acc HI
  rw [show Scf.trips k0_t1_loop.lb k0_t1_loop.ub k0_t1_loop.st = 11 from trips_eq]
  sl_step
  iapply Hk
  iexact HI

set_option maxHeartbeats 4000000 in
/-- A point which adds to what the weight gradients hold. -/
theorem body_B (hc : ¬ cond0_0 i) (E : Set ℕ) (K : PUnit → sProp 𝕄) (f12 : BufTy.Contents (Elt F) arg12.view.ty) (f13 : BufTy.Contents (Elt F) arg13.view.ty) :
    iprop(inputs c b arg2 harg2 arg3 harg3 arg4 harg4 arg5 harg5 arg6 harg6 arg7 harg7 arg8 harg8 arg9 harg9 arg10 harg10 arg11 harg11
        ∗ (arg12.view.loc (c : Thread nD τ) ↦[arg12.view.set]{fullShare} f12) ∗ (arg13.view.loc (c : Thread nD τ) ↦[arg13.view.set]{fullShare} f13)
        ∗ (arg14.view.loc (c : Thread nD τ) ↦[arg14.view.set]{fullShare} (harg14.unread e14)) ∗ (arg15.view.loc (c : Thread nD τ) ↦[arg15.view.set]{fullShare} (harg15.unread e15))
        ∗ (inv c b arg2 harg2 arg3 harg3 arg4 harg4 arg5 harg5 arg6 harg6 arg7 harg7 arg8 harg8 arg9 harg9 arg10 harg10 arg11 harg11 i arg12 arg13 arg14 arg15 e14 e15 11 -∗ K ⟨⟩))
      ⊢ wp frame (wpE (defs₀ (F := F)) Variants.none (c : Thread nD τ) none) E (cc0_ffn_act_bwd (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_act_bwd_eq_skeleton]
  unfold cc0_ffn_act_bwd_skel
  dsimp only
  rw [dif_neg hc]
  iintro ⟨HI, H12, H13, H14, H15, Hk⟩
  iapply (loop_run c b arg2 harg2 arg3 harg3 arg4 harg4 arg5 harg5 arg6 harg6 arg7 harg7 arg8 harg8 arg9 harg9 arg10 harg10 arg11 harg11 i arg12 harg12 arg13 harg13 arg14 harg14 arg15 harg15 e14 e15 E K)
  isplitr [Hk]
  · isplitl [HI]; · iexact HI
    isplitl [H12]; · iexists _; isplitl [H12]; · iexact H12
                     ipureintro; intro y hy; exact absurd hy (by omega)
    isplitl [H13]; · iexists _; isplitl [H13]; · iexact H13
                     ipureintro; intro y hy; exact absurd hy (by omega)
    isplitl [H14]; · iexists _; isplitl [H14]; · iexact H14
                     ipureintro; intro y; rw [harg14.read_unread, if_neg (by omega)]
    iexists _; isplitl [H15]; · iexact H15
    ipureintro; intro y; rw [harg15.read_unread, if_neg (by omega)]
  · iexact Hk

set_option maxHeartbeats 4000000 in
/-- A point which starts the weight gradients afresh. -/
theorem body_A (hc : cond0_0 i) (E : Set ℕ) (K : PUnit → sProp 𝕄) (f12 : BufTy.Contents (Elt F) arg12.view.ty) (f13 : BufTy.Contents (Elt F) arg13.view.ty)
    (f14 : BufTy.Contents (Elt F) arg14.view.ty) (f15 : BufTy.Contents (Elt F) arg15.view.ty) :
    iprop(inputs c b arg2 harg2 arg3 harg3 arg4 harg4 arg5 harg5 arg6 harg6 arg7 harg7 arg8 harg8 arg9 harg9 arg10 harg10 arg11 harg11
        ∗ (arg12.view.loc (c : Thread nD τ) ↦[arg12.view.set]{fullShare} f12) ∗ (arg13.view.loc (c : Thread nD τ) ↦[arg13.view.set]{fullShare} f13)
        ∗ (arg14.view.loc (c : Thread nD τ) ↦[arg14.view.set]{fullShare} f14) ∗ (arg15.view.loc (c : Thread nD τ) ↦[arg15.view.set]{fullShare} f15)
        ∗ (inv c b arg2 harg2 arg3 harg3 arg4 harg4 arg5 harg5 arg6 harg6 arg7 harg7 arg8 harg8 arg9 harg9 arg10 harg10 arg11 harg11 i arg12 arg13 arg14 arg15 k0_pay3 k0_pay4 11 -∗ K ⟨⟩))
      ⊢ wp frame (wpE (defs₀ (F := F)) Variants.none (c : Thread nD τ) none) E (cc0_ffn_act_bwd (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_act_bwd_eq_skeleton]
  unfold cc0_ffn_act_bwd_skel
  dsimp only
  rw [dif_pos hc]
  have hl := loop_run c b arg2 harg2 arg3 harg3 arg4 harg4 arg5 harg5 arg6 harg6 arg7 harg7 arg8 harg8 arg9 harg9 arg10 harg10 arg11 harg11 i arg12 harg12 arg13 harg13 arg14 harg14 arg15 harg15 k0_pay3 k0_pay4 E K
  revert hl
  generalize (do let _ ← Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15)
                 pure ⟨⟩ : Prog (TpuEff nD τ sig (Elt F) Λ₀ .tc) PUnit) = T
  intro hl
  iintro ⟨HI, H12, H13, H14, H15, Hk⟩
  sl_exec
  iapply hl
  isplitr [Hk]
  · isplitl [HI]; · iexact HI
    isplitl [H12]; · iexists _; isplitl [H12]; · iexact H12
                     ipureintro; intro y hy; exact absurd hy (by omega)
    isplitl [H13]; · iexists _; isplitl [H13]; · iexact H13
                     ipureintro; intro y hy; exact absurd hy (by omega)
    isplitl [H14]; · iexists _; isplitl [H14]; · iexact H14
                     ipureintro; intro y; rw [if_neg (by omega)]; exact View.read_writes_cons_unit_of_mem _ _ _ _ _ y y rfl (fun a => by revert a; exact Fin.forall_fin_two.mpr ⟨(Nat.zero_add _).symm, (Nat.zero_add _).symm⟩)
    iexists _; isplitl [H15]; · iexact H15
    ipureintro; intro y; rw [if_neg (by omega)]; exact View.read_writes_cons_unit_of_mem _ _ _ _ _ y y rfl (fun a => by revert a; exact Fin.forall_fin_two.mpr ⟨(Nat.zero_add _).symm, (Nat.zero_add _).symm⟩)
  · iexact Hk

theorem done_all {R : ℕ} {e : EltTy} (w f : (⟨2, ![R, 1408]⟩ : Shape).Idx → Elt F e) (h : Done (F := F) w 11 f) : f = w :=
  funext fun y => h y (by have h1 : (y 1).val < 1408 := (y 1).isLt; omega)
theorem added_all {R : ℕ} {e : EltTy} (w o f : (⟨2, ![R, 1408]⟩ : Shape).Idx → Elt F e) (h : Added (F := F) w o 11 f) : f = w :=
  funext fun y => (h y).trans (if_pos (by have h1 : (y 1).val < 1408 := (y 1).isLt; omega))

/-- The blocks a point reads, each held by its own buffer. -/
abbrev ownsIn : sProp 𝕄 := iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9)
/-- What a point leaves in the four outputs' buffers. -/
abbrev ownsOut (g : FVec F S256x1408 .bf16) (u : FVec F S256x1408 .bf16) (wg wu : FVec F S3x1408 .f32) : sProp 𝕄 :=
  iprop(owns (c : Thread nD τ) arg12 fullShare g ∗ owns (c : Thread nD τ) arg13 fullShare u ∗ owns (c : Thread nD τ) arg14 fullShare wg ∗ owns (c : Thread nD τ) arg15 fullShare wu)

/-- From the last strip's state to the point's result. -/
theorem close_point :
    inv c b arg2 harg2 arg3 harg3 arg4 harg4 arg5 harg5 arg6 harg6 arg7 harg7 arg8 harg8 arg9 harg9 arg10 harg10 arg11 harg11 i arg12 arg13 arg14 arg15 e14 e15 11
      ⊢ iprop(ownsIn c b arg2 arg3 arg4 arg5 arg6 arg7 arg8 arg9 arg10 arg11 ∗ ownsOut c arg12 arg13 arg14 arg15 (outG i b) (outU i b) (outWG i b e14) (outWU i b e15)) := by
  iintro ⟨⟨G2, G3, G4, G5, G6, G7, G8, G9, G10, G11⟩, ⟨%f12, H12, %h12⟩, ⟨%f13, H13, %h13⟩, ⟨%f14, H14, %h14⟩, ⟨%f15, H15, %h15⟩⟩
  isplitl [G2 G3 G4 G5 G6 G7 G8 G9 G10 G11]
  · unfold ownsIn owns
    isplitl [G2]
    · iexists _; isplitr; · ipureintro; exact harg2.read_unread _
      iexact G2
    isplitl [G3]
    · iexists _; isplitr; · ipureintro; exact harg3.read_unread _
      iexact G3
    isplitl [G4]
    · iexists _; isplitr; · ipureintro; exact harg4.read_unread _
      iexact G4
    isplitl [G5]
    · iexists _; isplitr; · ipureintro; exact harg5.read_unread _
      iexact G5
    isplitl [G6]
    · iexists _; isplitr; · ipureintro; exact harg6.read_unread _
      iexact G6
    isplitl [G7]
    · iexists _; isplitr; · ipureintro; exact harg7.read_unread _
      iexact G7
    isplitl [G8]
    · iexists _; isplitr; · ipureintro; exact harg8.read_unread _
      iexact G8
    isplitl [G9]
    · iexists _; isplitr; · ipureintro; exact harg9.read_unread _
      iexact G9
    isplitl [G10]
    · iexists _; isplitr; · ipureintro; exact harg10.read_unread _
      iexact G10
    iexists _; isplitr; · ipureintro; exact harg11.read_unread _
    iexact G11
  · unfold ownsOut owns
    isplitl [H12]
    · iexists _; isplitr; · ipureintro; exact done_all _ _ h12
      iexact H12
    isplitl [H13]
    · iexists _; isplitr; · ipureintro; exact done_all _ _ h13
      iexact H13
    isplitl [H14]
    · iexists _; isplitr; · ipureintro; exact added_all _ _ _ h14
      iexact H14
    iexists _; isplitr; · ipureintro; exact added_all _ _ _ h15
    iexact H15

set_option maxHeartbeats 1000000 in
/-- A point of the first kind, block to block. -/
theorem point_A (hc : cond0_0 i) (E : Set ℕ) (K : PUnit → sProp 𝕄) :
    iprop(ownsIn c b arg2 arg3 arg4 arg5 arg6 arg7 arg8 arg9 arg10 arg11 ∗ (∃ d, owns (c : Thread nD τ) arg12 fullShare d) ∗ (∃ d, owns (c : Thread nD τ) arg13 fullShare d)
        ∗ (∃ d, owns (c : Thread nD τ) arg14 fullShare d) ∗ (∃ d, owns (c : Thread nD τ) arg15 fullShare d)
        ∗ (iprop(ownsIn c b arg2 arg3 arg4 arg5 arg6 arg7 arg8 arg9 arg10 arg11 ∗ ownsOut c arg12 arg13 arg14 arg15 (outG i b) (outU i b) (outWG i b k0_pay3) (outWU i b k0_pay4)) -∗ K ⟨⟩))
      ⊢ wp frame (wpE (defs₀ (F := F)) Variants.none (c : Thread nD τ) none) E (cc0_ffn_act_bwd (F := F) i arg2 harg2 arg3 harg3 arg4 harg4 arg5 harg5 arg6 harg6 arg7 harg7 arg8 harg8 arg9 harg9 arg10 harg10 arg11 harg11 arg12 harg12 arg13 harg13 arg14 harg14 arg15 harg15) K := by
  unfold ownsIn owns
  iintro ⟨⟨⟨%f2, %hf2, G2⟩, ⟨%f3, %hf3, G3⟩, ⟨%f4, %hf4, G4⟩, ⟨%f5, %hf5, G5⟩, ⟨%f6, %hf6, G6⟩, ⟨%f7, %hf7, G7⟩, ⟨%f8, %hf8, G8⟩, ⟨%f9, %hf9, G9⟩, ⟨%f10, %hf10, G10⟩, ⟨%f11, %hf11, G11⟩⟩, ⟨%d12, %f12, -, H12⟩, ⟨%d13, %f13, -, H13⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  iapply (body_A c b arg2 harg2 arg3 harg3 arg4 harg4 arg5 harg5 arg6 harg6 arg7 harg7 arg8 harg8 arg9 harg9 arg10 harg10 arg11 harg11 i arg12 harg12 arg13 harg13 arg14 harg14 arg15 harg15 hc E K f12 f13 f14 f15)
  isplitl [G2 G3 G4 G5 G6 G7 G8 G9 G10 G11]
  · sl_close
  isplitl [H12]; · iexact H12
  isplitl [H13]; · iexact H13
  isplitl [H14]; · iexact H14
  isplitl [H15]; · iexact H15
  iintro HI
  iapply Hk
  iapply (close_point c b arg2 harg2 arg3 harg3 arg4 harg4 arg5 harg5 arg6 harg6 arg7 harg7 arg8 harg8 arg9 harg9 arg10 harg10 arg11 harg11 i arg12 arg13 arg14 arg15 k0_pay3 k0_pay4)
  iexact HI

set_option maxHeartbeats 1000000 in
/-- A point of the other kind, block to block. -/
theorem point_B (hc : ¬ cond0_0 i) (E : Set ℕ) (K : PUnit → sProp 𝕄) :
    iprop(ownsIn c b arg2 arg3 arg4 arg5 arg6 arg7 arg8 arg9 arg10 arg11 ∗ (∃ d, owns (c : Thread nD τ) arg12 fullShare d) ∗ (∃ d, owns (c : Thread nD τ) arg13 fullShare d)
        ∗ owns (c : Thread nD τ) arg14 fullShare e14 ∗ owns (c : Thread nD τ) arg15 fullShare e15
        ∗ (iprop(ownsIn c b arg2 arg3 arg4 arg5 arg6 arg7 arg8 arg9 arg10 arg11 ∗ ownsOut c arg12 arg13 arg14 arg15 (outG i b) (outU i b) (outWG i b e14) (outWU i b e15)) -∗ K ⟨⟩))
      ⊢ wp frame (wpE (defs₀ (F := F)) Variants.none (c : Thread nD τ) none) E (cc0_ffn_act_bwd (F := F) i arg2 harg2 arg3 harg3 arg4 harg4 arg5 harg5 arg6 harg6 arg7 harg7 arg8 harg8 arg9 harg9 arg10 harg10 arg11 harg11 arg12 harg12 arg13 harg13 arg14 harg14 arg15 harg15) K := by
  unfold ownsIn owns
  iintro ⟨⟨⟨%f2, %hf2, G2⟩, ⟨%f3, %hf3, G3⟩, ⟨%f4, %hf4, G4⟩, ⟨%f5, %hf5, G5⟩, ⟨%f6, %hf6, G6⟩, ⟨%f7, %hf7, G7⟩, ⟨%f8, %hf8, G8⟩, ⟨%f9, %hf9, G9⟩, ⟨%f10, %hf10, G10⟩, ⟨%f11, %hf11, G11⟩⟩, ⟨%d12, %f12, -, H12⟩, ⟨%d13, %f13, -, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15
  iapply (body_B c b arg2 harg2 arg3 harg3 arg4 harg4 arg5 harg5 arg6 harg6 arg7 harg7 arg8 harg8 arg9 harg9 arg10 harg10 arg11 harg11 i arg12 harg12 arg13 harg13 arg14 harg14 arg15 harg15 e14 e15 hc E K f12 f13)
  isplitl [G2 G3 G4 G5 G6 G7 G8 G9 G10 G11]
  · sl_close
  isplitl [H12]; · iexact H12
  isplitl [H13]; · iexact H13
  isplitl [H14]; · iexact H14
  isplitl [H15]; · iexact H15
  iintro HI
  iapply Hk
  iapply (close_point c b arg2 harg2 arg3 harg3 arg4 harg4 arg5 harg5 arg6 harg6 arg7 harg7 arg8 harg8 arg9 harg9 arg10 harg10 arg11 harg11 i arg12 arg13 arg14 arg15 e14 e15)
  iexact HI

end run

variable (m : (ℓ : Loc nD τ sig) → Buf (Elt F) ℓ) (ρ : Dev nD → PrngReg)

/-- The ten blocks point `t` reads. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t⟩

/-- The two weight gradients after point `n`: begun afresh at each block of columns, then added to. -/
def accAt (c : Dev nD) : (n : ℕ) → n < cfg0.N → FVec F S3x1408 .f32 × FVec F S3x1408 .f32
  | 0, hn => (outWG (grid0.coords ⟨0, hn⟩) (blocksAt m c ⟨0, hn⟩) k0_pay3, outWU (grid0.coords ⟨0, hn⟩) (blocksAt m c ⟨0, hn⟩) k0_pay4)
  | n + 1, hn =>
    if (n + 1) % 8 = 0 then
      (outWG (grid0.coords ⟨n + 1, hn⟩) (blocksAt m c ⟨n + 1, hn⟩) k0_pay3, outWU (grid0.coords ⟨n + 1, hn⟩) (blocksAt m c ⟨n + 1, hn⟩) k0_pay4)
    else
      (outWG (grid0.coords ⟨n + 1, hn⟩) (blocksAt m c ⟨n + 1, hn⟩) (accAt c n (Nat.lt_of_succ_lt hn)).1,
        outWU (grid0.coords ⟨n + 1, hn⟩) (blocksAt m c ⟨n + 1, hn⟩) (accAt c n (Nat.lt_of_succ_lt hn)).2)

theorem accAt_A (c : Dev nD) (t : Fin cfg0.N) (h : t.val % 8 = 0) :
    accAt m c t.val t.isLt = (outWG (grid0.coords t) (blocksAt m c t) k0_pay3, outWU (grid0.coords t) (blocksAt m c t) k0_pay4) := by
  obtain ⟨n, hn⟩ := t
  cases n with
  | zero => rfl
  | succ n => exact if_pos h

theorem accAt_B (c : Dev nD) (t : Fin cfg0.N) (h : ¬ t.val % 8 = 0) :
    accAt m c t.val t.isLt = (outWG (grid0.coords t) (blocksAt m c t) (accAt m c (t.val - 1) (Nat.lt_of_le_of_lt (Nat.sub_le _ _) t.isLt)).1,
      outWU (grid0.coords t) (blocksAt m c t) (accAt m c (t.val - 1) (Nat.lt_of_le_of_lt (Nat.sub_le _ _) t.isLt)).2) := by
  obtain ⟨n, hn⟩ := t
  cases n with
  | zero => exact absurd (Nat.zero_mod _) h
  | succ n => exact if_neg h

/-- The launch's data: the arrays as they are found; after a point each input's buffer at its block, the outputs' at what
the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outG (grid0.coords t) (blocksAt m c t)
    | ⟨11, _⟩ => outU (grid0.coords t) (blocksAt m c t)
    | ⟨12, _⟩ => (accAt m c t.val t.isLt).1
    | ⟨13, _⟩ => (accAt m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outG (grid0.coords t) (blocksAt m c t) := by dsimp only [dats]
theorem after11 (c : Dev nD) (t : Fin cfg0.N) : (dats m 0 c).after 11 t = outU (grid0.coords t) (blocksAt m c t) := by dsimp only [dats]
theorem after12 (c : Dev nD) (t : Fin cfg0.N) : (dats m 0 c).after 12 t = (accAt m c t.val t.isLt).1 := by dsimp only [dats]
theorem after13 (c : Dev nD) (t : Fin cfg0.N) : (dats m 0 c).after 13 t = (accAt m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- At a point which adds, a weight gradient's buffer holds what the point before left. -/
theorem before12 (c : Dev nD) (t : Fin cfg0.N) (h0 : ¬ t.val % 8 = 0) (d) :
    (dats m 0 c).before 12 t d = (accAt m c (t.val - 1) (Nat.lt_of_le_of_lt (Nat.sub_le _ _) t.isLt)).1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before13 (c : Dev nD) (t : Fin cfg0.N) (h0 : ¬ t.val % 8 = 0) (d) :
    (dats m 0 c).before 13 t d = (accAt m c (t.val - 1) (Nat.lt_of_le_of_lt (Nat.sub_le _ _) t.isLt)).2 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-- What the body finds at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  by_cases h0 : t.val % 8 = 0
  · rw [accAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (point_A c (blocksAt m c t) _ _ _ _ _ _ _ _ _ _ _ _ _ _ _ _ _ _ _ _ (grid0.coords t) _ _ _ _ _ _ _ _ ((hcond0_0 t).mpr h0) Set.univ _)
    isplitl [H0 H1 H2 H3 H4 H5 H6 H7 H8 H9]
    · unfold ownsIn; sl_close
    isplitl [H10]; · iexists _; iexact H10
    isplitl [H11]; · iexists _; iexact H11
    isplitl [H12]; · iexists _; iexact H12
    isplitl [H13]; · iexists _; iexact H13
    iintro ⟨⟨G0, G1, G2, G3, G4, G5, G6, G7, G8, G9⟩, ⟨G10, G11, G12, G13⟩⟩
    isplitl [HΦ]; · iexact HΦ
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13
  · rw [accAt_B m c t h0]
    simp only [before12 m c t h0, before13 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (point_B c (blocksAt m c t) _ _ _ _ _ _ _ _ _ _ _ _ _ _ _ _ _ _ _ _ (grid0.coords t) _ _ _ _ _ _ _ _ _ _ (fun h => h0 ((hcond0_0 t).mp h)) Set.univ _)
    isplitl [H0 H1 H2 H3 H4 H5 H6 H7 H8 H9]
    · unfold ownsIn; sl_close
    isplitl [H10]; · iexists _; iexact H10
    isplitl [H11]; · iexists _; iexact H11
    isplitl [H12]; · iexact H12
    isplitl [H13]; · iexact H13
    iintro ⟨⟨G0, G1, G2, G3, G4, G5, G6, G7, G8, G9⟩, ⟨G10, G11, G12, G13⟩⟩
    isplitl [HΦ]; · iexact HΦ
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The launch ends, with every array at what its windows leave and no signal outstanding. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and no signal is outstanding. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.ActRun

end
-- ==== Proof.ActForm.lean ====
/- The gated convolution's gradient in formulas: rows of the convolution, and the two factors the cotangent meets. -/
module

public import proofs.«01_k».proof.Proof.Rows
public import proofs.«01_k».proof.Proof.Finite

@[expose] public section

noncomputable section

namespace Cert.ActForm

open Idealize.ShloMosaic Cert.Rows

/-- Row `n` of the three-tap causal convolution at column `c`. -/
def tap (X : (⟨2, ![2048, 5632]⟩ : Shape).Idx → EReal) (W : (⟨2, ![3, 5632]⟩ : Shape).Idx → EReal) (n : ℕ) (c : Fin 5632) : EReal :=
  back X n 2 c * W (ix2 0 c) + back X n 1 c * W (ix2 1 c) + back X n 0 c * W (ix2 2 c)

/-- A column of the gate's half. -/
def lo (c : Fin 2816) : Fin 5632 := ⟨c.val, by omega⟩

/-- The same column of the other half. -/
def hi (c : Fin 2816) : Fin 5632 := ⟨2816 + c.val, by omega⟩

/-- The gate's gradient from the cotangent `d`, the gate `a` and the other factor `b`. -/
def gate (d a b : EReal) : EReal :=
  d * b * (Ideal.logistic a * (1 + a * (1 - Ideal.logistic a)))

/-- The other factor's gradient. -/
def side (d a : EReal) : EReal := d * (a * Ideal.logistic a)

/-- The gate's gradient at row `n`: zero from the last row on. -/
def gG (D : (⟨2, ![2048, 2816]⟩ : Shape).Idx → EReal) (X : (⟨2, ![2048, 5632]⟩ : Shape).Idx → EReal) (W : (⟨2, ![3, 5632]⟩ : Shape).Idx → EReal)
    (n : ℕ) (c : Fin 2816) : EReal := gate (row D n c) (tap X W n (lo c)) (tap X W n (hi c))

/-- The other factor's gradient at row `n`. -/
def gU (D : (⟨2, ![2048, 2816]⟩ : Shape).Idx → EReal) (X : (⟨2, ![2048, 5632]⟩ : Shape).Idx → EReal) (W : (⟨2, ![3, 5632]⟩ : Shape).Idx → EReal)
    (n : ℕ) (c : Fin 2816) : EReal := side (row D n c) (tap X W n (lo c))

/-- Among real numbers the gate's gradient is the sum of the sigmoid's and the product's. -/
theorem gate_sum (d a b : ℝ) :
    ((d : EReal) * b) * Ideal.logistic (a : EReal) + ((a : EReal) * ((d : EReal) * b)) * (Ideal.logistic (a : EReal) * (1 - Ideal.logistic (a : EReal)))
      = gate d a b := by
  unfold gate
  rw [Ideal.logistic_coe]
  generalize (1 + Real.exp (-a))⁻¹ = s
  rw [← EReal.coe_one]
  simp only [← EReal.coe_mul, ← EReal.coe_add, ← EReal.coe_sub]
  exact congrArg _ (by ring)

theorem gate_zero (a b : EReal) : gate 0 a b = 0 := by
  unfold gate
  rw [zero_mul, zero_mul]

theorem side_zero (a : EReal) : side 0 a = 0 := zero_mul _

/-- The same row, counted from two places. -/
theorem back_shift {R C : ℕ} (X : (⟨2, ![R, C]⟩ : Shape).Idx → EReal) (n b n' b' : ℕ) (c : Fin C) (h : n + b' = n' + b) :
    back X n b c = back X n' b' c := by
  unfold back
  by_cases q : b ≤ n
  · rw [if_pos q, if_pos (by omega)]
    congr 1
    omega
  · rw [if_neg q, if_neg (by omega)]

/-- A row of real numbers is real. -/
theorem back_real {R C : ℕ} (f : (⟨2, ![R, C]⟩ : Shape).Idx → ℝ) (n b : ℕ) (c : Fin C) :
    ∃ x : ℝ, back (fun i => ((f i : ℝ) : EReal)) n b c = (x : EReal) := by
  unfold back row
  split
  · split
    · exact ⟨_, rfl⟩
    · exact ⟨0, rfl⟩
  · exact ⟨0, rfl⟩

/-- The convolution of real numbers is real. -/
theorem tap_real (f : (⟨2, ![2048, 5632]⟩ : Shape).Idx → ℝ) (g : (⟨2, ![3, 5632]⟩ : Shape).Idx → ℝ) (n : ℕ) (c : Fin 5632) :
    ∃ x : ℝ, tap (fun i => ((f i : ℝ) : EReal)) (fun i => ((g i : ℝ) : EReal)) n c = (x : EReal) := by
  obtain ⟨a, ha⟩ := back_real f n 2 c
  obtain ⟨b, hb⟩ := back_real f n 1 c
  obtain ⟨d, hd⟩ := back_real f n 0 c
  refine ⟨a * g (ix2 0 c) + b * g (ix2 1 c) + d * g (ix2 2 c), ?_⟩
  unfold tap
  rw [ha, hb, hd]
  simp only [EReal.coe_mul, EReal.coe_add]

end Cert.ActForm

end
-- ==== Proof.ActTile.lean ====
/- One strip of the gated convolution's gradient: what a grid point computes of it, in the formulas. -/
module

public import proofs.«01_k».proof.Proof.ActStrip
public import proofs.«01_k».proof.Proof.ActForm
public import Idealize.ShloMosaic.Lib.Pointwise

@[expose] public section

set_option maxRecDepth 16384

noncomputable section

namespace Cert.ActTile

open Cert.ActIdeal Cert.ActIdeal.Gen Cert.ActRun Idealize.ShloMosaic Cert.Rows Cert.ActForm

/-- A strip reads tile `p` of the rows, and the rows next to it, at the columns `e`. -/
structure Sees (s : Strips Ideal) (D : FVec Ideal S2048x2816 .f32) (X : FVec Ideal S2048x5632 .bf16) (W : FVec Ideal S3x5632 .f32)
    (p : ℕ) (hp : p < 8) (e : Fin 128 → Fin 2816) : Prop where
  d : ∀ (r : Fin 256) (c : Fin 128), s.d (ix2 r c) = D (ix2 ⟨256 * p + r.val, by omega⟩ (e c))
  dn : ∀ _ : p < 7, ∀ (r : Fin 8) (c : Fin 128), s.dn (ix2 r c) = D (ix2 ⟨256 * p + 256 + r.val, by omega⟩ (e c))
  g : ∀ (r : Fin 256) (c : Fin 128), s.g (ix2 r c) = X (ix2 ⟨256 * p + r.val, by omega⟩ (lo (e c)))
  gp : ∀ _ : 0 < p, ∀ (r : Fin 8) (c : Fin 128), s.gp (ix2 r c) = X (ix2 ⟨256 * p - 8 + r.val, by omega⟩ (lo (e c)))
  gn : ∀ _ : p < 7, ∀ (r : Fin 8) (c : Fin 128), s.gn (ix2 r c) = X (ix2 ⟨256 * p + 256 + r.val, by omega⟩ (lo (e c)))
  u : ∀ (r : Fin 256) (c : Fin 128), s.u (ix2 r c) = X (ix2 ⟨256 * p + r.val, by omega⟩ (hi (e c)))
  up : ∀ _ : 0 < p, ∀ (r : Fin 8) (c : Fin 128), s.up (ix2 r c) = X (ix2 ⟨256 * p - 8 + r.val, by omega⟩ (hi (e c)))
  un : ∀ _ : p < 7, ∀ (r : Fin 8) (c : Fin 128), s.un (ix2 r c) = X (ix2 ⟨256 * p + 256 + r.val, by omega⟩ (hi (e c)))
  wg : ∀ (k : Fin 3) (c : Fin 128), s.wg (ix2 k c) = W (ix2 k (lo (e c)))
  wu : ∀ (k : Fin 3) (c : Fin 128), s.wu (ix2 k c) = W (ix2 k (hi (e c)))

/-- The three pieces one above the other. -/
theorem stack_at (a b : EReal) (x : FVec Ideal S256x128 .bf16) (xp xn : FVec Ideal S8x128 .bf16) (n : Fin 272) (c : Fin 128) :
    k0_pay6 (F := Ideal) a b xp x xn (ix2 n c)
      = if h : n.val < 8 then xp (ix2 ⟨n.val, h⟩ c) * a
        else if h : n.val - 8 < 256 then x (ix2 ⟨n.val - 8, h⟩ c) else xn (ix2 ⟨n.val - 8 - 256, by omega⟩ c) * b := by
  pointwise [k0_pay6]

/-- The two pieces of the cotangent. -/
theorem pair_at (b : EReal) (x : FVec Ideal S256x128 .f32) (xn : FVec Ideal S8x128 .f32) (n : Fin 264) (c : Fin 128) :
    k0_pay12 (F := Ideal) b x xn (ix2 n c) = if h : n.val < 256 then x (ix2 ⟨n.val, h⟩ c) else xn (ix2 ⟨n.val - 256, by omega⟩ c) * b := by
  pointwise [k0_pay12]

section
variable (i : grid0.Coords) (p : ℕ) (hp : p < 8) (hi' : (i 1).val = p)
include hp hi'

/-- The factor of the rows before the tile. -/
theorem keep_p : k0_pay1 (F := Ideal) i = if 0 < p then 1 else 0 := by
  have h1 : FloatOps.ofBits (F := Ideal) .f32 0x3F800000#32 = (1 : EReal) := by
    show Ideal.ofBits .f32 _ = _
    simp [Ideal.ofBits, Ideal.ieee, -EReal.coe_mul, -EReal.coe_neg]
    norm_num
  have h0 : FloatOps.ofBits (F := Ideal) .f32 0x00000000#32 = (0 : EReal) := by
    show Ideal.ofBits .f32 _ = _
    simp [Ideal.ofBits, Ideal.ieee, -EReal.coe_mul, -EReal.coe_neg]
  unfold k0_pay1
  dsimp only
  rw [hi']
  split
  · rw [show Scalar.cmpi CmpIPredicate.eq (BitVec.ofNat 32 p) 0#32 = 0#1 by interval_cases p <;> first | omega | rfl]
    exact h1
  · obtain rfl : p = 0 := by omega
    exact h0

/-- The factor of the rows after the tile. -/
theorem keep_n : k0_pay2 (F := Ideal) i = if p < 7 then 1 else 0 := by
  have h1 : FloatOps.ofBits (F := Ideal) .f32 0x3F800000#32 = (1 : EReal) := by
    show Ideal.ofBits .f32 _ = _
    simp [Ideal.ofBits, Ideal.ieee, -EReal.coe_mul, -EReal.coe_neg]
    norm_num
  have h0 : FloatOps.ofBits (F := Ideal) .f32 0x00000000#32 = (0 : EReal) := by
    show Ideal.ofBits .f32 _ = _
    simp [Ideal.ofBits, Ideal.ieee, -EReal.coe_mul, -EReal.coe_neg]
  unfold k0_pay2
  dsimp only
  rw [hi']
  split
  · rw [show Scalar.cmpi CmpIPredicate.eq (BitVec.ofNat 32 p) 7#32 = 0#1 by interval_cases p <;> first | omega | rfl]
    exact h1
  · obtain rfl : p = 7 := by omega
    exact h0

/-- The tile with the eight rows before and after it. -/
theorem ext_at (x : FVec Ideal S256x128 .bf16) (xp xn : FVec Ideal S8x128 .bf16) (X : FVec Ideal S2048x5632 .bf16) (e : Fin 128 → Fin 5632)
    (hx : ∀ (r : Fin 256) (c : Fin 128), x (ix2 r c) = X (ix2 ⟨256 * p + r.val, by omega⟩ (e c)))
    (hxp : ∀ _ : 0 < p, ∀ (r : Fin 8) (c : Fin 128), xp (ix2 r c) = X (ix2 ⟨256 * p - 8 + r.val, by omega⟩ (e c)))
    (hxn : ∀ _ : p < 7, ∀ (r : Fin 8) (c : Fin 128), xn (ix2 r c) = X (ix2 ⟨256 * p + 256 + r.val, by omega⟩ (e c)))
    (n : Fin 272) (c : Fin 128) :
    k0_pay6 (F := Ideal) (k0_pay1 i) (k0_pay2 i) xp x xn (ix2 n c) = back X (256 * p + n.val) 8 (e c) := by
  rw [keep_p i p hp hi', keep_n i p hp hi', stack_at]
  unfold back
  have hn := n.isLt
  split
  · by_cases q : 0 < p
    · rw [if_pos q, mul_one, hxp q, if_pos (by omega), row_of_lt (h := show 256 * p + n.val - 8 < 2048 by omega)]
      refine congrArg (fun i => X (ix2 i (e c))) (Fin.ext ?_)
      show 256 * p - 8 + n.val = 256 * p + n.val - 8
      omega
    · rw [if_neg q, mul_zero, if_neg (by omega)]
  · split
    · rw [hx, if_pos (by omega), row_of_lt (h := show 256 * p + n.val - 8 < 2048 by omega)]
      refine congrArg (fun i => X (ix2 i (e c))) (Fin.ext ?_)
      show 256 * p + (n.val - 8) = 256 * p + n.val - 8
      omega
    · by_cases q : p < 7
      · rw [if_pos q, mul_one, hxn q, if_pos (by omega), row_of_lt (h := show 256 * p + n.val - 8 < 2048 by omega)]
        refine congrArg (fun i => X (ix2 i (e c))) (Fin.ext ?_)
        show 256 * p + 256 + (n.val - 8 - 256) = 256 * p + n.val - 8
        omega
      · rw [if_neg q, mul_zero, if_pos (by omega), row_of_le (h := show 2048 ≤ 256 * p + n.val - 8 by omega)]

variable (s : Strips Ideal) (D : FVec Ideal S2048x2816 .f32) (X : FVec Ideal S2048x5632 .bf16) (W : FVec Ideal S3x5632 .f32)
  (e : Fin 128 → Fin 2816) (H : Sees s D X W p hp e)
include H

theorem tg_at (n : Fin 272) (c : Fin 128) :
    k0_pay6 (F := Ideal) (k0_pay1 i) (k0_pay2 i) s.gp s.g s.gn (ix2 n c) = back X (256 * p + n.val) 8 (lo (e c)) :=
  ext_at i p hp hi' s.g s.gp s.gn X (fun c => lo (e c)) H.g H.gp H.gn n c

theorem tu_at (n : Fin 272) (c : Fin 128) : s.tu i (ix2 n c) = back X (256 * p + n.val) 8 (hi (e c)) :=
  ext_at i p hp hi' s.u s.up s.un X (fun c => hi (e c)) H.u H.up H.un n c

/-- The rows a tap reads: `b` above row `r` of the tile. -/
theorem tg_back (r : ℕ) (c : Fin 128) (b n : ℕ) (h : n < 272) (hn : n + b = 8 + r) (hb : b ≤ 2 := by omega) :
    k0_pay6 (F := Ideal) (k0_pay1 i) (k0_pay2 i) s.gp s.g s.gn (ix2 ⟨n, h⟩ c) = back X (256 * p + r) b (lo (e c)) := by
  refine (tg_at i p hp hi' s D X W e H ⟨n, h⟩ c).trans (back_shift X _ _ _ _ _ ?_)
  show 256 * p + n + b = 256 * p + r + 8
  omega

theorem tu_back (r : ℕ) (c : Fin 128) (b n : ℕ) (h : n < 272) (hn : n + b = 8 + r) (hb : b ≤ 2 := by omega) :
    s.tu i (ix2 ⟨n, h⟩ c) = back X (256 * p + r) b (hi (e c)) := by
  refine (tu_at i p hp hi' s D X W e H ⟨n, h⟩ c).trans (back_shift X _ _ _ _ _ ?_)
  show 256 * p + n + b = 256 * p + r + 8
  omega

theorem da_at (r : Fin 264) (c : Fin 128) : k0_pay12 (F := Ideal) (k0_pay2 i) s.d s.dn (ix2 r c) = row D (256 * p + r.val) (e c) := by
  rw [keep_n i p hp hi', pair_at]
  unfold row
  split
  · rw [H.d, dif_pos (by omega)]
  · by_cases q : p < 7
    · rw [if_pos q, mul_one, H.dn q, dif_pos (by omega)]
      refine congrArg (fun i => D (ix2 i (e c))) (Fin.ext ?_)
      show 256 * p + 256 + (r.val - 256) = 256 * p + r.val
      omega
    · rw [if_neg q, mul_zero, dif_neg (by omega)]

theorem cg_at (r : Fin 264) (c : Fin 128) :
    k0_pay11 (F := Ideal) (k0_pay8 (k0_pay1 i) (k0_pay2 i) s.gp s.g s.gn) (k0_pay9 (k0_pay1 i) (k0_pay2 i) s.wg s.gp s.g s.gn) (k0_pay10 s.wg) (ix2 r c)
      = tap X W (256 * p + r.val) (lo (e c)) := by
  pointwise [k0_pay11, k0_pay8, k0_pay9, k0_pay10]
  rw [tg_back i p hp hi' s D X W e H r.val c 2 _ (by omega) (by omega), tg_back i p hp hi' s D X W e H r.val c 1 _ (by omega) (by omega),
    tg_back i p hp hi' s D X W e H r.val c 0 _ (by omega) (by omega), H.wg, H.wg, H.wg]
  rfl

theorem dcg_at (r : Fin 264) (c : Fin 128) : s.dcg i (ix2 r c) = gG D X W (256 * p + r.val) (e c) := by
  pointwise [Strips.dcg, k0_pay14, k0_pay13, cg_at, da_at]
  rw [cg_at i p hp hi' s D X W e H r c, da_at i p hp hi' s D X W e H r c, tu_back i p hp hi' s D X W e H r.val c 2 _ (by omega) (by omega),
    tu_back i p hp hi' s D X W e H r.val c 1 _ (by omega) (by omega), tu_back i p hp hi' s D X W e H r.val c 0 _ (by omega) (by omega), H.wu, H.wu, H.wu]
  rfl

theorem dcu_at (r : Fin 264) (c : Fin 128) : s.dcu i (ix2 r c) = gU D X W (256 * p + r.val) (e c) := by
  pointwise [Strips.dcu, k0_pay15, k0_pay13, cg_at, da_at]
  rw [cg_at i p hp hi' s D X W e H r c, da_at i p hp hi' s D X W e H r c]
  rfl

theorem dg_at (r : Fin 256) (c : Fin 128) : s.dg i (ix2 r c)
    = gG D X W (256 * p + r.val + 2) (e c) * W (ix2 0 (lo (e c))) + gG D X W (256 * p + r.val + 1) (e c) * W (ix2 1 (lo (e c)))
      + gG D X W (256 * p + r.val) (e c) * W (ix2 2 (lo (e c))) := by
  pointwise [Strips.dg, k0_pay17, k0_pay16]
  have g : ∀ (b n : ℕ) (h : n < 264) (hn : n = r.val + b),
      k0_pay14 (F := Ideal) (k0_pay2 i) s.wu (s.tu i) (k0_pay8 (k0_pay1 i) (k0_pay2 i) s.gp s.g s.gn)
        (k0_pay9 (k0_pay1 i) (k0_pay2 i) s.wg s.gp s.g s.gn) (k0_pay10 s.wg) s.d s.dn (ix2 ⟨n, h⟩ c) = gG D X W (256 * p + r.val + b) (e c) := by
    intro b n h hn
    subst hn
    rw [Nat.add_assoc]
    exact dcg_at i p hp hi' s D X W e H ⟨r.val + b, h⟩ c
  rw [g 2 _ _ (by omega), g 1 _ _ (by omega), g 0 _ _ (by omega), H.wg, H.wg, H.wg]
  rfl

theorem du_at (r : Fin 256) (c : Fin 128) : s.du i (ix2 r c)
    = gU D X W (256 * p + r.val + 2) (e c) * W (ix2 0 (hi (e c))) + gU D X W (256 * p + r.val + 1) (e c) * W (ix2 1 (hi (e c)))
      + gU D X W (256 * p + r.val) (e c) * W (ix2 2 (hi (e c))) := by
  pointwise [Strips.du, k0_pay18]
  have g : ∀ (b n : ℕ) (h : n < 264) (hn : n = r.val + b), s.dcu i (ix2 ⟨n, h⟩ c) = gU D X W (256 * p + r.val + b) (e c) := by
    intro b n h hn
    subst hn
    rw [Nat.add_assoc]
    exact dcu_at i p hp hi' s D X W e H ⟨r.val + b, h⟩ c
  rw [g 2 _ _ (by omega), g 1 _ _ (by omega), g 0 _ _ (by omega), H.wu, H.wu, H.wu]
  rfl

theorem wrowG_at (old : Fin 3 → FVec Ideal S1x128 .f32) (k : Fin 3) (c : Fin 128) :
    s.wrowG i old k (ix2 0 c) = old k (ix2 0 c) + ∑ r : Fin 256, gG D X W (256 * p + r.val) (e c) * back X (256 * p + r.val) (2 - k) (lo (e c)) := by
  have hk : k = 0 ∨ k = 1 ∨ k = 2 := by omega
  rcases hk with rfl | rfl | rfl
  · show k0_pay19 _ _ _ _ = _
    pointwise [k0_pay19]
    refine congrArg (old 0 (ix2 0 c) + ·) (Finset.sum_congr rfl fun x _ => congrArg₂ (· * ·) ?_ ?_)
    · exact dcg_at i p hp hi' s D X W e H ⟨x.val, by omega⟩ c
    · exact tg_back i p hp hi' s D X W e H x.val c 2 _ (by omega) (by omega)
  · show k0_pay21 _ _ _ _ = _
    pointwise [k0_pay21]
    refine congrArg (old 1 (ix2 0 c) + ·) (Finset.sum_congr rfl fun x _ => congrArg₂ (· * ·) ?_ ?_)
    · exact dcg_at i p hp hi' s D X W e H ⟨x.val, by omega⟩ c
    · exact tg_back i p hp hi' s D X W e H x.val c 1 _ (by omega) (by omega)
  · show k0_pay23 _ _ _ _ = _
    pointwise [k0_pay23]
    refine congrArg (old 2 (ix2 0 c) + ·) (Finset.sum_congr rfl fun x _ => congrArg₂ (· * ·) ?_ ?_)
    · exact dcg_at i p hp hi' s D X W e H ⟨x.val, by omega⟩ c
    · exact tg_back i p hp hi' s D X W e H x.val c 0 _ (by omega) (by omega)

theorem wrowU_at (old : Fin 3 → FVec Ideal S1x128 .f32) (k : Fin 3) (c : Fin 128) :
    s.wrowU i old k (ix2 0 c) = old k (ix2 0 c) + ∑ r : Fin 256, gU D X W (256 * p + r.val) (e c) * back X (256 * p + r.val) (2 - k) (hi (e c)) := by
  have hk : k = 0 ∨ k = 1 ∨ k = 2 := by omega
  rcases hk with rfl | rfl | rfl
  · show k0_pay20 _ _ _ _ = _
    pointwise [k0_pay20]
    refine congrArg (old 0 (ix2 0 c) + ·) (Finset.sum_congr rfl fun x _ => congrArg₂ (· * ·) ?_ ?_)
    · exact dcu_at i p hp hi' s D X W e H ⟨x.val, by omega⟩ c
    · exact tu_back i p hp hi' s D X W e H x.val c 2 _ (by omega) (by omega)
  · show k0_pay22 _ _ _ _ = _
    pointwise [k0_pay22]
    refine congrArg (old 1 (ix2 0 c) + ·) (Finset.sum_congr rfl fun x _ => congrArg₂ (· * ·) ?_ ?_)
    · exact dcu_at i p hp hi' s D X W e H ⟨x.val, by omega⟩ c
    · exact tu_back i p hp hi' s D X W e H x.val c 1 _ (by omega) (by omega)
  · show k0_pay5 _ _ _ = _
    pointwise [k0_pay5, k0_pay24, k0_pay25]
    refine congrArg (old 2 (ix2 0 c) + ·) (Finset.sum_congr rfl fun x _ => congrArg₂ (· * ·) ?_ ?_)
    · exact dcu_at i p hp hi' s D X W e H ⟨x.val, by omega⟩ c
    · exact tu_back i p hp hi' s D X W e H x.val c 0 _ (by omega) (by omega)
end

end Cert.ActTile

end
-- ==== Proof.ActKernel.lean ====
/- The kernel of the gated convolution's gradient: what its four results are. -/
module

public import proofs.«01_k».proof.Proof.ActRun
public import proofs.«01_k».proof.Proof.ActTile
public import Idealize.ShloMosaic.Lib.Pipeline.ValueKit
public import Idealize.ShloMosaic.Lib.Pipeline.ReadBack

@[expose] public section

set_option maxRecDepth 16384

noncomputable section

namespace Cert.ActKernel

open Cert.ActIdeal Cert.ActIdeal.Gen Cert.ActRun Cert.ActTile Idealize.ShloMosaic Idealize.ShloMosaic.TcCoe Idealize.SL.Sem Cert.Rows Cert.ActForm
open Idealize.ShloMosaic.Pipeline (Dat)

variable (m : (ℓ : Loc nD τ sig) → Buf (Elt Ideal) ℓ)

/-- The block each window holds at a grid point. -/
theorem idx : ∀ t : Fin cfg0.N, win0_0.index t = ![t.val % 8, t.val / 8]
    ∧ win0_1.index t = ![min ((t.val % 8 + 1) * 32) 255, t.val / 8]
    ∧ win0_2.index t = ![t.val % 8, t.val / 8]
    ∧ win0_3.index t = ![(t.val % 8) * 16 - 1, t.val / 8]
    ∧ win0_4.index t = ![min ((t.val % 8 + 1) * 16) 127, t.val / 8]
    ∧ win0_5.index t = ![t.val % 8, t.val / 8 + 2]
    ∧ win0_6.index t = ![(t.val % 8) * 16 - 1, t.val / 8 + 2]
    ∧ win0_7.index t = ![min ((t.val % 8 + 1) * 16) 127, t.val / 8 + 2]
    ∧ win0_8.index t = ![0, t.val / 8]
    ∧ win0_9.index t = ![0, t.val / 8 + 2]
    ∧ win0_10.index t = ![t.val % 8, t.val / 8]
    ∧ win0_11.index t = ![t.val % 8, t.val / 8]
    ∧ win0_12.index t = ![0, t.val / 8]
    ∧ win0_13.index t = ![0, t.val / 8] :=
  (by decide +kernel : ∀ t : Fin grid0.N, _)

/-- The grid's second coordinate. -/
theorem coord : ∀ t : Fin cfg0.N, (grid0.coords t 1).val = t.val % 8 :=
  (by decide +kernel : ∀ t : Fin grid0.N, _)

theorem point_lt (t : Fin cfg0.N) : t.val < 16 := t.isLt

/-- The columns of a grid point's block. -/
def col (t : Fin cfg0.N) (q : Fin 1408) : Fin 2816 := ⟨1408 * (t.val / 8) + q.val, by have := point_lt t; omega⟩

/-- The cotangent, the input and the taps of a device. -/
abbrev D0 (c : Dev nD) : FVec Ideal S2048x2816 .f32 := m ((c : Thread nD τ).loc main_arg0)
abbrev X0 (c : Dev nD) : FVec Ideal S2048x5632 .bf16 := m ((c : Thread nD τ).loc main_arg1)
abbrev W0 (c : Dev nD) : FVec Ideal S3x5632 .f32 := m ((c : Thread nD τ).loc main_arg2)

theorem blk0 (c : Dev nD) (t : Fin cfg0.N) (r : Fin 256) (q : Fin 1408) :
    iblk m c 0 t (ix2 r q) = D0 m c (ix2 ⟨256 * (t.val % 8) + r.val, by omega⟩ (col t q)) := by
  blk_point [iblk, V, idx t]
  all_goals exact (show _ = 1408 * (t.val / 8) + q.val by omega)

theorem blk1 (c : Dev nD) (t : Fin cfg0.N) (h : t.val % 8 < 7) (r : Fin 8) (q : Fin 1408) :
    iblk m c 1 t (ix2 r q) = D0 m c (ix2 ⟨256 * (t.val % 8) + 256 + r.val, by omega⟩ (col t q)) := by
  blk_point [iblk, V, idx t]
  all_goals exact (show _ = 1408 * (t.val / 8) + q.val by omega)

theorem blk2 (c : Dev nD) (t : Fin cfg0.N) (r : Fin 256) (q : Fin 1408) :
    iblk m c 2 t (ix2 r q) = X0 m c (ix2 ⟨256 * (t.val % 8) + r.val, by omega⟩ (lo (col t q))) := by
  blk_point [iblk, V, idx t]
  all_goals exact (show _ = 1408 * (t.val / 8) + q.val by omega)

theorem blk3 (c : Dev nD) (t : Fin cfg0.N) (h : 0 < t.val % 8) (r : Fin 16) (q : Fin 1408) :
    iblk m c 3 t (ix2 r q) = X0 m c (ix2 ⟨256 * (t.val % 8) - 16 + r.val, by omega⟩ (lo (col t q))) := by
  blk_point [iblk, V, idx t]
  all_goals exact (show _ = 1408 * (t.val / 8) + q.val by omega)

theorem blk4 (c : Dev nD) (t : Fin cfg0.N) (h : t.val % 8 < 7) (r : Fin 16) (q : Fin 1408) :
    iblk m c 4 t (ix2 r q) = X0 m c (ix2 ⟨256 * (t.val % 8) + 256 + r.val, by omega⟩ (lo (col t q))) := by
  blk_point [iblk, V, idx t]
  all_goals exact (show _ = 1408 * (t.val / 8) + q.val by omega)

theorem blk5 (c : Dev nD) (t : Fin cfg0.N) (r : Fin 256) (q : Fin 1408) :
    iblk m c 5 t (ix2 r q) = X0 m c (ix2 ⟨256 * (t.val % 8) + r.val, by omega⟩ (hi (col t q))) := by
  blk_point [iblk, V, idx t]
  all_goals exact (show _ = 2816 + (1408 * (t.val / 8) + q.val) by omega)

theorem blk6 (c : Dev nD) (t : Fin cfg0.N) (h : 0 < t.val % 8) (r : Fin 16) (q : Fin 1408) :
    iblk m c 6 t (ix2 r q) = X0 m c (ix2 ⟨256 * (t.val % 8) - 16 + r.val, by omega⟩ (hi (col t q))) := by
  blk_point [iblk, V, idx t]
  all_goals exact (show _ = 2816 + (1408 * (t.val / 8) + q.val) by omega)

theorem blk7 (c : Dev nD) (t : Fin cfg0.N) (h : t.val % 8 < 7) (r : Fin 16) (q : Fin 1408) :
    iblk m c 7 t (ix2 r q) = X0 m c (ix2 ⟨256 * (t.val % 8) + 256 + r.val, by omega⟩ (hi (col t q))) := by
  blk_point [iblk, V, idx t]
  all_goals exact (show _ = 2816 + (1408 * (t.val / 8) + q.val) by omega)

theorem blk8 (c : Dev nD) (t : Fin cfg0.N) (k : Fin 3) (q : Fin 1408) :
    iblk m c 8 t (ix2 k q) = W0 m c (ix2 k (lo (col t q))) := by
  blk_point [iblk, V, idx t]
  all_goals exact (show _ = 1408 * (t.val / 8) + q.val by omega)

theorem blk9 (c : Dev nD) (t : Fin cfg0.N) (k : Fin 3) (q : Fin 1408) :
    iblk m c 9 t (ix2 k q) = W0 m c (ix2 k (hi (col t q))) := by
  blk_point [iblk, V, idx t]
  all_goals exact (show _ = 2816 + (1408 * (t.val / 8) + q.val) by omega)

/-- The columns of a strip of a grid point's block. -/
def scol (k : Fin k0_t1_loop.trips) (c : Fin 128) : Fin 1408 :=
  ⟨128 * k.val + c.val, by have h := k.isLt; have h2 : k.val < 11 := by rw [← trips_eq]; exact h
                           omega⟩

/-- Where a strip's element lies in its block. -/
theorem emb_at {R n : ℕ} (off : Fin 2 → ℕ) (o : ℕ) (k : Fin k0_t1_loop.trips) (ho : off = ![o, 128 * k.val])
    (inb : ∀ a, off a + (![n, 128] : Fin 2 → ℕ) a ≤ (⟨2, ![R, 1408]⟩ : Shape).size a) (hR : o + n ≤ R) (r : Fin n) (c : Fin 128) :
    (Rect.unit (s := (⟨2, ![R, 1408]⟩ : Shape)) off ![n, 128] inb).emb (ix2 r c) = ix2 ⟨o + r.val, by omega⟩ (scol k c) := by
  subst ho
  funext x
  apply Fin.ext
  fin_cases x
  · show o + 1 * r.val = o + r.val; omega
  · show 128 * k.val + 1 * c.val = 128 * k.val + c.val; omega

/-- A strip reads its tile of the rows at its columns. -/
theorem sees (c : Dev nD) (t : Fin cfg0.N) (k : Fin k0_t1_loop.trips) :
    Sees ((blocksAt m c t).cut k) (D0 m c) (X0 m c) (W0 m c) (t.val % 8) (by omega) (fun q => col t (scol k q)) where
  d r q := by
    show iblk m c 0 t _ = _
    rw [emb_at _ 0 k (k0_off3_eq k) _ (by omega), blk0]
    simp only [Nat.zero_add]
  dn h r q := by
    show iblk m c 1 t _ = _
    rw [emb_at _ 0 k (k0_off5_eq k) _ (by omega), blk1 m c t h]
    simp only [Nat.zero_add]
  g r q := by
    show iblk m c 2 t _ = _
    rw [emb_at _ 0 k (k0_off3_eq k) _ (by omega), blk2]
    simp only [Nat.zero_add]
  gp h r q := by
    show iblk m c 3 t _ = _
    rw [emb_at _ 8 k (k0_off2_eq k) _ (by omega), blk3 m c t h]
    refine congrArg (fun i => X0 m c (ix2 i _)) (Fin.ext ?_)
    show 256 * (t.val % 8) - 16 + (8 + r.val) = 256 * (t.val % 8) - 8 + r.val
    omega
  gn h r q := by
    show iblk m c 4 t _ = _
    rw [emb_at _ 0 k (k0_off4_eq k) _ (by omega), blk4 m c t h]
    simp only [Nat.zero_add]
  u r q := by
    show iblk m c 5 t _ = _
    rw [emb_at _ 0 k (k0_off3_eq k) _ (by omega), blk5]
    simp only [Nat.zero_add]
  up h r q := by
    show iblk m c 6 t _ = _
    rw [emb_at _ 8 k (k0_off2_eq k) _ (by omega), blk6 m c t h]
    refine congrArg (fun i => X0 m c (ix2 i _)) (Fin.ext ?_)
    show 256 * (t.val % 8) - 16 + (8 + r.val) = 256 * (t.val % 8) - 8 + r.val
    omega
  un h r q := by
    show iblk m c 7 t _ = _
    rw [emb_at _ 0 k (k0_off4_eq k) _ (by omega), blk7 m c t h]
    simp only [Nat.zero_add]
  wg a q := by
    show iblk m c 8 t _ = _
    rw [emb_at _ 0 k (k0_off1_eq k) _ (by omega), blk8]
    simp only [Nat.zero_add]
  wu a q := by
    show iblk m c 9 t _ = _
    rw [emb_at _ 0 k (k0_off1_eq k) _ (by omega), blk9]
    simp only [Nat.zero_add]

theorem scol_strip (q : Fin 1408) : scol (stripOf q) ⟨q.val % 128, Nat.mod_lt _ (by decide)⟩ = q :=
  Fin.ext (by show 128 * (q.val / 128) + q.val % 128 = q.val; omega)

section results
variable (D : FVec Ideal S2048x2816 .f32) (X : FVec Ideal S2048x5632 .bf16) (W : FVec Ideal S3x5632 .f32)

/-- The gate's gradient, back through the taps. -/
def DG : FVec Ideal S2048x2816 .bf16 := fun i =>
  gG D X W ((i 0).val + 2) (i 1) * W (ix2 0 (lo (i 1))) + gG D X W ((i 0).val + 1) (i 1) * W (ix2 1 (lo (i 1)))
    + gG D X W (i 0).val (i 1) * W (ix2 2 (lo (i 1)))

/-- The other factor's gradient, back through the taps. -/
def DU : FVec Ideal S2048x2816 .bf16 := fun i =>
  gU D X W ((i 0).val + 2) (i 1) * W (ix2 0 (hi (i 1))) + gU D X W ((i 0).val + 1) (i 1) * W (ix2 1 (hi (i 1)))
    + gU D X W (i 0).val (i 1) * W (ix2 2 (hi (i 1)))

/-- The gradient of the gate's taps. -/
def DWG : FVec Ideal S3x2816 .f32 := fun i => ∑ r : Fin 2048, gG D X W r.val (i 1) * back X r.val (2 - (i 0).val) (lo (i 1))

/-- The gradient of the other taps. -/
def DWU : FVec Ideal S3x2816 .f32 := fun i => ∑ r : Fin 2048, gU D X W r.val (i 1) * back X r.val (2 - (i 0).val) (hi (i 1))

/-- Tile `p`'s share of the taps' gradient. -/
def partG (p k : ℕ) (c : Fin 2816) : EReal := ∑ r : Fin 256, gG D X W (256 * p + r.val) c * back X (256 * p + r.val) (2 - k) (lo c)
def partU (p k : ℕ) (c : Fin 2816) : EReal := ∑ r : Fin 256, gU D X W (256 * p + r.val) c * back X (256 * p + r.val) (2 - k) (hi c)

theorem sum_partG (k : Fin 3) (c : Fin 2816) : ∑ s : Fin 8, partG D X W s.val k.val c = DWG D X W (ix2 k c) := by
  unfold DWG partG
  rw [Fin.sum_univ_tiles 8 256 rfl]
  refine Finset.sum_congr rfl fun s _ => Finset.sum_congr rfl fun r _ => ?_
  have e : s.val * 256 + r.val = 256 * s.val + r.val := by omega
  simp only [e]
  rfl

theorem sum_partU (k : Fin 3) (c : Fin 2816) : ∑ s : Fin 8, partU D X W s.val k.val c = DWU D X W (ix2 k c) := by
  unfold DWU partU
  rw [Fin.sum_univ_tiles 8 256 rfl]
  refine Finset.sum_congr rfl fun s _ => Finset.sum_congr rfl fun r _ => ?_
  have e : s.val * 256 + r.val = 256 * s.val + r.val := by omega
  simp only [e]
  rfl
end results

theorem outG_at (c : Dev nD) (t : Fin cfg0.N) (r : Fin 256) (q : Fin 1408) :
    outG (grid0.coords t) (blocksAt m c t) (ix2 r q) = DG (D0 m c) (X0 m c) (W0 m c) (ix2 ⟨256 * (t.val % 8) + r.val, by omega⟩ (col t q)) := by
  refine (dg_at (grid0.coords t) (t.val % 8) (by omega) (coord t) _ _ _ _ _ (sees m c t (stripOf q)) r ⟨q.val % 128, Nat.mod_lt _ (by decide)⟩).trans ?_
  simp only [scol_strip]
  rfl

theorem outU_at (c : Dev nD) (t : Fin cfg0.N) (r : Fin 256) (q : Fin 1408) :
    outU (grid0.coords t) (blocksAt m c t) (ix2 r q) = DU (D0 m c) (X0 m c) (W0 m c) (ix2 ⟨256 * (t.val % 8) + r.val, by omega⟩ (col t q)) := by
  refine (du_at (grid0.coords t) (t.val % 8) (by omega) (coord t) _ _ _ _ _ (sees m c t (stripOf q)) r ⟨q.val % 128, Nat.mod_lt _ (by decide)⟩).trans ?_
  simp only [scol_strip]
  rfl

theorem rowOf_at (o : FVec Ideal S3x1408 .f32) (k : Fin 3) (q : Fin 1408) :
    rowOf o (stripOf q) k (ix2 0 ⟨q.val % 128, Nat.mod_lt _ (by decide)⟩) = o (ix2 k q) := by
  unfold rowOf
  refine congrArg (fun i => o (ix2 k i)) (Fin.ext ?_)
  show 128 * (q.val / 128) + q.val % 128 = q.val
  omega

theorem outWG_at (c : Dev nD) (t : Fin cfg0.N) (o : FVec Ideal S3x1408 .f32) (k : Fin 3) (q : Fin 1408) :
    outWG (grid0.coords t) (blocksAt m c t) o (ix2 k q) = o (ix2 k q) + partG (D0 m c) (X0 m c) (W0 m c) (t.val % 8) k.val (col t q) := by
  refine (wrowG_at (grid0.coords t) (t.val % 8) (by omega) (coord t) _ _ _ _ _ (sees m c t (stripOf q)) (rowOf o (stripOf q)) k ⟨q.val % 128, Nat.mod_lt _ (by decide)⟩).trans ?_
  rw [rowOf_at]
  simp only [scol_strip]
  rfl

theorem outWU_at (c : Dev nD) (t : Fin cfg0.N) (o : FVec Ideal S3x1408 .f32) (k : Fin 3) (q : Fin 1408) :
    outWU (grid0.coords t) (blocksAt m c t) o (ix2 k q) = o (ix2 k q) + partU (D0 m c) (X0 m c) (W0 m c) (t.val % 8) k.val (col t q) := by
  refine (wrowU_at (grid0.coords t) (t.val % 8) (by omega) (coord t) _ _ _ _ _ (sees m c t (stripOf q)) (rowOf o (stripOf q)) k ⟨q.val % 128, Nat.mod_lt _ (by decide)⟩).trans ?_
  rw [rowOf_at]
  simp only [scol_strip]
  rfl

/-- The first result. -/
theorem final_dg (c : Dev nD) : (dats m 0 c).arrAt 10 cfg0.N = DG (D0 m c) (X0 m c) (W0 m c) := by
  refine (dats m 0 c).arrAt_eq_of_covers 10 _ (by decide +kernel) fun t hf y => ?_
  blk_simp
  rw [after10]
  have key : outG (grid0.coords t) (blocksAt m c t) y = DG (D0 m c) (X0 m c) (W0 m c) (((cfg0.win 10).blk t).view.emb y) := by
    idx_vars y
    refine (outG_at m c t y0 y1).trans ?_
    congr 1
    blk_ext [idx t]
    all_goals exact (show 1408 * (t.val / 8) + y1.val = _ by omega)
  exact key

/-- The second result. -/
theorem final_du (c : Dev nD) : (dats m 0 c).arrAt 11 cfg0.N = DU (D0 m c) (X0 m c) (W0 m c) := by
  refine (dats m 0 c).arrAt_eq_of_covers 11 _ (by decide +kernel) fun t hf y => ?_
  blk_simp
  rw [after11]
  have key : outU (grid0.coords t) (blocksAt m c t) y = DU (D0 m c) (X0 m c) (W0 m c) (((cfg0.win 11).blk t).view.emb y) := by
    idx_vars y
    refine (outU_at m c t y0 y1).trans ?_
    congr 1
    blk_ext [idx t]
    all_goals exact (show 1408 * (t.val / 8) + y1.val = _ by omega)
  exact key

/-- The taps' gradients start from zero. -/
theorem zero_at (j : S3x1408.Idx) : k0_pay3 (F := Ideal) j = 0 ∧ k0_pay4 (F := Ideal) j = 0 := by
  idx_vars j
  constructor
  · pointwise [k0_pay3]
  · pointwise [k0_pay4]

theorem accA (c : Dev nD) (t : Fin cfg0.N) (h0 : t.val % 8 = 0) (j : S3x1408.Idx) :
    (accAt m c t.val t.isLt).1 j = 0 + partG (D0 m c) (X0 m c) (W0 m c) (t.val % 8) (j 0).val (col t (j 1))
      ∧ (accAt m c t.val t.isLt).2 j = 0 + partU (D0 m c) (X0 m c) (W0 m c) (t.val % 8) (j 0).val (col t (j 1)) := by
  rw [accAt_A m c t h0]
  idx_vars j
  constructor
  · refine (outWG_at m c t _ j0 j1).trans ?_
    rw [(zero_at _).1]
  · refine (outWU_at m c t _ j0 j1).trans ?_
    rw [(zero_at _).2]

theorem accB (c : Dev nD) (t : Fin cfg0.N) (h0 : ¬ t.val % 8 = 0) (j : S3x1408.Idx) :
    (accAt m c t.val t.isLt).1 j = (accAt m c (t.val - 1) (Nat.lt_of_le_of_lt (Nat.sub_le _ _) t.isLt)).1 j + partG (D0 m c) (X0 m c) (W0 m c) (t.val % 8) (j 0).val (col t (j 1))
      ∧ (accAt m c t.val t.isLt).2 j = (accAt m c (t.val - 1) (Nat.lt_of_le_of_lt (Nat.sub_le _ _) t.isLt)).2 j + partU (D0 m c) (X0 m c) (W0 m c) (t.val % 8) (j 0).val (col t (j 1)) := by
  rw [accAt_B m c t h0]
  idx_vars j
  exact ⟨outWG_at m c t _ j0 j1, outWU_at m c t _ j0 j1⟩

/-- The third result. -/
theorem final_dwg (c : Dev nD) : (dats m 0 c).arrAt 12 cfg0.N = DWG (D0 m c) (X0 m c) (W0 m c) := by
  refine (dats m 0 c).arrAt_eq_of_covers 12 _ (by decide +kernel) fun t hf y => ?_
  blk_simp
  rw [after12, Pipeline.eq_sum_fin_of_reset_step_apply_of_flush (fun n h => (accAt m c n h).1) 8 (fun _ => 0)
    (fun t j => partG (D0 m c) (X0 m c) (W0 m c) (t.val % 8) (j 0).val (col t (j 1)))
    (fun t h j => (accA m c t h j).1) (fun t h j => (accB m c t h j).1) t ((flush0_12 t).mp hf) _, zero_add]
  idx_vars y
  have e : (win0_12.blk t).view.emb (ix2 y0 y1) = ix2 y0 (col t y1) := by
    blk_ext [idx t]
    all_goals exact (show _ = 1408 * (t.val / 8) + y1.val by omega)
  rw [e]
  have key : ∑ s : Fin 8, partG (D0 m c) (X0 m c) (W0 m c) ((8 * (t.val / 8) + s.val) % 8) y0.val
      (col ⟨8 * (t.val / 8) + s.val, by have := point_lt t; show _ < 16; omega⟩ y1) = DWG (D0 m c) (X0 m c) (W0 m c) (ix2 y0 (col t y1)) := by
    rw [← sum_partG]
    refine Finset.sum_congr rfl fun s _ => ?_
    have e1 : (8 * (t.val / 8) + s.val) % 8 = s.val := by omega
    have e2 : (8 * (t.val / 8) + s.val) / 8 = t.val / 8 := by omega
    unfold col
    simp only [e1, e2]
  exact key

/-- The fourth result. -/
theorem final_dwu (c : Dev nD) : (dats m 0 c).arrAt 13 cfg0.N = DWU (D0 m c) (X0 m c) (W0 m c) := by
  refine (dats m 0 c).arrAt_eq_of_covers 13 _ (by decide +kernel) fun t hf y => ?_
  blk_simp
  rw [after13, Pipeline.eq_sum_fin_of_reset_step_apply_of_flush (fun n h => (accAt m c n h).2) 8 (fun _ => 0)
    (fun t j => partU (D0 m c) (X0 m c) (W0 m c) (t.val % 8) (j 0).val (col t (j 1)))
    (fun t h j => (accA m c t h j).2) (fun t h j => (accB m c t h j).2) t ((flush0_13 t).mp hf) _, zero_add]
  idx_vars y
  have e : (win0_13.blk t).view.emb (ix2 y0 y1) = ix2 y0 (col t y1) := by
    blk_ext [idx t]
    all_goals exact (show _ = 1408 * (t.val / 8) + y1.val by omega)
  rw [e]
  have key : ∑ s : Fin 8, partU (D0 m c) (X0 m c) (W0 m c) ((8 * (t.val / 8) + s.val) % 8) y0.val
      (col ⟨8 * (t.val / 8) + s.val, by have := point_lt t; show _ < 16; omega⟩ y1) = DWU (D0 m c) (X0 m c) (W0 m c) (ix2 y0 (col t y1)) := by
    rw [← sum_partU]
    refine Finset.sum_congr rfl fun s _ => ?_
    have e1 : (8 * (t.val / 8) + s.val) % 8 = s.val := by omega
    have e2 : (8 * (t.val / 8) + s.val) / 8 = t.val / 8 := by omega
    unfold col
    simp only [e1, e2]
  exact key

/-- The run, with the four results and the arguments kept. -/
theorem run_blocks (ρ : Dev nD → PrngReg) : θ_run defs (onTc (τ := τ) (main (F := Ideal))) (s₀ m ρ) (fun r => ∀ c : Dev nD,
    (r.2.mem ((c : Thread nD τ).loc main_v0_0) = (dats m 0 c).arrAt 10 cfg0.N
      ∧ r.2.mem ((c : Thread nD τ).loc main_v0_1) = (dats m 0 c).arrAt 11 cfg0.N
      ∧ r.2.mem ((c : Thread nD τ).loc main_v0_2) = (dats m 0 c).arrAt 12 cfg0.N
      ∧ r.2.mem ((c : Thread nD τ).loc main_v0_3) = (dats m 0 c).arrAt 13 cfg0.N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun r h c => ⟨⟨(h c).1 10, (h c).1 11, (h c).1 12, (h c).1 13⟩,
    ((h c).1 1).trans (((dats m 0 c).arrAt_in 1 rfl _).trans ((A_eq m c 1).trans (V_main_arg0 m c))),
    ((h c).1 7).trans (((dats m 0 c).arrAt_in 7 rfl _).trans ((A_eq m c 7).trans (V_main_arg1 m c))),
    ((h c).1 9).trans (((dats m 0 c).arrAt_in 9 rfl _).trans ((A_eq m c 9).trans (V_main_arg2 m c)))⟩) (run_main m ρ)

end Cert.ActKernel

end
-- ==== Proof.ActRef.lean ====
/- The reference of the gated convolution's gradient, read at an index. -/
module

public import proofs.«01_k».proof.Proof.Gen.ActRefIdeal.Read
public import proofs.«01_k».proof.Proof.ActForm
public import proofs.«01_k».proof.Proof.ConvRef

@[expose] public section

set_option maxRecDepth 16384

noncomputable section

namespace Cert.ActRef

open Cert.ActRefIdeal Cert.ActRefIdeal.Gen Cert.ActRefIdeal.Read Idealize.ShloMosaic Cert.Rows Cert.ActForm

variable (D : FVec Ideal S2048x2816 .f32) (X : FVec Ideal S2048x5632 .bf16) (W : FVec Ideal S3x5632 .f32)

/-- The convolution. -/
theorem conv_at (r : Fin 2048) (c : Fin 5632) : val_main_v24 (F := Ideal) X W (ix3 0 r c) = tap X W r c := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v3, Cert.ActRefIdeal.Value.fn_main_v3, val_main_v2, val_main_v1, val_main_v0, val_main_cst]
  have g : ∀ (b n : ℕ) (hb : b ≤ 2) (hn : n = 2 - b + r.val),
      (if h : n < 2 then 0 else X (ix2 ⟨n - 2, by omega⟩ c)) = back X r b c := by
    intro b n hb hn
    subst hn
    unfold back
    split
    · rw [if_neg (by omega)]
    · rw [if_pos (by omega), row_of_lt (h := by omega)]
      congr 2
      exact Fin.ext (by show 2 - b + r.val - 2 = r.val - b; omega)
  have g0 : X (ix2 r c) = back X r 0 c := by
    unfold back
    rw [if_pos (by omega), row_of_lt (h := by omega)]
    rfl
  unfold tap
  rw [← g 2 r.val (by omega) (by omega), ← g 1 (1 + r.val) (by omega) (by omega), ← g0]

/-- The cotangent of the convolution's output. -/
def E : (⟨2, ![2048, 5632]⟩ : Shape).Idx → EReal := fun y => val_main_v35 (F := Ideal) D X W (ix3 0 (y 0) (y 1))

theorem E_lo (r : Fin 2048) (c : Fin 2816) : E D X W (ix2 r (lo c))
    = (D (ix2 r c) * tap X W r (hi c)) * Ideal.logistic (tap X W r (lo c))
      + (tap X W r (lo c) * (D (ix2 r c) * tap X W r (hi c))) * (Ideal.logistic (tap X W r (lo c)) * (1 - Ideal.logistic (tap X W r (lo c)))) := by
  unfold E lo
  pointwise [val_main_v35, val_main_v34, val_main_v33, val_main_v32, val_main_v31, val_main_v30, val_main_v29, val_main_call1_v0, val_main_call1_v1,
    val_main_call1_v2, val_main_v27_0, val_main_v27_1, val_main_v27_2, val_main_call0_v0, val_main_call0_v1, val_main_call0_v2, val_main_call0_v3, val_main_call0_v4, val_main_call0_v6, val_main_call0_v7,
    val_main_call0_cst, val_main_call0_cst_0, val_main_call0_cst_1, val_main_cst_1, val_main_cst_2, val_main_v25, val_main_v26, conv_at]
  rw [dif_neg (fun h => h.1), zero_add]
  rfl

theorem E_hi (r : Fin 2048) (c : Fin 2816) : E D X W (ix2 r (hi c)) = side (D (ix2 r c)) (tap X W r (lo c)) := by
  unfold E hi
  pointwise [val_main_v35, val_main_v34, val_main_v33, val_main_v32, val_main_v31, val_main_v30, val_main_v29, val_main_call1_v0, val_main_call1_v1,
    val_main_call1_v2, val_main_v27_0, val_main_v27_1, val_main_v27_2, val_main_call0_v0, val_main_call0_v1, val_main_call0_v2, val_main_call0_v3, val_main_call0_v4, val_main_call0_v6, val_main_call0_v7,
    val_main_call0_cst, val_main_call0_cst_0, val_main_call0_cst_1, val_main_cst_1, val_main_cst_2, val_main_v25, val_main_v26, conv_at]
  unfold side
  exact mul_comm _ _

/-- The input's gradient: each row comes back through the three taps. -/
theorem dx_at (r : Fin 2048) (c : Fin 5632) :
    val_main_v70 (F := Ideal) D X W (ix2 r c)
      = row (E D X W) (r + 2) c * W (ix2 0 c) + row (E D X W) (r + 1) c * W (ix2 1 c) + row (E D X W) r c * W (ix2 2 c) := by
  pointwise [val_main_v70, val_main_v69, val_main_v68, val_main_v66, val_main_v65, val_main_v60, val_main_v59, val_main_v55, val_main_v54, val_main_v49,
    val_main_v48, val_main_v44, val_main_v40, val_main_v39, val_main_v21, val_main_v20, val_main_v19, val_main_v14, val_main_v13, val_main_v12, val_main_v8, val_main_v7, val_main_v6,
    val_main_cst_6, val_main_cst_10, val_main_cst_14]
  have g : ∀ (k n : ℕ) (h : n = r.val + k), ∀ w : EReal,
      (if h : n < 2048 then val_main_v35 (F := Ideal) D X W (ix3 0 ⟨n, h⟩ c) * w else 0) = row (E D X W) (r.val + k) c * w := by
    intro k n h w
    subst h
    unfold row
    split
    · rfl
    · rw [zero_mul]
  have g' : ∀ w : EReal,
      (if h : 1 ≤ 2 + r.val ∧ 2 + r.val - 1 < 2048 then val_main_v35 (F := Ideal) D X W (ix3 0 ⟨2 + r.val - 1, h.2⟩ c) * w else 0)
        = row (E D X W) (r.val + 1) c * w := by
    intro w
    rw [← g 1 (2 + r.val - 1) (by omega) w]
    by_cases q : 2 + r.val - 1 < 2048
    · rw [dif_pos ⟨by omega, q⟩, dif_pos q]
    · rw [dif_neg (fun q' => q q'.2), dif_neg q]
  have h0 : row (E D X W) r.val c = val_main_v35 (F := Ideal) D X W (ix3 0 r c) := row_of_lt (D := E D X W) (c := c) r.isLt
  rw [h0]
  refine (congrArg₂ (· + ·) (congrArg (val_main_v35 (F := Ideal) D X W (ix3 0 r c) * W (ix2 2 c) + ·) (g' _)) (g 2 (2 + r.val) (by omega) _)).trans ?_
  have ac : ∀ a b c : EReal, c + b + a = a + b + c := fun a b c => by ac_rfl
  exact ac _ _ _

/-- The taps' gradient: the cotangent against the input's rows above. -/
theorem dw_at (k : Fin 3) (c : Fin 5632) :
    val_main_v64 (F := Ideal) D X W (ix2 k c) = ∑ r : Fin 2048, E D X W (ix2 r c) * back X r (2 - k) c := by
  pointwise [val_main_v64, val_main_v63, val_main_v62, val_main_v61, val_main_v58, val_main_v57, val_main_v56, val_main_v53, val_main_v52, val_main_v51, val_main_v50,
    val_main_v47, val_main_v46, val_main_v45, val_main_v43, val_main_v42, val_main_v41, val_main_v38, val_main_v37, val_main_v36, val_main_v18, val_main_v11, val_main_v5,
    val_main_v3, Cert.ActRefIdeal.Value.fn_main_v3, val_main_v2, val_main_v1, val_main_v0, val_main_cst, val_main_cst_3, val_main_cst_4, val_main_cst_5,
    val_main_cst_7, val_main_cst_8, val_main_cst_9, val_main_cst_11, val_main_cst_12, val_main_cst_13, Cert.ConvRef.sum_unit2]
  have sh : ∀ (b : ℕ) (hb : b ≤ 2),
      (∑ x : Fin 2048, (if h : b + x.val < 2 then 0 else X (ix2 ⟨b + x.val - 2, by omega⟩ c)) * val_main_v35 (F := Ideal) D X W (ix3 0 x c))
        = ∑ r : Fin 2048, E D X W (ix2 r c) * back X r (2 - b) c := by
    intro b hb
    refine Finset.sum_congr rfl fun x _ => ?_
    unfold back
    by_cases q : b + x.val < 2
    · rw [dif_pos q, if_neg (by omega), mul_zero, zero_mul]
    · rw [dif_neg q, if_pos (by omega), row_of_lt (h := by omega), mul_comm]
      refine congrArg (_ * ·) (congrArg (fun i => X (ix2 i c)) (Fin.ext ?_))
      show b + x.val - 2 = x.val - (2 - b)
      omega
  have hk : k = 0 ∨ k = 1 ∨ k = 2 := by omega
  rcases hk with rfl | rfl | rfl
  · simp
    refine Eq.trans ?_ (sh 0 (by omega))
    refine Eq.trans ?_ (Fin.sum_univ_add (a := 2) (b := 2046) _).symm
    rw [Finset.sum_eq_zero (s := (Finset.univ : Finset (Fin 2))) (fun x _ => by rw [dif_pos (by rw [Fin.val_castAdd]; omega), zero_mul])]
    refine Eq.trans (Finset.sum_congr rfl fun x _ => ?_) (zero_add _).symm
    rw [dif_neg (by rw [Fin.val_natAdd]; omega)]
    refine congrArg (· * _) (congrArg (fun i => X (ix2 i c)) (Fin.ext ?_))
    show x.val = 0 + (Fin.natAdd 2 x).val - 2
    rw [Fin.val_natAdd]
    omega
  · have s1 := sh 1 (by omega)
    simp at s1
    simp
    exact s1
  · simp
    refine Eq.trans ?_ (sh 2 (by omega))
    refine Finset.sum_congr rfl fun x _ => ?_
    rw [dif_neg (by omega)]
    refine congrArg (· * _) (congrArg (fun i => X (ix2 i c)) (Fin.ext ?_))
    show x.val = 2 + x.val - 2
    omega

end Cert.ActRef

end
-- ==== Proof.Act.lean ====
/- The gated convolution's gradient: the kernel and the derivative of the forward lines give the same four results. -/
module

public import proofs.«01_k».proof.Defs
public import proofs.«01_k».proof.Proof.ActKernel
public import proofs.«01_k».proof.Proof.ActRef
public import proofs.«01_k».proof.Proof.Gen.Act
public import Idealize.ShloMosaic.Adequacy
public import Idealize.ShloMosaic.Init

@[expose] public section

set_option maxRecDepth 16384

noncomputable section

namespace Cert.ActProof

open Idealize.ShloMosaic Idealize.SL.Sem Cert.Rows Cert.ActForm Cert.ActRef

/-- The side conditions of the precondition's own operations. -/
instance pre_facts : Pre_act_finite.Facts := by constructor <;> decide

section forms
variable (D : FVec Ideal ActIdeal.S2048x2816 .f32) (X : FVec Ideal ActIdeal.S2048x5632 .bf16) (W : FVec Ideal ActIdeal.S3x5632 .f32)
  (hD : ∃ f : ActIdeal.S2048x2816.Idx → ℝ, D = fun i => ((f i : ℝ) : EReal))
  (hX : ∃ f : ActIdeal.S2048x5632.Idx → ℝ, X = fun i => ((f i : ℝ) : EReal))
  (hW : ∃ f : ActIdeal.S3x5632.Idx → ℝ, W = fun i => ((f i : ℝ) : EReal))

include hD hX hW in
/-- A row of the cotangent behind the gate. -/
theorem row_lo (n : ℕ) (c : Fin 2816) : row (E D X W) n (lo c) = gG D X W n c := by
  unfold gG
  by_cases h : n < 2048
  · rw [row_of_lt (h := h), row_of_lt (h := h), E_lo]
    obtain ⟨d, rfl⟩ := hD
    obtain ⟨x, rfl⟩ := hX
    obtain ⟨w, rfl⟩ := hW
    obtain ⟨a, ha⟩ := tap_real x w n (lo c)
    obtain ⟨b, hb⟩ := tap_real x w n (hi c)
    show _ * tap _ _ n (hi c) * Ideal.logistic (tap _ _ n (lo c)) + tap _ _ n (lo c) * (_ * tap _ _ n (hi c)) * (Ideal.logistic (tap _ _ n (lo c)) * (1 - Ideal.logistic (tap _ _ n (lo c)))) = _
    rw [ha, hb]
    exact gate_sum _ _ _
  · rw [row_of_le (h := by omega), row_of_le (h := by omega), gate_zero]

/-- A row of the cotangent behind the other factor. -/
theorem row_hi (n : ℕ) (c : Fin 2816) : row (E D X W) n (hi c) = gU D X W n c := by
  unfold gU
  by_cases h : n < 2048
  · rw [row_of_lt (h := h), row_of_lt (h := h), E_hi]
  · rw [row_of_le (h := by omega), row_of_le (h := by omega), side_zero]

include hD hX hW in
theorem ref_dg : ActRefIdeal.Read.val_main_v71 (F := Ideal) D X W = ActKernel.DG D X W := by
  funext i
  idx_vars i
  pointwise [ActRefIdeal.Read.val_main_v71]
  refine (dx_at D X W i0 (lo i1)).trans ?_
  rw [row_lo D X W hD hX hW, row_lo D X W hD hX hW, row_lo D X W hD hX hW]
  rfl

theorem ref_du : ActRefIdeal.Read.val_main_v72 (F := Ideal) D X W = ActKernel.DU D X W := by
  funext i
  idx_vars i
  pointwise [ActRefIdeal.Read.val_main_v72]
  refine (dx_at D X W i0 (hi i1)).trans ?_
  rw [row_hi, row_hi, row_hi]
  rfl

include hD hX hW in
theorem ref_dwg : ActRefIdeal.Read.val_main_v73 (F := Ideal) D X W = ActKernel.DWG D X W := by
  funext i
  idx_vars i
  pointwise [ActRefIdeal.Read.val_main_v73]
  refine (dw_at D X W i0 (lo i1)).trans (Finset.sum_congr rfl fun x _ => congrArg (· * _) ?_)
  exact (row_of_lt (D := E D X W) (c := lo i1) x.isLt).symm.trans (row_lo D X W hD hX hW x.val i1)

theorem ref_dwu : ActRefIdeal.Read.val_main_v74 (F := Ideal) D X W = ActKernel.DWU D X W := by
  funext i
  idx_vars i
  pointwise [ActRefIdeal.Read.val_main_v74]
  refine (dw_at D X W i0 (hi i1)).trans (Finset.sum_congr rfl fun x _ => congrArg (· * _) ?_)
  exact (row_of_lt (D := E D X W) (c := hi i1) x.isLt).symm.trans (row_hi D X W x.val i1)
end forms

theorem value : algebraic_ActIdeal_ActRefIdeal_pre_act_finite := by
  intro m g m' g' hp hm
  have hD := fun c => Finite.real_of (φ := .f32) (ActKernel.D0 m c) _ (fun _ => Finite.inf_f32) (hp c).1
  have hX := fun c => Finite.real_of (φ := .f32) (ActKernel.X0 m c) _ (fun _ => Finite.inf_f32) (hp c).2.1
  have hW := fun c => Finite.real_of (φ := .f32) (ActKernel.W0 m c) _ (fun _ => Finite.inf_f32) (hp c).2.2
  refine ⟨fun c => ActKernel.DG (ActKernel.D0 m c) (ActKernel.X0 m c) (ActKernel.W0 m c),
    fun c => ActKernel.DU (ActKernel.D0 m c) (ActKernel.X0 m c) (ActKernel.W0 m c),
    fun c => ActKernel.DWG (ActKernel.D0 m c) (ActKernel.X0 m c) (ActKernel.W0 m c),
    fun c => ActKernel.DWU (ActKernel.D0 m c) (ActKernel.X0 m c) (ActKernel.W0 m c),
    (θ_run ActIdeal.defs _ _).mono (fun r h c => ⟨(h c).1.1.trans (ActKernel.final_dg m c),
      (h c).1.2.1.trans (ActKernel.final_du m c), (h c).1.2.2.1.trans (ActKernel.final_dwg m c),
      (h c).1.2.2.2.trans (ActKernel.final_dwu m c), (h c).2⟩) (ActKernel.run_blocks m g),
    (θ_run ActRefIdeal.defs _ _).mono (fun r h c => ⟨(h c).1.trans ?_, (h c).2.1.trans ?_, (h c).2.2.1.trans ?_, (h c).2.2.2.1.trans ?_,
      (h c).2.2.2.2⟩) (ActRefIdeal.Value.run m' g')⟩
  · refine (ActRefIdeal.Read.val_main_v71_eq (F := Ideal) _ _).trans ?_
    rw [(hm c).1, (hm c).2.1, (hm c).2.2]
    exact ref_dg _ _ _ (hD c) (hX c) (hW c)
  · refine (ActRefIdeal.Read.val_main_v72_eq (F := Ideal) _ _).trans ?_
    rw [(hm c).1, (hm c).2.1, (hm c).2.2]
    exact ref_du _ _ _
  · refine (ActRefIdeal.Read.val_main_v73_eq (F := Ideal) _ _).trans ?_
    rw [(hm c).1, (hm c).2.1, (hm c).2.2]
    exact ref_dwg _ _ _ (hD c) (hX c) (hW c)
  · refine (ActRefIdeal.Read.val_main_v74_eq (F := Ideal) _ _).trans ?_
    rw [(hm c).1, (hm c).2.1, (hm c).2.2]
    exact ref_dwu _ _ _

/-- The kernel's frame, at machine words. -/
theorem frame_kernel : quiescent_Act := by
  intro m ρ _
  refine Eq.mp ?_ (ActRun.frame (F := Bits) m ρ)
  sl_kernel_rfl

/-- The kernel's frame, at the extended reals. -/
theorem frame_ideal : quiescent_ActIdeal := fun m ρ _ => ActRun.frame (F := Ideal) m ρ

/-- The reference ends with its arguments unchanged; it has no semaphore. -/
theorem ref_frame : quiescent_ActRefIdeal := fun m ρ _ =>
  (θ_run ActRefIdeal.defs _ _).mono (fun r h => ⟨fun c => (h c).2.2.2.2, Idealize.ShloMosaic.sem_eq_zero_of_no_sems (by decide) r.2⟩)
    (ActRefIdeal.Value.run m ρ)

end Cert.ActProof

end
-- ==== Proof.AttnMath.lean ====
/- The attention gradient over the real numbers, and the sums over dilated blocks as sums over positions. -/
module

public import proofs.«01_k».proof.Proof.Finite
public import Mathlib.Analysis.SpecialFunctions.Log.Basic

@[expose] public section

noncomputable section

namespace Cert.AttnMath

open Cert.Finite

/-- Position `s` is seen from position `t` by the pattern of dilation `d`. -/
def band (d t s : ℕ) : Prop := s ≤ t ∧ (t - s) % d = 0 ∧ t - s ≤ 128 * d

instance (d t s : ℕ) : Decidable (band d t s) := by unfold band; infer_instance

def bd (d t s : ℕ) : ℝ := if band d t s then 1 else 0

/-- The number of patterns by which `s` is seen from `t`. -/
def cnt (t s : ℕ) : ℝ := bd 1 t s + bd 4 t s + bd 16 t s

/-- Key `c` of block `n` is seen from the block's query `a`. -/
def valid (n a c : ℕ) : Prop := a ≤ c ∧ c ≤ 128 + a ∧ 128 ≤ n * 128 + c

instance (n a c : ℕ) : Decidable (valid n a c) := by unfold valid; infer_instance

section sums

/-- A sum of which some terms are given by distinct positions and the rest vanish. -/
theorem sum_match {m : ℕ} (p : Fin m → Prop) [DecidablePred p] (A : Finset (Fin 2048)) (φ : ∀ c, p c → Fin 2048)
    (hA : ∀ c h, φ c h ∈ A) (inj : ∀ c h c' h', φ c h = φ c' h' → c = c') (surj : ∀ s ∈ A, ∃ c h, φ c h = s)
    (F : Fin 2048 → ℝ) (f : Fin m → EReal) (hf : ∀ c h, f c = ((F (φ c h) : ℝ) : EReal)) (h0 : ∀ c, ¬ p c → f c = 0) :
    ∑ c, f c = ((∑ s ∈ A, F s : ℝ) : EReal) := by
  rw [coe_sum, ← Finset.sum_filter_add_sum_filter_not Finset.univ p]
  rw [Finset.sum_eq_zero (s := Finset.univ.filter fun c => ¬ p c) (fun c hc => h0 c (Finset.mem_filter.mp hc).2), add_zero]
  refine Finset.sum_bij (fun c hc => φ c (Finset.mem_filter.mp hc).2) (fun c hc => hA _ _) (fun c hc c' hc' e => inj _ _ _ _ e) (fun s hs => ?_)
    (fun c hc => hf _ _)
  obtain ⟨c, h, e⟩ := surj s hs
  exact ⟨c, Finset.mem_filter.mpr ⟨Finset.mem_univ _, h⟩, e⟩

/-- The three dilations with their numbers of blocks. -/
def Dil (d nb : ℕ) : Prop := (d = 1 ∧ nb = 16) ∨ (d = 4 ∧ nb = 4) ∨ (d = 16 ∧ nb = 1)

theorem sum_band (d : ℕ) (t : ℕ) (F : Fin 2048 → ℝ) :
    ∑ s ∈ Finset.univ.filter (fun s : Fin 2048 => band d t s), F s = ∑ s : Fin 2048, bd d t s * F s := by
  rw [Finset.sum_filter]
  refine Finset.sum_congr rfl fun s _ => ?_
  unfold bd
  split <;> simp

/-- The sum over a block's keys is the sum over the positions seen. -/
theorem keys {d nb : ℕ} (hd : Dil d nb) (r : Fin d) (n : Fin nb) (a : Fin 128) (t : Fin 2048)
    (ht : t.val = (n.val * 128 + a.val) * d + r.val) (F : Fin 2048 → ℝ) (f : Fin 256 → EReal)
    (hf : ∀ c : Fin 256, valid n a c → ∀ s : Fin 2048, s.val = (n.val * 128 + c.val - 128) * d + r.val → f c = ((F s : ℝ) : EReal))
    (h0 : ∀ c : Fin 256, ¬ valid n a c → f c = 0) :
    ∑ c, f c = ((∑ s : Fin 2048, bd d t s * F s : ℝ) : EReal) := by
  have hr := r.isLt
  have hn := n.isLt
  have ha := a.isLt
  have htl := t.isLt
  have bound : ∀ c : Fin 256, valid n a c → (n.val * 128 + c.val - 128) * d + r.val < 2048 := by
    intro c hc
    have hcl := c.isLt
    unfold valid at hc
    rcases hd with ⟨rfl, rfl⟩ | ⟨rfl, rfl⟩ | ⟨rfl, rfl⟩ <;> omega
  rw [← sum_band]
  refine sum_match (fun c => valid n a c) _ (fun c h => ⟨_, bound c h⟩) ?_ ?_ ?_ F f (fun c h => hf c h _ rfl) h0
  · intro c h
    refine Finset.mem_filter.mpr ⟨Finset.mem_univ _, ?_⟩
    have hcl := c.isLt
    unfold valid at h
    unfold band
    show _ ≤ t.val ∧ _ ∧ _
    rcases hd with ⟨rfl, rfl⟩ | ⟨rfl, rfl⟩ | ⟨rfl, rfl⟩ <;> dsimp only <;> refine ⟨?_, ?_, ?_⟩ <;> omega
  · intro c h c' h' e
    have e' := congrArg Fin.val e
    unfold valid at h h'
    refine Fin.ext ?_
    dsimp only at e'
    rcases hd with ⟨rfl, rfl⟩ | ⟨rfl, rfl⟩ | ⟨rfl, rfl⟩ <;> omega
  · intro s hs
    have hb := (Finset.mem_filter.mp hs).2
    unfold band at hb
    have hsl := s.isLt
    refine ⟨⟨s.val / d - r.val / d + 128 - n.val * 128, ?_⟩, ?_, ?_⟩
    · rcases hd with ⟨rfl, rfl⟩ | ⟨rfl, rfl⟩ | ⟨rfl, rfl⟩ <;> omega
    · unfold valid
      dsimp only
      rcases hd with ⟨rfl, rfl⟩ | ⟨rfl, rfl⟩ | ⟨rfl, rfl⟩ <;> refine ⟨?_, ?_, ?_⟩ <;> omega
    · refine Fin.ext ?_
      dsimp only
      rcases hd with ⟨rfl, rfl⟩ | ⟨rfl, rfl⟩ | ⟨rfl, rfl⟩ <;> omega

/-- The sum over the queries that see a key, of its own block and of the next one. -/
theorem queries {d nb : ℕ} (hd : Dil d nb) (r : Fin d) (n : Fin nb) (b : Fin 128) (s : Fin 2048)
    (hs : s.val = (n.val * 128 + b.val) * d + r.val) (F : Fin 2048 → ℝ) (f g : Fin 128 → EReal) (x : EReal)
    (hf : ∀ a : Fin 128, valid n a (128 + b.val) → ∀ t : Fin 2048, t.val = (n.val * 128 + a.val) * d + r.val → f a = ((F t : ℝ) : EReal))
    (hf0 : ∀ a : Fin 128, ¬ valid n a (128 + b.val) → f a = 0)
    (hg : n.val + 1 < nb → ∀ a : Fin 128, valid (n.val + 1) a b → ∀ t : Fin 2048, t.val = ((n.val + 1) * 128 + a.val) * d + r.val → g a = ((F t : ℝ) : EReal))
    (hg0 : n.val + 1 < nb → ∀ a : Fin 128, ¬ valid (n.val + 1) a b → g a = 0)
    (hx : n.val + 1 < nb → x = ∑ a, g a) (hx0 : ¬ n.val + 1 < nb → x = 0) :
    ∑ a, f a + x = ((∑ t : Fin 2048, bd d t s * F t : ℝ) : EReal) := by
  have hr := r.isLt
  have hn := n.isLt
  have hb := b.isLt
  have hsl := s.isLt
  have split : ∑ t : Fin 2048, bd d t s * F t
      = ∑ t ∈ Finset.univ.filter (fun t : Fin 2048 => band d t s ∧ t.val < ((n.val + 1) * 128) * d), F t
        + ∑ t ∈ Finset.univ.filter (fun t : Fin 2048 => band d t s ∧ ¬ t.val < ((n.val + 1) * 128) * d), F t := by
    rw [Finset.sum_filter, Finset.sum_filter, ← Finset.sum_add_distrib]
    refine Finset.sum_congr rfl fun t _ => ?_
    unfold bd
    by_cases h1 : band d t s <;> by_cases h2 : t.val < ((n.val + 1) * 128) * d <;> simp [h1, h2]
  rw [split, EReal.coe_add]
  congr 1
  · have bound : ∀ a : Fin 128, (n.val * 128 + a.val) * d + r.val < 2048 := by
      intro a
      have := a.isLt
      rcases hd with ⟨rfl, rfl⟩ | ⟨rfl, rfl⟩ | ⟨rfl, rfl⟩ <;> omega
    refine sum_match (fun a => valid n a (128 + b.val)) _ (fun a h => ⟨_, bound a⟩) ?_ ?_ ?_ F f (fun a h => hf a h _ rfl) hf0
    · intro a h
      refine Finset.mem_filter.mpr ⟨Finset.mem_univ _, ?_⟩
      have := a.isLt
      unfold valid at h
      unfold band
      rcases hd with ⟨rfl, rfl⟩ | ⟨rfl, rfl⟩ | ⟨rfl, rfl⟩ <;> dsimp only <;> refine ⟨⟨?_, ?_, ?_⟩, ?_⟩ <;> omega
    · intro c h c' h' e
      have e' := congrArg Fin.val e
      refine Fin.ext ?_
      dsimp only at e'
      rcases hd with ⟨rfl, rfl⟩ | ⟨rfl, rfl⟩ | ⟨rfl, rfl⟩ <;> omega
    · intro t ht
      obtain ⟨h1, h2⟩ := (Finset.mem_filter.mp ht).2
      unfold band at h1
      have htl := t.isLt
      refine ⟨⟨t.val / d - n.val * 128, ?_⟩, ?_, ?_⟩
      · rcases hd with ⟨rfl, rfl⟩ | ⟨rfl, rfl⟩ | ⟨rfl, rfl⟩ <;> omega
      · unfold valid
        dsimp only
        rcases hd with ⟨rfl, rfl⟩ | ⟨rfl, rfl⟩ | ⟨rfl, rfl⟩ <;> refine ⟨?_, ?_, ?_⟩ <;> omega
      · refine Fin.ext ?_
        dsimp only
        rcases hd with ⟨rfl, rfl⟩ | ⟨rfl, rfl⟩ | ⟨rfl, rfl⟩ <;> omega
  · by_cases hnb : n.val + 1 < nb
    · rw [hx hnb]
      have bound : ∀ a : Fin 128, ((n.val + 1) * 128 + a.val) * d + r.val < 2048 := by
        intro a
        have := a.isLt
        rcases hd with ⟨rfl, rfl⟩ | ⟨rfl, rfl⟩ | ⟨rfl, rfl⟩ <;> omega
      refine sum_match (fun a => valid (n.val + 1) a b.val) _ (fun a h => ⟨_, bound a⟩) ?_ ?_ ?_ F g (fun a h => hg hnb a h _ rfl) (hg0 hnb)
      · intro a h
        refine Finset.mem_filter.mpr ⟨Finset.mem_univ _, ?_⟩
        have := a.isLt
        unfold valid at h
        unfold band
        rcases hd with ⟨rfl, rfl⟩ | ⟨rfl, rfl⟩ | ⟨rfl, rfl⟩ <;> dsimp only <;> refine ⟨⟨?_, ?_, ?_⟩, ?_⟩ <;> omega
      · intro c h c' h' e
        have e' := congrArg Fin.val e
        refine Fin.ext ?_
        dsimp only at e'
        rcases hd with ⟨rfl, rfl⟩ | ⟨rfl, rfl⟩ | ⟨rfl, rfl⟩ <;> omega
      · intro t ht
        obtain ⟨h1, h2⟩ := (Finset.mem_filter.mp ht).2
        unfold band at h1
        have htl := t.isLt
        refine ⟨⟨t.val / d - (n.val + 1) * 128, ?_⟩, ?_, ?_⟩
        · rcases hd with ⟨rfl, rfl⟩ | ⟨rfl, rfl⟩ | ⟨rfl, rfl⟩ <;> omega
        · unfold valid
          dsimp only
          rcases hd with ⟨rfl, rfl⟩ | ⟨rfl, rfl⟩ | ⟨rfl, rfl⟩ <;> refine ⟨?_, ?_, ?_⟩ <;> omega
        · refine Fin.ext ?_
          dsimp only
          rcases hd with ⟨rfl, rfl⟩ | ⟨rfl, rfl⟩ | ⟨rfl, rfl⟩ <;> omega
    · rw [hx0 hnb]
      have e : (Finset.univ.filter fun t : Fin 2048 => band d t s ∧ ¬ t.val < ((n.val + 1) * 128) * d) = ∅ := by
        refine Finset.filter_eq_empty_iff.mpr ?_
        intro t _ h
        obtain ⟨_, h2⟩ := h
        have htl := t.isLt
        rcases hd with ⟨rfl, rfl⟩ | ⟨rfl, rfl⟩ | ⟨rfl, rfl⟩ <;> omega
      rw [e]
      simp

end sums

section real

/-- The scaled queries, the keys, the values and the cotangent of one head. -/
structure Head where
  q : Fin 2048 → Fin 64 → ℝ
  k : Fin 2048 → Fin 64 → ℝ
  v : Fin 2048 → Fin 64 → ℝ
  g : Fin 2048 → Fin 64 → ℝ

namespace Head

variable (x : Head)

def sg (t s : Fin 2048) : ℝ := ∑ e, x.q t e * x.k s e
def Z (t : Fin 2048) : ℝ := ∑ s : Fin 2048, cnt t s * Real.exp (x.sg t s)
def pr (t s : Fin 2048) : ℝ := cnt t s * Real.exp (x.sg t s) / x.Z t
def dp (t s : Fin 2048) : ℝ := ∑ e, x.g t e * x.v s e
def o (t : Fin 2048) (e : Fin 64) : ℝ := ∑ s, x.pr t s * x.v s e
def dl (t : Fin 2048) : ℝ := ∑ e, x.g t e * x.o t e
def ds (t s : Fin 2048) : ℝ := x.pr t s * (x.dp t s - x.dl t)
def DQ (t : Fin 2048) (e : Fin 64) : ℝ := (∑ s, x.ds t s * x.k s e) * (1 / 8)
def DK (s : Fin 2048) (e : Fin 64) : ℝ := ∑ t, x.ds t s * x.q t e
def DV (s : Fin 2048) (e : Fin 64) : ℝ := ∑ t, x.pr t s * x.g t e

theorem bd_nonneg (d t s : ℕ) : 0 ≤ bd d t s := by unfold bd; split <;> norm_num

theorem cnt_nonneg (t s : ℕ) : 0 ≤ cnt t s := by
  unfold cnt
  have := bd_nonneg 1 t s
  have := bd_nonneg 4 t s
  have := bd_nonneg 16 t s
  linarith

theorem bd_self (d t : ℕ) : bd d t t = 1 := by
  unfold bd band
  simp

theorem cnt_self (t : ℕ) : cnt t t = 3 := by
  unfold cnt
  rw [bd_self, bd_self, bd_self]
  norm_num

theorem Z_pos (t : Fin 2048) : 0 < x.Z t := by
  unfold Z
  refine lt_of_lt_of_le (b := cnt t t * Real.exp (x.sg t t)) (by rw [cnt_self]; positivity) ?_
  exact Finset.single_le_sum (f := fun s : Fin 2048 => cnt t s * Real.exp (x.sg t s))
    (fun s _ => mul_nonneg (cnt_nonneg _ _) (Real.exp_pos _).le) (Finset.mem_univ t)

end Head

/-- The forward pass's three maxima and the joint one. -/
structure Max where
  M : ℕ → Fin 2048 → ℝ
  A : Fin 2048 → ℝ

namespace Max

variable (x : Head) (y : Max)

/-- A branch's weights, numerator and denominator, and its share. -/
def ew (d : ℕ) (t s : Fin 2048) : ℝ := Real.exp (x.sg t s - y.M d t)
def w (d : ℕ) (t : Fin 2048) : ℝ := Real.exp (y.M d t - y.A t)
def nu (d : ℕ) (t : Fin 2048) (e : Fin 64) : ℝ := ∑ s : Fin 2048, bd d t s * (y.ew x d t s * x.v s e)
def de (d : ℕ) (t : Fin 2048) : ℝ := ∑ s : Fin 2048, bd d t s * y.ew x d t s
def nt (t : Fin 2048) (e : Fin 64) : ℝ := y.w 1 t * y.nu x 1 t e + y.w 4 t * y.nu x 4 t e + y.w 16 t * y.nu x 16 t e
def dt (t : Fin 2048) : ℝ := y.w 1 t * y.de x 1 t + y.w 4 t * y.de x 4 t + y.w 16 t * y.de x 16 t
def gn (t : Fin 2048) (e : Fin 64) : ℝ := x.g t e / y.dt x t
def gd (t : Fin 2048) : ℝ := -∑ e, x.g t e * (1 / (y.dt x t * y.dt x t)) * y.nt x t e
/-- The cotangent of a branch's share. -/
def dw (d : ℕ) (t : Fin 2048) : ℝ := y.gd x t * y.de x d t + ∑ e, y.gn x t e * y.nu x d t e
/-- The cotangent of a branch's score, apart from its maximum's. -/
def dsr (d : ℕ) (t s : Fin 2048) : ℝ := (∑ e, y.w d t * y.gn x t e * x.v s e + y.w d t * y.gd x t) * y.ew x d t s

theorem w_ew (d : ℕ) (t s : Fin 2048) : y.w d t * y.ew x d t s = Real.exp (-y.A t) * Real.exp (x.sg t s) := by
  unfold w ew
  rw [← Real.exp_add, ← Real.exp_add]
  congr 1
  ring

theorem w_nu (d : ℕ) (t : Fin 2048) (e : Fin 64) :
    y.w d t * y.nu x d t e = Real.exp (-y.A t) * ∑ s : Fin 2048, bd d t s * Real.exp (x.sg t s) * x.v s e := by
  unfold nu
  rw [Finset.mul_sum, Finset.mul_sum]
  refine Finset.sum_congr rfl fun s _ => ?_
  linear_combination bd d t s * x.v s e * y.w_ew x d t s

theorem w_de (d : ℕ) (t : Fin 2048) :
    y.w d t * y.de x d t = Real.exp (-y.A t) * ∑ s : Fin 2048, bd d t s * Real.exp (x.sg t s) := by
  unfold de
  rw [Finset.mul_sum, Finset.mul_sum]
  refine Finset.sum_congr rfl fun s _ => ?_
  linear_combination bd d t s * y.w_ew x d t s

theorem nt_eq (t : Fin 2048) (e : Fin 64) : y.nt x t e = Real.exp (-y.A t) * (x.Z t * x.o t e) := by
  unfold nt
  have hz := (x.Z_pos t).ne'
  rw [w_nu, w_nu, w_nu, ← mul_add, ← mul_add, ← Finset.sum_add_distrib, ← Finset.sum_add_distrib]
  congr 1
  unfold Head.o Head.pr
  rw [Finset.mul_sum]
  refine Finset.sum_congr rfl fun s _ => ?_
  unfold cnt
  field_simp

theorem dt_eq (t : Fin 2048) : y.dt x t = Real.exp (-y.A t) * x.Z t := by
  unfold dt
  rw [w_de, w_de, w_de, ← mul_add, ← mul_add, ← Finset.sum_add_distrib, ← Finset.sum_add_distrib]
  congr 1
  unfold Head.Z
  refine Finset.sum_congr rfl fun s _ => ?_
  unfold cnt
  ring

theorem dt_pos (t : Fin 2048) : 0 < y.dt x t := by
  rw [dt_eq]
  exact mul_pos (Real.exp_pos _) (x.Z_pos t)

theorem gd_eq (t : Fin 2048) : y.gd x t = -(x.dl t / y.dt x t) := by
  unfold gd Head.dl
  congr 1
  rw [Finset.sum_div]
  refine Finset.sum_congr rfl fun e _ => ?_
  have h1 := (y.dt_pos x t).ne'
  have h2 : y.nt x t e = y.dt x t * x.o t e := by rw [nt_eq, dt_eq]; ring
  rw [h2]
  field_simp

theorem dsr_eq (d : ℕ) (t s : Fin 2048) : y.dsr x d t s = Real.exp (x.sg t s) / x.Z t * (x.dp t s - x.dl t) := by
  unfold dsr
  have h1 := (y.dt_pos x t).ne'
  have hz := (x.Z_pos t).ne'
  have hs : ∑ e, y.w d t * y.gn x t e * x.v s e = y.w d t * (x.dp t s / y.dt x t) := by
    unfold Head.dp gn
    rw [Finset.sum_div, Finset.mul_sum]
    refine Finset.sum_congr rfl fun e _ => ?_
    ring
  rw [hs, gd_eq]
  have he := y.w_ew x d t s
  calc (y.w d t * (x.dp t s / y.dt x t) + y.w d t * -(x.dl t / y.dt x t)) * y.ew x d t s
      = y.w d t * y.ew x d t s * ((x.dp t s - x.dl t) / y.dt x t) := by ring
    _ = _ := by
        rw [he, dt_eq]
        have := (Real.exp_pos (-y.A t)).ne'
        field_simp

/-- A share's cotangent is the sum of its scores' cotangents. -/
theorem dw_w (d : ℕ) (t : Fin 2048) : y.dw x d t * y.w d t = ∑ s : Fin 2048, bd d t s * y.dsr x d t s := by
  unfold dw dsr
  have h1 : ∀ s : Fin 2048, bd d t s * ((∑ e, y.w d t * y.gn x t e * x.v s e + y.w d t * y.gd x t) * y.ew x d t s)
      = ∑ e, y.w d t * y.gn x t e * (bd d t s * (y.ew x d t s * x.v s e)) + y.w d t * y.gd x t * (bd d t s * y.ew x d t s) := by
    intro s
    rw [add_mul, mul_add, Finset.sum_mul, Finset.mul_sum]
    congr 1
    · refine Finset.sum_congr rfl fun e _ => ?_
      ring
    · ring
  rw [Finset.sum_congr rfl fun s _ => h1 s, Finset.sum_add_distrib, Finset.sum_comm, ← Finset.mul_sum]
  have h2 : ∑ e : Fin 64, ∑ s : Fin 2048, y.w d t * y.gn x t e * (bd d t s * (y.ew x d t s * x.v s e))
      = y.w d t * ∑ e, y.gn x t e * y.nu x d t e := by
    rw [Finset.mul_sum]
    refine Finset.sum_congr rfl fun e _ => ?_
    rw [← Finset.mul_sum]
    unfold nu
    ring
  rw [h2]
  unfold de
  ring

theorem dw_total (t : Fin 2048) : y.dw x 1 t * y.w 1 t + y.dw x 4 t * y.w 4 t + y.dw x 16 t * y.w 16 t = 0 := by
  have h1 := (y.dt_pos x t).ne'
  have e1 : ∑ e, y.gn x t e * (y.w 1 t * y.nu x 1 t e) + ∑ e, y.gn x t e * (y.w 4 t * y.nu x 4 t e) + ∑ e, y.gn x t e * (y.w 16 t * y.nu x 16 t e)
      = ∑ e, y.gn x t e * y.nt x t e := by
    rw [← Finset.sum_add_distrib, ← Finset.sum_add_distrib]
    refine Finset.sum_congr rfl fun e _ => ?_
    unfold nt
    ring
  have e2 : ∀ d, (∑ e, y.gn x t e * y.nu x d t e) * y.w d t = ∑ e, y.gn x t e * (y.w d t * y.nu x d t e) := by
    intro d
    rw [Finset.sum_mul]
    refine Finset.sum_congr rfl fun e _ => ?_
    ring
  have e3 : ∑ e, y.gn x t e * y.nt x t e = x.dl t := by
    unfold Head.dl gn
    refine Finset.sum_congr rfl fun e _ => ?_
    rw [nt_eq, dt_eq]
    have := (Real.exp_pos (-y.A t)).ne'
    have := (x.Z_pos t).ne'
    field_simp
  have e4 : y.gd x t * (y.w 1 t * y.de x 1 t + y.w 4 t * y.de x 4 t + y.w 16 t * y.de x 16 t) = -x.dl t := by
    show y.gd x t * y.dt x t = _
    rw [gd_eq]
    field_simp
  unfold dw
  rw [add_mul, add_mul, add_mul, e2, e2, e2]
  linear_combination e1 + e3 + e4

theorem dq_total (t : Fin 2048) (e : Fin 64) :
    (∑ s : Fin 2048, bd 16 t s * (y.dsr x 16 t s * x.k s e) + ∑ s : Fin 2048, bd 4 t s * (y.dsr x 4 t s * x.k s e)
      + ∑ s : Fin 2048, bd 1 t s * (y.dsr x 1 t s * x.k s e)) * (1 / 8) = x.DQ t e := by
  unfold Head.DQ
  congr 1
  rw [← Finset.sum_add_distrib, ← Finset.sum_add_distrib]
  refine Finset.sum_congr rfl fun s _ => ?_
  rw [dsr_eq, dsr_eq, dsr_eq]
  unfold Head.ds Head.pr cnt
  ring

theorem dk_total (s : Fin 2048) (e : Fin 64) :
    ∑ t : Fin 2048, bd 16 t s * (y.dsr x 16 t s * x.q t e) + ∑ t : Fin 2048, bd 4 t s * (y.dsr x 4 t s * x.q t e)
      + ∑ t : Fin 2048, bd 1 t s * (y.dsr x 1 t s * x.q t e) = x.DK s e := by
  unfold Head.DK
  rw [← Finset.sum_add_distrib, ← Finset.sum_add_distrib]
  refine Finset.sum_congr rfl fun t _ => ?_
  rw [dsr_eq, dsr_eq, dsr_eq]
  unfold Head.ds Head.pr cnt
  ring

theorem dv_total (s : Fin 2048) (e : Fin 64) :
    ∑ t : Fin 2048, bd 16 t s * (y.w 16 t * y.gn x t e * y.ew x 16 t s) + ∑ t : Fin 2048, bd 4 t s * (y.w 4 t * y.gn x t e * y.ew x 4 t s)
      + ∑ t : Fin 2048, bd 1 t s * (y.w 1 t * y.gn x t e * y.ew x 1 t s) = x.DV s e := by
  unfold Head.DV
  rw [← Finset.sum_add_distrib, ← Finset.sum_add_distrib]
  refine Finset.sum_congr rfl fun t _ => ?_
  have h : ∀ d, y.w d t * y.gn x t e * y.ew x d t s = Real.exp (x.sg t s) / x.Z t * x.g t e := by
    intro d
    have he := y.w_ew x d t s
    calc y.w d t * y.gn x t e * y.ew x d t s = y.w d t * y.ew x d t s * y.gn x t e := by ring
      _ = _ := by
        rw [he]
        unfold gn
        rw [dt_eq]
        have := (Real.exp_pos (-y.A t)).ne'
        have := (x.Z_pos t).ne'
        field_simp
  rw [h, h, h]
  unfold Head.pr cnt
  ring

end Max

end real

end Cert.AttnMath

end
-- ==== Proof.AttnBranch.lean ====
/- One pattern of the dilated attention, forward and backward, from its blocks of extended reals to sums over positions. -/
module

public import proofs.«01_k».proof.Proof.AttnMath
public import Idealize.ShloMosaic.PureOps.Ideal

@[expose] public section

noncomputable section

namespace Cert.AttnMath

open Idealize.ShloMosaic Cert.Finite

/-- Query `a` of block `n` on strand `r` is position `t`. -/
def At (d r n a : ℕ) (t : Fin 2048) : Prop := t.val = (n * 128 + a) * d + r
/-- Key `c` before and in block `n` on strand `r` is position `s`. -/
def Key (d r n c : ℕ) (s : Fin 2048) : Prop := s.val = (n * 128 + c - 128) * d + r

/-- The arrays of one pattern for one head: queries, keys and values in blocks, scores, maxima, weights, and where the maximum is met. -/
structure Branch (x : Head) (d nb : ℕ) where
  dil : Dil d nb
  qb : Fin d → Fin nb → Fin 128 → Fin 64 → EReal
  kb : Fin d → Fin nb → Fin 256 → Fin 64 → EReal
  vb : Fin d → Fin nb → Fin 256 → Fin 64 → EReal
  S : Fin d → Fin nb → Fin 128 → Fin 256 → EReal
  m : Fin d → Fin nb → Fin 128 → EReal
  E : Fin d → Fin nb → Fin 128 → Fin 256 → EReal
  P : Fin d → Fin nb → Fin 128 → Fin 256 → EReal
  hq : ∀ (r : Fin d) (n : Fin nb) (a : Fin 128) (e : Fin 64) (t : Fin 2048), At d r n a t → qb r n a e = ((x.q t e : ℝ) : EReal)
  hk : ∀ (r : Fin d) (n : Fin nb) (c : Fin 256) (e : Fin 64) (s : Fin 2048), 128 ≤ n.val * 128 + c.val → Key d r n c s → kb r n c e = ((x.k s e : ℝ) : EReal)
  hv : ∀ (r : Fin d) (n : Fin nb) (c : Fin 256) (e : Fin 64) (s : Fin 2048), 128 ≤ n.val * 128 + c.val → Key d r n c s → vb r n c e = ((x.v s e : ℝ) : EReal)
  hS : ∀ r n a c, S r n a c = if valid n a c then ∑ e, qb r n a e * kb r n c e else ⊥
  hm : ∀ r n a, m r n a = Finset.univ.fold max ⊥ (S r n a)
  hE : ∀ r n a c, E r n a c = if S r n a c = m r n a then 1 else 0
  hP : ∀ r n a c, P r n a c = Ideal.exp (S r n a c - m r n a)

/-- The largest of values below infinity, one of them real, is real. -/
theorem max_real {n : ℕ} (f : Fin n → EReal) (hf : ∀ c, f c ≠ ⊤) (c : Fin n) (hc : f c ≠ ⊥) :
    ∃ M : ℝ, Finset.univ.fold max ⊥ f = (M : EReal) := by
  have h1 : f c ≤ Finset.univ.fold max ⊥ f := (Finset.le_fold_max _).mpr (Or.inr ⟨c, Finset.mem_univ _, le_rfl⟩)
  have h2 : Finset.univ.fold max ⊥ f < ⊤ := (Finset.fold_max_lt _).mpr ⟨bot_lt_top, fun i _ => lt_top_iff_ne_top.mpr (hf i)⟩
  have h3 : Finset.univ.fold max ⊥ f ≠ ⊥ := fun h => hc (le_bot_iff.mp (h ▸ h1))
  exact ⟨(Finset.univ.fold max ⊥ f).toReal, (EReal.coe_toReal h2.ne h3).symm⟩

/-- Nothing is spread where the maximum is met. -/
theorem spread_zero (E : Fin 256 → EReal) (hE : ∀ c, E c = 0 ∨ E c = 1) (c : Fin 256) :
    Ideal.div 0 (∑ c, E c) * E c = 0 := by
  rcases hE c with h | h
  · rw [h, mul_zero]
  · have hE' : ∀ c, ∃ v : ℝ, 0 ≤ v ∧ E c = (v : EReal) := fun c => by
      rcases hE c with h | h
      · exact ⟨0, le_rfl, by rw [h]; rfl⟩
      · exact ⟨1, zero_le_one, by rw [h]; rfl⟩
    choose v hv he using hE'
    have hs : ∑ c, E c = ((∑ c, v c : ℝ) : EReal) := by
      rw [coe_sum]
      exact Finset.sum_congr rfl fun c _ => he c
    have h1 : v c = 1 := by
      have := he c
      rw [h] at this
      exact (EReal.coe_eq_one.mp this.symm)
    have hpos : (∑ c, v c) ≠ 0 := by
      have := Finset.single_le_sum (f := v) (fun c _ => hv c) (Finset.mem_univ c)
      rw [h1] at this
      exact (lt_of_lt_of_le one_pos this).ne'
    rw [hs, Ideal.div_coe hpos, zero_mul, zero_mul]

namespace Branch

variable {x : Head} {d nb : ℕ} (B : Branch x d nb) (y : Max)
variable (r : Fin d) (n : Fin nb) (a : Fin 128) (t : Fin 2048) (ht : At d r n a t)

include B in
/-- A seen key is a position. -/
theorem key_exists (c : Fin 256) (h : 128 ≤ n.val * 128 + c.val) : ∃ s, Key d r n c s := by
  have hr := r.isLt
  have hn := n.isLt
  have hc := c.isLt
  refine ⟨⟨(n.val * 128 + c.val - 128) * d + r.val, ?_⟩, rfl⟩
  rcases B.dil with ⟨rfl, rfl⟩ | ⟨rfl, rfl⟩ | ⟨rfl, rfl⟩ <;> omega

include B in
theorem query_exists : ∃ t, At d r n a t := by
  have hr := r.isLt
  have hn := n.isLt
  have hc := a.isLt
  refine ⟨⟨(n.val * 128 + a.val) * d + r.val, ?_⟩, rfl⟩
  rcases B.dil with ⟨rfl, rfl⟩ | ⟨rfl, rfl⟩ | ⟨rfl, rfl⟩ <;> omega

include ht in
theorem S_valid (c : Fin 256) (h : valid n a c) (s : Fin 2048) (hs : Key d r n c s) : B.S r n a c = ((x.sg t s : ℝ) : EReal) := by
  rw [B.hS, if_pos h]
  unfold Head.sg
  rw [coe_sum]
  refine Finset.sum_congr rfl fun e _ => ?_
  rw [B.hq r n a e t ht, B.hk r n c e s h.2.2 hs, ← EReal.coe_mul]

theorem S_invalid (c : Fin 256) (h : ¬ valid n a c) : B.S r n a c = ⊥ := by
  rw [B.hS, if_neg h]

theorem m_real : ∃ M : ℝ, B.m r n a = (M : EReal) := by
  obtain ⟨t, ht⟩ := B.query_exists r n a
  rw [B.hm]
  have ha := a.isLt
  refine max_real _ (fun c => ?_) ⟨128 + a.val, by omega⟩ ?_
  · by_cases h : valid n a c
    · obtain ⟨s, hs⟩ := B.key_exists r n c h.2.2
      rw [B.S_valid r n a t ht c h s hs]
      exact EReal.coe_ne_top _
    · rw [B.S_invalid r n a c h]
      exact bot_ne_top
  · have h : valid n a (128 + a.val) := ⟨by omega, by omega, by omega⟩
    obtain ⟨s, hs⟩ := B.key_exists r n ⟨128 + a.val, by omega⟩ h.2.2
    rw [B.S_valid r n a t ht ⟨128 + a.val, by omega⟩ h s hs]
    exact EReal.coe_ne_bot _

section given
variable (hM : B.m r n a = ((y.M d t : ℝ) : EReal))

include ht hM in
theorem P_valid (c : Fin 256) (h : valid n a c) (s : Fin 2048) (hs : Key d r n c s) : B.P r n a c = ((y.ew x d t s : ℝ) : EReal) := by
  rw [B.hP, B.S_valid r n a t ht c h s hs, hM, ← EReal.coe_sub]
  rfl

include hM in
theorem P_invalid (c : Fin 256) (h : ¬ valid n a c) : B.P r n a c = 0 := by
  rw [B.hP, B.S_invalid r n a c h, hM, EReal.bot_sub]
  rfl

include ht hM in
theorem num (e : Fin 64) : ∑ c, B.P r n a c * B.vb r n c e = ((y.nu x d t e : ℝ) : EReal) := by
  unfold Max.nu
  refine keys B.dil r n a t ht _ _ (fun c h s hs => ?_) (fun c h => ?_)
  · rw [B.P_valid y r n a t ht hM c h s hs, B.hv r n c e s h.2.2 hs, ← EReal.coe_mul]
  · rw [B.P_invalid y r n a t hM c h, zero_mul]

include ht hM in
theorem den : ∑ c, B.P r n a c = ((y.de x d t : ℝ) : EReal) := by
  unfold Max.de
  exact keys B.dil r n a t ht _ _ (fun c h s hs => B.P_valid y r n a t ht hM c h s hs) (fun c h => B.P_invalid y r n a t hM c h)

section back
variable (G : Fin 64 → EReal) (g : EReal) (hG : ∀ e, G e = ((y.w d t * y.gn x t e : ℝ) : EReal)) (hg : g = ((y.w d t * y.gd x t : ℝ) : EReal))

/-- The cotangent of a score, apart from the maximum's. -/
def ca (c : Fin 256) : EReal := (∑ e, G e * B.vb r n c e + g) * B.P r n a c

include ht hM hG hg in
theorem ca_valid (c : Fin 256) (h : valid n a c) (s : Fin 2048) (hs : Key d r n c s) :
    B.ca r n a G g c = ((y.dsr x d t s : ℝ) : EReal) := by
  unfold ca Max.dsr
  rw [B.P_valid y r n a t ht hM c h s hs, EReal.coe_mul, EReal.coe_add, hg, coe_sum]
  congr 2
  refine Finset.sum_congr rfl fun e _ => ?_
  rw [hG, B.hv r n c e s h.2.2 hs]
  exact (EReal.coe_mul _ _).symm

include hM in
theorem ca_invalid (c : Fin 256) (h : ¬ valid n a c) : B.ca r n a G g c = 0 := by
  unfold ca
  rw [B.P_invalid y r n a t hM c h, mul_zero]

include ht hM hG hg in
theorem ca_neg : ∑ c, -B.ca r n a G g c = ((-(y.dw x d t * y.w d t) : ℝ) : EReal) := by
  rw [y.dw_w x d t, ← Finset.sum_neg_distrib]
  rw [Finset.sum_congr rfl fun s _ => (mul_neg (bd d t s.val) (y.dsr x d t s)).symm]
  refine keys B.dil r n a t ht _ _ (fun c h s hs => ?_) (fun c h => ?_)
  · rw [B.ca_valid y r n a t ht hM G g hG hg c h s hs, ← EReal.coe_neg]
  · rw [B.ca_invalid y r n a t hM G g c h, neg_zero]

/-- The cotangent of a score. -/
def cs (X : EReal) (c : Fin 256) : EReal :=
  if valid n a c then B.ca r n a G g c + Ideal.div X (∑ c, B.E r n a c) * B.E r n a c else 0

include ht hM hG hg in
/-- What reaches the maximum cancels. -/
theorem max_zero : ((y.dw x d t * y.w d t : ℝ) : EReal) + 0 + ∑ c, -B.ca r n a G g c = 0 := by
  rw [B.ca_neg y r n a t ht hM G g hG hg, add_zero, ← EReal.coe_add, add_neg_cancel, EReal.coe_zero]

include ht hM hG hg in
theorem cs_valid (c : Fin 256) (h : valid n a c) (s : Fin 2048) (hs : Key d r n c s) :
    B.cs r n a G g 0 c = ((y.dsr x d t s : ℝ) : EReal) := by
  unfold cs
  rw [if_pos h, spread_zero _ (fun c => by rw [B.hE]; split; exacts [Or.inr rfl, Or.inl rfl]), add_zero]
  exact B.ca_valid y r n a t ht hM G g hG hg c h s hs

theorem cs_invalid (c : Fin 256) (h : ¬ valid n a c) (X : EReal) : B.cs r n a G g X c = 0 := if_neg h

include ht hM hG hg in
theorem dq (e : Fin 64) : ∑ c, B.cs r n a G g 0 c * B.kb r n c e = ((∑ s : Fin 2048, bd d t s * (y.dsr x d t s * x.k s e) : ℝ) : EReal) := by
  refine keys B.dil r n a t ht _ _ (fun c h s hs => ?_) (fun c h => ?_)
  · rw [B.cs_valid y r n a t ht hM G g hG hg c h s hs, B.hk r n c e s h.2.2 hs, ← EReal.coe_mul]
  · rw [B.cs_invalid r n a G g c h, zero_mul]

end back

end given

section whole
variable (hM : ∀ (r : Fin d) (n : Fin nb) (a : Fin 128) (t : Fin 2048), At d r n a t → B.m r n a = ((y.M d t : ℝ) : EReal))
variable (G : Fin d → Fin nb → Fin 128 → Fin 64 → EReal) (g : Fin d → Fin nb → Fin 128 → EReal)
  (hG : ∀ (r : Fin d) (n : Fin nb) (a : Fin 128) (t : Fin 2048) (e : Fin 64), At d r n a t → G r n a e = ((y.w d t * y.gn x t e : ℝ) : EReal))
  (hg : ∀ (r : Fin d) (n : Fin nb) (a : Fin 128) (t : Fin 2048), At d r n a t → g r n a = ((y.w d t * y.gd x t : ℝ) : EReal))
variable (b : Fin 128) (s : Fin 2048) (hs : At d r n b s) (e : Fin 64) (z : EReal)

/-- In the own block the key stands behind the 128 before; in the next block it is one of these. -/
theorem own (b : Fin 128) (hs : At d r n b s) : Key d r n (128 + b.val) s := by
  unfold At at hs
  unfold Key
  rw [hs]
  congr 2
  omega

theorem next (b : Fin 128) (hs : At d r n b s) : Key d r (n.val + 1) b.val s := by
  unfold At at hs
  unfold Key
  rw [hs]
  congr 2
  omega

include hM hG hg hs in
theorem dk (hz : ∀ h : n.val + 1 < nb, z = ∑ a, B.cs r ⟨n.val + 1, h⟩ a (G r ⟨n.val + 1, h⟩ a) (g r ⟨n.val + 1, h⟩ a) 0 ⟨b.val, by omega⟩ * B.qb r ⟨n.val + 1, h⟩ a e)
    (hz0 : ¬ n.val + 1 < nb → z = 0) :
    ∑ a, B.cs r n a (G r n a) (g r n a) 0 ⟨128 + b.val, by omega⟩ * B.qb r n a e + z
      = ((∑ t : Fin 2048, bd d t s * (y.dsr x d t s * x.q t e) : ℝ) : EReal) := by
  refine queries B.dil r n b s hs (fun t => y.dsr x d t s * x.q t e) _
    (fun a => if h : n.val + 1 < nb then B.cs r ⟨n.val + 1, h⟩ a (G r ⟨n.val + 1, h⟩ a) (g r ⟨n.val + 1, h⟩ a) 0 ⟨b.val, by omega⟩ * B.qb r ⟨n.val + 1, h⟩ a e else 0) z
    (fun a h t ht => ?_) (fun a h => ?_) (fun hn a h t ht => ?_) (fun hn a h => ?_) (fun hn => ?_) hz0
  · rw [B.cs_valid y r n a t ht (hM r n a t ht) _ _ (fun e => hG r n a t e ht) (hg r n a t ht) ⟨128 + b.val, by omega⟩ h s (own r n s b hs), B.hq r n a e t ht, ← EReal.coe_mul]
  · rw [B.cs_invalid r n a _ _ ⟨128 + b.val, by omega⟩ h, zero_mul]
  · rw [dif_pos hn, B.cs_valid y r ⟨n.val + 1, hn⟩ a t ht (hM r ⟨n.val + 1, hn⟩ a t ht) _ _ (fun e => hG r ⟨n.val + 1, hn⟩ a t e ht) (hg r ⟨n.val + 1, hn⟩ a t ht) ⟨b.val, by omega⟩ h s (next r n s b hs),
      B.hq r ⟨n.val + 1, hn⟩ a e t ht, ← EReal.coe_mul]
  · rw [dif_pos hn, B.cs_invalid r ⟨n.val + 1, hn⟩ a _ _ ⟨b.val, by omega⟩ h, zero_mul]
  · rw [hz hn]
    exact Finset.sum_congr rfl fun a _ => by rw [dif_pos hn]

include hM hG hs in
theorem dv (hz : ∀ h : n.val + 1 < nb, z = ∑ a, G r ⟨n.val + 1, h⟩ a e * B.P r ⟨n.val + 1, h⟩ a ⟨b.val, by omega⟩)
    (hz0 : ¬ n.val + 1 < nb → z = 0) :
    ∑ a, G r n a e * B.P r n a ⟨128 + b.val, by omega⟩ + z
      = ((∑ t : Fin 2048, bd d t s * (y.w d t * y.gn x t e * y.ew x d t s) : ℝ) : EReal) := by
  refine queries B.dil r n b s hs (fun t => y.w d t * y.gn x t e * y.ew x d t s) _
    (fun a => if h : n.val + 1 < nb then G r ⟨n.val + 1, h⟩ a e * B.P r ⟨n.val + 1, h⟩ a ⟨b.val, by omega⟩ else 0) z
    (fun a h t ht => ?_) (fun a h => ?_) (fun hn a h t ht => ?_) (fun hn a h => ?_) (fun hn => ?_) hz0
  · rw [B.P_valid y r n a t ht (hM r n a t ht) ⟨128 + b.val, by omega⟩ h s (own r n s b hs), hG r n a t e ht, ← EReal.coe_mul]
  · obtain ⟨t, ht⟩ := B.query_exists r n a
    rw [B.P_invalid y r n a t (hM r n a t ht) ⟨128 + b.val, by omega⟩ h, mul_zero]
  · rw [dif_pos hn, B.P_valid y r ⟨n.val + 1, hn⟩ a t ht (hM r ⟨n.val + 1, hn⟩ a t ht) ⟨b.val, by omega⟩ h s (next r n s b hs), hG r ⟨n.val + 1, hn⟩ a t e ht, ← EReal.coe_mul]
  · obtain ⟨t, ht⟩ := B.query_exists r ⟨n.val + 1, hn⟩ a
    rw [dif_pos hn, B.P_invalid y r ⟨n.val + 1, hn⟩ a t (hM r ⟨n.val + 1, hn⟩ a t ht) ⟨b.val, by omega⟩ h, mul_zero]
  · rw [hz hn]
    exact Finset.sum_congr rfl fun a _ => by rw [dif_pos hn]

end whole

end Branch

end Cert.AttnMath

end
-- ==== Proof.AttnRead.lean ====
/- Sums and maxima over the last axis of six, sums over axes of one row, and the mask's word. -/
module

public import proofs.«01_k».proof.Proof.AttnMath
public import Idealize.ShloMosaic.Lib.Pointwise
public import Idealize.ShloMosaic.Lib.WordArith
public import Idealize.ShloMosaic.PureOps.Ideal

@[expose] public section

noncomputable section

namespace Cert.AttnRead

open Idealize.ShloMosaic Idealize.ShloMosaic.WordArith Cert.AttnMath

section last
variable {n0 n1 n2 n3 n4 n5 : ℕ} (h : (⟨6, ![n0, n1, n2, n3, n4, n5]⟩ : Shape).ReducesTo [5] ⟨5, ![n0, n1, n2, n3, n4]⟩)
variable (j0 : Fin n0) (j1 : Fin n1) (j2 : Fin n2) (j3 : Fin n3) (j4 : Fin n4)

theorem fiber_last (i : (⟨6, ![n0, n1, n2, n3, n4, n5]⟩ : Shape).Idx) :
    h.drop i = ix5 j0 j1 j2 j3 j4 ↔ ∃ k : Fin n5, ix6 j0 j1 j2 j3 j4 k = i := by
  constructor
  · intro e
    refine ⟨i 5, ?_⟩
    funext a
    apply Fin.ext
    match a with
    | ⟨0, _⟩ => exact (congrArg Fin.val (congrFun e ⟨0, (by norm_num : 0 < 5)⟩)).symm
    | ⟨1, _⟩ => exact (congrArg Fin.val (congrFun e ⟨1, (by norm_num : 1 < 5)⟩)).symm
    | ⟨2, _⟩ => exact (congrArg Fin.val (congrFun e ⟨2, (by norm_num : 2 < 5)⟩)).symm
    | ⟨3, _⟩ => exact (congrArg Fin.val (congrFun e ⟨3, (by norm_num : 3 < 5)⟩)).symm
    | ⟨4, _⟩ => exact (congrArg Fin.val (congrFun e ⟨4, (by norm_num : 4 < 5)⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem sum_last (v : (⟨6, ![n0, n1, n2, n3, n4, n5]⟩ : Shape).Idx → EReal) (z : EReal) :
    Ideal.hostReduceAdd h v z (ix5 j0 j1 j2 j3 j4) = z + ∑ k, v (ix6 j0 j1 j2 j3 j4 k) :=
  congrArg (z + ·) (Finset.sum_filter_eq_sum_of_fiber _ (fun k : Fin n5 => ix6 j0 j1 j2 j3 j4 k) (fun _ _ e => congrFun e 5) (fiber_last h j0 j1 j2 j3 j4) v)

end last

/-- A sum over the one index that is dropped to `j`. -/
theorem sum_one {s u : Shape} {axes : List (Fin s.rank)} (h : s.ReducesTo axes u) (v : s.Idx → EReal) (z : EReal) (j : u.Idx) (k : s.Idx)
    (hk : ∀ i, h.drop i = j ↔ k = i) : Ideal.hostReduceAdd h v z j = z + v k := by
  show z + ∑ i ∈ Finset.univ.filter (fun i => h.drop i = j), v i = _
  rw [Finset.filter_congr (fun i _ => hk i), Finset.filter_eq, if_pos (Finset.mem_univ k), Finset.sum_singleton]

theorem sum_r4_03 (h : (⟨4, ![1, 8, 2048, 1]⟩ : Shape).ReducesTo [0, 3] ⟨2, ![8, 2048]⟩) (v : (⟨4, ![1, 8, 2048, 1]⟩ : Shape).Idx → EReal) (z : EReal)
    (j1 : Fin 8) (j2 : Fin 2048) : Ideal.hostReduceAdd h v z (ix2 j1 j2) = z + v (ix4 0 j1 j2 0) := by
  refine sum_one h v z _ _ fun i => ⟨fun e => ?_, ?_⟩
  · funext a
    apply Fin.ext
    match a with
    | ⟨0, _⟩ => exact (Nat.lt_one_iff.mp (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (Nat.lt_one_iff.mp (i 3).isLt).symm
  · rintro rfl
    funext b
    apply Fin.ext
    match b with
    | ⟨0, _⟩ => rfl
    | ⟨1, _⟩ => rfl

theorem sum_r6_05 (h : (⟨6, ![1, 8, 4, 4, 128, 1]⟩ : Shape).ReducesTo [0, 5] ⟨4, ![8, 4, 4, 128]⟩) (v : (⟨6, ![1, 8, 4, 4, 128, 1]⟩ : Shape).Idx → EReal) (z : EReal)
    (j1 : Fin 8) (j2 j3 : Fin 4) (j4 : Fin 128) : Ideal.hostReduceAdd h v z (ix4 j1 j2 j3 j4) = z + v (ix6 0 j1 j2 j3 j4 0) := by
  refine sum_one h v z _ _ fun i => ⟨fun e => ?_, ?_⟩
  · funext a
    apply Fin.ext
    match a with
    | ⟨0, _⟩ => exact (Nat.lt_one_iff.mp (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => exact (Nat.lt_one_iff.mp (i 5).isLt).symm
  · rintro rfl
    funext b
    apply Fin.ext
    match b with
    | ⟨0, _⟩ => rfl
    | ⟨1, _⟩ => rfl
    | ⟨2, _⟩ => rfl
    | ⟨3, _⟩ => rfl

theorem sum_r6_025 (h : (⟨6, ![1, 8, 1, 16, 128, 1]⟩ : Shape).ReducesTo [0, 2, 5] ⟨3, ![8, 16, 128]⟩) (v : (⟨6, ![1, 8, 1, 16, 128, 1]⟩ : Shape).Idx → EReal)
    (z : EReal) (j1 : Fin 8) (j3 : Fin 16) (j4 : Fin 128) : Ideal.hostReduceAdd h v z (ix3 j1 j3 j4) = z + v (ix6 0 j1 0 j3 j4 0) := by
  refine sum_one h v z _ _ fun i => ⟨fun e => ?_, ?_⟩
  · funext a
    apply Fin.ext
    match a with
    | ⟨0, _⟩ => exact (Nat.lt_one_iff.mp (i 0).isLt).symm
    | ⟨1, _⟩ => exact (congrArg Fin.val (congrFun e ⟨0, by decide⟩)).symm
    | ⟨2, _⟩ => exact (Nat.lt_one_iff.mp (i 2).isLt).symm
    | ⟨3, _⟩ => exact (congrArg Fin.val (congrFun e ⟨1, by decide⟩)).symm
    | ⟨4, _⟩ => exact (congrArg Fin.val (congrFun e ⟨2, by decide⟩)).symm
    | ⟨5, _⟩ => exact (Nat.lt_one_iff.mp (i 5).isLt).symm
  · rintro rfl
    funext b
    apply Fin.ext
    match b with
    | ⟨0, _⟩ => rfl
    | ⟨1, _⟩ => rfl
    | ⟨2, _⟩ => rfl

theorem sum_r6_035 (h : (⟨6, ![1, 8, 16, 1, 128, 1]⟩ : Shape).ReducesTo [0, 3, 5] ⟨3, ![8, 16, 128]⟩) (v : (⟨6, ![1, 8, 16, 1, 128, 1]⟩ : Shape).Idx → EReal)
    (z : EReal) (j1 : Fin 8) (j2 : Fin 16) (j4 : Fin 128) : Ideal.hostReduceAdd h v z (ix3 j1 j2 j4) = z + v (ix6 0 j1 j2 0 j4 0) := by
  refine sum_one h v z _ _ fun i => ⟨fun e => ?_, ?_⟩
  · funext a
    apply Fin.ext
    match a with
    | ⟨0, _⟩ => exact (Nat.lt_one_iff.mp (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (Nat.lt_one_iff.mp (i 3).isLt).symm
    | ⟨4, _⟩ => exact (congrArg Fin.val (congrFun e ⟨2, by decide⟩)).symm
    | ⟨5, _⟩ => exact (Nat.lt_one_iff.mp (i 5).isLt).symm
  · rintro rfl
    funext b
    apply Fin.ext
    match b with
    | ⟨0, _⟩ => rfl
    | ⟨1, _⟩ => rfl
    | ⟨2, _⟩ => rfl

/-! ### Words standing for small integers -/

/-- The word of an integer. -/
def W (i : ℤ) : BitVec 32 := BitVec.ofInt 32 i

theorem W_nat (n : ℕ) : BitVec.ofNat 32 n = W n := (BitVec.ofInt_natCast 32 n).symm
theorem W_add (i j : ℤ) : IntOp.addi (W i) (W j) = W (i + j) := (BitVec.ofInt_add i j).symm
theorem W_mul (i j : ℤ) : IntOp.muli (W i) (W j) = W (i * j) := (BitVec.ofInt_mul i j).symm
theorem W_sub (i j : ℤ) : IntOp.subi (W i) (W j) = W (i - j) := by
  show BitVec.ofInt 32 i - BitVec.ofInt 32 j = BitVec.ofInt 32 (i - j)
  rw [sub_eq_add_neg i j, BitVec.ofInt_add, BitVec.ofInt_neg, BitVec.sub_eq_add_neg]

theorem W_toInt (i : ℤ) (h : -2147483648 ≤ i) (h' : i < 2147483648) : (W i).toInt = i := by
  unfold W
  rw [BitVec.toInt_ofInt]
  exact Int.bmod_eq_of_le (by norm_num; omega) (by norm_num; omega)

theorem W_sge (i j : ℤ) (hi : -2147483648 ≤ i) (hi' : i < 2147483648) (hj : -2147483648 ≤ j) (hj' : j < 2147483648) :
    IntOp.cmpi .sge (W i) (W j) = if j ≤ i then 1#1 else 0#1 := by
  show BitVec.ofBool (BitVec.sle (W j) (W i)) = _
  rw [BitVec.sle_eq_decide, W_toInt i hi hi', W_toInt j hj hj']
  by_cases h : j ≤ i <;> simp [h]

theorem W_sle (i j : ℤ) (hi : -2147483648 ≤ i) (hi' : i < 2147483648) (hj : -2147483648 ≤ j) (hj' : j < 2147483648) :
    IntOp.cmpi .sle (W i) (W j) = if i ≤ j then 1#1 else 0#1 := by
  show BitVec.ofBool (BitVec.sle (W i) (W j)) = _
  rw [BitVec.sle_eq_decide, W_toInt i hi hi', W_toInt j hj hj']
  by_cases h : i ≤ j <;> simp [h]

theorem and_word (p q : Prop) [Decidable p] [Decidable q] :
    IntOp.andi (if p then 1#1 else 0#1) (if q then 1#1 else 0#1) = if p ∧ q then 1#1 else 0#1 := by
  by_cases h : p <;> by_cases h' : q <;> simp [h, h'] <;> rfl

/-- The mask of a query and a key of its block and the one before. -/
theorem mask_word (n a c : ℕ) (hn : n < 16) (ha : a < 128) (hc : c < 256) :
    IntOp.andi (IntOp.andi
        (IntOp.cmpi .sge (IntOp.subi (IntOp.addi (IntOp.muli (BitVec.ofNat 32 n) 128#32) (BitVec.ofNat 32 a))
          (IntOp.addi (IntOp.subi (IntOp.muli (BitVec.ofNat 32 n) 128#32) 128#32) (BitVec.ofNat 32 c))) 0#32)
        (IntOp.cmpi .sle (IntOp.subi (IntOp.addi (IntOp.muli (BitVec.ofNat 32 n) 128#32) (BitVec.ofNat 32 a))
          (IntOp.addi (IntOp.subi (IntOp.muli (BitVec.ofNat 32 n) 128#32) 128#32) (BitVec.ofNat 32 c))) 128#32))
        (IntOp.cmpi .sge (IntOp.addi (IntOp.subi (IntOp.muli (BitVec.ofNat 32 n) 128#32) 128#32) (BitVec.ofNat 32 c)) 0#32)
      = if valid n a c then 1#1 else 0#1 := by
  simp only [W_nat, W_add, W_mul, W_sub]
  rw [W_sge _ _ (by omega) (by omega) (by omega) (by omega), W_sle _ _ (by omega) (by omega) (by omega) (by omega),
    W_sge _ _ (by omega) (by omega) (by omega) (by omega)]
  rw [and_word, and_word]
  refine if_congr ⟨fun h => ?_, fun h => ?_⟩ rfl rfl
  · obtain ⟨⟨h1, h2⟩, h3⟩ := h
    exact ⟨by omega, by omega, by omega⟩
  · obtain ⟨h1, h2, h3⟩ := h
    exact ⟨⟨by omega, by omega⟩, by omega⟩

theorem select_mask (p : Prop) [Decidable p] (u v : EReal) :
    Scalar.select (if p then 1#1 else 0#1) u v = if p then u else v := by
  unfold Scalar.select
  by_cases h : p <;> simp [h]

theorem equal_word (u v : EReal) : FloatOps.uitofp (F := Ideal) .f32 (FloatOps.cmpf (F := Ideal) (φ := .f32) .oeq u v) = (if u = v then 1 else 0 : EReal) := by
  show (((Ideal.cmp .oeq u v).toNat : ℝ) : EReal) = _
  by_cases h : u = v <;> simp [Ideal.cmp, h]

theorem low : Ideal.ofBits .f32 4286578688#32 = (⊥ : EReal) := by
  simp [Ideal.ofBits, Ideal.ieee]

/-- The host's maximum over the last axis, from minus infinity. -/
theorem max_last {n0 n1 n2 n3 n4 n5 : ℕ} (h : (⟨6, ![n0, n1, n2, n3, n4, n5]⟩ : Shape).ReducesTo [5] ⟨5, ![n0, n1, n2, n3, n4]⟩)
    (j0 : Fin n0) (j1 : Fin n1) (j2 : Fin n2) (j3 : Fin n3) (j4 : Fin n4) {u : Shape} (hu : 0 < u.numel)
    (v : FVec Ideal ⟨6, ![n0, n1, n2, n3, n4, n5]⟩ .f32) :
    Host.reduce FloatOps.maximumf v (constant u .f32 0xFF800000#32) h hu (ix5 j0 j1 j2 j3 j4)
      = Finset.univ.fold max (⊥ : EReal) (fun k => v (ix6 j0 j1 j2 j3 j4 k)) := by
  rw [Host.reduce_eq_fold, Finset.fold_filter_eq_fold_of_fiber _ _ (fun k : Fin n5 => ix6 j0 j1 j2 j3 j4 k) (fun _ _ e => congrFun e 5) (fiber_last h j0 j1 j2 j3 j4)]
  rw [← low]
  rfl

end Cert.AttnRead

end
-- ==== Proof.AttnInputs.lean ====
/- The reference's queries, keys and values as real arrays. -/
module

public import proofs.«01_k».proof.Proof.Gen.AttnRefIdeal.Run
public import proofs.«01_k».proof.Proof.AttnMath
public import Idealize.ShloMosaic.Lib.Pointwise

@[expose] public section

noncomputable section

namespace Cert.AttnRef

open Cert.AttnRefIdeal Cert.AttnRefIdeal.Gen Cert.AttnRefIdeal.Value Idealize.ShloMosaic Cert.AttnMath

/-- The heads' inputs are real. -/
structure Inputs (V : Valuation τ sig (Elt Ideal)) (x : Fin 8 → Head) : Prop where
  q : ∀ (h : Fin 8) (t : Fin 2048) (e : Fin 64), res_main_v8 V (ix4 0 h t e) = (((x h).q t e : ℝ) : EReal)
  k : ∀ (h : Fin 8) (t : Fin 2048) (e : Fin 64), res_main_v9 V (ix4 0 h t e) = (((x h).k t e : ℝ) : EReal)
  v : ∀ (h : Fin 8) (t : Fin 2048) (e : Fin 64), res_main_v10 V (ix4 0 h t e) = (((x h).v t e : ℝ) : EReal)
  g : ∀ (h : Fin 8) (t : Fin 2048) (e : Fin 64), res_main_v286 V (ix4 0 h t e) = (((x h).g t e : ℝ) : EReal)

end Cert.AttnRef

end
-- ==== Proof.AttnRef1.lean ====
/- The reference's pattern of dilation 1, forward, as a branch. -/
module

public import proofs.«01_k».proof.Proof.Gen.AttnRefIdeal.Run
public import proofs.«01_k».proof.Proof.AttnBranch
public import proofs.«01_k».proof.Proof.AttnRead
public import proofs.«01_k».proof.Proof.AttnInputs
public import Idealize.ShloMosaic.Lib.Pipeline.ValueKit
public import Idealize.ShloMosaic.Lib.Pointwise
public import Idealize.ShloMosaic.PureOps.Ideal

@[expose] public section

set_option maxRecDepth 16384

noncomputable section

namespace Cert.AttnRef1

open Cert.AttnRefIdeal Cert.AttnRefIdeal.Gen Cert.AttnRefIdeal.Value Idealize.ShloMosaic Cert.AttnMath Cert.AttnRead Cert.AttnRef

variable (V : Valuation τ sig (Elt Ideal))
variable (h : Fin 8) (r : Fin 1) (n : Fin 16) (a : Fin 128) (c : Fin 256) (e : Fin 64) (t : Fin 2048)

/-- Position `t`'s strand, block and row. -/
def strand (_t : Fin 2048) : Fin 1 := 0
def block (t : Fin 2048) : Fin 16 := ⟨t.val / 128, by omega⟩
def row (t : Fin 2048) : Fin 128 := ⟨t.val % 128, by omega⟩
theorem at_self : At 1 (strand t) (block t) (row t) t := by
  unfold At strand block row
  dsimp only
  omega

theorem pos_lt : (n.val * 128 + a.val) * 1 + r.val < 2048 := by omega

theorem q_at : res_main_v17 V (ix6 0 h r n a e) = res_main_v8 V (ix4 0 h ⟨(n.val * 128 + a.val) * 1 + r.val, pos_lt r n a⟩ e) := by
  obtain rfl : r = 0 := Fin.ext (by omega)
  pointwise [res_main_v17]
theorem k_at : res_main_v18 V (ix6 0 h r n a e) = res_main_v9 V (ix4 0 h ⟨(n.val * 128 + a.val) * 1 + r.val, pos_lt r n a⟩ e) := by
  obtain rfl : r = 0 := Fin.ext (by omega)
  pointwise [res_main_v18]
theorem v_at : res_main_v19 V (ix6 0 h r n a e) = res_main_v10 V (ix4 0 h ⟨(n.val * 128 + a.val) * 1 + r.val, pos_lt r n a⟩ e) := by
  obtain rfl : r = 0 := Fin.ext (by omega)
  pointwise [res_main_v19]
theorem kk_at : res_main_v25 V (ix6 0 h r n c e) = if hc : c.val < 128 then if hn : n.val < 1 then (0 : EReal) else res_main_v18 V (ix6 0 h r ⟨n.val - 1, by omega⟩ ⟨c.val, by omega⟩ e)
    else res_main_v18 V (ix6 0 h r n ⟨c.val - 128, by omega⟩ e) := by
  obtain rfl : r = 0 := Fin.ext (by omega)
  pointwise [res_main_v25]
theorem vv_at : res_main_v31 V (ix6 0 h r n c e) = if hc : c.val < 128 then if hn : n.val < 1 then (0 : EReal) else res_main_v19 V (ix6 0 h r ⟨n.val - 1, by omega⟩ ⟨c.val, by omega⟩ e)
    else res_main_v19 V (ix6 0 h r n ⟨c.val - 128, by omega⟩ e) := by
  obtain rfl : r = 0 := Fin.ext (by omega)
  pointwise [res_main_v31]
theorem mask_at : res_main_v61_1 V (ix6 0 h r n a c) = if valid n a c then 1#1 else 0#1 := by
  refine Eq.trans ?_ (mask_word n.val a.val c.val (by omega) a.isLt c.isLt)
  obtain rfl : r = 0 := Fin.ext (by omega)
  pointwise [res_main_v61_1, res_main_v36, res_main_v48, res_main_v51]

/-- The blocks of queries, keys and values, the scores, the maxima, where they are met, and the weights. -/
def qb : EReal := res_main_v17 V (ix6 0 h r n a e)
def kb : EReal := res_main_v25 V (ix6 0 h r n c e)
def vb : EReal := res_main_v31 V (ix6 0 h r n c e)
def S : EReal := res_main_v61_0 V (ix6 0 h r n a c)
def m : EReal := res_main_v62 V (ix5 0 h r n a)
def E : EReal := res_main_v66 V (ix6 0 h r n a c)
def P : EReal := res_main_v71 V (ix6 0 h r n a c)
def num : EReal := res_main_v78 V (ix4 0 h t e)
def den : EReal := res_main_v80 V (ix3 0 h t)
def mf : EReal := res_main_v82 V (ix3 0 h t)

theorem S_at : S V h r n a c = if valid n a c then ∑ e, qb V h r n a e * kb V h r n c e else ⊥ := by
  have key : S V h r n a c = Scalar.select (res_main_v61_1 V (ix6 0 h r n a c)) (∑ e, qb V h r n a e * kb V h r n c e) (Ideal.ofBits .f32 4286578688#32) := by
    unfold S qb kb
    obtain rfl : r = 0 := Fin.ext (by omega)
    pointwise [res_main_v61_0]
    rfl
  rw [key, mask_at, select_mask, low]
theorem m_at : m V h r n a = Finset.univ.fold max ⊥ (S V h r n a) :=
  max_last reducesTo_S1x8x1x16x128x256_S1x8x1x16x128_d5 0 h r n a h_S_ (res_main_v61_0 V)
/-- Where a block of scores meets its maxima, and its weights, of any scores and maxima. -/
theorem meets (s : FVec Ideal S1x8x1x16x128x256 .f32) (q : FVec Ideal S1x8x1x16x128 .f32) :
    (uitofp .f32 (cmpf .oeq s (broadcastInDim S1x8x1x16x128x256 ![0, 1, 2, 3, 4, 5] bcast_S1x8x1x16x128x1_S1x8x1x16x128x256_0_1_2_3_4_5 (shapeCast _ q shapeCasts_S1x8x1x16x128_S1x8x1x16x128x1))) : FVec Ideal S1x8x1x16x128x256 .f32) (ix6 0 h r n a c)
      = FloatOps.uitofp (F := Ideal) .f32 (FloatOps.cmpf (F := Ideal) (φ := .f32) .oeq (s (ix6 0 h r n a c)) (q (ix5 0 h r n a))) := by
  obtain rfl : r = 0 := Fin.ext (by omega)
  pointwise
theorem lowered (s : FVec Ideal S1x8x1x16x128x256 .f32) (q : FVec Ideal S1x8x1x16x128 .f32) :
    (Host.exp (subf s (broadcastInDim S1x8x1x16x128x256 ![0, 1, 2, 3, 4, 5] bcast_S1x8x1x16x128x1_S1x8x1x16x128x256_0_1_2_3_4_5 (broadcastInDim S1x8x1x16x128x1 ![0, 1, 2, 3, 4] bcast_S1x8x1x16x128_S1x8x1x16x128x1_0_1_2_3_4 q))) : FVec Ideal S1x8x1x16x128x256 .f32) (ix6 0 h r n a c)
      = Ideal.exp ((s (ix6 0 h r n a c) : EReal) - q (ix5 0 h r n a)) := by
  obtain rfl : r = 0 := Fin.ext (by omega)
  pointwise
theorem E_at : E V h r n a c = if S V h r n a c = m V h r n a then 1 else 0 :=
  (meets h r n a c (res_main_v61_0 V) (res_main_v62 V)).trans (equal_word _ _)
theorem P_at : P V h r n a c = Ideal.exp (S V h r n a c - m V h r n a) :=
  lowered h r n a c (res_main_v61_0 V) (res_main_v62 V)
theorem num_at : num V h e t = ∑ c, P V h (strand t) (block t) (row t) c * vb V h (strand t) (block t) c e := by
  unfold num P vb strand block row
  pointwise [res_main_v78]
theorem den_at : den V h t = ∑ c, P V h (strand t) (block t) (row t) c := by
  have key := sum_last reducesTo_S1x8x1x16x128x256_S1x8x1x16x128_d5 0 h (strand t) (block t) (row t) (res_main_v71 V) 0
  rw [zero_add] at key
  refine Eq.trans ?_ key
  unfold den strand block row
  pointwise [res_main_v80]
theorem mf_at : mf V h t = m V h (strand t) (block t) (row t) := by
  unfold mf m strand block row
  pointwise [res_main_v82]

section branch
variable (x : Fin 8 → Head) (I : Inputs V x)

include I in
theorem kk_key (s : Fin 2048) (hc : 128 ≤ n.val * 128 + c.val) (hs : Key 1 r n c s) : kb V h r n c e = (((x h).k s e : ℝ) : EReal) := by
  unfold Key at hs
  have h2 : n.val - 1 < 16 := lt_of_le_of_lt (Nat.sub_le _ _) n.isLt
  have h3 : c.val - 128 < 128 := by
    clear hs
    omega
  by_cases h1 : c.val < 128
  · obtain rfl : s = ⟨_, pos_lt r ⟨n.val - 1, h2⟩ ⟨c.val, h1⟩⟩ := Fin.ext (by rw [hs]; dsimp only; omega)
    refine (kk_at V h r n c e).trans ?_
    rw [dif_pos h1, dif_neg (by omega)]
    exact (k_at V h r _ _ e).trans (I.k h _ e)
  · obtain rfl : s = ⟨_, pos_lt r n ⟨c.val - 128, h3⟩⟩ := Fin.ext (by rw [hs]; dsimp only; omega)
    refine (kk_at V h r n c e).trans ?_
    rw [dif_neg h1]
    exact (k_at V h r _ _ e).trans (I.k h _ e)

include I in
theorem vv_key (s : Fin 2048) (hc : 128 ≤ n.val * 128 + c.val) (hs : Key 1 r n c s) : vb V h r n c e = (((x h).v s e : ℝ) : EReal) := by
  unfold Key at hs
  have h2 : n.val - 1 < 16 := lt_of_le_of_lt (Nat.sub_le _ _) n.isLt
  have h3 : c.val - 128 < 128 := by
    clear hs
    omega
  by_cases h1 : c.val < 128
  · obtain rfl : s = ⟨_, pos_lt r ⟨n.val - 1, h2⟩ ⟨c.val, h1⟩⟩ := Fin.ext (by rw [hs]; dsimp only; omega)
    refine (vv_at V h r n c e).trans ?_
    rw [dif_pos h1, dif_neg (by omega)]
    exact (v_at V h r _ _ e).trans (I.v h _ e)
  · obtain rfl : s = ⟨_, pos_lt r n ⟨c.val - 128, h3⟩⟩ := Fin.ext (by rw [hs]; dsimp only; omega)
    refine (vv_at V h r n c e).trans ?_
    rw [dif_neg h1]
    exact (v_at V h r _ _ e).trans (I.v h _ e)

/-- The pattern for one head. -/
def B : Branch (x h) 1 16 where
  dil := Or.inl ⟨rfl, rfl⟩
  qb := qb V h
  kb := kb V h
  vb := vb V h
  S := S V h
  m := m V h
  E := E V h
  P := P V h
  hq r n a e t ht := by
    obtain rfl : t = ⟨_, pos_lt r n a⟩ := Fin.ext ht
    exact (q_at V h r n a e).trans (I.q h _ e)
  hk r n c e s hc hs := kk_key V h r n c e x I s hc hs
  hv r n c e s hc hs := vv_key V h r n c e x I s hc hs
  hS r n a c := S_at V h r n a c
  hm r n a := m_at V h r n a
  hE r n a c := E_at V h r n a c
  hP r n a c := P_at V h r n a c

theorem B_qb : (B V h x I).qb = qb V h := by
  unfold B
  rfl
theorem B_kb : (B V h x I).kb = kb V h := by
  unfold B
  rfl
theorem B_vb : (B V h x I).vb = vb V h := by
  unfold B
  rfl
theorem B_m : (B V h x I).m = m V h := by
  unfold B
  dsimp only
theorem B_E : (B V h x I).E = E V h := by
  unfold B
  rfl
theorem B_P : (B V h x I).P = P V h := by
  unfold B
  rfl

end branch

end Cert.AttnRef1

end
-- ==== Proof.AttnRef4.lean ====
/- The reference's pattern of dilation 4, forward, as a branch. -/
module

public import proofs.«01_k».proof.Proof.Gen.AttnRefIdeal.Run
public import proofs.«01_k».proof.Proof.AttnBranch
public import proofs.«01_k».proof.Proof.AttnRead
public import proofs.«01_k».proof.Proof.AttnInputs
public import Idealize.ShloMosaic.Lib.Pipeline.ValueKit
public import Idealize.ShloMosaic.Lib.Pointwise
public import Idealize.ShloMosaic.PureOps.Ideal

@[expose] public section

set_option maxRecDepth 16384

noncomputable section

namespace Cert.AttnRef4

open Cert.AttnRefIdeal Cert.AttnRefIdeal.Gen Cert.AttnRefIdeal.Value Idealize.ShloMosaic Cert.AttnMath Cert.AttnRead Cert.AttnRef

variable (V : Valuation τ sig (Elt Ideal))
variable (h : Fin 8) (r : Fin 4) (n : Fin 4) (a : Fin 128) (c : Fin 256) (e : Fin 64) (t : Fin 2048)

/-- Position `t`'s strand, block and row. -/
def strand (t : Fin 2048) : Fin 4 := ⟨t.val % 4, by omega⟩
def block (t : Fin 2048) : Fin 4 := ⟨t.val / 4 / 128, by omega⟩
def row (t : Fin 2048) : Fin 128 := ⟨t.val / 4 % 128, by omega⟩
theorem at_self : At 4 (strand t) (block t) (row t) t := by
  unfold At strand block row
  dsimp only
  omega

theorem pos_lt : (n.val * 128 + a.val) * 4 + r.val < 2048 := by omega

theorem q_at : res_main_v89 V (ix6 0 h r n a e) = res_main_v8 V (ix4 0 h ⟨(n.val * 128 + a.val) * 4 + r.val, pos_lt r n a⟩ e) := by
  pointwise [res_main_v89]
theorem k_at : res_main_v90 V (ix6 0 h r n a e) = res_main_v9 V (ix4 0 h ⟨(n.val * 128 + a.val) * 4 + r.val, pos_lt r n a⟩ e) := by
  pointwise [res_main_v90]
theorem v_at : res_main_v91 V (ix6 0 h r n a e) = res_main_v10 V (ix4 0 h ⟨(n.val * 128 + a.val) * 4 + r.val, pos_lt r n a⟩ e) := by
  pointwise [res_main_v91]
theorem kk_at : res_main_v97 V (ix6 0 h r n c e) = if hc : c.val < 128 then if hn : n.val < 1 then (0 : EReal) else res_main_v90 V (ix6 0 h r ⟨n.val - 1, by omega⟩ ⟨c.val, by omega⟩ e)
    else res_main_v90 V (ix6 0 h r n ⟨c.val - 128, by omega⟩ e) := by
  pointwise [res_main_v97]
theorem vv_at : res_main_v103 V (ix6 0 h r n c e) = if hc : c.val < 128 then if hn : n.val < 1 then (0 : EReal) else res_main_v91 V (ix6 0 h r ⟨n.val - 1, by omega⟩ ⟨c.val, by omega⟩ e)
    else res_main_v91 V (ix6 0 h r n ⟨c.val - 128, by omega⟩ e) := by
  pointwise [res_main_v103]
theorem mask_at : res_main_v133_1 V (ix6 0 h r n a c) = if valid n a c then 1#1 else 0#1 := by
  refine Eq.trans ?_ (mask_word n.val a.val c.val (by omega) a.isLt c.isLt)
  pointwise [res_main_v133_1, res_main_v108, res_main_v120, res_main_v123]

/-- The blocks of queries, keys and values, the scores, the maxima, where they are met, and the weights. -/
def qb : EReal := res_main_v89 V (ix6 0 h r n a e)
def kb : EReal := res_main_v97 V (ix6 0 h r n c e)
def vb : EReal := res_main_v103 V (ix6 0 h r n c e)
def S : EReal := res_main_v133_0 V (ix6 0 h r n a c)
def m : EReal := res_main_v134 V (ix5 0 h r n a)
def E : EReal := res_main_v138 V (ix6 0 h r n a c)
def P : EReal := res_main_v143 V (ix6 0 h r n a c)
def num : EReal := res_main_v150 V (ix4 0 h t e)
def den : EReal := res_main_v152 V (ix3 0 h t)
def mf : EReal := res_main_v154 V (ix3 0 h t)

theorem S_at : S V h r n a c = if valid n a c then ∑ e, qb V h r n a e * kb V h r n c e else ⊥ := by
  have key : S V h r n a c = Scalar.select (res_main_v133_1 V (ix6 0 h r n a c)) (∑ e, qb V h r n a e * kb V h r n c e) (Ideal.ofBits .f32 4286578688#32) := by
    unfold S qb kb
    pointwise [res_main_v133_0]
    rfl
  rw [key, mask_at, select_mask, low]
theorem m_at : m V h r n a = Finset.univ.fold max ⊥ (S V h r n a) :=
  max_last reducesTo_S1x8x4x4x128x256_S1x8x4x4x128_d5 0 h r n a h_S_ (res_main_v133_0 V)
/-- Where a block of scores meets its maxima, and its weights, of any scores and maxima. -/
theorem meets (s : FVec Ideal S1x8x4x4x128x256 .f32) (q : FVec Ideal S1x8x4x4x128 .f32) :
    (uitofp .f32 (cmpf .oeq s (broadcastInDim S1x8x4x4x128x256 ![0, 1, 2, 3, 4, 5] bcast_S1x8x4x4x128x1_S1x8x4x4x128x256_0_1_2_3_4_5 (shapeCast _ q shapeCasts_S1x8x4x4x128_S1x8x4x4x128x1))) : FVec Ideal S1x8x4x4x128x256 .f32) (ix6 0 h r n a c)
      = FloatOps.uitofp (F := Ideal) .f32 (FloatOps.cmpf (F := Ideal) (φ := .f32) .oeq (s (ix6 0 h r n a c)) (q (ix5 0 h r n a))) := by
  pointwise
theorem lowered (s : FVec Ideal S1x8x4x4x128x256 .f32) (q : FVec Ideal S1x8x4x4x128 .f32) :
    (Host.exp (subf s (broadcastInDim S1x8x4x4x128x256 ![0, 1, 2, 3, 4, 5] bcast_S1x8x4x4x128x1_S1x8x4x4x128x256_0_1_2_3_4_5 (broadcastInDim S1x8x4x4x128x1 ![0, 1, 2, 3, 4] bcast_S1x8x4x4x128_S1x8x4x4x128x1_0_1_2_3_4 q))) : FVec Ideal S1x8x4x4x128x256 .f32) (ix6 0 h r n a c)
      = Ideal.exp ((s (ix6 0 h r n a c) : EReal) - q (ix5 0 h r n a)) := by
  pointwise
theorem E_at : E V h r n a c = if S V h r n a c = m V h r n a then 1 else 0 :=
  (meets h r n a c (res_main_v133_0 V) (res_main_v134 V)).trans (equal_word _ _)
theorem P_at : P V h r n a c = Ideal.exp (S V h r n a c - m V h r n a) :=
  lowered h r n a c (res_main_v133_0 V) (res_main_v134 V)
theorem num_at : num V h e t = ∑ c, P V h (strand t) (block t) (row t) c * vb V h (strand t) (block t) c e := by
  unfold num P vb strand block row
  pointwise [res_main_v150]
theorem den_at : den V h t = ∑ c, P V h (strand t) (block t) (row t) c := by
  have key := sum_last reducesTo_S1x8x4x4x128x256_S1x8x4x4x128_d5 0 h (strand t) (block t) (row t) (res_main_v143 V) 0
  rw [zero_add] at key
  refine Eq.trans ?_ key
  unfold den strand block row
  pointwise [res_main_v152]
theorem mf_at : mf V h t = m V h (strand t) (block t) (row t) := by
  unfold mf m strand block row
  pointwise [res_main_v154]

section branch
variable (x : Fin 8 → Head) (I : Inputs V x)

include I in
theorem kk_key (s : Fin 2048) (hc : 128 ≤ n.val * 128 + c.val) (hs : Key 4 r n c s) : kb V h r n c e = (((x h).k s e : ℝ) : EReal) := by
  unfold Key at hs
  have h2 : n.val - 1 < 4 := lt_of_le_of_lt (Nat.sub_le _ _) n.isLt
  have h3 : c.val - 128 < 128 := by
    clear hs
    omega
  by_cases h1 : c.val < 128
  · obtain rfl : s = ⟨_, pos_lt r ⟨n.val - 1, h2⟩ ⟨c.val, h1⟩⟩ := Fin.ext (by rw [hs]; dsimp only; omega)
    refine (kk_at V h r n c e).trans ?_
    rw [dif_pos h1, dif_neg (by omega)]
    exact (k_at V h r _ _ e).trans (I.k h _ e)
  · obtain rfl : s = ⟨_, pos_lt r n ⟨c.val - 128, h3⟩⟩ := Fin.ext (by rw [hs]; dsimp only; omega)
    refine (kk_at V h r n c e).trans ?_
    rw [dif_neg h1]
    exact (k_at V h r _ _ e).trans (I.k h _ e)

include I in
theorem vv_key (s : Fin 2048) (hc : 128 ≤ n.val * 128 + c.val) (hs : Key 4 r n c s) : vb V h r n c e = (((x h).v s e : ℝ) : EReal) := by
  unfold Key at hs
  have h2 : n.val - 1 < 4 := lt_of_le_of_lt (Nat.sub_le _ _) n.isLt
  have h3 : c.val - 128 < 128 := by
    clear hs
    omega
  by_cases h1 : c.val < 128
  · obtain rfl : s = ⟨_, pos_lt r ⟨n.val - 1, h2⟩ ⟨c.val, h1⟩⟩ := Fin.ext (by rw [hs]; dsimp only; omega)
    refine (vv_at V h r n c e).trans ?_
    rw [dif_pos h1, dif_neg (by omega)]
    exact (v_at V h r _ _ e).trans (I.v h _ e)
  · obtain rfl : s = ⟨_, pos_lt r n ⟨c.val - 128, h3⟩⟩ := Fin.ext (by rw [hs]; dsimp only; omega)
    refine (vv_at V h r n c e).trans ?_
    rw [dif_neg h1]
    exact (v_at V h r _ _ e).trans (I.v h _ e)

/-- The pattern for one head. -/
def B : Branch (x h) 4 4 where
  dil := Or.inr (Or.inl ⟨rfl, rfl⟩)
  qb := qb V h
  kb := kb V h
  vb := vb V h
  S := S V h
  m := m V h
  E := E V h
  P := P V h
  hq r n a e t ht := by
    obtain rfl : t = ⟨_, pos_lt r n a⟩ := Fin.ext ht
    exact (q_at V h r n a e).trans (I.q h _ e)
  hk r n c e s hc hs := kk_key V h r n c e x I s hc hs
  hv r n c e s hc hs := vv_key V h r n c e x I s hc hs
  hS r n a c := S_at V h r n a c
  hm r n a := m_at V h r n a
  hE r n a c := E_at V h r n a c
  hP r n a c := P_at V h r n a c

theorem B_qb : (B V h x I).qb = qb V h := by
  unfold B
  rfl
theorem B_kb : (B V h x I).kb = kb V h := by
  unfold B
  rfl
theorem B_vb : (B V h x I).vb = vb V h := by
  unfold B
  rfl
theorem B_m : (B V h x I).m = m V h := by
  unfold B
  dsimp only
theorem B_E : (B V h x I).E = E V h := by
  unfold B
  rfl
theorem B_P : (B V h x I).P = P V h := by
  unfold B
  rfl

end branch

end Cert.AttnRef4

end
-- ==== Proof.AttnRef16.lean ====
/- The reference's pattern of dilation 16, forward, as a branch. -/
module

public import proofs.«01_k».proof.Proof.Gen.AttnRefIdeal.Run
public import proofs.«01_k».proof.Proof.AttnBranch
public import proofs.«01_k».proof.Proof.AttnRead
public import proofs.«01_k».proof.Proof.AttnInputs
public import Idealize.ShloMosaic.Lib.Pipeline.ValueKit
public import Idealize.ShloMosaic.Lib.Pointwise
public import Idealize.ShloMosaic.PureOps.Ideal

@[expose] public section

set_option maxRecDepth 16384

noncomputable section

namespace Cert.AttnRef16

open Cert.AttnRefIdeal Cert.AttnRefIdeal.Gen Cert.AttnRefIdeal.Value Idealize.ShloMosaic Cert.AttnMath Cert.AttnRead Cert.AttnRef

variable (V : Valuation τ sig (Elt Ideal))
variable (h : Fin 8) (r : Fin 16) (n : Fin 1) (a : Fin 128) (c : Fin 256) (e : Fin 64) (t : Fin 2048)

/-- Position `t`'s strand, block and row. -/
def strand (t : Fin 2048) : Fin 16 := ⟨t.val % 16, by omega⟩
def block (_t : Fin 2048) : Fin 1 := 0
def row (t : Fin 2048) : Fin 128 := ⟨t.val / 16, by omega⟩
theorem at_self : At 16 (strand t) (block t) (row t) t := by
  unfold At strand block row
  dsimp only
  omega

theorem pos_lt : (n.val * 128 + a.val) * 16 + r.val < 2048 := by omega

theorem q_at : res_main_v161 V (ix6 0 h r n a e) = res_main_v8 V (ix4 0 h ⟨(n.val * 128 + a.val) * 16 + r.val, pos_lt r n a⟩ e) := by
  obtain rfl : n = 0 := Fin.ext (by omega)
  pointwise [res_main_v161]
theorem k_at : res_main_v162 V (ix6 0 h r n a e) = res_main_v9 V (ix4 0 h ⟨(n.val * 128 + a.val) * 16 + r.val, pos_lt r n a⟩ e) := by
  obtain rfl : n = 0 := Fin.ext (by omega)
  pointwise [res_main_v162]
theorem v_at : res_main_v163 V (ix6 0 h r n a e) = res_main_v10 V (ix4 0 h ⟨(n.val * 128 + a.val) * 16 + r.val, pos_lt r n a⟩ e) := by
  obtain rfl : n = 0 := Fin.ext (by omega)
  pointwise [res_main_v163]
theorem kk_at : res_main_v168 V (ix6 0 h r n c e) = if hc : c.val < 128 then if hn : n.val < 1 then (0 : EReal) else res_main_v162 V (ix6 0 h r ⟨n.val - 1, by omega⟩ ⟨c.val, by omega⟩ e)
    else res_main_v162 V (ix6 0 h r n ⟨c.val - 128, by omega⟩ e) := by
  obtain rfl : n = 0 := Fin.ext (by omega)
  pointwise [res_main_v168]
theorem vv_at : res_main_v173 V (ix6 0 h r n c e) = if hc : c.val < 128 then if hn : n.val < 1 then (0 : EReal) else res_main_v163 V (ix6 0 h r ⟨n.val - 1, by omega⟩ ⟨c.val, by omega⟩ e)
    else res_main_v163 V (ix6 0 h r n ⟨c.val - 128, by omega⟩ e) := by
  obtain rfl : n = 0 := Fin.ext (by omega)
  pointwise [res_main_v173]
theorem mask_at : res_main_v201_1 V (ix6 0 h r n a c) = if valid n a c then 1#1 else 0#1 := by
  refine Eq.trans ?_ (mask_word n.val a.val c.val (by omega) a.isLt c.isLt)
  obtain rfl : n = 0 := Fin.ext (by omega)
  pointwise [res_main_v201_1, res_main_v178, res_main_v188, res_main_v191]

/-- The blocks of queries, keys and values, the scores, the maxima, where they are met, and the weights. -/
def qb : EReal := res_main_v161 V (ix6 0 h r n a e)
def kb : EReal := res_main_v168 V (ix6 0 h r n c e)
def vb : EReal := res_main_v173 V (ix6 0 h r n c e)
def S : EReal := res_main_v201_0 V (ix6 0 h r n a c)
def m : EReal := res_main_v202 V (ix5 0 h r n a)
def E : EReal := res_main_v206 V (ix6 0 h r n a c)
def P : EReal := res_main_v211 V (ix6 0 h r n a c)
def num : EReal := res_main_v218 V (ix4 0 h t e)
def den : EReal := res_main_v220 V (ix3 0 h t)
def mf : EReal := res_main_v222 V (ix3 0 h t)

theorem S_at : S V h r n a c = if valid n a c then ∑ e, qb V h r n a e * kb V h r n c e else ⊥ := by
  have key : S V h r n a c = Scalar.select (res_main_v201_1 V (ix6 0 h r n a c)) (∑ e, qb V h r n a e * kb V h r n c e) (Ideal.ofBits .f32 4286578688#32) := by
    unfold S qb kb
    obtain rfl : n = 0 := Fin.ext (by omega)
    pointwise [res_main_v201_0]
    rfl
  rw [key, mask_at, select_mask, low]
theorem m_at : m V h r n a = Finset.univ.fold max ⊥ (S V h r n a) :=
  max_last reducesTo_S1x8x16x1x128x256_S1x8x16x1x128_d5 0 h r n a h_S_ (res_main_v201_0 V)
/-- Where a block of scores meets its maxima, and its weights, of any scores and maxima. -/
theorem meets (s : FVec Ideal S1x8x16x1x128x256 .f32) (q : FVec Ideal S1x8x16x1x128 .f32) :
    (uitofp .f32 (cmpf .oeq s (broadcastInDim S1x8x16x1x128x256 ![0, 1, 2, 3, 4, 5] bcast_S1x8x16x1x128x1_S1x8x16x1x128x256_0_1_2_3_4_5 (shapeCast _ q shapeCasts_S1x8x16x1x128_S1x8x16x1x128x1))) : FVec Ideal S1x8x16x1x128x256 .f32) (ix6 0 h r n a c)
      = FloatOps.uitofp (F := Ideal) .f32 (FloatOps.cmpf (F := Ideal) (φ := .f32) .oeq (s (ix6 0 h r n a c)) (q (ix5 0 h r n a))) := by
  obtain rfl : n = 0 := Fin.ext (by omega)
  pointwise
theorem lowered (s : FVec Ideal S1x8x16x1x128x256 .f32) (q : FVec Ideal S1x8x16x1x128 .f32) :
    (Host.exp (subf s (broadcastInDim S1x8x16x1x128x256 ![0, 1, 2, 3, 4, 5] bcast_S1x8x16x1x128x1_S1x8x16x1x128x256_0_1_2_3_4_5 (broadcastInDim S1x8x16x1x128x1 ![0, 1, 2, 3, 4] bcast_S1x8x16x1x128_S1x8x16x1x128x1_0_1_2_3_4 q))) : FVec Ideal S1x8x16x1x128x256 .f32) (ix6 0 h r n a c)
      = Ideal.exp ((s (ix6 0 h r n a c) : EReal) - q (ix5 0 h r n a)) := by
  obtain rfl : n = 0 := Fin.ext (by omega)
  pointwise
theorem E_at : E V h r n a c = if S V h r n a c = m V h r n a then 1 else 0 :=
  (meets h r n a c (res_main_v201_0 V) (res_main_v202 V)).trans (equal_word _ _)
theorem P_at : P V h r n a c = Ideal.exp (S V h r n a c - m V h r n a) :=
  lowered h r n a c (res_main_v201_0 V) (res_main_v202 V)
theorem num_at : num V h e t = ∑ c, P V h (strand t) (block t) (row t) c * vb V h (strand t) (block t) c e := by
  unfold num P vb strand block row
  pointwise [res_main_v218]
theorem den_at : den V h t = ∑ c, P V h (strand t) (block t) (row t) c := by
  have key := sum_last reducesTo_S1x8x16x1x128x256_S1x8x16x1x128_d5 0 h (strand t) (block t) (row t) (res_main_v211 V) 0
  rw [zero_add] at key
  refine Eq.trans ?_ key
  unfold den strand block row
  pointwise [res_main_v220]
theorem mf_at : mf V h t = m V h (strand t) (block t) (row t) := by
  unfold mf m strand block row
  pointwise [res_main_v222]

section branch
variable (x : Fin 8 → Head) (I : Inputs V x)

include I in
theorem kk_key (s : Fin 2048) (hc : 128 ≤ n.val * 128 + c.val) (hs : Key 16 r n c s) : kb V h r n c e = (((x h).k s e : ℝ) : EReal) := by
  unfold Key at hs
  have h2 : n.val - 1 < 1 := lt_of_le_of_lt (Nat.sub_le _ _) n.isLt
  have h3 : c.val - 128 < 128 := by
    clear hs
    omega
  by_cases h1 : c.val < 128
  · obtain rfl : s = ⟨_, pos_lt r ⟨n.val - 1, h2⟩ ⟨c.val, h1⟩⟩ := Fin.ext (by rw [hs]; dsimp only; omega)
    refine (kk_at V h r n c e).trans ?_
    rw [dif_pos h1, dif_neg (by omega)]
    exact (k_at V h r _ _ e).trans (I.k h _ e)
  · obtain rfl : s = ⟨_, pos_lt r n ⟨c.val - 128, h3⟩⟩ := Fin.ext (by rw [hs]; dsimp only; omega)
    refine (kk_at V h r n c e).trans ?_
    rw [dif_neg h1]
    exact (k_at V h r _ _ e).trans (I.k h _ e)

include I in
theorem vv_key (s : Fin 2048) (hc : 128 ≤ n.val * 128 + c.val) (hs : Key 16 r n c s) : vb V h r n c e = (((x h).v s e : ℝ) : EReal) := by
  unfold Key at hs
  have h2 : n.val - 1 < 1 := lt_of_le_of_lt (Nat.sub_le _ _) n.isLt
  have h3 : c.val - 128 < 128 := by
    clear hs
    omega
  by_cases h1 : c.val < 128
  · obtain rfl : s = ⟨_, pos_lt r ⟨n.val - 1, h2⟩ ⟨c.val, h1⟩⟩ := Fin.ext (by rw [hs]; dsimp only; omega)
    refine (vv_at V h r n c e).trans ?_
    rw [dif_pos h1, dif_neg (by omega)]
    exact (v_at V h r _ _ e).trans (I.v h _ e)
  · obtain rfl : s = ⟨_, pos_lt r n ⟨c.val - 128, h3⟩⟩ := Fin.ext (by rw [hs]; dsimp only; omega)
    refine (vv_at V h r n c e).trans ?_
    rw [dif_neg h1]
    exact (v_at V h r _ _ e).trans (I.v h _ e)

/-- The pattern for one head. -/
def B : Branch (x h) 16 1 where
  dil := Or.inr (Or.inr ⟨rfl, rfl⟩)
  qb := qb V h
  kb := kb V h
  vb := vb V h
  S := S V h
  m := m V h
  E := E V h
  P := P V h
  hq r n a e t ht := by
    obtain rfl : t = ⟨_, pos_lt r n a⟩ := Fin.ext ht
    exact (q_at V h r n a e).trans (I.q h _ e)
  hk r n c e s hc hs := kk_key V h r n c e x I s hc hs
  hv r n c e s hc hs := vv_key V h r n c e x I s hc hs
  hS r n a c := S_at V h r n a c
  hm r n a := m_at V h r n a
  hE r n a c := E_at V h r n a c
  hP r n a c := P_at V h r n a c

theorem B_qb : (B V h x I).qb = qb V h := by
  unfold B
  rfl
theorem B_kb : (B V h x I).kb = kb V h := by
  unfold B
  rfl
theorem B_vb : (B V h x I).vb = vb V h := by
  unfold B
  rfl
theorem B_m : (B V h x I).m = m V h := by
  unfold B
  dsimp only
theorem B_E : (B V h x I).E = E V h := by
  unfold B
  rfl
theorem B_P : (B V h x I).P = P V h := by
  unfold B
  rfl

end branch

end Cert.AttnRef16

end
-- ==== Proof.AttnFlow.lean ====
/- The mixing step of the reference's backward pass in real numbers, on arrays of any origin. -/
module

public import proofs.«01_k».proof.Proof.AttnBranch

@[expose] public section

noncomputable section

namespace Cert.AttnRef

open Idealize.ShloMosaic Cert.AttnMath

/-- A branch's maximum at a position is that of its strand, block and row. -/
theorem flat_of {d nb : ℕ} (hd : Dil d nb) (m : Fin d → Fin nb → Fin 128 → EReal) (M : Fin 2048 → EReal) (st : Fin 2048 → Fin d) (bl : Fin 2048 → Fin nb)
    (ro : Fin 2048 → Fin 128) (hat : ∀ t, At d (st t) (bl t) (ro t) t) (hM : ∀ t, M t = m (st t) (bl t) (ro t))
    (r : Fin d) (n : Fin nb) (a : Fin 128) (t : Fin 2048) (ht : At d r n a t) : m r n a = M t := by
  have h1 := hat t
  rw [hM]
  unfold At at h1 ht
  have hr := r.isLt
  have hr' := (st t).isLt
  have ha := a.isLt
  have ha' := (ro t).isLt
  have e1 : r = st t := Fin.ext (by rcases hd with ⟨rfl, rfl⟩ | ⟨rfl, rfl⟩ | ⟨rfl, rfl⟩ <;> omega)
  have e2 : n = bl t := Fin.ext (by rcases hd with ⟨rfl, rfl⟩ | ⟨rfl, rfl⟩ | ⟨rfl, rfl⟩ <;> omega)
  have e3 : a = ro t := Fin.ext (by rcases hd with ⟨rfl, rfl⟩ | ⟨rfl, rfl⟩ | ⟨rfl, rfl⟩ <;> omega)
  rw [e1, e2, e3]

/-- The mixing step on arrays of any origin: from the branches' sums to the cotangents of their totals. -/
theorem flow (x : Head) (y : Max) (g gn nt N1 N4 N16 : Fin 64 → Fin 2048 → EReal) (w1 w4 w16 D1 D4 D16 dt gd X1 X4 X16 Y : Fin 2048 → EReal)
    (hw1 : ∀ t, w1 t = ((y.w 1 t : ℝ) : EReal)) (hw4 : ∀ t, w4 t = ((y.w 4 t : ℝ) : EReal)) (hw16 : ∀ t, w16 t = ((y.w 16 t : ℝ) : EReal))
    (d1 : ∀ t, D1 t = ((y.de x 1 t : ℝ) : EReal)) (d4 : ∀ t, D4 t = ((y.de x 4 t : ℝ) : EReal)) (d16 : ∀ t, D16 t = ((y.de x 16 t : ℝ) : EReal))
    (n1 : ∀ t e, N1 e t = ((y.nu x 1 t e : ℝ) : EReal)) (n4 : ∀ t e, N4 e t = ((y.nu x 4 t e : ℝ) : EReal)) (n16 : ∀ t e, N16 e t = ((y.nu x 16 t e : ℝ) : EReal))
    (hg : ∀ t e, g e t = ((x.g t e : ℝ) : EReal))
    (nt_at : ∀ e t, nt e t = w1 t * N1 e t + w4 t * N4 e t + w16 t * N16 e t)
    (dt_at : ∀ t, dt t = w1 t * D1 t + w4 t * D4 t + w16 t * D16 t)
    (gn_at : ∀ e t, gn e t = Ideal.div (g e t) (dt t))
    (gd_at : ∀ t, gd t = -∑ e, g e t * Ideal.div 1 (dt t * dt t) * nt e t)
    (X1_at : ∀ t, X1 t = (gd t * D1 t + ∑ e, gn e t * N1 e t) * w1 t)
    (X4_at : ∀ t, X4 t = (gd t * D4 t + ∑ e, gn e t * N4 e t) * w4 t)
    (X16_at : ∀ t, X16 t = (gd t * D16 t + ∑ e, gn e t * N16 e t) * w16 t)
    (Y_at : ∀ t, Y t = -X16 t + -X4 t + -X1 t) :
    (∀ t e, gn e t = ((y.gn x t e : ℝ) : EReal)) ∧ (∀ t, gd t = ((y.gd x t : ℝ) : EReal)) ∧
    (∀ t, X1 t = ((y.dw x 1 t * y.w 1 t : ℝ) : EReal)) ∧ (∀ t, X4 t = ((y.dw x 4 t * y.w 4 t : ℝ) : EReal)) ∧
    (∀ t, X16 t = ((y.dw x 16 t * y.w 16 t : ℝ) : EReal)) ∧ ∀ t, Y t = 0 := by
  have hdt : ∀ t, dt t = ((y.dt x t : ℝ) : EReal) := fun t => by
    rw [dt_at, hw1, hw4, hw16, d1, d4, d16]
    unfold Max.dt
    push_cast
    rfl
  have hnt : ∀ t e, nt e t = ((y.nt x t e : ℝ) : EReal) := fun t e => by
    rw [nt_at, hw1, hw4, hw16, n1, n4, n16]
    unfold Max.nt
    push_cast
    rfl
  have hgn : ∀ t e, gn e t = ((y.gn x t e : ℝ) : EReal) := fun t e => by
    rw [gn_at, hdt, hg, Ideal.div_coe (y.dt_pos x t).ne', ← EReal.coe_mul]
    unfold Max.gn
    rw [mul_one_div]
  have hgd : ∀ t, gd t = ((y.gd x t : ℝ) : EReal) := fun t => by
    rw [gd_at]
    unfold Max.gd
    rw [EReal.coe_neg, Cert.Finite.coe_sum]
    congr 1
    refine Finset.sum_congr rfl fun e _ => ?_
    have hp := y.dt_pos x t
    rw [hdt, hg, hnt, ← EReal.coe_mul, Ideal.div_coe (mul_pos hp hp).ne', one_mul, ← EReal.coe_mul, ← EReal.coe_mul]
  have hX : ∀ (D : EReal) (N : Fin 64 → EReal) (W : EReal) (d : ℕ) (t : Fin 2048), D = ((y.de x d t : ℝ) : EReal) → (∀ e, N e = ((y.nu x d t e : ℝ) : EReal)) →
      W = ((y.w d t : ℝ) : EReal) → (gd t * D + ∑ e, gn e t * N e) * W = ((y.dw x d t * y.w d t : ℝ) : EReal) := fun D N W d t hD hN hW => by
    rw [hD, hW, hgd, EReal.coe_mul]
    unfold Max.dw
    rw [EReal.coe_add, EReal.coe_mul, Cert.Finite.coe_sum]
    congr 2
    refine Finset.sum_congr rfl fun e _ => ?_
    rw [hgn, hN, ← EReal.coe_mul]
  have x1 : ∀ t, X1 t = ((y.dw x 1 t * y.w 1 t : ℝ) : EReal) := fun t => (X1_at t).trans (hX _ _ _ 1 t (d1 t) (n1 t) (hw1 t))
  have x4 : ∀ t, X4 t = ((y.dw x 4 t * y.w 4 t : ℝ) : EReal) := fun t => (X4_at t).trans (hX _ _ _ 4 t (d4 t) (n4 t) (hw4 t))
  have x16 : ∀ t, X16 t = ((y.dw x 16 t * y.w 16 t : ℝ) : EReal) := fun t => (X16_at t).trans (hX _ _ _ 16 t (d16 t) (n16 t) (hw16 t))
  refine ⟨hgn, hgd, x1, x4, x16, fun t => ?_⟩
  rw [Y_at, x1, x4, x16, ← EReal.coe_neg, ← EReal.coe_neg, ← EReal.coe_neg, ← EReal.coe_add, ← EReal.coe_add]
  rw [show -(y.dw x 16 t * y.w 16 t) + -(y.dw x 4 t * y.w 4 t) + -(y.dw x 1 t * y.w 1 t) = 0 by
    linear_combination -(y.dw_total x t)]
  rfl

end Cert.AttnRef

end
-- ==== Proof.AttnMix.lean ====
/- The reference's three patterns joined: the joint maximum, the shares, and the cotangents of numerators and denominators. -/
module

public import proofs.«01_k».proof.Proof.AttnRef1
public import proofs.«01_k».proof.Proof.AttnRef4
public import proofs.«01_k».proof.Proof.AttnRef16
public import proofs.«01_k».proof.Proof.AttnFlow

@[expose] public section

set_option maxRecDepth 16384

noncomputable section

namespace Cert.AttnRef

open Cert.AttnRefIdeal Cert.AttnRefIdeal.Gen Cert.AttnRefIdeal.Value Idealize.ShloMosaic Cert.AttnMath Cert.AttnRead

variable (V : Valuation τ sig (Elt Ideal))
variable (h : Fin 8) (e : Fin 64) (t : Fin 2048)

/-- The joint maximum, the three shares, the totals, and the cotangents, at a position. -/
def A : EReal := res_main_v238 V (ix3 0 h t)
def w1 : EReal := res_main_v254 V (ix3 0 h t)
def w4 : EReal := res_main_v256 V (ix3 0 h t)
def w16 : EReal := res_main_v258 V (ix3 0 h t)
def nt : EReal := res_main_v269 V (ix4 0 h t e)
def dt : EReal := res_main_v275 V (ix4 0 h t 0)
def g : EReal := res_main_v286 V (ix4 0 h t e)
def gn : EReal := res_main_v294 V (ix4 0 h t e)
def gd : EReal := res_main_v296 V (ix3 0 h t)
def X1 : EReal := res_main_v332 V (ix3 0 h t)
def X4 : EReal := res_main_v329 V (ix3 0 h t)
def X16 : EReal := res_main_v327 V (ix3 0 h t)
def Y : EReal := res_main_v334 V (ix3 0 h t)
def Y' : EReal := res_main_v337 V (ix3 0 h t)

section any
variable (a b c a' b' c' : FVec Ideal S1x8x2048 .f32) (u v w : FVec Ideal S1x8x2048x64 .f32) (z : FVec Ideal S1x8x2048x1 .f32)

theorem max_of (i : S1x8x2048.Idx) : (maximumf (maximumf a b) c : FVec Ideal S1x8x2048 .f32) i = max (max (a i : EReal) (b i)) (c i) := rfl
theorem exp_of (i : S1x8x2048.Idx) : (Host.exp (subf a b) : FVec Ideal S1x8x2048 .f32) i = Ideal.exp ((a i : EReal) - b i) := rfl
theorem total_of :
    (addf (addf (mulf (broadcastInDim S1x8x2048x64 ![0, 1, 2, 3] bcast_S1x8x2048x1_S1x8x2048x64_0_1_2_3 (broadcastInDim S1x8x2048x1 ![0, 1, 2] bcast_S1x8x2048_S1x8x2048x1_0_1_2 a)) u)
      (mulf (broadcastInDim S1x8x2048x64 ![0, 1, 2, 3] bcast_S1x8x2048x1_S1x8x2048x64_0_1_2_3 (broadcastInDim S1x8x2048x1 ![0, 1, 2] bcast_S1x8x2048_S1x8x2048x1_0_1_2 b)) v))
      (mulf (broadcastInDim S1x8x2048x64 ![0, 1, 2, 3] bcast_S1x8x2048x1_S1x8x2048x64_0_1_2_3 (broadcastInDim S1x8x2048x1 ![0, 1, 2] bcast_S1x8x2048_S1x8x2048x1_0_1_2 c)) w)
        : FVec Ideal S1x8x2048x64 .f32) (ix4 0 h t e)
      = (a (ix3 0 h t) : EReal) * u (ix4 0 h t e) + (b (ix3 0 h t) : EReal) * v (ix4 0 h t e) + (c (ix3 0 h t) : EReal) * w (ix4 0 h t e) := by
  pointwise
theorem sum_of :
    (broadcastInDim S1x8x2048x1 ![0, 1, 2] bcast_S1x8x2048_S1x8x2048x1_0_1_2 (addf (addf (mulf a a') (mulf b b')) (mulf c c')) : FVec Ideal S1x8x2048x1 .f32) (ix4 0 h t 0)
      = (a (ix3 0 h t) : EReal) * a' (ix3 0 h t) + (b (ix3 0 h t) : EReal) * b' (ix3 0 h t) + (c (ix3 0 h t) : EReal) * c' (ix3 0 h t) := by
  pointwise
theorem quotient_of :
    (Host.divf u (broadcastInDim S1x8x2048x64 ![0, 1, 2, 3] bcast_S1x8x2048x1_S1x8x2048x64_0_1_2_3 z) : FVec Ideal S1x8x2048x64 .f32) (ix4 0 h t e)
      = Ideal.div (u (ix4 0 h t e)) (z (ix4 0 h t 0)) := by
  pointwise
theorem cotangent_of :
    (mulf (addf (mulf a a') (broadcastInDim S1x8x2048 ![1, 2] bcast_S8x2048_S1x8x2048_1_2 (Host.reduceAdd (shapeCast _ (Host.reduceAdd (mulf u v) (constant S_ .f32 0x00000000#32) reducesTo_S1x8x2048x64_S1x8x2048_d3 h_S_) shapeCasts_S1x8x2048_S1x8x2048x1) (constant S_ .f32 0x00000000#32) reducesTo_S1x8x2048x1_S8x2048_d0_3 h_S_))) b : FVec Ideal S1x8x2048 .f32) (ix3 0 h t)
      = ((a (ix3 0 h t) : EReal) * a' (ix3 0 h t) + ∑ e, (u (ix4 0 h t e) : EReal) * v (ix4 0 h t e)) * b (ix3 0 h t) := by
  have key : (mulf (addf (mulf a a') (broadcastInDim S1x8x2048 ![1, 2] bcast_S8x2048_S1x8x2048_1_2 (Host.reduceAdd (shapeCast _ (Host.reduceAdd (mulf u v) (constant S_ .f32 0x00000000#32) reducesTo_S1x8x2048x64_S1x8x2048_d3 h_S_) shapeCasts_S1x8x2048_S1x8x2048x1) (constant S_ .f32 0x00000000#32) reducesTo_S1x8x2048x1_S8x2048_d0_3 h_S_))) b : FVec Ideal S1x8x2048 .f32) (ix3 0 h t)
      = ((a (ix3 0 h t) : EReal) * a' (ix3 0 h t) + (0 + (0 + ∑ e, (u (ix4 0 h t e) : EReal) * v (ix4 0 h t e)))) * b (ix3 0 h t) := by
    pointwise [sum_r4_03]
  rw [key, zero_add, zero_add]
theorem total_cotangent_of :
    (broadcastInDim S1x8x2048 ![1, 2] bcast_S8x2048_S1x8x2048_1_2 (Host.reduceAdd (Host.negf (shapeCast _ (Host.reduceAdd (mulf (mulf u (broadcastInDim S1x8x2048x64 ![0, 1, 2, 3] bcast_S1x8x2048x1_S1x8x2048x64_0_1_2_3 (Host.divf (broadcastInDim S1x8x2048x1 ![] bcast_S_S1x8x2048x1 (constant S_ .f32 0x3F800000#32)) (mulf z z)))) v) (constant S_ .f32 0x00000000#32) reducesTo_S1x8x2048x64_S1x8x2048_d3 h_S_) shapeCasts_S1x8x2048_S1x8x2048x1)) (constant S_ .f32 0x00000000#32) reducesTo_S1x8x2048x1_S8x2048_d0_3 h_S_) : FVec Ideal S1x8x2048 .f32) (ix3 0 h t)
      = -∑ e, (u (ix4 0 h t e) : EReal) * Ideal.div 1 ((z (ix4 0 h t 0) : EReal) * z (ix4 0 h t 0)) * v (ix4 0 h t e) := by
  have key : (broadcastInDim S1x8x2048 ![1, 2] bcast_S8x2048_S1x8x2048_1_2 (Host.reduceAdd (Host.negf (shapeCast _ (Host.reduceAdd (mulf (mulf u (broadcastInDim S1x8x2048x64 ![0, 1, 2, 3] bcast_S1x8x2048x1_S1x8x2048x64_0_1_2_3 (Host.divf (broadcastInDim S1x8x2048x1 ![] bcast_S_S1x8x2048x1 (constant S_ .f32 0x3F800000#32)) (mulf z z)))) v) (constant S_ .f32 0x00000000#32) reducesTo_S1x8x2048x64_S1x8x2048_d3 h_S_) shapeCasts_S1x8x2048_S1x8x2048x1)) (constant S_ .f32 0x00000000#32) reducesTo_S1x8x2048x1_S8x2048_d0_3 h_S_) : FVec Ideal S1x8x2048 .f32) (ix3 0 h t)
      = 0 + -(0 + ∑ e, (u (ix4 0 h t e) : EReal) * Ideal.div 1 ((z (ix4 0 h t 0) : EReal) * z (ix4 0 h t 0)) * v (ix4 0 h t e)) := by
    pointwise [sum_r4_03]
  rw [key, zero_add, zero_add]
theorem product_zero (s1 s2 s3 : FVec Ideal S1x8x2048 .f32) (hs : s3 = mulf s1 s2) (i : S1x8x2048.Idx) (h0 : (s1 i : EReal) = 0) : (s3 i : EReal) = 0 := by
  rw [hs]
  exact (congrArg (· * (s2 i : EReal)) h0).trans (zero_mul _)

end any

theorem A_at : A V h t = max (max (AttnRef1.mf V h t) (AttnRef4.mf V h t)) (AttnRef16.mf V h t) :=
  max_of (res_main_v82 V) (res_main_v154 V) (res_main_v222 V) (ix3 0 h t)
theorem w1_at : w1 V h t = Ideal.exp (AttnRef1.mf V h t - A V h t) := exp_of (res_main_v82 V) (res_main_v238 V) (ix3 0 h t)
theorem w4_at : w4 V h t = Ideal.exp (AttnRef4.mf V h t - A V h t) := exp_of (res_main_v154 V) (res_main_v238 V) (ix3 0 h t)
theorem w16_at : w16 V h t = Ideal.exp (AttnRef16.mf V h t - A V h t) := exp_of (res_main_v222 V) (res_main_v238 V) (ix3 0 h t)
theorem nt_at : nt V h e t = w1 V h t * AttnRef1.num V h e t + w4 V h t * AttnRef4.num V h e t + w16 V h t * AttnRef16.num V h e t :=
  total_of h e t (res_main_v254 V) (res_main_v256 V) (res_main_v258 V) (res_main_v78 V) (res_main_v150 V) (res_main_v218 V)
theorem dt_at : dt V h t = w1 V h t * AttnRef1.den V h t + w4 V h t * AttnRef4.den V h t + w16 V h t * AttnRef16.den V h t :=
  sum_of h t (res_main_v254 V) (res_main_v256 V) (res_main_v258 V) (res_main_v80 V) (res_main_v152 V) (res_main_v220 V)
theorem gn_at : gn V h e t = Ideal.div (g V h e t) (dt V h t) := quotient_of h e t (res_main_v286 V) (res_main_v275 V)
theorem gd_at : gd V h t = -∑ e, g V h e t * Ideal.div 1 (dt V h t * dt V h t) * nt V h e t :=
  total_cotangent_of h t (res_main_v286 V) (res_main_v269 V) (res_main_v275 V)
theorem X1_at : X1 V h t = (gd V h t * AttnRef1.den V h t + ∑ e, gn V h e t * AttnRef1.num V h e t) * w1 V h t :=
  cotangent_of h t (res_main_v296 V) (res_main_v254 V) (res_main_v80 V) (res_main_v294 V) (res_main_v78 V)
theorem X4_at : X4 V h t = (gd V h t * AttnRef4.den V h t + ∑ e, gn V h e t * AttnRef4.num V h e t) * w4 V h t :=
  cotangent_of h t (res_main_v296 V) (res_main_v256 V) (res_main_v152 V) (res_main_v294 V) (res_main_v150 V)
theorem X16_at : X16 V h t = (gd V h t * AttnRef16.den V h t + ∑ e, gn V h e t * AttnRef16.num V h e t) * w16 V h t :=
  cotangent_of h t (res_main_v296 V) (res_main_v258 V) (res_main_v220 V) (res_main_v294 V) (res_main_v218 V)
theorem Y_at : Y V h t = -X16 V h t + -X4 V h t + -X1 V h t := by
  unfold Y X1 X4 X16
  pointwise [res_main_v334]
theorem Y'_factor : ∃ z, res_main_v337 V = mulf (res_main_v334 V) z := ⟨_, rfl⟩
theorem Y'_at (hY : Y V h t = 0) : Y' V h t = 0 :=
  (Y'_factor V).elim fun z hz => product_zero (res_main_v334 V) z (res_main_v337 V) hz (ix3 0 h t) hY

/-- The reference's forward pass and the cotangents of its totals, in real numbers. -/
structure Mixed (x : Fin 8 → Head) (y : Max) : Prop where
  m1 : ∀ (r : Fin 1) (n : Fin 16) (a : Fin 128) (t : Fin 2048), At 1 r n a t → AttnRef1.m V h r n a = ((y.M 1 t : ℝ) : EReal)
  m4 : ∀ (r : Fin 4) (n : Fin 4) (a : Fin 128) (t : Fin 2048), At 4 r n a t → AttnRef4.m V h r n a = ((y.M 4 t : ℝ) : EReal)
  m16 : ∀ (r : Fin 16) (n : Fin 1) (a : Fin 128) (t : Fin 2048), At 16 r n a t → AttnRef16.m V h r n a = ((y.M 16 t : ℝ) : EReal)
  w1 : ∀ t, w1 V h t = ((y.w 1 t : ℝ) : EReal)
  w4 : ∀ t, w4 V h t = ((y.w 4 t : ℝ) : EReal)
  w16 : ∀ t, w16 V h t = ((y.w 16 t : ℝ) : EReal)
  gn : ∀ t e, gn V h e t = ((y.gn (x h) t e : ℝ) : EReal)
  gd : ∀ t, gd V h t = ((y.gd (x h) t : ℝ) : EReal)
  X1 : ∀ t, X1 V h t = ((y.dw (x h) 1 t * y.w 1 t : ℝ) : EReal)
  X4 : ∀ t, X4 V h t = ((y.dw (x h) 4 t * y.w 4 t : ℝ) : EReal)
  X16 : ∀ t, X16 V h t = ((y.dw (x h) 16 t * y.w 16 t : ℝ) : EReal)
  Y : ∀ t, Y V h t = 0
  Y' : ∀ t, Y' V h t = 0

end Cert.AttnRef

end
-- ==== Proof.AttnMixed.lean ====
/- The reference's mixing step with its arrays' values. -/
module

public import proofs.«01_k».proof.Proof.AttnMix

@[expose] public section

noncomputable section

namespace Cert.AttnRef

open Cert.AttnRefIdeal Cert.AttnRefIdeal.Gen Cert.AttnRefIdeal.Value Idealize.ShloMosaic Cert.AttnMath

variable (V : Valuation τ sig (Elt Ideal)) (h : Fin 8)

theorem mixed (x : Fin 8 → Head) (I : Inputs V x) : ∃ y : Max, Mixed V h x y := by
  have h1 : ∀ t, ∃ M : ℝ, AttnRef1.mf V h t = (M : EReal) := fun t => by
    rw [AttnRef1.mf_at]
    rw [← AttnRef1.B_m V h x I]
    exact (AttnRef1.B V h x I).m_real _ _ _
  have h4 : ∀ t, ∃ M : ℝ, AttnRef4.mf V h t = (M : EReal) := fun t => by
    rw [AttnRef4.mf_at]
    rw [← AttnRef4.B_m V h x I]
    exact (AttnRef4.B V h x I).m_real _ _ _
  have h16 : ∀ t, ∃ M : ℝ, AttnRef16.mf V h t = (M : EReal) := fun t => by
    rw [AttnRef16.mf_at]
    rw [← AttnRef16.B_m V h x I]
    exact (AttnRef16.B V h x I).m_real _ _ _
  choose M1 f1 using h1
  choose M4 f4 using h4
  choose M16 f16 using h16
  refine ⟨⟨fun d => if d = 1 then M1 else if d = 4 then M4 else M16, fun t => max (max (M1 t) (M4 t)) (M16 t)⟩, ?_⟩
  set y : Max := ⟨fun d => if d = 1 then M1 else if d = 4 then M4 else M16, fun t => max (max (M1 t) (M4 t)) (M16 t)⟩ with hy
  have e1 : ∀ t, y.M 1 t = M1 t := fun t => rfl
  have e4 : ∀ t, y.M 4 t = M4 t := fun t => rfl
  have e16 : ∀ t, y.M 16 t = M16 t := fun t => rfl
  have hA : ∀ t, A V h t = ((y.A t : ℝ) : EReal) := fun t => by
    rw [A_at, f1, f4, f16]
    exact ((EReal.coe_strictMono.monotone.map_max).trans (congrArg₂ max (EReal.coe_strictMono.monotone.map_max) rfl)).symm
  have m1 : ∀ (r : Fin 1) (n : Fin 16) (a : Fin 128) (t : Fin 2048), At 1 r n a t → AttnRef1.m V h r n a = ((y.M 1 t : ℝ) : EReal) := fun r n a t ht => by
    rw [flat_of (Or.inl ⟨rfl, rfl⟩) (AttnRef1.m V h) (AttnRef1.mf V h) _ _ _ AttnRef1.at_self (AttnRef1.mf_at V h) r n a t ht, f1]
    rfl
  have m4 : ∀ (r : Fin 4) (n : Fin 4) (a : Fin 128) (t : Fin 2048), At 4 r n a t → AttnRef4.m V h r n a = ((y.M 4 t : ℝ) : EReal) := fun r n a t ht => by
    rw [flat_of (Or.inr (Or.inl ⟨rfl, rfl⟩)) (AttnRef4.m V h) (AttnRef4.mf V h) _ _ _ AttnRef4.at_self (AttnRef4.mf_at V h) r n a t ht, f4]
    rfl
  have m16 : ∀ (r : Fin 16) (n : Fin 1) (a : Fin 128) (t : Fin 2048), At 16 r n a t → AttnRef16.m V h r n a = ((y.M 16 t : ℝ) : EReal) := fun r n a t ht => by
    rw [flat_of (Or.inr (Or.inr ⟨rfl, rfl⟩)) (AttnRef16.m V h) (AttnRef16.mf V h) _ _ _ AttnRef16.at_self (AttnRef16.mf_at V h) r n a t ht, f16]
    rfl
  have hw1 : ∀ t, w1 V h t = ((y.w 1 t : ℝ) : EReal) := fun t => by
    rw [w1_at, f1, hA, ← EReal.coe_sub]
    rfl
  have hw4 : ∀ t, w4 V h t = ((y.w 4 t : ℝ) : EReal) := fun t => by
    rw [w4_at, f4, hA, ← EReal.coe_sub]
    rfl
  have hw16 : ∀ t, w16 V h t = ((y.w 16 t : ℝ) : EReal) := fun t => by
    rw [w16_at, f16, hA, ← EReal.coe_sub]
    rfl
  have n1 : ∀ t e, AttnRef1.num V h e t = ((y.nu (x h) 1 t e : ℝ) : EReal) := fun t e => by
    have k := (AttnRef1.B V h x I).num y _ _ _ t (AttnRef1.at_self t) ((congrFun (congrFun (congrFun (AttnRef1.B_m V h x I) _) _) _).trans (m1 _ _ _ _ (AttnRef1.at_self t))) e
    rw [AttnRef1.B_P, AttnRef1.B_vb] at k
    exact (AttnRef1.num_at V h e t).trans k
  have n4 : ∀ t e, AttnRef4.num V h e t = ((y.nu (x h) 4 t e : ℝ) : EReal) := fun t e => by
    have k := (AttnRef4.B V h x I).num y _ _ _ t (AttnRef4.at_self t) ((congrFun (congrFun (congrFun (AttnRef4.B_m V h x I) _) _) _).trans (m4 _ _ _ _ (AttnRef4.at_self t))) e
    rw [AttnRef4.B_P, AttnRef4.B_vb] at k
    exact (AttnRef4.num_at V h e t).trans k
  have n16 : ∀ t e, AttnRef16.num V h e t = ((y.nu (x h) 16 t e : ℝ) : EReal) := fun t e => by
    have k := (AttnRef16.B V h x I).num y _ _ _ t (AttnRef16.at_self t) ((congrFun (congrFun (congrFun (AttnRef16.B_m V h x I) _) _) _).trans (m16 _ _ _ _ (AttnRef16.at_self t))) e
    rw [AttnRef16.B_P, AttnRef16.B_vb] at k
    exact (AttnRef16.num_at V h e t).trans k
  have d1 : ∀ t, AttnRef1.den V h t = ((y.de (x h) 1 t : ℝ) : EReal) := fun t => by
    have k := (AttnRef1.B V h x I).den y _ _ _ t (AttnRef1.at_self t) ((congrFun (congrFun (congrFun (AttnRef1.B_m V h x I) _) _) _).trans (m1 _ _ _ _ (AttnRef1.at_self t)))
    rw [AttnRef1.B_P] at k
    exact (AttnRef1.den_at V h t).trans k
  have d4 : ∀ t, AttnRef4.den V h t = ((y.de (x h) 4 t : ℝ) : EReal) := fun t => by
    have k := (AttnRef4.B V h x I).den y _ _ _ t (AttnRef4.at_self t) ((congrFun (congrFun (congrFun (AttnRef4.B_m V h x I) _) _) _).trans (m4 _ _ _ _ (AttnRef4.at_self t)))
    rw [AttnRef4.B_P] at k
    exact (AttnRef4.den_at V h t).trans k
  have d16 : ∀ t, AttnRef16.den V h t = ((y.de (x h) 16 t : ℝ) : EReal) := fun t => by
    have k := (AttnRef16.B V h x I).den y _ _ _ t (AttnRef16.at_self t) ((congrFun (congrFun (congrFun (AttnRef16.B_m V h x I) _) _) _).trans (m16 _ _ _ _ (AttnRef16.at_self t)))
    rw [AttnRef16.B_P] at k
    exact (AttnRef16.den_at V h t).trans k
  obtain ⟨hgn, hgd, x1, x4, x16, hY⟩ := flow (x h) y (g V h) (gn V h) (nt V h) (AttnRef1.num V h) (AttnRef4.num V h) (AttnRef16.num V h)
    (w1 V h) (w4 V h) (w16 V h) (AttnRef1.den V h) (AttnRef4.den V h) (AttnRef16.den V h) (dt V h) (gd V h) (X1 V h) (X4 V h) (X16 V h) (Y V h)
    hw1 hw4 hw16 d1 d4 d16 n1 n4 n16 (fun t e => I.g h t e) (fun e t => nt_at V h e t) (dt_at V h) (fun e t => gn_at V h e t) (gd_at V h)
    (X1_at V h) (X4_at V h) (X16_at V h) (Y_at V h)
  exact ⟨m1, m4, m16, hw1, hw4, hw16, hgn, hgd, x1, x4, x16, hY, fun t => Y'_at V h t (hY t)⟩

end Cert.AttnRef

end
-- ==== Proof.AttnBack1.lean ====
/- The reference's pattern of dilation 1, backward: cotangents of its queries, keys and values. -/
module

public import proofs.«01_k».proof.Proof.AttnMixed
public import Idealize.ShloMosaic.Lib.KernelVsHost

@[expose] public section

set_option maxRecDepth 16384

noncomputable section

namespace Cert.AttnRef1

open Cert.AttnRefIdeal Cert.AttnRefIdeal.Gen Cert.AttnRefIdeal.Value Idealize.ShloMosaic Cert.AttnMath Cert.AttnRead Cert.AttnRef

section any
variable (h : Fin 8) (r : Fin 1) (n : Fin 16) (a : Fin 128) (c : Fin 256) (e : Fin 64) (t : Fin 2048)
variable (G : FVec Ideal S1x8x1x16x128x64 .f32) (vv : FVec Ideal S1x8x1x16x256x64 .f32) (p E ca : FVec Ideal S1x8x1x16x128x256 .f32)
  (mask : IVec S1x8x1x16x128x256 1) (w g X Y sel : FVec Ideal S1x8x2048 .f32) (z : FVec Ideal S1x8x2048x1 .f32) (u : FVec Ideal S1x8x2048x64 .f32)

theorem back_of : (shapeCast _ (transpose S1x8x1x2048x64 [0, 1, 3, 2, 4] (shapeCast _ (mulf (broadcastInDim S1x8x2048x64 ![0, 1, 2, 3] bcast_S1x8x2048x1_S1x8x2048x64_0_1_2_3 (broadcastInDim S1x8x2048x1 ![0, 1, 2] bcast_S1x8x2048_S1x8x2048x1_0_1_2 w)) u) shapeCasts_S1x8x2048x64_S1x8x2048x1x64) transposes_S1x8x2048x1x64_S1x8x1x2048x64_0_1_3_2_4) shapeCasts_S1x8x1x2048x64_S1x8x1x16x128x64 : FVec Ideal S1x8x1x16x128x64 .f32) (ix6 0 h r n a e)
    = (w (ix3 0 h ⟨(n.val * 128 + a.val) * 1 + r.val, pos_lt r n a⟩) : EReal) * u (ix4 0 h ⟨(n.val * 128 + a.val) * 1 + r.val, pos_lt r n a⟩ e) := by
  obtain rfl : r = 0 := Fin.ext (by omega)
  pointwise
theorem weight_back_of : (mulf (addf (Host.dotGeneral dot_S1x8x1x16x128x64_S1x8x1x16x256x64_S1x8x1x16x128x256_5_5_4_4_0123_0123 none G vv) (broadcastInDim S1x8x1x16x128x256 ![0, 1, 2, 3, 4] bcast_S1x8x1x16x128_S1x8x1x16x128x256_0_1_2_3_4 (shapeCast _ (transpose S1x8x1x2048 [0, 1, 3, 2] (shapeCast _ (mulf w g) shapeCasts_S1x8x2048_S1x8x2048x1) transposes_S1x8x2048x1_S1x8x1x2048_0_1_3_2) shapeCasts_S1x8x1x2048_S1x8x1x16x128))) p : FVec Ideal S1x8x1x16x128x256 .f32) (ix6 0 h r n a c)
    = (∑ e, (G (ix6 0 h r n a e) : EReal) * vv (ix6 0 h r n c e)
        + (w (ix3 0 h ⟨(n.val * 128 + a.val) * 1 + r.val, pos_lt r n a⟩) : EReal) * g (ix3 0 h ⟨(n.val * 128 + a.val) * 1 + r.val, pos_lt r n a⟩)) * p (ix6 0 h r n a c) := by
  obtain rfl : r = 0 := Fin.ext (by omega)
  pointwise
theorem score_back_key : (select mask (addf ca (mulf (broadcastInDim S1x8x1x16x128x256 ![0, 1, 2, 3, 4] bcast_S1x8x1x16x128_S1x8x1x16x128x256_0_1_2_3_4 (Host.divf (addf (shapeCast _ (transpose S1x8x1x2048 [0, 1, 3, 2] (shapeCast _ (addf X (mulf Y sel)) shapeCasts_S1x8x2048_S1x8x2048x1) transposes_S1x8x2048x1_S1x8x1x2048_0_1_3_2) shapeCasts_S1x8x1x2048_S1x8x1x16x128) (broadcastInDim S1x8x1x16x128 ![1, 3, 4] bcast_S8x16x128_S1x8x1x16x128_1_3_4 (Host.reduceAdd (shapeCast _ (Host.reduceAdd (Host.negf ca) (constant S_ .f32 0x00000000#32) reducesTo_S1x8x1x16x128x256_S1x8x1x16x128_d5 h_S_) shapeCasts_S1x8x1x16x128_S1x8x1x16x128x1) (constant S_ .f32 0x00000000#32) reducesTo_S1x8x1x16x128x1_S8x16x128_d0_2_5 h_S_))) (Host.reduceAdd E (constant S_ .f32 0x00000000#32) reducesTo_S1x8x1x16x128x256_S1x8x1x16x128_d5 h_S_))) E)) (broadcastInDim S1x8x1x16x128x256 ![] bcast_S_S1x8x1x16x128x256 (constant S_ .f32 0x00000000#32)) : FVec Ideal S1x8x1x16x128x256 .f32) (ix6 0 h r n a c)
    = Scalar.select (mask (ix6 0 h r n a c)) ((ca (ix6 0 h r n a c) : EReal) + Ideal.div (((X (ix3 0 h ⟨(n.val * 128 + a.val) * 1 + r.val, pos_lt r n a⟩) : EReal)
        + (Y (ix3 0 h ⟨(n.val * 128 + a.val) * 1 + r.val, pos_lt r n a⟩) : EReal) * sel (ix3 0 h ⟨(n.val * 128 + a.val) * 1 + r.val, pos_lt r n a⟩))
        + (0 + (0 + ∑ c, -(ca (ix6 0 h r n a c) : EReal)))) (0 + ∑ c, (E (ix6 0 h r n a c) : EReal)) * E (ix6 0 h r n a c)) 0 := by
  obtain rfl : r = 0 := Fin.ext (by omega)
  have s1 := fun v : FVec Ideal S1x8x1x16x128x256 .f32 => sum_last reducesTo_S1x8x1x16x128x256_S1x8x1x16x128_d5 0 h 0 n a v 0
  pointwise [sum_r6_025]
  rw [s1 E, s1 (Host.negf ca), zero_add, zero_add]
  rfl
theorem score_back_of (CA Ev : Fin 256 → EReal) (Xt : EReal) (hm : mask (ix6 0 h r n a c) = if valid n a c then 1#1 else 0#1)
    (hca : ∀ c, ca (ix6 0 h r n a c) = CA c) (hE : ∀ c, E (ix6 0 h r n a c) = Ev c)
    (hX : X (ix3 0 h ⟨(n.val * 128 + a.val) * 1 + r.val, pos_lt r n a⟩) = Xt) (hY : Y (ix3 0 h ⟨(n.val * 128 + a.val) * 1 + r.val, pos_lt r n a⟩) = (0 : EReal))
    (hz : Xt + 0 + ∑ c, -CA c = 0) :
    (select mask (addf ca (mulf (broadcastInDim S1x8x1x16x128x256 ![0, 1, 2, 3, 4] bcast_S1x8x1x16x128_S1x8x1x16x128x256_0_1_2_3_4 (Host.divf (addf (shapeCast _ (transpose S1x8x1x2048 [0, 1, 3, 2] (shapeCast _ (addf X (mulf Y sel)) shapeCasts_S1x8x2048_S1x8x2048x1) transposes_S1x8x2048x1_S1x8x1x2048_0_1_3_2) shapeCasts_S1x8x1x2048_S1x8x1x16x128) (broadcastInDim S1x8x1x16x128 ![1, 3, 4] bcast_S8x16x128_S1x8x1x16x128_1_3_4 (Host.reduceAdd (shapeCast _ (Host.reduceAdd (Host.negf ca) (constant S_ .f32 0x00000000#32) reducesTo_S1x8x1x16x128x256_S1x8x1x16x128_d5 h_S_) shapeCasts_S1x8x1x16x128_S1x8x1x16x128x1) (constant S_ .f32 0x00000000#32) reducesTo_S1x8x1x16x128x1_S8x16x128_d0_2_5 h_S_))) (Host.reduceAdd E (constant S_ .f32 0x00000000#32) reducesTo_S1x8x1x16x128x256_S1x8x1x16x128_d5 h_S_))) E)) (broadcastInDim S1x8x1x16x128x256 ![] bcast_S_S1x8x1x16x128x256 (constant S_ .f32 0x00000000#32)) : FVec Ideal S1x8x1x16x128x256 .f32) (ix6 0 h r n a c) = if valid n a c then CA c + Ideal.div 0 (∑ c, Ev c) * Ev c else 0 := by
  rw [score_back_key, hm, select_mask, hX, hY, zero_mul, zero_add, zero_add, zero_add]
  simp only [hca, hE]
  rw [hz]
theorem key_back_of (D : FVec Ideal S1x8x1x16x128x256 .f32) : (Host.dotGeneral dot_S1x8x1x16x128x256_S1x8x1x16x128x64_S1x8x1x16x256x64_4_4_5_5_0123_0123 none D G : FVec Ideal S1x8x1x16x256x64 .f32) (ix6 0 h r n c e)
    = ∑ a, (D (ix6 0 h r n a c) : EReal) * G (ix6 0 h r n a e) := by
  pointwise
theorem value_back_of : (transpose S1x8x1x16x256x64 [0, 1, 2, 3, 5, 4] (Host.dotGeneral dot_S1x8x1x16x128x64_S1x8x1x16x128x256_S1x8x1x16x64x256_4_4_5_5_0123_0123 none G p) transposes_S1x8x1x16x64x256_S1x8x1x16x256x64_0_1_2_3_5_4 : FVec Ideal S1x8x1x16x256x64 .f32) (ix6 0 h r n c e)
    = ∑ a, (G (ix6 0 h r n a e) : EReal) * p (ix6 0 h r n a c) := by
  obtain rfl : r = 0 := Fin.ext (by omega)
  pointwise
theorem low_half_of (b : Fin 128) : (extractStridedSlice S1x8x1x16x128x64 ![0, 0, 0, 0, 0, 0] vv slices_S1x8x1x16x256x64_S1x8x1x16x128x64_0_0_0_0_0_0 : FVec Ideal S1x8x1x16x128x64 .f32) (ix6 0 h r n b e) = (vv (ix6 0 h r n ⟨b.val, by omega⟩ e) : EReal) := by
  obtain rfl : r = 0 := Fin.ext (by omega)
  pointwise

/-- The queries' cotangent in the order of positions, of the scores' and the keys. -/
def qpart (D : FVec Ideal S1x8x1x16x128x256 .f32) (K : FVec Ideal S1x8x1x16x256x64 .f32) : FVec Ideal S1x8x2048x64 .f32 := (shapeCast _ (transpose S1x8x2048x1x64 [0, 1, 3, 2, 4] (shapeCast _ (Host.dotGeneral dot_S1x8x1x16x128x256_S1x8x1x16x256x64_S1x8x1x16x128x64_5_4_4_5_0123_0123 none D K) shapeCasts_S1x8x1x16x128x64_S1x8x1x2048x64) transposes_S1x8x1x2048x64_S1x8x2048x1x64_0_1_3_2_4) shapeCasts_S1x8x2048x1x64_S1x8x2048x64)
theorem qpart_at (D : FVec Ideal S1x8x1x16x128x256 .f32) : qpart D vv (ix4 0 h t e)
    = ∑ c, (D (ix6 0 h (strand t) (block t) (row t) c) : EReal) * vv (ix6 0 h (strand t) (block t) c e) := by
  unfold qpart strand block row
  pointwise
/-- The keys' or values' cotangent in the order of positions: a block's own half and the next block's other half. -/
def kpart (A : FVec Ideal S1x8x1x16x256x64 .f32) (L : FVec Ideal S1x8x1x16x128x64 .f32) : FVec Ideal S1x8x2048x64 .f32 := (shapeCast _ (transpose S1x8x2048x1x64 [0, 1, 3, 2, 4] (shapeCast _ (addf (extractStridedSlice S1x8x1x16x128x64 ![0, 0, 0, 0, 128, 0] A slices_S1x8x1x16x256x64_S1x8x1x16x128x64_0_0_0_0_128_0) (pad S1x8x1x16x128x64 ![0, 0, 0, 0, 0, 0] ![0, 0, 0, 1, 0, 0] ![0, 0, 0, 0, 0, 0] (extractStridedSlice S1x8x1x15x128x64 ![0, 0, 0, 1, 0, 0] L slices_S1x8x1x16x128x64_S1x8x1x15x128x64_0_0_0_1_0_0) (constant S_ .f32 0x00000000#32) pads_S1x8x1x15x128x64_S1x8x1x16x128x64_000_000_000_010_000_000 h_S_)) shapeCasts_S1x8x1x16x128x64_S1x8x1x2048x64) transposes_S1x8x1x2048x64_S1x8x2048x1x64_0_1_3_2_4) shapeCasts_S1x8x2048x1x64_S1x8x2048x64)
theorem kpart_at (L : FVec Ideal S1x8x1x16x128x64 .f32) : kpart vv L (ix4 0 h t e)
    = (vv (ix6 0 h (strand t) (block t) ⟨128 + (row t).val, by omega⟩ e) : EReal)
      + if hn : (block t).val + 1 < 16 then (L (ix6 0 h (strand t) ⟨(block t).val + 1, hn⟩ (row t) e) : EReal) else 0 := by
  unfold kpart strand block row
  pointwise
  have hc := Nat.add_comm 1 (t.val / 128)
  simp only [hc]
  congr 1
  split <;> split <;> first | rfl | (exfalso; omega)
end any

variable (V : Valuation τ sig (Elt Ideal)) (h : Fin 8) (x : Fin 8 → Head) (I : Inputs V x) (y : Max) (M : Mixed V h x y)
variable (r : Fin 1) (n : Fin 16) (a : Fin 128) (c : Fin 256) (e : Fin 64) (t : Fin 2048)

/-- What reaches the pattern's numerator, and its denominator, at a block's row. -/
def G : EReal := res_main_v451 V (ix6 0 h r n a e)
def gd : EReal := w1 V h ⟨(n.val * 128 + a.val) * 1 + r.val, pos_lt r n a⟩ * AttnRef.gd V h ⟨(n.val * 128 + a.val) * 1 + r.val, pos_lt r n a⟩
/-- The cotangents of weights and scores. -/
def ca : EReal := res_main_v457 V (ix6 0 h r n a c)
def cs : EReal := res_main_v468 V (ix6 0 h r n a c)

theorem G_at : G V h r n a e = w1 V h ⟨(n.val * 128 + a.val) * 1 + r.val, pos_lt r n a⟩ * gn V h e ⟨(n.val * 128 + a.val) * 1 + r.val, pos_lt r n a⟩ :=
  back_of h r n a e (res_main_v254 V) (res_main_v294 V)
include M in
theorem G_real (ht : At 1 r n a t) : G V h r n a e = ((y.w 1 t * y.gn (x h) t e : ℝ) : EReal) := by
  obtain rfl : t = ⟨_, pos_lt r n a⟩ := Fin.ext ht
  rw [G_at, M.w1, M.gn, EReal.coe_mul]
include M in
theorem G_real' (r : Fin 1) (n : Fin 16) (a : Fin 128) (t : Fin 2048) (e : Fin 64) (ht : At 1 r n a t) : G V h r n a e = ((y.w 1 t * y.gn (x h) t e : ℝ) : EReal) :=
  G_real V h x y M r n a e t ht
include M in
theorem gd_real (ht : At 1 r n a t) : gd V h r n a = ((y.w 1 t * y.gd (x h) t : ℝ) : EReal) := by
  obtain rfl : t = ⟨_, pos_lt r n a⟩ := Fin.ext ht
  unfold gd
  rw [M.w1, M.gd, EReal.coe_mul]
theorem ca_at : ca V h r n a c = (B V h x I).ca r n a (G V h r n a) (gd V h r n a) c := by
  unfold Branch.ca
  rw [B_vb, B_P]
  exact weight_back_of h r n a c (res_main_v451 V) (res_main_v31 V) (res_main_v71 V) (res_main_v254 V) (res_main_v296 V)
include M in
theorem max_at (ht : At 1 r n a t) : (B V h x I).m r n a = ((y.M 1 t : ℝ) : EReal) :=
  (congrFun (congrFun (congrFun (B_m V h x I) r) n) a).trans (M.m1 r n a t ht)
include M in
theorem cs_at : cs V h r n a c = (B V h x I).cs r n a (G V h r n a) (gd V h r n a) 0 c := by
  have ht : At 1 r n a ⟨_, pos_lt r n a⟩ := rfl
  unfold Branch.cs
  rw [B_E]
  exact score_back_of h r n a c (res_main_v66 V) (res_main_v457 V) (res_main_v61_1 V) (res_main_v332 V) (res_main_v337 V) _
    ((B V h x I).ca r n a (G V h r n a) (gd V h r n a)) (AttnRef1.E V h r n a) _ (mask_at V h r n a c) (fun c => ca_at V h x I r n a c) (fun c => rfl)
    (M.X1 _) (M.Y' _)
    ((B V h x I).max_zero y r n a _ ht (max_at V h x I y M r n a _ ht) (G V h r n a) (gd V h r n a) (fun e => G_real V h x y M r n a e _ ht) (gd_real V h x y M r n a _ ht))

include I M in
theorem dq_at : qpart (res_main_v468 V) (res_main_v25 V) (ix4 0 h t e) = ((∑ s : Fin 2048, bd 1 t s * (y.dsr (x h) 1 t s * (x h).k s e) : ℝ) : EReal) := by
  have ht := at_self t
  have k := (B V h x I).dq y _ _ _ t ht (max_at V h x I y M _ _ _ _ ht) (G V h _ _ _) (gd V h _ _ _) (fun e => G_real V h x y M _ _ _ e _ ht) (gd_real V h x y M _ _ _ _ ht) e
  rw [B_kb] at k
  refine (qpart_at h e t (res_main_v25 V) (res_main_v468 V)).trans (Eq.trans ?_ k)
  exact Finset.sum_congr rfl fun c _ => congrArg (· * kb V h (strand t) (block t) c e) (cs_at V h x I y M (strand t) (block t) (row t) c)

/-- The keys' cotangent of a block of keys. -/
theorem key_at : res_main_v469 V (ix6 0 h r n c e) = ∑ a, cs V h r n a c * qb V h r n a e :=
  key_back_of h r n c e (res_main_v17 V) (res_main_v468 V)
theorem value_at : res_main_v453 V (ix6 0 h r n c e) = ∑ a, G V h r n a e * P V h r n a c :=
  value_back_of h r n c e (res_main_v451 V) (res_main_v71 V)

include I M in
theorem dk_at : kpart (res_main_v469 V) (res_main_v477 V) (ix4 0 h t e) = ((∑ t' : Fin 2048, bd 1 t' t * (y.dsr (x h) 1 t' t * (x h).q t' e) : ℝ) : EReal) := by
  have hk : ∀ r n a c, (B V h x I).cs r n a (G V h r n a) (gd V h r n a) 0 c = cs V h r n a c := fun r n a c => (cs_at V h x I y M r n a c).symm
  have k := (B V h x I).dk y (strand t) (block t) (max_at V h x I y M) (G V h) (gd V h) (G_real' V h x y M) (gd_real V h x y M) (row t) t (at_self t) e
    (if hn : (block t).val + 1 < 16 then ∑ a, cs V h (strand t) ⟨(block t).val + 1, hn⟩ a ⟨(row t).val, by omega⟩ * qb V h (strand t) ⟨(block t).val + 1, hn⟩ a e else 0)
    (fun hn => by rw [dif_pos hn, B_qb]; simp only [hk]) (fun hn => dif_neg hn)
  rw [B_qb] at k
  simp only [hk] at k
  refine (kpart_at h e t (res_main_v469 V) (res_main_v477 V)).trans (Eq.trans ?_ k)
  refine congrArg₂ (· + ·) (key_at V h _ _ _ e) ?_
  split
  · exact (low_half_of h _ _ e (res_main_v469 V) _).trans (key_at V h _ _ _ e)
  · rfl

include I M in
theorem dv_at : kpart (res_main_v453 V) (res_main_v471 V) (ix4 0 h t e) = ((∑ t' : Fin 2048, bd 1 t' t * (y.w 1 t' * y.gn (x h) t' e * y.ew (x h) 1 t' t) : ℝ) : EReal) := by
  have k := (B V h x I).dv y (strand t) (block t) (max_at V h x I y M) (G V h) (G_real' V h x y M) (row t) t (at_self t) e
    (if hn : (block t).val + 1 < 16 then ∑ a, G V h (strand t) ⟨(block t).val + 1, hn⟩ a e * P V h (strand t) ⟨(block t).val + 1, hn⟩ a ⟨(row t).val, by omega⟩ else 0)
    (fun hn => by rw [dif_pos hn, B_P]) (fun hn => dif_neg hn)
  rw [B_P] at k
  refine (kpart_at h e t (res_main_v453 V) (res_main_v471 V)).trans (Eq.trans ?_ k)
  refine congrArg₂ (· + ·) (value_at V h _ _ _ e) ?_
  split
  · exact (low_half_of h _ _ e (res_main_v453 V) _).trans (value_at V h _ _ _ e)
  · rfl

end Cert.AttnRef1

end
-- ==== Proof.AttnBack4.lean ====
/- The reference's pattern of dilation 4, backward: cotangents of its queries, keys and values. -/
module

public import proofs.«01_k».proof.Proof.AttnMixed
public import Idealize.ShloMosaic.Lib.KernelVsHost

@[expose] public section

set_option maxRecDepth 16384

noncomputable section

namespace Cert.AttnRef4

open Cert.AttnRefIdeal Cert.AttnRefIdeal.Gen Cert.AttnRefIdeal.Value Idealize.ShloMosaic Cert.AttnMath Cert.AttnRead Cert.AttnRef

section any
variable (h : Fin 8) (r : Fin 4) (n : Fin 4) (a : Fin 128) (c : Fin 256) (e : Fin 64) (t : Fin 2048)
variable (G : FVec Ideal S1x8x4x4x128x64 .f32) (vv : FVec Ideal S1x8x4x4x256x64 .f32) (p E ca : FVec Ideal S1x8x4x4x128x256 .f32)
  (mask : IVec S1x8x4x4x128x256 1) (w g X Y sel : FVec Ideal S1x8x2048 .f32) (z : FVec Ideal S1x8x2048x1 .f32) (u : FVec Ideal S1x8x2048x64 .f32)

theorem back_of : (shapeCast _ (transpose S1x8x4x512x64 [0, 1, 3, 2, 4] (shapeCast _ (mulf (broadcastInDim S1x8x2048x64 ![0, 1, 2, 3] bcast_S1x8x2048x1_S1x8x2048x64_0_1_2_3 (broadcastInDim S1x8x2048x1 ![0, 1, 2] bcast_S1x8x2048_S1x8x2048x1_0_1_2 w)) u) shapeCasts_S1x8x2048x64_S1x8x512x4x64) transposes_S1x8x512x4x64_S1x8x4x512x64_0_1_3_2_4) shapeCasts_S1x8x4x512x64_S1x8x4x4x128x64 : FVec Ideal S1x8x4x4x128x64 .f32) (ix6 0 h r n a e)
    = (w (ix3 0 h ⟨(n.val * 128 + a.val) * 4 + r.val, pos_lt r n a⟩) : EReal) * u (ix4 0 h ⟨(n.val * 128 + a.val) * 4 + r.val, pos_lt r n a⟩ e) := by
  pointwise
theorem weight_back_of : (mulf (addf (Host.dotGeneral dot_S1x8x4x4x128x64_S1x8x4x4x256x64_S1x8x4x4x128x256_5_5_4_4_0123_0123 none G vv) (broadcastInDim S1x8x4x4x128x256 ![0, 1, 2, 3, 4] bcast_S1x8x4x4x128_S1x8x4x4x128x256_0_1_2_3_4 (shapeCast _ (transpose S1x8x4x512 [0, 1, 3, 2] (shapeCast _ (mulf w g) shapeCasts_S1x8x2048_S1x8x512x4) transposes_S1x8x512x4_S1x8x4x512_0_1_3_2) shapeCasts_S1x8x4x512_S1x8x4x4x128))) p : FVec Ideal S1x8x4x4x128x256 .f32) (ix6 0 h r n a c)
    = (∑ e, (G (ix6 0 h r n a e) : EReal) * vv (ix6 0 h r n c e)
        + (w (ix3 0 h ⟨(n.val * 128 + a.val) * 4 + r.val, pos_lt r n a⟩) : EReal) * g (ix3 0 h ⟨(n.val * 128 + a.val) * 4 + r.val, pos_lt r n a⟩)) * p (ix6 0 h r n a c) := by
  pointwise
theorem score_back_key : (select mask (addf ca (mulf (broadcastInDim S1x8x4x4x128x256 ![0, 1, 2, 3, 4] bcast_S1x8x4x4x128_S1x8x4x4x128x256_0_1_2_3_4 (Host.divf (addf (shapeCast _ (transpose S1x8x4x512 [0, 1, 3, 2] (shapeCast _ (addf X (mulf Y sel)) shapeCasts_S1x8x2048_S1x8x512x4) transposes_S1x8x512x4_S1x8x4x512_0_1_3_2) shapeCasts_S1x8x4x512_S1x8x4x4x128) (broadcastInDim S1x8x4x4x128 ![1, 2, 3, 4] bcast_S8x4x4x128_S1x8x4x4x128_1_2_3_4 (Host.reduceAdd (shapeCast _ (Host.reduceAdd (Host.negf ca) (constant S_ .f32 0x00000000#32) reducesTo_S1x8x4x4x128x256_S1x8x4x4x128_d5 h_S_) shapeCasts_S1x8x4x4x128_S1x8x4x4x128x1) (constant S_ .f32 0x00000000#32) reducesTo_S1x8x4x4x128x1_S8x4x4x128_d0_5 h_S_))) (Host.reduceAdd E (constant S_ .f32 0x00000000#32) reducesTo_S1x8x4x4x128x256_S1x8x4x4x128_d5 h_S_))) E)) (broadcastInDim S1x8x4x4x128x256 ![] bcast_S_S1x8x4x4x128x256 (constant S_ .f32 0x00000000#32)) : FVec Ideal S1x8x4x4x128x256 .f32) (ix6 0 h r n a c)
    = Scalar.select (mask (ix6 0 h r n a c)) ((ca (ix6 0 h r n a c) : EReal) + Ideal.div (((X (ix3 0 h ⟨(n.val * 128 + a.val) * 4 + r.val, pos_lt r n a⟩) : EReal)
        + (Y (ix3 0 h ⟨(n.val * 128 + a.val) * 4 + r.val, pos_lt r n a⟩) : EReal) * sel (ix3 0 h ⟨(n.val * 128 + a.val) * 4 + r.val, pos_lt r n a⟩))
        + (0 + (0 + ∑ c, -(ca (ix6 0 h r n a c) : EReal)))) (0 + ∑ c, (E (ix6 0 h r n a c) : EReal)) * E (ix6 0 h r n a c)) 0 := by
  have s1 := fun v : FVec Ideal S1x8x4x4x128x256 .f32 => sum_last reducesTo_S1x8x4x4x128x256_S1x8x4x4x128_d5 0 h r n a v 0
  pointwise [sum_r6_05]
  rw [s1 E, s1 (Host.negf ca), zero_add, zero_add]
  rfl
theorem score_back_of (CA Ev : Fin 256 → EReal) (Xt : EReal) (hm : mask (ix6 0 h r n a c) = if valid n a c then 1#1 else 0#1)
    (hca : ∀ c, ca (ix6 0 h r n a c) = CA c) (hE : ∀ c, E (ix6 0 h r n a c) = Ev c)
    (hX : X (ix3 0 h ⟨(n.val * 128 + a.val) * 4 + r.val, pos_lt r n a⟩) = Xt) (hY : Y (ix3 0 h ⟨(n.val * 128 + a.val) * 4 + r.val, pos_lt r n a⟩) = (0 : EReal))
    (hz : Xt + 0 + ∑ c, -CA c = 0) :
    (select mask (addf ca (mulf (broadcastInDim S1x8x4x4x128x256 ![0, 1, 2, 3, 4] bcast_S1x8x4x4x128_S1x8x4x4x128x256_0_1_2_3_4 (Host.divf (addf (shapeCast _ (transpose S1x8x4x512 [0, 1, 3, 2] (shapeCast _ (addf X (mulf Y sel)) shapeCasts_S1x8x2048_S1x8x512x4) transposes_S1x8x512x4_S1x8x4x512_0_1_3_2) shapeCasts_S1x8x4x512_S1x8x4x4x128) (broadcastInDim S1x8x4x4x128 ![1, 2, 3, 4] bcast_S8x4x4x128_S1x8x4x4x128_1_2_3_4 (Host.reduceAdd (shapeCast _ (Host.reduceAdd (Host.negf ca) (constant S_ .f32 0x00000000#32) reducesTo_S1x8x4x4x128x256_S1x8x4x4x128_d5 h_S_) shapeCasts_S1x8x4x4x128_S1x8x4x4x128x1) (constant S_ .f32 0x00000000#32) reducesTo_S1x8x4x4x128x1_S8x4x4x128_d0_5 h_S_))) (Host.reduceAdd E (constant S_ .f32 0x00000000#32) reducesTo_S1x8x4x4x128x256_S1x8x4x4x128_d5 h_S_))) E)) (broadcastInDim S1x8x4x4x128x256 ![] bcast_S_S1x8x4x4x128x256 (constant S_ .f32 0x00000000#32)) : FVec Ideal S1x8x4x4x128x256 .f32) (ix6 0 h r n a c) = if valid n a c then CA c + Ideal.div 0 (∑ c, Ev c) * Ev c else 0 := by
  rw [score_back_key, hm, select_mask, hX, hY, zero_mul, zero_add, zero_add, zero_add]
  simp only [hca, hE]
  rw [hz]
theorem key_back_of (D : FVec Ideal S1x8x4x4x128x256 .f32) : (Host.dotGeneral dot_S1x8x4x4x128x256_S1x8x4x4x128x64_S1x8x4x4x256x64_4_4_5_5_0123_0123 none D G : FVec Ideal S1x8x4x4x256x64 .f32) (ix6 0 h r n c e)
    = ∑ a, (D (ix6 0 h r n a c) : EReal) * G (ix6 0 h r n a e) := by
  pointwise
theorem value_back_of : (transpose S1x8x4x4x256x64 [0, 1, 2, 3, 5, 4] (Host.dotGeneral dot_S1x8x4x4x128x64_S1x8x4x4x128x256_S1x8x4x4x64x256_4_4_5_5_0123_0123 none G p) transposes_S1x8x4x4x64x256_S1x8x4x4x256x64_0_1_2_3_5_4 : FVec Ideal S1x8x4x4x256x64 .f32) (ix6 0 h r n c e)
    = ∑ a, (G (ix6 0 h r n a e) : EReal) * p (ix6 0 h r n a c) := by
  pointwise
theorem low_half_of (b : Fin 128) : (extractStridedSlice S1x8x4x4x128x64 ![0, 0, 0, 0, 0, 0] vv slices_S1x8x4x4x256x64_S1x8x4x4x128x64_0_0_0_0_0_0 : FVec Ideal S1x8x4x4x128x64 .f32) (ix6 0 h r n b e) = (vv (ix6 0 h r n ⟨b.val, by omega⟩ e) : EReal) := by
  pointwise

/-- The queries' cotangent in the order of positions, of the scores' and the keys. -/
def qpart (D : FVec Ideal S1x8x4x4x128x256 .f32) (K : FVec Ideal S1x8x4x4x256x64 .f32) : FVec Ideal S1x8x2048x64 .f32 := (shapeCast _ (transpose S1x8x512x4x64 [0, 1, 3, 2, 4] (shapeCast _ (Host.dotGeneral dot_S1x8x4x4x128x256_S1x8x4x4x256x64_S1x8x4x4x128x64_5_4_4_5_0123_0123 none D K) shapeCasts_S1x8x4x4x128x64_S1x8x4x512x64) transposes_S1x8x4x512x64_S1x8x512x4x64_0_1_3_2_4) shapeCasts_S1x8x512x4x64_S1x8x2048x64)
theorem qpart_at (D : FVec Ideal S1x8x4x4x128x256 .f32) : qpart D vv (ix4 0 h t e)
    = ∑ c, (D (ix6 0 h (strand t) (block t) (row t) c) : EReal) * vv (ix6 0 h (strand t) (block t) c e) := by
  unfold qpart strand block row
  pointwise
/-- The keys' or values' cotangent in the order of positions: a block's own half and the next block's other half. -/
def kpart (A : FVec Ideal S1x8x4x4x256x64 .f32) (L : FVec Ideal S1x8x4x4x128x64 .f32) : FVec Ideal S1x8x2048x64 .f32 := (shapeCast _ (transpose S1x8x512x4x64 [0, 1, 3, 2, 4] (shapeCast _ (addf (extractStridedSlice S1x8x4x4x128x64 ![0, 0, 0, 0, 128, 0] A slices_S1x8x4x4x256x64_S1x8x4x4x128x64_0_0_0_0_128_0) (pad S1x8x4x4x128x64 ![0, 0, 0, 0, 0, 0] ![0, 0, 0, 1, 0, 0] ![0, 0, 0, 0, 0, 0] (extractStridedSlice S1x8x4x3x128x64 ![0, 0, 0, 1, 0, 0] L slices_S1x8x4x4x128x64_S1x8x4x3x128x64_0_0_0_1_0_0) (constant S_ .f32 0x00000000#32) pads_S1x8x4x3x128x64_S1x8x4x4x128x64_000_000_000_010_000_000 h_S_)) shapeCasts_S1x8x4x4x128x64_S1x8x4x512x64) transposes_S1x8x4x512x64_S1x8x512x4x64_0_1_3_2_4) shapeCasts_S1x8x512x4x64_S1x8x2048x64)
theorem kpart_at (L : FVec Ideal S1x8x4x4x128x64 .f32) : kpart vv L (ix4 0 h t e)
    = (vv (ix6 0 h (strand t) (block t) ⟨128 + (row t).val, by omega⟩ e) : EReal)
      + if hn : (block t).val + 1 < 4 then (L (ix6 0 h (strand t) ⟨(block t).val + 1, hn⟩ (row t) e) : EReal) else 0 := by
  unfold kpart strand block row
  pointwise
  have hc := Nat.add_comm 1 (t.val / 4 / 128)
  simp only [hc]
  congr 1
  split <;> split <;> first | rfl | (exfalso; omega)
end any

variable (V : Valuation τ sig (Elt Ideal)) (h : Fin 8) (x : Fin 8 → Head) (I : Inputs V x) (y : Max) (M : Mixed V h x y)
variable (r : Fin 4) (n : Fin 4) (a : Fin 128) (c : Fin 256) (e : Fin 64) (t : Fin 2048)

/-- What reaches the pattern's numerator, and its denominator, at a block's row. -/
def G : EReal := res_main_v399 V (ix6 0 h r n a e)
def gd : EReal := w4 V h ⟨(n.val * 128 + a.val) * 4 + r.val, pos_lt r n a⟩ * AttnRef.gd V h ⟨(n.val * 128 + a.val) * 4 + r.val, pos_lt r n a⟩
/-- The cotangents of weights and scores. -/
def ca : EReal := res_main_v405 V (ix6 0 h r n a c)
def cs : EReal := res_main_v416 V (ix6 0 h r n a c)

theorem G_at : G V h r n a e = w4 V h ⟨(n.val * 128 + a.val) * 4 + r.val, pos_lt r n a⟩ * gn V h e ⟨(n.val * 128 + a.val) * 4 + r.val, pos_lt r n a⟩ :=
  back_of h r n a e (res_main_v256 V) (res_main_v294 V)
include M in
theorem G_real (ht : At 4 r n a t) : G V h r n a e = ((y.w 4 t * y.gn (x h) t e : ℝ) : EReal) := by
  obtain rfl : t = ⟨_, pos_lt r n a⟩ := Fin.ext ht
  rw [G_at, M.w4, M.gn, EReal.coe_mul]
include M in
theorem G_real' (r : Fin 4) (n : Fin 4) (a : Fin 128) (t : Fin 2048) (e : Fin 64) (ht : At 4 r n a t) : G V h r n a e = ((y.w 4 t * y.gn (x h) t e : ℝ) : EReal) :=
  G_real V h x y M r n a e t ht
include M in
theorem gd_real (ht : At 4 r n a t) : gd V h r n a = ((y.w 4 t * y.gd (x h) t : ℝ) : EReal) := by
  obtain rfl : t = ⟨_, pos_lt r n a⟩ := Fin.ext ht
  unfold gd
  rw [M.w4, M.gd, EReal.coe_mul]
theorem ca_at : ca V h r n a c = (B V h x I).ca r n a (G V h r n a) (gd V h r n a) c := by
  unfold Branch.ca
  rw [B_vb, B_P]
  exact weight_back_of h r n a c (res_main_v399 V) (res_main_v103 V) (res_main_v143 V) (res_main_v256 V) (res_main_v296 V)
include M in
theorem max_at (ht : At 4 r n a t) : (B V h x I).m r n a = ((y.M 4 t : ℝ) : EReal) :=
  (congrFun (congrFun (congrFun (B_m V h x I) r) n) a).trans (M.m4 r n a t ht)
include M in
theorem cs_at : cs V h r n a c = (B V h x I).cs r n a (G V h r n a) (gd V h r n a) 0 c := by
  have ht : At 4 r n a ⟨_, pos_lt r n a⟩ := rfl
  unfold Branch.cs
  rw [B_E]
  exact score_back_of h r n a c (res_main_v138 V) (res_main_v405 V) (res_main_v133_1 V) (res_main_v329 V) (res_main_v337 V) _
    ((B V h x I).ca r n a (G V h r n a) (gd V h r n a)) (AttnRef4.E V h r n a) _ (mask_at V h r n a c) (fun c => ca_at V h x I r n a c) (fun c => rfl)
    (M.X4 _) (M.Y' _)
    ((B V h x I).max_zero y r n a _ ht (max_at V h x I y M r n a _ ht) (G V h r n a) (gd V h r n a) (fun e => G_real V h x y M r n a e _ ht) (gd_real V h x y M r n a _ ht))

include I M in
theorem dq_at : qpart (res_main_v416 V) (res_main_v97 V) (ix4 0 h t e) = ((∑ s : Fin 2048, bd 4 t s * (y.dsr (x h) 4 t s * (x h).k s e) : ℝ) : EReal) := by
  have ht := at_self t
  have k := (B V h x I).dq y _ _ _ t ht (max_at V h x I y M _ _ _ _ ht) (G V h _ _ _) (gd V h _ _ _) (fun e => G_real V h x y M _ _ _ e _ ht) (gd_real V h x y M _ _ _ _ ht) e
  rw [B_kb] at k
  refine (qpart_at h e t (res_main_v97 V) (res_main_v416 V)).trans (Eq.trans ?_ k)
  exact Finset.sum_congr rfl fun c _ => congrArg (· * kb V h (strand t) (block t) c e) (cs_at V h x I y M (strand t) (block t) (row t) c)

/-- The keys' cotangent of a block of keys. -/
theorem key_at : res_main_v417 V (ix6 0 h r n c e) = ∑ a, cs V h r n a c * qb V h r n a e :=
  key_back_of h r n c e (res_main_v89 V) (res_main_v416 V)
theorem value_at : res_main_v401 V (ix6 0 h r n c e) = ∑ a, G V h r n a e * P V h r n a c :=
  value_back_of h r n c e (res_main_v399 V) (res_main_v143 V)

include I M in
theorem dk_at : kpart (res_main_v417 V) (res_main_v425 V) (ix4 0 h t e) = ((∑ t' : Fin 2048, bd 4 t' t * (y.dsr (x h) 4 t' t * (x h).q t' e) : ℝ) : EReal) := by
  have hk : ∀ r n a c, (B V h x I).cs r n a (G V h r n a) (gd V h r n a) 0 c = cs V h r n a c := fun r n a c => (cs_at V h x I y M r n a c).symm
  have k := (B V h x I).dk y (strand t) (block t) (max_at V h x I y M) (G V h) (gd V h) (G_real' V h x y M) (gd_real V h x y M) (row t) t (at_self t) e
    (if hn : (block t).val + 1 < 4 then ∑ a, cs V h (strand t) ⟨(block t).val + 1, hn⟩ a ⟨(row t).val, by omega⟩ * qb V h (strand t) ⟨(block t).val + 1, hn⟩ a e else 0)
    (fun hn => by rw [dif_pos hn, B_qb]; simp only [hk]) (fun hn => dif_neg hn)
  rw [B_qb] at k
  simp only [hk] at k
  refine (kpart_at h e t (res_main_v417 V) (res_main_v425 V)).trans (Eq.trans ?_ k)
  refine congrArg₂ (· + ·) (key_at V h _ _ _ e) ?_
  split
  · exact (low_half_of h _ _ e (res_main_v417 V) _).trans (key_at V h _ _ _ e)
  · rfl

include I M in
theorem dv_at : kpart (res_main_v401 V) (res_main_v419 V) (ix4 0 h t e) = ((∑ t' : Fin 2048, bd 4 t' t * (y.w 4 t' * y.gn (x h) t' e * y.ew (x h) 4 t' t) : ℝ) : EReal) := by
  have k := (B V h x I).dv y (strand t) (block t) (max_at V h x I y M) (G V h) (G_real' V h x y M) (row t) t (at_self t) e
    (if hn : (block t).val + 1 < 4 then ∑ a, G V h (strand t) ⟨(block t).val + 1, hn⟩ a e * P V h (strand t) ⟨(block t).val + 1, hn⟩ a ⟨(row t).val, by omega⟩ else 0)
    (fun hn => by rw [dif_pos hn, B_P]) (fun hn => dif_neg hn)
  rw [B_P] at k
  refine (kpart_at h e t (res_main_v401 V) (res_main_v419 V)).trans (Eq.trans ?_ k)
  refine congrArg₂ (· + ·) (value_at V h _ _ _ e) ?_
  split
  · exact (low_half_of h _ _ e (res_main_v401 V) _).trans (value_at V h _ _ _ e)
  · rfl

end Cert.AttnRef4

end
-- ==== Proof.AttnBack16.lean ====
/- The reference's pattern of dilation 16, backward: cotangents of its queries, keys and values. -/
module

public import proofs.«01_k».proof.Proof.AttnMixed
public import Idealize.ShloMosaic.Lib.KernelVsHost

@[expose] public section

set_option maxRecDepth 16384

noncomputable section

namespace Cert.AttnRef16

open Cert.AttnRefIdeal Cert.AttnRefIdeal.Gen Cert.AttnRefIdeal.Value Idealize.ShloMosaic Cert.AttnMath Cert.AttnRead Cert.AttnRef

section any
variable (h : Fin 8) (r : Fin 16) (n : Fin 1) (a : Fin 128) (c : Fin 256) (e : Fin 64) (t : Fin 2048)
variable (G : FVec Ideal S1x8x16x1x128x64 .f32) (vv : FVec Ideal S1x8x16x1x256x64 .f32) (p E ca : FVec Ideal S1x8x16x1x128x256 .f32)
  (mask : IVec S1x8x16x1x128x256 1) (w g X Y sel : FVec Ideal S1x8x2048 .f32) (z : FVec Ideal S1x8x2048x1 .f32) (u : FVec Ideal S1x8x2048x64 .f32)

theorem back_of : (shapeCast _ (transpose S1x8x16x128x64 [0, 1, 3, 2, 4] (shapeCast _ (mulf (broadcastInDim S1x8x2048x64 ![0, 1, 2, 3] bcast_S1x8x2048x1_S1x8x2048x64_0_1_2_3 (broadcastInDim S1x8x2048x1 ![0, 1, 2] bcast_S1x8x2048_S1x8x2048x1_0_1_2 w)) u) shapeCasts_S1x8x2048x64_S1x8x128x16x64) transposes_S1x8x128x16x64_S1x8x16x128x64_0_1_3_2_4) shapeCasts_S1x8x16x128x64_S1x8x16x1x128x64 : FVec Ideal S1x8x16x1x128x64 .f32) (ix6 0 h r n a e)
    = (w (ix3 0 h ⟨(n.val * 128 + a.val) * 16 + r.val, pos_lt r n a⟩) : EReal) * u (ix4 0 h ⟨(n.val * 128 + a.val) * 16 + r.val, pos_lt r n a⟩ e) := by
  obtain rfl : n = 0 := Fin.ext (by omega)
  pointwise
theorem weight_back_of : (mulf (addf (Host.dotGeneral dot_S1x8x16x1x128x64_S1x8x16x1x256x64_S1x8x16x1x128x256_5_5_4_4_0123_0123 none G vv) (broadcastInDim S1x8x16x1x128x256 ![0, 1, 2, 3, 4] bcast_S1x8x16x1x128_S1x8x16x1x128x256_0_1_2_3_4 (shapeCast _ (transpose S1x8x16x128 [0, 1, 3, 2] (shapeCast _ (mulf w g) shapeCasts_S1x8x2048_S1x8x128x16) transposes_S1x8x128x16_S1x8x16x128_0_1_3_2) shapeCasts_S1x8x16x128_S1x8x16x1x128))) p : FVec Ideal S1x8x16x1x128x256 .f32) (ix6 0 h r n a c)
    = (∑ e, (G (ix6 0 h r n a e) : EReal) * vv (ix6 0 h r n c e)
        + (w (ix3 0 h ⟨(n.val * 128 + a.val) * 16 + r.val, pos_lt r n a⟩) : EReal) * g (ix3 0 h ⟨(n.val * 128 + a.val) * 16 + r.val, pos_lt r n a⟩)) * p (ix6 0 h r n a c) := by
  obtain rfl : n = 0 := Fin.ext (by omega)
  pointwise
theorem score_back_key : (select mask (addf ca (mulf (broadcastInDim S1x8x16x1x128x256 ![0, 1, 2, 3, 4] bcast_S1x8x16x1x128_S1x8x16x1x128x256_0_1_2_3_4 (Host.divf (addf (shapeCast _ (transpose S1x8x16x128 [0, 1, 3, 2] (shapeCast _ (addf X (mulf Y sel)) shapeCasts_S1x8x2048_S1x8x128x16) transposes_S1x8x128x16_S1x8x16x128_0_1_3_2) shapeCasts_S1x8x16x128_S1x8x16x1x128) (broadcastInDim S1x8x16x1x128 ![1, 2, 4] bcast_S8x16x128_S1x8x16x1x128_1_2_4 (Host.reduceAdd (shapeCast _ (Host.reduceAdd (Host.negf ca) (constant S_ .f32 0x00000000#32) reducesTo_S1x8x16x1x128x256_S1x8x16x1x128_d5 h_S_) shapeCasts_S1x8x16x1x128_S1x8x16x1x128x1) (constant S_ .f32 0x00000000#32) reducesTo_S1x8x16x1x128x1_S8x16x128_d0_3_5 h_S_))) (Host.reduceAdd E (constant S_ .f32 0x00000000#32) reducesTo_S1x8x16x1x128x256_S1x8x16x1x128_d5 h_S_))) E)) (broadcastInDim S1x8x16x1x128x256 ![] bcast_S_S1x8x16x1x128x256 (constant S_ .f32 0x00000000#32)) : FVec Ideal S1x8x16x1x128x256 .f32) (ix6 0 h r n a c)
    = Scalar.select (mask (ix6 0 h r n a c)) ((ca (ix6 0 h r n a c) : EReal) + Ideal.div (((X (ix3 0 h ⟨(n.val * 128 + a.val) * 16 + r.val, pos_lt r n a⟩) : EReal)
        + (Y (ix3 0 h ⟨(n.val * 128 + a.val) * 16 + r.val, pos_lt r n a⟩) : EReal) * sel (ix3 0 h ⟨(n.val * 128 + a.val) * 16 + r.val, pos_lt r n a⟩))
        + (0 + (0 + ∑ c, -(ca (ix6 0 h r n a c) : EReal)))) (0 + ∑ c, (E (ix6 0 h r n a c) : EReal)) * E (ix6 0 h r n a c)) 0 := by
  obtain rfl : n = 0 := Fin.ext (by omega)
  have s1 := fun v : FVec Ideal S1x8x16x1x128x256 .f32 => sum_last reducesTo_S1x8x16x1x128x256_S1x8x16x1x128_d5 0 h r 0 a v 0
  pointwise [sum_r6_035]
  rw [s1 E, s1 (Host.negf ca), zero_add, zero_add]
  rfl
theorem score_back_of (CA Ev : Fin 256 → EReal) (Xt : EReal) (hm : mask (ix6 0 h r n a c) = if valid n a c then 1#1 else 0#1)
    (hca : ∀ c, ca (ix6 0 h r n a c) = CA c) (hE : ∀ c, E (ix6 0 h r n a c) = Ev c)
    (hX : X (ix3 0 h ⟨(n.val * 128 + a.val) * 16 + r.val, pos_lt r n a⟩) = Xt) (hY : Y (ix3 0 h ⟨(n.val * 128 + a.val) * 16 + r.val, pos_lt r n a⟩) = (0 : EReal))
    (hz : Xt + 0 + ∑ c, -CA c = 0) :
    (select mask (addf ca (mulf (broadcastInDim S1x8x16x1x128x256 ![0, 1, 2, 3, 4] bcast_S1x8x16x1x128_S1x8x16x1x128x256_0_1_2_3_4 (Host.divf (addf (shapeCast _ (transpose S1x8x16x128 [0, 1, 3, 2] (shapeCast _ (addf X (mulf Y sel)) shapeCasts_S1x8x2048_S1x8x128x16) transposes_S1x8x128x16_S1x8x16x128_0_1_3_2) shapeCasts_S1x8x16x128_S1x8x16x1x128) (broadcastInDim S1x8x16x1x128 ![1, 2, 4] bcast_S8x16x128_S1x8x16x1x128_1_2_4 (Host.reduceAdd (shapeCast _ (Host.reduceAdd (Host.negf ca) (constant S_ .f32 0x00000000#32) reducesTo_S1x8x16x1x128x256_S1x8x16x1x128_d5 h_S_) shapeCasts_S1x8x16x1x128_S1x8x16x1x128x1) (constant S_ .f32 0x00000000#32) reducesTo_S1x8x16x1x128x1_S8x16x128_d0_3_5 h_S_))) (Host.reduceAdd E (constant S_ .f32 0x00000000#32) reducesTo_S1x8x16x1x128x256_S1x8x16x1x128_d5 h_S_))) E)) (broadcastInDim S1x8x16x1x128x256 ![] bcast_S_S1x8x16x1x128x256 (constant S_ .f32 0x00000000#32)) : FVec Ideal S1x8x16x1x128x256 .f32) (ix6 0 h r n a c) = if valid n a c then CA c + Ideal.div 0 (∑ c, Ev c) * Ev c else 0 := by
  rw [score_back_key, hm, select_mask, hX, hY, zero_mul, zero_add, zero_add, zero_add]
  simp only [hca, hE]
  rw [hz]
theorem key_back_of (D : FVec Ideal S1x8x16x1x128x256 .f32) : (Host.dotGeneral dot_S1x8x16x1x128x256_S1x8x16x1x128x64_S1x8x16x1x256x64_4_4_5_5_0123_0123 none D G : FVec Ideal S1x8x16x1x256x64 .f32) (ix6 0 h r n c e)
    = ∑ a, (D (ix6 0 h r n a c) : EReal) * G (ix6 0 h r n a e) := by
  pointwise
theorem value_back_of : (transpose S1x8x16x1x256x64 [0, 1, 2, 3, 5, 4] (Host.dotGeneral dot_S1x8x16x1x128x64_S1x8x16x1x128x256_S1x8x16x1x64x256_4_4_5_5_0123_0123 none G p) transposes_S1x8x16x1x64x256_S1x8x16x1x256x64_0_1_2_3_5_4 : FVec Ideal S1x8x16x1x256x64 .f32) (ix6 0 h r n c e)
    = ∑ a, (G (ix6 0 h r n a e) : EReal) * p (ix6 0 h r n a c) := by
  obtain rfl : n = 0 := Fin.ext (by omega)
  pointwise
theorem low_half_of (b : Fin 128) : (extractStridedSlice S1x8x16x1x128x64 ![0, 0, 0, 0, 0, 0] vv slices_S1x8x16x1x256x64_S1x8x16x1x128x64_0_0_0_0_0_0 : FVec Ideal S1x8x16x1x128x64 .f32) (ix6 0 h r n b e) = (vv (ix6 0 h r n ⟨b.val, by omega⟩ e) : EReal) := by
  obtain rfl : n = 0 := Fin.ext (by omega)
  pointwise

/-- The queries' cotangent in the order of positions, of the scores' and the keys. -/
def qpart (D : FVec Ideal S1x8x16x1x128x256 .f32) (K : FVec Ideal S1x8x16x1x256x64 .f32) : FVec Ideal S1x8x2048x64 .f32 := (shapeCast _ (transpose S1x8x128x16x64 [0, 1, 3, 2, 4] (shapeCast _ (Host.dotGeneral dot_S1x8x16x1x128x256_S1x8x16x1x256x64_S1x8x16x1x128x64_5_4_4_5_0123_0123 none D K) shapeCasts_S1x8x16x1x128x64_S1x8x16x128x64) transposes_S1x8x16x128x64_S1x8x128x16x64_0_1_3_2_4) shapeCasts_S1x8x128x16x64_S1x8x2048x64)
theorem qpart_at (D : FVec Ideal S1x8x16x1x128x256 .f32) : qpart D vv (ix4 0 h t e)
    = ∑ c, (D (ix6 0 h (strand t) (block t) (row t) c) : EReal) * vv (ix6 0 h (strand t) (block t) c e) := by
  unfold qpart strand block row
  pointwise
/-- The keys' or values' cotangent in the order of positions: a block's own half and the next block's other half. -/
def kpart (A : FVec Ideal S1x8x16x1x256x64 .f32) (L : FVec Ideal S1x8x16x1x128x64 .f32) : FVec Ideal S1x8x2048x64 .f32 := (shapeCast _ (transpose S1x8x128x16x64 [0, 1, 3, 2, 4] (shapeCast _ (addf (extractStridedSlice S1x8x16x1x128x64 ![0, 0, 0, 0, 128, 0] A slices_S1x8x16x1x256x64_S1x8x16x1x128x64_0_0_0_0_128_0) (pad S1x8x16x1x128x64 ![0, 0, 0, 0, 0, 0] ![0, 0, 0, 1, 0, 0] ![0, 0, 0, 0, 0, 0] (extractStridedSlice S1x8x16x0x128x64 ![0, 0, 0, 1, 0, 0] L slices_S1x8x16x1x128x64_S1x8x16x0x128x64_0_0_0_1_0_0) (constant S_ .f32 0x00000000#32) pads_S1x8x16x0x128x64_S1x8x16x1x128x64_000_000_000_010_000_000 h_S_)) shapeCasts_S1x8x16x1x128x64_S1x8x16x128x64) transposes_S1x8x16x128x64_S1x8x128x16x64_0_1_3_2_4) shapeCasts_S1x8x128x16x64_S1x8x2048x64)
theorem pad_zero (o : FVec Ideal S1x8x16x0x128x64 .f32) (i : S1x8x16x1x128x64.Idx) : (pad S1x8x16x1x128x64 ![0, 0, 0, 0, 0, 0] ![0, 0, 0, 1, 0, 0] ![0, 0, 0, 0, 0, 0] o (constant S_ .f32 0x00000000#32) pads_S1x8x16x0x128x64_S1x8x16x1x128x64_000_000_000_010_000_000 h_S_ : FVec Ideal S1x8x16x1x128x64 .f32) i = (0 : EReal) := by
  rw [pad_apply_of_not_inside _ _ _ _ _ _ _ _ 3 (by
    rintro ⟨_, _, h3⟩
    exact absurd h3 (Nat.not_lt_zero _))]
  pointwise
theorem kpart_shape (L : FVec Ideal S1x8x16x1x128x64 .f32) : ((shapeCast _ (transpose S1x8x128x16x64 [0, 1, 3, 2, 4] (shapeCast _ (addf (extractStridedSlice S1x8x16x1x128x64 ![0, 0, 0, 0, 128, 0] vv slices_S1x8x16x1x256x64_S1x8x16x1x128x64_0_0_0_0_128_0) L) shapeCasts_S1x8x16x1x128x64_S1x8x16x128x64) transposes_S1x8x16x128x64_S1x8x128x16x64_0_1_3_2_4) shapeCasts_S1x8x128x16x64_S1x8x2048x64) : FVec Ideal S1x8x2048x64 .f32) (ix4 0 h t e)
    = (vv (ix6 0 h (strand t) (block t) ⟨128 + (row t).val, by omega⟩ e) : EReal) + L (ix6 0 h (strand t) (block t) (row t) e) := by
  unfold strand block row
  pointwise
theorem kpart_at (L : FVec Ideal S1x8x16x1x128x64 .f32) : kpart vv L (ix4 0 h t e)
    = (vv (ix6 0 h (strand t) (block t) ⟨128 + (row t).val, by omega⟩ e) : EReal)
      + if hn : (block t).val + 1 < 1 then (L (ix6 0 h (strand t) ⟨(block t).val + 1, hn⟩ (row t) e) : EReal) else 0 := by
  rw [dif_neg (by unfold block; decide)]
  exact (kpart_shape h e t vv _).trans (congrArg (_ + ·) (pad_zero _ _))
end any

variable (V : Valuation τ sig (Elt Ideal)) (h : Fin 8) (x : Fin 8 → Head) (I : Inputs V x) (y : Max) (M : Mixed V h x y)
variable (r : Fin 16) (n : Fin 1) (a : Fin 128) (c : Fin 256) (e : Fin 64) (t : Fin 2048)

/-- What reaches the pattern's numerator, and its denominator, at a block's row. -/
def G : EReal := res_main_v350 V (ix6 0 h r n a e)
def gd : EReal := w16 V h ⟨(n.val * 128 + a.val) * 16 + r.val, pos_lt r n a⟩ * AttnRef.gd V h ⟨(n.val * 128 + a.val) * 16 + r.val, pos_lt r n a⟩
/-- The cotangents of weights and scores. -/
def ca : EReal := res_main_v356 V (ix6 0 h r n a c)
def cs : EReal := res_main_v367 V (ix6 0 h r n a c)

theorem G_at : G V h r n a e = w16 V h ⟨(n.val * 128 + a.val) * 16 + r.val, pos_lt r n a⟩ * gn V h e ⟨(n.val * 128 + a.val) * 16 + r.val, pos_lt r n a⟩ :=
  back_of h r n a e (res_main_v258 V) (res_main_v294 V)
include M in
theorem G_real (ht : At 16 r n a t) : G V h r n a e = ((y.w 16 t * y.gn (x h) t e : ℝ) : EReal) := by
  obtain rfl : t = ⟨_, pos_lt r n a⟩ := Fin.ext ht
  rw [G_at, M.w16, M.gn, EReal.coe_mul]
include M in
theorem G_real' (r : Fin 16) (n : Fin 1) (a : Fin 128) (t : Fin 2048) (e : Fin 64) (ht : At 16 r n a t) : G V h r n a e = ((y.w 16 t * y.gn (x h) t e : ℝ) : EReal) :=
  G_real V h x y M r n a e t ht
include M in
theorem gd_real (ht : At 16 r n a t) : gd V h r n a = ((y.w 16 t * y.gd (x h) t : ℝ) : EReal) := by
  obtain rfl : t = ⟨_, pos_lt r n a⟩ := Fin.ext ht
  unfold gd
  rw [M.w16, M.gd, EReal.coe_mul]
theorem ca_at : ca V h r n a c = (B V h x I).ca r n a (G V h r n a) (gd V h r n a) c := by
  unfold Branch.ca
  rw [B_vb, B_P]
  exact weight_back_of h r n a c (res_main_v350 V) (res_main_v173 V) (res_main_v211 V) (res_main_v258 V) (res_main_v296 V)
include M in
theorem max_at (ht : At 16 r n a t) : (B V h x I).m r n a = ((y.M 16 t : ℝ) : EReal) :=
  (congrFun (congrFun (congrFun (B_m V h x I) r) n) a).trans (M.m16 r n a t ht)
include M in
theorem cs_at : cs V h r n a c = (B V h x I).cs r n a (G V h r n a) (gd V h r n a) 0 c := by
  have ht : At 16 r n a ⟨_, pos_lt r n a⟩ := rfl
  unfold Branch.cs
  rw [B_E]
  exact score_back_of h r n a c (res_main_v206 V) (res_main_v356 V) (res_main_v201_1 V) (res_main_v327 V) (res_main_v334 V) _
    ((B V h x I).ca r n a (G V h r n a) (gd V h r n a)) (AttnRef16.E V h r n a) _ (mask_at V h r n a c) (fun c => ca_at V h x I r n a c) (fun c => rfl)
    (M.X16 _) (M.Y _)
    ((B V h x I).max_zero y r n a _ ht (max_at V h x I y M r n a _ ht) (G V h r n a) (gd V h r n a) (fun e => G_real V h x y M r n a e _ ht) (gd_real V h x y M r n a _ ht))

include I M in
theorem dq_at : qpart (res_main_v367 V) (res_main_v168 V) (ix4 0 h t e) = ((∑ s : Fin 2048, bd 16 t s * (y.dsr (x h) 16 t s * (x h).k s e) : ℝ) : EReal) := by
  have ht := at_self t
  have k := (B V h x I).dq y _ _ _ t ht (max_at V h x I y M _ _ _ _ ht) (G V h _ _ _) (gd V h _ _ _) (fun e => G_real V h x y M _ _ _ e _ ht) (gd_real V h x y M _ _ _ _ ht) e
  rw [B_kb] at k
  refine (qpart_at h e t (res_main_v168 V) (res_main_v367 V)).trans (Eq.trans ?_ k)
  exact Finset.sum_congr rfl fun c _ => congrArg (· * kb V h (strand t) (block t) c e) (cs_at V h x I y M (strand t) (block t) (row t) c)

/-- The keys' cotangent of a block of keys. -/
theorem key_at : res_main_v368 V (ix6 0 h r n c e) = ∑ a, cs V h r n a c * qb V h r n a e :=
  key_back_of h r n c e (res_main_v161 V) (res_main_v367 V)
theorem value_at : res_main_v352 V (ix6 0 h r n c e) = ∑ a, G V h r n a e * P V h r n a c :=
  value_back_of h r n c e (res_main_v350 V) (res_main_v211 V)

include I M in
theorem dk_at : kpart (res_main_v368 V) (res_main_v376 V) (ix4 0 h t e) = ((∑ t' : Fin 2048, bd 16 t' t * (y.dsr (x h) 16 t' t * (x h).q t' e) : ℝ) : EReal) := by
  have hk : ∀ r n a c, (B V h x I).cs r n a (G V h r n a) (gd V h r n a) 0 c = cs V h r n a c := fun r n a c => (cs_at V h x I y M r n a c).symm
  have k := (B V h x I).dk y (strand t) (block t) (max_at V h x I y M) (G V h) (gd V h) (G_real' V h x y M) (gd_real V h x y M) (row t) t (at_self t) e
    (if hn : (block t).val + 1 < 1 then ∑ a, cs V h (strand t) ⟨(block t).val + 1, hn⟩ a ⟨(row t).val, by omega⟩ * qb V h (strand t) ⟨(block t).val + 1, hn⟩ a e else 0)
    (fun hn => by rw [dif_pos hn, B_qb]; simp only [hk]) (fun hn => dif_neg hn)
  rw [B_qb] at k
  simp only [hk] at k
  refine (kpart_at h e t (res_main_v368 V) (res_main_v376 V)).trans (Eq.trans ?_ k)
  refine congrArg₂ (· + ·) (key_at V h _ _ _ e) ?_
  split
  · exact (low_half_of h _ _ e (res_main_v368 V) _).trans (key_at V h _ _ _ e)
  · rfl

include I M in
theorem dv_at : kpart (res_main_v352 V) (res_main_v370 V) (ix4 0 h t e) = ((∑ t' : Fin 2048, bd 16 t' t * (y.w 16 t' * y.gn (x h) t' e * y.ew (x h) 16 t' t) : ℝ) : EReal) := by
  have k := (B V h x I).dv y (strand t) (block t) (max_at V h x I y M) (G V h) (G_real' V h x y M) (row t) t (at_self t) e
    (if hn : (block t).val + 1 < 1 then ∑ a, G V h (strand t) ⟨(block t).val + 1, hn⟩ a e * P V h (strand t) ⟨(block t).val + 1, hn⟩ a ⟨(row t).val, by omega⟩ else 0)
    (fun hn => by rw [dif_pos hn, B_P]) (fun hn => dif_neg hn)
  rw [B_P] at k
  refine (kpart_at h e t (res_main_v352 V) (res_main_v370 V)).trans (Eq.trans ?_ k)
  refine congrArg₂ (· + ·) (value_at V h _ _ _ e) ?_
  split
  · exact (low_half_of h _ _ e (res_main_v352 V) _).trans (value_at V h _ _ _ e)
  · rfl

end Cert.AttnRef16

end
-- ==== Proof.AttnTile.lean ====
/- The attention's gradient, tile by tile: what a grid point reads, what it computes of it, and how rows are put into the running sum. -/
module

public import proofs.«01_k».proof.Proof.Gen.AttnIdeal.Skeleton
public import proofs.«01_k».proof.Proof.Gen.AttnIdeal.Frame
public import Idealize.ShloMosaic.Lib.Pipeline.ValueKit
public import Idealize.ShloMosaic.Lib.WritesUnit

@[expose] public section

set_option maxRecDepth 16384

noncomputable section

namespace Cert.AttnRun

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The seven blocks a point reads: the queries, its tile of the keys and of the values, the output, its rows' log-sums,
the output's gradient, and the table of biases. -/
structure Blocks (F : FTy → Type) where
  q : Vec F S2048x128 .f32
  k : Vec F S1024x128 .f32
  v : Vec F S1024x128 .f32
  o : Vec F S2048x128 .f32
  lse : Vec F S1x2x8x1024 .f32
  d : Vec F S2048x128 .f32
  bias : Vec F S2x1024x1024 .f32

/-- What a point loads for the tile on the diagonal: for the first half of the keys the whole tile of queries, for the
second half the second half of the queries. -/
structure Diag (F : FTy → Type) where
  k : Vec F S1024x128 .f32
  v : Vec F S1024x128 .f32
  lse : Vec F S1x1x8x1024 .f32
  bias : Vec F S1x512x1024 .f32
  q : Vec F S1024x128 .f32
  d : Vec F S1024x128 .f32
  o : Vec F S1024x128 .f32
  bias2 : Vec F S1x512x512 .f32
  q2 : Vec F S512x128 .f32
  d2 : Vec F S512x128 .f32
  o2 : Vec F S512x128 .f32

/-- What a point loads for a later tile of queries. -/
structure Later (F : FTy → Type) where
  k : Vec F S1024x128 .f32
  v : Vec F S1024x128 .f32
  lse : Vec F S1x1x8x1024 .f32
  bias : Vec F S1x1024x1024 .f32
  q : Vec F S1024x128 .f32
  d : Vec F S1024x128 .f32
  o : Vec F S1024x128 .f32

/-- The four sums a point carries: keys' and values' gradient of its two heads. -/
abbrev Sums (F : FTy → Type) := FVec F S1024x64 .f32 × FVec F S1024x64 .f32 × FVec F S1024x64 .f32 × FVec F S1024x64 .f32

/-- Rows `o …` of `x`. -/
def rows (o R : ℕ) (h : o + R ≤ 2048) (x : FVec F S2048x128 .f32) : FVec F ⟨2, ![R, 128]⟩ .f32 := fun z =>
  x (ix2 ⟨o + (z 0).val, by have h0 : (z 0).val < R := (z 0).isLt; omega⟩ (z 1))

/-- `x` with its rows `o …` replaced. -/
def put (o R : ℕ) (w : FVec F ⟨2, ![R, 128]⟩ .f32) (x : FVec F S2048x128 .f32) : FVec F S2048x128 .f32 := fun y =>
  if h : o ≤ (y 0).val ∧ (y 0).val < o + R then w (ix2 ⟨(y 0).val - o, by omega⟩ (y 1)) else x y

section diag
variable (a : Diag F)
def Diag.dv0 : FVec F S512x64 .f32 := k0_pay56 k0_pay44 (k0_pay47 a.lse) (k0_pay48 a.k) (k0_pay50 a.bias) (k0_pay51 a.q) a.d
def Diag.dk0 : FVec F S512x64 .f32 :=
  k0_pay57 k0_pay42 k0_pay43 (k0_pay47 a.lse) (k0_pay48 a.k) (k0_pay49 a.v) (k0_pay50 a.bias) (k0_pay51 a.q) a.d (k0_pay52 a.d a.o)
def Diag.dq0 : FVec F S1024x64 .f32 :=
  k0_pay58 k0_pay42 (k0_pay47 a.lse) (k0_pay48 a.k) (k0_pay49 a.v) (k0_pay50 a.bias) (k0_pay51 a.q) a.d (k0_pay52 a.d a.o)
def Diag.ds1 : FVec F S512x1024 .bf16 :=
  k0_pay60 k0_pay42 (k0_pay47 a.lse) (k0_pay48 a.k) (k0_pay49 a.v) (k0_pay50 a.bias) (k0_pay51 a.q) a.d (k0_pay52 a.d a.o)
def Diag.dv1 : FVec F S512x64 .f32 :=
  k0_pay63 k0_pay46 (k0_pay61 (k0_pay47 a.lse) (k0_pay48 a.k) (k0_pay50 a.bias) (k0_pay51 a.q)) (k0_pay62 a.d)
def Diag.dk1 : FVec F S512x64 .f32 := k0_pay64 k0_pay45 (k0_pay51 a.q) a.ds1
/-- The rows of the queries' gradient with the first half's share added. -/
def Diag.addq (old : FVec F S1024x128 .f32) : FVec F S1024x128 .f32 := k0_pay65 (k0_pay48 a.k) a.dq0 a.ds1 old
def Diag.dv0' : FVec F S512x64 .f32 :=
  k0_pay77 k0_pay44 (k0_pay72 a.d2) (k0_pay73 (k0_pay40 a.k) a.bias2 a.q2) (k0_pay74 (k0_pay47 a.lse))
def Diag.dk0' : FVec F S512x64 .f32 :=
  k0_pay78 k0_pay42 k0_pay43 (k0_pay67 (k0_pay41 a.v)) (k0_pay70 a.q2) (k0_pay71 a.d2 a.o2) (k0_pay72 a.d2)
    (k0_pay73 (k0_pay40 a.k) a.bias2 a.q2) (k0_pay74 (k0_pay47 a.lse))
def Diag.dq0' : FVec F S512x64 .f32 :=
  k0_pay79 k0_pay42 (k0_pay66 (k0_pay40 a.k)) (k0_pay67 (k0_pay41 a.v)) (k0_pay71 a.d2 a.o2) (k0_pay72 a.d2)
    (k0_pay73 (k0_pay40 a.k) a.bias2 a.q2) (k0_pay74 (k0_pay47 a.lse))
def Diag.ds1' : FVec F S512x512 .bf16 :=
  k0_pay81 k0_pay42 (k0_pay66 (k0_pay40 a.k)) (k0_pay67 (k0_pay41 a.v)) (k0_pay68 (k0_pay47 a.lse)) (k0_pay69 a.bias2) (k0_pay70 a.q2)
    (k0_pay71 a.d2 a.o2) (k0_pay72 a.d2)
def Diag.dv1' : FVec F S512x64 .f32 :=
  k0_pay82 k0_pay46 (k0_pay66 (k0_pay40 a.k)) (k0_pay68 (k0_pay47 a.lse)) (k0_pay69 a.bias2) (k0_pay70 a.q2) (k0_pay72 a.d2)
def Diag.dk1' : FVec F S512x64 .f32 :=
  k0_pay83 k0_pay42 k0_pay45 (k0_pay66 (k0_pay40 a.k)) (k0_pay67 (k0_pay41 a.v)) (k0_pay68 (k0_pay47 a.lse)) (k0_pay69 a.bias2)
    (k0_pay70 a.q2) (k0_pay71 a.d2 a.o2) (k0_pay72 a.d2)
/-- The rows of the queries' gradient with the second half's share added. -/
def Diag.addq' (old : FVec F S512x128 .f32) : FVec F S512x128 .f32 := k0_pay1 (k0_pay66 (k0_pay40 a.k)) a.dq0' a.ds1' old
/-- The four sums after the tile on the diagonal. -/
def Diag.sums : Sums F :=
  (k0_pay2 a.dk0 a.dk0', k0_pay3 a.dv0 a.dv0', k0_pay4 a.dk1 a.dk1', k0_pay5 a.dv1 a.dv1')
end diag

section later
variable (a : Later F)
def Later.ds0 : FVec F S1024x1024 .bf16 := k0_pay27 (k0_pay40 a.k) (k0_pay41 a.v) k0_pay42 a.lse a.bias a.q a.d a.o
/-- The rows of the queries' gradient with this tile's share added. -/
def Later.addq (old : FVec F S1024x128 .f32) : FVec F S1024x128 .f32 :=
  k0_pay11 (k0_pay40 a.k) (k0_pay41 a.v) k0_pay42 (k0_pay21 a.lse) (k0_pay22 a.bias) (k0_pay23 a.q) (k0_pay24 a.d a.o) (k0_pay25 a.d) a.ds0 old
/-- The four sums with this tile's share added. -/
def Later.add (s : Sums F) : Sums F :=
  (k0_pay6 s.1 a.ds0 (k0_pay29 a.q), k0_pay28 (k0_pay40 a.k) s.2.1 a.lse a.bias a.q a.d,
    k0_pay10 (k0_pay40 a.k) (k0_pay41 a.v) k0_pay42 s.2.2.1 (k0_pay21 a.lse) (k0_pay22 a.bias) (k0_pay23 a.q) (k0_pay24 a.d a.o) (k0_pay25 a.d),
    k0_pay9 (k0_pay40 a.k) s.2.2.2 (k0_pay21 a.lse) (k0_pay22 a.bias) (k0_pay23 a.q) (k0_pay25 a.d))
end later

/-- What a point whose tile of keys is `j` loads on the diagonal. -/
def Blocks.diag (b : Blocks F) (j : Fin 2) : Diag F where
  k := b.k
  v := b.v
  lse z := b.lse (ix4 0 j (z 2) (z 3))
  bias z := b.bias (ix3 0 ⟨(z 1).val, Nat.lt_of_lt_of_le (z 1).isLt (by decide)⟩ (z 2))
  q := rows (1024 * j.val) 1024 (by omega) b.q
  d := rows (1024 * j.val) 1024 (by omega) b.d
  o := rows (1024 * j.val) 1024 (by omega) b.o
  bias2 z := b.bias (ix3 0 ⟨512 + (z 1).val, by have h : (z 1).val < 512 := (z 1).isLt; omega⟩ ⟨512 + (z 2).val, by have h : (z 2).val < 512 := (z 2).isLt; omega⟩)
  q2 := rows (1024 * j.val + 512) 512 (by omega) b.q
  d2 := rows (1024 * j.val + 512) 512 (by omega) b.d
  o2 := rows (1024 * j.val + 512) 512 (by omega) b.o

/-- What a point of the first tile loads of the second. -/
def Blocks.later (b : Blocks F) : Later F where
  k := b.k
  v := b.v
  lse z := b.lse (ix4 0 1 (z 2) (z 3))
  bias z := b.bias (ix3 1 (z 1) (z 2))
  q := rows 1024 1024 (by omega) b.q
  d := rows 1024 1024 (by omega) b.d
  o := rows 1024 1024 (by omega) b.o

/-- The running sum after a point's tile on the diagonal. -/
def Blocks.afterDiag (b : Blocks F) (j : Fin 2) (x : FVec F S2048x128 .f32) : FVec F S2048x128 .f32 :=
  put (1024 * j.val + 512) 512 ((b.diag j).addq' (rows (1024 * j.val + 512) 512 (by omega)
      (put (1024 * j.val) 1024 ((b.diag j).addq (rows (1024 * j.val) 1024 (by omega) x)) x)))
    (put (1024 * j.val) 1024 ((b.diag j).addq (rows (1024 * j.val) 1024 (by omega) x)) x)

/-- The running sum after a point of the first tile. -/
def Blocks.first (b : Blocks F) : FVec F S2048x128 .f32 :=
  put 1024 1024 (b.later.addq (rows 1024 1024 (by omega) (b.afterDiag 0 k0_pay39))) (b.afterDiag 0 k0_pay39)

/-- The four sums of a point. -/
def Blocks.sums (b : Blocks F) (j : Fin 2) : Sums F := if j = 0 then b.later.add (b.diag 0).sums else (b.diag 1).sums

/-- The keys' and the values' gradient blocks. -/
def Blocks.dk (b : Blocks F) (j : Fin 2) : FVec F S1024x128 .bf16 := k0_pay18 (b.sums j).1 (b.sums j).2.2.1
def Blocks.dv (b : Blocks F) (j : Fin 2) : FVec F S1024x128 .bf16 := k0_pay19 (b.sums j).2.1 (b.sums j).2.2.2

/-- The running sum after rows are stored. -/
theorem read_put (v : View sig .tc .vmem S2048x128 .f32) (f : v.ty.Contents (Elt F)) (o R : ℕ) (off : Fin 2 → ℕ) (hoff : off = ![o, 0])
    (inb : ∀ a, off a + (⟨2, ![R, 128]⟩ : Shape).size a ≤ S2048x128.size a) (w : FVec F ⟨2, ![R, 128]⟩ .f32)
    (ps : List (View.Piece (Elt F) S2048x128 .f32)) :
    v.read (Elt F) (v.writes (Elt F) f (⟨Rect.unit (s := S2048x128) off (⟨2, ![R, 128]⟩ : Shape).size inb, w⟩ :: ps))
      = put (F := F) o R w (v.read (Elt F) (v.writes (Elt F) f ps)) := by
  subst hoff
  funext y
  unfold put
  by_cases h : o ≤ (y 0).val ∧ (y 0).val < o + R
  · rw [dif_pos h]
    exact View.read_writes_cons_unit_of_mem v f inb w ps y (ix2 ⟨(y 0).val - o, by omega⟩ (y 1)) rfl
      (Fin.forall_fin_two.mpr ⟨by show (y 0).val = o + ((y 0).val - o); omega, by show (y 1).val = 0 + (y 1).val; omega⟩)
  · rw [dif_neg h]
    exact View.read_writes_cons_unit_of_not_mem v f inb w ps y rfl 0 (by show (y 0).val < o ∨ o + R ≤ (y 0).val; omega)

/-- Rows loaded from the running sum. -/
theorem read_rows (v : View sig .tc .vmem S2048x128 .f32) (f : v.ty.Contents (Elt F)) (o R : ℕ) (h : o + R ≤ 2048) (off : Fin 2 → ℕ) (hoff : off = ![o, 0])
    (inb : ∀ a, off a + (⟨2, ![R, 128]⟩ : Shape).size a ≤ S2048x128.size a) :
    v.readAt (Elt F) (Rect.unit (s := S2048x128) off (⟨2, ![R, 128]⟩ : Shape).size inb).toLoadRect f = rows (F := F) o R h (v.read (Elt F) f) := by
  subst hoff
  funext z
  refine congrArg (v.read (Elt F) f) ?_
  funext a; refine Fin.ext ?_; revert a
  exact Fin.forall_fin_two.mpr ⟨by show o + 1 * (z 0).val = o + (z 0).val; omega, by show 0 + 1 * (z 1).val = (z 1).val; omega⟩

/-- A part loaded from a block held at its contents. -/
theorem load_unread {s : Shape} {e : EltTy} (a : Memref sig .tc .vmem s e) (h : a.IsWhole) (x : s.Idx → Elt F e) (r : Rect s) :
    a.view.readAt (Elt F) r.toLoadRect (h.unread x) = fun y => x (r.emb y) :=
  funext fun y => congrFun (h.read_unread x) (r.emb y)

end Cert.AttnRun

end
-- ==== Proof.AttnEntry.lean ====
/- The attention's gradient, tile by tile, entry by entry. -/
module

public import proofs.«01_k».proof.Proof.AttnTile
public import Idealize.ShloMosaic.Lib.Pointwise
public import Idealize.ShloMosaic.PureOps.Ideal

@[expose] public section

set_option maxRecDepth 16384

noncomputable section

namespace Cert.AttnRun

open Cert.AttnIdeal Cert.AttnIdeal.Gen Idealize.ShloMosaic

/-- The scale of the scores. -/
abbrev E8 : EReal := Ideal.ofBits .f32 1040187392#32

/-- The columns of a pair's two heads. -/
def lo (e : Fin 64) : Fin 128 := ⟨e.val, by omega⟩
def hi (e : Fin 64) : Fin 128 := ⟨64 + e.val, by omega⟩

/-- A weight, of a key's and a query's entries, the table's and the log-sum. -/
def W (k q : Fin 64 → EReal) (b l : EReal) : EReal := Ideal.exp (∑ e, k e * (q e * E8) + b - l)
/-- What a weight's cotangent is, less the row's sum. -/
def U (v d o : Fin 64 → EReal) : EReal := ∑ e, v e * d e - ∑ e, d e * o e

section diag
variable (a : Diag Ideal) (r : Fin 512) (c : Fin 1024) (c' : Fin 512) (e : Fin 64)
def up (r : Fin 512) : Fin 1024 := ⟨r.val, by omega⟩
def dn (r : Fin 512) : Fin 1024 := ⟨512 + r.val, by omega⟩
/-- A weight, and a score's cotangent. -/
def Diag.w0 (r : Fin 512) (c : Fin 1024) : EReal := W (fun e => a.k (ix2 (up r) (lo e))) (fun e => a.q (ix2 c (lo e))) (a.bias (ix3 0 r c)) (a.lse (ix4 0 0 0 c))
def Diag.s0 (r : Fin 512) (c : Fin 1024) : EReal := a.w0 r c * U (fun e => a.v (ix2 (up r) (lo e))) (fun e => a.d (ix2 c (lo e))) (fun e => a.o (ix2 c (lo e)))
theorem Diag.dv0_at : a.dv0 (ix2 r e) = ∑ c, a.w0 r c * a.d (ix2 c (lo e)) := by
  simp only [Diag.dv0, Diag.w0, W, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dk0_at : a.dk0 (ix2 r e) = ∑ c, a.s0 r c * (a.q (ix2 c (lo e)) * E8) := by
  simp only [Diag.dk0, Diag.s0, Diag.w0, W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dq0_at : a.dq0 (ix2 c e) = (∑ r, a.s0 r c * a.k (ix2 (up r) (lo e))) * E8 := by
  simp only [Diag.dq0, Diag.s0, Diag.w0, W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
/-- A weight, and a score's cotangent. -/
def Diag.w1 (r : Fin 512) (c : Fin 1024) : EReal := W (fun e => a.k (ix2 (up r) (hi e))) (fun e => a.q (ix2 c (hi e))) (a.bias (ix3 0 r c)) (a.lse (ix4 0 0 1 c))
def Diag.s1 (r : Fin 512) (c : Fin 1024) : EReal := a.w1 r c * U (fun e => a.v (ix2 (up r) (hi e))) (fun e => a.d (ix2 c (hi e))) (fun e => a.o (ix2 c (hi e)))
theorem Diag.dv1_at : a.dv1 (ix2 r e) = ∑ c, a.w1 r c * a.d (ix2 c (hi e)) := by
  simp only [Diag.dv1, Diag.w1, W, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.ds1_at : a.ds1 (ix2 r c) = a.s1 r c := by
  simp only [Diag.ds1, Diag.s1, Diag.w1, W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dk1_key : a.dk1 (ix2 r e) = ∑ c, (a.ds1 (ix2 r c) : EReal) * (a.q (ix2 c (hi e)) * E8) := by
  simp only [Diag.dk1, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dk1_at : a.dk1 (ix2 r e) = ∑ c, a.s1 r c * (a.q (ix2 c (hi e)) * E8) := by
  rw [Diag.dk1_key]
  simp only [Diag.ds1_at]
/-- A weight, and a score's cotangent. -/
def Diag.w0' (r : Fin 512) (c : Fin 512) : EReal := W (fun e => a.k (ix2 (dn r) (lo e))) (fun e => a.q2 (ix2 c (lo e))) (a.bias2 (ix3 0 r c)) (a.lse (ix4 0 0 0 (dn c)))
def Diag.s0' (r : Fin 512) (c : Fin 512) : EReal := a.w0' r c * U (fun e => a.v (ix2 (dn r) (lo e))) (fun e => a.d2 (ix2 c (lo e))) (fun e => a.o2 (ix2 c (lo e)))
theorem Diag.dv0'_at : a.dv0' (ix2 r e) = ∑ c, a.w0' r c * a.d2 (ix2 c (lo e)) := by
  simp only [Diag.dv0', Diag.w0', W, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dk0'_at : a.dk0' (ix2 r e) = ∑ c, a.s0' r c * (a.q2 (ix2 c (lo e)) * E8) := by
  simp only [Diag.dk0', Diag.s0', Diag.w0', W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dq0'_at : a.dq0' (ix2 c' e) = (∑ r, a.s0' r c' * a.k (ix2 (dn r) (lo e))) * E8 := by
  simp only [Diag.dq0', Diag.s0', Diag.w0', W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
/-- A weight, and a score's cotangent. -/
def Diag.w1' (r : Fin 512) (c : Fin 512) : EReal := W (fun e => a.k (ix2 (dn r) (hi e))) (fun e => a.q2 (ix2 c (hi e))) (a.bias2 (ix3 0 r c)) (a.lse (ix4 0 0 1 (dn c)))
def Diag.s1' (r : Fin 512) (c : Fin 512) : EReal := a.w1' r c * U (fun e => a.v (ix2 (dn r) (hi e))) (fun e => a.d2 (ix2 c (hi e))) (fun e => a.o2 (ix2 c (hi e)))
theorem Diag.dv1'_at : a.dv1' (ix2 r e) = ∑ c, a.w1' r c * a.d2 (ix2 c (hi e)) := by
  simp only [Diag.dv1', Diag.w1', W, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.ds1'_at : a.ds1' (ix2 r c') = a.s1' r c' := by
  simp only [Diag.ds1', Diag.s1', Diag.w1', W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Diag.dk1'_at : a.dk1' (ix2 r e) = ∑ c, a.s1' r c * (a.q2 (ix2 c (hi e)) * E8) := by
  simp only [Diag.dk1', Diag.s1', Diag.w1', W, U, up, dn, lo, hi]
  pointwise [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
end diag

end Cert.AttnRun

end
-- ==== Proof.AttnSums.lean ====
/- The attention's gradient, tile by tile: what a later tile of queries adds, and the sums' entries. -/
module

public import proofs.«01_k».proof.Proof.AttnEntry

@[expose] public section

set_option maxRecDepth 16384

noncomputable section

namespace Cert.AttnRun

open Cert.AttnIdeal Cert.AttnIdeal.Gen Idealize.ShloMosaic

section later
variable (a : Later Ideal) (s : Sums Ideal) (r c : Fin 1024) (e : Fin 64) (old : FVec Ideal S1024x128 .f32)
/-- A weight, and a score's cotangent. -/
def Later.w0 (r c : Fin 1024) : EReal := W (fun e => a.k (ix2 r (lo e))) (fun e => a.q (ix2 c (lo e))) (a.bias (ix3 0 r c)) (a.lse (ix4 0 0 0 c))
def Later.s0 (r c : Fin 1024) : EReal := a.w0 r c * U (fun e => a.v (ix2 r (lo e))) (fun e => a.d (ix2 c (lo e))) (fun e => a.o (ix2 c (lo e)))
/-- A weight, and a score's cotangent. -/
def Later.w1 (r c : Fin 1024) : EReal := W (fun e => a.k (ix2 r (hi e))) (fun e => a.q (ix2 c (hi e))) (a.bias (ix3 0 r c)) (a.lse (ix4 0 0 1 c))
def Later.s1 (r c : Fin 1024) : EReal := a.w1 r c * U (fun e => a.v (ix2 r (hi e))) (fun e => a.d (ix2 c (hi e))) (fun e => a.o (ix2 c (hi e)))
theorem Later.ds0_at : a.ds0 (ix2 r c) = a.s0 r c := by
  simp only [Later.ds0, Later.s0, Later.w0, W, U, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Later.lo_key : a.addq old (ix2 c (lo e)) = (old (ix2 c (lo e)) : EReal) + (∑ r, (a.ds0 (ix2 r c) : EReal) * a.k (ix2 r (lo e))) * E8 := by
  simp only [Later.addq, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Later.lo_at : a.addq old (ix2 c (lo e)) = (old (ix2 c (lo e)) : EReal) + (∑ r, a.s0 r c * a.k (ix2 r (lo e))) * E8 := by
  rw [Later.lo_key]
  simp only [Later.ds0_at]
theorem Later.hi_at : a.addq old (ix2 c (hi e)) = (old (ix2 c (hi e)) : EReal) + (∑ r, a.s1 r c * a.k (ix2 r (hi e))) * E8 := by
  simp only [Later.addq, Later.s1, Later.w1, W, U, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Later.add_dk0_key : (a.add s).1 (ix2 r e) = (s.1 (ix2 r e) : EReal) + ∑ c, (a.ds0 (ix2 r c) : EReal) * (a.q (ix2 c (lo e)) * E8) := by
  simp only [Later.add, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Later.add_dk0 : (a.add s).1 (ix2 r e) = (s.1 (ix2 r e) : EReal) + ∑ c, a.s0 r c * (a.q (ix2 c (lo e)) * E8) := by
  rw [Later.add_dk0_key]
  simp only [Later.ds0_at]
theorem Later.add_dv0 : (a.add s).2.1 (ix2 r e) = (s.2.1 (ix2 r e) : EReal) + ∑ c, a.w0 r c * a.d (ix2 c (lo e)) := by
  simp only [Later.add, Later.w0, W, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Later.add_dk1 : (a.add s).2.2.1 (ix2 r e) = (s.2.2.1 (ix2 r e) : EReal) + ∑ c, a.s1 r c * (a.q (ix2 c (hi e)) * E8) := by
  simp only [Later.add, Later.s1, Later.w1, W, U, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
theorem Later.add_dv1 : (a.add s).2.2.2 (ix2 r e) = (s.2.2.2 (ix2 r e) : EReal) + ∑ c, a.w1 r c * a.d (ix2 c (hi e)) := by
  simp only [Later.add, Later.w1, W, up, dn, lo, hi]
  pointwise [k0_pay6, k0_pay7, k0_pay8, k0_pay9, k0_pay10, k0_pay11, k0_pay12, k0_pay13, k0_pay14, k0_pay15, k0_pay16, k0_pay17, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
end later

section diag
variable (a : Diag Ideal) (r : Fin 512) (c : Fin 1024) (c' : Fin 512) (e : Fin 64) (old : FVec Ideal S1024x128 .f32) (old' : FVec Ideal S512x128 .f32)
theorem Diag.lo_key : a.addq old (ix2 c (lo e)) = (old (ix2 c (lo e)) : EReal) + a.dq0 (ix2 c e) := by
  simp only [Diag.addq, up, dn, lo, hi]
  pointwise [k0_pay1, k0_pay2, k0_pay3, k0_pay4, k0_pay5, k0_pay48, k0_pay65, k0_pay66, k0_pay40]
theorem Diag.hi_key : a.addq old (ix2 c (hi e)) = (old (ix2 c (hi e)) : EReal) + (∑ r, (a.ds1 (ix2 r c) : EReal) * a.k (ix2 (up r) (hi e))) * E8 := by
  simp only [Diag.addq, up, dn, lo, hi]
  pointwise [k0_pay1, k0_pay2, k0_pay3, k0_pay4, k0_pay5, k0_pay48, k0_pay65, k0_pay66, k0_pay40]
theorem Diag.lo_key' : a.addq' old' (ix2 c' (lo e)) = (old' (ix2 c' (lo e)) : EReal) + a.dq0' (ix2 c' e) := by
  simp only [Diag.addq', up, dn, lo, hi]
  pointwise [k0_pay1, k0_pay2, k0_pay3, k0_pay4, k0_pay5, k0_pay48, k0_pay65, k0_pay66, k0_pay40]
theorem Diag.hi_key' : a.addq' old' (ix2 c' (hi e)) = (old' (ix2 c' (hi e)) : EReal) + (∑ r, (a.ds1' (ix2 r c') : EReal) * a.k (ix2 (dn r) (hi e))) * E8 := by
  simp only [Diag.addq', up, dn, lo, hi]
  pointwise [k0_pay1, k0_pay2, k0_pay3, k0_pay4, k0_pay5, k0_pay48, k0_pay65, k0_pay66, k0_pay40]
theorem Diag.lo_at : a.addq old (ix2 c (lo e)) = (old (ix2 c (lo e)) : EReal) + (∑ r, a.s0 r c * a.k (ix2 (up r) (lo e))) * E8 := by
  rw [Diag.lo_key, Diag.dq0_at]
theorem Diag.hi_at : a.addq old (ix2 c (hi e)) = (old (ix2 c (hi e)) : EReal) + (∑ r, a.s1 r c * a.k (ix2 (up r) (hi e))) * E8 := by
  rw [Diag.hi_key]
  simp only [Diag.ds1_at]
theorem Diag.lo_at' : a.addq' old' (ix2 c' (lo e)) = (old' (ix2 c' (lo e)) : EReal) + (∑ r, a.s0' r c' * a.k (ix2 (dn r) (lo e))) * E8 := by
  rw [Diag.lo_key', Diag.dq0'_at]
theorem Diag.hi_at' : a.addq' old' (ix2 c' (hi e)) = (old' (ix2 c' (hi e)) : EReal) + (∑ r, a.s1' r c' * a.k (ix2 (dn r) (hi e))) * E8 := by
  rw [Diag.hi_key']
  simp only [Diag.ds1'_at]
theorem Diag.up_dk0 : a.sums.1 (ix2 (up r) e) = a.dk0 (ix2 r e) := by
  simp only [Diag.sums, up, dn, lo, hi]
  pointwise [k0_pay1, k0_pay2, k0_pay3, k0_pay4, k0_pay5, k0_pay48, k0_pay65, k0_pay66, k0_pay40]
theorem Diag.dn_dk0 : a.sums.1 (ix2 (dn r) e) = a.dk0' (ix2 r e) := by
  simp only [Diag.sums, up, dn, lo, hi]
  pointwise [k0_pay1, k0_pay2, k0_pay3, k0_pay4, k0_pay5, k0_pay48, k0_pay65, k0_pay66, k0_pay40]
theorem Diag.up_dv0 : a.sums.2.1 (ix2 (up r) e) = a.dv0 (ix2 r e) := by
  simp only [Diag.sums, up, dn, lo, hi]
  pointwise [k0_pay1, k0_pay2, k0_pay3, k0_pay4, k0_pay5, k0_pay48, k0_pay65, k0_pay66, k0_pay40]
theorem Diag.dn_dv0 : a.sums.2.1 (ix2 (dn r) e) = a.dv0' (ix2 r e) := by
  simp only [Diag.sums, up, dn, lo, hi]
  pointwise [k0_pay1, k0_pay2, k0_pay3, k0_pay4, k0_pay5, k0_pay48, k0_pay65, k0_pay66, k0_pay40]
theorem Diag.up_dk1 : a.sums.2.2.1 (ix2 (up r) e) = a.dk1 (ix2 r e) := by
  simp only [Diag.sums, up, dn, lo, hi]
  pointwise [k0_pay1, k0_pay2, k0_pay3, k0_pay4, k0_pay5, k0_pay48, k0_pay65, k0_pay66, k0_pay40]
theorem Diag.dn_dk1 : a.sums.2.2.1 (ix2 (dn r) e) = a.dk1' (ix2 r e) := by
  simp only [Diag.sums, up, dn, lo, hi]
  pointwise [k0_pay1, k0_pay2, k0_pay3, k0_pay4, k0_pay5, k0_pay48, k0_pay65, k0_pay66, k0_pay40]
theorem Diag.up_dv1 : a.sums.2.2.2 (ix2 (up r) e) = a.dv1 (ix2 r e) := by
  simp only [Diag.sums, up, dn, lo, hi]
  pointwise [k0_pay1, k0_pay2, k0_pay3, k0_pay4, k0_pay5, k0_pay48, k0_pay65, k0_pay66, k0_pay40]
theorem Diag.dn_dv1 : a.sums.2.2.2 (ix2 (dn r) e) = a.dv1' (ix2 r e) := by
  simp only [Diag.sums, up, dn, lo, hi]
  pointwise [k0_pay1, k0_pay2, k0_pay3, k0_pay4, k0_pay5, k0_pay48, k0_pay65, k0_pay66, k0_pay40]
end diag

section pair
variable (x y : FVec Ideal S1024x64 .f32) (r : Fin 1024) (e : Fin 64)
theorem lo_pair18 : k0_pay18 x y (ix2 r (lo e)) = x (ix2 r e) := by
  simp only [up, dn, lo, hi]
  pointwise [k0_pay18, k0_pay19]
theorem hi_pair18 : k0_pay18 x y (ix2 r (hi e)) = y (ix2 r e) := by
  simp only [up, dn, lo, hi]
  pointwise [k0_pay18, k0_pay19]
theorem lo_pair19 : k0_pay19 x y (ix2 r (lo e)) = x (ix2 r e) := by
  simp only [up, dn, lo, hi]
  pointwise [k0_pay18, k0_pay19]
theorem hi_pair19 : k0_pay19 x y (ix2 r (hi e)) = y (ix2 r e) := by
  simp only [up, dn, lo, hi]
  pointwise [k0_pay18, k0_pay19]
end pair

end Cert.AttnRun

end
-- ==== Proof.AttnReal.lean ====
/- The attention's gradient of one grid point, in real numbers. -/
module

public import proofs.«01_k».proof.Proof.AttnSums
public import proofs.«01_k».proof.Proof.AttnMath
public import proofs.«01_k».proof.Proof.Finite

@[expose] public section

set_option maxRecDepth 16384

noncomputable section

namespace Cert.AttnRun

open Cert.AttnIdeal Cert.AttnIdeal.Gen Idealize.ShloMosaic Cert.AttnMath

theorem sum_coe {ι : Type} [Fintype ι] (f : ι → EReal) (g : ι → ℝ) (h : ∀ i, f i = (g i : EReal)) : ∑ i, f i = ((∑ i, g i : ℝ) : EReal) := by
  rw [Cert.Finite.coe_sum]
  exact Finset.sum_congr rfl fun i _ => h i

theorem E8_eq : E8 = ((1 / 8 : ℝ) : EReal) := by
  unfold E8
  simp [Ideal.ofBits, Ideal.ieee, -EReal.coe_mul, -EReal.coe_neg]
  norm_num

theorem cnt_shift (a t s : ℕ) : cnt (a + t) (a + s) = cnt t s := by
  unfold cnt bd band
  simp only [Nat.add_sub_add_left, Nat.add_le_add_iff_left]

theorem cnt_zero (t s : ℕ) (h : t < s) : cnt t s = 0 := by
  unfold cnt bd band
  simp [Nat.not_le.mpr h]

theorem pr_zero (x : Head) (t s : Fin 2048) (h : t.val < s.val) : x.pr t s = 0 := by
  unfold Head.pr
  rw [cnt_zero _ _ h, zero_mul, zero_div]

theorem ds_zero (x : Head) (t s : Fin 2048) (h : t.val < s.val) : x.ds t s = 0 := by
  unfold Head.ds
  rw [pr_zero x t s h, zero_mul]

theorem halves (f : Fin 1024 → ℝ) : ∑ i, f i = ∑ i : Fin 512, f ⟨i.val, by omega⟩ + ∑ i : Fin 512, f ⟨512 + i.val, by omega⟩ :=
  Fin.sum_univ_add (a := 512) (b := 512) f

theorem halves2 (f : Fin 2048 → ℝ) : ∑ i, f i = ∑ i : Fin 1024, f ⟨i.val, by omega⟩ + ∑ i : Fin 1024, f ⟨1024 + i.val, by omega⟩ :=
  Fin.sum_univ_add (a := 1024) (b := 1024) f

/-- The bias of a query and a key at a distance. -/
def Bias (t s : ℕ) : EReal := if 0 < cnt t s then ((Real.log (cnt t s) : ℝ) : EReal) else ⊥

theorem W_real (x : Head) (t s : Fin 2048) (k q : Fin 64 → EReal) (b l : EReal) (hk : ∀ e, k e = ((x.k s e : ℝ) : EReal))
    (hq : ∀ e, q e * E8 = ((x.q t e : ℝ) : EReal)) (hb : b = Bias t.val s.val) (hl : l = ((Real.log (x.Z t) : ℝ) : EReal)) :
    W k q b l = ((x.pr t s : ℝ) : EReal) := by
  have h1 : ∑ e, k e * (q e * E8) = ((x.sg t s : ℝ) : EReal) :=
    sum_coe _ (fun e => x.q t e * x.k s e) fun e => by rw [hk, hq, ← EReal.coe_mul, mul_comm]
  unfold W
  rw [h1, hb, hl]
  unfold Bias Head.pr
  split
  · rename_i h
    rw [← EReal.coe_add, ← EReal.coe_sub]
    refine congrArg ((↑) : ℝ → EReal) ?_
    rw [Real.exp_sub, Real.exp_add, Real.exp_log h, Real.exp_log (x.Z_pos t), mul_comm]
  · rename_i h
    have h0 : cnt t.val s.val = 0 := le_antisymm (not_lt.mp h) (Head.cnt_nonneg _ _)
    rw [h0, zero_mul, zero_div, EReal.add_bot, EReal.bot_sub]
    rfl

theorem U_real (x : Head) (t s : Fin 2048) (v d o : Fin 64 → EReal) (hv : ∀ e, v e = ((x.v s e : ℝ) : EReal)) (hd : ∀ e, d e = ((x.g t e : ℝ) : EReal))
    (ho : ∀ e, o e = ((x.o t e : ℝ) : EReal)) : U v d o = ((x.dp t s - x.dl t : ℝ) : EReal) := by
  unfold U
  rw [EReal.coe_sub]
  unfold Head.dp Head.dl
  refine congrArg₂ (· - ·) (sum_coe _ _ fun e => ?_) (sum_coe _ _ fun e => ?_)
  · rw [hv, hd, ← EReal.coe_mul, mul_comm]
  · rw [hd, ho, ← EReal.coe_mul]

/-- A point's blocks hold one head's real arrays in the columns `h` and the row `l` of the log-sums. -/
structure Good (b : Blocks Ideal) (j : Fin 2) (x : Head) (h : Fin 64 → Fin 128) (l : Fin 8) : Prop where
  q : ∀ (t : Fin 2048) (e : Fin 64), (b.q (ix2 t (h e)) : EReal) * E8 = ((x.q t e : ℝ) : EReal)
  k : ∀ (r : Fin 1024) (e : Fin 64), b.k (ix2 r (h e)) = ((x.k ⟨1024 * j.val + r.val, by omega⟩ e : ℝ) : EReal)
  v : ∀ (r : Fin 1024) (e : Fin 64), b.v (ix2 r (h e)) = ((x.v ⟨1024 * j.val + r.val, by omega⟩ e : ℝ) : EReal)
  d : ∀ (t : Fin 2048) (e : Fin 64), b.d (ix2 t (h e)) = ((x.g t e : ℝ) : EReal)
  o : ∀ (t : Fin 2048) (e : Fin 64), b.o (ix2 t (h e)) = ((x.o t e : ℝ) : EReal)
  l : ∀ (i : Fin 2) (c : Fin 1024), b.lse (ix4 0 i l c) = ((Real.log (x.Z ⟨1024 * i.val + c.val, by omega⟩) : ℝ) : EReal)
  b : ∀ (i : Fin 2) (r c : Fin 1024), b.bias (ix3 i r c) = Bias (1024 * i.val + c.val) r.val

section point
variable {b : Blocks Ideal} {j : Fin 2} {x : Head}

/-- A key of a point's first or second half, and a query of its tile or of the tile's second half. -/
def K (j : Fin 2) (r : Fin 512) : Fin 2048 := ⟨1024 * j.val + r.val, by omega⟩
def K' (j : Fin 2) (r : Fin 512) : Fin 2048 := ⟨1024 * j.val + (512 + r.val), by omega⟩
def T (j : Fin 2) (c : Fin 1024) : Fin 2048 := ⟨1024 * j.val + c.val, by omega⟩

theorem w_up {h : Fin 64 → Fin 128} {l : Fin 8} (g : Good b j x h l) (r : Fin 512) (c : Fin 1024) :
    W (fun e => (b.diag j).k (ix2 (up r) (h e))) (fun e => (b.diag j).q (ix2 c (h e))) ((b.diag j).bias (ix3 0 r c)) ((b.diag j).lse (ix4 0 0 l c))
      = ((x.pr (T j c) (K j r) : ℝ) : EReal) :=
  W_real x (T j c) (K j r) _ _ _ _ (fun e => g.k (up r) e) (fun e => g.q (T j c) e)
    ((g.b 0 (up r) c).trans (by unfold Bias T K up; dsimp only; rw [cnt_shift, show 1024 * (0 : Fin 2).val + c.val = c.val by simp])) (g.l j c)
theorem u_up {h : Fin 64 → Fin 128} {l : Fin 8} (g : Good b j x h l) (r : Fin 512) (c : Fin 1024) :
    U (fun e => (b.diag j).v (ix2 (up r) (h e))) (fun e => (b.diag j).d (ix2 c (h e))) (fun e => (b.diag j).o (ix2 c (h e)))
      = ((x.dp (T j c) (K j r) - x.dl (T j c) : ℝ) : EReal) :=
  U_real x (T j c) (K j r) _ _ _ (fun e => g.v (up r) e) (fun e => g.d (T j c) e) (fun e => g.o (T j c) e)
theorem w_dn {h : Fin 64 → Fin 128} {l : Fin 8} (g : Good b j x h l) (r c : Fin 512) :
    W (fun e => (b.diag j).k (ix2 (dn r) (h e))) (fun e => (b.diag j).q2 (ix2 c (h e))) ((b.diag j).bias2 (ix3 0 r c)) ((b.diag j).lse (ix4 0 0 l (dn c)))
      = ((x.pr (K' j c) (K' j r) : ℝ) : EReal) :=
  W_real x (K' j c) (K' j r) _ _ _ _ (fun e => g.k (dn r) e)
    (fun e => (congrArg (fun t => (b.q (ix2 t (h e)) : EReal) * E8) (Fin.ext (by show 1024 * j.val + 512 + c.val = 1024 * j.val + (512 + c.val); omega))).trans (g.q (K' j c) e))
    ((g.b 0 (dn r) (dn c)).trans (by unfold Bias K' dn; dsimp only; rw [cnt_shift, show 1024 * (0 : Fin 2).val + (512 + c.val) = 512 + c.val by simp])) (g.l j (dn c))
theorem u_dn {h : Fin 64 → Fin 128} {l : Fin 8} (g : Good b j x h l) (r c : Fin 512) :
    U (fun e => (b.diag j).v (ix2 (dn r) (h e))) (fun e => (b.diag j).d2 (ix2 c (h e))) (fun e => (b.diag j).o2 (ix2 c (h e)))
      = ((x.dp (K' j c) (K' j r) - x.dl (K' j c) : ℝ) : EReal) :=
  U_real x (K' j c) (K' j r) _ _ _ (fun e => g.v (dn r) e)
    (fun e => (congrArg (fun t => (b.d (ix2 t (h e)) : EReal)) (Fin.ext (by show 1024 * j.val + 512 + c.val = 1024 * j.val + (512 + c.val); omega))).trans (g.d (K' j c) e))
    (fun e => (congrArg (fun t => (b.o (ix2 t (h e)) : EReal)) (Fin.ext (by show 1024 * j.val + 512 + c.val = 1024 * j.val + (512 + c.val); omega))).trans (g.o (K' j c) e))
theorem w_later {h : Fin 64 → Fin 128} {l : Fin 8} (g : Good b 0 x h l) (r c : Fin 1024) :
    W (fun e => b.later.k (ix2 r (h e))) (fun e => b.later.q (ix2 c (h e))) (b.later.bias (ix3 0 r c)) (b.later.lse (ix4 0 0 l c))
      = ((x.pr (T 1 c) (T 0 r) : ℝ) : EReal) :=
  W_real x (T 1 c) (T 0 r) _ _ _ _ (fun e => g.k r e) (fun e => g.q (T 1 c) e)
    ((g.b 1 r c).trans (by unfold T; dsimp only; rw [show 1024 * (0 : Fin 2).val + r.val = r.val by simp])) (g.l 1 c)
theorem u_later {h : Fin 64 → Fin 128} {l : Fin 8} (g : Good b 0 x h l) (r c : Fin 1024) :
    U (fun e => b.later.v (ix2 r (h e))) (fun e => b.later.d (ix2 c (h e))) (fun e => b.later.o (ix2 c (h e)))
      = ((x.dp (T 1 c) (T 0 r) - x.dl (T 1 c) : ℝ) : EReal) :=
  U_real x (T 1 c) (T 0 r) _ _ _ (fun e => g.v r e) (fun e => g.d (T 1 c) e) (fun e => g.o (T 1 c) e)

end point

end Cert.AttnRun

end
-- ==== Proof.AttnPoint.lean ====
/- What a grid point of the attention's gradient stores, as real sums over every query or key. -/
module

public import proofs.«01_k».proof.Proof.AttnReal

@[expose] public section

set_option maxRecDepth 16384

noncomputable section

namespace Cert.AttnRun

open Cert.AttnIdeal Cert.AttnIdeal.Gen Idealize.ShloMosaic Cert.AttnMath

theorem T_sum (f : Fin 2048 → ℝ) : ∑ t, f t = ∑ c, f (T 0 c) + ∑ c, f (T 1 c) := by
  rw [halves2 f]
  congr 1

theorem K_sum (j : Fin 2) (f : Fin 2048 → ℝ) : ∑ c, f (T j c) = ∑ c, f (K j c) + ∑ c, f (K' j c) :=
  halves fun c => f (T j c)

theorem up_or_dn (a : Fin 1024) : (∃ r, a = up r) ∨ (∃ r, a = dn r) := by
  by_cases h : a.val < 512
  · exact Or.inl ⟨⟨a.val, h⟩, rfl⟩
  · exact Or.inr ⟨⟨a.val - 512, by omega⟩, Fin.ext (by unfold dn; dsimp only; omega)⟩

theorem T_up (j : Fin 2) (r : Fin 512) : T j (up r) = K j r := rfl
theorem T_dn (j : Fin 2) (r : Fin 512) : T j (dn r) = K' j r := rfl

theorem put_in (o R : ℕ) (w : FVec Ideal ⟨2, ![R, 128]⟩ .f32) (x : FVec Ideal S2048x128 .f32) (t : Fin 2048) (c : Fin R) (z : Fin 128) (h : t.val = o + c.val) :
    put o R w x (ix2 t z) = w (ix2 c z) := by
  have hc := c.isLt
  unfold put
  rw [dif_pos (⟨by show o ≤ t.val; omega, by show t.val < o + R; omega⟩ : o ≤ ((ix2 t z : S2048x128.Idx) 0).val ∧ ((ix2 t z : S2048x128.Idx) 0).val < o + R)]
  exact congrArg (fun i => w (ix2 i z)) (Fin.ext (by show t.val - o = c.val; omega))

theorem put_out (o R : ℕ) (w : FVec Ideal ⟨2, ![R, 128]⟩ .f32) (x : FVec Ideal S2048x128 .f32) (t : Fin 2048) (z : Fin 128) (h : t.val < o ∨ o + R ≤ t.val) :
    put o R w x (ix2 t z) = x (ix2 t z) := by
  unfold put
  exact dif_neg (show ¬ (o ≤ t.val ∧ t.val < o + R) by omega)

theorem rows_at (o R : ℕ) (h : o + R ≤ 2048) (x : FVec Ideal S2048x128 .f32) (c : Fin R) (z : Fin 128) (t : Fin 2048) (ht : t.val = o + c.val) :
    rows o R h x (ix2 c z) = x (ix2 t z) :=
  congrArg (fun i => x (ix2 i z)) (Fin.ext ht.symm)

theorem start_at (t : Fin 2048) (z : Fin 128) : k0_pay39 (F := Ideal) (ix2 t z) = (0 : EReal) := by
  pointwise [k0_pay39]

section head0
variable {b : Blocks Ideal} {j : Fin 2} {x : Head}

theorem w0_real (g : Good b j x lo 0) (r : Fin 512) (c : Fin 1024) : (b.diag j).w0 r c = ((x.pr (T j c) (K j r) : ℝ) : EReal) := w_up g r c
theorem s0_real (g : Good b j x lo 0) (r : Fin 512) (c : Fin 1024) : (b.diag j).s0 r c = ((x.ds (T j c) (K j r) : ℝ) : EReal) := by
  unfold Diag.s0 Head.ds
  rw [w0_real g, u_up g, ← EReal.coe_mul]
theorem w0_real' (g : Good b j x lo 0) (r c : Fin 512) : (b.diag j).w0' r c = ((x.pr (K' j c) (K' j r) : ℝ) : EReal) := w_dn g r c
theorem s0_real' (g : Good b j x lo 0) (r c : Fin 512) : (b.diag j).s0' r c = ((x.ds (K' j c) (K' j r) : ℝ) : EReal) := by
  unfold Diag.s0' Head.ds
  rw [w0_real' g, u_dn g, ← EReal.coe_mul]
theorem later_w0 (g : Good b 0 x lo 0) (r c : Fin 1024) : b.later.w0 r c = ((x.pr (T 1 c) (T 0 r) : ℝ) : EReal) := w_later g r c
theorem later_s0 (g : Good b 0 x lo 0) (r c : Fin 1024) : b.later.s0 r c = ((x.ds (T 1 c) (T 0 r) : ℝ) : EReal) := by
  unfold Later.s0 Head.ds
  rw [later_w0 g, u_later g, ← EReal.coe_mul]

theorem q2_0 (g : Good b j x lo 0) (c : Fin 512) (e : Fin 64) : ((b.diag j).q2 (ix2 c (lo e)) : EReal) * E8 = ((x.q (K' j c) e : ℝ) : EReal) :=
  (congrArg (fun t => (b.q (ix2 t (lo e)) : EReal) * E8) (Fin.ext (by show 1024 * j.val + 512 + c.val = 1024 * j.val + (512 + c.val); omega))).trans (g.q (K' j c) e)
theorem d2_0 (g : Good b j x lo 0) (c : Fin 512) (e : Fin 64) : ((b.diag j).d2 (ix2 c (lo e)) : EReal) = ((x.g (K' j c) e : ℝ) : EReal) :=
  (congrArg (fun t => (b.d (ix2 t (lo e)) : EReal)) (Fin.ext (by show 1024 * j.val + 512 + c.val = 1024 * j.val + (512 + c.val); omega))).trans (g.d (K' j c) e)

theorem diag_dk0 (g : Good b j x lo 0) (a : Fin 1024) (e : Fin 64) :
    (b.diag j).sums.1 (ix2 a e) = ((∑ c, x.ds (T j c) (T j a) * x.q (T j c) e : ℝ) : EReal) := by
  rcases up_or_dn a with ⟨r, rfl⟩ | ⟨r, rfl⟩
  · rw [Diag.up_dk0, Diag.dk0_at, T_up]
    exact sum_coe _ _ fun c => by rw [s0_real g, EReal.coe_mul]; exact congrArg _ (g.q (T j c) e)
  · rw [Diag.dn_dk0, Diag.dk0'_at, T_dn, K_sum j (fun t => x.ds t (K' j r) * x.q t e),
      Finset.sum_eq_zero (f := fun c => x.ds (K j c) (K' j r) * x.q (K j c) e)
        (fun c _ => by rw [ds_zero x _ _ (by unfold K K'; dsimp only; omega), zero_mul]), zero_add]
    exact sum_coe _ _ fun c => by rw [s0_real' g, q2_0 g, EReal.coe_mul]

theorem diag_dv0 (g : Good b j x lo 0) (a : Fin 1024) (e : Fin 64) :
    (b.diag j).sums.2.1 (ix2 a e) = ((∑ c, x.pr (T j c) (T j a) * x.g (T j c) e : ℝ) : EReal) := by
  rcases up_or_dn a with ⟨r, rfl⟩ | ⟨r, rfl⟩
  · rw [Diag.up_dv0, Diag.dv0_at, T_up]
    exact sum_coe _ _ fun c => by rw [w0_real g, EReal.coe_mul]; exact congrArg _ (g.d (T j c) e)
  · rw [Diag.dn_dv0, Diag.dv0'_at, T_dn, K_sum j (fun t => x.pr t (K' j r) * x.g t e),
      Finset.sum_eq_zero (f := fun c => x.pr (K j c) (K' j r) * x.g (K j c) e)
        (fun c _ => by rw [pr_zero x _ _ (by unfold K K'; dsimp only; omega), zero_mul]), zero_add]
    exact sum_coe _ _ fun c => by rw [w0_real' g, d2_0 g, EReal.coe_mul]

/-- The keys' gradient a point stores. -/
theorem dk0 (g : Good b j x lo 0) (a : Fin 1024) (e : Fin 64) : b.dk j (ix2 a (lo e)) = ((x.DK (T j a) e : ℝ) : EReal) := by
  unfold Blocks.dk Head.DK
  rw [lo_pair18, T_sum (fun t => x.ds t (T j a) * x.q t e)]
  unfold Blocks.sums
  obtain rfl | rfl : j = 0 ∨ j = 1 := by omega
  · rw [if_pos rfl, Later.add_dk0, diag_dk0 g, EReal.coe_add]
    exact congrArg (_ + ·) (sum_coe _ _ fun c => by rw [later_s0 g, EReal.coe_mul]; exact congrArg _ (g.q (T 1 c) e))
  · rw [if_neg (by decide), diag_dk0 g,
      Finset.sum_eq_zero (f := fun c => x.ds (T 0 c) (T 1 a) * x.q (T 0 c) e)
        (fun c _ => by rw [ds_zero x _ _ (by unfold T; simp only [Fin.val_zero, Fin.val_one]; omega), zero_mul]), zero_add]

/-- The values' gradient a point stores. -/
theorem dv0 (g : Good b j x lo 0) (a : Fin 1024) (e : Fin 64) : b.dv j (ix2 a (lo e)) = ((x.DV (T j a) e : ℝ) : EReal) := by
  unfold Blocks.dv Head.DV
  rw [lo_pair19, T_sum (fun t => x.pr t (T j a) * x.g t e)]
  unfold Blocks.sums
  obtain rfl | rfl : j = 0 ∨ j = 1 := by omega
  · rw [if_pos rfl, Later.add_dv0, diag_dv0 g, EReal.coe_add]
    exact congrArg (_ + ·) (sum_coe _ _ fun c => by rw [later_w0 g, EReal.coe_mul]; exact congrArg _ (g.d (T 1 c) e))
  · rw [if_neg (by decide), diag_dv0 g,
      Finset.sum_eq_zero (f := fun c => x.pr (T 0 c) (T 1 a) * x.g (T 0 c) e)
        (fun c _ => by rw [pr_zero x _ _ (by unfold T; simp only [Fin.val_zero, Fin.val_one]; omega), zero_mul]), zero_add]

/-- A row of the running sum after the tile on the diagonal. -/
theorem row0 (g : Good b j x lo 0) (old : FVec Ideal S2048x128 .f32) (a : Fin 1024) (e : Fin 64) :
    b.afterDiag j old (ix2 (T j a) (lo e)) = (old (ix2 (T j a) (lo e)) : EReal) + (((∑ s, x.ds (T j a) (T j s) * x.k (T j s) e) * (1 / 8) : ℝ) : EReal) := by
  have inner : ∀ a : Fin 1024, put (1024 * j.val) 1024 ((b.diag j).addq (rows (1024 * j.val) 1024 (by omega) old)) old (ix2 (T j a) (lo e))
      = (old (ix2 (T j a) (lo e)) : EReal) + (((∑ s, x.ds (T j a) (K j s) * x.k (K j s) e) * (1 / 8) : ℝ) : EReal) := fun a => by
    rw [put_in _ _ _ _ (T j a) a _ rfl, Diag.lo_at, rows_at _ _ _ _ a _ (T j a) rfl, E8_eq, EReal.coe_mul]
    exact congrArg (fun z : EReal => (old (ix2 (T j a) (lo e)) : EReal) + z * ((1 / 8 : ℝ) : EReal))
      (sum_coe _ _ fun s => by rw [s0_real g, EReal.coe_mul]; exact congrArg _ (g.k (up s) e))
  unfold Blocks.afterDiag
  rcases up_or_dn a with ⟨r, rfl⟩ | ⟨r, rfl⟩
  · rw [put_out _ _ _ _ (T j (up r)) _ (Or.inl (by unfold T up; dsimp only; omega)), inner, K_sum j (fun s => x.ds (T j (up r)) s * x.k s e),
      Finset.sum_eq_zero (f := fun c => x.ds (T j (up r)) (K' j c) * x.k (K' j c) e)
        (fun c _ => by rw [ds_zero x _ _ (by unfold T up K'; dsimp only; omega), zero_mul]), add_zero]
  · rw [put_in _ _ _ _ (T j (dn r)) r _ (by unfold T dn; dsimp only; omega), Diag.lo_at', rows_at _ _ _ _ r _ (T j (dn r)) (by unfold T dn; dsimp only; omega),
      inner, K_sum j (fun s => x.ds (T j (dn r)) s * x.k s e), add_mul, EReal.coe_add, add_assoc, E8_eq]
    refine congrArg (fun z : EReal => (old (ix2 (T j (dn r)) (lo e)) : EReal) + (_ + z)) ?_
    rw [EReal.coe_mul]
    exact congrArg (· * ((1 / 8 : ℝ) : EReal)) (sum_coe _ _ fun s => by rw [s0_real' g, EReal.coe_mul]; exact congrArg _ (g.k (dn s) e))

/-- The running sum after both points of a pair of heads. -/
theorem dq0 {b' : Blocks Ideal} (g : Good b 0 x lo 0) (g' : Good b' 1 x lo 0) (t : Fin 2048) (e : Fin 64) :
    b'.afterDiag 1 b.first (ix2 t (lo e)) = ((x.DQ t e : ℝ) : EReal) := by
  obtain ⟨i, a, rfl⟩ : ∃ (i : Fin 2) (a : Fin 1024), t = T i a :=
    ⟨⟨t.val / 1024, by omega⟩, ⟨t.val % 1024, by omega⟩, Fin.ext (by unfold T; dsimp only; omega)⟩
  unfold Head.DQ
  rw [T_sum (fun s => x.ds (T i a) s * x.k s e)]
  obtain rfl | rfl : i = 0 ∨ i = 1 := by omega
  · have h0 : (T 0 a).val < 1024 := by unfold T; simp only [Fin.val_zero]; omega
    unfold Blocks.afterDiag
    rw [put_out _ _ _ _ (T 0 a) _ (Or.inl (by simp only [Fin.val_one]; omega)), put_out _ _ _ _ (T 0 a) _ (Or.inl (by simp only [Fin.val_one]; omega))]
    unfold Blocks.first
    rw [put_out _ _ _ _ (T 0 a) _ (Or.inl h0), row0 g, start_at, zero_add,
      Finset.sum_eq_zero (f := fun c => x.ds (T 0 a) (T 1 c) * x.k (T 1 c) e)
        (fun c _ => by rw [ds_zero x _ _ (by unfold T; simp only [Fin.val_zero, Fin.val_one]; omega), zero_mul]), add_zero]
  · have h0 : 1024 ≤ (T 1 a).val := by unfold T; simp only [Fin.val_one]; omega
    rw [row0 g', add_mul, EReal.coe_add]
    refine congrArg (· + _) ?_
    unfold Blocks.first
    rw [put_in _ _ _ _ (T 1 a) a _ (by unfold T; simp), Later.lo_at, rows_at _ _ _ _ a _ (T 1 a) (by unfold T; simp)]
    unfold Blocks.afterDiag
    rw [put_out _ _ _ _ (T 1 a) _ (Or.inr (by simp only [Fin.val_zero]; omega)), put_out _ _ _ _ (T 1 a) _ (Or.inr (by simp only [Fin.val_zero]; omega)), start_at,
      zero_add, EReal.coe_mul, E8_eq]
    exact congrArg (· * ((1 / 8 : ℝ) : EReal)) (sum_coe _ _ fun s => by rw [later_s0 g, EReal.coe_mul]; exact congrArg _ (g.k s e |>.trans rfl))

end head0

section head1
variable {b : Blocks Ideal} {j : Fin 2} {x : Head}

theorem w1_real (g : Good b j x hi 1) (r : Fin 512) (c : Fin 1024) : (b.diag j).w1 r c = ((x.pr (T j c) (K j r) : ℝ) : EReal) := w_up g r c
theorem s1_real (g : Good b j x hi 1) (r : Fin 512) (c : Fin 1024) : (b.diag j).s1 r c = ((x.ds (T j c) (K j r) : ℝ) : EReal) := by
  unfold Diag.s1 Head.ds
  rw [w1_real g, u_up g, ← EReal.coe_mul]
theorem w1_real' (g : Good b j x hi 1) (r c : Fin 512) : (b.diag j).w1' r c = ((x.pr (K' j c) (K' j r) : ℝ) : EReal) := w_dn g r c
theorem s1_real' (g : Good b j x hi 1) (r c : Fin 512) : (b.diag j).s1' r c = ((x.ds (K' j c) (K' j r) : ℝ) : EReal) := by
  unfold Diag.s1' Head.ds
  rw [w1_real' g, u_dn g, ← EReal.coe_mul]
theorem later_w1 (g : Good b 0 x hi 1) (r c : Fin 1024) : b.later.w1 r c = ((x.pr (T 1 c) (T 0 r) : ℝ) : EReal) := w_later g r c
theorem later_s1 (g : Good b 0 x hi 1) (r c : Fin 1024) : b.later.s1 r c = ((x.ds (T 1 c) (T 0 r) : ℝ) : EReal) := by
  unfold Later.s1 Head.ds
  rw [later_w1 g, u_later g, ← EReal.coe_mul]

theorem q2_1 (g : Good b j x hi 1) (c : Fin 512) (e : Fin 64) : ((b.diag j).q2 (ix2 c (hi e)) : EReal) * E8 = ((x.q (K' j c) e : ℝ) : EReal) :=
  (congrArg (fun t => (b.q (ix2 t (hi e)) : EReal) * E8) (Fin.ext (by show 1024 * j.val + 512 + c.val = 1024 * j.val + (512 + c.val); omega))).trans (g.q (K' j c) e)
theorem d2_1 (g : Good b j x hi 1) (c : Fin 512) (e : Fin 64) : ((b.diag j).d2 (ix2 c (hi e)) : EReal) = ((x.g (K' j c) e : ℝ) : EReal) :=
  (congrArg (fun t => (b.d (ix2 t (hi e)) : EReal)) (Fin.ext (by show 1024 * j.val + 512 + c.val = 1024 * j.val + (512 + c.val); omega))).trans (g.d (K' j c) e)

theorem diag_dk1 (g : Good b j x hi 1) (a : Fin 1024) (e : Fin 64) :
    (b.diag j).sums.2.2.1 (ix2 a e) = ((∑ c, x.ds (T j c) (T j a) * x.q (T j c) e : ℝ) : EReal) := by
  rcases up_or_dn a with ⟨r, rfl⟩ | ⟨r, rfl⟩
  · rw [Diag.up_dk1, Diag.dk1_at, T_up]
    exact sum_coe _ _ fun c => by rw [s1_real g, EReal.coe_mul]; exact congrArg _ (g.q (T j c) e)
  · rw [Diag.dn_dk1, Diag.dk1'_at, T_dn, K_sum j (fun t => x.ds t (K' j r) * x.q t e),
      Finset.sum_eq_zero (f := fun c => x.ds (K j c) (K' j r) * x.q (K j c) e)
        (fun c _ => by rw [ds_zero x _ _ (by unfold K K'; dsimp only; omega), zero_mul]), zero_add]
    exact sum_coe _ _ fun c => by rw [s1_real' g, q2_1 g, EReal.coe_mul]

theorem diag_dv1 (g : Good b j x hi 1) (a : Fin 1024) (e : Fin 64) :
    (b.diag j).sums.2.2.2 (ix2 a e) = ((∑ c, x.pr (T j c) (T j a) * x.g (T j c) e : ℝ) : EReal) := by
  rcases up_or_dn a with ⟨r, rfl⟩ | ⟨r, rfl⟩
  · rw [Diag.up_dv1, Diag.dv1_at, T_up]
    exact sum_coe _ _ fun c => by rw [w1_real g, EReal.coe_mul]; exact congrArg _ (g.d (T j c) e)
  · rw [Diag.dn_dv1, Diag.dv1'_at, T_dn, K_sum j (fun t => x.pr t (K' j r) * x.g t e),
      Finset.sum_eq_zero (f := fun c => x.pr (K j c) (K' j r) * x.g (K j c) e)
        (fun c _ => by rw [pr_zero x _ _ (by unfold K K'; dsimp only; omega), zero_mul]), zero_add]
    exact sum_coe _ _ fun c => by rw [w1_real' g, d2_1 g, EReal.coe_mul]

/-- The keys' gradient a point stores. -/
theorem dk1 (g : Good b j x hi 1) (a : Fin 1024) (e : Fin 64) : b.dk j (ix2 a (hi e)) = ((x.DK (T j a) e : ℝ) : EReal) := by
  unfold Blocks.dk Head.DK
  rw [hi_pair18, T_sum (fun t => x.ds t (T j a) * x.q t e)]
  unfold Blocks.sums
  obtain rfl | rfl : j = 0 ∨ j = 1 := by omega
  · rw [if_pos rfl, Later.add_dk1, diag_dk1 g, EReal.coe_add]
    exact congrArg (_ + ·) (sum_coe _ _ fun c => by rw [later_s1 g, EReal.coe_mul]; exact congrArg _ (g.q (T 1 c) e))
  · rw [if_neg (by decide), diag_dk1 g,
      Finset.sum_eq_zero (f := fun c => x.ds (T 0 c) (T 1 a) * x.q (T 0 c) e)
        (fun c _ => by rw [ds_zero x _ _ (by unfold T; simp only [Fin.val_zero, Fin.val_one]; omega), zero_mul]), zero_add]

/-- The values' gradient a point stores. -/
theorem dv1 (g : Good b j x hi 1) (a : Fin 1024) (e : Fin 64) : b.dv j (ix2 a (hi e)) = ((x.DV (T j a) e : ℝ) : EReal) := by
  unfold Blocks.dv Head.DV
  rw [hi_pair19, T_sum (fun t => x.pr t (T j a) * x.g t e)]
  unfold Blocks.sums
  obtain rfl | rfl : j = 0 ∨ j = 1 := by omega
  · rw [if_pos rfl, Later.add_dv1, diag_dv1 g, EReal.coe_add]
    exact congrArg (_ + ·) (sum_coe _ _ fun c => by rw [later_w1 g, EReal.coe_mul]; exact congrArg _ (g.d (T 1 c) e))
  · rw [if_neg (by decide), diag_dv1 g,
      Finset.sum_eq_zero (f := fun c => x.pr (T 0 c) (T 1 a) * x.g (T 0 c) e)
        (fun c _ => by rw [pr_zero x _ _ (by unfold T; simp only [Fin.val_zero, Fin.val_one]; omega), zero_mul]), zero_add]

/-- A row of the running sum after the tile on the diagonal. -/
theorem row1 (g : Good b j x hi 1) (old : FVec Ideal S2048x128 .f32) (a : Fin 1024) (e : Fin 64) :
    b.afterDiag j old (ix2 (T j a) (hi e)) = (old (ix2 (T j a) (hi e)) : EReal) + (((∑ s, x.ds (T j a) (T j s) * x.k (T j s) e) * (1 / 8) : ℝ) : EReal) := by
  have inner : ∀ a : Fin 1024, put (1024 * j.val) 1024 ((b.diag j).addq (rows (1024 * j.val) 1024 (by omega) old)) old (ix2 (T j a) (hi e))
      = (old (ix2 (T j a) (hi e)) : EReal) + (((∑ s, x.ds (T j a) (K j s) * x.k (K j s) e) * (1 / 8) : ℝ) : EReal) := fun a => by
    rw [put_in _ _ _ _ (T j a) a _ rfl, Diag.hi_at, rows_at _ _ _ _ a _ (T j a) rfl, E8_eq, EReal.coe_mul]
    exact congrArg (fun z : EReal => (old (ix2 (T j a) (hi e)) : EReal) + z * ((1 / 8 : ℝ) : EReal))
      (sum_coe _ _ fun s => by rw [s1_real g, EReal.coe_mul]; exact congrArg _ (g.k (up s) e))
  unfold Blocks.afterDiag
  rcases up_or_dn a with ⟨r, rfl⟩ | ⟨r, rfl⟩
  · rw [put_out _ _ _ _ (T j (up r)) _ (Or.inl (by unfold T up; dsimp only; omega)), inner, K_sum j (fun s => x.ds (T j (up r)) s * x.k s e),
      Finset.sum_eq_zero (f := fun c => x.ds (T j (up r)) (K' j c) * x.k (K' j c) e)
        (fun c _ => by rw [ds_zero x _ _ (by unfold T up K'; dsimp only; omega), zero_mul]), add_zero]
  · rw [put_in _ _ _ _ (T j (dn r)) r _ (by unfold T dn; dsimp only; omega), Diag.hi_at', rows_at _ _ _ _ r _ (T j (dn r)) (by unfold T dn; dsimp only; omega),
      inner, K_sum j (fun s => x.ds (T j (dn r)) s * x.k s e), add_mul, EReal.coe_add, add_assoc, E8_eq]
    refine congrArg (fun z : EReal => (old (ix2 (T j (dn r)) (hi e)) : EReal) + (_ + z)) ?_
    rw [EReal.coe_mul]
    exact congrArg (· * ((1 / 8 : ℝ) : EReal)) (sum_coe _ _ fun s => by rw [s1_real' g, EReal.coe_mul]; exact congrArg _ (g.k (dn s) e))

/-- The running sum after both points of a pair of heads. -/
theorem dq1 {b' : Blocks Ideal} (g : Good b 0 x hi 1) (g' : Good b' 1 x hi 1) (t : Fin 2048) (e : Fin 64) :
    b'.afterDiag 1 b.first (ix2 t (hi e)) = ((x.DQ t e : ℝ) : EReal) := by
  obtain ⟨i, a, rfl⟩ : ∃ (i : Fin 2) (a : Fin 1024), t = T i a :=
    ⟨⟨t.val / 1024, by omega⟩, ⟨t.val % 1024, by omega⟩, Fin.ext (by unfold T; dsimp only; omega)⟩
  unfold Head.DQ
  rw [T_sum (fun s => x.ds (T i a) s * x.k s e)]
  obtain rfl | rfl : i = 0 ∨ i = 1 := by omega
  · have h0 : (T 0 a).val < 1024 := by unfold T; simp only [Fin.val_zero]; omega
    unfold Blocks.afterDiag
    rw [put_out _ _ _ _ (T 0 a) _ (Or.inl (by simp only [Fin.val_one]; omega)), put_out _ _ _ _ (T 0 a) _ (Or.inl (by simp only [Fin.val_one]; omega))]
    unfold Blocks.first
    rw [put_out _ _ _ _ (T 0 a) _ (Or.inl h0), row1 g, start_at, zero_add,
      Finset.sum_eq_zero (f := fun c => x.ds (T 0 a) (T 1 c) * x.k (T 1 c) e)
        (fun c _ => by rw [ds_zero x _ _ (by unfold T; simp only [Fin.val_zero, Fin.val_one]; omega), zero_mul]), add_zero]
  · have h0 : 1024 ≤ (T 1 a).val := by unfold T; simp only [Fin.val_one]; omega
    rw [row1 g', add_mul, EReal.coe_add]
    refine congrArg (· + _) ?_
    unfold Blocks.first
    rw [put_in _ _ _ _ (T 1 a) a _ (by unfold T; simp), Later.hi_at, rows_at _ _ _ _ a _ (T 1 a) (by unfold T; simp)]
    unfold Blocks.afterDiag
    rw [put_out _ _ _ _ (T 1 a) _ (Or.inr (by simp only [Fin.val_zero]; omega)), put_out _ _ _ _ (T 1 a) _ (Or.inr (by simp only [Fin.val_zero]; omega)), start_at,
      zero_add, EReal.coe_mul, E8_eq]
    exact congrArg (· * ((1 / 8 : ℝ) : EReal)) (sum_coe _ _ fun s => by rw [later_s1 g, EReal.coe_mul]; exact congrArg _ (g.k s e |>.trans rfl))

end head1

end Cert.AttnRun

end
-- ==== Proof.AttnRun.lean ====
/- The attention's gradient: the run of a later tile, of one grid point, and of the whole call. -/
module

public import proofs.«01_k».proof.Proof.AttnTile
public import Idealize.ShloMosaic.Lib.Claim
public import Idealize.ShloMosaic.Lib.Pipeline.ValueKit
public import Idealize.ShloMosaic.Lib.WritesUnit

@[expose] public section

set_option maxRecDepth 16384

noncomputable section

namespace Cert.AttnRun

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the places of a point with tile of keys `j` lie: its rows, and whether it begins or ends the running sum. -/
structure At (i : grid0.Coords) (j : Fin 2) : Prop where
  off1 : k0_off1 i = ![0, j.val, 0, 0]
  off2 : k0_off2 i = ![1024 * j.val, 0]
  off3 : k0_off3 i = ![1024 * j.val + 512, 0]
  starts : Scalar.cmpi .ne (Scalar.extui (Scalar.cmpi .eq (BitVec.ofNat 32 (i 1).val) 0#32)) 0#32 = 1#1 ↔ j = 0
  ends : k0_cond2 i = 1#1 ↔ j = 1
  trips1 : (k0_t1_loop i).trips = 1 - j.val
  trips2 : (k0_t2_loop i).trips = 0
  off4 : ∀ k, k0_off4 i k = ![0, 1, 0, 0]
  off5 : ∀ k, k0_off5 i k = ![1, 0, 0]
  off6 : ∀ k, k0_off6 i k = ![1024, 0]

theorem at_coords (i : grid0.Coords) (j : Fin 2) (h : (i 1).val = j.val) : At i j := by
  have h1 : ∀ i : grid0.Coords, k0_off1 i = ![0, (i 1).val, 0, 0] := by decide +kernel
  have h2 : ∀ i : grid0.Coords, k0_off2 i = ![1024 * (i 1).val, 0] := by decide +kernel
  have h3 : ∀ i : grid0.Coords, k0_off3 i = ![1024 * (i 1).val + 512, 0] := by decide +kernel
  have h4 : ∀ i : grid0.Coords, Scalar.cmpi .ne (Scalar.extui (Scalar.cmpi .eq (BitVec.ofNat 32 (i 1).val) 0#32)) 0#32 = 1#1 ↔ (i 1).val = 0 := by decide +kernel
  have h5 : ∀ i : grid0.Coords, k0_cond2 i = 1#1 ↔ (i 1).val = 1 := by decide +kernel
  have h6 : ∀ i : grid0.Coords, (k0_t1_loop i).trips = 1 - (i 1).val := by decide +kernel
  have h7 : ∀ i : grid0.Coords, (k0_t2_loop i).trips = 0 := by decide +kernel
  have h8 : ∀ i : grid0.Coords, ∀ k, k0_off4 i k = ![0, 1, 0, 0] := by decide +kernel
  have h9 : ∀ i : grid0.Coords, ∀ k, k0_off5 i k = ![1, 0, 0] := by decide +kernel
  have h10 : ∀ i : grid0.Coords, ∀ k, k0_off6 i k = ![1024, 0] := by decide +kernel
  have hj0 : j = 0 ↔ j.val = 0 := Fin.ext_iff
  have hj1 : j = 1 ↔ j.val = 1 := Fin.ext_iff
  exact ⟨by rw [h1, h], by rw [h2, h], by rw [h3, h], by rw [h4, h, hj0], by rw [h5, h, hj1], by rw [h6, h], h7 i, h8 i, h9 i, h10 i⟩

/-- A part loaded from a block held at its contents, its place named another way. -/
theorem load_off {s : Shape} {e : EltTy} (a : Memref sig .tc .vmem s e) (h : a.IsWhole) (x : s.Idx → Elt F e) {off off' : Fin s.rank → ℕ} (ho : off = off')
    (sz : Fin s.rank → ℕ) (inb : ∀ a, off a + sz a ≤ s.size a) (inb' : ∀ a, off' a + sz a ≤ s.size a) :
    a.view.readAt (Elt F) (Rect.unit (s := s) off sz inb).toLoadRect (h.unread x) = fun y => x ((Rect.unit (s := s) off' sz inb').emb y) := by
  subst ho; exact load_unread a h x _

section run

variable (c : Dev nD) (b : Blocks F) (arg2 : Memref sig .tc .vmem S2048x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S2048x128 .f32) (harg5 : arg5.IsWhole) (arg6 : Memref sig .tc .vmem S1x2x8x1024 .f32) (harg6 : arg6.IsWhole) (arg7 : Memref sig .tc .vmem S2048x128 .f32) (harg7 : arg7.IsWhole) (arg8 : Memref sig .tc .vmem S2x1024x1024 .f32) (harg8 : arg8.IsWhole)

/-- The seven blocks a point reads, held at their contents. -/
abbrev inputs : sProp 𝕄 := iprop((arg2.view.loc (c : Thread nD τ) ↦[arg2.view.set]{fullShare} (harg2.unread b.q)) ∗ (arg3.view.loc (c : Thread nD τ) ↦[arg3.view.set]{fullShare} (harg3.unread b.k)) ∗ (arg4.view.loc (c : Thread nD τ) ↦[arg4.view.set]{fullShare} (harg4.unread b.v)) ∗ (arg5.view.loc (c : Thread nD τ) ↦[arg5.view.set]{fullShare} (harg5.unread b.o)) ∗ (arg6.view.loc (c : Thread nD τ) ↦[arg6.view.set]{fullShare} (harg6.unread b.lse)) ∗ (arg7.view.loc (c : Thread nD τ) ↦[arg7.view.set]{fullShare} (harg7.unread b.d)) ∗ (arg8.view.loc (c : Thread nD τ) ↦[arg8.view.set]{fullShare} (harg8.unread b.bias)))

variable (i : grid0.Coords) (arg9 : Memref sig .tc .vmem S2048x128 .bf16) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S2048x128 .f32) (harg12 : arg12.IsWhole)

/-- What a later tile of queries loads. -/
theorem later_eq (k : Fin (k0_t1_loop i).trips) (hi : At i 0) : b.later = ⟨
    b.k, b.v,
    arg6.view.readAt (Elt F) (Rect.unit (s := S1x2x8x1024) (k0_off4 i k) S1x1x8x1024.size (k0_off4_inb i k)).toLoadRect (harg6.unread b.lse),
    arg8.view.readAt (Elt F) (Rect.unit (s := S2x1024x1024) (k0_off5 i k) S1x1024x1024.size (k0_off5_inb i k)).toLoadRect (harg8.unread b.bias),
    arg2.view.readAt (Elt F) (Rect.unit (s := S2048x128) (k0_off6 i k) S1024x128.size (k0_off6_inb i k)).toLoadRect (harg2.unread b.q),
    arg7.view.readAt (Elt F) (Rect.unit (s := S2048x128) (k0_off6 i k) S1024x128.size (k0_off6_inb i k)).toLoadRect (harg7.unread b.d),
    arg5.view.readAt (Elt F) (Rect.unit (s := S2048x128) (k0_off6 i k) S1024x128.size (k0_off6_inb i k)).toLoadRect (harg5.unread b.o)⟩ := by
  have h4 := hi.off4 k ▸ k0_off4_inb i k
  have h5 := hi.off5 k ▸ k0_off5_inb i k
  have h6 := hi.off6 k ▸ k0_off6_inb i k
  rw [load_off arg6 harg6 b.lse (hi.off4 k) _ _ h4, load_off arg8 harg8 b.bias (hi.off5 k) _ _ h5, load_off arg2 harg2 b.q (hi.off6 k) _ _ h6,
    load_off arg7 harg7 b.d (hi.off6 k) _ _ h6, load_off arg5 harg5 b.o (hi.off6 k) _ _ h6]
  unfold Blocks.later rows
  congr 1 <;> funext z <;> refine congrArg _ ?_ <;> funext a <;> refine Fin.ext ?_
  all_goals revert a
  · have e0 : (z 0).val < 1 := (z 0).isLt
    have e1 : (z 1).val < 1 := (z 1).isLt
    exact Fin.forall_fin_succ.mpr ⟨by show 0 = 0 + 1 * (z 0).val; omega, Fin.forall_fin_succ.mpr ⟨by show 1 = 1 + 1 * (z 1).val; omega,
      Fin.forall_fin_two.mpr ⟨by show (z 2).val = 0 + 1 * (z 2).val; omega, by show (z 3).val = 0 + 1 * (z 3).val; omega⟩⟩⟩
  · have e0 : (z 0).val < 1 := (z 0).isLt
    exact Fin.forall_fin_succ.mpr ⟨by show 1 = 1 + 1 * (z 0).val; omega,
      Fin.forall_fin_two.mpr ⟨by show (z 1).val = 0 + 1 * (z 1).val; omega, by show (z 2).val = 0 + 1 * (z 2).val; omega⟩⟩
  all_goals exact Fin.forall_fin_two.mpr ⟨by show 1024 + (z 0).val = 1024 + 1 * (z 0).val; omega, by show (z 1).val = 0 + 1 * (z 1).val; omega⟩

/-- What a point loads for the tile on the diagonal. -/
theorem diag_eq (j : Fin 2) (hi : At i j) : b.diag j = ⟨
    arg3.view.readAt (Elt F) (Rect.unit (s := S1024x128) ![0, 0] S1024x128.size inb_S1024x128_S1024x128_0_0).toLoadRect (harg3.unread b.k),
    arg4.view.readAt (Elt F) (Rect.unit (s := S1024x128) ![0, 0] S1024x128.size inb_S1024x128_S1024x128_0_0).toLoadRect (harg4.unread b.v),
    arg6.view.readAt (Elt F) (Rect.unit (s := S1x2x8x1024) (k0_off1 i) S1x1x8x1024.size (k0_off1_inb i)).toLoadRect (harg6.unread b.lse),
    arg8.view.readAt (Elt F) (Rect.unit (s := S2x1024x1024) ![0, 0, 0] S1x512x1024.size inb_S2x1024x1024_S1x512x1024_0_0_0).toLoadRect (harg8.unread b.bias),
    arg2.view.readAt (Elt F) (Rect.unit (s := S2048x128) (k0_off2 i) S1024x128.size (k0_off2_inb i)).toLoadRect (harg2.unread b.q),
    arg7.view.readAt (Elt F) (Rect.unit (s := S2048x128) (k0_off2 i) S1024x128.size (k0_off2_inb i)).toLoadRect (harg7.unread b.d),
    arg5.view.readAt (Elt F) (Rect.unit (s := S2048x128) (k0_off2 i) S1024x128.size (k0_off2_inb i)).toLoadRect (harg5.unread b.o),
    arg8.view.readAt (Elt F) (Rect.unit (s := S2x1024x1024) ![0, 512, 512] S1x512x512.size inb_S2x1024x1024_S1x512x512_0_512_512).toLoadRect (harg8.unread b.bias),
    arg2.view.readAt (Elt F) (Rect.unit (s := S2048x128) (k0_off3 i) S512x128.size (k0_off3_inb i)).toLoadRect (harg2.unread b.q),
    arg7.view.readAt (Elt F) (Rect.unit (s := S2048x128) (k0_off3 i) S512x128.size (k0_off3_inb i)).toLoadRect (harg7.unread b.d),
    arg5.view.readAt (Elt F) (Rect.unit (s := S2048x128) (k0_off3 i) S512x128.size (k0_off3_inb i)).toLoadRect (harg5.unread b.o)⟩ := by
  have h4 := hi.off1 ▸ k0_off1_inb i
  have h5 := hi.off2 ▸ k0_off2_inb i
  have h6 := hi.off3 ▸ k0_off3_inb i
  rw [load_off arg6 harg6 b.lse hi.off1 _ _ h4, load_off arg2 harg2 b.q hi.off2 _ _ h5, load_off arg7 harg7 b.d hi.off2 _ _ h5,
    load_off arg5 harg5 b.o hi.off2 _ _ h5, load_off arg2 harg2 b.q hi.off3 _ _ h6, load_off arg7 harg7 b.d hi.off3 _ _ h6,
    load_off arg5 harg5 b.o hi.off3 _ _ h6]
  simp only [load_unread]
  unfold Blocks.diag rows
  congr 1 <;> funext z <;> refine congrArg _ ?_ <;> funext a <;> refine Fin.ext ?_
  all_goals revert a
  · exact Fin.forall_fin_two.mpr ⟨by show (z 0).val = 0 + 1 * (z 0).val; omega, by show (z 1).val = 0 + 1 * (z 1).val; omega⟩
  · exact Fin.forall_fin_two.mpr ⟨by show (z 0).val = 0 + 1 * (z 0).val; omega, by show (z 1).val = 0 + 1 * (z 1).val; omega⟩
  · have e0 : (z 0).val < 1 := (z 0).isLt
    have e1 : (z 1).val < 1 := (z 1).isLt
    exact Fin.forall_fin_succ.mpr ⟨by show 0 = 0 + 1 * (z 0).val; omega, Fin.forall_fin_succ.mpr ⟨by show j.val = j.val + 1 * (z 1).val; omega,
      Fin.forall_fin_two.mpr ⟨by show (z 2).val = 0 + 1 * (z 2).val; omega, by show (z 3).val = 0 + 1 * (z 3).val; omega⟩⟩⟩
  · have e0 : (z 0).val < 1 := (z 0).isLt
    exact Fin.forall_fin_succ.mpr ⟨by show 0 = 0 + 1 * (z 0).val; omega,
      Fin.forall_fin_two.mpr ⟨by show (z 1).val = 0 + 1 * (z 1).val; omega, by show (z 2).val = 0 + 1 * (z 2).val; omega⟩⟩
  · exact Fin.forall_fin_two.mpr ⟨by show 1024 * j.val + (z 0).val = 1024 * j.val + 1 * (z 0).val; omega, by show (z 1).val = 0 + 1 * (z 1).val; omega⟩
  · exact Fin.forall_fin_two.mpr ⟨by show 1024 * j.val + (z 0).val = 1024 * j.val + 1 * (z 0).val; omega, by show (z 1).val = 0 + 1 * (z 1).val; omega⟩
  · exact Fin.forall_fin_two.mpr ⟨by show 1024 * j.val + (z 0).val = 1024 * j.val + 1 * (z 0).val; omega, by show (z 1).val = 0 + 1 * (z 1).val; omega⟩
  · have e0 : (z 0).val < 1 := (z 0).isLt
    exact Fin.forall_fin_succ.mpr ⟨by show 0 = 0 + 1 * (z 0).val; omega,
      Fin.forall_fin_two.mpr ⟨by show 512 + (z 1).val = 512 + 1 * (z 1).val; omega, by show 512 + (z 2).val = 512 + 1 * (z 2).val; omega⟩⟩
  all_goals exact Fin.forall_fin_two.mpr ⟨by show 1024 * j.val + 512 + (z 0).val = 1024 * j.val + 512 + 1 * (z 0).val; omega, by show (z 1).val = 0 + 1 * (z 1).val; omega⟩

set_option maxHeartbeats 4000000 in
/-- A later tile of queries. -/
theorem trip_run (hi : At i 0) (arg1 v193 : BitVec 32) (v5 v8 : FVec F S1024x128 .bf16) (v9 : FVec F S8x64 .f32) (h5 : v5 = k0_pay40 b.k) (h8 : v8 = k0_pay41 b.v) (h9 : v9 = k0_pay42) (k : Fin (k0_t1_loop i).trips) (acc : Sums F) (f12 : BufTy.Contents (Elt F) arg12.view.ty) (E : Set ℕ) :
    iprop(inputs c b arg2 harg2 arg3 harg3 arg4 harg4 arg5 harg5 arg6 harg6 arg7 harg7 arg8 harg8 ∗ (arg12.view.loc (c : Thread nD τ) ↦[arg12.view.set]{fullShare} f12))
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg1 v5 v8 v9 v193 k acc)
          (fun s => iprop(⌜s = b.later.add acc⌝ ∗ inputs c b arg2 harg2 arg3 harg3 arg4 harg4 arg5 harg5 arg6 harg6 arg7 harg7 arg8 harg8 ∗ (∃ f, (arg12.view.loc (c : Thread nD τ) ↦[arg12.view.set]{fullShare} f)
            ∗ ⌜arg12.view.read (Elt F) f = put 1024 1024 (b.later.addq (rows 1024 1024 (by omega) (arg12.view.read (Elt F) f12))) (arg12.view.read (Elt F) f12)⌝))) := by
  have hl := later_eq b arg2 harg2 arg5 harg5 arg6 harg6 arg7 harg7 arg8 harg8 i k hi
  subst h5 h8 h9
  unfold k0_t1_body
  iintro ⟨⟨HR2, HR3, HR4, HR5, HR6, HR7, HR8⟩, HW⟩
  sl_exec
  sl_step
  isplitr
  · ipureintro
    rw [hl]
    rfl
  isplitl [HR2 HR3 HR4 HR5 HR6 HR7 HR8]
  · sl_close
  iexists _; isplitl [HW]; · iexact HW
  ipureintro
  have hr := read_rows arg12.view f12 1024 1024 (by omega) (k0_off6 i k) (hi.off6 k) (k0_off6_inb i k)
  have h := read_put arg12.view f12 1024 1024 (k0_off6 i k) (hi.off6 k) (k0_off6_inb i k)
    (b.later.addq (rows 1024 1024 (by omega) (arg12.view.read (Elt F) f12))) []
  rw [← hr, hl] at h
  rw [← hr, hl]
  exact h

/-- The running sum after the two stores of the tile on the diagonal. -/
theorem diag_pieces (j : Fin 2) (hi : At i j) (f : BufTy.Contents (Elt F) arg12.view.ty) (ps : List (View.Piece (Elt F) S2048x128 .f32)) :
    arg12.view.read (Elt F) (arg12.view.writes (Elt F) f
      (⟨Rect.unit (s := S2048x128) (k0_off3 i) S512x128.size (k0_off3_inb i),
          (b.diag j).addq' (arg12.view.readAt (Elt F) (Rect.unit (s := S2048x128) (k0_off3 i) S512x128.size (k0_off3_inb i)).toLoadRect
            (arg12.view.writes (Elt F) f (⟨Rect.unit (s := S2048x128) (k0_off2 i) S1024x128.size (k0_off2_inb i),
              (b.diag j).addq (arg12.view.readAt (Elt F) (Rect.unit (s := S2048x128) (k0_off2 i) S1024x128.size (k0_off2_inb i)).toLoadRect
                (arg12.view.writes (Elt F) f ps))⟩ :: ps)))⟩
        :: ⟨Rect.unit (s := S2048x128) (k0_off2 i) S1024x128.size (k0_off2_inb i),
          (b.diag j).addq (arg12.view.readAt (Elt F) (Rect.unit (s := S2048x128) (k0_off2 i) S1024x128.size (k0_off2_inb i)).toLoadRect
            (arg12.view.writes (Elt F) f ps))⟩ :: ps))
      = b.afterDiag j (arg12.view.read (Elt F) (arg12.view.writes (Elt F) f ps)) := by
  refine (read_put arg12.view f (1024 * j.val + 512) 512 (k0_off3 i) hi.off3 (k0_off3_inb i) _ _).trans ?_
  unfold Blocks.afterDiag
  have e3 := fun (g : BufTy.Contents (Elt F) arg12.view.ty) => read_rows arg12.view g (1024 * j.val + 512) 512 (by omega) (k0_off3 i) hi.off3 (k0_off3_inb i)
  have e2 := read_rows arg12.view (arg12.view.writes (Elt F) f ps) (1024 * j.val) 1024 (by omega) (k0_off2 i) hi.off2 (k0_off2_inb i)
  have p2 := (read_put arg12.view f (1024 * j.val) 1024 (k0_off2 i) hi.off2 (k0_off2_inb i) _ ps).trans
    (congrArg (fun t => put (1024 * j.val) 1024 ((b.diag j).addq t) (arg12.view.read (Elt F) (arg12.view.writes (Elt F) f ps))) e2)
  exact congrArg₂ (fun t u => put (1024 * j.val + 512) 512 ((b.diag j).addq' t) u)
    ((e3 _).trans (congrArg (rows (1024 * j.val + 512) 512 (by omega)) p2)) p2

/-- A block of one store over all of it. -/
theorem one_piece {e : EltTy} (arg : Memref sig .tc .vmem S1024x128 e) (f : BufTy.Contents (Elt F) arg.view.ty)
    (hz : ∀ a, (![0, 0] : Fin 2 → ℕ) a + S1024x128.size a ≤ S1024x128.size a) (w : (Rect.unit (s := S1024x128) ![0, 0] S1024x128.size hz).shape.Idx → Elt F e) :
    arg.view.read (Elt F) (arg.view.writes (Elt F) f [⟨Rect.unit (s := S1024x128) ![0, 0] S1024x128.size hz, w⟩]) = w :=
  funext fun y => View.read_writes_cons_unit_of_mem _ _ _ _ _ y y rfl (fun a => by revert a; exact Fin.forall_fin_two.mpr ⟨(Nat.zero_add _).symm, (Nat.zero_add _).symm⟩)

/-- A block of the queries' size of one store over all of it. -/
theorem whole_piece {e : EltTy} (arg : Memref sig .tc .vmem S2048x128 e) (f : BufTy.Contents (Elt F) arg.view.ty)
    (hz : ∀ a, (![0, 0] : Fin 2 → ℕ) a + S2048x128.size a ≤ S2048x128.size a) (w : (Rect.unit (s := S2048x128) ![0, 0] S2048x128.size hz).shape.Idx → Elt F e) :
    arg.view.read (Elt F) (arg.view.writes (Elt F) f [⟨Rect.unit (s := S2048x128) ![0, 0] S2048x128.size hz, w⟩]) = w :=
  funext fun y => View.read_writes_cons_unit_of_mem _ _ _ _ _ y y rfl (fun a => by revert a; exact Fin.forall_fin_two.mpr ⟨(Nat.zero_add _).symm, (Nat.zero_add _).symm⟩)

/-- A load of all of a buffer of the queries' size. -/
theorem read_all {e : EltTy} (arg : Memref sig .tc .vmem S2048x128 e) (f : BufTy.Contents (Elt F) arg.view.ty)
    (hz : ∀ a, (![0, 0] : Fin 2 → ℕ) a + S2048x128.size a ≤ S2048x128.size a) :
    arg.view.readAt (Elt F) (Rect.unit (s := S2048x128) ![0, 0] S2048x128.size hz).toLoadRect f = arg.view.read (Elt F) f :=
  funext fun y => congrArg (arg.view.read (Elt F) f) (funext fun a => Fin.ext (by
    revert a; exact Fin.forall_fin_two.mpr ⟨by show 0 + 1 * (y 0).val = (y 0).val; omega, by show 0 + 1 * (y 1).val = (y 1).val; omega⟩))

/-- The running sum begun. -/
theorem zero_piece (f : BufTy.Contents (Elt F) arg12.view.ty) :
    arg12.view.read (Elt F) (arg12.view.writes (Elt F) f [⟨Rect.unit (s := S2048x128) ![0, 0] S2048x128.size inb_S2048x128_S2048x128_0_0, k0_pay39 (F := F)⟩]) = k0_pay39 :=
  funext fun y => View.read_writes_cons_unit_of_mem _ _ _ _ _ y y rfl (fun a => by revert a; exact Fin.forall_fin_two.mpr ⟨(Nat.zero_add _).symm, (Nat.zero_add _).symm⟩)

set_option maxHeartbeats 4000000 in
/-- A point of the first tile of keys. -/
theorem body_A (hi : At i 0) (E : Set ℕ) (K : PUnit → sProp 𝕄) (f9 : BufTy.Contents (Elt F) arg9.view.ty) (f10 : BufTy.Contents (Elt F) arg10.view.ty)
    (f11 : BufTy.Contents (Elt F) arg11.view.ty) (f12 : BufTy.Contents (Elt F) arg12.view.ty) :
    iprop(inputs c b arg2 harg2 arg3 harg3 arg4 harg4 arg5 harg5 arg6 harg6 arg7 harg7 arg8 harg8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop(inputs c b arg2 harg2 arg3 harg3 arg4 harg4 arg5 harg5 arg6 harg6 arg7 harg7 arg8 harg8 ∗ (arg9.view.loc (c : Thread nD τ) ↦[arg9.view.set]{fullShare} f9)
            ∗ (∃ f, (arg10.view.loc (c : Thread nD τ) ↦[arg10.view.set]{fullShare} f) ∗ ⌜arg10.view.read (Elt F) f = b.dk 0⌝)
            ∗ (∃ f, (arg11.view.loc (c : Thread nD τ) ↦[arg11.view.set]{fullShare} f) ∗ ⌜arg11.view.read (Elt F) f = b.dv 0⌝)
            ∗ (∃ f, (arg12.view.loc (c : Thread nD τ) ↦[arg12.view.set]{fullShare} f) ∗ ⌜arg12.view.read (Elt F) f = b.first⌝)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12) K := by
  have hd := diag_eq b arg2 harg2 arg3 harg3 arg4 harg4 arg5 harg5 arg6 harg6 arg7 harg7 arg8 harg8 i 0 hi
  have hc := hi.starts.mpr rfl
  simp only [cc0_attn_bwd_eq_skeleton]
  unfold cc0_attn_bwd_skel
  rw [k0_part3_eq_skeleton]
  unfold k0_part3_skel
  dsimp only
  rw [dif_pos hc]
  iintro ⟨⟨HR2, HR3, HR4, HR5, HR6, HR7, HR8⟩, H9, H10, H11, H12, Hk⟩
  sl_exec
  sl_for (fun (k : ℕ) (acc : Sums F) => iprop(inputs c b arg2 harg2 arg3 harg3 arg4 harg4 arg5 harg5 arg6 harg6 arg7 harg7 arg8 harg8 ∗ (∃ f, (arg12.view.loc (c : Thread nD τ) ↦[arg12.view.set]{fullShare} f) ∗ ⌜(k = 0 ∧ acc = (b.diag 0).sums ∧ arg12.view.read (Elt F) f = b.afterDiag 0 k0_pay39) ∨ (k = 1 ∧ acc = b.sums 0 ∧ arg12.view.read (Elt F) f = b.first)⌝))) $$ [HR2 HR3 HR4 HR5 HR6 HR7 HR8 H12]
  · intro k acc
    have hk : k.val = 0 := by have h1 := k.isLt; have h2 : Scf.trips (k0_t1_loop i).lb (k0_t1_loop i).ub (k0_t1_loop i).st = 1 := hi.trips1; omega
    iintro ⟨HI, ⟨%f, H12, %hf⟩⟩
    have hf' := hf.resolve_right (by omega)
    iapply (wp_wand_r Idealize.ShloMosaic.frame (wpE (defs₀ (F := F)) Variants.none (c : Thread nD τ) none) E)
    isplitl [HI H12]
    · iapply (trip_run c b arg2 harg2 arg3 harg3 arg4 harg4 arg5 harg5 arg6 harg6 arg7 harg7 arg8 harg8 i arg9 harg9 arg10 harg10 arg11 harg11 arg12 harg12 hi _ _ _ _ _
        (congrArg k0_pay40 (congrArg Diag.k hd).symm) (congrArg k0_pay41 (congrArg Diag.v hd).symm) rfl k acc f E)
      isplitl [HI]; · iexact HI
      iexact H12
    · iintro %s ⟨%hs, HI, ⟨%f', H12, %h'⟩⟩
      isplitl [HI]; · iexact HI
      iexists _; isplitl [H12]; · iexact H12
      ipureintro
      exact Or.inr ⟨by omega, by rw [hs, hf'.2.1]; rfl, by rw [h', hf'.2.2]; rfl⟩
  · isplitl [HR2 HR3 HR4 HR5 HR6 HR7 HR8]
    · sl_close
    iexists _; isplitl [H12]; · iexact H12
    ipureintro
    refine Or.inl ⟨rfl, ?_, ?_⟩
    · rw [hd]; rfl
    · have h := diag_pieces b i arg12 0 hi arg12.view.junk [⟨Rect.unit (s := S2048x128) ![0, 0] S2048x128.size inb_S2048x128_S2048x128_0_0, k0_pay39 (F := F)⟩]
      rw [zero_piece arg12] at h
      refine (congrArg (fun L => arg12.view.read (Elt F) (arg12.view.writes (Elt F) arg12.view.junk L)) ?_).trans h
      rw [hd]
      rfl
  iintro %acc ⟨HI, ⟨%f, H12, %hf⟩⟩
  have hf' := hf.resolve_left (by have h := hi.trips1; intro h'; exact absurd (h.symm.trans h'.1) (by decide))
  sl_for (fun (k : ℕ) (acc' : Sums F) => (iprop(⌜acc' = b.sums 0⌝) : sProp 𝕄)) $$ []
  · intro k _
    exact absurd k.isLt (by have h : Scf.trips (k0_t2_loop i).lb (k0_t2_loop i).ub (k0_t2_loop i).st = 0 := hi.trips2; omega)
  · ipureintro; exact hf'.2.1
  iintro %acc' %ha
  sl_exec
  rw [dif_neg (fun h => absurd (hi.ends.mp h) (by decide))]
  sl_exec
  sl_step
  iapply Hk
  isplitl [HI]; · iexact HI
  isplitl [H9]; · iexact H9
  isplitl [H10]
  · iexists _; isplitl [H10]; · iexact H10
    ipureintro; subst ha; exact one_piece arg10 f10 inb_S1024x128_S1024x128_0_0 _
  isplitl [H11]
  · iexists _; isplitl [H11]; · iexact H11
    ipureintro; subst ha; exact one_piece arg11 f11 inb_S1024x128_S1024x128_0_0 _
  · iexists _; isplitl [H12]; · iexact H12
    ipureintro; exact hf'.2.2

/-- The second half's rows of the running sum are those the first half has just stored, whatever stood there. -/
theorem cover_read (j : Fin 2) (hi : At i j) (f g : BufTy.Contents (Elt F) arg12.view.ty) (w : FVec F S1024x128 .f32) :
    arg12.view.readAt (Elt F) (Rect.unit (s := S2048x128) (k0_off3 i) S512x128.size (k0_off3_inb i)).toLoadRect
        (arg12.view.writes (Elt F) f [⟨Rect.unit (s := S2048x128) (k0_off2 i) S1024x128.size (k0_off2_inb i), w⟩])
      = arg12.view.readAt (Elt F) (Rect.unit (s := S2048x128) (k0_off3 i) S512x128.size (k0_off3_inb i)).toLoadRect
        (arg12.view.writes (Elt F) g [⟨Rect.unit (s := S2048x128) (k0_off2 i) S1024x128.size (k0_off2_inb i), w⟩]) := by
  have key : ∀ f : BufTy.Contents (Elt F) arg12.view.ty,
      arg12.view.readAt (Elt F) (Rect.unit (s := S2048x128) (k0_off3 i) S512x128.size (k0_off3_inb i)).toLoadRect
        (arg12.view.writes (Elt F) f [⟨Rect.unit (s := S2048x128) (k0_off2 i) S1024x128.size (k0_off2_inb i), w⟩])
      = fun z => w (ix2 ⟨512 + (z 0).val, by have h : (z 0).val < 512 := (z 0).isLt; omega⟩ (z 1)) := by
    intro f
    refine (read_rows arg12.view _ (1024 * j.val + 512) 512 (by omega) (k0_off3 i) hi.off3 (k0_off3_inb i)).trans ?_
    refine (congrArg (rows (1024 * j.val + 512) 512 (by omega)) (read_put arg12.view f (1024 * j.val) 1024 (k0_off2 i) hi.off2 (k0_off2_inb i) w [])).trans ?_
    funext z
    have hz : (z 0).val < 512 := (z 0).isLt
    unfold rows put
    rw [dif_pos (by show 1024 * j.val ≤ 1024 * j.val + 512 + (z 0).val ∧ 1024 * j.val + 512 + (z 0).val < 1024 * j.val + 1024; omega)]
    refine congrArg w (congrArg (fun a => ix2 a (z 1)) (Fin.ext ?_))
    show 1024 * j.val + 512 + (z 0).val - 1024 * j.val = 512 + (z 0).val
    omega
  rw [key f, key g]

set_option maxHeartbeats 400000 in
/-- A point of the last tile of keys, which finds the running sum at `x`. -/
theorem body_B (hi : At i 1) (x : FVec F S2048x128 .f32) (E : Set ℕ) (K : PUnit → sProp 𝕄) (f9 : BufTy.Contents (Elt F) arg9.view.ty) (f10 : BufTy.Contents (Elt F) arg10.view.ty)
    (f11 : BufTy.Contents (Elt F) arg11.view.ty) :
    iprop(inputs c b arg2 harg2 arg3 harg3 arg4 harg4 arg5 harg5 arg6 harg6 arg7 harg7 arg8 harg8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} (harg12.unread x))
        ∗ (iprop(inputs c b arg2 harg2 arg3 harg3 arg4 harg4 arg5 harg5 arg6 harg6 arg7 harg7 arg8 harg8
            ∗ (∃ f, (arg9.view.loc (c : Thread nD τ) ↦[arg9.view.set]{fullShare} f) ∗ ⌜arg9.view.read (Elt F) f = k0_pay20 (b.afterDiag 1 x)⌝)
            ∗ (∃ f, (arg10.view.loc (c : Thread nD τ) ↦[arg10.view.set]{fullShare} f) ∗ ⌜arg10.view.read (Elt F) f = b.dk 1⌝)
            ∗ (∃ f, (arg11.view.loc (c : Thread nD τ) ↦[arg11.view.set]{fullShare} f) ∗ ⌜arg11.view.read (Elt F) f = b.dv 1⌝)
            ∗ (∃ f, (arg12.view.loc (c : Thread nD τ) ↦[arg12.view.set]{fullShare} f) ∗ ⌜arg12.view.read (Elt F) f = b.afterDiag 1 x⌝)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12) K := by
  have hd := diag_eq b arg2 harg2 arg3 harg3 arg4 harg4 arg5 harg5 arg6 harg6 arg7 harg7 arg8 harg8 i 1 hi
  have hdiag := diag_pieces b i arg12 1 hi (harg12.unread x) []
  rw [show arg12.view.writes (Elt F) (harg12.unread x) [] = harg12.unread x from rfl, harg12.read_unread] at hdiag
  simp only [cc0_attn_bwd_eq_skeleton]
  unfold cc0_attn_bwd_skel
  rw [k0_part3_eq_skeleton]
  unfold k0_part3_skel
  dsimp only
  rw [dif_neg (fun h => absurd (hi.starts.mp h) (by decide))]
  iintro ⟨⟨HR2, HR3, HR4, HR5, HR6, HR7, HR8⟩, H9, H10, H11, H12, Hk⟩
  sl_exec
  sl_for (fun (k : ℕ) (acc' : Sums F) => (iprop(⌜acc' = (b.diag 1).sums⌝) : sProp 𝕄)) $$ []
  · intro k _
    exact absurd k.isLt (by have h : Scf.trips (k0_t1_loop i).lb (k0_t1_loop i).ub (k0_t1_loop i).st = 0 := hi.trips1; omega)
  · ipureintro; rw [hd]; rfl
  iintro %acc %ha
  sl_exec
  sl_for (fun (k : ℕ) (acc' : Sums F) => (iprop(⌜acc' = (b.diag 1).sums⌝) : sProp 𝕄)) $$ []
  · intro k _
    exact absurd k.isLt (by have h : Scf.trips (k0_t2_loop i).lb (k0_t2_loop i).ub (k0_t2_loop i).st = 0 := hi.trips2; omega)
  · ipureintro; exact ha
  iintro %acc' %ha'
  sl_exec
  rw [dif_pos (hi.ends.mpr rfl)]
  sl_exec
  have hend : arg12.view.read (Elt F) (arg12.view.writes (Elt F) (harg12.unread x)
        (⟨Rect.unit (s := S2048x128) (k0_off3 i) S512x128.size (k0_off3_inb i),
            k0_pay1 (body_B.sl.r_8 b arg3 harg3)
              (body_B.sl.r_19 b arg2 harg2 arg3 harg3 arg4 harg4 arg5 harg5 arg6 harg6 arg7 harg7 arg8 harg8 i)
              (body_B.sl.r_20 b arg2 harg2 arg3 harg3 arg4 harg4 arg5 harg5 arg6 harg6 arg7 harg7 arg8 harg8 i)
              (body_B.sl.v182 b arg2 harg2 arg3 harg3 arg4 harg4 arg5 harg5 arg6 harg6 arg7 harg7 arg8 harg8 i arg12
                harg12 x)⟩ ::
          body_B.sl.H12_1 b arg2 harg2 arg3 harg3 arg4 harg4 arg5 harg5 arg6 harg6 arg7 harg7 arg8 harg8 i arg12 harg12 x))
      = b.afterDiag 1 x := by
    refine (congrArg (fun L => arg12.view.read (Elt F) (arg12.view.writes (Elt F) (harg12.unread x) L)) ?_).trans hdiag
    have hw : ∀ w w' : FVec F S1024x128 .f32, w = w' → (⟨Rect.unit (s := S2048x128) (k0_off2 i) S1024x128.size (k0_off2_inb i), w⟩ : View.Piece (Elt F) S2048x128 .f32) = ⟨Rect.unit (s := S2048x128) (k0_off2 i) S1024x128.size (k0_off2_inb i), w'⟩ := fun w w' h => by rw [h]
    have hv : ∀ w w' : FVec F S512x128 .f32, w = w' → (⟨Rect.unit (s := S2048x128) (k0_off3 i) S512x128.size (k0_off3_inb i), w⟩ : View.Piece (Elt F) S2048x128 .f32) = ⟨Rect.unit (s := S2048x128) (k0_off3 i) S512x128.size (k0_off3_inb i), w'⟩ := fun w w' h => by rw [h]
    rw [hd]
    refine congrArg₂ List.cons (hv _ _ ?_) (congrArg (fun p => [p]) (hw _ _ ?_))
    · clear hdiag
      unfold Diag.addq'
      dsimp only
      refine congr (congr (congr (congrArg k0_pay1 ?_) ?_) ?_) ?_
      · rfl
      · rfl
      · rfl
      · refine Eq.trans ?_ (cover_read i arg12 1 hi arg12.view.junk (harg12.unread x) _)
        exact congrArg (fun L => arg12.view.readAt (Elt F) (Rect.unit (s := S2048x128) (k0_off3 i) S512x128.size (k0_off3_inb i)).toLoadRect
            (arg12.view.writes (Elt F) arg12.view.junk L)) (congrArg (fun p => [p]) (hw _ _ rfl))
    · rfl
  sl_step
  iapply Hk
  isplitl [HR2 HR3 HR4 HR5 HR6 HR7 HR8]
  · sl_close
  isplitl [H9]
  · iexists _; isplitl [H9]; · iexact H9
    ipureintro
    rw [whole_piece arg9]
    exact congrArg k0_pay20 ((read_all arg12 _ inb_S2048x128_S2048x128_0_0).trans hend)
  isplitl [H10]
  · iexists _; isplitl [H10]; · iexact H10
    ipureintro; subst ha'; exact one_piece arg10 f10 inb_S1024x128_S1024x128_0_0 _
  isplitl [H11]
  · iexists _; isplitl [H11]; · iexact H11
    ipureintro; subst ha'; exact one_piece arg11 f11 inb_S1024x128_S1024x128_0_0 _
  · iexists _; isplitl [H12]; · iexact H12
    ipureintro
    exact hend

end run

end Cert.AttnRun

end
-- ==== Proof.AttnCall.lean ====
/- The attention's gradient: the run of the whole call, point by point, from the runs of a grid point. -/
module

public import proofs.«01_k».proof.Proof.AttnRun
public import proofs.«01_k».proof.Proof.Gen.AttnIdeal.Frame
public import Idealize.ShloMosaic.Lib.Claim
public import Idealize.ShloMosaic.Lib.Pipeline.ValueKit
public import Idealize.ShloMosaic.Lib.WritesUnit

@[expose] public section

set_option maxRecDepth 16384

noncomputable section

namespace Cert.AttnRun

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section point
variable (c : Dev nD) (b : Blocks F) (arg2 : Memref sig .tc .vmem S2048x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S2048x128 .f32) (harg5 : arg5.IsWhole) (arg6 : Memref sig .tc .vmem S1x2x8x1024 .f32) (harg6 : arg6.IsWhole) (arg7 : Memref sig .tc .vmem S2048x128 .f32) (harg7 : arg7.IsWhole) (arg8 : Memref sig .tc .vmem S2x1024x1024 .f32) (harg8 : arg8.IsWhole) (i : grid0.Coords) (arg9 : Memref sig .tc .vmem S2048x128 .bf16) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S2048x128 .f32) (harg12 : arg12.IsWhole)

/-- The seven blocks a point reads, each held by its own buffer. -/
abbrev ownsIn : sProp 𝕄 := iprop(owns (c : Thread nD τ) arg2 fullShare b.q ∗ owns (c : Thread nD τ) arg3 fullShare b.k ∗ owns (c : Thread nD τ) arg4 fullShare b.v ∗ owns (c : Thread nD τ) arg5 fullShare b.o ∗ owns (c : Thread nD τ) arg6 fullShare b.lse ∗ owns (c : Thread nD τ) arg7 fullShare b.d ∗ owns (c : Thread nD τ) arg8 fullShare b.bias)

set_option maxHeartbeats 1000000 in
/-- A point of the first tile of keys, block to block. -/
theorem point_A (hi : At i 0) (x9 : FVec F S2048x128 .bf16) (E : Set ℕ) (K : PUnit → sProp 𝕄) :
    iprop(ownsIn c b arg2 arg3 arg4 arg5 arg6 arg7 arg8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(ownsIn c b arg2 arg3 arg4 arg5 arg6 arg7 arg8 ∗ owns (c : Thread nD τ) arg9 fullShare x9 ∗ owns (c : Thread nD τ) arg10 fullShare (b.dk 0) ∗ owns (c : Thread nD τ) arg11 fullShare (b.dv 0) ∗ owns (c : Thread nD τ) arg12 fullShare b.first) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12) K := by
  unfold ownsIn owns
  iintro ⟨⟨⟨%f2, %hf2, G2⟩, ⟨%f3, %hf3, G3⟩, ⟨%f4, %hf4, G4⟩, ⟨%f5, %hf5, G5⟩, ⟨%f6, %hf6, G6⟩, ⟨%f7, %hf7, G7⟩, ⟨%f8, %hf8, G8⟩⟩, ⟨%f9, %hf9, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  iapply (body_A c b arg2 harg2 arg3 harg3 arg4 harg4 arg5 harg5 arg6 harg6 arg7 harg7 arg8 harg8 i arg9 harg9 arg10 harg10 arg11 harg11 arg12 harg12 hi E K f9 f10 f11 f12)
  isplitl [G2 G3 G4 G5 G6 G7 G8]
  · sl_close
  isplitl [H9]; · iexact H9
  isplitl [H10]; · iexact H10
  isplitl [H11]; · iexact H11
  isplitl [H12]; · iexact H12
  iintro ⟨⟨G2, G3, G4, G5, G6, G7, G8⟩, H9, ⟨%e10, H10, %h10⟩, ⟨%e11, H11, %h11⟩, ⟨%e12, H12, %h12⟩⟩
  iapply Hk
  isplitl [G2 G3 G4 G5 G6 G7 G8]
  · isplitl [G2]
    · iexists _; isplitr; · ipureintro; exact harg2.read_unread _
      iexact G2
    isplitl [G3]
    · iexists _; isplitr; · ipureintro; exact harg3.read_unread _
      iexact G3
    isplitl [G4]
    · iexists _; isplitr; · ipureintro; exact harg4.read_unread _
      iexact G4
    isplitl [G5]
    · iexists _; isplitr; · ipureintro; exact harg5.read_unread _
      iexact G5
    isplitl [G6]
    · iexists _; isplitr; · ipureintro; exact harg6.read_unread _
      iexact G6
    isplitl [G7]
    · iexists _; isplitr; · ipureintro; exact harg7.read_unread _
      iexact G7
    iexists _; isplitr; · ipureintro; exact harg8.read_unread _
    iexact G8
  isplitl [H9]
  · iexists _; isplitr; · ipureintro; exact hf9
    iexact H9
  isplitl [H10]
  · iexists _; isplitr; · ipureintro; exact h10
    iexact H10
  isplitl [H11]
  · iexists _; isplitr; · ipureintro; exact h11
    iexact H11
  iexists _; isplitr; · ipureintro; exact h12
  iexact H12

set_option maxHeartbeats 1000000 in
/-- A point of the last tile of keys, block to block. -/
theorem point_B (hi : At i 1) (x : FVec F S2048x128 .f32) (E : Set ℕ) (K : PUnit → sProp 𝕄) :
    iprop(ownsIn c b arg2 arg3 arg4 arg5 arg6 arg7 arg8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x
        ∗ (iprop(ownsIn c b arg2 arg3 arg4 arg5 arg6 arg7 arg8 ∗ owns (c : Thread nD τ) arg9 fullShare (k0_pay20 (b.afterDiag 1 x)) ∗ owns (c : Thread nD τ) arg10 fullShare (b.dk 1) ∗ owns (c : Thread nD τ) arg11 fullShare (b.dv 1) ∗ owns (c : Thread nD τ) arg12 fullShare (b.afterDiag 1 x)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12) K := by
  unfold ownsIn owns
  iintro ⟨⟨⟨%f2, %hf2, G2⟩, ⟨%f3, %hf3, G3⟩, ⟨%f4, %hf4, G4⟩, ⟨%f5, %hf5, G5⟩, ⟨%f6, %hf6, G6⟩, ⟨%f7, %hf7, G7⟩, ⟨%f8, %hf8, G8⟩⟩, ⟨%d9, %f9, -, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12
  iapply (body_B c b arg2 harg2 arg3 harg3 arg4 harg4 arg5 harg5 arg6 harg6 arg7 harg7 arg8 harg8 i arg9 harg9 arg10 harg10 arg11 harg11 arg12 harg12 hi x E K f9 f10 f11)
  isplitl [G2 G3 G4 G5 G6 G7 G8]
  · sl_close
  isplitl [H9]; · iexact H9
  isplitl [H10]; · iexact H10
  isplitl [H11]; · iexact H11
  isplitl [H12]; · iexact H12
  iintro ⟨⟨G2, G3, G4, G5, G6, G7, G8⟩, ⟨%e9, H9, %h9⟩, ⟨%e10, H10, %h10⟩, ⟨%e11, H11, %h11⟩, ⟨%e12, H12, %h12⟩⟩
  iapply Hk
  isplitl [G2 G3 G4 G5 G6 G7 G8]
  · isplitl [G2]
    · iexists _; isplitr; · ipureintro; exact harg2.read_unread _
      iexact G2
    isplitl [G3]
    · iexists _; isplitr; · ipureintro; exact harg3.read_unread _
      iexact G3
    isplitl [G4]
    · iexists _; isplitr; · ipureintro; exact harg4.read_unread _
      iexact G4
    isplitl [G5]
    · iexists _; isplitr; · ipureintro; exact harg5.read_unread _
      iexact G5
    isplitl [G6]
    · iexists _; isplitr; · ipureintro; exact harg6.read_unread _
      iexact G6
    isplitl [G7]
    · iexists _; isplitr; · ipureintro; exact harg7.read_unread _
      iexact G7
    iexists _; isplitr; · ipureintro; exact harg8.read_unread _
    iexact G8
  isplitl [H9]
  · iexists _; isplitr; · ipureintro; exact h9
    iexact H9
  isplitl [H10]
  · iexists _; isplitr; · ipureintro; exact h10
    iexact H10
  isplitl [H11]
  · iexists _; isplitr; · ipureintro; exact h11
    iexact H11
  iexists _; isplitr; · ipureintro; exact h12
  iexact H12

end point

variable (m : (ℓ : Loc nD τ sig) → Buf (Elt F) ℓ) (ρ : Dev nD → PrngReg)

/-- The seven blocks point `t` reads. -/
def blocksAt (c : Dev nD) (t : Fin cfg0.N) : Blocks F :=
  ⟨iblk m c 0 t, iblk m c 1 t, iblk m c 2 t, iblk m c 3 t, iblk m c 4 t, iblk m c 5 t, iblk m c 6 t⟩

/-- The tile of keys of point `t`. -/
def tileOf (t : Fin cfg0.N) : Fin 2 := ⟨t.val % 2, Nat.mod_lt _ (by omega)⟩

theorem at_point (t : Fin cfg0.N) : At (grid0.coords t) (tileOf t) :=
  at_coords _ _ ((by decide +kernel : ∀ t : Fin grid0.N, (grid0.coords t 1).val = t.val % 2) t)

/-- The queries' running sum after point `n`. -/
def sumAt (c : Dev nD) (n : ℕ) (hn : n < cfg0.N) : FVec F S2048x128 .f32 :=
  if n % 2 = 0 then (blocksAt m c ⟨n, hn⟩).first
  else (blocksAt m c ⟨n, hn⟩).afterDiag 1 (blocksAt m c ⟨n - 1, Nat.lt_of_le_of_lt (Nat.sub_le _ _) hn⟩).first

/-- The scratch the running sum is held in. -/
abbrev scM : Memref sig .tc .vmem S2048x128 .f32 := Memref.whole cc0_scratch0

theorem PhiA_eq (c : Dev nD) : (Pipeline.ΦA spec0 c : sProp 𝕄)
    = iprop(iprop((∃ d, owns (c : Thread nD τ) scM fullShare d)) ∗ (∃ r, prngReg c r)) := by
  unfold Pipeline.ΦA
  rw [scopedRest0_eq]
  simp only [scM, owns_whole]
  try rfl

/-- Before point `n`: the scratch at what the point before left in it. -/
def Phi (c : Dev nD) : (n : ℕ) → n ≤ cfg0.N → sProp 𝕄
  | 0, _ => Pipeline.ΦA spec0 c
  | n + 1, hn => iprop(owns (c : Thread nD τ) scM fullShare (sumAt m c n hn) ∗ (∃ r, prngReg c r))

theorem Phi_succ (c : Dev nD) (n : ℕ) (hn : n < cfg0.N) :
    Phi m c (n + 1) hn = iprop(owns (c : Thread nD τ) scM fullShare (sumAt m c n hn) ∗ (∃ r, prngReg c r)) := rfl

theorem Phi_pos (c : Dev nD) (n : ℕ) (h : n ≤ cfg0.N) (hz : n ≠ 0) :
    Phi m c n h = iprop(owns (c : Thread nD τ) scM fullShare (sumAt m c (n - 1) (by omega)) ∗ (∃ r, prngReg c r)) := by
  cases n with
  | zero => exact absurd rfl hz
  | succ n => rfl

theorem Phi_any (c : Dev nD) (n : ℕ) (h : n ≤ cfg0.N) :
    Phi m c n h ⊢ iprop(iprop((∃ d, owns (c : Thread nD τ) scM fullShare d)) ∗ (∃ r, prngReg c r)) := by
  cases n with
  | zero => rw [← PhiA_eq]; exact Idealize.SL.BI.Entails.refl _
  | succ n =>
    rw [Phi_succ]
    iintro ⟨HS, Hg⟩
    isplitl [HS]
    · iexists _; iexact HS
    iexact Hg

/-- The launch's data: the arrays as they are found; after a point each input's buffer at its block, the outputs' at what
the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay20 (sumAt m c t.val t.isLt)
    | ⟨8, _⟩ => (blocksAt m c t).dk (tileOf t)
    | ⟨9, _⟩ => (blocksAt m c t).dv (tileOf t)
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay20 (sumAt m c t.val t.isLt) := by dsimp only [dats]
theorem after8 (c : Dev nD) (t : Fin cfg0.N) : (dats m 0 c).after 8 t = (blocksAt m c t).dk (tileOf t) := by dsimp only [dats]
theorem after9 (c : Dev nD) (t : Fin cfg0.N) : (dats m 0 c).after 9 t = (blocksAt m c t).dv (tileOf t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body finds at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ owns (c : Thread nD τ) (st0_8 t) fullShare ((dats m 0 c).after 8 t)
    ∗ owns (c : Thread nD τ) (st0_9 t) fullShare ((dats m 0 c).after 9 t))

/-- The queries' gradient is left alone at a point of the first tile, -/
theorem leaves_A (c : Dev nD) (t : Fin cfg0.N) (h : t.val % 2 = 0) :
    (dats m 0 c).leavesExact 7 t = iprop(∃ d, owns (c : Thread nD τ) (st0_7 t) fullShare ((dats m 0 c).before 7 t d)) :=
  Dat.leavesExact_idle _ 7 t ((by decide +kernel : ∀ t : Fin grid0.N, t.val % 2 = 0 → idle0 7 (grid0.coords t) = true) t h)
    (Bool.eq_false_iff.mpr fun h' => by have := (flush0_7 t).mp h'; omega)

/-- and stored at a point of the last. -/
theorem leaves_B (c : Dev nD) (t : Fin cfg0.N) (h : t.val % 2 = 1) :
    (dats m 0 c).leavesExact 7 t = owns (c : Thread nD τ) (st0_7 t) fullShare ((dats m 0 c).after 7 t) := by
  have hi : cfg0.idle 7 (cfg0.grid.coords t) = false :=
    (by decide +kernel : ∀ t : Fin grid0.N, t.val % 2 = 1 → idle0 7 (grid0.coords t) = false) t h
  unfold Dat.leavesExact; rw [hi]

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after8, after9, Phi_castSucc,
    show (dats m 0 c).Φ t.succ = Phi m c (t.val + 1) t.isLt from rfl, Phi_succ]
  by_cases h0 : t.val % 2 = 0
  · rw [leaves_A m c t h0, show sumAt m c t.val t.isLt = (blocksAt m c t).first from if_pos h0,
      show tileOf t = 0 from Fin.ext h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HA := (Phi_any m c t.val (Nat.le_of_lt t.isLt)) $$ HΦ
    icases HA with ⟨HS, Hg⟩
    iapply (point_A c (blocksAt m c t) _ _ _ _ _ _ _ _ _ _ _ _ _ _ (grid0.coords t) _ _ _ _ _ _ _ _ ((show tileOf t = 0 from Fin.ext h0) ▸ at_point t) ((dats m 0 c).before 7 t d7) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexists _; iexact H8
    isplitl [H9]; · iexists _; iexact H9
    isplitl [HS]; · iexact HS
    iintro ⟨⟨G0, G1, G2, G3, G4, G5, G6⟩, G7, G8, G9, GS⟩
    isplitl [GS Hg]
    · isplitl [GS]; · iexact GS
      iexact Hg
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexists d7; iexact G7
    isplitl [G8]; · iexact G8
    iexact G9

  · have h1 : t.val % 2 = 1 := by omega
    have hp : (t.val - 1) % 2 = 0 := by omega
    rw [leaves_B m c t h1, after7, show tileOf t = 1 from Fin.ext h1, Phi_pos m c t.val _ (by omega),
      show sumAt m c t.val t.isLt = (blocksAt m c t).afterDiag 1 (sumAt m c (t.val - 1) (Nat.lt_of_le_of_lt (Nat.sub_le _ _) t.isLt)) from by
        unfold sumAt; rw [if_neg h0, if_pos hp]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_B c (blocksAt m c t) _ _ _ _ _ _ _ _ _ _ _ _ _ _ (grid0.coords t) _ _ _ _ _ _ _ _ ((show tileOf t = 1 from Fin.ext h1) ▸ at_point t) (sumAt m c (t.val - 1) (Nat.lt_of_le_of_lt (Nat.sub_le _ _) t.isLt)) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [HS]; · iexact HS
    iintro ⟨⟨G0, G1, G2, G3, G4, G5, G6⟩, G7, G8, G9, GS⟩
    isplitl [GS Hg]
    · isplitl [GS]; · iexact GS
      iexact Hg
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Phi m c cfg0.N (Nat.le_refl _) from rfl, PhiA_eq]
  exact Phi_any m c _ _

set_option backward.isDefEq.respectTransparency.types false in
/-- The launch ends, with every array at what its windows leave and no signal outstanding. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and no signal is outstanding. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.AttnRun

end
-- ==== Proof.AttnHost.lean ====
/- The attention's gradient: the arrays the operations before the call compute. -/
module

public import proofs.«01_k».proof.Proof.AttnPoint
public import proofs.«01_k».proof.Proof.AttnCall

@[expose] public section

set_option maxRecDepth 16384

noncomputable section

namespace Cert.AttnRun

open Cert.AttnIdeal Cert.AttnIdeal.Gen Idealize.ShloMosaic Idealize.ShloMosaic.TcCoe Cert.AttnMath

/-- How far a query is after a key. -/
def distA : IVec S1x2048x2048 32 := subi (addi (muli (iotaInDim S1x2048x2048 32 0) (broadcastInDim S1x2048x2048 ![] bcast_S_S1x2048x2048 (constantI S_ 32 2048#32))) (iotaInDim S1x2048x2048 32 2)) (iotaInDim S1x2048x2048 32 1)
/-- The remainder of a distance, as the host lines write it. -/
def divA (k : IVec S_ 32) : IVec S_ 32 := select (cmpi .eq (id k) (constantI S_ 32 0#32)) (constantI S_ 32 1#32) (id k)
def rawA (x : IVec S1x2048x2048 32) (k : IVec S_ 32) : IVec S1x2048x2048 32 := Host.remsi x (broadcastInDim S1x2048x2048 ![] bcast_S_S1x2048x2048 (divA k))
def remA (x : IVec S1x2048x2048 32) (k : IVec S_ 32) : IVec S1x2048x2048 32 :=
  select (andi (cmpi .ne (cmpi .slt (rawA x k) (broadcastInDim S1x2048x2048 ![] bcast_S_S1x2048x2048 (constantI S_ 32 0#32))) (broadcastInDim S1x2048x2048 ![] bcast_S_S1x2048x2048 (cmpi .slt (divA k) (constantI S_ 32 0#32)))) (cmpi .ne (rawA x k) (broadcastInDim S1x2048x2048 ![] bcast_S_S1x2048x2048 (constantI S_ 32 0#32))))
    (addi (rawA x k) (broadcastInDim S1x2048x2048 ![] bcast_S_S1x2048x2048 (divA k))) (rawA x k)
/-- In how many patterns a query sees a key. -/
def countA : FVec Ideal S1x2048x2048 .f32 :=
  addf (addf (uitofp .f32 (andi (cmpi .sge distA (broadcastInDim S1x2048x2048 ![] bcast_S_S1x2048x2048 (constantI S_ 32 0#32))) (cmpi .sle distA (broadcastInDim S1x2048x2048 ![] bcast_S_S1x2048x2048 (constantI S_ 32 128#32)))))
      (uitofp .f32 (andi (andi (cmpi .sge distA (broadcastInDim S1x2048x2048 ![] bcast_S_S1x2048x2048 (constantI S_ 32 0#32))) (cmpi .eq (remA distA (constantI S_ 32 4#32)) (broadcastInDim S1x2048x2048 ![] bcast_S_S1x2048x2048 (constantI S_ 32 0#32)))) (cmpi .sle distA (broadcastInDim S1x2048x2048 ![] bcast_S_S1x2048x2048 (constantI S_ 32 512#32))))))
    (uitofp .f32 (andi (cmpi .sge distA (broadcastInDim S1x2048x2048 ![] bcast_S_S1x2048x2048 (constantI S_ 32 0#32))) (cmpi .eq (remA distA (constantI S_ 32 16#32)) (broadcastInDim S1x2048x2048 ![] bcast_S_S1x2048x2048 (constantI S_ 32 0#32)))))
/-- The table of biases. -/
def biasA : FVec Ideal S1x2048x2048 .f32 :=
  select (cmpf .ogt countA (broadcastInDim S1x2048x2048 ![] bcast_S_S1x2048x2048 (constant S_ .f32 0x00000000#32))) (Host.log (maximumf countA (broadcastInDim S1x2048x2048 ![] bcast_S_S1x2048x2048 (constant S_ .f32 0x3F800000#32)))) (broadcastInDim S1x2048x2048 ![] bcast_S_S1x2048x2048 (id (constant S_ .f32 0xFF800000#32)))

/-- How far a query is after a key. -/
def distB : IVec S2x1024x1024 32 := subi (addi (muli (iotaInDim S2x1024x1024 32 0) (broadcastInDim S2x1024x1024 ![] bcast_S_S2x1024x1024 (constantI S_ 32 1024#32))) (iotaInDim S2x1024x1024 32 2)) (iotaInDim S2x1024x1024 32 1)
/-- The remainder of a distance, as the host lines write it. -/
def divB (k : IVec S_ 32) : IVec S_ 32 := select (cmpi .eq (id k) (constantI S_ 32 0#32)) (constantI S_ 32 1#32) (id k)
def rawB (x : IVec S2x1024x1024 32) (k : IVec S_ 32) : IVec S2x1024x1024 32 := Host.remsi x (broadcastInDim S2x1024x1024 ![] bcast_S_S2x1024x1024 (divB k))
def remB (x : IVec S2x1024x1024 32) (k : IVec S_ 32) : IVec S2x1024x1024 32 :=
  select (andi (cmpi .ne (cmpi .slt (rawB x k) (broadcastInDim S2x1024x1024 ![] bcast_S_S2x1024x1024 (constantI S_ 32 0#32))) (broadcastInDim S2x1024x1024 ![] bcast_S_S2x1024x1024 (cmpi .slt (divB k) (constantI S_ 32 0#32)))) (cmpi .ne (rawB x k) (broadcastInDim S2x1024x1024 ![] bcast_S_S2x1024x1024 (constantI S_ 32 0#32))))
    (addi (rawB x k) (broadcastInDim S2x1024x1024 ![] bcast_S_S2x1024x1024 (divB k))) (rawB x k)
/-- In how many patterns a query sees a key. -/
def countB : FVec Ideal S2x1024x1024 .f32 :=
  addf (addf (uitofp .f32 (andi (cmpi .sge distB (broadcastInDim S2x1024x1024 ![] bcast_S_S2x1024x1024 (constantI S_ 32 0#32))) (cmpi .sle distB (broadcastInDim S2x1024x1024 ![] bcast_S_S2x1024x1024 (constantI S_ 32 128#32)))))
      (uitofp .f32 (andi (andi (cmpi .sge distB (broadcastInDim S2x1024x1024 ![] bcast_S_S2x1024x1024 (constantI S_ 32 0#32))) (cmpi .eq (remB distB (constantI S_ 32 4#32)) (broadcastInDim S2x1024x1024 ![] bcast_S_S2x1024x1024 (constantI S_ 32 0#32)))) (cmpi .sle distB (broadcastInDim S2x1024x1024 ![] bcast_S_S2x1024x1024 (constantI S_ 32 512#32))))))
    (uitofp .f32 (andi (cmpi .sge distB (broadcastInDim S2x1024x1024 ![] bcast_S_S2x1024x1024 (constantI S_ 32 0#32))) (cmpi .eq (remB distB (constantI S_ 32 16#32)) (broadcastInDim S2x1024x1024 ![] bcast_S_S2x1024x1024 (constantI S_ 32 0#32)))))
/-- The table of biases. -/
def biasB : FVec Ideal S2x1024x1024 .f32 :=
  select (cmpf .ogt countB (broadcastInDim S2x1024x1024 ![] bcast_S_S2x1024x1024 (constant S_ .f32 0x00000000#32))) (Host.log (maximumf countB (broadcastInDim S2x1024x1024 ![] bcast_S_S2x1024x1024 (constant S_ .f32 0x3F800000#32)))) (broadcastInDim S2x1024x1024 ![] bcast_S_S2x1024x1024 (id (constant S_ .f32 0xFF800000#32)))

/-- The packed columns. -/
def packed (a : FVec Ideal S2048x3592 .f32) : FVec Ideal S2048x3840 .f32 := concatenate S2048x3840 1
  [⟨S2048x2048, extractStridedSlice S2048x2048 ![0, 0] a slices_S2048x3592_S2048x2048_0_0⟩,
   ⟨S2048x1536, extractStridedSlice S2048x1536 ![0, 2056] a slices_S2048x3592_S2048x1536_0_2056⟩,
   ⟨S2048x8, extractStridedSlice S2048x8 ![0, 2048] a slices_S2048x3592_S2048x8_0_2048⟩,
   ⟨S2048x248, broadcastInDim S2048x248 ![] bcast_S_S2048x248 (constant (F := Ideal) S_ .f32 0x00000000#32)⟩]
  concatenates_S2048x2048_S2048x1536_S2048x8_S2048x248_S2048x3840_d1
/-- The heads' scaled queries, keys and values. -/
def heads0 (p : FVec Ideal S2048x3840 .f32) : FVec Ideal S2048x8x64 .bf16 :=
  truncf .bf16 (mulf (shapeCast S2048x8x64 (extractStridedSlice S2048x512 ![0, 2048] p slices_S2048x3840_S2048x512_0_2048) shapeCasts_S2048x512_S2048x8x64)
    (broadcastInDim S2048x8x64 ![] bcast_S_S2048x8x64 (constant (F := Ideal) S_ .f32 0x3E000000#32))) bitsLt_bf16_f32
def heads1 (p : FVec Ideal S2048x3840 .f32) : FVec Ideal S2048x8x64 .bf16 :=
  truncf .bf16 (shapeCast S2048x8x64 (extractStridedSlice S2048x512 ![0, 2560] p slices_S2048x3840_S2048x512_0_2560) shapeCasts_S2048x512_S2048x8x64) bitsLt_bf16_f32
def heads2 (p : FVec Ideal S2048x3840 .f32) : FVec Ideal S2048x8x64 .bf16 :=
  truncf .bf16 (shapeCast S2048x8x64 (extractStridedSlice S2048x512 ![0, 3072] p slices_S2048x3840_S2048x512_0_3072) shapeCasts_S2048x512_S2048x8x64) bitsLt_bf16_f32
def dots (k q : FVec Ideal S2048x8x64 .bf16) : FVec Ideal S8x2048x2048 .f32 :=
  Host.dotGeneral (F := Ideal) dot_S2048x8x64_S2048x8x64_S8x2048x2048_2_2_0_0_1_1 none k q
/-- The scores, their maxima, the weights, their sums, and the output. -/
def scores (a : FVec Ideal S8x2048x2048 .f32) (b : FVec Ideal S1x2048x2048 .f32) : FVec Ideal S8x2048x2048 .f32 :=
  addf a (broadcastInDim S8x2048x2048 ![0, 1, 2] bcast_S1x2048x2048_S8x2048x2048_0_1_2 b)
def maxes (s : FVec Ideal S8x2048x2048 .f32) : FVec Ideal S8x2048 .f32 :=
  Host.reduce FloatOps.maximumf s (constant (F := Ideal) S_ .f32 0xFF800000#32) reducesTo_S8x2048x2048_S8x2048_d1 h_S_
def wts (s : FVec Ideal S8x2048x2048 .f32) (mx : FVec Ideal S8x2048 .f32) : FVec Ideal S8x2048x2048 .f32 :=
  Host.exp (subf s (broadcastInDim S8x2048x2048 ![0, 1, 2] bcast_S8x1x2048_S8x2048x2048_0_1_2 (broadcastInDim S8x1x2048 ![0, 2] bcast_S8x2048_S8x1x2048_0_2 mx)))
def sums (w : FVec Ideal S8x2048x2048 .f32) : FVec Ideal S8x2048 .f32 :=
  Host.reduceAdd w (constant (F := Ideal) S_ .f32 0x00000000#32) reducesTo_S8x2048x2048_S8x2048_d1 h_S_
def outs (v : FVec Ideal S2048x8x64 .bf16) (w : FVec Ideal S8x2048x2048 .f32) : FVec Ideal S2048x512 .f32 :=
  shapeCast S2048x512 (transpose S2048x8x64 [2, 0, 1] (Host.divf (Host.dotGeneral (F := Ideal) dot_S2048x8x64_S8x2048x2048_S8x64x2048_0_1_2_2_1_0 none v (truncf .bf16 w bitsLt_bf16_f32))
    (broadcastInDim S8x64x2048 ![0, 1, 2] bcast_S8x1x2048_S8x64x2048_0_1_2 (broadcastInDim S8x1x2048 ![0, 2] bcast_S8x2048_S8x1x2048_0_2 (sums w))))
    transposes_S8x64x2048_S2048x8x64_2_0_1) shapeCasts_S2048x8x64_S2048x512
def mixOf (o : FVec Ideal S2048x512 .f32) : FVec Ideal S2048x1024 .f32 :=
  concatenate S2048x1024 1 [⟨S2048x512, broadcastInDim S2048x512 ![] bcast_S_S2048x512 (constant (F := Ideal) S_ .f32 0x00000000#32)⟩, ⟨S2048x512, o⟩] concatenates_S2048x512_S2048x512_S2048x1024_d1
/-- The rows' log-sums. -/
def lseOf (mx l : FVec Ideal S8x2048 .f32) : FVec Ideal S4x2x8x1024 .f32 :=
  concatenate S4x2x8x1024 2 [⟨S4x2x2x1024, transpose S4x2x2x1024 [0, 2, 1, 3] (shapeCast S4x2x2x1024 (addf mx (Host.log l)) shapeCasts_S8x2048_S4x2x2x1024) transposes_S4x2x2x1024_S4x2x2x1024_0_2_1_3⟩,
    ⟨S4x2x6x1024, broadcastInDim S4x2x6x1024 ![] bcast_S_S4x2x6x1024 (constant (F := Ideal) S_ .f32 0x00000000#32)⟩] concatenates_S4x2x2x1024_S4x2x6x1024_S4x2x8x1024_d2

variable (σ : Valuation τ sig (Elt Ideal))

theorem after_app (l l' : List (HloOp τ sig (Elt Ideal))) (σ : Valuation τ sig (Elt Ideal)) :
    StableHlo.after (l ++ l') σ = StableHlo.after l' (StableHlo.after l σ) := by
  induction l generalizing σ with
  | nil => rfl
  | cons op l ih => exact ih _

theorem at_v23 : StableHlo.after (hostOps0 (F := Ideal)) σ (Proc.devRef .tc main_v23) = distA := by rfl
theorem at_v29 : StableHlo.after (hostOps0 (F := Ideal)) σ (Proc.devRef .tc main_v29) = (uitofp .f32 (andi (cmpi .sge distA (broadcastInDim S1x2048x2048 ![] bcast_S_S1x2048x2048 (constantI S_ 32 0#32))) (cmpi .sle distA (broadcastInDim S1x2048x2048 ![] bcast_S_S1x2048x2048 (constantI S_ 32 128#32)))) : FVec Ideal S1x2048x2048 .f32) := by rfl
theorem at_v31 : StableHlo.after (hostOps0 (F := Ideal)) σ (Proc.devRef .tc main_v31) = (cmpi .sge distA (broadcastInDim S1x2048x2048 ![] bcast_S_S1x2048x2048 (constantI S_ 32 0#32)) : IVec S1x2048x2048 1) := by rfl
theorem at_c_4 : StableHlo.after (hostOps0 (F := Ideal)) σ (Proc.devRef .tc main_c_4) = constantI S_ 32 4#32 := by rfl
theorem raw_1 : StableHlo.after ((hostOps0_1 (F := Ideal)).take 7) σ (Proc.devRef .tc main_call0_v4) = rawA (σ (Proc.devRef .tc main_v23)) (σ (Proc.devRef .tc main_c_4)) := by rfl
theorem div_1 : StableHlo.after ((hostOps0_1 (F := Ideal)).take 7) σ (Proc.devRef .tc main_call0_v2) = divA (σ (Proc.devRef .tc main_c_4)) := by rfl
theorem fix_1 : StableHlo.after ((hostOps0_1 (F := Ideal)).drop 7) σ (Proc.devRef .tc main_v32) =
    (select (andi (cmpi .ne (cmpi .slt (show IVec S1x2048x2048 32 from σ (Proc.devRef .tc main_call0_v4)) (broadcastInDim S1x2048x2048 ![] bcast_S_S1x2048x2048 (constantI S_ 32 0#32))) (broadcastInDim S1x2048x2048 ![] bcast_S_S1x2048x2048 (cmpi .slt (show IVec S_ 32 from σ (Proc.devRef .tc main_call0_v2)) (constantI S_ 32 0#32)))) (cmpi .ne (show IVec S1x2048x2048 32 from σ (Proc.devRef .tc main_call0_v4)) (broadcastInDim S1x2048x2048 ![] bcast_S_S1x2048x2048 (constantI S_ 32 0#32)))) (addi (show IVec S1x2048x2048 32 from σ (Proc.devRef .tc main_call0_v4)) (broadcastInDim S1x2048x2048 ![] bcast_S_S1x2048x2048 ((show IVec S_ 32 from σ (Proc.devRef .tc main_call0_v2))))) (show IVec S1x2048x2048 32 from σ (Proc.devRef .tc main_call0_v4)) : IVec S1x2048x2048 32) := by rfl
theorem at_1_v32 : StableHlo.after (hostOps0_1 (F := Ideal)) σ (Proc.devRef .tc main_v32) = remA (σ (Proc.devRef .tc main_v23)) (σ (Proc.devRef .tc main_c_4)) := by
  rw [← List.take_append_drop 7 (hostOps0_1 (F := Ideal)), after_app, fix_1, raw_1, div_1]
  rfl
theorem at_1_v23 : StableHlo.after (hostOps0_1 (F := Ideal)) σ (Proc.devRef .tc main_v23) = σ (Proc.devRef .tc main_v23) := by rfl
theorem at_1_v29 : StableHlo.after (hostOps0_1 (F := Ideal)) σ (Proc.devRef .tc main_v29) = σ (Proc.devRef .tc main_v29) := by rfl
theorem at_1_v31 : StableHlo.after (hostOps0_1 (F := Ideal)) σ (Proc.devRef .tc main_v31) = σ (Proc.devRef .tc main_v31) := by rfl
theorem at_2_v40 : StableHlo.after (hostOps0_2 (F := Ideal)) σ (Proc.devRef .tc main_v40) = (addf (show FVec Ideal S1x2048x2048 .f32 from σ (Proc.devRef .tc main_v29)) (uitofp .f32 (andi (andi (show IVec S1x2048x2048 1 from σ (Proc.devRef .tc main_v31)) (cmpi .eq (show IVec S1x2048x2048 32 from σ (Proc.devRef .tc main_v32)) (broadcastInDim S1x2048x2048 ![] bcast_S_S1x2048x2048 (constantI S_ 32 0#32)))) (cmpi .sle (show IVec S1x2048x2048 32 from σ (Proc.devRef .tc main_v23)) (broadcastInDim S1x2048x2048 ![] bcast_S_S1x2048x2048 (constantI S_ 32 512#32))))) : FVec Ideal S1x2048x2048 .f32) := by rfl
theorem at_2_v42 : StableHlo.after (hostOps0_2 (F := Ideal)) σ (Proc.devRef .tc main_v42) = (cmpi .sge (show IVec S1x2048x2048 32 from σ (Proc.devRef .tc main_v23)) (broadcastInDim S1x2048x2048 ![] bcast_S_S1x2048x2048 (constantI S_ 32 0#32)) : IVec S1x2048x2048 1) := by rfl
theorem at_2_c_8 : StableHlo.after (hostOps0_2 (F := Ideal)) σ (Proc.devRef .tc main_c_8) = constantI S_ 32 16#32 := by rfl
theorem at_2_v23 : StableHlo.after (hostOps0_2 (F := Ideal)) σ (Proc.devRef .tc main_v23) = σ (Proc.devRef .tc main_v23) := by rfl
theorem raw_3 : StableHlo.after ((hostOps0_3 (F := Ideal)).take 7) σ (Proc.devRef .tc main_call1_v4) = rawA (σ (Proc.devRef .tc main_v23)) (σ (Proc.devRef .tc main_c_8)) := by rfl
theorem div_3 : StableHlo.after ((hostOps0_3 (F := Ideal)).take 7) σ (Proc.devRef .tc main_call1_v2) = divA (σ (Proc.devRef .tc main_c_8)) := by rfl
theorem fix_3 : StableHlo.after ((hostOps0_3 (F := Ideal)).drop 7) σ (Proc.devRef .tc main_v43) =
    (select (andi (cmpi .ne (cmpi .slt (show IVec S1x2048x2048 32 from σ (Proc.devRef .tc main_call1_v4)) (broadcastInDim S1x2048x2048 ![] bcast_S_S1x2048x2048 (constantI S_ 32 0#32))) (broadcastInDim S1x2048x2048 ![] bcast_S_S1x2048x2048 (cmpi .slt (show IVec S_ 32 from σ (Proc.devRef .tc main_call1_v2)) (constantI S_ 32 0#32)))) (cmpi .ne (show IVec S1x2048x2048 32 from σ (Proc.devRef .tc main_call1_v4)) (broadcastInDim S1x2048x2048 ![] bcast_S_S1x2048x2048 (constantI S_ 32 0#32)))) (addi (show IVec S1x2048x2048 32 from σ (Proc.devRef .tc main_call1_v4)) (broadcastInDim S1x2048x2048 ![] bcast_S_S1x2048x2048 ((show IVec S_ 32 from σ (Proc.devRef .tc main_call1_v2))))) (show IVec S1x2048x2048 32 from σ (Proc.devRef .tc main_call1_v4)) : IVec S1x2048x2048 32) := by rfl
theorem at_3_v43 : StableHlo.after (hostOps0_3 (F := Ideal)) σ (Proc.devRef .tc main_v43) = remA (σ (Proc.devRef .tc main_v23)) (σ (Proc.devRef .tc main_c_8)) := by
  rw [← List.take_append_drop 7 (hostOps0_3 (F := Ideal)), after_app, fix_3, raw_3, div_3]
  rfl
theorem at_3_v40 : StableHlo.after (hostOps0_3 (F := Ideal)) σ (Proc.devRef .tc main_v40) = σ (Proc.devRef .tc main_v40) := by rfl
theorem at_3_v42 : StableHlo.after (hostOps0_3 (F := Ideal)) σ (Proc.devRef .tc main_v42) = σ (Proc.devRef .tc main_v42) := by rfl
theorem at_4_v50 : StableHlo.after (hostOps0_4 (F := Ideal)) σ (Proc.devRef .tc main_v50) = (cmpf .ogt (addf (show FVec Ideal S1x2048x2048 .f32 from σ (Proc.devRef .tc main_v40)) (uitofp .f32 (andi (show IVec S1x2048x2048 1 from σ (Proc.devRef .tc main_v42)) (cmpi .eq (show IVec S1x2048x2048 32 from σ (Proc.devRef .tc main_v43)) (broadcastInDim S1x2048x2048 ![] bcast_S_S1x2048x2048 (constantI S_ 32 0#32))))) : FVec Ideal S1x2048x2048 .f32) (broadcastInDim S1x2048x2048 ![] bcast_S_S1x2048x2048 (constant S_ .f32 0x00000000#32)) : IVec S1x2048x2048 1) := by rfl
theorem at_4_v53 : StableHlo.after (hostOps0_4 (F := Ideal)) σ (Proc.devRef .tc main_v53) = (Host.log (maximumf (addf (show FVec Ideal S1x2048x2048 .f32 from σ (Proc.devRef .tc main_v40)) (uitofp .f32 (andi (show IVec S1x2048x2048 1 from σ (Proc.devRef .tc main_v42)) (cmpi .eq (show IVec S1x2048x2048 32 from σ (Proc.devRef .tc main_v43)) (broadcastInDim S1x2048x2048 ![] bcast_S_S1x2048x2048 (constantI S_ 32 0#32))))) : FVec Ideal S1x2048x2048 .f32) (broadcastInDim S1x2048x2048 ![] bcast_S_S1x2048x2048 (constant S_ .f32 0x3F800000#32))) : FVec Ideal S1x2048x2048 .f32) := by rfl
theorem at_4_cst_12 : StableHlo.after (hostOps0_4 (F := Ideal)) σ (Proc.devRef .tc main_cst_12) = (constant S_ .f32 0xFF800000#32 : FVec Ideal S_ .f32) := by rfl
theorem at_5_v54 : StableHlo.after (hostOps0_5 (F := Ideal)) σ (Proc.devRef .tc main_v54) = (select (show IVec S1x2048x2048 1 from σ (Proc.devRef .tc main_v50)) (show FVec Ideal S1x2048x2048 .f32 from σ (Proc.devRef .tc main_v53)) (broadcastInDim S1x2048x2048 ![] bcast_S_S1x2048x2048 (id (show FVec Ideal S_ .f32 from σ (Proc.devRef .tc main_cst_12)))) : FVec Ideal S1x2048x2048 .f32) := by rfl
theorem at_6_v84 : StableHlo.after (hostOps0_6 (F := Ideal)) σ (Proc.devRef .tc main_v84) = distB := by rfl
theorem at_6_v90 : StableHlo.after (hostOps0_6 (F := Ideal)) σ (Proc.devRef .tc main_v90) = (uitofp .f32 (andi (cmpi .sge distB (broadcastInDim S2x1024x1024 ![] bcast_S_S2x1024x1024 (constantI S_ 32 0#32))) (cmpi .sle distB (broadcastInDim S2x1024x1024 ![] bcast_S_S2x1024x1024 (constantI S_ 32 128#32)))) : FVec Ideal S2x1024x1024 .f32) := by rfl
theorem at_6_v92 : StableHlo.after (hostOps0_6 (F := Ideal)) σ (Proc.devRef .tc main_v92) = (cmpi .sge distB (broadcastInDim S2x1024x1024 ![] bcast_S_S2x1024x1024 (constantI S_ 32 0#32)) : IVec S2x1024x1024 1) := by rfl
theorem at_6_c_21 : StableHlo.after (hostOps0_6 (F := Ideal)) σ (Proc.devRef .tc main_c_21) = constantI S_ 32 4#32 := by rfl
theorem raw_7 : StableHlo.after ((hostOps0_7 (F := Ideal)).take 7) σ (Proc.devRef .tc main_call3_v4) = rawB (σ (Proc.devRef .tc main_v84)) (σ (Proc.devRef .tc main_c_21)) := by rfl
theorem div_7 : StableHlo.after ((hostOps0_7 (F := Ideal)).take 7) σ (Proc.devRef .tc main_call3_v2) = divB (σ (Proc.devRef .tc main_c_21)) := by rfl
theorem fix_7 : StableHlo.after ((hostOps0_7 (F := Ideal)).drop 7) σ (Proc.devRef .tc main_v93) =
    (select (andi (cmpi .ne (cmpi .slt (show IVec S2x1024x1024 32 from σ (Proc.devRef .tc main_call3_v4)) (broadcastInDim S2x1024x1024 ![] bcast_S_S2x1024x1024 (constantI S_ 32 0#32))) (broadcastInDim S2x1024x1024 ![] bcast_S_S2x1024x1024 (cmpi .slt (show IVec S_ 32 from σ (Proc.devRef .tc main_call3_v2)) (constantI S_ 32 0#32)))) (cmpi .ne (show IVec S2x1024x1024 32 from σ (Proc.devRef .tc main_call3_v4)) (broadcastInDim S2x1024x1024 ![] bcast_S_S2x1024x1024 (constantI S_ 32 0#32)))) (addi (show IVec S2x1024x1024 32 from σ (Proc.devRef .tc main_call3_v4)) (broadcastInDim S2x1024x1024 ![] bcast_S_S2x1024x1024 ((show IVec S_ 32 from σ (Proc.devRef .tc main_call3_v2))))) (show IVec S2x1024x1024 32 from σ (Proc.devRef .tc main_call3_v4)) : IVec S2x1024x1024 32) := by rfl
theorem at_7_v93 : StableHlo.after (hostOps0_7 (F := Ideal)) σ (Proc.devRef .tc main_v93) = remB (σ (Proc.devRef .tc main_v84)) (σ (Proc.devRef .tc main_c_21)) := by
  rw [← List.take_append_drop 7 (hostOps0_7 (F := Ideal)), after_app, fix_7, raw_7, div_7]
  rfl
theorem at_7_v84 : StableHlo.after (hostOps0_7 (F := Ideal)) σ (Proc.devRef .tc main_v84) = σ (Proc.devRef .tc main_v84) := by rfl
theorem at_7_v90 : StableHlo.after (hostOps0_7 (F := Ideal)) σ (Proc.devRef .tc main_v90) = σ (Proc.devRef .tc main_v90) := by rfl
theorem at_7_v92 : StableHlo.after (hostOps0_7 (F := Ideal)) σ (Proc.devRef .tc main_v92) = σ (Proc.devRef .tc main_v92) := by rfl
theorem at_8_v101 : StableHlo.after (hostOps0_8 (F := Ideal)) σ (Proc.devRef .tc main_v101) = (addf (show FVec Ideal S2x1024x1024 .f32 from σ (Proc.devRef .tc main_v90)) (uitofp .f32 (andi (andi (show IVec S2x1024x1024 1 from σ (Proc.devRef .tc main_v92)) (cmpi .eq (show IVec S2x1024x1024 32 from σ (Proc.devRef .tc main_v93)) (broadcastInDim S2x1024x1024 ![] bcast_S_S2x1024x1024 (constantI S_ 32 0#32)))) (cmpi .sle (show IVec S2x1024x1024 32 from σ (Proc.devRef .tc main_v84)) (broadcastInDim S2x1024x1024 ![] bcast_S_S2x1024x1024 (constantI S_ 32 512#32))))) : FVec Ideal S2x1024x1024 .f32) := by rfl
theorem at_8_v103 : StableHlo.after (hostOps0_8 (F := Ideal)) σ (Proc.devRef .tc main_v103) = (cmpi .sge (show IVec S2x1024x1024 32 from σ (Proc.devRef .tc main_v84)) (broadcastInDim S2x1024x1024 ![] bcast_S_S2x1024x1024 (constantI S_ 32 0#32)) : IVec S2x1024x1024 1) := by rfl
theorem at_8_c_25 : StableHlo.after (hostOps0_8 (F := Ideal)) σ (Proc.devRef .tc main_c_25) = constantI S_ 32 16#32 := by rfl
theorem at_8_v84 : StableHlo.after (hostOps0_8 (F := Ideal)) σ (Proc.devRef .tc main_v84) = σ (Proc.devRef .tc main_v84) := by rfl
theorem raw_9 : StableHlo.after ((hostOps0_9 (F := Ideal)).take 7) σ (Proc.devRef .tc main_call4_v4) = rawB (σ (Proc.devRef .tc main_v84)) (σ (Proc.devRef .tc main_c_25)) := by rfl
theorem div_9 : StableHlo.after ((hostOps0_9 (F := Ideal)).take 7) σ (Proc.devRef .tc main_call4_v2) = divB (σ (Proc.devRef .tc main_c_25)) := by rfl
theorem fix_9 : StableHlo.after ((hostOps0_9 (F := Ideal)).drop 7) σ (Proc.devRef .tc main_v104) =
    (select (andi (cmpi .ne (cmpi .slt (show IVec S2x1024x1024 32 from σ (Proc.devRef .tc main_call4_v4)) (broadcastInDim S2x1024x1024 ![] bcast_S_S2x1024x1024 (constantI S_ 32 0#32))) (broadcastInDim S2x1024x1024 ![] bcast_S_S2x1024x1024 (cmpi .slt (show IVec S_ 32 from σ (Proc.devRef .tc main_call4_v2)) (constantI S_ 32 0#32)))) (cmpi .ne (show IVec S2x1024x1024 32 from σ (Proc.devRef .tc main_call4_v4)) (broadcastInDim S2x1024x1024 ![] bcast_S_S2x1024x1024 (constantI S_ 32 0#32)))) (addi (show IVec S2x1024x1024 32 from σ (Proc.devRef .tc main_call4_v4)) (broadcastInDim S2x1024x1024 ![] bcast_S_S2x1024x1024 ((show IVec S_ 32 from σ (Proc.devRef .tc main_call4_v2))))) (show IVec S2x1024x1024 32 from σ (Proc.devRef .tc main_call4_v4)) : IVec S2x1024x1024 32) := by rfl
theorem at_9_v104 : StableHlo.after (hostOps0_9 (F := Ideal)) σ (Proc.devRef .tc main_v104) = remB (σ (Proc.devRef .tc main_v84)) (σ (Proc.devRef .tc main_c_25)) := by
  rw [← List.take_append_drop 7 (hostOps0_9 (F := Ideal)), after_app, fix_9, raw_9, div_9]
  rfl
theorem at_9_v101 : StableHlo.after (hostOps0_9 (F := Ideal)) σ (Proc.devRef .tc main_v101) = σ (Proc.devRef .tc main_v101) := by rfl
theorem at_9_v103 : StableHlo.after (hostOps0_9 (F := Ideal)) σ (Proc.devRef .tc main_v103) = σ (Proc.devRef .tc main_v103) := by rfl
theorem at_10_v111 : StableHlo.after (hostOps0_10 (F := Ideal)) σ (Proc.devRef .tc main_v111) = (cmpf .ogt (addf (show FVec Ideal S2x1024x1024 .f32 from σ (Proc.devRef .tc main_v101)) (uitofp .f32 (andi (show IVec S2x1024x1024 1 from σ (Proc.devRef .tc main_v103)) (cmpi .eq (show IVec S2x1024x1024 32 from σ (Proc.devRef .tc main_v104)) (broadcastInDim S2x1024x1024 ![] bcast_S_S2x1024x1024 (constantI S_ 32 0#32))))) : FVec Ideal S2x1024x1024 .f32) (broadcastInDim S2x1024x1024 ![] bcast_S_S2x1024x1024 (constant S_ .f32 0x00000000#32)) : IVec S2x1024x1024 1) := by rfl
theorem at_10_v114 : StableHlo.after (hostOps0_10 (F := Ideal)) σ (Proc.devRef .tc main_v114) = (Host.log (maximumf (addf (show FVec Ideal S2x1024x1024 .f32 from σ (Proc.devRef .tc main_v101)) (uitofp .f32 (andi (show IVec S2x1024x1024 1 from σ (Proc.devRef .tc main_v103)) (cmpi .eq (show IVec S2x1024x1024 32 from σ (Proc.devRef .tc main_v104)) (broadcastInDim S2x1024x1024 ![] bcast_S_S2x1024x1024 (constantI S_ 32 0#32))))) : FVec Ideal S2x1024x1024 .f32) (broadcastInDim S2x1024x1024 ![] bcast_S_S2x1024x1024 (constant S_ .f32 0x3F800000#32))) : FVec Ideal S2x1024x1024 .f32) := by rfl
theorem at_10_cst_29 : StableHlo.after (hostOps0_10 (F := Ideal)) σ (Proc.devRef .tc main_cst_29) = (constant S_ .f32 0xFF800000#32 : FVec Ideal S_ .f32) := by rfl
theorem at_11_v115 : StableHlo.after (hostOps0_11 (F := Ideal)) σ (Proc.devRef .tc main_v115) = (select (show IVec S2x1024x1024 1 from σ (Proc.devRef .tc main_v111)) (show FVec Ideal S2x1024x1024 .f32 from σ (Proc.devRef .tc main_v114)) (broadcastInDim S2x1024x1024 ![] bcast_S_S2x1024x1024 (id (show FVec Ideal S_ .f32 from σ (Proc.devRef .tc main_cst_29)))) : FVec Ideal S2x1024x1024 .f32) := by rfl
theorem at_v4 : StableHlo.after (hostOps0 (F := Ideal)) σ (Proc.devRef .tc main_v4) = packed (σ (Proc.devRef .tc main_arg0)) := by rfl
theorem at_v15 : StableHlo.after (hostOps0 (F := Ideal)) σ (Proc.devRef .tc main_v15) = heads2 (packed (σ (Proc.devRef .tc main_arg0))) := by rfl
theorem at_v16 : StableHlo.after (hostOps0 (F := Ideal)) σ (Proc.devRef .tc main_v16) = dots (heads1 (packed (σ (Proc.devRef .tc main_arg0)))) (heads0 (packed (σ (Proc.devRef .tc main_arg0)))) := by rfl
theorem at_1_v4 : StableHlo.after (hostOps0_1 (F := Ideal)) σ (Proc.devRef .tc main_v4) = σ (Proc.devRef .tc main_v4) := by rfl
theorem at_1_v15 : StableHlo.after (hostOps0_1 (F := Ideal)) σ (Proc.devRef .tc main_v15) = σ (Proc.devRef .tc main_v15) := by rfl
theorem at_1_v16 : StableHlo.after (hostOps0_1 (F := Ideal)) σ (Proc.devRef .tc main_v16) = σ (Proc.devRef .tc main_v16) := by rfl
theorem at_2_v4 : StableHlo.after (hostOps0_2 (F := Ideal)) σ (Proc.devRef .tc main_v4) = σ (Proc.devRef .tc main_v4) := by rfl
theorem at_2_v15 : StableHlo.after (hostOps0_2 (F := Ideal)) σ (Proc.devRef .tc main_v15) = σ (Proc.devRef .tc main_v15) := by rfl
theorem at_2_v16 : StableHlo.after (hostOps0_2 (F := Ideal)) σ (Proc.devRef .tc main_v16) = σ (Proc.devRef .tc main_v16) := by rfl
theorem at_3_v4 : StableHlo.after (hostOps0_3 (F := Ideal)) σ (Proc.devRef .tc main_v4) = σ (Proc.devRef .tc main_v4) := by rfl
theorem at_3_v15 : StableHlo.after (hostOps0_3 (F := Ideal)) σ (Proc.devRef .tc main_v15) = σ (Proc.devRef .tc main_v15) := by rfl
theorem at_3_v16 : StableHlo.after (hostOps0_3 (F := Ideal)) σ (Proc.devRef .tc main_v16) = σ (Proc.devRef .tc main_v16) := by rfl
theorem at_4_v4 : StableHlo.after (hostOps0_4 (F := Ideal)) σ (Proc.devRef .tc main_v4) = σ (Proc.devRef .tc main_v4) := by rfl
theorem at_4_v15 : StableHlo.after (hostOps0_4 (F := Ideal)) σ (Proc.devRef .tc main_v15) = σ (Proc.devRef .tc main_v15) := by rfl
theorem at_4_v16 : StableHlo.after (hostOps0_4 (F := Ideal)) σ (Proc.devRef .tc main_v16) = σ (Proc.devRef .tc main_v16) := by rfl
theorem at_5_v4 : StableHlo.after (hostOps0_5 (F := Ideal)) σ (Proc.devRef .tc main_v4) = σ (Proc.devRef .tc main_v4) := by rfl
theorem at_5_v15 : StableHlo.after (hostOps0_5 (F := Ideal)) σ (Proc.devRef .tc main_v15) = σ (Proc.devRef .tc main_v15) := by rfl
theorem at_5_v16 : StableHlo.after (hostOps0_5 (F := Ideal)) σ (Proc.devRef .tc main_v16) = σ (Proc.devRef .tc main_v16) := by rfl
theorem at_6_v4 : StableHlo.after (hostOps0_6 (F := Ideal)) σ (Proc.devRef .tc main_v4) = σ (Proc.devRef .tc main_v4) := by rfl
theorem at_7_v4 : StableHlo.after (hostOps0_7 (F := Ideal)) σ (Proc.devRef .tc main_v4) = σ (Proc.devRef .tc main_v4) := by rfl
theorem at_7_v75 : StableHlo.after (hostOps0_7 (F := Ideal)) σ (Proc.devRef .tc main_v75) = σ (Proc.devRef .tc main_v75) := by rfl
theorem at_7_v77 : StableHlo.after (hostOps0_7 (F := Ideal)) σ (Proc.devRef .tc main_v77) = σ (Proc.devRef .tc main_v77) := by rfl
theorem at_8_v4 : StableHlo.after (hostOps0_8 (F := Ideal)) σ (Proc.devRef .tc main_v4) = σ (Proc.devRef .tc main_v4) := by rfl
theorem at_8_v75 : StableHlo.after (hostOps0_8 (F := Ideal)) σ (Proc.devRef .tc main_v75) = σ (Proc.devRef .tc main_v75) := by rfl
theorem at_8_v77 : StableHlo.after (hostOps0_8 (F := Ideal)) σ (Proc.devRef .tc main_v77) = σ (Proc.devRef .tc main_v77) := by rfl
theorem at_9_v4 : StableHlo.after (hostOps0_9 (F := Ideal)) σ (Proc.devRef .tc main_v4) = σ (Proc.devRef .tc main_v4) := by rfl
theorem at_9_v75 : StableHlo.after (hostOps0_9 (F := Ideal)) σ (Proc.devRef .tc main_v75) = σ (Proc.devRef .tc main_v75) := by rfl
theorem at_9_v77 : StableHlo.after (hostOps0_9 (F := Ideal)) σ (Proc.devRef .tc main_v77) = σ (Proc.devRef .tc main_v77) := by rfl
theorem at_10_v4 : StableHlo.after (hostOps0_10 (F := Ideal)) σ (Proc.devRef .tc main_v4) = σ (Proc.devRef .tc main_v4) := by rfl
theorem at_10_v75 : StableHlo.after (hostOps0_10 (F := Ideal)) σ (Proc.devRef .tc main_v75) = σ (Proc.devRef .tc main_v75) := by rfl
theorem at_10_v77 : StableHlo.after (hostOps0_10 (F := Ideal)) σ (Proc.devRef .tc main_v77) = σ (Proc.devRef .tc main_v77) := by rfl
theorem at_11_v4 : StableHlo.after (hostOps0_11 (F := Ideal)) σ (Proc.devRef .tc main_v4) = σ (Proc.devRef .tc main_v4) := by rfl
theorem at_11_v75 : StableHlo.after (hostOps0_11 (F := Ideal)) σ (Proc.devRef .tc main_v75) = σ (Proc.devRef .tc main_v75) := by rfl
theorem at_11_v77 : StableHlo.after (hostOps0_11 (F := Ideal)) σ (Proc.devRef .tc main_v77) = σ (Proc.devRef .tc main_v77) := by rfl
theorem one_v56 : StableHlo.after (((hostOps0_6 (F := Ideal)).take 8).take 2) σ (Proc.devRef .tc main_v56) = scores (σ (Proc.devRef .tc main_v16)) (σ (Proc.devRef .tc main_v54)) := by rfl
theorem two_any (f : FVec Ideal S8x2048x2048 .f32 → FVec Ideal S_ .f32 → FVec Ideal S8x2048 .f32) :
    StableHlo.after [StableHlo.nullary main_cst_13 (constant (F := Ideal) S_ .f32 0xFF800000#32), StableHlo.binary main_v56 main_cst_13 main_v57 f] σ (Proc.devRef .tc main_v57) = f (σ (Proc.devRef .tc main_v56)) (constant S_ .f32 0xFF800000#32) := by rfl
theorem two_list : ((((hostOps0_6 (F := Ideal)).take 8).drop 2).take 2) = [StableHlo.nullary main_cst_13 (constant (F := Ideal) S_ .f32 0xFF800000#32),
    StableHlo.binary main_v56 main_cst_13 main_v57 ((fun x v => Host.reduce FloatOps.maximumf x v reducesTo_S8x2048x2048_S8x2048_d1 h_S_) : FVec Ideal S8x2048x2048 .f32 → FVec Ideal S_ .f32 → FVec Ideal S8x2048 .f32)] := by rfl
theorem two_v57 : StableHlo.after ((((hostOps0_6 (F := Ideal)).take 8).drop 2).take 2) σ (Proc.devRef .tc main_v57) = maxes (σ (Proc.devRef .tc main_v56)) := by
  rw [two_list]
  exact two_any σ fun x v => Host.reduce FloatOps.maximumf x v reducesTo_S8x2048x2048_S8x2048_d1 h_S_
theorem two_v56 : StableHlo.after ((((hostOps0_6 (F := Ideal)).take 8).drop 2).take 2) σ (Proc.devRef .tc main_v56) = σ (Proc.devRef .tc main_v56) := by rfl
theorem three_v57 : StableHlo.after ((((hostOps0_6 (F := Ideal)).take 8).drop 2).drop 2) σ (Proc.devRef .tc main_v57) = σ (Proc.devRef .tc main_v57) := by rfl
theorem three_v61 : StableHlo.after ((((hostOps0_6 (F := Ideal)).take 8).drop 2).drop 2) σ (Proc.devRef .tc main_v61) = wts (σ (Proc.devRef .tc main_v56)) (σ (Proc.devRef .tc main_v57)) := by rfl
theorem split_first : StableHlo.after ((hostOps0_6 (F := Ideal)).take 8) σ = StableHlo.after ((((hostOps0_6 (F := Ideal)).take 8).drop 2).drop 2) (StableHlo.after ((((hostOps0_6 (F := Ideal)).take 8).drop 2).take 2) (StableHlo.after (((hostOps0_6 (F := Ideal)).take 8).take 2) σ)) := by
  rw [← after_app, List.take_append_drop, ← after_app, List.take_append_drop]
theorem first_v57 : StableHlo.after ((hostOps0_6 (F := Ideal)).take 8) σ (Proc.devRef .tc main_v57) = maxes (scores (σ (Proc.devRef .tc main_v16)) (σ (Proc.devRef .tc main_v54))) := by
  rw [split_first, three_v57, two_v57, one_v56]
theorem first_v61 : StableHlo.after ((hostOps0_6 (F := Ideal)).take 8) σ (Proc.devRef .tc main_v61) = wts (scores (σ (Proc.devRef .tc main_v16)) (σ (Proc.devRef .tc main_v54))) (maxes (scores (σ (Proc.devRef .tc main_v16)) (σ (Proc.devRef .tc main_v54)))) := by
  rw [split_first, three_v61, two_v56, two_v57, one_v56]
theorem first_v15 : StableHlo.after ((hostOps0_6 (F := Ideal)).take 8) σ (Proc.devRef .tc main_v15) = σ (Proc.devRef .tc main_v15) := by rfl
theorem mid_v69 : StableHlo.after (((hostOps0_6 (F := Ideal)).drop 8).take 9) σ (Proc.devRef .tc main_v69) = outs (σ (Proc.devRef .tc main_v15)) (σ (Proc.devRef .tc main_v61)) := by rfl
theorem mid_v62 : StableHlo.after (((hostOps0_6 (F := Ideal)).drop 8).take 9) σ (Proc.devRef .tc main_v62) = sums (σ (Proc.devRef .tc main_v61)) := by rfl
theorem mid_v57 : StableHlo.after (((hostOps0_6 (F := Ideal)).drop 8).take 9) σ (Proc.devRef .tc main_v57) = σ (Proc.devRef .tc main_v57) := by rfl
theorem last_v75 : StableHlo.after ((((hostOps0_6 (F := Ideal)).drop 8).drop 9).take 10) σ (Proc.devRef .tc main_v75) = mixOf (σ (Proc.devRef .tc main_v69)) := by rfl
theorem last_v77 : StableHlo.after ((((hostOps0_6 (F := Ideal)).drop 8).drop 9).take 10) σ (Proc.devRef .tc main_v77) = lseOf (σ (Proc.devRef .tc main_v57)) (σ (Proc.devRef .tc main_v62)) := by rfl
theorem end_v75 : StableHlo.after ((((hostOps0_6 (F := Ideal)).drop 8).drop 9).drop 10) σ (Proc.devRef .tc main_v75) = σ (Proc.devRef .tc main_v75) := by rfl
theorem end_v77 : StableHlo.after ((((hostOps0_6 (F := Ideal)).drop 8).drop 9).drop 10) σ (Proc.devRef .tc main_v77) = σ (Proc.devRef .tc main_v77) := by rfl
theorem split_6 : StableHlo.after (hostOps0_6 (F := Ideal)) σ = StableHlo.after ((((hostOps0_6 (F := Ideal)).drop 8).drop 9).drop 10) (StableHlo.after ((((hostOps0_6 (F := Ideal)).drop 8).drop 9).take 10)
    (StableHlo.after (((hostOps0_6 (F := Ideal)).drop 8).take 9) (StableHlo.after ((hostOps0_6 (F := Ideal)).take 8) σ))) := by
  rw [← after_app, List.take_append_drop, ← after_app, List.take_append_drop, ← after_app, List.take_append_drop]
theorem at_6_v75 : StableHlo.after (hostOps0_6 (F := Ideal)) σ (Proc.devRef .tc main_v75) = mixOf (outs (σ (Proc.devRef .tc main_v15)) (wts (scores (σ (Proc.devRef .tc main_v16)) (σ (Proc.devRef .tc main_v54))) (maxes (scores (σ (Proc.devRef .tc main_v16)) (σ (Proc.devRef .tc main_v54)))))) := by
  rw [split_6, end_v75, last_v75, mid_v69, first_v15, first_v61]
theorem at_6_v77 : StableHlo.after (hostOps0_6 (F := Ideal)) σ (Proc.devRef .tc main_v77) = lseOf (maxes (scores (σ (Proc.devRef .tc main_v16)) (σ (Proc.devRef .tc main_v54)))) (sums (wts (scores (σ (Proc.devRef .tc main_v16)) (σ (Proc.devRef .tc main_v54))) (maxes (scores (σ (Proc.devRef .tc main_v16)) (σ (Proc.devRef .tc main_v54)))))) := by
  rw [split_6, end_v77, last_v77, mid_v57, mid_v62, first_v57, first_v61]

variable (m : (ℓ : Loc nD τ sig) → Buf (Elt Ideal) ℓ)

/-- The packed columns of the first argument. -/
def PP (c : Dev nD) : FVec Ideal S2048x3840 .f32 := packed (m ((c : Thread nD τ).loc main_arg0))
/-- The scores of the forward pass. -/
def SS (c : Dev nD) : FVec Ideal S8x2048x2048 .f32 := scores (dots (heads1 (PP m c)) (heads0 (PP m c))) biasA

theorem V_proj (c : Dev nD) : V m c main_v4 = PP m c := by
  unfold V
  simp only [List.flatten_cons, List.flatten_nil, List.append_nil, after_app]
  rw [at_11_v4, at_10_v4, at_9_v4, at_8_v4, at_7_v4, at_6_v4, at_5_v4, at_4_v4, at_3_v4, at_2_v4, at_1_v4, at_v4]
  rfl

theorem V_bias (c : Dev nD) : V m c main_v115 = biasB := by
  unfold V
  simp only [List.flatten_cons, List.flatten_nil, List.append_nil, after_app]
  rw [at_11_v115, at_10_v111, at_10_v114, at_10_cst_29, at_9_v104, at_9_v101, at_9_v103, at_8_v101, at_8_v103, at_8_c_25, at_8_v84, at_7_v93, at_7_v84, at_7_v90, at_7_v92, at_6_v90, at_6_v92, at_6_v84, at_6_c_21]
  rfl

theorem V_mix (c : Dev nD) : V m c main_v75 = mixOf (outs (heads2 (PP m c)) (wts (SS m c) (maxes (SS m c)))) := by
  unfold V
  simp only [List.flatten_cons, List.flatten_nil, List.append_nil, after_app]
  rw [at_11_v75, at_10_v75, at_9_v75, at_8_v75, at_7_v75, at_6_v75, at_5_v15, at_4_v15, at_3_v15, at_2_v15, at_1_v15, at_v15, at_5_v16, at_4_v16, at_3_v16, at_2_v16, at_1_v16, at_v16, at_5_v54, at_4_v50, at_4_v53, at_4_cst_12, at_3_v43, at_3_v40, at_3_v42, at_2_v40, at_2_v42, at_2_c_8, at_2_v23, at_1_v32, at_1_v23, at_1_v29, at_1_v31, at_v29, at_v31, at_v23, at_c_4]
  rfl

theorem V_lse (c : Dev nD) : V m c main_v77 = lseOf (maxes (SS m c)) (sums (wts (SS m c) (maxes (SS m c)))) := by
  unfold V
  simp only [List.flatten_cons, List.flatten_nil, List.append_nil, after_app]
  rw [at_11_v77, at_10_v77, at_9_v77, at_8_v77, at_7_v77, at_6_v77, at_5_v16, at_4_v16, at_3_v16, at_2_v16, at_1_v16, at_v16, at_5_v54, at_4_v50, at_4_v53, at_4_cst_12, at_3_v43, at_3_v40, at_3_v42, at_2_v40, at_2_v42, at_2_c_8, at_2_v23, at_1_v32, at_1_v23, at_1_v29, at_1_v31, at_v29, at_v31, at_v23, at_c_4]
  rfl

end Cert.AttnRun

end
-- ==== Proof.AttnSaved.lean ====
/- The attention's saved arrays, read entry by entry. -/
module

public import proofs.«01_k».proof.Proof.AttnHost
public import proofs.«01_k».proof.Proof.AttnRead
public import proofs.«01_k».proof.Proof.AttnReal

@[expose] public section

set_option maxRecDepth 16384

noncomputable section

namespace Cert.AttnRun

open Cert.AttnIdeal Cert.AttnIdeal.Gen Idealize.ShloMosaic Cert.AttnMath Idealize.ShloMosaic.Tactic

theorem packed_at (a : FVec Ideal S2048x3592 .f32) (t : Fin 2048) (j : Fin 3840) (h1 : 2048 ≤ j.val) (h2 : j.val < 3584) :
    packed a (ix2 t j) = a (ix2 t ⟨j.val + 8, by omega⟩) := by
  pointwise [packed]
  rw [dif_neg (by omega), dif_pos (by omega)]
  exact congrArg (fun k => a (ix2 t k)) (Fin.ext (by dsimp only; omega))

theorem heads0_at (p : FVec Ideal S2048x3840 .f32) (t : Fin 2048) (h : Fin 8) (e : Fin 64) :
    heads0 p (ix3 t h e) = (p (ix2 t ⟨2048 + (64 * h.val + e.val), by omega⟩) * E8 : EReal) := by
  pointwise [heads0]
  exact congrArg (fun k => (p (ix2 t k) * E8 : EReal)) (Fin.ext (by dsimp only; omega))
theorem heads1_at (p : FVec Ideal S2048x3840 .f32) (t : Fin 2048) (h : Fin 8) (e : Fin 64) :
    heads1 p (ix3 t h e) = p (ix2 t ⟨2560 + (64 * h.val + e.val), by omega⟩) := by
  pointwise [heads1]
  exact congrArg (fun k => p (ix2 t k)) (Fin.ext (by dsimp only; omega))
theorem heads2_at (p : FVec Ideal S2048x3840 .f32) (t : Fin 2048) (h : Fin 8) (e : Fin 64) :
    heads2 p (ix3 t h e) = p (ix2 t ⟨3072 + (64 * h.val + e.val), by omega⟩) := by
  pointwise [heads2]
  exact congrArg (fun k => p (ix2 t k)) (Fin.ext (by dsimp only; omega))
theorem dots_at (k q : FVec Ideal S2048x8x64 .bf16) (h : Fin 8) (s t : Fin 2048) :
    dots k q (ix3 h s t) = (∑ e : Fin 64, k (ix3 s h e) * q (ix3 t h e) : EReal) := by
  pointwise [dots]
theorem scores_at (a : FVec Ideal S8x2048x2048 .f32) (b : FVec Ideal S1x2048x2048 .f32) (h : Fin 8) (s t : Fin 2048) :
    scores a b (ix3 h s t) = (a (ix3 h s t) + b (ix3 0 s t) : EReal) := by
  pointwise [scores]
theorem wts_at (s : FVec Ideal S8x2048x2048 .f32) (mx : FVec Ideal S8x2048 .f32) (h : Fin 8) (r t : Fin 2048) :
    wts s mx (ix3 h r t) = Ideal.exp (s (ix3 h r t) - mx (ix2 h t)) := by
  pointwise [wts]
theorem sums_at (w : FVec Ideal S8x2048x2048 .f32) (h : Fin 8) (t : Fin 2048) :
    sums w (ix2 h t) = (∑ s : Fin 2048, w (ix3 h s t) : EReal) := by
  pointwise [sums]
theorem outs_at (v : FVec Ideal S2048x8x64 .bf16) (w : FVec Ideal S8x2048x2048 .f32) (t : Fin 2048) (h : Fin 8) (e : Fin 64) :
    outs v w (ix2 t ⟨64 * h.val + e.val, by omega⟩) = Ideal.div (∑ s : Fin 2048, v (ix3 s h e) * w (ix3 h s t)) (∑ s : Fin 2048, w (ix3 h s t)) := by
  pointwise [outs, sums]
theorem mixOf_at (o : FVec Ideal S2048x512 .f32) (t : Fin 2048) (j : Fin 1024) (h : 512 ≤ j.val) :
    mixOf o (ix2 t j) = o (ix2 t ⟨j.val - 512, by omega⟩) := by
  pointwise [mixOf]
  rw [dif_neg (by omega)]
theorem lseOf_at (mx l : FVec Ideal S8x2048 .f32) (p : Fin 4) (i : Fin 2) (hh : Fin 8) (h : hh.val < 2) (c : Fin 1024) :
    lseOf mx l (ix4 p i hh c) = (mx (ix2 ⟨2 * p.val + hh.val, by omega⟩ ⟨1024 * i.val + c.val, by omega⟩) + Ideal.log (l (ix2 ⟨2 * p.val + hh.val, by omega⟩ ⟨1024 * i.val + c.val, by omega⟩)) : EReal) := by
  pointwise [lseOf]
  rw [dif_pos (by omega)]
  exact congrArg₂ (fun u w => (mx (ix2 u w) + Ideal.log (l (ix2 u w)) : EReal)) (Fin.ext (by dsimp only; omega)) (Fin.ext (by dsimp only; omega))
/-- The masks of a distance, as words. -/
def fixed (w k : BitVec 32) : BitVec 32 := Scalar.select (IntOp.andi (IntOp.cmpi .ne (IntOp.cmpi .slt (IntOp.remsi .host w k) 0#32) (IntOp.cmpi .slt k 0#32)) (IntOp.cmpi .ne (IntOp.remsi .host w k) 0#32))
  (IntOp.addi (IntOp.remsi .host w k) k) (IntOp.remsi .host w k)
def word1 (w : BitVec 32) : BitVec 1 := IntOp.andi (IntOp.cmpi .sge w 0#32) (IntOp.cmpi .sle w 128#32)
def word4 (w : BitVec 32) : BitVec 1 := IntOp.andi (IntOp.andi (IntOp.cmpi .sge w 0#32) (IntOp.cmpi .eq (fixed w 4#32) 0#32)) (IntOp.cmpi .sle w 512#32)
def word16 (w : BitVec 32) : BitVec 1 := IntOp.andi (IntOp.cmpi .sge w 0#32) (IntOp.cmpi .eq (fixed w 16#32) 0#32)
/-- In how many patterns a distance is seen. -/
def wordCount (w : BitVec 32) : EReal := ((word1 w).toNat : ℝ) + ((word4 w).toNat : ℝ) + ((word16 w).toNat : ℝ)

theorem words : ∀ n : Fin 4096, word1 (AttnRead.W ((n.val : ℤ) - 2048)) = (if 2048 ≤ n.val ∧ n.val - 2048 ≤ 128 then 1#1 else 0#1)
    ∧ word4 (AttnRead.W ((n.val : ℤ) - 2048)) = (if 2048 ≤ n.val ∧ (n.val - 2048) % 4 = 0 ∧ n.val - 2048 ≤ 512 then 1#1 else 0#1)
    ∧ word16 (AttnRead.W ((n.val : ℤ) - 2048)) = (if 2048 ≤ n.val ∧ (n.val - 2048) % 16 = 0 then 1#1 else 0#1) := by
  decide +kernel

theorem bit_real (p : Prop) [Decidable p] : (((if p then 1#1 else 0#1 : BitVec 1).toNat : ℝ)) = if p then 1 else 0 := by
  by_cases h : p <;> simp [h]

theorem wordCount_eq (t s : ℕ) (ht : t < 2048) (hs : s < 2048) : wordCount (AttnRead.W ((t : ℤ) - s)) = ((cnt t s : ℝ) : EReal) := by
  have h := words ⟨2048 + t - s, by omega⟩
  dsimp only at h
  rw [show (((2048 + t - s : ℕ) : ℤ) - 2048) = (t : ℤ) - s by omega] at h
  unfold wordCount
  rw [h.1, h.2.1, h.2.2, bit_real, bit_real, bit_real, ← EReal.coe_add, ← EReal.coe_add]
  refine congrArg ((↑) : ℝ → EReal) ?_
  unfold cnt bd band
  refine congrArg₂ (· + ·) (congrArg₂ (· + ·) (if_congr ?_ rfl rfl) (if_congr ?_ rfl rfl)) (if_congr ?_ rfl rfl) <;> omega

theorem countA_at (s t : Fin 2048) : countA (ix3 0 s t) = wordCount (IntOp.subi (IntOp.addi (IntOp.muli (BitVec.ofNat 32 0) 2048#32) (BitVec.ofNat 32 t.val)) (BitVec.ofNat 32 s.val)) := by
  rfl
theorem countB_at (i : Fin 2) (r c : Fin 1024) : countB (ix3 i r c) = wordCount (IntOp.subi (IntOp.addi (IntOp.muli (BitVec.ofNat 32 i.val) 1024#32) (BitVec.ofNat 32 c.val)) (BitVec.ofNat 32 r.val)) := by
  rfl
theorem dist_word (i n t s : ℕ) : IntOp.subi (IntOp.addi (IntOp.muli (BitVec.ofNat 32 i) (BitVec.ofNat 32 n)) (BitVec.ofNat 32 t)) (BitVec.ofNat 32 s)
    = AttnRead.W ((i : ℤ) * n + t - s) := by
  simp only [AttnRead.W_nat, AttnRead.W_mul, AttnRead.W_add, AttnRead.W_sub]

theorem cnt_one (t s : ℕ) (h : 0 < cnt t s) : 1 ≤ cnt t s := by
  revert h
  unfold cnt bd
  split_ifs <;> norm_num

theorem bias_of (C : EReal) (t s : ℕ) (h : C = ((cnt t s : ℝ) : EReal)) :
    (if 0 < C then Ideal.log (max C 1) else Ideal.ofBits .f32 4286578688#32) = Bias t s := by
  subst h
  rw [AttnRead.low]
  unfold Bias
  by_cases h0 : 0 < cnt t s
  · rw [if_pos (by exact_mod_cast h0), if_pos h0, max_eq_left (by exact_mod_cast cnt_one t s h0)]
    show (if cnt t s ≤ 0 then ⊥ else ((Real.log (cnt t s) : ℝ) : EReal)) = _
    rw [if_neg (not_le.mpr h0)]
  · rw [if_neg (by exact_mod_cast h0), if_neg h0]

theorem biasA_at (s t : Fin 2048) : biasA (ix3 0 s t) = Bias t.val s.val := by
  pointwise [biasA]
  refine bias_of _ _ _ ?_
  rw [countA_at, dist_word, ← wordCount_eq _ _ t.isLt s.isLt]
  congr 2
  push_cast
  ring

theorem biasB_at (i : Fin 2) (r c : Fin 1024) : biasB (ix3 i r c) = Bias (1024 * i.val + c.val) r.val := by
  pointwise [biasB]
  refine bias_of _ _ _ ?_
  rw [countB_at, dist_word, ← wordCount_eq _ _ (by omega) (by omega)]
  congr 2
  push_cast
  ring

end Cert.AttnRun

end
-- ==== Proof.AttnHead.lean ====
/- The attention's saved arrays as real numbers. -/
module

public import proofs.«01_k».proof.Proof.AttnSaved
public import proofs.«01_k».proof.Proof.AttnBranch

@[expose] public section

set_option maxRecDepth 16384

noncomputable section

namespace Cert.AttnRun

open Cert.AttnIdeal Cert.AttnIdeal.Gen Idealize.ShloMosaic Cert.AttnMath Idealize.ShloMosaic.Tactic

/-- A head's real arrays, from the columns of the two arguments. -/
def head (A : Fin 2048 → Fin 3592 → ℝ) (D : Fin 2048 → Fin 1024 → ℝ) (h : Fin 8) : Head where
  q t e := A t ⟨2056 + (64 * h.val + e.val), by omega⟩ * (1 / 8)
  k t e := A t ⟨2568 + (64 * h.val + e.val), by omega⟩
  v t e := A t ⟨3080 + (64 * h.val + e.val), by omega⟩
  g t e := D t ⟨512 + (64 * h.val + e.val), by omega⟩

theorem fiber_mid (r : (⟨3, ![8, 2048, 2048]⟩ : Shape).ReducesTo [1] ⟨2, ![8, 2048]⟩) (h : Fin 8) (t : Fin 2048) (i : (⟨3, ![8, 2048, 2048]⟩ : Shape).Idx) :
    r.drop i = ix2 h t ↔ ∃ k : Fin 2048, ix3 h k t = i := by
  constructor
  · intro e
    refine ⟨i 1, ?_⟩
    funext a
    apply Fin.ext
    match a with
    | ⟨0, _⟩ => exact (congrArg Fin.val (congrFun e ⟨0, (by norm_num : 0 < 2)⟩)).symm
    | ⟨1, _⟩ => rfl
    | ⟨2, _⟩ => exact (congrArg Fin.val (congrFun e ⟨1, (by norm_num : 1 < 2)⟩)).symm
  · rintro ⟨k, rfl⟩
    funext b
    apply Fin.ext
    match b with
    | ⟨0, _⟩ => rfl
    | ⟨1, _⟩ => rfl

/-- The largest score of a query. -/
theorem maxes_at (s : FVec Ideal S8x2048x2048 .f32) (h : Fin 8) (t : Fin 2048) :
    maxes s (ix2 h t) = Finset.univ.fold max (⊥ : EReal) (fun k : Fin 2048 => s (ix3 h k t)) := by
  unfold maxes
  rw [Host.reduce_eq_fold, Finset.fold_filter_eq_fold_of_fiber _ _ (fun k : Fin 2048 => ix3 h k t) (fun _ _ e => congrFun e 1) (fiber_mid _ h t)]
  rw [← AttnRead.low]
  rfl

section real
variable (a : FVec Ideal S2048x3592 .f32) (A : Fin 2048 → Fin 3592 → ℝ) (D : Fin 2048 → Fin 1024 → ℝ) (hA : ∀ t j, a (ix2 t j) = ((A t j : ℝ) : EReal))
include hA

theorem packed_real (t : Fin 2048) (j : Fin 3840) (h1 : 2048 ≤ j.val) (h2 : j.val < 3584) : packed a (ix2 t j) = ((A t ⟨j.val + 8, by omega⟩ : ℝ) : EReal) := by
  rw [packed_at a t j h1 h2, hA]

theorem q_real (h : Fin 8) (t : Fin 2048) (e : Fin 64) : heads0 (packed a) (ix3 t h e) = (((head A D h).q t e : ℝ) : EReal) := by
  rw [heads0_at, packed_real a A hA _ _ (by dsimp only; omega) (by dsimp only; omega), E8_eq, ← EReal.coe_mul]
  exact congrArg (fun k => ((A t k * (1 / 8) : ℝ) : EReal)) (Fin.ext (by dsimp only; omega))
theorem k_real (h : Fin 8) (t : Fin 2048) (e : Fin 64) : heads1 (packed a) (ix3 t h e) = (((head A D h).k t e : ℝ) : EReal) := by
  rw [heads1_at, packed_real a A hA _ _ (by dsimp only; omega) (by dsimp only; omega)]
  exact congrArg (fun k => ((A t k : ℝ) : EReal)) (Fin.ext (by dsimp only; omega))
theorem v_real (h : Fin 8) (t : Fin 2048) (e : Fin 64) : heads2 (packed a) (ix3 t h e) = (((head A D h).v t e : ℝ) : EReal) := by
  rw [heads2_at, packed_real a A hA _ _ (by dsimp only; omega) (by dsimp only; omega)]
  exact congrArg (fun k => ((A t k : ℝ) : EReal)) (Fin.ext (by dsimp only; omega))

/-- The forward pass's scores. -/
theorem score_real (h : Fin 8) (s t : Fin 2048) :
    scores (dots (heads1 (packed a)) (heads0 (packed a))) biasA (ix3 h s t) = (((head A D h).sg t s : ℝ) : EReal) + Bias t.val s.val := by
  rw [scores_at, dots_at, biasA_at]
  refine congrArg (fun z : EReal => z + Bias t.val s.val) (sum_coe _ (fun e => (head A D h).q t e * (head A D h).k s e) fun e => ?_)
  rw [k_real a A D hA, q_real a A D hA, ← EReal.coe_mul, mul_comm]

include D in
theorem max_exists (h : Fin 8) (t : Fin 2048) : ∃ M : ℝ, maxes (scores (dots (heads1 (packed a)) (heads0 (packed a))) biasA) (ix2 h t) = (M : EReal) := by
  rw [maxes_at]
  refine max_real _ (fun s => ?_) t ?_
  · rw [score_real a A D hA]
    unfold Bias
    split
    · rw [← EReal.coe_add]
      exact EReal.coe_ne_top _
    · rw [EReal.add_bot]
      exact bot_ne_top
  · rw [score_real a A D hA]
    unfold Bias
    rw [if_pos (by rw [Head.cnt_self]; norm_num), ← EReal.coe_add]
    exact EReal.coe_ne_bot _

section sum
variable (h : Fin 8) (t : Fin 2048) (M : ℝ) (hM : maxes (scores (dots (heads1 (packed a)) (heads0 (packed a))) biasA) (ix2 h t) = (M : EReal))
include hM

theorem wt_real (s : Fin 2048) :
    wts (scores (dots (heads1 (packed a)) (heads0 (packed a))) biasA) (maxes (scores (dots (heads1 (packed a)) (heads0 (packed a))) biasA)) (ix3 h s t)
      = ((cnt t.val s.val * Real.exp ((head A D h).sg t s) * Real.exp (-M) : ℝ) : EReal) := by
  rw [wts_at, hM, score_real a A D hA]
  unfold Bias
  split
  · rename_i h0
    rw [← EReal.coe_add, ← EReal.coe_sub]
    refine congrArg ((↑) : ℝ → EReal) ?_
    rw [sub_eq_add_neg, Real.exp_add, Real.exp_add, Real.exp_log h0]
    ring
  · rename_i h0
    have h0 : cnt t.val s.val = 0 := le_antisymm (not_lt.mp h0) (Head.cnt_nonneg _ _)
    rw [h0, zero_mul, zero_mul, EReal.add_bot, EReal.bot_sub]
    rfl

theorem sum_real :
    (∑ s : Fin 2048, wts (scores (dots (heads1 (packed a)) (heads0 (packed a))) biasA) (maxes (scores (dots (heads1 (packed a)) (heads0 (packed a))) biasA)) (ix3 h s t) : EReal)
      = (((head A D h).Z t * Real.exp (-M) : ℝ) : EReal) := by
  rw [sum_coe _ _ fun s => wt_real a A D hA h t M hM s]
  unfold Head.Z
  rw [Finset.sum_mul]

theorem out_real' (e : Fin 64) :
    outs (heads2 (packed a)) (wts (scores (dots (heads1 (packed a)) (heads0 (packed a))) biasA) (maxes (scores (dots (heads1 (packed a)) (heads0 (packed a))) biasA)))
      (ix2 t ⟨64 * h.val + e.val, by omega⟩) = (((head A D h).o t e : ℝ) : EReal) := by
  have hz := ((head A D h).Z_pos t).ne'
  have he := (Real.exp_pos (-M)).ne'
  rw [outs_at, sum_real a A D hA h t M hM, Ideal.div_coe (mul_ne_zero hz he),
    sum_coe _ (fun s => (head A D h).v s e * (cnt t.val s.val * Real.exp ((head A D h).sg t s) * Real.exp (-M))) (fun s => by
      rw [v_real a A D hA, wt_real a A D hA h t M hM, ← EReal.coe_mul]), ← EReal.coe_mul]
  refine congrArg ((↑) : ℝ → EReal) ?_
  unfold Head.o Head.pr
  rw [Finset.sum_mul]
  refine Finset.sum_congr rfl fun s _ => ?_
  field_simp

theorem lse_real' (p : Fin 4) (i : Fin 2) (hh : Fin 8) (h2 : hh.val < 2) (c : Fin 1024) (hp : h = ⟨2 * p.val + hh.val, by omega⟩) (ht : t = ⟨1024 * i.val + c.val, by omega⟩) :
    lseOf (maxes (scores (dots (heads1 (packed a)) (heads0 (packed a))) biasA))
      (sums (wts (scores (dots (heads1 (packed a)) (heads0 (packed a))) biasA) (maxes (scores (dots (heads1 (packed a)) (heads0 (packed a))) biasA)))) (ix4 p i hh c)
      = ((Real.log ((head A D h).Z t) : ℝ) : EReal) := by
  have hz := (head A D h).Z_pos t
  have he := Real.exp_pos (-M)
  rw [lseOf_at _ _ _ _ _ h2, ← hp, ← ht, sums_at, sum_real a A D hA h t M hM, hM]
  show (M : EReal) + (if (head A D h).Z t * Real.exp (-M) ≤ 0 then ⊥ else ((Real.log ((head A D h).Z t * Real.exp (-M)) : ℝ) : EReal)) = _
  rw [if_neg (not_le.mpr (mul_pos hz he)), ← EReal.coe_add]
  refine congrArg ((↑) : ℝ → EReal) ?_
  rw [Real.log_mul hz.ne' he.ne', Real.log_exp]
  ring

end sum

/-- The forward pass's output and its rows' log-sums. -/
theorem out_real (h : Fin 8) (t : Fin 2048) (e : Fin 64) (j : Fin 1024) (hj : j.val = 512 + (64 * h.val + e.val)) :
    mixOf (outs (heads2 (packed a)) (wts (scores (dots (heads1 (packed a)) (heads0 (packed a))) biasA) (maxes (scores (dots (heads1 (packed a)) (heads0 (packed a))) biasA))))
      (ix2 t j) = (((head A D h).o t e : ℝ) : EReal) := by
  obtain ⟨M, hM⟩ := max_exists a A D hA h t
  rw [mixOf_at _ _ _ (by omega), ← out_real' a A D hA h t M hM e]
  exact congrArg (fun k => outs _ _ (ix2 t k)) (Fin.ext (by dsimp only; omega))

theorem lse_real (p : Fin 4) (i : Fin 2) (hh : Fin 8) (h2 : hh.val < 2) (c : Fin 1024) (h : Fin 8) (hp : h = ⟨2 * p.val + hh.val, by omega⟩) :
    lseOf (maxes (scores (dots (heads1 (packed a)) (heads0 (packed a))) biasA))
      (sums (wts (scores (dots (heads1 (packed a)) (heads0 (packed a))) biasA) (maxes (scores (dots (heads1 (packed a)) (heads0 (packed a))) biasA)))) (ix4 p i hh c)
      = ((Real.log ((head A D h).Z ⟨1024 * i.val + c.val, by omega⟩) : ℝ) : EReal) := by
  obtain ⟨M, hM⟩ := max_exists a A D hA h ⟨1024 * i.val + c.val, by omega⟩
  exact lse_real' a A D hA h _ M hM p i hh h2 c hp rfl

end real

end Cert.AttnRun

end
-- ==== Proof.AttnGood.lean ====
/- The attention's gradient: the blocks of a grid point hold the real arrays of its two heads. -/
module

public import proofs.«01_k».proof.Proof.AttnHead
public import proofs.«01_k».proof.Proof.AttnPoint
public import proofs.«01_k».proof.Proof.AttnCall
public import Idealize.ShloMosaic.Lib.Pipeline.ValueKit
public import Idealize.ShloMosaic.Lib.Pipeline.ReadBack

@[expose] public section

set_option maxRecDepth 16384

noncomputable section

namespace Cert.AttnRun

open Cert.AttnIdeal Cert.AttnIdeal.Gen Idealize.ShloMosaic Idealize.ShloMosaic.TcCoe Idealize.SL.Sem Cert.AttnMath

variable (m : (ℓ : Loc nD τ sig) → Buf (Elt Ideal) ℓ)

/-- The block each window holds at a grid point. -/
theorem idx : ∀ t : Fin cfg0.N, win0_0.index t = ![0, 16 + t.val / 2]
    ∧ win0_1.index t = ![t.val % 2, 20 + t.val / 2]
    ∧ win0_2.index t = ![t.val % 2, 24 + t.val / 2]
    ∧ win0_3.index t = ![0, 4 + t.val / 2]
    ∧ win0_4.index t = ![t.val / 2, 0, 0, 0]
    ∧ win0_5.index t = ![0, 4 + t.val / 2]
    ∧ win0_6.index t = ![0, 0, 0]
    ∧ win0_7.index t = ![0, t.val / 2]
    ∧ win0_8.index t = ![t.val % 2, t.val / 2]
    ∧ win0_9.index t = ![t.val % 2, t.val / 2] :=
  (by decide +kernel : ∀ t : Fin grid0.N, _)

theorem point_lt (t : Fin cfg0.N) : t.val < 8 := t.isLt

theorem blk0 (c : Dev nD) (t : Fin cfg0.N) (r : Fin 2048) (k : Fin 128) :
    iblk m c 0 t (ix2 r k) = V m c main_v4 (ix2 r ⟨2048 + (128 * (t.val / 2) + k.val), by have := point_lt t; omega⟩) := by
  blk_point [iblk, idx t]
  all_goals exact (show _ = 2048 + (128 * (t.val / 2) + k.val) by omega)
theorem blk1 (c : Dev nD) (t : Fin cfg0.N) (r : Fin 1024) (k : Fin 128) :
    iblk m c 1 t (ix2 r k) = V m c main_v4 (ix2 ⟨1024 * (t.val % 2) + r.val, by omega⟩ ⟨2560 + (128 * (t.val / 2) + k.val), by have := point_lt t; omega⟩) := by
  blk_point [iblk, idx t]
  all_goals exact (show _ = 2560 + (128 * (t.val / 2) + k.val) by omega)
theorem blk2 (c : Dev nD) (t : Fin cfg0.N) (r : Fin 1024) (k : Fin 128) :
    iblk m c 2 t (ix2 r k) = V m c main_v4 (ix2 ⟨1024 * (t.val % 2) + r.val, by omega⟩ ⟨3072 + (128 * (t.val / 2) + k.val), by have := point_lt t; omega⟩) := by
  blk_point [iblk, idx t]
  all_goals exact (show _ = 3072 + (128 * (t.val / 2) + k.val) by omega)
theorem blk3 (c : Dev nD) (t : Fin cfg0.N) (r : Fin 2048) (k : Fin 128) :
    iblk m c 3 t (ix2 r k) = V m c main_v75 (ix2 r ⟨512 + (128 * (t.val / 2) + k.val), by have := point_lt t; omega⟩) := by
  blk_point [iblk, idx t]
  all_goals exact (show _ = 512 + (128 * (t.val / 2) + k.val) by omega)
theorem blk4 (c : Dev nD) (t : Fin cfg0.N) (i : Fin 2) (l : Fin 8) (k : Fin 1024) :
    iblk m c 4 t (ix4 0 i l k) = V m c main_v77 (ix4 ⟨t.val / 2, by have := point_lt t; omega⟩ i l k) := by
  blk_point [iblk, idx t]
theorem blk5 (c : Dev nD) (t : Fin cfg0.N) (r : Fin 2048) (k : Fin 128) :
    iblk m c 5 t (ix2 r k) = V m c main_arg1 (ix2 r ⟨512 + (128 * (t.val / 2) + k.val), by have := point_lt t; omega⟩) := by
  blk_point [iblk, idx t]
  all_goals exact (show _ = 512 + (128 * (t.val / 2) + k.val) by omega)
theorem blk6 (c : Dev nD) (t : Fin cfg0.N) (i : Fin 2) (r k : Fin 1024) :
    iblk m c 6 t (ix3 i r k) = V m c main_v115 (ix3 i r k) := by
  blk_point [iblk, idx t]

theorem good_of (q : FVec Ideal S2048x128 .f32) (k v : FVec Ideal S1024x128 .f32) (o : FVec Ideal S2048x128 .f32) (z : FVec Ideal S1x2x8x1024 .f32) (d : FVec Ideal S2048x128 .f32)
    (b : FVec Ideal S2x1024x1024 .f32) (j : Fin 2) (x : Head) (l : Fin 8) (col : Fin 64 → Fin 128)
    (h1 : ∀ r e, @HMul.hMul EReal EReal EReal _ (q (ix2 r (col e))) E8 = ((x.q r e : ℝ) : EReal))
    (h2 : ∀ (r : Fin 1024) e, k (ix2 r (col e)) = ((x.k ⟨1024 * j.val + r.val, by omega⟩ e : ℝ) : EReal))
    (h3 : ∀ (r : Fin 1024) e, v (ix2 r (col e)) = ((x.v ⟨1024 * j.val + r.val, by omega⟩ e : ℝ) : EReal))
    (h4 : ∀ r e, d (ix2 r (col e)) = ((x.g r e : ℝ) : EReal))
    (h5 : ∀ r e, o (ix2 r (col e)) = ((x.o r e : ℝ) : EReal))
    (h6 : ∀ (i : Fin 2) (k : Fin 1024), z (ix4 0 i l k) = ((Real.log (x.Z ⟨1024 * i.val + k.val, by omega⟩) : ℝ) : EReal))
    (h7 : ∀ (i : Fin 2) (r k : Fin 1024), b (ix3 i r k) = Bias (1024 * i.val + k.val) r.val) : Good ⟨q, k, v, o, z, d, b⟩ j x col l :=
  ⟨h1, h2, h3, h4, h5, h6, h7⟩

section real
variable (c : Dev nD) (A : Fin 2048 → Fin 3592 → ℝ) (D : Fin 2048 → Fin 1024 → ℝ)
    (hA : ∀ t j, (m ((c : Thread nD τ).loc main_arg0) : FVec Ideal S2048x3592 .f32) (ix2 t j) = ((A t j : ℝ) : EReal))
    (hD : ∀ t j, (m ((c : Thread nD τ).loc main_arg1) : FVec Ideal S2048x1024 .f32) (ix2 t j) = ((D t j : ℝ) : EReal))

include hA in
theorem proj_real (r : Fin 2048) (k : Fin 3840) (h1 : 2048 ≤ k.val) (h2 : k.val < 3584) : V m c main_v4 (ix2 r k) = ((A r ⟨k.val + 8, by omega⟩ : ℝ) : EReal) :=
  (congrFun (V_proj m c) (ix2 r k)).trans (packed_real _ A hA r k h1 h2)

include hA in
theorem mix_real (h : Fin 8) (t : Fin 2048) (e : Fin 64) (j : Fin 1024) (hj : j.val = 512 + (64 * h.val + e.val)) :
    V m c main_v75 (ix2 t j) = (((head A D h).o t e : ℝ) : EReal) :=
  (congrFun (V_mix m c) (ix2 t j)).trans (out_real _ A D hA h t e j hj)

include hA in
theorem lse_at (p : Fin 4) (i : Fin 2) (hh : Fin 8) (h2 : hh.val < 2) (k : Fin 1024) (h : Fin 8) (hp : h = ⟨2 * p.val + hh.val, by omega⟩) :
    V m c main_v77 (ix4 p i hh k) = ((Real.log ((head A D h).Z ⟨1024 * i.val + k.val, by omega⟩) : ℝ) : EReal) :=
  (congrFun (V_lse m c) (ix4 p i hh k)).trans (lse_real _ A D hA p i hh h2 k h hp)

theorem bias_at (i : Fin 2) (r k : Fin 1024) : V m c main_v115 (ix3 i r k) = Bias (1024 * i.val + k.val) r.val :=
  (congrFun (V_bias m c) (ix3 i r k)).trans (biasB_at i r k)

variable (t : Fin cfg0.N) (l : Fin 8) (hl : l.val < 2) (h : Fin 8) (hh : h.val = 2 * (t.val / 2) + l.val) (col : Fin 64 → Fin 128) (hcol : ∀ e, (col e).val = 64 * l.val + e.val)

theorem col_eq {n : ℕ} (b : ℕ) (t : Fin cfg0.N) (l : Fin 8) (h : Fin 8) (hh : h.val = 2 * (t.val / 2) + l.val) (k : Fin 128) (e : Fin 64) (hk : k.val = 64 * l.val + e.val)
    (u : ℕ) (hu : u = b + (128 * (t.val / 2) + k.val)) (h1 : u < n) (h2 : b + (64 * h.val + e.val) < n) : (⟨u, h1⟩ : Fin n) = ⟨b + (64 * h.val + e.val), h2⟩ :=
  Fin.ext (by dsimp only; omega)

include hA hl hh hcol in
theorem good_q (r : Fin 2048) (e : Fin 64) : @HMul.hMul EReal EReal EReal _ (iblk m c 0 t (ix2 r (col e))) E8 = (((head A D h).q r e : ℝ) : EReal) := by
  have hc := hcol e
  have hp := point_lt t
  have e1 : (iblk m c 0 t (ix2 r (col e)) : EReal) = ((A r ⟨2056 + (64 * h.val + e.val), by omega⟩ : ℝ) : EReal) :=
    (blk0 m c t r (col e)).trans ((proj_real m c A hA r ⟨2048 + (128 * (t.val / 2) + (col e).val), by omega⟩ (by dsimp only; omega) (by dsimp only; omega)).trans
      (congrArg (fun k => ((A r k : ℝ) : EReal)) (col_eq 2056 t l h hh (col e) e hc _ (by dsimp only; omega) _ _)))
  exact (congrArg₂ (fun u v : EReal => u * v) e1 E8_eq).trans (EReal.coe_mul _ _).symm

include hA hl hh hcol in
theorem good_k (r : Fin 1024) (e : Fin 64) : (iblk m c 1 t (ix2 r (col e)) : EReal) = (((head A D h).k ⟨1024 * (t.val % 2) + r.val, by omega⟩ e : ℝ) : EReal) := by
  have hc := hcol e
  have hp := point_lt t
  exact (blk1 m c t r (col e)).trans ((proj_real m c A hA _ ⟨2560 + (128 * (t.val / 2) + (col e).val), by omega⟩ (by dsimp only; omega) (by dsimp only; omega)).trans
      (congrArg (fun k => ((A ⟨1024 * (t.val % 2) + r.val, by omega⟩ k : ℝ) : EReal)) (col_eq 2568 t l h hh (col e) e hc _ (by dsimp only; omega) _ _)))

include hA hl hh hcol in
theorem good_v (r : Fin 1024) (e : Fin 64) : (iblk m c 2 t (ix2 r (col e)) : EReal) = (((head A D h).v ⟨1024 * (t.val % 2) + r.val, by omega⟩ e : ℝ) : EReal) := by
  have hc := hcol e
  have hp := point_lt t
  exact (blk2 m c t r (col e)).trans ((proj_real m c A hA _ ⟨3072 + (128 * (t.val / 2) + (col e).val), by omega⟩ (by dsimp only; omega) (by dsimp only; omega)).trans
      (congrArg (fun k => ((A ⟨1024 * (t.val % 2) + r.val, by omega⟩ k : ℝ) : EReal)) (col_eq 3080 t l h hh (col e) e hc _ (by dsimp only; omega) _ _)))

include hD hl hh hcol in
theorem good_d (r : Fin 2048) (e : Fin 64) : (iblk m c 5 t (ix2 r (col e)) : EReal) = (((head A D h).g r e : ℝ) : EReal) := by
  have hc := hcol e
  have hp := point_lt t
  exact (blk5 m c t r (col e)).trans ((congrFun (V_main_arg1 m c) _).trans ((hD r ⟨512 + (128 * (t.val / 2) + (col e).val), by omega⟩).trans
      (congrArg (fun k => ((D r k : ℝ) : EReal)) (col_eq 512 t l h hh (col e) e hc _ rfl _ _))))

include hA hl hh hcol in
theorem good_o (r : Fin 2048) (e : Fin 64) : (iblk m c 3 t (ix2 r (col e)) : EReal) = (((head A D h).o r e : ℝ) : EReal) := by
  have hc := hcol e
  exact (blk3 m c t r (col e)).trans (mix_real m c A D hA h r e _ (by dsimp only; omega))

include hA hl hh in
theorem good_l (i : Fin 2) (k : Fin 1024) : (iblk m c 4 t (ix4 0 i l k) : EReal) = ((Real.log ((head A D h).Z ⟨1024 * i.val + k.val, by omega⟩) : ℝ) : EReal) :=
  (blk4 m c t i l k).trans (lse_at m c A D hA _ i l hl k h (Fin.ext hh))

theorem good_b (i : Fin 2) (r k : Fin 1024) : (iblk m c 6 t (ix3 i r k) : EReal) = Bias (1024 * i.val + k.val) r.val :=
  (blk6 m c t i r k).trans (bias_at m c i r k)

set_option maxHeartbeats 1000000 in
include hA hD hl hh hcol in
/-- The blocks of a point, for either of its heads. -/
theorem good (j : Fin 2) (hj : j.val = t.val % 2) : Good (blocksAt m c t) j (head A D h) col l := by
  obtain rfl : j = ⟨t.val % 2, Nat.mod_lt _ Nat.two_pos⟩ := Fin.ext hj
  exact good_of (iblk m c 0 t) (iblk m c 1 t) (iblk m c 2 t) (iblk m c 3 t) (iblk m c 4 t) (iblk m c 5 t) (iblk m c 6 t) _ _ _ _
    (good_q m c A D hA t l hl h hh col hcol) (good_k m c A D hA t l hl h hh col hcol) (good_v m c A D hA t l hl h hh col hcol)
    (good_d m c A D hD t l hl h hh col hcol) (good_o m c A D hA t l hl h hh col hcol) (good_l m c A D hA t l hl h hh) (good_b m c t)

end real

end Cert.AttnRun

end
-- ==== Proof.AttnKernel.lean ====
/- The kernel of the attention's gradient: what its three results are. -/
module

public import proofs.«01_k».proof.Proof.AttnGood

@[expose] public section

set_option maxRecDepth 16384

noncomputable section

namespace Cert.AttnRun

open Cert.AttnIdeal Cert.AttnIdeal.Gen Idealize.ShloMosaic Idealize.ShloMosaic.TcCoe Idealize.SL.Sem Cert.AttnMath
open Idealize.ShloMosaic.Pipeline (Dat)

/-- The three results, column by column. -/
def part (h : Fin 512) : Fin 8 := ⟨h.val / 64, by omega⟩
def entry (h : Fin 512) : Fin 64 := ⟨h.val % 64, by omega⟩
def RQ (x : Fin 8 → Head) : FVec Ideal S2048x512 .bf16 := fun i => (((x (part (i 1))).DQ (i 0) (entry (i 1)) : ℝ) : EReal)
def RK (x : Fin 8 → Head) : FVec Ideal S2048x512 .bf16 := fun i => (((x (part (i 1))).DK (i 0) (entry (i 1)) : ℝ) : EReal)
def RV (x : Fin 8 → Head) : FVec Ideal S2048x512 .bf16 := fun i => (((x (part (i 1))).DV (i 0) (entry (i 1)) : ℝ) : EReal)

theorem col_cases (k : Fin 128) : (∃ e, k = lo e) ∨ ∃ e, k = hi e := by
  by_cases h : k.val < 64
  · exact Or.inl ⟨⟨k.val, h⟩, rfl⟩
  · exact Or.inr ⟨⟨k.val - 64, by omega⟩, Fin.ext (by unfold hi; dsimp only; omega)⟩

variable (m : (ℓ : Loc nD τ sig) → Buf (Elt Ideal) ℓ)

section real
variable (c : Dev nD) (A : Fin 2048 → Fin 3592 → ℝ) (D : Fin 2048 → Fin 1024 → ℝ)
    (hA : ∀ t j, (m ((c : Thread nD τ).loc main_arg0) : FVec Ideal S2048x3592 .f32) (ix2 t j) = ((A t j : ℝ) : EReal))
    (hD : ∀ t j, (m ((c : Thread nD τ).loc main_arg1) : FVec Ideal S2048x1024 .f32) (ix2 t j) = ((D t j : ℝ) : EReal))

include hA hD

/-- The two heads of a point. -/
theorem good_lo (t : Fin cfg0.N) (j : Fin 2) (hj : j.val = t.val % 2) (h : Fin 8) (hh : h.val = 2 * (t.val / 2)) : Good (blocksAt m c t) j (head A D h) lo 0 :=
  good m c A D hA hD t 0 (by norm_num) h (by simpa using hh) lo (fun e => by unfold lo; simp) j hj
theorem good_hi (t : Fin cfg0.N) (j : Fin 2) (hj : j.val = t.val % 2) (h : Fin 8) (hh : h.val = 2 * (t.val / 2) + 1) : Good (blocksAt m c t) j (head A D h) hi 1 :=
  good m c A D hA hD t 1 (by norm_num) h (by simpa using hh) hi (fun e => by unfold hi; simp) j hj

theorem dk_point (t : Fin cfg0.N) (a : Fin 1024) (k : Fin 128) (w : Fin 512) (hw : w.val = 128 * (t.val / 2) + k.val) :
    (blocksAt m c t).dk (tileOf t) (ix2 a k) = (((head A D (part w)).DK ⟨1024 * (t.val % 2) + a.val, by omega⟩ (entry w) : ℝ) : EReal) := by
  rcases col_cases k with ⟨e, rfl⟩ | ⟨e, rfl⟩
  · refine (dk0 (good_lo m c A D hA hD t (tileOf t) rfl (part w) (by unfold part; unfold lo at hw; dsimp only at *; omega)) a e).trans ?_
    exact congrArg (fun e => (((head A D (part w)).DK ⟨1024 * (t.val % 2) + a.val, by omega⟩ e : ℝ) : EReal)) (Fin.ext (by unfold entry; unfold lo at hw; dsimp only at *; omega))
  · refine (dk1 (good_hi m c A D hA hD t (tileOf t) rfl (part w) (by unfold part; unfold hi at hw; dsimp only at *; omega)) a e).trans ?_
    exact congrArg (fun e => (((head A D (part w)).DK ⟨1024 * (t.val % 2) + a.val, by omega⟩ e : ℝ) : EReal)) (Fin.ext (by unfold entry; unfold hi at hw; dsimp only at *; omega))

theorem dv_point (t : Fin cfg0.N) (a : Fin 1024) (k : Fin 128) (w : Fin 512) (hw : w.val = 128 * (t.val / 2) + k.val) :
    (blocksAt m c t).dv (tileOf t) (ix2 a k) = (((head A D (part w)).DV ⟨1024 * (t.val % 2) + a.val, by omega⟩ (entry w) : ℝ) : EReal) := by
  rcases col_cases k with ⟨e, rfl⟩ | ⟨e, rfl⟩
  · refine (dv0 (good_lo m c A D hA hD t (tileOf t) rfl (part w) (by unfold part; unfold lo at hw; dsimp only at *; omega)) a e).trans ?_
    exact congrArg (fun e => (((head A D (part w)).DV ⟨1024 * (t.val % 2) + a.val, by omega⟩ e : ℝ) : EReal)) (Fin.ext (by unfold entry; unfold lo at hw; dsimp only at *; omega))
  · refine (dv1 (good_hi m c A D hA hD t (tileOf t) rfl (part w) (by unfold part; unfold hi at hw; dsimp only at *; omega)) a e).trans ?_
    exact congrArg (fun e => (((head A D (part w)).DV ⟨1024 * (t.val % 2) + a.val, by omega⟩ e : ℝ) : EReal)) (Fin.ext (by unfold entry; unfold hi at hw; dsimp only at *; omega))

theorem dq_point (t : Fin cfg0.N) (ht : t.val % 2 = 1) (r : Fin 2048) (k : Fin 128) (w : Fin 512) (hw : w.val = 128 * (t.val / 2) + k.val) :
    sumAt m c t.val t.isLt (ix2 r k) = (((head A D (part w)).DQ r (entry w) : ℝ) : EReal) := by
  unfold sumAt
  rw [if_neg (by omega)]
  rcases col_cases k with ⟨e, rfl⟩ | ⟨e, rfl⟩
  · refine (dq0 (good_lo m c A D hA hD ⟨t.val - 1, by have := t.isLt; omega⟩ 0 (by simp; omega) (part w) (by unfold part; unfold lo at hw; dsimp only at *; omega))
      (good_lo m c A D hA hD t 1 (by simp; omega) (part w) (by unfold part; unfold lo at hw; dsimp only at *; omega)) r e).trans ?_
    exact congrArg (fun e => (((head A D (part w)).DQ r e : ℝ) : EReal)) (Fin.ext (by unfold entry; unfold lo at hw; dsimp only at *; omega))
  · refine (dq1 (good_hi m c A D hA hD ⟨t.val - 1, by have := t.isLt; omega⟩ 0 (by simp; omega) (part w) (by unfold part; unfold hi at hw; dsimp only at *; omega))
      (good_hi m c A D hA hD t 1 (by simp; omega) (part w) (by unfold part; unfold hi at hw; dsimp only at *; omega)) r e).trans ?_
    exact congrArg (fun e => (((head A D (part w)).DQ r e : ℝ) : EReal)) (Fin.ext (by unfold entry; unfold hi at hw; dsimp only at *; omega))

/-- The first result. -/
theorem final_dq : (dats m 0 c).arrAt 7 cfg0.N = RQ (head A D) := by
  refine (dats m 0 c).arrAt_eq_of_covers 7 _ (by decide +kernel) fun t hf y => ?_
  have ht : t.val % 2 = 1 := (by decide +kernel : ∀ t : Fin grid0.N, (cfg0.win 7).flush t = true → t.val % 2 = 1) t hf
  blk_simp
  rw [after7]
  have key : k0_pay20 (sumAt m c t.val t.isLt) y = RQ (head A D) (((cfg0.win 7).blk t).view.emb y) := by
    idx_vars y
    have e : ((cfg0.win 7).blk t).view.emb (ix2 y0 y1) = ix2 y0 ⟨128 * (t.val / 2) + y1.val, by have := point_lt t; omega⟩ := by
      blk_ext [idx t]
      all_goals exact (show _ = 128 * (t.val / 2) + y1.val by omega)
    rw [e]
    exact dq_point m c A D hA hD t ht y0 y1 _ rfl
  exact key

/-- The second result. -/
theorem final_dk : (dats m 0 c).arrAt 8 cfg0.N = RK (head A D) := by
  refine (dats m 0 c).arrAt_eq_of_covers 8 _ (by decide +kernel) fun t hf y => ?_
  blk_simp
  rw [after8]
  have key : (blocksAt m c t).dk (tileOf t) y = RK (head A D) (((cfg0.win 8).blk t).view.emb y) := by
    idx_vars y
    have e : ((cfg0.win 8).blk t).view.emb (ix2 y0 y1) = ix2 ⟨1024 * (t.val % 2) + y0.val, by omega⟩ ⟨128 * (t.val / 2) + y1.val, by have := point_lt t; omega⟩ := by
      blk_ext [idx t]
      all_goals exact (show _ = 128 * (t.val / 2) + y1.val by omega)
    rw [e]
    exact dk_point m c A D hA hD t y0 y1 _ rfl
  exact key

/-- The third result. -/
theorem final_dv : (dats m 0 c).arrAt 9 cfg0.N = RV (head A D) := by
  refine (dats m 0 c).arrAt_eq_of_covers 9 _ (by decide +kernel) fun t hf y => ?_
  blk_simp
  rw [after9]
  have key : (blocksAt m c t).dv (tileOf t) y = RV (head A D) (((cfg0.win 9).blk t).view.emb y) := by
    idx_vars y
    have e : ((cfg0.win 9).blk t).view.emb (ix2 y0 y1) = ix2 ⟨1024 * (t.val % 2) + y0.val, by omega⟩ ⟨128 * (t.val / 2) + y1.val, by have := point_lt t; omega⟩ := by
      blk_ext [idx t]
      all_goals exact (show _ = 128 * (t.val / 2) + y1.val by omega)
    rw [e]
    exact dv_point m c A D hA hD t y0 y1 _ rfl
  exact key

end real

/-- The run, with the three results. -/
theorem run_blocks (ρ : Dev nD → PrngReg) : θ_run defs (onTc (τ := τ) (main (F := Ideal))) ⟨m, fun _ => 0, ρ⟩ (fun r => ∀ c : Dev nD,
    (r.2.mem ((c : Thread nD τ).loc main_v116_0) = (dats m 0 c).arrAt 7 cfg0.N
      ∧ r.2.mem ((c : Thread nD τ).loc main_v116_1) = (dats m 0 c).arrAt 8 cfg0.N
      ∧ r.2.mem ((c : Thread nD τ).loc main_v116_2) = (dats m 0 c).arrAt 9 cfg0.N)
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun r h c => ⟨⟨(h.1 c).1 7, (h.1 c).1 8, (h.1 c).1 9⟩, h.2.1 c⟩) (θ_run_and (run_main m ρ) (frame m ρ))

end Cert.AttnRun

end
-- ==== Proof.AttnRefVal.lean ====
/- The reference's three results of the attention's gradient, as real sums. -/
module

public import proofs.«01_k».proof.Proof.AttnBack1
public import proofs.«01_k».proof.Proof.AttnBack4
public import proofs.«01_k».proof.Proof.AttnBack16
public import proofs.«01_k».proof.Proof.AttnMixed
public import proofs.«01_k».proof.Proof.AttnKernel

@[expose] public section

set_option maxRecDepth 16384

noncomputable section

namespace Cert.AttnRef

open Cert.AttnRefIdeal Cert.AttnRefIdeal.Gen Cert.AttnRefIdeal.Value Idealize.ShloMosaic Cert.AttnMath
open Cert.AttnRun (E8 E8_eq head part entry RQ RK RV)

/-- A cotangent of the keys or values from the three branches' parts. -/
def kres (p16 p4 p1 : FVec Ideal S1x8x2048x64 .f32) : FVec Ideal S2048x512 .bf16 :=
  truncf .bf16 (shapeCast _ (transpose S1x2048x8x64 [0, 2, 1, 3] (addf (addf p16 p4) p1) transposes_S1x8x2048x64_S1x2048x8x64_0_2_1_3) shapeCasts_S1x2048x8x64_S2048x512) bitsLt_bf16_f32
/-- The cotangent of the queries. -/
def qres (p16 p4 p1 : FVec Ideal S1x8x2048x64 .f32) : FVec Ideal S2048x512 .bf16 :=
  truncf .bf16 (shapeCast _ (transpose S1x2048x8x64 [0, 2, 1, 3] (mulf (addf (addf p16 p4) p1) (broadcastInDim S1x8x2048x64 ![] bcast_S_S1x8x2048x64 (constant S_ .f32 0x3E000000#32)))
    transposes_S1x8x2048x64_S1x2048x8x64_0_2_1_3) shapeCasts_S1x2048x8x64_S2048x512) bitsLt_bf16_f32

theorem kres_at (p16 p4 p1 : FVec Ideal S1x8x2048x64 .f32) (t : Fin 2048) (j : Fin 512) :
    kres p16 p4 p1 (ix2 t j) = (p16 (ix4 0 (part j) t (entry j)) + p4 (ix4 0 (part j) t (entry j)) + p1 (ix4 0 (part j) t (entry j)) : EReal) := by
  pointwise [kres]
  rfl
theorem qres_at (p16 p4 p1 : FVec Ideal S1x8x2048x64 .f32) (t : Fin 2048) (j : Fin 512) :
    qres p16 p4 p1 (ix2 t j) = ((p16 (ix4 0 (part j) t (entry j)) + p4 (ix4 0 (part j) t (entry j)) + p1 (ix4 0 (part j) t (entry j))) * E8 : EReal) := by
  pointwise [qres]
  rfl

section inputs
variable (a : FVec Ideal S2048x3592 .f32) (d : FVec Ideal S2048x1024 .f32) (h : Fin 8) (t : Fin 2048) (e : Fin 64)
theorem q_read : (mulf (transpose S1x8x2048x64 [0, 2, 1, 3] (shapeCast _ (extractStridedSlice S2048x512 ![0, 2056] a slices_S2048x3592_S2048x512_0_2056) shapeCasts_S2048x512_S1x2048x8x64) transposes_S1x2048x8x64_S1x8x2048x64_0_2_1_3)
    (broadcastInDim S1x8x2048x64 ![] bcast_S_S1x8x2048x64 (constant S_ .f32 0x3E000000#32)) : FVec Ideal S1x8x2048x64 .f32) (ix4 0 h t e) = (a (ix2 t ⟨2056 + (64 * h.val + e.val), by omega⟩) * E8 : EReal) := by
  pointwise
  exact congrArg (fun k => (a (ix2 t k) * E8 : EReal)) (Fin.ext (by dsimp only; omega))
theorem k_read : (transpose S1x8x2048x64 [0, 2, 1, 3] (shapeCast _ (extractStridedSlice S2048x512 ![0, 2568] a slices_S2048x3592_S2048x512_0_2568) shapeCasts_S2048x512_S1x2048x8x64) transposes_S1x2048x8x64_S1x8x2048x64_0_2_1_3 : FVec Ideal S1x8x2048x64 .f32) (ix4 0 h t e) = a (ix2 t ⟨2568 + (64 * h.val + e.val), by omega⟩) := by
  pointwise
  exact congrArg (fun k => a (ix2 t k)) (Fin.ext (by dsimp only; omega))
theorem v_read : (transpose S1x8x2048x64 [0, 2, 1, 3] (shapeCast _ (extractStridedSlice S2048x512 ![0, 3080] a slices_S2048x3592_S2048x512_0_3080) shapeCasts_S2048x512_S1x2048x8x64) transposes_S1x2048x8x64_S1x8x2048x64_0_2_1_3 : FVec Ideal S1x8x2048x64 .f32) (ix4 0 h t e) = a (ix2 t ⟨3080 + (64 * h.val + e.val), by omega⟩) := by
  pointwise
  exact congrArg (fun k => a (ix2 t k)) (Fin.ext (by dsimp only; omega))
theorem g_read : (transpose S1x8x2048x64 [0, 2, 1, 3] (shapeCast _ (broadcastInDim S1x2048x512 ![1, 2] bcast_S2048x512_S1x2048x512_1_2 (extractStridedSlice S2048x512 ![0, 512] d slices_S2048x1024_S2048x512_0_512)) shapeCasts_S1x2048x512_S1x2048x8x64)
    transposes_S1x2048x8x64_S1x8x2048x64_0_2_1_3 : FVec Ideal S1x8x2048x64 .f32) (ix4 0 h t e) = d (ix2 t ⟨512 + (64 * h.val + e.val), by omega⟩) := by
  pointwise
  exact congrArg (fun k => d (ix2 t k)) (Fin.ext (by dsimp only; omega))
end inputs

variable (V : Valuation τ sig (Elt Ideal))

theorem inputs_of (A : Fin 2048 → Fin 3592 → ℝ) (D : Fin 2048 → Fin 1024 → ℝ)
    (hA : ∀ t j, (V (Proc.devRef .tc main_arg0) : FVec Ideal S2048x3592 .f32) (ix2 t j) = ((A t j : ℝ) : EReal))
    (hD : ∀ t j, (V (Proc.devRef .tc main_arg1) : FVec Ideal S2048x1024 .f32) (ix2 t j) = ((D t j : ℝ) : EReal)) : Inputs V (head A D) where
  q h t e := (q_read (V (Proc.devRef .tc main_arg0)) h t e).trans ((congrArg₂ (fun u v : EReal => u * v) (hA t _) E8_eq).trans (EReal.coe_mul _ _).symm)
  k h t e := (k_read (V (Proc.devRef .tc main_arg0)) h t e).trans (hA t _)
  v h t e := (v_read (V (Proc.devRef .tc main_arg0)) h t e).trans (hA t _)
  g h t e := (g_read (V (Proc.devRef .tc main_arg1)) h t e).trans (hD t _)

theorem q_sum (p16 p4 p1 : FVec Ideal S1x8x2048x64 .f32) (x : Fin 8 → Head) (a16 a4 a1 : Fin 8 → Fin 2048 → Fin 64 → ℝ)
    (h16 : ∀ h t e, p16 (ix4 0 h t e) = ((a16 h t e : ℝ) : EReal)) (h4 : ∀ h t e, p4 (ix4 0 h t e) = ((a4 h t e : ℝ) : EReal)) (h1 : ∀ h t e, p1 (ix4 0 h t e) = ((a1 h t e : ℝ) : EReal))
    (tot : ∀ h t e, (a16 h t e + a4 h t e + a1 h t e) * (1 / 8) = (x h).DQ t e) : qres p16 p4 p1 = RQ x := by
  funext i
  obtain ⟨t, j, rfl⟩ : ∃ (t : Fin 2048) (j : Fin 512), i = ix2 t j := ⟨i 0, i 1, by funext a; fin_cases a <;> rfl⟩
  refine (qres_at p16 p4 p1 t j).trans ?_
  rw [h16, h4, h1, E8_eq, ← EReal.coe_add, ← EReal.coe_add, ← EReal.coe_mul, tot]
  rfl

theorem k_sum (p16 p4 p1 : FVec Ideal S1x8x2048x64 .f32) (x : Fin 8 → Head) (a16 a4 a1 : Fin 8 → Fin 2048 → Fin 64 → ℝ)
    (h16 : ∀ h t e, p16 (ix4 0 h t e) = ((a16 h t e : ℝ) : EReal)) (h4 : ∀ h t e, p4 (ix4 0 h t e) = ((a4 h t e : ℝ) : EReal)) (h1 : ∀ h t e, p1 (ix4 0 h t e) = ((a1 h t e : ℝ) : EReal))
    (tot : ∀ h t e, a16 h t e + a4 h t e + a1 h t e = (x h).DK t e) : kres p16 p4 p1 = RK x := by
  funext i
  obtain ⟨t, j, rfl⟩ : ∃ (t : Fin 2048) (j : Fin 512), i = ix2 t j := ⟨i 0, i 1, by funext a; fin_cases a <;> rfl⟩
  refine (kres_at p16 p4 p1 t j).trans ?_
  rw [h16, h4, h1, ← EReal.coe_add, ← EReal.coe_add, tot]
  rfl

theorem v_sum (p16 p4 p1 : FVec Ideal S1x8x2048x64 .f32) (x : Fin 8 → Head) (a16 a4 a1 : Fin 8 → Fin 2048 → Fin 64 → ℝ)
    (h16 : ∀ h t e, p16 (ix4 0 h t e) = ((a16 h t e : ℝ) : EReal)) (h4 : ∀ h t e, p4 (ix4 0 h t e) = ((a4 h t e : ℝ) : EReal)) (h1 : ∀ h t e, p1 (ix4 0 h t e) = ((a1 h t e : ℝ) : EReal))
    (tot : ∀ h t e, a16 h t e + a4 h t e + a1 h t e = (x h).DV t e) : kres p16 p4 p1 = RV x := by
  funext i
  obtain ⟨t, j, rfl⟩ : ∃ (t : Fin 2048) (j : Fin 512), i = ix2 t j := ⟨i 0, i 1, by funext a; fin_cases a <;> rfl⟩
  refine (kres_at p16 p4 p1 t j).trans ?_
  rw [h16, h4, h1, ← EReal.coe_add, ← EReal.coe_add, tot]
  rfl

section results
variable (x : Fin 8 → Head) (I : Inputs V x)

include I in
theorem ref_dq : qres (AttnRef16.qpart (res_main_v367 V) (res_main_v168 V)) (AttnRef4.qpart (res_main_v416 V) (res_main_v97 V)) (AttnRef1.qpart (res_main_v468 V) (res_main_v25 V)) = RQ x := by
  choose y M using fun h => mixed V h x I
  exact q_sum _ _ _ x _ _ _ (fun h t e => AttnRef16.dq_at V h x I (y h) (M h) e t) (fun h t e => AttnRef4.dq_at V h x I (y h) (M h) e t)
    (fun h t e => AttnRef1.dq_at V h x I (y h) (M h) e t) (fun h t e => (y h).dq_total (x h) t e)

include I in
theorem ref_dk : kres (AttnRef16.kpart (res_main_v368 V) (res_main_v376 V)) (AttnRef4.kpart (res_main_v417 V) (res_main_v425 V)) (AttnRef1.kpart (res_main_v469 V) (res_main_v477 V)) = RK x := by
  choose y M using fun h => mixed V h x I
  exact k_sum _ _ _ x _ _ _ (fun h t e => AttnRef16.dk_at V h x I (y h) (M h) e t) (fun h t e => AttnRef4.dk_at V h x I (y h) (M h) e t)
    (fun h t e => AttnRef1.dk_at V h x I (y h) (M h) e t) (fun h t e => (y h).dk_total (x h) t e)

include I in
theorem ref_dv : kres (AttnRef16.kpart (res_main_v352 V) (res_main_v370 V)) (AttnRef4.kpart (res_main_v401 V) (res_main_v419 V)) (AttnRef1.kpart (res_main_v453 V) (res_main_v471 V)) = RV x := by
  choose y M using fun h => mixed V h x I
  exact v_sum _ _ _ x _ _ _ (fun h t e => AttnRef16.dv_at V h x I (y h) (M h) e t) (fun h t e => AttnRef4.dv_at V h x I (y h) (M h) e t)
    (fun h t e => AttnRef1.dv_at V h x I (y h) (M h) e t) (fun h t e => (y h).dv_total (x h) t e)
end results

end Cert.AttnRef

end
-- ==== Proof.Attn.lean ====
/- The attention's gradient: the kernel and the derivative of the forward lines give the same three results. -/
module

public import proofs.«01_k».proof.Defs
public import proofs.«01_k».proof.Proof.AttnRefVal
public import proofs.«01_k».proof.Proof.Gen.Attn
public import Idealize.ShloMosaic.Adequacy
public import Idealize.ShloMosaic.Init

@[expose] public section

set_option maxRecDepth 16384

noncomputable section

namespace Cert.AttnProof

open Idealize.ShloMosaic Idealize.ShloMosaic.StableHlo Idealize.SL.Sem Cert.AttnMath

/-- The arguments of the kernel in machine words end unchanged. -/
theorem frame_kernel : quiescent_Attn := by
  intro m ρ _
  refine Eq.mp ?_ (AttnRun.frame (F := Bits) m ρ)
  sl_kernel_rfl

/-- The arguments of the kernel over the extended reals end unchanged. -/
theorem frame_ideal : quiescent_AttnIdeal := fun m ρ _ => AttnRun.frame (F := Ideal) m ρ

/-- The arguments of the reference end unchanged. -/
theorem ref_frame : quiescent_AttnRefIdeal := fun m ρ _ =>
  (θ_run AttnRefIdeal.defs _ _).mono (fun r h => ⟨fun c => (h c).2.2.2, Idealize.ShloMosaic.sem_eq_zero_of_no_sems (by decide) r.2⟩)
    (AttnRefIdeal.Value.run m ρ)

/-- The side conditions of the precondition's own operations. -/
instance pre_facts : Pre_attn_finite.Facts := by constructor <;> decide

/-- Over real arguments each head's three cotangents are the same real sums in the kernel and in the reference. -/
theorem value : algebraic_AttnIdeal_AttnRefIdeal_pre_attn_finite := by
  intro m g m' g' hp hm
  have rA := fun (c : Dev AttnIdeal.nD) => Finite.real_of (φ := .f32) (s := AttnIdeal.S2048x3592)
    (m ((c.tc : Thread AttnIdeal.nD AttnIdeal.τ).loc AttnIdeal.main_arg0)) _ (fun _ => Finite.inf_f32) (hp c).1
  have rD := fun (c : Dev AttnIdeal.nD) => Finite.real_of (φ := .f32) (s := AttnIdeal.S2048x1024)
    (m ((c.tc : Thread AttnIdeal.nD AttnIdeal.τ).loc AttnIdeal.main_arg1)) _ (fun _ => Finite.inf_f32) (hp c).2
  choose A hA using rA
  choose D hD using rD
  have iA := fun c (t : Fin 2048) (j : Fin 3592) => congrFun (hA c) (ix2 t j)
  have iD := fun c (t : Fin 2048) (j : Fin 1024) => congrFun (hD c) (ix2 t j)
  have inp := fun c => AttnRef.inputs_of (launchContents m' c) (fun t j => A c (ix2 t j)) (fun t j => D c (ix2 t j))
    (fun t j => (congrFun (hm c).1 (ix2 t j)).trans (iA c t j)) (fun t j => (congrFun (hm c).2 (ix2 t j)).trans (iD c t j))
  exact ⟨fun c => AttnRun.RQ (AttnRun.head (fun t j => A c (ix2 t j)) (fun t j => D c (ix2 t j))),
    fun c => AttnRun.RK (AttnRun.head (fun t j => A c (ix2 t j)) (fun t j => D c (ix2 t j))),
    fun c => AttnRun.RV (AttnRun.head (fun t j => A c (ix2 t j)) (fun t j => D c (ix2 t j))),
    (θ_run AttnIdeal.defs _ _).mono (fun r h c => ⟨(h c).1.1.trans (AttnRun.final_dq m c _ _ (iA c) (iD c)),
      (h c).1.2.1.trans (AttnRun.final_dk m c _ _ (iA c) (iD c)), (h c).1.2.2.trans (AttnRun.final_dv m c _ _ (iA c) (iD c)), (h c).2⟩)
      (AttnRun.run_blocks m g),
    (θ_run AttnRefIdeal.defs _ _).mono (fun r h c => ⟨(h c).1.trans (AttnRef.ref_dq (launchContents m' c) _ (inp c)),
      (h c).2.1.trans (AttnRef.ref_dk (launchContents m' c) _ (inp c)), (h c).2.2.1.trans (AttnRef.ref_dv (launchContents m' c) _ (inp c)), (h c).2.2.2⟩)
      (AttnRefIdeal.Value.run m' g')⟩

end Cert.AttnProof

end
-- ==== Proof.First.lean ====
/- The first norm: the kernel and the forward lines give the same result. -/
module

public import proofs.«01_k».proof.Defs
public import proofs.«01_k».proof.Proof.Gen.FirstIdeal.Value
public import proofs.«01_k».proof.Proof.Gen.First.Frame
public import proofs.«01_k».proof.Proof.Gen.FirstRefIdeal.Read
public import proofs.«01_k».proof.Proof.Norm2Ref
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.FirstProof

open Cert.FirstIdeal Cert.FirstIdeal.Gen Idealize.ShloMosaic Idealize.ShloMosaic.TcCoe Idealize.SL.Sem Cert.NormGrad
open Idealize.ShloMosaic.Pipeline (Dat)
open Cert.Norm2Ref (cN cE)

variable (m : (ℓ : Loc nD τ sig) → Buf (Elt Ideal) ℓ)

/-- The arguments. -/
abbrev Xm (c : Dev nD) : FVec Ideal S2048x1024 .f32 := m ((c : Thread nD τ).loc main_arg0)
abbrev wm (c : Dev nD) : FVec Ideal S1x1024 .f32 := m ((c : Thread nD τ).loc main_arg1)

/-- A row's norm: the row over its root mean square, times the weight. -/
def norm (x w : Fin 1024 → EReal) (k : Fin 1024) : EReal := x k * inv cN cE x * w k

/-- The result. -/
def H (X : FVec Ideal S2048x1024 .f32) (w : FVec Ideal S1x1024 .f32) : FVec Ideal S2048x1024 .bf16 := fun i =>
  norm (fun j => X (ix2 (i 0) j)) (fun j => w (ix2 0 j)) (i 1)

/-- The block each window holds at a grid point. -/
theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 4 := t.isLt

/-- The row of the whole array that a row of a grid point's block is. -/
abbrev row (t : Fin cfg0.N) (r : Fin 512) : Fin 2048 := ⟨512 * t.val + r.val, by have := point_lt t; omega⟩

theorem blk0 (c : Dev nD) (t : Fin cfg0.N) (r : Fin 512) (k : Fin 1024) :
    iblk m c 0 t (ix2 r k) = Xm m c (ix2 (row t r) k) := by
  blk_point [iblk, V, idx t]
  all_goals exact (show _ = _ by omega)

theorem blk1 (c : Dev nD) (t : Fin cfg0.N) (k : Fin 1024) : iblk m c 1 t (ix2 0 k) = wm m c (ix2 0 k) := by
  blk_point [iblk, V, idx t]

theorem pay_at (x : FVec Ideal S512x1024 .f32) (w : FVec Ideal S1x1024 .f32) (r : Fin 512) (k : Fin 1024) :
    k0_pay1 (F := Ideal) x w (ix2 r k) = norm (fun j => x (ix2 r j)) (fun j => w (ix2 0 j)) k := by
  unfold k0_pay1
  pointwise
  rfl

theorem point (c : Dev nD) (t : Fin cfg0.N) (r : Fin 512) (k : Fin 1024) :
    k0_pay1 (F := Ideal) (iblk m c 0 t) (iblk m c 1 t) (ix2 r k) = H (Xm m c) (wm m c) (ix2 (row t r) k) := by
  refine (pay_at _ _ r k).trans ?_
  simp only [blk0, blk1]
  rfl

theorem final (c : Dev nD) : (dats m 0 c).arrAt 2 cfg0.N = H (Xm m c) (wm m c) := by
  refine (dats m 0 c).arrAt_eq_of_covers 2 _ (by decide +kernel) fun t hf y => ?_
  blk_simp
  rw [after0_2]
  have key : out0_2 (iblk m c 0 t) (iblk m c 1 t) y = H (Xm m c) (wm m c) (((cfg0.win 2).blk t).view.emb y) := by
    idx_vars y
    refine Eq.trans ?_ ((point m c t y0 y1).trans ?_)
    · frame_out
    · show H (Xm m c) (wm m c) (ix2 (row t y0) y1) = _
      congr 1
      blk_ext [idx t]
      all_goals exact (show _ = _ by omega)
  exact key

/-- The reference's result. -/
theorem ref (X : FVec Ideal S2048x1024 .f32) (w : FVec Ideal S1x1024 .f32) :
    FirstRefIdeal.Read.val_main_v14 (F := Ideal) X w = H X w := by
  funext i
  obtain ⟨r, k, rfl⟩ : ∃ (r : Fin 2048) (k : Fin 1024), i = ix2 r k := ⟨i 0, i 1, by funext a; fin_cases a <;> rfl⟩
  rw [← FirstRefIdeal.Read.val_main_v14_eq (F := Ideal) X w]
  pointwise
  rfl

theorem value : algebraic_FirstIdeal_FirstRefIdeal := by
  intro m g m' g' _ hm
  refine ⟨fun c => H (Xm m c) (wm m c),
    (θ_run FirstIdeal.defs _ _).mono (fun r h c => ⟨(h c).1.trans (final m c), (h c).2⟩) (FirstIdeal.Value.run_blocks m g),
    (θ_run FirstRefIdeal.defs _ _).mono (fun r h c => ⟨(h c).1.trans ?_, (h c).2⟩) (FirstRefIdeal.Value.run m' g')⟩
  refine (FirstRefIdeal.Read.val_main_v14_eq (F := Ideal) _ _).trans ?_
  rw [(hm c).1, (hm c).2]
  exact ref _ _

/-- The reference ends with its arguments unchanged; it has no semaphore. -/
theorem ref_frame : quiescent_FirstRefIdeal := fun m ρ _ =>
  (θ_run FirstRefIdeal.defs _ _).mono (fun r h => ⟨fun c => (h c).2, Idealize.ShloMosaic.sem_eq_zero_of_no_sems (by decide) r.2⟩)
    (FirstRefIdeal.Value.run m ρ)

end Cert.FirstProof

end
-- ==== Proof.Out.lean ====
/- The output product and the norm of its sum: the kernel and the forward lines give the same two results. -/
module

public import proofs.«01_k».proof.Proof.Gen.OutIdeal.Value
public import proofs.«01_k».proof.Proof.Gen.Out.Frame
public import proofs.«01_k».proof.Proof.Gen.OutRefIdeal.Read
public import proofs.«01_k».proof.Proof.First

@[expose] public section

set_option maxRecDepth 16384

noncomputable section

namespace Cert.OutProof

open Cert.OutIdeal Cert.OutIdeal.Gen Idealize.ShloMosaic Idealize.ShloMosaic.TcCoe Idealize.SL.Sem Cert.NormGrad
open Idealize.ShloMosaic.Pipeline (Dat)
open Cert.Norm2Ref (cN cE)
open Cert.FirstProof (norm)

variable (m : (ℓ : Loc nD τ sig) → Buf (Elt Ideal) ℓ)

/-- The arguments. -/
abbrev Mm (c : Dev nD) : FVec Ideal S2048x1024 .f32 := m ((c : Thread nD τ).loc main_arg0)
abbrev Wm (c : Dev nD) : FVec Ideal S1024x1024 .f32 := m ((c : Thread nD τ).loc main_arg1)
abbrev Xm (c : Dev nD) : FVec Ideal S2048x1024 .f32 := m ((c : Thread nD τ).loc main_arg2)
abbrev wm (c : Dev nD) : FVec Ideal S1x1024 .f32 := m ((c : Thread nD τ).loc main_arg3)

section results
variable (M : FVec Ideal S2048x1024 .f32) (W : FVec Ideal S1024x1024 .f32) (X : FVec Ideal S2048x1024 .f32) (w : FVec Ideal S1x1024 .f32)
/-- One element of the sum of the product and the input. -/
def add (r : Fin 2048) (k : Fin 1024) : EReal :=
  @HAdd.hAdd EReal EReal EReal _ (∑ j : Fin 1024, @HMul.hMul EReal EReal EReal _ (M (ix2 r j)) (W (ix2 j k))) (X (ix2 r k))
/-- The two results: that sum, and its rows' norm. -/
def Y : FVec Ideal S2048x1024 .f32 := fun i => add M W X (i 0) (i 1)
def H : FVec Ideal S2048x1024 .bf16 := fun i => norm (add M W X (i 0)) (fun j => w (ix2 0 j)) (i 1)
end results

/-- The block each window holds at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem point_lt (t : Fin cfg0.N) : t.val < 2 := t.isLt

/-- The row of the whole array that a row of a grid point's block is. -/
abbrev row (t : Fin cfg0.N) (r : Fin 1024) : Fin 2048 := ⟨1024 * t.val + r.val, by have := point_lt t; omega⟩

theorem blk0 (c : Dev nD) (t : Fin cfg0.N) (r : Fin 1024) (k : Fin 1024) :
    iblk m c 0 t (ix2 r k) = Mm m c (ix2 (row t r) k) := by
  blk_point [iblk, V, idx t]
  all_goals exact (show _ = _ by omega)

/-- The weight, as the operation before the call leaves it. -/
theorem weight_at (c : Dev nD) (r k : Fin 1024) : V m c main_v0 (ix2 r k) = Wm m c (ix2 r k) := by
  have e : V m c main_v0 = truncf (F := Ideal) .bf16 (Wm m c) bitsLt_bf16_f32 := by rfl
  rw [e]
  rfl

theorem blk1 (c : Dev nD) (t : Fin cfg0.N) (r k : Fin 1024) : iblk m c 1 t (ix2 r k) = Wm m c (ix2 r k) := by
  refine Eq.trans ?_ (weight_at m c r k)
  blk_point [iblk, idx t]

theorem blk2 (c : Dev nD) (t : Fin cfg0.N) (r : Fin 1024) (k : Fin 1024) :
    iblk m c 2 t (ix2 r k) = Xm m c (ix2 (row t r) k) := by
  blk_point [iblk, V, idx t]
  all_goals exact (show _ = _ by omega)

theorem blk3 (c : Dev nD) (t : Fin cfg0.N) (k : Fin 1024) : iblk m c 3 t (ix2 0 k) = wm m c (ix2 0 k) := by
  blk_point [iblk, V, idx t]

section payloads
variable (a : FVec Ideal S1024x1024 .f32) (b : FVec Ideal S1024x1024 .bf16) (x : FVec Ideal S1024x1024 .f32) (w : FVec Ideal S1x1024 .f32) (r k : Fin 1024)
theorem pay1_at : k0_pay1 (F := Ideal) a b x (ix2 r k)
    = @HAdd.hAdd EReal EReal EReal _ (∑ j : Fin 1024, @HMul.hMul EReal EReal EReal _ (a (ix2 r j)) (b (ix2 j k))) (x (ix2 r k)) := by
  unfold k0_pay1
  pointwise
theorem pay2_at : k0_pay2 (F := Ideal) a b x w (ix2 r k) = norm (fun j => k0_pay1 (F := Ideal) a b x (ix2 r j)) (fun j => w (ix2 0 j)) k := by
  unfold k0_pay2
  pointwise
  rfl
end payloads

theorem point_y (c : Dev nD) (t : Fin cfg0.N) (r k : Fin 1024) :
    k0_pay1 (F := Ideal) (iblk m c 0 t) (iblk m c 1 t) (iblk m c 2 t) (ix2 r k) = add (Mm m c) (Wm m c) (Xm m c) (row t r) k := by
  refine (pay1_at _ _ _ r k).trans ?_
  simp only [blk0, blk1, blk2]
  rfl

theorem point_h (c : Dev nD) (t : Fin cfg0.N) (r k : Fin 1024) :
    k0_pay2 (F := Ideal) (iblk m c 0 t) (iblk m c 1 t) (iblk m c 2 t) (iblk m c 3 t) (ix2 r k) = H (Mm m c) (Wm m c) (Xm m c) (wm m c) (ix2 (row t r) k) := by
  refine (pay2_at _ _ _ _ r k).trans ?_
  simp only [point_y, blk3]
  rfl

theorem final_y (c : Dev nD) : (dats m 0 c).arrAt 4 cfg0.N = Y (Mm m c) (Wm m c) (Xm m c) := by
  refine (dats m 0 c).arrAt_eq_of_covers 4 _ (by decide +kernel) fun t hf y => ?_
  blk_simp
  rw [after0_4]
  have key : out0_4 (iblk m c 0 t) (iblk m c 1 t) (iblk m c 2 t) (iblk m c 3 t) y = Y (Mm m c) (Wm m c) (Xm m c) (((cfg0.win 4).blk t).view.emb y) := by
    idx_vars y
    refine Eq.trans ?_ ((point_y m c t y0 y1).trans ?_)
    · frame_out
    · show Y (Mm m c) (Wm m c) (Xm m c) (ix2 (row t y0) y1) = _
      congr 1
      blk_ext [idx t]
      all_goals exact (show _ = _ by omega)
  exact key

theorem final_h (c : Dev nD) : (dats m 0 c).arrAt 5 cfg0.N = H (Mm m c) (Wm m c) (Xm m c) (wm m c) := by
  refine (dats m 0 c).arrAt_eq_of_covers 5 _ (by decide +kernel) fun t hf y => ?_
  blk_simp
  rw [after0_5]
  have key : out0_5 (iblk m c 0 t) (iblk m c 1 t) (iblk m c 2 t) (iblk m c 3 t) y = H (Mm m c) (Wm m c) (Xm m c) (wm m c) (((cfg0.win 5).blk t).view.emb y) := by
    idx_vars y
    refine Eq.trans ?_ ((point_h m c t y0 y1).trans ?_)
    · frame_out
    · show H (Mm m c) (Wm m c) (Xm m c) (wm m c) (ix2 (row t y0) y1) = _
      congr 1
      blk_ext [idx t]
      all_goals exact (show _ = _ by omega)
  exact key

section reference
variable (M : FVec Ideal S2048x1024 .f32) (W : FVec Ideal S1024x1024 .f32) (X : FVec Ideal S2048x1024 .f32) (w : FVec Ideal S1x1024 .f32)

/-- The reference's two results. -/
theorem ref_y_at (r : Fin 2048) (k : Fin 1024) : OutRefIdeal.Read.val_main_v1 (F := Ideal) M W X (ix2 r k) = add M W X r k := by
  rw [← OutRefIdeal.Read.val_main_v1_eq (F := Ideal) M W X]
  pointwise
  exact add_comm (G := EReal) _ _

theorem ref_y : OutRefIdeal.Read.val_main_v1 (F := Ideal) M W X = Y M W X := by
  funext i
  obtain ⟨r, k, rfl⟩ : ∃ (r : Fin 2048) (k : Fin 1024), i = ix2 r k := ⟨i 0, i 1, by funext a; fin_cases a <;> rfl⟩
  exact ref_y_at M W X r k

/-- The norm of any sum's rows. -/
theorem ref_norm (y : FVec Ideal S2048x1024 .f32) (r : Fin 2048) (k : Fin 1024) :
    FirstRefIdeal.Read.val_main_v14 (F := Ideal) y w (ix2 r k) = norm (fun j => y (ix2 r j)) (fun j => w (ix2 0 j)) k :=
  congrFun (FirstProof.ref y w) (ix2 r k)

theorem ref_h : OutRefIdeal.Read.val_main_v16 (F := Ideal) M W X w = H M W X w := by
  funext i
  obtain ⟨r, k, rfl⟩ : ∃ (r : Fin 2048) (k : Fin 1024), i = ix2 r k := ⟨i 0, i 1, by funext a; fin_cases a <;> rfl⟩
  refine Eq.trans (b := FirstRefIdeal.Read.val_main_v14 (F := Ideal) (OutRefIdeal.Read.val_main_v1 (F := Ideal) M W X) w (ix2 r k)) rfl ?_
  refine (ref_norm w _ r k).trans ?_
  simp only [ref_y_at]
  rfl
end reference

theorem value : algebraic_OutIdeal_OutRefIdeal := by
  intro m g m' g' _ hm
  refine ⟨fun c => Y (Mm m c) (Wm m c) (Xm m c), fun c => H (Mm m c) (Wm m c) (Xm m c) (wm m c),
    (θ_run OutIdeal.defs _ _).mono (fun r h c => ⟨(h c).1.trans (final_y m c), (h c).2.1.trans (final_h m c), (h c).2.2⟩) (OutIdeal.Value.run_blocks m g),
    (θ_run OutRefIdeal.defs _ _).mono (fun r h c => ⟨(h c).1.trans ?_, (h c).2.1.trans ?_, (h c).2.2⟩) (OutRefIdeal.Value.run m' g')⟩
  · refine (OutRefIdeal.Read.val_main_v1_eq (F := Ideal) _ _ _).trans ?_
    rw [(hm c).1, (hm c).2.1, (hm c).2.2.1]
    exact ref_y _ _ _
  · refine (OutRefIdeal.Read.val_main_v16_eq (F := Ideal) _ _ _ _).trans ?_
    rw [(hm c).1, (hm c).2.1, (hm c).2.2.1, (hm c).2.2.2]
    exact ref_h _ _ _ _

/-- The reference ends with its arguments unchanged; it has no semaphore. -/
theorem ref_frame : quiescent_OutRefIdeal := fun m ρ _ =>
  (θ_run OutRefIdeal.defs _ _).mono (fun r h => ⟨fun c => (h c).2.2, Idealize.ShloMosaic.sem_eq_zero_of_no_sems (by decide) r.2⟩)
    (OutRefIdeal.Value.run m ρ)

end Cert.OutProof

end
-- ==== Proof.Gate.lean ====
/- The gated convolution: the kernel and the forward lines give the same result. -/
module

public import proofs.«01_k».proof.Defs
public import proofs.«01_k».proof.Proof.Gen.GateIdeal.Value
public import proofs.«01_k».proof.Proof.Gen.Gate.Frame
public import proofs.«01_k».proof.Proof.Gen.GateRefIdeal.Read
public import proofs.«01_k».proof.Proof.ActForm
public import Idealize.ShloMosaic.Lib.Pipeline.ReadBack
public import Idealize.ShloMosaic.Adequacy
public import Idealize.ShloMosaic.Init

@[expose] public section

set_option maxRecDepth 16384

noncomputable section

namespace Cert.GateProof

open Cert.GateIdeal Cert.GateIdeal.Gen Idealize.ShloMosaic Idealize.ShloMosaic.TcCoe Idealize.SL.Sem Cert.Rows Cert.ActForm
open Idealize.ShloMosaic.Pipeline (Dat)

/-- The result: the gate's convolution through the activation, times the other half's. -/
def H (X : FVec Ideal S2048x5632 .bf16) (W : FVec Ideal S3x5632 .f32) : FVec Ideal S2048x2816 .bf16 := fun i =>
  tap X W (i 0).val (lo (i 1)) * Ideal.logistic (tap X W (i 0).val (lo (i 1))) * tap X W (i 0).val (hi (i 1))

/-! ## The pieces the kernel's loop stores -/

/-- What a trip stores: the strip of columns `k`, from the tile, the rows before it and the taps of each half. -/
def strip (i : grid0.Coords) (g : FVec Ideal S256x1408 .bf16) (gp : FVec Ideal S16x1408 .bf16) (u : FVec Ideal S256x1408 .bf16)
    (up : FVec Ideal S16x1408 .bf16) (wg wu : FVec Ideal S3x1408 .f32) (k : Fin k0_t1_loop.trips) : FVec Ideal S256x128 .bf16 :=
  let gk : FVec Ideal S256x128 .bf16 := fun x => g ((Rect.unit (s := S256x1408) (k0_off2 k) S256x128.size (k0_off2_inb k)).emb x)
  let gpk : FVec Ideal S8x128 .bf16 := fun x => gp ((Rect.unit (s := S16x1408) (k0_off1 k) S8x128.size (k0_off1_inb k)).emb x)
  let uk : FVec Ideal S256x128 .bf16 := fun x => u ((Rect.unit (s := S256x1408) (k0_off2 k) S256x128.size (k0_off2_inb k)).emb x)
  let upk : FVec Ideal S8x128 .bf16 := fun x => up ((Rect.unit (s := S16x1408) (k0_off1 k) S8x128.size (k0_off1_inb k)).emb x)
  let wgk : FVec Ideal S3x128 .f32 := fun x => wg ((Rect.unit (s := S3x1408) (k0_off3 k) S3x128.size (k0_off3_inb k)).emb x)
  let wuk : FVec Ideal S3x128 .f32 := fun x => wu ((Rect.unit (s := S3x1408) (k0_off3 k) S3x128.size (k0_off3_inb k)).emb x)
  k0_pay2 (k0_pay3 (k0_pay1 i) gpk gk wgk) wuk (k0_pay5 (k0_pay1 i) upk uk) (k0_pay6 (k0_pay1 i) upk uk) (k0_pay7 (k0_pay1 i) upk uk wuk)

section pieces
variable (c : Dev nD) (i : grid0.Coords) (arg2 : Memref sig .tc .vmem S256x1408 .bf16) (harg2 : arg2.IsWhole) (arg3 : Memref sig .tc .vmem S16x1408 .bf16) (harg3 : arg3.IsWhole)
  (arg4 : Memref sig .tc .vmem S256x1408 .bf16) (harg4 : arg4.IsWhole) (arg5 : Memref sig .tc .vmem S16x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S256x1408 .bf16) (harg8 : arg8.IsWhole)
  (g : FVec Ideal S256x1408 .bf16) (gp : FVec Ideal S16x1408 .bf16) (u : FVec Ideal S256x1408 .bf16)
  (up : FVec Ideal S16x1408 .bf16) (wg wu : FVec Ideal S3x1408 .f32)

theorem trip_piece (k : Fin k0_t1_loop.trips) :
    tripL_k0_t1 (F := Ideal) Variants.none c none i arg2 harg2 arg3 harg3 arg4 harg4 arg5 harg5 arg6 harg6 arg7 harg7 arg8 harg8 (harg2.unread g) (harg3.unread gp) (harg4.unread u) (harg5.unread up) (harg6.unread wg) (harg7.unread wu) k
      = [⟨Rect.unit (s := S256x1408) (k0_off2 k) S256x128.size (k0_off2_inb k), strip i g gp u up wg wu k⟩] := by
  have e2 : arg2.view.read (Elt Ideal) (harg2.unread g) = g := harg2.read_unread _
  have e3 : arg3.view.read (Elt Ideal) (harg3.unread gp) = gp := harg3.read_unread _
  have e4 : arg4.view.read (Elt Ideal) (harg4.unread u) = u := harg4.read_unread _
  have e5 : arg5.view.read (Elt Ideal) (harg5.unread up) = up := harg5.read_unread _
  have e6 : arg6.view.read (Elt Ideal) (harg6.unread wg) = wg := harg6.read_unread _
  have e7 : arg7.view.read (Elt Ideal) (harg7.unread wu) = wu := harg7.read_unread _
  unfold tripL_k0_t1 trip_k0_t1
  dsimp only
  unfold trip_k0_t1.sl.r trip_k0_t1.sl.r_1 trip_k0_t1.sl.r_2 trip_k0_t1.sl.r_3 trip_k0_t1.sl.r_4
  simp only [View.readAt_eq_ld]
  rw [e2, e3, e4, e5, e6, e7]
  rfl

theorem pieces (G : S256x1408.Idx → EReal)
    (hG : ∀ (k : Fin k0_t1_loop.trips) (x : S256x128.Idx), strip i g gp u up wg wu k x = G ((Rect.unit (s := S256x1408) (k0_off2 k) S256x128.size (k0_off2_inb k)).emb x)) :
    ∀ n ≤ k0_t1_loop.trips, ∀ p ∈ pb_k0_t1 (F := Ideal) Variants.none c none i arg2 harg2 arg3 harg3 arg4 harg4 arg5 harg5 arg6 harg6 arg7 harg7 arg8 harg8 (harg2.unread g) (harg3.unread gp) (harg4.unread u) (harg5.unread up) (harg6.unread wg) (harg7.unread wu) n,
      ∀ x : p.1.shape.Idx, p.2 x = G (p.1.emb x) := by
  intro n
  induction n with
  | zero => intro _ p hp; exact absurd hp List.not_mem_nil
  | succ n ih =>
    intro hn p hp
    rw [pb_k0_t1_succ (F := Ideal) Variants.none c none i arg2 harg2 arg3 harg3 arg4 harg4 arg5 harg5 arg6 harg6 arg7 harg7 arg8 harg8 _ _ _ _ _ _ ⟨n, hn⟩] at hp
    rcases List.mem_append.mp hp with hp | hp
    · rw [trip_piece c i arg2 harg2 arg3 harg3 arg4 harg4 arg5 harg5 arg6 harg6 arg7 harg7 arg8 harg8 g gp u up wg wu ⟨n, hn⟩] at hp
      obtain rfl := List.mem_singleton.mp hp
      exact hG ⟨n, hn⟩
    · exact ih (by omega) p hp

theorem out_at (G : S256x1408.Idx → EReal)
    (hG : ∀ (k : Fin k0_t1_loop.trips) (x : S256x128.Idx), strip i g gp u up wg wu k x = G ((Rect.unit (s := S256x1408) (k0_off2 k) S256x128.size (k0_off2_inb k)).emb x))
    (y : S256x1408.Idx) : out0_A_6 (F := Ideal) c i arg2 harg2 arg3 harg3 arg4 harg4 arg5 harg5 arg6 harg6 arg7 harg7 arg8 harg8 g gp u up wg wu y = G y := by
  unfold out0_A_6
  rw [View.read_writes_eq_canon _ _ _ (cover0_A_6 (F := Ideal) c i arg2 harg2 arg3 harg3 arg4 harg4 arg5 harg5 arg6 harg6 arg7 harg7 arg8 harg8 g gp u up wg wu)]
  refine View.canon_apply_of_pieces G _ ?_ y (cover0_A_6 (F := Ideal) c i arg2 harg2 arg3 harg3 arg4 harg4 arg5 harg5 arg6 harg6 arg7 harg7 arg8 harg8 g gp u up wg wu y)
  exact pieces c i arg2 harg2 arg3 harg3 arg4 harg4 arg5 harg5 arg6 harg6 arg7 harg7 arg8 harg8 g gp u up wg wu G hG _ le_rfl
end pieces

/-! ## A strip read at an index -/

theorem pay4_at (a : EReal) (xp : FVec Ideal S8x128 .bf16) (x : FVec Ideal S256x128 .bf16) (n : Fin 264) (c : Fin 128) :
    k0_pay4 (F := Ideal) a xp x (ix2 n c) = if h : n.val < 8 then xp (ix2 ⟨n.val, h⟩ c) * a else x (ix2 ⟨n.val - 8, by omega⟩ c) := by
  pointwise [k0_pay4]

/-- The rows a tap reads in the tile and the eight rows before it. -/
theorem row_six (r : Fin 256) (h : (8 + r.val + 264 - 2) % 264 < 264) : (⟨(8 + r.val + 264 - 2) % 264, h⟩ : Fin 264) = ⟨r.val + 6, by omega⟩ :=
  Fin.ext (by show (8 + r.val + 264 - 2) % 264 = r.val + 6; omega)

theorem row_seven (r : Fin 256) (h : (8 + r.val + 264 - 1) % 264 < 264) : (⟨(8 + r.val + 264 - 1) % 264, h⟩ : Fin 264) = ⟨r.val + 7, by omega⟩ :=
  Fin.ext (by show (8 + r.val + 264 - 1) % 264 = r.val + 7; omega)

theorem row_eight (r : Fin 256) (h : 8 + r.val < 264) : (⟨8 + r.val, h⟩ : Fin 264) = ⟨r.val + 8, by omega⟩ :=
  Fin.ext (by show 8 + r.val = r.val + 8; omega)

/-- The gate's convolution, from the tile and the rows before it. -/
theorem pay3_eq (a : EReal) (xp : FVec Ideal S8x128 .bf16) (x : FVec Ideal S256x128 .bf16) (w : FVec Ideal S3x128 .f32) (r : Fin 256) (c : Fin 128) :
    k0_pay3 (F := Ideal) a xp x w (ix2 r c)
      = k0_pay4 (F := Ideal) a xp x (ix2 ⟨r.val + 6, by omega⟩ c) * w (ix2 0 c) + k0_pay4 (F := Ideal) a xp x (ix2 ⟨r.val + 7, by omega⟩ c) * w (ix2 1 c)
        + k0_pay4 (F := Ideal) a xp x (ix2 ⟨r.val + 8, by omega⟩ c) * w (ix2 2 c) := by
  have e : concatenate S264x128 0 [⟨S8x128, mulf (extf (F := Ideal) .f32 xp bitsLt_bf16_f32) (broadcast S8x128 a)⟩, ⟨S256x128, extf .f32 x bitsLt_bf16_f32⟩] concatenates_S8x128_S256x128_S264x128_d0 = k0_pay4 (F := Ideal) a xp x := rfl
  unfold k0_pay3
  dsimp only
  rw [e]
  generalize k0_pay4 (F := Ideal) a xp x = T
  pointwise
  rw [row_six, row_seven, row_eight]

theorem pay2_eq (v : FVec Ideal S256x128 .f32) (a : EReal) (xp : FVec Ideal S8x128 .bf16) (x : FVec Ideal S256x128 .bf16) (w : FVec Ideal S3x128 .f32) (r : Fin 256) (c : Fin 128) :
    k0_pay2 (F := Ideal) v w (k0_pay5 a xp x) (k0_pay6 a xp x) (k0_pay7 a xp x w) (ix2 r c)
      = v (ix2 r c) * Ideal.logistic (v (ix2 r c)) *
      (k0_pay4 (F := Ideal) a xp x (ix2 ⟨r.val + 6, by omega⟩ c) * w (ix2 0 c) + k0_pay4 (F := Ideal) a xp x (ix2 ⟨r.val + 7, by omega⟩ c) * w (ix2 1 c)
        + k0_pay4 (F := Ideal) a xp x (ix2 ⟨r.val + 8, by omega⟩ c) * w (ix2 2 c)) := by
  unfold k0_pay5 k0_pay6 k0_pay7
  generalize k0_pay4 (F := Ideal) a xp x = T
  pointwise [k0_pay2]
  rw [row_six, row_seven, row_eight]

/-! ## The kernel's result -/

section
variable (i : grid0.Coords) (p : ℕ) (hp : p < 8) (hi' : (i 1).val = p)
include hp hi'

/-- The factor of the rows before the tile. -/
theorem keep_p : k0_pay1 (F := Ideal) i = if 0 < p then 1 else 0 := by
  have h1 : FloatOps.ofBits (F := Ideal) .f32 0x3F800000#32 = (1 : EReal) := by
    show Ideal.ofBits .f32 _ = _
    simp [Ideal.ofBits, Ideal.ieee, -EReal.coe_mul, -EReal.coe_neg]
    norm_num
  have h0 : FloatOps.ofBits (F := Ideal) .f32 0x00000000#32 = (0 : EReal) := by
    show Ideal.ofBits .f32 _ = _
    simp [Ideal.ofBits, Ideal.ieee, -EReal.coe_mul, -EReal.coe_neg]
  unfold k0_pay1
  dsimp only
  rw [hi']
  split
  · rw [show Scalar.cmpi CmpIPredicate.eq (BitVec.ofNat 32 p) 0#32 = 0#1 by interval_cases p <;> first | omega | rfl]
    exact h1
  · obtain rfl : p = 0 := by omega
    exact h0

/-- The tile with the eight rows before it. -/
theorem ext_at (x : FVec Ideal S256x128 .bf16) (xp : FVec Ideal S8x128 .bf16) (X : FVec Ideal S2048x5632 .bf16) (c : Fin 128) (e : Fin 5632)
    (hx : ∀ r : Fin 256, x (ix2 r c) = X (ix2 ⟨256 * p + r.val, by omega⟩ e))
    (hxp : ∀ _ : 0 < p, ∀ r : Fin 8, xp (ix2 r c) = X (ix2 ⟨256 * p - 8 + r.val, by omega⟩ e))
    (r : Fin 256) (b n : ℕ) (h : n < 264) (hn : n + b = r.val + 8) (hb : b ≤ 2) :
    k0_pay4 (F := Ideal) (k0_pay1 i) xp x (ix2 ⟨n, h⟩ c) = back X (256 * p + r.val) b e := by
  rw [keep_p i p hp hi', pay4_at]
  unfold back
  split
  · rename_i h8
    have h8' : n < 8 := h8
    by_cases q : 0 < p
    · rw [if_pos q, mul_one, hxp q, if_pos (by omega), row_of_lt (h := show 256 * p + r.val - b < 2048 by omega)]
      refine congrArg (fun i => X (ix2 i e)) (Fin.ext ?_)
      show 256 * p - 8 + n = 256 * p + r.val - b
      omega
    · rw [if_neg q, mul_zero, if_neg (by omega)]
  · rename_i h8
    have h8' : ¬ n < 8 := h8
    rw [hx, if_pos (by omega), row_of_lt (h := show 256 * p + r.val - b < 2048 by omega)]
    refine congrArg (fun i => X (ix2 i e)) (Fin.ext ?_)
    show 256 * p + (n - 8) = 256 * p + r.val - b
    omega
end

variable (m : (ℓ : Loc nD τ sig) → Buf (Elt Ideal) ℓ)

/-- The input and the taps of a device. -/
abbrev Xm (c : Dev nD) : FVec Ideal S2048x5632 .bf16 := m ((c : Thread nD τ).loc main_arg0)
abbrev Wm (c : Dev nD) : FVec Ideal S3x5632 .f32 := m ((c : Thread nD τ).loc main_arg1)

/-- The block each window holds at a grid point. -/
theorem idx : ∀ t : Fin cfg0.N, win0_0.index t = ![t.val % 8, t.val / 8]
    ∧ win0_1.index t = ![(t.val % 8) * 16 - 1, t.val / 8]
    ∧ win0_2.index t = ![t.val % 8, t.val / 8 + 2]
    ∧ win0_3.index t = ![(t.val % 8) * 16 - 1, t.val / 8 + 2]
    ∧ win0_4.index t = ![0, t.val / 8]
    ∧ win0_5.index t = ![0, t.val / 8 + 2]
    ∧ win0_6.index t = ![t.val % 8, t.val / 8] :=
  (by decide +kernel : ∀ t : Fin grid0.N, _)

/-- The grid's second coordinate. -/
theorem coord : ∀ t : Fin cfg0.N, (grid0.coords t 1).val = t.val % 8 :=
  (by decide +kernel : ∀ t : Fin grid0.N, _)

theorem point_lt (t : Fin cfg0.N) : t.val < 16 := t.isLt

/-- The columns of a grid point's block. -/
def col (t : Fin cfg0.N) (q : Fin 1408) : Fin 2816 := ⟨1408 * (t.val / 8) + q.val, by have := point_lt t; omega⟩

theorem blk0 (c : Dev nD) (t : Fin cfg0.N) (r : Fin 256) (q : Fin 1408) :
    iblk m c 0 t (ix2 r q) = Xm m c (ix2 ⟨256 * (t.val % 8) + r.val, by omega⟩ (lo (col t q))) := by
  blk_point [iblk, V, idx t]
  all_goals exact (show _ = 1408 * (t.val / 8) + q.val by omega)

theorem blk1 (c : Dev nD) (t : Fin cfg0.N) (h : 0 < t.val % 8) (r : Fin 16) (q : Fin 1408) :
    iblk m c 1 t (ix2 r q) = Xm m c (ix2 ⟨256 * (t.val % 8) - 16 + r.val, by omega⟩ (lo (col t q))) := by
  blk_point [iblk, V, idx t]
  all_goals exact (show _ = 1408 * (t.val / 8) + q.val by omega)

theorem blk2 (c : Dev nD) (t : Fin cfg0.N) (r : Fin 256) (q : Fin 1408) :
    iblk m c 2 t (ix2 r q) = Xm m c (ix2 ⟨256 * (t.val % 8) + r.val, by omega⟩ (hi (col t q))) := by
  blk_point [iblk, V, idx t]
  all_goals exact (show _ = 2816 + (1408 * (t.val / 8) + q.val) by omega)

theorem blk3 (c : Dev nD) (t : Fin cfg0.N) (h : 0 < t.val % 8) (r : Fin 16) (q : Fin 1408) :
    iblk m c 3 t (ix2 r q) = Xm m c (ix2 ⟨256 * (t.val % 8) - 16 + r.val, by omega⟩ (hi (col t q))) := by
  blk_point [iblk, V, idx t]
  all_goals exact (show _ = 2816 + (1408 * (t.val / 8) + q.val) by omega)

theorem blk4 (c : Dev nD) (t : Fin cfg0.N) (k : Fin 3) (q : Fin 1408) :
    iblk m c 4 t (ix2 k q) = Wm m c (ix2 k (lo (col t q))) := by
  blk_point [iblk, V, idx t]
  all_goals exact (show _ = 1408 * (t.val / 8) + q.val by omega)

theorem blk5 (c : Dev nD) (t : Fin cfg0.N) (k : Fin 3) (q : Fin 1408) :
    iblk m c 5 t (ix2 k q) = Wm m c (ix2 k (hi (col t q))) := by
  blk_point [iblk, V, idx t]
  all_goals exact (show _ = 2816 + (1408 * (t.val / 8) + q.val) by omega)

theorem trips_eq : k0_t1_loop.trips = 11 := by decide

/-- The columns of a strip of a grid point's block. -/
def scol (k : Fin k0_t1_loop.trips) (c : Fin 128) : Fin 1408 :=
  ⟨128 * k.val + c.val, by have h := k.isLt; have h2 : k.val < 11 := by rw [← trips_eq]; exact h
                           omega⟩

/-- Where a strip's element lies in its block. -/
theorem emb_at {R n : ℕ} (off : Fin 2 → ℕ) (o : ℕ) (k : Fin k0_t1_loop.trips) (ho : off = ![o, 128 * k.val])
    (inb : ∀ a, off a + (![n, 128] : Fin 2 → ℕ) a ≤ (⟨2, ![R, 1408]⟩ : Shape).size a) (hR : o + n ≤ R) (r : Fin n) (c : Fin 128) :
    (Rect.unit (s := (⟨2, ![R, 1408]⟩ : Shape)) off ![n, 128] inb).emb (ix2 r c) = ix2 ⟨o + r.val, by omega⟩ (scol k c) := by
  subst ho
  funext x
  apply Fin.ext
  fin_cases x
  · show o + 1 * r.val = o + r.val; omega
  · show 128 * k.val + 1 * c.val = 128 * k.val + c.val; omega

/-- The block of the result at a grid point. -/
def B (c : Dev nD) (t : Fin cfg0.N) (y : S256x1408.Idx) : EReal :=
  H (Xm m c) (Wm m c) (ix2 ⟨256 * (t.val % 8) + (y 0).val, by have h : (y 0).val < 256 := (y 0).isLt
                                                              omega⟩ (col t (y 1)))

theorem strip_at (c : Dev nD) (t : Fin cfg0.N) (k : Fin k0_t1_loop.trips) (r : Fin 256) (q : Fin 128) :
    strip (grid0.coords t) (iblk m c 0 t) (iblk m c 1 t) (iblk m c 2 t) (iblk m c 3 t) (iblk m c 4 t) (iblk m c 5 t) k (ix2 r q)
      = B m c t (ix2 r (scol k q)) := by
  unfold strip
  dsimp only
  rw [pay2_eq, pay3_eq]
  have hg := fun b n h hn hb => ext_at (grid0.coords t) (t.val % 8) (by omega) (coord t)
    (fun x => iblk m c 0 t ((Rect.unit (s := S256x1408) (k0_off2 k) S256x128.size (k0_off2_inb k)).emb x))
    (fun x => iblk m c 1 t ((Rect.unit (s := S16x1408) (k0_off1 k) S8x128.size (k0_off1_inb k)).emb x)) (Xm m c) q (lo (col t (scol k q)))
    (fun r => by
      show iblk m c 0 t _ = _
      rw [emb_at _ 0 k (k0_off2_eq k) _ (by omega), blk0]
      simp only [Nat.zero_add])
    (fun h r => by
      show iblk m c 1 t _ = _
      rw [emb_at _ 8 k (k0_off1_eq k) _ (by omega), blk1 m c t h]
      refine congrArg (fun i => Xm m c (ix2 i _)) (Fin.ext ?_)
      show 256 * (t.val % 8) - 16 + (8 + r.val) = 256 * (t.val % 8) - 8 + r.val
      omega) r b n h hn hb
  have hu := fun b n h hn hb => ext_at (grid0.coords t) (t.val % 8) (by omega) (coord t)
    (fun x => iblk m c 2 t ((Rect.unit (s := S256x1408) (k0_off2 k) S256x128.size (k0_off2_inb k)).emb x))
    (fun x => iblk m c 3 t ((Rect.unit (s := S16x1408) (k0_off1 k) S8x128.size (k0_off1_inb k)).emb x)) (Xm m c) q (hi (col t (scol k q)))
    (fun r => by
      show iblk m c 2 t _ = _
      rw [emb_at _ 0 k (k0_off2_eq k) _ (by omega), blk2]
      simp only [Nat.zero_add])
    (fun h r => by
      show iblk m c 3 t _ = _
      rw [emb_at _ 8 k (k0_off1_eq k) _ (by omega), blk3 m c t h]
      refine congrArg (fun i => Xm m c (ix2 i _)) (Fin.ext ?_)
      show 256 * (t.val % 8) - 16 + (8 + r.val) = 256 * (t.val % 8) - 8 + r.val
      omega) r b n h hn hb
  have hwg : ∀ a : Fin 3, iblk m c 4 t ((Rect.unit (s := S3x1408) (k0_off3 k) S3x128.size (k0_off3_inb k)).emb (ix2 a q))
      = Wm m c (ix2 a (lo (col t (scol k q)))) := fun a => by
    rw [emb_at _ 0 k (k0_off3_eq k) _ (by omega), blk4]
    simp only [Nat.zero_add]
  have hwu : ∀ a : Fin 3, iblk m c 5 t ((Rect.unit (s := S3x1408) (k0_off3 k) S3x128.size (k0_off3_inb k)).emb (ix2 a q))
      = Wm m c (ix2 a (hi (col t (scol k q)))) := fun a => by
    rw [emb_at _ 0 k (k0_off3_eq k) _ (by omega), blk5]
    simp only [Nat.zero_add]
  rw [hg 2 (r.val + 6) _ (by omega) (by omega), hg 1 (r.val + 7) _ (by omega) (by omega), hg 0 (r.val + 8) _ (by omega) (by omega),
    hu 2 (r.val + 6) _ (by omega) (by omega), hu 1 (r.val + 7) _ (by omega) (by omega), hu 0 (r.val + 8) _ (by omega) (by omega),
    hwg, hwg, hwg, hwu, hwu, hwu]
  rfl

theorem final (c : Dev nD) : (dats m 0 c).arrAt 6 cfg0.N = H (Xm m c) (Wm m c) := by
  refine (dats m 0 c).arrAt_eq_of_covers 6 _ (by decide +kernel) fun t hf y => ?_
  blk_simp
  rw [after0_6]
  have key : outsAt0 m c t y = H (Xm m c) (Wm m c) (((cfg0.win 6).blk t).view.emb y) := by
    refine (out_at c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t) (iblk m c 5 t)
      (B m c t) (fun k x => ?_) y).trans ?_
    · obtain ⟨r, q, rfl⟩ : ∃ (r : Fin 256) (q : Fin 128), x = ix2 r q := ⟨x 0, x 1, by funext a; fin_cases a <;> rfl⟩
      rw [strip_at]
      refine congrArg (B m c t) ?_
      rw [emb_at _ 0 k (k0_off2_eq k) _ (by omega)]
      simp only [Nat.zero_add]
    · idx_vars y
      show H (Xm m c) (Wm m c) (ix2 ⟨256 * (t.val % 8) + y0.val, by omega⟩ (col t y1)) = _
      congr 1
      blk_ext [idx t]
      all_goals exact (show 1408 * (t.val / 8) + y1.val = _ by omega)
  exact key

/-! ## The reference -/

theorem conv_at (X : FVec Ideal S2048x5632 .bf16) (W : FVec Ideal S3x5632 .f32) (r : Fin 2048) (c : Fin 5632) :
    GateRefIdeal.Read.val_main_v23 (F := Ideal) X W (ix3 0 r c) = tap X W r c := by
  open GateRefIdeal.Read in
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst]
  have g : ∀ (b n : ℕ) (hb : b ≤ 2) (hn : n = 2 - b + r.val),
      (if h : n < 2 then 0 else X (ix2 ⟨n - 2, by omega⟩ c)) = back X r b c := by
    intro b n hb hn
    subst hn
    unfold back
    split
    · rw [if_neg (by omega)]
    · rw [if_pos (by omega), row_of_lt (h := by omega)]
      congr 2
      exact Fin.ext (by show 2 - b + r.val - 2 = r.val - b; omega)
  have g0 : X (ix2 r c) = back X r 0 c := by
    unfold back
    rw [if_pos (by omega), row_of_lt (h := by omega)]
    rfl
  unfold tap
  rw [← g 2 r.val (by omega) (by omega), ← g 1 (1 + r.val) (by omega) (by omega), ← g0]

/-- The reference's result. -/
theorem ref (X : FVec Ideal S2048x5632 .bf16) (W : FVec Ideal S3x5632 .f32) :
    GateRefIdeal.Read.val_main_v29 (F := Ideal) X W = H X W := by
  funext i
  obtain ⟨r, k, rfl⟩ : ∃ (r : Fin 2048) (k : Fin 2816), i = ix2 r k := ⟨i 0, i 1, by funext a; fin_cases a <;> rfl⟩
  open GateRefIdeal.Read in
  pointwise [val_main_v29, val_main_v28, val_main_v27, val_main_v26, val_main_v25, val_main_v24, val_main_call0_v0, val_main_call0_v1, val_main_call0_v2,
    val_main_call0_v3, val_main_call0_v4, val_main_call0_v5, val_main_call0_cst, val_main_call0_cst_0, conv_at]
  rfl

theorem value : algebraic_GateIdeal_GateRefIdeal := by
  intro m g m' g' _ hm
  refine ⟨fun c => H (Xm m c) (Wm m c),
    (θ_run GateIdeal.defs _ _).mono (fun r h c => ⟨(h c).1.trans (final m c), (h c).2⟩) (GateIdeal.Value.run_blocks m g),
    (θ_run GateRefIdeal.defs _ _).mono (fun r h c => ⟨(h c).1.trans ?_, (h c).2⟩) (GateRefIdeal.Value.run m' g')⟩
  refine (GateRefIdeal.Read.val_main_v29_eq (F := Ideal) _ _).trans ?_
  rw [(hm c).1, (hm c).2]
  exact ref _ _

/-- The reference ends with its arguments unchanged; it has no semaphore. -/
theorem ref_frame : quiescent_GateRefIdeal := fun m ρ _ =>
  (θ_run GateRefIdeal.defs _ _).mono (fun r h => ⟨fun c => (h c).2, Idealize.ShloMosaic.sem_eq_zero_of_no_sems (by decide) r.2⟩)
    (GateRefIdeal.Value.run m ρ)

end Cert.GateProof

end
-- ==== Proof.Products.lean ====
/- The plain products: each kernel and its line of the step, or the derivative of that line, give the same result. -/
module

public import proofs.«01_k».proof.Defs
public import proofs.«01_k».proof.Proof.Gen.DownXIdeal.Value
public import proofs.«01_k».proof.Proof.Gen.DownX.Frame
public import proofs.«01_k».proof.Proof.Gen.DownXRefIdeal.Read
public import proofs.«01_k».proof.Proof.Gen.DownWIdeal.Value
public import proofs.«01_k».proof.Proof.Gen.DownW.Frame
public import proofs.«01_k».proof.Proof.Gen.DownWRefIdeal.Read
public import proofs.«01_k».proof.Proof.Gen.OutXIdeal.Value
public import proofs.«01_k».proof.Proof.Gen.OutX.Frame
public import proofs.«01_k».proof.Proof.Gen.OutXRefIdeal.Read
public import proofs.«01_k».proof.Proof.Gen.OutWIdeal.Value
public import proofs.«01_k».proof.Proof.Gen.OutW.Frame
public import proofs.«01_k».proof.Proof.Gen.OutWRefIdeal.Read
public import proofs.«01_k».proof.Proof.Gen.ProjIdeal.Value
public import proofs.«01_k».proof.Proof.Gen.Proj.Frame
public import proofs.«01_k».proof.Proof.Gen.ProjRefIdeal.Read
public import proofs.«01_k».proof.Proof.Gen.ProjWIdeal.Value
public import proofs.«01_k».proof.Proof.Gen.ProjW.Frame
public import proofs.«01_k».proof.Proof.Gen.ProjWRefIdeal.Read
public import proofs.«01_k».proof.Proof.Gen.UpIdeal.Value
public import proofs.«01_k».proof.Proof.Gen.Up.Frame
public import proofs.«01_k».proof.Proof.Gen.UpRefIdeal.Read
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

/-- The product of two numbers. -/
abbrev Cert.mul (a b : EReal) : EReal := a * b

/-! The gradient of the down product at its input: the kernel and the derivative of the forward line give the same result. -/

namespace Cert.DownXProof

open Cert.DownXIdeal DownXIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x1024 .bf16 := m ((c : Thread nD τ).loc main_arg0)
abbrev Bm (c : Dev nD) : FVec Ideal S2816x1024 .f32 := m ((c : Thread nD τ).loc main_arg1)

/-- The product. -/
def H (A : FVec Ideal S2048x1024 .bf16) (B : FVec Ideal S2816x1024 .f32) : FVec Ideal S2048x2816 .f32 := fun i =>
  ∑ j : Fin 1024, mul (A (ix2 (i 0) j)) (B (ix2 (i 1) j))

/-- The block each window holds at a grid point. -/
theorem idx : ∀ t : Fin cfg0.N, win0_0.index t = ![t.val % 2, 0] ∧ win0_1.index t = ![t.val / 2, 0] ∧ win0_2.index t = ![t.val % 2, t.val / 2] :=
  (by decide +kernel : ∀ t : Fin grid0.N, _)

theorem point_lt (t : Fin cfg0.N) : t.val < 4 := t.isLt

/-- The row and the column of the result that those of a grid point's block are. -/
abbrev row (t : Fin cfg0.N) (r : Fin 1024) : Fin 2048 := ⟨1024 * (t.val % 2) + r.val, by have := point_lt t; omega⟩
abbrev col (t : Fin cfg0.N) (k : Fin 1408) : Fin 2816 := ⟨1408 * (t.val / 2) + k.val, by have := point_lt t; omega⟩

theorem blk0 (c : Dev nD) (t : Fin cfg0.N) (r : Fin 1024) (j : Fin 1024) :
    iblk m c 0 t (ix2 r j) = Am m c (ix2 (row t r) j) := by
  blk_point [iblk, V, idx t]
  all_goals exact (show _ = _ by omega)

/-- The weight, as the operation before the call leaves it. -/
theorem weight_at (c : Dev nD) (k : Fin 2816) (j : Fin 1024) : V m c main_v0 (ix2 k j) = Bm m c (ix2 k j) := by
  have e : V m c main_v0 = truncf (F := Ideal) .bf16 (Bm m c) bitsLt_bf16_f32 := by rfl
  rw [e]
  rfl

theorem blk1 (c : Dev nD) (t : Fin cfg0.N) (k : Fin 1408) (j : Fin 1024) : iblk m c 1 t (ix2 k j) = Bm m c (ix2 (col t k) j) := by
  refine Eq.trans ?_ (weight_at m c (col t k) j)
  blk_point [iblk, idx t]
  all_goals exact (show _ = _ by omega)

theorem pay_at (a : FVec Ideal S1024x1024 .bf16) (b : FVec Ideal S1408x1024 .bf16) (r : Fin 1024) (k : Fin 1408) :
    k0_pay1 (F := Ideal) a b (ix2 r k) = ∑ j : Fin 1024, mul (a (ix2 r j)) (b (ix2 k j)) := by
  unfold k0_pay1
  pointwise

theorem point (c : Dev nD) (t : Fin cfg0.N) (r : Fin 1024) (k : Fin 1408) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 1024 * (t.val % 2) + y0.val = _ by omega)
      | exact (show 1408 * (t.val / 2) + y1.val = _ by omega)

/-- The reference's result. -/
theorem ref (A : FVec Ideal S2048x1024 .bf16) (B : FVec Ideal S2816x1024 .f32) :
    DownXRefIdeal.Read.val_main_v1 (F := Ideal) A B = H A B := by
  funext i
  idx_vars i
  rw [← DownXRefIdeal.Read.val_main_v1_eq (F := Ideal) A B]
  pointwise
  rfl

theorem value : algebraic_DownXIdeal_DownXRefIdeal := by
  intro m g m' g' _ hm
  refine ⟨fun c => H (Am m c) (Bm m c),
    (θ_run DownXIdeal.defs _ _).mono (fun r h c => ⟨(h c).1.trans (final m c), (h c).2⟩) (DownXIdeal.Value.run_blocks m g),
    (θ_run DownXRefIdeal.defs _ _).mono (fun r h c => ⟨(h c).1.trans ?_, (h c).2⟩) (DownXRefIdeal.Value.run m' g')⟩
  refine (DownXRefIdeal.Read.val_main_v1_eq (F := Ideal) _ _).trans ?_
  rw [(hm c).1, (hm c).2]
  exact ref _ _

/-- The reference ends with its arguments unchanged; it has no semaphore. -/
theorem ref_frame : quiescent_DownXRefIdeal := fun m ρ _ =>
  (θ_run DownXRefIdeal.defs _ _).mono (fun r h => ⟨fun c => (h c).2, sem_eq_zero_of_no_sems (by decide) r.2⟩)
    (DownXRefIdeal.Value.run m ρ)

end Cert.DownXProof

/-! The gradient of the down product at its weight: the kernel and the derivative of the forward line give the same result. -/

namespace Cert.DownWProof

open Cert.DownWIdeal DownWIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x2816 .bf16 := m ((c : Thread nD τ).loc main_arg0)
abbrev Bm (c : Dev nD) : FVec Ideal S2048x1024 .bf16 := m ((c : Thread nD τ).loc main_arg1)

/-- The product. -/
def H (A : FVec Ideal S2048x2816 .bf16) (B : FVec Ideal S2048x1024 .bf16) : FVec Ideal S2816x1024 .f32 := fun i =>
  ∑ j : Fin 2048, mul (A (ix2 j (i 0))) (B (ix2 j (i 1)))

/-- The block each window holds at a grid point. -/
theorem idx : ∀ t : Fin cfg0.N, win0_0.index t = ![0, t.val] ∧ win0_1.index t = ![0, 0] ∧ win0_2.index t = ![t.val, 0] :=
  (by decide +kernel : ∀ t : Fin grid0.N, _)

theorem point_lt (t : Fin cfg0.N) : t.val < 11 := t.isLt

/-- The row and the column of the result that those of a grid point's block are. -/
abbrev row (t : Fin cfg0.N) (r : Fin 256) : Fin 2816 := ⟨256 * t.val + r.val, by have := point_lt t; omega⟩
abbrev col (t : Fin cfg0.N) (k : Fin 1024) : Fin 1024 := ⟨1024 * 0 + k.val, by have := point_lt t; omega⟩

theorem blk0 (c : Dev nD) (t : Fin cfg0.N) (r : Fin 256) (j : Fin 2048) :
    iblk m c 0 t (ix2 j r) = Am m c (ix2 j (row t r)) := by
  blk_point [iblk, V, idx t]
  all_goals exact (show _ = _ by omega)

theorem blk1 (c : Dev nD) (t : Fin cfg0.N) (k : Fin 1024) (j : Fin 2048) : iblk m c 1 t (ix2 j k) = Bm m c (ix2 j (col t k)) := by
  blk_point [iblk, V, idx t]
  all_goals exact (show _ = _ by omega)

theorem pay_at (a : FVec Ideal S2048x256 .bf16) (b : FVec Ideal S2048x1024 .bf16) (r : Fin 256) (k : Fin 1024) :
    k0_pay1 (F := Ideal) a b (ix2 r k) = ∑ j : Fin 2048, mul (a (ix2 j r)) (b (ix2 j k)) := by
  unfold k0_pay1
  pointwise

theorem point (c : Dev nD) (t : Fin cfg0.N) (r : Fin 256) (k : Fin 1024) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 256 * t.val + y0.val = _ by omega)
      | exact (show 1024 * 0 + y1.val = _ by omega)

/-- The reference's result. -/
theorem ref (A : FVec Ideal S2048x2816 .bf16) (B : FVec Ideal S2048x1024 .bf16) :
    DownWRefIdeal.Read.val_main_v3 (F := Ideal) A B = H A B := by
  funext i
  idx_vars i
  rw [← DownWRefIdeal.Read.val_main_v3_eq (F := Ideal) A B]
  pointwise
  exact Finset.sum_congr rfl fun _ _ => mul_comm (G := EReal) _ _

theorem value : algebraic_DownWIdeal_DownWRefIdeal := by
  intro m g m' g' _ hm
  refine ⟨fun c => H (Am m c) (Bm m c),
    (θ_run DownWIdeal.defs _ _).mono (fun r h c => ⟨(h c).1.trans (final m c), (h c).2⟩) (DownWIdeal.Value.run_blocks m g),
    (θ_run DownWRefIdeal.defs _ _).mono (fun r h c => ⟨(h c).1.trans ?_, (h c).2⟩) (DownWRefIdeal.Value.run m' g')⟩
  refine (DownWRefIdeal.Read.val_main_v3_eq (F := Ideal) _ _).trans ?_
  rw [(hm c).1, (hm c).2]
  exact ref _ _

/-- The reference ends with its arguments unchanged; it has no semaphore. -/
theorem ref_frame : quiescent_DownWRefIdeal := fun m ρ _ =>
  (θ_run DownWRefIdeal.defs _ _).mono (fun r h => ⟨fun c => (h c).2, sem_eq_zero_of_no_sems (by decide) r.2⟩)
    (DownWRefIdeal.Value.run m ρ)

end Cert.DownWProof

/-! The gradient of the output product at its input: the kernel and the derivative of the forward line give the same result. -/

namespace Cert.OutXProof

open Cert.OutXIdeal OutXIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x1024 .f32 := m ((c : Thread nD τ).loc main_arg0)
abbrev Bm (c : Dev nD) : FVec Ideal S1024x1024 .f32 := m ((c : Thread nD τ).loc main_arg1)

/-- The product. -/
def H (A : FVec Ideal S2048x1024 .f32) (B : FVec Ideal S1024x1024 .f32) : FVec Ideal S2048x1024 .f32 := fun i =>
  ∑ j : Fin 1024, mul (A (ix2 (i 0) j)) (B (ix2 (i 1) j))

/-- The block each window holds at a grid point. -/
theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 2 := t.isLt

/-- The row and the column of the result that those of a grid point's block are. -/
abbrev row (t : Fin cfg0.N) (r : Fin 1024) : Fin 2048 := ⟨1024 * t.val + r.val, by have := point_lt t; omega⟩
abbrev col (t : Fin cfg0.N) (k : Fin 1024) : Fin 1024 := ⟨1024 * 0 + k.val, by have := point_lt t; omega⟩

theorem blk0 (c : Dev nD) (t : Fin cfg0.N) (r : Fin 1024) (j : Fin 1024) :
    iblk m c 0 t (ix2 r j) = Am m c (ix2 (row t r) j) := by
  blk_point [iblk, V, idx t]
  all_goals exact (show _ = _ by omega)

/-- The weight, as the operation before the call leaves it. -/
theorem weight_at (c : Dev nD) (k : Fin 1024) (j : Fin 1024) : V m c main_v0 (ix2 k j) = Bm m c (ix2 k j) := by
  have e : V m c main_v0 = truncf (F := Ideal) .bf16 (Bm m c) bitsLt_bf16_f32 := by rfl
  rw [e]
  rfl

theorem blk1 (c : Dev nD) (t : Fin cfg0.N) (k : Fin 1024) (j : Fin 1024) : iblk m c 1 t (ix2 k j) = Bm m c (ix2 (col t k) j) := by
  refine Eq.trans ?_ (weight_at m c (col t k) j)
  blk_point [iblk, idx t]
  all_goals exact (show _ = _ by omega)

theorem pay_at (a : FVec Ideal S1024x1024 .f32) (b : FVec Ideal S1024x1024 .bf16) (r : Fin 1024) (k : Fin 1024) :
    k0_pay1 (F := Ideal) a b (ix2 r k) = ∑ j : Fin 1024, mul (a (ix2 r j)) (b (ix2 k j)) := by
  unfold k0_pay1
  pointwise

theorem point (c : Dev nD) (t : Fin cfg0.N) (r : Fin 1024) (k : Fin 1024) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 1024 * t.val + y0.val = _ by omega)
      | exact (show 1024 * 0 + y1.val = _ by omega)

/-- The reference's result. -/
theorem ref (A : FVec Ideal S2048x1024 .f32) (B : FVec Ideal S1024x1024 .f32) :
    OutXRefIdeal.Read.val_main_v0 (F := Ideal) A B = H A B := by
  funext i
  idx_vars i
  rw [← OutXRefIdeal.Read.val_main_v0_eq (F := Ideal) A B]
  pointwise
  rfl

theorem value : algebraic_OutXIdeal_OutXRefIdeal := by
  intro m g m' g' _ hm
  refine ⟨fun c => H (Am m c) (Bm m c),
    (θ_run OutXIdeal.defs _ _).mono (fun r h c => ⟨(h c).1.trans (final m c), (h c).2⟩) (OutXIdeal.Value.run_blocks m g),
    (θ_run OutXRefIdeal.defs _ _).mono (fun r h c => ⟨(h c).1.trans ?_, (h c).2⟩) (OutXRefIdeal.Value.run m' g')⟩
  refine (OutXRefIdeal.Read.val_main_v0_eq (F := Ideal) _ _).trans ?_
  rw [(hm c).1, (hm c).2]
  exact ref _ _

/-- The reference ends with its arguments unchanged; it has no semaphore. -/
theorem ref_frame : quiescent_OutXRefIdeal := fun m ρ _ =>
  (θ_run OutXRefIdeal.defs _ _).mono (fun r h => ⟨fun c => (h c).2, sem_eq_zero_of_no_sems (by decide) r.2⟩)
    (OutXRefIdeal.Value.run m ρ)

end Cert.OutXProof

/-! The gradient of the output product at its weight: the kernel and the derivative of the forward line give the same result. -/

namespace Cert.OutWProof

open Cert.OutWIdeal OutWIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x1024 .f32 := m ((c : Thread nD τ).loc main_arg0)
abbrev Bm (c : Dev nD) : FVec Ideal S2048x1024 .f32 := m ((c : Thread nD τ).loc main_arg1)

/-- The product. -/
def H (A : FVec Ideal S2048x1024 .f32) (B : FVec Ideal S2048x1024 .f32) : FVec Ideal S1024x1024 .f32 := fun i =>
  ∑ j : Fin 2048, mul (A (ix2 j (i 0))) (B (ix2 j (i 1)))

/-- The block each window holds at a grid point. -/
theorem idx : ∀ t : Fin cfg0.N, win0_0.index t = ![0, t.val] ∧ win0_1.index t = ![0, 0] ∧ win0_2.index t = ![t.val, 0] :=
  (by decide +kernel : ∀ t : Fin grid0.N, _)

theorem point_lt (t : Fin cfg0.N) : t.val < 2 := t.isLt

/-- The row and the column of the result that those of a grid point's block are. -/
abbrev row (t : Fin cfg0.N) (r : Fin 512) : Fin 1024 := ⟨512 * t.val + r.val, by have := point_lt t; omega⟩
abbrev col (t : Fin cfg0.N) (k : Fin 1024) : Fin 1024 := ⟨1024 * 0 + k.val, by have := point_lt t; omega⟩

theorem blk0 (c : Dev nD) (t : Fin cfg0.N) (r : Fin 512) (j : Fin 2048) :
    iblk m c 0 t (ix2 j r) = Am m c (ix2 j (row t r)) := by
  blk_point [iblk, V, idx t]
  all_goals exact (show _ = _ by omega)

theorem blk1 (c : Dev nD) (t : Fin cfg0.N) (k : Fin 1024) (j : Fin 2048) : iblk m c 1 t (ix2 j k) = Bm m c (ix2 j (col t k)) := by
  blk_point [iblk, V, idx t]
  all_goals exact (show _ = _ by omega)

theorem pay_at (a : FVec Ideal S2048x512 .f32) (b : FVec Ideal S2048x1024 .f32) (r : Fin 512) (k : Fin 1024) :
    k0_pay1 (F := Ideal) a b (ix2 r k) = ∑ j : Fin 2048, mul (a (ix2 j r)) (b (ix2 j k)) := by
  unfold k0_pay1
  pointwise

theorem point (c : Dev nD) (t : Fin cfg0.N) (r : Fin 512) (k : Fin 1024) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 512 * t.val + y0.val = _ by omega)
      | exact (show 1024 * 0 + y1.val = _ by omega)

/-- The reference's result. -/
theorem ref (A : FVec Ideal S2048x1024 .f32) (B : FVec Ideal S2048x1024 .f32) :
    OutWRefIdeal.Read.val_main_v1 (F := Ideal) A B = H A B := by
  funext i
  idx_vars i
  rw [← OutWRefIdeal.Read.val_main_v1_eq (F := Ideal) A B]
  pointwise
  exact Finset.sum_congr rfl fun _ _ => mul_comm (G := EReal) _ _

theorem value : algebraic_OutWIdeal_OutWRefIdeal := by
  intro m g m' g' _ hm
  refine ⟨fun c => H (Am m c) (Bm m c),
    (θ_run OutWIdeal.defs _ _).mono (fun r h c => ⟨(h c).1.trans (final m c), (h c).2⟩) (OutWIdeal.Value.run_blocks m g),
    (θ_run OutWRefIdeal.defs _ _).mono (fun r h c => ⟨(h c).1.trans ?_, (h c).2⟩) (OutWRefIdeal.Value.run m' g')⟩
  refine (OutWRefIdeal.Read.val_main_v1_eq (F := Ideal) _ _).trans ?_
  rw [(hm c).1, (hm c).2]
  exact ref _ _

/-- The reference ends with its arguments unchanged; it has no semaphore. -/
theorem ref_frame : quiescent_OutWRefIdeal := fun m ρ _ =>
  (θ_run OutWRefIdeal.defs _ _).mono (fun r h => ⟨fun c => (h c).2, sem_eq_zero_of_no_sems (by decide) r.2⟩)
    (OutWRefIdeal.Value.run m ρ)

end Cert.OutWProof

/-! The input product: the kernel and the forward line give the same result. -/

namespace Cert.ProjProof

open Cert.ProjIdeal ProjIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x1024 .bf16 := m ((c : Thread nD τ).loc main_arg0)
abbrev Bm (c : Dev nD) : FVec Ideal S1024x3840 .f32 := m ((c : Thread nD τ).loc main_arg1)

/-- The product. -/
def H (A : FVec Ideal S2048x1024 .bf16) (B : FVec Ideal S1024x3840 .f32) : FVec Ideal S2048x3840 .f32 := fun i =>
  ∑ j : Fin 1024, mul (A (ix2 (i 0) j)) (B (ix2 j (i 1)))

/-- The block each window holds at a grid point. -/
theorem idx : ∀ t : Fin cfg0.N, win0_0.index t = ![t.val % 2, 0] ∧ win0_1.index t = ![0, t.val / 2] ∧ win0_2.index t = ![t.val % 2, t.val / 2] :=
  (by decide +kernel : ∀ t : Fin grid0.N, _)

theorem point_lt (t : Fin cfg0.N) : t.val < 6 := t.isLt

/-- The row and the column of the result that those of a grid point's block are. -/
abbrev row (t : Fin cfg0.N) (r : Fin 1024) : Fin 2048 := ⟨1024 * (t.val % 2) + r.val, by have := point_lt t; omega⟩
abbrev col (t : Fin cfg0.N) (k : Fin 1280) : Fin 3840 := ⟨1280 * (t.val / 2) + k.val, by have := point_lt t; omega⟩

theorem blk0 (c : Dev nD) (t : Fin cfg0.N) (r : Fin 1024) (j : Fin 1024) :
    iblk m c 0 t (ix2 r j) = Am m c (ix2 (row t r) j) := by
  blk_point [iblk, V, idx t]
  all_goals exact (show _ = _ by omega)

/-- The weight, as the operation before the call leaves it. -/
theorem weight_at (c : Dev nD) (k : Fin 3840) (j : Fin 1024) : V m c main_v0 (ix2 j k) = Bm m c (ix2 j k) := by
  have e : V m c main_v0 = truncf (F := Ideal) .bf16 (Bm m c) bitsLt_bf16_f32 := by rfl
  rw [e]
  rfl

theorem blk1 (c : Dev nD) (t : Fin cfg0.N) (k : Fin 1280) (j : Fin 1024) : iblk m c 1 t (ix2 j k) = Bm m c (ix2 j (col t k)) := by
  refine Eq.trans ?_ (weight_at m c (col t k) j)
  blk_point [iblk, idx t]
  all_goals exact (show _ = _ by omega)

theorem pay_at (a : FVec Ideal S1024x1024 .bf16) (b : FVec Ideal S1024x1280 .bf16) (r : Fin 1024) (k : Fin 1280) :
    k0_pay1 (F := Ideal) a b (ix2 r k) = ∑ j : Fin 1024, mul (a (ix2 r j)) (b (ix2 j k)) := by
  unfold k0_pay1
  pointwise

theorem point (c : Dev nD) (t : Fin cfg0.N) (r : Fin 1024) (k : Fin 1280) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 1024 * (t.val % 2) + y0.val = _ by omega)
      | exact (show 1280 * (t.val / 2) + y1.val = _ by omega)

/-- The reference's result. -/
theorem ref (A : FVec Ideal S2048x1024 .bf16) (B : FVec Ideal S1024x3840 .f32) :
    ProjRefIdeal.Read.val_main_v1 (F := Ideal) A B = H A B := by
  funext i
  idx_vars i
  rw [← ProjRefIdeal.Read.val_main_v1_eq (F := Ideal) A B]
  pointwise
  rfl

theorem value : algebraic_ProjIdeal_ProjRefIdeal := by
  intro m g m' g' _ hm
  refine ⟨fun c => H (Am m c) (Bm m c),
    (θ_run ProjIdeal.defs _ _).mono (fun r h c => ⟨(h c).1.trans (final m c), (h c).2⟩) (ProjIdeal.Value.run_blocks m g),
    (θ_run ProjRefIdeal.defs _ _).mono (fun r h c => ⟨(h c).1.trans ?_, (h c).2⟩) (ProjRefIdeal.Value.run m' g')⟩
  refine (ProjRefIdeal.Read.val_main_v1_eq (F := Ideal) _ _).trans ?_
  rw [(hm c).1, (hm c).2]
  exact ref _ _

/-- The reference ends with its arguments unchanged; it has no semaphore. -/
theorem ref_frame : quiescent_ProjRefIdeal := fun m ρ _ =>
  (θ_run ProjRefIdeal.defs _ _).mono (fun r h => ⟨fun c => (h c).2, sem_eq_zero_of_no_sems (by decide) r.2⟩)
    (ProjRefIdeal.Value.run m ρ)

end Cert.ProjProof

/-! The gradient of the input product at its weight: the kernel and the derivative of the forward line give the same result. -/

namespace Cert.ProjWProof

open Cert.ProjWIdeal ProjWIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x1024 .bf16 := m ((c : Thread nD τ).loc main_arg0)
abbrev Bm (c : Dev nD) : FVec Ideal S2048x3840 .bf16 := m ((c : Thread nD τ).loc main_arg1)

/-- The product. -/
def H (A : FVec Ideal S2048x1024 .bf16) (B : FVec Ideal S2048x3840 .bf16) : FVec Ideal S1024x3840 .f32 := fun i =>
  ∑ j : Fin 2048, mul (A (ix2 j (i 0))) (B (ix2 j (i 1)))

/-- The block each window holds at a grid point. -/
theorem idx : ∀ t : Fin cfg0.N, win0_0.index t = ![0, 0] ∧ win0_1.index t = ![0, t.val] ∧ win0_2.index t = ![0, t.val] :=
  (by decide +kernel : ∀ t : Fin grid0.N, _)

theorem point_lt (t : Fin cfg0.N) : t.val < 6 := t.isLt

/-- The row and the column of the result that those of a grid point's block are. -/
abbrev row (t : Fin cfg0.N) (r : Fin 1024) : Fin 1024 := ⟨1024 * 0 + r.val, by have := point_lt t; omega⟩
abbrev col (t : Fin cfg0.N) (k : Fin 640) : Fin 3840 := ⟨640 * t.val + k.val, by have := point_lt t; omega⟩

theorem blk0 (c : Dev nD) (t : Fin cfg0.N) (r : Fin 1024) (j : Fin 2048) :
    iblk m c 0 t (ix2 j r) = Am m c (ix2 j (row t r)) := by
  blk_point [iblk, V, idx t]
  all_goals exact (show _ = _ by omega)

theorem blk1 (c : Dev nD) (t : Fin cfg0.N) (k : Fin 640) (j : Fin 2048) : iblk m c 1 t (ix2 j k) = Bm m c (ix2 j (col t k)) := by
  blk_point [iblk, V, idx t]
  all_goals exact (show _ = _ by omega)

theorem pay_at (a : FVec Ideal S2048x1024 .bf16) (b : FVec Ideal S2048x640 .bf16) (r : Fin 1024) (k : Fin 640) :
    k0_pay1 (F := Ideal) a b (ix2 r k) = ∑ j : Fin 2048, mul (a (ix2 j r)) (b (ix2 j k)) := by
  unfold k0_pay1
  pointwise

theorem point (c : Dev nD) (t : Fin cfg0.N) (r : Fin 1024) (k : Fin 640) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 1024 * 0 + y0.val = _ by omega)
      | exact (show 640 * t.val + y1.val = _ by omega)

/-- The reference's result. -/
theorem ref (A : FVec Ideal S2048x1024 .bf16) (B : FVec Ideal S2048x3840 .bf16) :
    ProjWRefIdeal.Read.val_main_v3 (F := Ideal) A B = H A B := by
  funext i
  idx_vars i
  rw [← ProjWRefIdeal.Read.val_main_v3_eq (F := Ideal) A B]
  pointwise
  exact Finset.sum_congr rfl fun _ _ => mul_comm (G := EReal) _ _

theorem value : algebraic_ProjWIdeal_ProjWRefIdeal := by
  intro m g m' g' _ hm
  refine ⟨fun c => H (Am m c) (Bm m c),
    (θ_run ProjWIdeal.defs _ _).mono (fun r h c => ⟨(h c).1.trans (final m c), (h c).2⟩) (ProjWIdeal.Value.run_blocks m g),
    (θ_run ProjWRefIdeal.defs _ _).mono (fun r h c => ⟨(h c).1.trans ?_, (h c).2⟩) (ProjWRefIdeal.Value.run m' g')⟩
  refine (ProjWRefIdeal.Read.val_main_v3_eq (F := Ideal) _ _).trans ?_
  rw [(hm c).1, (hm c).2]
  exact ref _ _

/-- The reference ends with its arguments unchanged; it has no semaphore. -/
theorem ref_frame : quiescent_ProjWRefIdeal := fun m ρ _ =>
  (θ_run ProjWRefIdeal.defs _ _).mono (fun r h => ⟨fun c => (h c).2, sem_eq_zero_of_no_sems (by decide) r.2⟩)
    (ProjWRefIdeal.Value.run m ρ)

end Cert.ProjWProof

/-! The up product: the kernel and the forward line give the same result. -/

namespace Cert.UpProof

open Cert.UpIdeal UpIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Am (c : Dev nD) : FVec Ideal S2048x1024 .bf16 := m ((c : Thread nD τ).loc main_arg0)
abbrev Bm (c : Dev nD) : FVec Ideal S1024x5632 .f32 := m ((c : Thread nD τ).loc main_arg1)

/-- The product. -/
def H (A : FVec Ideal S2048x1024 .bf16) (B : FVec Ideal S1024x5632 .f32) : FVec Ideal S2048x5632 .bf16 := fun i =>
  ∑ j : Fin 1024, mul (A (ix2 (i 0) j)) (B (ix2 j (i 1)))

/-- The block each window holds at a grid point. -/
theorem idx : ∀ t : Fin cfg0.N, win0_0.index t = ![t.val % 2, 0] ∧ win0_1.index t = ![t.val / 2, 0, 0] ∧ win0_2.index t = ![t.val % 2, t.val / 2] :=
  (by decide +kernel : ∀ t : Fin grid0.N, _)

theorem point_lt (t : Fin cfg0.N) : t.val < 8 := t.isLt

/-- The row and the column of the result that those of a grid point's block are. -/
abbrev row (t : Fin cfg0.N) (r : Fin 1024) : Fin 2048 := ⟨1024 * (t.val % 2) + r.val, by have := point_lt t; omega⟩
abbrev col (t : Fin cfg0.N) (k : Fin 1408) : Fin 5632 := ⟨1408 * (t.val / 2) + k.val, by have := point_lt t; omega⟩

theorem blk0 (c : Dev nD) (t : Fin cfg0.N) (r : Fin 1024) (j : Fin 1024) :
    iblk m c 0 t (ix2 r j) = Am m c (ix2 (row t r) j) := by
  blk_point [iblk, V, idx t]
  all_goals exact (show _ = _ by omega)

/-- The weight in four blocks of columns, as the operations before the call leave it. -/
theorem weight_at (c : Dev nD) (b : Fin 4) (j : Fin 1024) (k : Fin 1408) :
    V m c main_v2 (ix3 b j k) = Bm m c (ix2 j ⟨1408 * b.val + k.val, by omega⟩) := by
  have e : V m c main_v2 = transpose S4x1024x1408 [1, 0, 2] (shapeCast S1024x4x1408 (truncf (F := Ideal) .bf16 (Bm m c) bitsLt_bf16_f32)
      shapeCasts_S1024x5632_S1024x4x1408) transposes_S1024x4x1408_S4x1024x1408_1_0_2 := by rfl
  rw [e]
  pointwise
  blk_ext [e]
  all_goals exact (show b.val * 1408 + k.val = _ by omega)

theorem blk1 (c : Dev nD) (t : Fin cfg0.N) (k : Fin 1408) (j : Fin 1024) :
    iblk m c 1 t (ix3 0 j k) = Bm m c (ix2 j (col t k)) := by
  refine Eq.trans ?_ (weight_at m c ⟨t.val / 2, by have := point_lt t; omega⟩ j k)
  blk_point [iblk, idx t]
  all_goals exact (show _ = _ by omega)

theorem pay_at (a : FVec Ideal S1024x1024 .bf16) (b : FVec Ideal S1x1024x1408 .bf16) (r : Fin 1024) (k : Fin 1408) :
    k0_pay1 (F := Ideal) a b (ix2 r k) = ∑ j : Fin 1024, mul (a (ix2 r j)) (b (ix3 0 j k)) := by
  unfold k0_pay1
  pointwise

theorem point (c : Dev nD) (t : Fin cfg0.N) (r : Fin 1024) (k : Fin 1408) :
    k0_pay1 (F := Ideal) (iblk m c 0 t) (iblk m c 1 t) (ix2 r k) = H (Am m c) (Bm m c) (ix2 (row t r) (col t k)) := by
  refine (pay_at _ _ r k).trans ?_
  simp only [blk0, blk1]
  rfl

theorem final (c : Dev nD) : (dats m 0 c).arrAt 2 cfg0.N = H (Am m c) (Bm m c) := by
  refine (dats m 0 c).arrAt_eq_of_covers 2 _ (by decide +kernel) fun t hf y => ?_
  blk_simp
  rw [after0_2]
  show out0_2 (iblk m c 0 t) (iblk m c 1 t) y = H (Am m c) (Bm m c) (((cfg0.win 2).blk t).view.emb y)
  idx_vars y
  refine Eq.trans ?_ ((point m c t y0 y1).trans ?_)
  · frame_out
  · show H (Am m c) (Bm m c) (ix2 (row t y0) (col t y1)) = _
    congr 1
    blk_ext [idx t]
    all_goals first
      | exact (show 1024 * (t.val % 2) + y0.val = _ by omega)
      | exact (show 1408 * (t.val / 2) + y1.val = _ by omega)

/-- The reference's result. -/
theorem ref (A : FVec Ideal S2048x1024 .bf16) (B : FVec Ideal S1024x5632 .f32) :
    UpRefIdeal.Read.val_main_v2 (F := Ideal) A B = H A B := by
  funext i
  idx_vars i
  rw [← UpRefIdeal.Read.val_main_v2_eq (F := Ideal) A B]
  pointwise
  rfl

theorem value : algebraic_UpIdeal_UpRefIdeal := by
  intro m g m' g' _ hm
  refine ⟨fun c => H (Am m c) (Bm m c),
    (θ_run UpIdeal.defs _ _).mono (fun r h c => ⟨(h c).1.trans (final m c), (h c).2⟩) (UpIdeal.Value.run_blocks m g),
    (θ_run UpRefIdeal.defs _ _).mono (fun r h c => ⟨(h c).1.trans ?_, (h c).2⟩) (UpRefIdeal.Value.run m' g')⟩
  refine (UpRefIdeal.Read.val_main_v2_eq (F := Ideal) _ _).trans ?_
  rw [(hm c).1, (hm c).2]
  exact ref _ _

/-- The reference ends with its arguments unchanged; it has no semaphore. -/
theorem ref_frame : quiescent_UpRefIdeal := fun m ρ _ =>
  (θ_run UpRefIdeal.defs _ _).mono (fun r h => ⟨fun c => (h c).2, sem_eq_zero_of_no_sems (by decide) r.2⟩)
    (UpRefIdeal.Value.run m ρ)

end Cert.UpProof

end
-- ==== Proof.lean ====
/- The proof of the claims. -/
module

public import proofs.«01_k».proof.Proof.Gen.Norm2.Frame
public import proofs.«01_k».proof.Proof.Gen.Norm1.Frame
public import proofs.«01_k».proof.Proof.Gen.Loss.Frame
public import proofs.«01_k».proof.Proof.Gen.AttnIdeal.Loops
public import proofs.«01_k».proof.Proof.Gen.Conv.Frame
public import proofs.«01_k».proof.Proof.ConvKernel
public import proofs.«01_k».proof.Proof.ConvRef
public import proofs.«01_k».proof.Proof.Norm2
public import proofs.«01_k».proof.Proof.Norm1
public import proofs.«01_k».proof.Proof.Loss
public import proofs.«01_k».proof.Proof.Act
public import proofs.«01_k».proof.Proof.Attn
public import proofs.«01_k».proof.Proof.First
public import proofs.«01_k».proof.Proof.Out
public import proofs.«01_k».proof.Proof.Gate
public import proofs.«01_k».proof.Proof.Products

@[expose] public section

noncomputable section

namespace Cert.Proof

open Idealize.ShloMosaic Idealize.SL.Sem Cert.Conv

/-- The convolution's gradient: the kernel and the derivative of the forward lines give the same two results. -/
theorem conv : algebraic_ConvIdeal_ConvRefIdeal := by
  intro m g m' g' _ hm
  refine ⟨fun c => ConvKernel.DX (ConvKernel.D0 m c) (ConvKernel.W0 m c),
    fun c => ConvKernel.DW (ConvKernel.D0 m c) (ConvKernel.X0 m c),
    (θ_run ConvIdeal.defs _ _).mono (fun r h c => ⟨(h c).1.trans (ConvKernel.final_dx m c),
      (h c).2.1.trans (ConvKernel.final_dw m c), (h c).2.2⟩) (ConvIdeal.Value.run_blocks m g),
    (θ_run ConvRefIdeal.defs _ _).mono (fun r h c => ⟨(h c).1.trans ?_, (h c).2.1.trans ?_, (h c).2.2⟩) (ConvRefIdeal.Value.run m' g')⟩
  · rw [(hm c).1, (hm c).2.2]
    refine (ConvRefIdeal.Read.val_main_v78_eq (F := Ideal) _ _).trans ?_
    funext i
    idx_vars i
    exact ConvRef.dx_at _ _ _ _
  · rw [(hm c).1, (hm c).2.1]
    refine (ConvRefIdeal.Read.val_main_v72_eq (F := Ideal) _ _).trans ?_
    funext i
    idx_vars i
    exact ConvRef.dw_at _ _ _ _

/-- The reference ends with its arguments unchanged; it has no semaphore. -/
theorem conv_ref_frame : quiescent_ConvRefIdeal := fun m ρ _ =>
  (θ_run ConvRefIdeal.defs _ _).mono (fun r h => ⟨fun c => (h c).2.2, Idealize.ShloMosaic.sem_eq_zero_of_no_sems (by decide) r.2⟩)
    (ConvRefIdeal.Value.run m ρ)

theorem claim : Cert.Claim := ⟨Conv.Gen.facts, ConvIdeal.Gen.facts, ConvRefIdeal.Gen.facts,
  Norm2.Gen.facts, Norm2Ideal.Gen.facts, Norm2RefIdeal.Gen.facts,
  Norm1.Gen.facts, Norm1Ideal.Gen.facts, Norm1RefIdeal.Gen.facts,
  Loss.Gen.facts, LossIdeal.Gen.facts, LossRefIdeal.Gen.facts,
  Act.Gen.facts, ActIdeal.Gen.facts, ActRefIdeal.Gen.facts,
  Attn.Gen.facts, AttnIdeal.Gen.facts, AttnRefIdeal.Gen.facts,
  First.Gen.facts, FirstIdeal.Gen.facts, FirstRefIdeal.Gen.facts,
  Out.Gen.facts, OutIdeal.Gen.facts, OutRefIdeal.Gen.facts,
  Gate.Gen.facts, GateIdeal.Gen.facts, GateRefIdeal.Gen.facts,
  DownX.Gen.facts, DownXIdeal.Gen.facts, DownXRefIdeal.Gen.facts,
  DownW.Gen.facts, DownWIdeal.Gen.facts, DownWRefIdeal.Gen.facts,
  OutX.Gen.facts, OutXIdeal.Gen.facts, OutXRefIdeal.Gen.facts,
  OutW.Gen.facts, OutWIdeal.Gen.facts, OutWRefIdeal.Gen.facts,
  Proj.Gen.facts, ProjIdeal.Gen.facts, ProjRefIdeal.Gen.facts,
  ProjW.Gen.facts, ProjWIdeal.Gen.facts, ProjWRefIdeal.Gen.facts,
  Up.Gen.facts, UpIdeal.Gen.facts, UpRefIdeal.Gen.facts,
  Norm2Proof.pre_facts, Norm1Proof.pre_facts, LossProof.pre_facts, ActProof.pre_facts, AttnProof.pre_facts,
  fun m ρ _ => Conv.Gen.frame m ρ, fun m ρ _ => ConvIdeal.Gen.frame m ρ, conv_ref_frame,
  fun m ρ _ => Norm2.Gen.frame m ρ, fun m ρ _ => Norm2Ideal.Gen.frame m ρ, fun m ρ _ => Norm2Ideal.Gen.frame m ρ,
  Norm2Proof.ref_frame, fun m ρ _ => Norm2Proof.ref_frame m ρ trivial,
  fun m ρ _ => Norm1.Gen.frame m ρ, fun m ρ _ => Norm1Ideal.Gen.frame m ρ, fun m ρ _ => Norm1Ideal.Gen.frame m ρ,
  Norm1Proof.ref_frame, fun m ρ _ => Norm1Proof.ref_frame m ρ trivial,
  fun m ρ _ => Loss.Gen.frame m ρ, fun m ρ _ => LossIdeal.Gen.frame m ρ, fun m ρ _ => LossIdeal.Gen.frame m ρ,
  LossProof.ref_frame, fun m ρ _ => LossProof.ref_frame m ρ trivial,
  ActProof.frame_kernel, ActProof.frame_ideal, fun m ρ _ => ActProof.frame_ideal m ρ trivial,
  ActProof.ref_frame, fun m ρ _ => ActProof.ref_frame m ρ trivial,
  AttnProof.frame_kernel, AttnProof.frame_ideal, fun m ρ _ => AttnProof.frame_ideal m ρ trivial,
  AttnProof.ref_frame, fun m ρ _ => AttnProof.ref_frame m ρ trivial,
  fun m ρ _ => First.Gen.frame m ρ, fun m ρ _ => FirstIdeal.Gen.frame m ρ, FirstProof.ref_frame,
  fun m ρ _ => Out.Gen.frame m ρ, fun m ρ _ => OutIdeal.Gen.frame m ρ, OutProof.ref_frame,
  fun m ρ _ => Gate.Gen.frame m ρ, fun m ρ _ => GateIdeal.Gen.frame m ρ, GateProof.ref_frame,
  fun m ρ _ => DownX.Gen.frame m ρ, fun m ρ _ => DownXIdeal.Gen.frame m ρ, DownXProof.ref_frame,
  fun m ρ _ => DownW.Gen.frame m ρ, fun m ρ _ => DownWIdeal.Gen.frame m ρ, DownWProof.ref_frame,
  fun m ρ _ => OutX.Gen.frame m ρ, fun m ρ _ => OutXIdeal.Gen.frame m ρ, OutXProof.ref_frame,
  fun m ρ _ => OutW.Gen.frame m ρ, fun m ρ _ => OutWIdeal.Gen.frame m ρ, OutWProof.ref_frame,
  fun m ρ _ => Proj.Gen.frame m ρ, fun m ρ _ => ProjIdeal.Gen.frame m ρ, ProjProof.ref_frame,
  fun m ρ _ => ProjW.Gen.frame m ρ, fun m ρ _ => ProjWIdeal.Gen.frame m ρ, ProjWProof.ref_frame,
  fun m ρ _ => Up.Gen.frame m ρ, fun m ρ _ => UpIdeal.Gen.frame m ρ, UpProof.ref_frame,
  trivial, conv, trivial, Norm2Proof.value, trivial, Norm1Proof.value, trivial, LossProof.value, trivial, ActProof.value,
  trivial, AttnProof.value, trivial, FirstProof.value, trivial, OutProof.value, trivial, GateProof.value,
  trivial, DownXProof.value, trivial, DownWProof.value, trivial, OutXProof.value, trivial, OutWProof.value,
  trivial, ProjProof.value, trivial, ProjWProof.value, trivial, UpProof.value⟩

end Cert.Proof

end
